-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_xattn [hPre_finite_xattn : Cert.Pre_finite_xattn.Facts] (m : (ℓ : Loc Cert.XattnIdeal.nD Cert.XattnIdeal.τ Cert.XattnIdeal.sig) → Buf (Elt Ideal) ℓ) : Prop :=
  ∀ c : Dev Cert.XattnIdeal.nD,
    (Cert.Pre_finite_xattn.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite_xattn [hPre_finite_xattn : Cert.Pre_finite_xattn.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite_xattn.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnOutDa (m : (ℓ : Loc Cert.FfnOutDa.nD Cert.FfnOutDa.τ Cert.FfnOutDa.sig) → Buf (Elt Bits) ℓ) : Prop :=
  True

def Pre_FfnOutDaIdeal (m : (ℓ : Loc Cert.FfnOutDaIdeal.nD Cert.FfnOutDaIdeal.τ Cert.FfnOutDaIdeal.sig) → Buf (Elt Ideal) ℓ) : Prop :=
  True

def Pre_FfnOutDaRefIdeal (m : (ℓ : Loc Cert.FfnOutDaRefIdeal.nD Cert.FfnOutDaRefIdeal.τ Cert.FfnOutDaRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnInDhGate (m : (ℓ : Loc Cert.FfnInDhGate.nD Cert.FfnInDhGate.τ Cert.FfnInDhGate.sig) → Buf (Elt Bits) ℓ) : Prop :=
  True

def Pre_FfnInDhGateIdeal (m : (ℓ : Loc Cert.FfnInDhGateIdeal.nD Cert.FfnInDhGateIdeal.τ Cert.FfnInDhGateIdeal.sig) → Buf (Elt Ideal) ℓ) : Prop :=
  True

def Pre_FfnInDhGateRefIdeal (m : (ℓ : Loc Cert.FfnInDhGateRefIdeal.nD Cert.FfnInDhGateRefIdeal.τ Cert.FfnInDhGateRefIdeal.sig) → Buf (Elt Ideal) ℓ) : Prop :=
  True

def Pre_FfnInDhUp (m : (ℓ : Loc Cert.FfnInDhUp.nD Cert.FfnInDhUp.τ Cert.FfnInDhUp.sig) → Buf (Elt Bits) ℓ) : Prop :=
  True

def Pre_FfnInDhUpIdeal (m : (ℓ : Loc Cert.FfnInDhUpIdeal.nD Cert.FfnInDhUpIdeal.τ Cert.FfnInDhUpIdeal.sig) → Buf (Elt Ideal) ℓ) : Prop :=
  True

def Pre_FfnInDhUpRefIdeal (m : (ℓ : Loc Cert.FfnInDhUpRefIdeal.nD Cert.FfnInDhUpRefIdeal.τ Cert.FfnInDhUpRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_HybIn (m : (ℓ : Loc Cert.HybIn.nD Cert.HybIn.τ Cert.HybIn.sig) → Buf (Elt Bits) ℓ) : Prop :=
  True

def Pre_HybInIdeal (m : (ℓ : Loc Cert.HybInIdeal.nD Cert.HybInIdeal.τ Cert.HybInIdeal.sig) → Buf (Elt Ideal) ℓ) : Prop :=
  True

def Pre_HybInRefIdeal (m : (ℓ : Loc Cert.HybInRefIdeal.nD Cert.HybInRefIdeal.τ Cert.HybInRefIdeal.sig) → Buf (Elt Ideal) ℓ) : Prop :=
  True

def Pre_HybOut (m : (ℓ : Loc Cert.HybOut.nD Cert.HybOut.τ Cert.HybOut.sig) → Buf (Elt Bits) ℓ) : Prop :=
  True

def Pre_HybOutIdeal (m : (ℓ : Loc Cert.HybOutIdeal.nD Cert.HybOutIdeal.τ Cert.HybOutIdeal.sig) → Buf (Elt Ideal) ℓ) : Prop :=
  True

def Pre_HybOutRefIdeal (m : (ℓ : Loc Cert.HybOutRefIdeal.nD Cert.HybOutRefIdeal.τ Cert.HybOutRefIdeal.sig) → Buf (Elt Ideal) ℓ) : Prop :=
  True

def Pre_MixOutDm (m : (ℓ : Loc Cert.MixOutDm.nD Cert.MixOutDm.τ Cert.MixOutDm.sig) → Buf (Elt Bits) ℓ) : Prop :=
  True

def Pre_MixOutDmIdeal (m : (ℓ : Loc Cert.MixOutDmIdeal.nD Cert.MixOutDmIdeal.τ Cert.MixOutDmIdeal.sig) → Buf (Elt Ideal) ℓ) : Prop :=
  True

def Pre_MixOutDmRefIdeal (m : (ℓ : Loc Cert.MixOutDmRefIdeal.nD Cert.MixOutDmRefIdeal.τ Cert.MixOutDmRefIdeal.sig) → Buf (Elt Ideal) ℓ) : Prop :=
  True

def Pre_HybOutDw (m : (ℓ : Loc Cert.HybOutDw.nD Cert.HybOutDw.τ Cert.HybOutDw.sig) → Buf (Elt Bits) ℓ) : Prop :=
  True

def Pre_HybOutDwIdeal (m : (ℓ : Loc Cert.HybOutDwIdeal.nD Cert.HybOutDwIdeal.τ Cert.HybOutDwIdeal.sig) → Buf (Elt Ideal) ℓ) : Prop :=
  True

def Pre_HybOutDwRefIdeal (m : (ℓ : Loc Cert.HybOutDwRefIdeal.nD Cert.HybOutDwRefIdeal.τ Cert.HybOutDwRefIdeal.sig) → Buf (Elt Ideal) ℓ) : Prop :=
  True

def Pre_HybInDh (m : (ℓ : Loc Cert.HybInDh.nD Cert.HybInDh.τ Cert.HybInDh.sig) → Buf (Elt Bits) ℓ) : Prop :=
  True

def Pre_HybInDhIdeal (m : (ℓ : Loc Cert.HybInDhIdeal.nD Cert.HybInDhIdeal.τ Cert.HybInDhIdeal.sig) → Buf (Elt Ideal) ℓ) : Prop :=
  True

def Pre_HybInDhRefIdeal (m : (ℓ : Loc Cert.HybInDhRefIdeal.nD Cert.HybInDhRefIdeal.τ Cert.HybInDhRefIdeal.sig) → Buf (Elt Ideal) ℓ) : Prop :=
  True

def Pre_HybInDw (m : (ℓ : Loc Cert.HybInDw.nD Cert.HybInDw.τ Cert.HybInDw.sig) → Buf (Elt Bits) ℓ) : Prop :=
  True

def Pre_HybInDwIdeal (m : (ℓ : Loc Cert.HybInDwIdeal.nD Cert.HybInDwIdeal.τ Cert.HybInDwIdeal.sig) → Buf (Elt Ideal) ℓ) : Prop :=
  True

def Pre_HybInDwRefIdeal (m : (ℓ : Loc Cert.HybInDwRefIdeal.nD Cert.HybInDwRefIdeal.τ Cert.HybInDwRefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def Pre_SwaOut (m : (ℓ : Loc Cert.SwaOut.nD Cert.SwaOut.τ Cert.SwaOut.sig) → Buf (Elt Bits) ℓ) : Prop :=
  True

def Pre_SwaOutIdeal (m : (ℓ : Loc Cert.SwaOutIdeal.nD Cert.SwaOutIdeal.τ Cert.SwaOutIdeal.sig) → Buf (Elt Ideal) ℓ) : Prop :=
  True

def Pre_SwaOutRefIdeal (m : (ℓ : Loc Cert.SwaOutRefIdeal.nD Cert.SwaOutRefIdeal.τ Cert.SwaOutRefIdeal.sig) → Buf (Elt Ideal) ℓ) : Prop :=
  True

def Pre_SwaOutDw (m : (ℓ : Loc Cert.SwaOutDw.nD Cert.SwaOutDw.τ Cert.SwaOutDw.sig) → Buf (Elt Bits) ℓ) : Prop :=
  True

def Pre_SwaOutDwIdeal (m : (ℓ : Loc Cert.SwaOutDwIdeal.nD Cert.SwaOutDwIdeal.τ Cert.SwaOutDwIdeal.sig) → Buf (Elt Ideal) ℓ) : Prop :=
  True

def Pre_SwaOutDwRefIdeal (m : (ℓ : Loc Cert.SwaOutDwRefIdeal.nD Cert.SwaOutDwRefIdeal.τ Cert.SwaOutDwRefIdeal.sig) → Buf (Elt Ideal) ℓ) : Prop :=
  True

def Pre_SwaInDh (m : (ℓ : Loc Cert.SwaInDh.nD Cert.SwaInDh.τ Cert.SwaInDh.sig) → Buf (Elt Bits) ℓ) : Prop :=
  True

def Pre_SwaInDhIdeal (m : (ℓ : Loc Cert.SwaInDhIdeal.nD Cert.SwaInDhIdeal.τ Cert.SwaInDhIdeal.sig) → Buf (Elt Ideal) ℓ) : Prop :=
  True

def Pre_SwaInDhRefIdeal (m : (ℓ : Loc Cert.SwaInDhRefIdeal.nD Cert.SwaInDhRefIdeal.τ Cert.SwaInDhRefIdeal.sig) → Buf (Elt Ideal) ℓ) : Prop :=
  True

def Pre_SwaInDw (m : (ℓ : Loc Cert.SwaInDw.nD Cert.SwaInDw.τ Cert.SwaInDw.sig) → Buf (Elt Bits) ℓ) : Prop :=
  True

def Pre_SwaInDwIdeal (m : (ℓ : Loc Cert.SwaInDwIdeal.nD Cert.SwaInDwIdeal.τ Cert.SwaInDwIdeal.sig) → Buf (Elt Ideal) ℓ) : Prop :=
  True

def Pre_SwaInDwRefIdeal (m : (ℓ : Loc Cert.SwaInDwRefIdeal.nD Cert.SwaInDwRefIdeal.τ Cert.SwaInDwRefIdeal.sig) → Buf (Elt Ideal) ℓ) : Prop :=
  True

def Pre_XqIn (m : (ℓ : Loc Cert.XqIn.nD Cert.XqIn.τ Cert.XqIn.sig) → Buf (Elt Bits) ℓ) : Prop :=
  True

def Pre_XqInIdeal (m : (ℓ : Loc Cert.XqInIdeal.nD Cert.XqInIdeal.τ Cert.XqInIdeal.sig) → Buf (Elt Ideal) ℓ) : Prop :=
  True

def Pre_XqInRefIdeal (m : (ℓ : Loc Cert.XqInRefIdeal.nD Cert.XqInRefIdeal.τ Cert.XqInRefIdeal.sig) → Buf (Elt Ideal) ℓ) : Prop :=
  True

def Pre_XoOut (m : (ℓ : Loc Cert.XoOut.nD Cert.XoOut.τ Cert.XoOut.sig) → Buf (Elt Bits) ℓ) : Prop :=
  True

def Pre_XoOutIdeal (m : (ℓ : Loc Cert.XoOutIdeal.nD Cert.XoOutIdeal.τ Cert.XoOutIdeal.sig) → Buf (Elt Ideal) ℓ) : Prop :=
  True

def Pre_XoOutRefIdeal (m : (ℓ : Loc Cert.XoOutRefIdeal.nD Cert.XoOutRefIdeal.τ Cert.XoOutRefIdeal.sig) → Buf (Elt Ideal) ℓ) : Prop :=
  True

def Pre_XoDo (m : (ℓ : Loc Cert.XoDo.nD Cert.XoDo.τ Cert.XoDo.sig) → Buf (Elt Bits) ℓ) : Prop :=
  True

def Pre_XoDoIdeal (m : (ℓ : Loc Cert.XoDoIdeal.nD Cert.XoDoIdeal.τ Cert.XoDoIdeal.sig) → Buf (Elt Ideal) ℓ) : Prop :=
  True

def Pre_XoDoRefIdeal (m : (ℓ : Loc Cert.XoDoRefIdeal.nD Cert.XoDoRefIdeal.τ Cert.XoDoRefIdeal.sig) → Buf (Elt Ideal) ℓ) : Prop :=
  True

def Pre_XoDw (m : (ℓ : Loc Cert.XoDw.nD Cert.XoDw.τ Cert.XoDw.sig) → Buf (Elt Bits) ℓ) : Prop :=
  True

def Pre_XoDwIdeal (m : (ℓ : Loc Cert.XoDwIdeal.nD Cert.XoDwIdeal.τ Cert.XoDwIdeal.sig) → Buf (Elt Ideal) ℓ) : Prop :=
  True

def Pre_XoDwRefIdeal (m : (ℓ : Loc Cert.XoDwRefIdeal.nD Cert.XoDwRefIdeal.τ Cert.XoDwRefIdeal.sig) → Buf (Elt Ideal) ℓ) : Prop :=
  True

def Pre_XqDh (m : (ℓ : Loc Cert.XqDh.nD Cert.XqDh.τ Cert.XqDh.sig) → Buf (Elt Bits) ℓ) : Prop :=
  True

def Pre_XqDhIdeal (m : (ℓ : Loc Cert.XqDhIdeal.nD Cert.XqDhIdeal.τ Cert.XqDhIdeal.sig) → Buf (Elt Ideal) ℓ) : Prop :=
  True

def Pre_XqDhRefIdeal (m : (ℓ : Loc Cert.XqDhRefIdeal.nD Cert.XqDhRefIdeal.τ Cert.XqDhRefIdeal.sig) → Buf (Elt Ideal) ℓ) : Prop :=
  True

def Pre_XqDw (m : (ℓ : Loc Cert.XqDw.nD Cert.XqDw.τ Cert.XqDw.sig) → Buf (Elt Bits) ℓ) : Prop :=
  True

def Pre_XqDwIdeal (m : (ℓ : Loc Cert.XqDwIdeal.nD Cert.XqDwIdeal.τ Cert.XqDwIdeal.sig) → Buf (Elt Ideal) ℓ) : Prop :=
  True

def Pre_XqDwRefIdeal (m : (ℓ : Loc Cert.XqDwRefIdeal.nD Cert.XqDwRefIdeal.τ Cert.XqDwRefIdeal.sig) → Buf (Elt Ideal) ℓ) : Prop :=
  True

def Pre_XkvIn (m : (ℓ : Loc Cert.XkvIn.nD Cert.XkvIn.τ Cert.XkvIn.sig) → Buf (Elt Bits) ℓ) : Prop :=
  True

def Pre_XkvInIdeal (m : (ℓ : Loc Cert.XkvInIdeal.nD Cert.XkvInIdeal.τ Cert.XkvInIdeal.sig) → Buf (Elt Ideal) ℓ) : Prop :=
  True

def Pre_XkvInRefIdeal (m : (ℓ : Loc Cert.XkvInRefIdeal.nD Cert.XkvInRefIdeal.τ Cert.XkvInRefIdeal.sig) → Buf (Elt Ideal) ℓ) : Prop :=
  True

def Pre_XkvDh (m : (ℓ : Loc Cert.XkvDh.nD Cert.XkvDh.τ Cert.XkvDh.sig) → Buf (Elt Bits) ℓ) : Prop :=
  True

def Pre_XkvDhIdeal (m : (ℓ : Loc Cert.XkvDhIdeal.nD Cert.XkvDhIdeal.τ Cert.XkvDhIdeal.sig) → Buf (Elt Ideal) ℓ) : Prop :=
  True

def Pre_XkvDhRefIdeal (m : (ℓ : Loc Cert.XkvDhRefIdeal.nD Cert.XkvDhRefIdeal.τ Cert.XkvDhRefIdeal.sig) → Buf (Elt Ideal) ℓ) : Prop :=
  True

def Pre_XkvDw (m : (ℓ : Loc Cert.XkvDw.nD Cert.XkvDw.τ Cert.XkvDw.sig) → Buf (Elt Bits) ℓ) : Prop :=
  True

def Pre_XkvDwIdeal (m : (ℓ : Loc Cert.XkvDwIdeal.nD Cert.XkvDwIdeal.τ Cert.XkvDwIdeal.sig) → Buf (Elt Ideal) ℓ) : Prop :=
  True

def Pre_XkvDwRefIdeal (m : (ℓ : Loc Cert.XkvDwRefIdeal.nD Cert.XkvDwRefIdeal.τ Cert.XkvDwRefIdeal.sig) → Buf (Elt Ideal) ℓ) : Prop :=
  True

def Pre_AdamXq (m : (ℓ : Loc Cert.AdamXq.nD Cert.AdamXq.τ Cert.AdamXq.sig) → Buf (Elt Bits) ℓ) : Prop :=
  True

def Pre_AdamXqIdeal (m : (ℓ : Loc Cert.AdamXqIdeal.nD Cert.AdamXqIdeal.τ Cert.AdamXqIdeal.sig) → Buf (Elt Ideal) ℓ) : Prop :=
  True

def Pre_AdamXqRefIdeal (m : (ℓ : Loc Cert.AdamXqRefIdeal.nD Cert.AdamXqRefIdeal.τ Cert.AdamXqRefIdeal.sig) → Buf (Elt Ideal) ℓ) : Prop :=
  True

def Pre_AdamXkv (m : (ℓ : Loc Cert.AdamXkv.nD Cert.AdamXkv.τ Cert.AdamXkv.sig) → Buf (Elt Bits) ℓ) : Prop :=
  True

def Pre_AdamXkvIdeal (m : (ℓ : Loc Cert.AdamXkvIdeal.nD Cert.AdamXkvIdeal.τ Cert.AdamXkvIdeal.sig) → Buf (Elt Ideal) ℓ) : Prop :=
  True

def Pre_AdamXkvRefIdeal (m : (ℓ : Loc Cert.AdamXkvRefIdeal.nD Cert.AdamXkvRefIdeal.τ Cert.AdamXkvRefIdeal.sig) → Buf (Elt Ideal) ℓ) : Prop :=
  True

def Pre_AdamXo (m : (ℓ : Loc Cert.AdamXo.nD Cert.AdamXo.τ Cert.AdamXo.sig) → Buf (Elt Bits) ℓ) : Prop :=
  True

def Pre_AdamXoIdeal (m : (ℓ : Loc Cert.AdamXoIdeal.nD Cert.AdamXoIdeal.τ Cert.AdamXoIdeal.sig) → Buf (Elt Ideal) ℓ) : Prop :=
  True

def Pre_AdamXoRefIdeal (m : (ℓ : Loc Cert.AdamXoRefIdeal.nD Cert.AdamXoRefIdeal.τ Cert.AdamXoRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnConv (m : (ℓ : Loc Cert.AdamFfnConv.nD Cert.AdamFfnConv.τ Cert.AdamFfnConv.sig) → Buf (Elt Bits) ℓ) : Prop :=
  True

def Pre_AdamFfnConvIdeal (m : (ℓ : Loc Cert.AdamFfnConvIdeal.nD Cert.AdamFfnConvIdeal.τ Cert.AdamFfnConvIdeal.sig) → Buf (Elt Ideal) ℓ) : Prop :=
  True

def Pre_AdamFfnConvRefIdeal (m : (ℓ : Loc Cert.AdamFfnConvRefIdeal.nD Cert.AdamFfnConvRefIdeal.τ Cert.AdamFfnConvRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamHybIn (m : (ℓ : Loc Cert.AdamHybIn.nD Cert.AdamHybIn.τ Cert.AdamHybIn.sig) → Buf (Elt Bits) ℓ) : Prop :=
  True

def Pre_AdamHybInIdeal (m : (ℓ : Loc Cert.AdamHybInIdeal.nD Cert.AdamHybInIdeal.τ Cert.AdamHybInIdeal.sig) → Buf (Elt Ideal) ℓ) : Prop :=
  True

def Pre_AdamHybInRefIdeal (m : (ℓ : Loc Cert.AdamHybInRefIdeal.nD Cert.AdamHybInRefIdeal.τ Cert.AdamHybInRefIdeal.sig) → Buf (Elt Ideal) ℓ) : Prop :=
  True

def Pre_AdamMixOut (m : (ℓ : Loc Cert.AdamMixOut.nD Cert.AdamMixOut.τ Cert.AdamMixOut.sig) → Buf (Elt Bits) ℓ) : Prop :=
  True

def Pre_AdamMixOutIdeal (m : (ℓ : Loc Cert.AdamMixOutIdeal.nD Cert.AdamMixOutIdeal.τ Cert.AdamMixOutIdeal.sig) → Buf (Elt Ideal) ℓ) : Prop :=
  True

def Pre_AdamMixOutRefIdeal (m : (ℓ : Loc Cert.AdamMixOutRefIdeal.nD Cert.AdamMixOutRefIdeal.τ Cert.AdamMixOutRefIdeal.sig) → Buf (Elt Ideal) ℓ) : Prop :=
  True

def Pre_AdamGdnConv (m : (ℓ : Loc Cert.AdamGdnConv.nD Cert.AdamGdnConv.τ Cert.AdamGdnConv.sig) → Buf (Elt Bits) ℓ) : Prop :=
  True

def Pre_AdamGdnConvIdeal (m : (ℓ : Loc Cert.AdamGdnConvIdeal.nD Cert.AdamGdnConvIdeal.τ Cert.AdamGdnConvIdeal.sig) → Buf (Elt Ideal) ℓ) : Prop :=
  True

def Pre_AdamGdnConvRefIdeal (m : (ℓ : Loc Cert.AdamGdnConvRefIdeal.nD Cert.AdamGdnConvRefIdeal.τ Cert.AdamGdnConvRefIdeal.sig) → Buf (Elt Ideal) ℓ) : Prop :=
  True

def Pre_AdamLruConv (m : (ℓ : Loc Cert.AdamLruConv.nD Cert.AdamLruConv.τ Cert.AdamLruConv.sig) → Buf (Elt Bits) ℓ) : Prop :=
  True

def Pre_AdamLruConvIdeal (m : (ℓ : Loc Cert.AdamLruConvIdeal.nD Cert.AdamLruConvIdeal.τ Cert.AdamLruConvIdeal.sig) → Buf (Elt Ideal) ℓ) : Prop :=
  True

def Pre_AdamLruConvRefIdeal (m : (ℓ : Loc Cert.AdamLruConvRefIdeal.nD Cert.AdamLruConvRefIdeal.τ Cert.AdamLruConvRefIdeal.sig) → Buf (Elt Ideal) ℓ) : Prop :=
  True

def Pre_AdamSwaIn (m : (ℓ : Loc Cert.AdamSwaIn.nD Cert.AdamSwaIn.τ Cert.AdamSwaIn.sig) → Buf (Elt Bits) ℓ) : Prop :=
  True

def Pre_AdamSwaInIdeal (m : (ℓ : Loc Cert.AdamSwaInIdeal.nD Cert.AdamSwaInIdeal.τ Cert.AdamSwaInIdeal.sig) → Buf (Elt Ideal) ℓ) : Prop :=
  True

def Pre_AdamSwaInRefIdeal (m : (ℓ : Loc Cert.AdamSwaInRefIdeal.nD Cert.AdamSwaInRefIdeal.τ Cert.AdamSwaInRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormMemFwd (m : (ℓ : Loc Cert.NormMemFwd.nD Cert.NormMemFwd.τ Cert.NormMemFwd.sig) → Buf (Elt Bits) ℓ) : Prop :=
  True

def Pre_NormMemFwdIdeal (m : (ℓ : Loc Cert.NormMemFwdIdeal.nD Cert.NormMemFwdIdeal.τ Cert.NormMemFwdIdeal.sig) → Buf (Elt Ideal) ℓ) : Prop :=
  True

def Pre_NormMemFwdRefIdeal (m : (ℓ : Loc Cert.NormMemFwdRefIdeal.nD Cert.NormMemFwdRefIdeal.τ Cert.NormMemFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormMemBwd (m : (ℓ : Loc Cert.NormMemBwd.nD Cert.NormMemBwd.τ Cert.NormMemBwd.sig) → Buf (Elt Bits) ℓ) : Prop :=
  True

def Pre_NormMemBwdIdeal (m : (ℓ : Loc Cert.NormMemBwdIdeal.nD Cert.NormMemBwdIdeal.τ Cert.NormMemBwdIdeal.sig) → Buf (Elt Ideal) ℓ) : Prop :=
  True

def Pre_NormMemBwdRefIdeal (m : (ℓ : Loc Cert.NormMemBwdRefIdeal.nD Cert.NormMemBwdRefIdeal.τ Cert.NormMemBwdRefIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradRefIdeal (m : (ℓ : Loc Cert.LossGradRefIdeal.nD Cert.LossGradRefIdeal.τ Cert.LossGradRefIdeal.sig) → Buf (Elt Ideal) ℓ) : Prop :=
  True

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_XattnFwdRefIdeal (m : (ℓ : Loc Cert.XattnFwdRefIdeal.nD Cert.XattnFwdRefIdeal.τ Cert.XattnFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdRefIdeal (m : (ℓ : Loc Cert.FfnBwdRefIdeal.nD Cert.FfnBwdRefIdeal.τ Cert.FfnBwdRefIdeal.sig) → Buf (Elt Ideal) ℓ) : Prop :=
  True

def Pre_RopeTables (m : (ℓ : Loc Cert.RopeTables.nD Cert.RopeTables.τ Cert.RopeTables.sig) → Buf (Elt Bits) ℓ) : Prop :=
  True

def Pre_RopeTablesIdeal (m : (ℓ : Loc Cert.RopeTablesIdeal.nD Cert.RopeTablesIdeal.τ Cert.RopeTablesIdeal.sig) → Buf (Elt Ideal) ℓ) : Prop :=
  True

def Pre_RopeTablesRefIdeal (m : (ℓ : Loc Cert.RopeTablesRefIdeal.nD Cert.RopeTablesRefIdeal.τ Cert.RopeTablesRefIdeal.sig) → Buf (Elt Ideal) ℓ) : Prop :=
  True

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnIdeal_pre_finite_xattn [hXattnIdeal : Cert.XattnIdeal.Facts] [hPre_finite_xattn : Cert.Pre_finite_xattn.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_xattn m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_XattnRefIdeal_pre_finite_xattn [hXattnRefIdeal : Cert.XattnRefIdeal.Facts] [hPre_finite_xattn : Cert.Pre_finite_xattn.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite_xattn m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_FfnOutDa [hFfnOutDa : Cert.FfnOutDa.Facts] : Prop :=
  ∀ (m : (ℓ : Loc Cert.FfnOutDa.nD Cert.FfnOutDa.τ Cert.FfnOutDa.sig) → Buf (Elt Bits) ℓ) (g : Dev Cert.FfnOutDa.nD → PrngReg), Pre_FfnOutDa m →
    θ_run (Cert.FfnOutDa.defs (F := Bits)) (onTc (τ := Cert.FfnOutDa.τ) (Cert.FfnOutDa.main (F := Bits))) ⟨m, fun _ => 0, g⟩ (fun r => (∀ c : Dev Cert.FfnOutDa.nD,
      r.2.mem ((c.tc : Thread Cert.FfnOutDa.nD Cert.FfnOutDa.τ).loc Cert.FfnOutDa.main_arg0) = m ((c.tc : Thread Cert.FfnOutDa.nD Cert.FfnOutDa.τ).loc Cert.FfnOutDa.main_arg0)
      ∧ r.2.mem ((c.tc : Thread Cert.FfnOutDa.nD Cert.FfnOutDa.τ).loc Cert.FfnOutDa.main_arg1) = m ((c.tc : Thread Cert.FfnOutDa.nD Cert.FfnOutDa.τ).loc Cert.FfnOutDa.main_arg1))
      ∧ r.2.sem = fun _ => 0)

def quiescent_FfnOutDaIdeal [hFfnOutDaIdeal : Cert.FfnOutDaIdeal.Facts] : Prop :=
  ∀ (m : (ℓ : Loc Cert.FfnOutDaIdeal.nD Cert.FfnOutDaIdeal.τ Cert.FfnOutDaIdeal.sig) → Buf (Elt Ideal) ℓ) (g : Dev Cert.FfnOutDaIdeal.nD → PrngReg), Pre_FfnOutDaIdeal m →
    θ_run (Cert.FfnOutDaIdeal.defs (F := Ideal)) (onTc (τ := Cert.FfnOutDaIdeal.τ) (Cert.FfnOutDaIdeal.main (F := Ideal))) ⟨m, fun _ => 0, g⟩ (fun r => (∀ c : Dev Cert.FfnOutDaIdeal.nD,
      r.2.mem ((c.tc : Thread Cert.FfnOutDaIdeal.nD Cert.FfnOutDaIdeal.τ).loc Cert.FfnOutDaIdeal.main_arg0) = m ((c.tc : Thread Cert.FfnOutDaIdeal.nD Cert.FfnOutDaIdeal.τ).loc Cert.FfnOutDaIdeal.main_arg0)
      ∧ r.2.mem ((c.tc : Thread Cert.FfnOutDaIdeal.nD Cert.FfnOutDaIdeal.τ).loc Cert.FfnOutDaIdeal.main_arg1) = m ((c.tc : Thread Cert.FfnOutDaIdeal.nD Cert.FfnOutDaIdeal.τ).loc Cert.FfnOutDaIdeal.main_arg1))
      ∧ r.2.sem = fun _ => 0)

def quiescent_FfnOutDaRefIdeal [hFfnOutDaRefIdeal : Cert.FfnOutDaRefIdeal.Facts] : Prop :=
  ∀ (m : (ℓ : Loc Cert.FfnOutDaRefIdeal.nD Cert.FfnOutDaRefIdeal.τ Cert.FfnOutDaRefIdeal.sig) → Buf (Elt Ideal) ℓ) (g : Dev Cert.FfnOutDaRefIdeal.nD → PrngReg), Pre_FfnOutDaRefIdeal m →
    θ_run (Cert.FfnOutDaRefIdeal.defs (F := Ideal)) (onTc (τ := Cert.FfnOutDaRefIdeal.τ) (Cert.FfnOutDaRefIdeal.main (F := Ideal))) ⟨m, fun _ => 0, g⟩ (fun r => (∀ c : Dev Cert.FfnOutDaRefIdeal.nD,
      r.2.mem ((c.tc : Thread Cert.FfnOutDaRefIdeal.nD Cert.FfnOutDaRefIdeal.τ).loc Cert.FfnOutDaRefIdeal.main_arg0) = m ((c.tc : Thread Cert.FfnOutDaRefIdeal.nD Cert.FfnOutDaRefIdeal.τ).loc Cert.FfnOutDaRefIdeal.main_arg0)
      ∧ r.2.mem ((c.tc : Thread Cert.FfnOutDaRefIdeal.nD Cert.FfnOutDaRefIdeal.τ).loc Cert.FfnOutDaRefIdeal.main_arg1) = m ((c.tc : Thread Cert.FfnOutDaRefIdeal.nD Cert.FfnOutDaRefIdeal.τ).loc Cert.FfnOutDaRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnInDhGate [hFfnInDhGate : Cert.FfnInDhGate.Facts] : Prop :=
  ∀ (m : (ℓ : Loc Cert.FfnInDhGate.nD Cert.FfnInDhGate.τ Cert.FfnInDhGate.sig) → Buf (Elt Bits) ℓ) (g : Dev Cert.FfnInDhGate.nD → PrngReg), Pre_FfnInDhGate m →
    θ_run (Cert.FfnInDhGate.defs (F := Bits)) (onTc (τ := Cert.FfnInDhGate.τ) (Cert.FfnInDhGate.main (F := Bits))) ⟨m, fun _ => 0, g⟩ (fun r => (∀ c : Dev Cert.FfnInDhGate.nD,
      r.2.mem ((c.tc : Thread Cert.FfnInDhGate.nD Cert.FfnInDhGate.τ).loc Cert.FfnInDhGate.main_arg0) = m ((c.tc : Thread Cert.FfnInDhGate.nD Cert.FfnInDhGate.τ).loc Cert.FfnInDhGate.main_arg0)
      ∧ r.2.mem ((c.tc : Thread Cert.FfnInDhGate.nD Cert.FfnInDhGate.τ).loc Cert.FfnInDhGate.main_arg1) = m ((c.tc : Thread Cert.FfnInDhGate.nD Cert.FfnInDhGate.τ).loc Cert.FfnInDhGate.main_arg1))
      ∧ r.2.sem = fun _ => 0)

def quiescent_FfnInDhGateIdeal [hFfnInDhGateIdeal : Cert.FfnInDhGateIdeal.Facts] : Prop :=
  ∀ (m : (ℓ : Loc Cert.FfnInDhGateIdeal.nD Cert.FfnInDhGateIdeal.τ Cert.FfnInDhGateIdeal.sig) → Buf (Elt Ideal) ℓ) (g : Dev Cert.FfnInDhGateIdeal.nD → PrngReg), Pre_FfnInDhGateIdeal m →
    θ_run (Cert.FfnInDhGateIdeal.defs (F := Ideal)) (onTc (τ := Cert.FfnInDhGateIdeal.τ) (Cert.FfnInDhGateIdeal.main (F := Ideal))) ⟨m, fun _ => 0, g⟩ (fun r => (∀ c : Dev Cert.FfnInDhGateIdeal.nD,
      r.2.mem ((c.tc : Thread Cert.FfnInDhGateIdeal.nD Cert.FfnInDhGateIdeal.τ).loc Cert.FfnInDhGateIdeal.main_arg0) = m ((c.tc : Thread Cert.FfnInDhGateIdeal.nD Cert.FfnInDhGateIdeal.τ).loc Cert.FfnInDhGateIdeal.main_arg0)
      ∧ r.2.mem ((c.tc : Thread Cert.FfnInDhGateIdeal.nD Cert.FfnInDhGateIdeal.τ).loc Cert.FfnInDhGateIdeal.main_arg1) = m ((c.tc : Thread Cert.FfnInDhGateIdeal.nD Cert.FfnInDhGateIdeal.τ).loc Cert.FfnInDhGateIdeal.main_arg1))
      ∧ r.2.sem = fun _ => 0)

def quiescent_FfnInDhGateRefIdeal [hFfnInDhGateRefIdeal : Cert.FfnInDhGateRefIdeal.Facts] : Prop :=
  ∀ (m : (ℓ : Loc Cert.FfnInDhGateRefIdeal.nD Cert.FfnInDhGateRefIdeal.τ Cert.FfnInDhGateRefIdeal.sig) → Buf (Elt Ideal) ℓ) (g : Dev Cert.FfnInDhGateRefIdeal.nD → PrngReg), Pre_FfnInDhGateRefIdeal m →
    θ_run (Cert.FfnInDhGateRefIdeal.defs (F := Ideal)) (onTc (τ := Cert.FfnInDhGateRefIdeal.τ) (Cert.FfnInDhGateRefIdeal.main (F := Ideal))) ⟨m, fun _ => 0, g⟩ (fun r => (∀ c : Dev Cert.FfnInDhGateRefIdeal.nD,
      r.2.mem ((c.tc : Thread Cert.FfnInDhGateRefIdeal.nD Cert.FfnInDhGateRefIdeal.τ).loc Cert.FfnInDhGateRefIdeal.main_arg0) = m ((c.tc : Thread Cert.FfnInDhGateRefIdeal.nD Cert.FfnInDhGateRefIdeal.τ).loc Cert.FfnInDhGateRefIdeal.main_arg0)
      ∧ r.2.mem ((c.tc : Thread Cert.FfnInDhGateRefIdeal.nD Cert.FfnInDhGateRefIdeal.τ).loc Cert.FfnInDhGateRefIdeal.main_arg1) = m ((c.tc : Thread Cert.FfnInDhGateRefIdeal.nD Cert.FfnInDhGateRefIdeal.τ).loc Cert.FfnInDhGateRefIdeal.main_arg1))
      ∧ r.2.sem = fun _ => 0)

def quiescent_FfnInDhUp [hFfnInDhUp : Cert.FfnInDhUp.Facts] : Prop :=
  ∀ (m : (ℓ : Loc Cert.FfnInDhUp.nD Cert.FfnInDhUp.τ Cert.FfnInDhUp.sig) → Buf (Elt Bits) ℓ) (g : Dev Cert.FfnInDhUp.nD → PrngReg), Pre_FfnInDhUp m →
    θ_run (Cert.FfnInDhUp.defs (F := Bits)) (onTc (τ := Cert.FfnInDhUp.τ) (Cert.FfnInDhUp.main (F := Bits))) ⟨m, fun _ => 0, g⟩ (fun r => (∀ c : Dev Cert.FfnInDhUp.nD,
      r.2.mem ((c.tc : Thread Cert.FfnInDhUp.nD Cert.FfnInDhUp.τ).loc Cert.FfnInDhUp.main_arg0) = m ((c.tc : Thread Cert.FfnInDhUp.nD Cert.FfnInDhUp.τ).loc Cert.FfnInDhUp.main_arg0)
      ∧ r.2.mem ((c.tc : Thread Cert.FfnInDhUp.nD Cert.FfnInDhUp.τ).loc Cert.FfnInDhUp.main_arg1) = m ((c.tc : Thread Cert.FfnInDhUp.nD Cert.FfnInDhUp.τ).loc Cert.FfnInDhUp.main_arg1)
      ∧ r.2.mem ((c.tc : Thread Cert.FfnInDhUp.nD Cert.FfnInDhUp.τ).loc Cert.FfnInDhUp.main_arg2) = m ((c.tc : Thread Cert.FfnInDhUp.nD Cert.FfnInDhUp.τ).loc Cert.FfnInDhUp.main_arg2))
      ∧ r.2.sem = fun _ => 0)

def quiescent_FfnInDhUpIdeal [hFfnInDhUpIdeal : Cert.FfnInDhUpIdeal.Facts] : Prop :=
  ∀ (m : (ℓ : Loc Cert.FfnInDhUpIdeal.nD Cert.FfnInDhUpIdeal.τ Cert.FfnInDhUpIdeal.sig) → Buf (Elt Ideal) ℓ) (g : Dev Cert.FfnInDhUpIdeal.nD → PrngReg), Pre_FfnInDhUpIdeal m →
    θ_run (Cert.FfnInDhUpIdeal.defs (F := Ideal)) (onTc (τ := Cert.FfnInDhUpIdeal.τ) (Cert.FfnInDhUpIdeal.main (F := Ideal))) ⟨m, fun _ => 0, g⟩ (fun r => (∀ c : Dev Cert.FfnInDhUpIdeal.nD,
      r.2.mem ((c.tc : Thread Cert.FfnInDhUpIdeal.nD Cert.FfnInDhUpIdeal.τ).loc Cert.FfnInDhUpIdeal.main_arg0) = m ((c.tc : Thread Cert.FfnInDhUpIdeal.nD Cert.FfnInDhUpIdeal.τ).loc Cert.FfnInDhUpIdeal.main_arg0)
      ∧ r.2.mem ((c.tc : Thread Cert.FfnInDhUpIdeal.nD Cert.FfnInDhUpIdeal.τ).loc Cert.FfnInDhUpIdeal.main_arg1) = m ((c.tc : Thread Cert.FfnInDhUpIdeal.nD Cert.FfnInDhUpIdeal.τ).loc Cert.FfnInDhUpIdeal.main_arg1)
      ∧ r.2.mem ((c.tc : Thread Cert.FfnInDhUpIdeal.nD Cert.FfnInDhUpIdeal.τ).loc Cert.FfnInDhUpIdeal.main_arg2) = m ((c.tc : Thread Cert.FfnInDhUpIdeal.nD Cert.FfnInDhUpIdeal.τ).loc Cert.FfnInDhUpIdeal.main_arg2))
      ∧ r.2.sem = fun _ => 0)

def quiescent_FfnInDhUpRefIdeal [hFfnInDhUpRefIdeal : Cert.FfnInDhUpRefIdeal.Facts] : Prop :=
  ∀ (m : (ℓ : Loc Cert.FfnInDhUpRefIdeal.nD Cert.FfnInDhUpRefIdeal.τ Cert.FfnInDhUpRefIdeal.sig) → Buf (Elt Ideal) ℓ) (g : Dev Cert.FfnInDhUpRefIdeal.nD → PrngReg), Pre_FfnInDhUpRefIdeal m →
    θ_run (Cert.FfnInDhUpRefIdeal.defs (F := Ideal)) (onTc (τ := Cert.FfnInDhUpRefIdeal.τ) (Cert.FfnInDhUpRefIdeal.main (F := Ideal))) ⟨m, fun _ => 0, g⟩ (fun r => (∀ c : Dev Cert.FfnInDhUpRefIdeal.nD,
      r.2.mem ((c.tc : Thread Cert.FfnInDhUpRefIdeal.nD Cert.FfnInDhUpRefIdeal.τ).loc Cert.FfnInDhUpRefIdeal.main_arg0) = m ((c.tc : Thread Cert.FfnInDhUpRefIdeal.nD Cert.FfnInDhUpRefIdeal.τ).loc Cert.FfnInDhUpRefIdeal.main_arg0)
      ∧ r.2.mem ((c.tc : Thread Cert.FfnInDhUpRefIdeal.nD Cert.FfnInDhUpRefIdeal.τ).loc Cert.FfnInDhUpRefIdeal.main_arg1) = m ((c.tc : Thread Cert.FfnInDhUpRefIdeal.nD Cert.FfnInDhUpRefIdeal.τ).loc Cert.FfnInDhUpRefIdeal.main_arg1)
      ∧ r.2.mem ((c.tc : Thread Cert.FfnInDhUpRefIdeal.nD Cert.FfnInDhUpRefIdeal.τ).loc Cert.FfnInDhUpRefIdeal.main_arg2) = m ((c.tc : Thread Cert.FfnInDhUpRefIdeal.nD Cert.FfnInDhUpRefIdeal.τ).loc Cert.FfnInDhUpRefIdeal.main_arg2))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_HybIn [hHybIn : Cert.HybIn.Facts] : Prop :=
  ∀ (m : (ℓ : Loc Cert.HybIn.nD Cert.HybIn.τ Cert.HybIn.sig) → Buf (Elt Bits) ℓ) (g : Dev Cert.HybIn.nD → PrngReg), Pre_HybIn m →
    θ_run (Cert.HybIn.defs (F := Bits)) (onTc (τ := Cert.HybIn.τ) (Cert.HybIn.main (F := Bits))) ⟨m, fun _ => 0, g⟩ (fun r => (∀ c : Dev Cert.HybIn.nD,
      r.2.mem ((c.tc : Thread Cert.HybIn.nD Cert.HybIn.τ).loc Cert.HybIn.main_arg0) = m ((c.tc : Thread Cert.HybIn.nD Cert.HybIn.τ).loc Cert.HybIn.main_arg0)
      ∧ r.2.mem ((c.tc : Thread Cert.HybIn.nD Cert.HybIn.τ).loc Cert.HybIn.main_arg1) = m ((c.tc : Thread Cert.HybIn.nD Cert.HybIn.τ).loc Cert.HybIn.main_arg1))
      ∧ r.2.sem = fun _ => 0)

def quiescent_HybInIdeal [hHybInIdeal : Cert.HybInIdeal.Facts] : Prop :=
  ∀ (m : (ℓ : Loc Cert.HybInIdeal.nD Cert.HybInIdeal.τ Cert.HybInIdeal.sig) → Buf (Elt Ideal) ℓ) (g : Dev Cert.HybInIdeal.nD → PrngReg), Pre_HybInIdeal m →
    θ_run (Cert.HybInIdeal.defs (F := Ideal)) (onTc (τ := Cert.HybInIdeal.τ) (Cert.HybInIdeal.main (F := Ideal))) ⟨m, fun _ => 0, g⟩ (fun r => (∀ c : Dev Cert.HybInIdeal.nD,
      r.2.mem ((c.tc : Thread Cert.HybInIdeal.nD Cert.HybInIdeal.τ).loc Cert.HybInIdeal.main_arg0) = m ((c.tc : Thread Cert.HybInIdeal.nD Cert.HybInIdeal.τ).loc Cert.HybInIdeal.main_arg0)
      ∧ r.2.mem ((c.tc : Thread Cert.HybInIdeal.nD Cert.HybInIdeal.τ).loc Cert.HybInIdeal.main_arg1) = m ((c.tc : Thread Cert.HybInIdeal.nD Cert.HybInIdeal.τ).loc Cert.HybInIdeal.main_arg1))
      ∧ r.2.sem = fun _ => 0)

def quiescent_HybInRefIdeal [hHybInRefIdeal : Cert.HybInRefIdeal.Facts] : Prop :=
  ∀ (m : (ℓ : Loc Cert.HybInRefIdeal.nD Cert.HybInRefIdeal.τ Cert.HybInRefIdeal.sig) → Buf (Elt Ideal) ℓ) (g : Dev Cert.HybInRefIdeal.nD → PrngReg), Pre_HybInRefIdeal m →
    θ_run (Cert.HybInRefIdeal.defs (F := Ideal)) (onTc (τ := Cert.HybInRefIdeal.τ) (Cert.HybInRefIdeal.main (F := Ideal))) ⟨m, fun _ => 0, g⟩ (fun r => (∀ c : Dev Cert.HybInRefIdeal.nD,
      r.2.mem ((c.tc : Thread Cert.HybInRefIdeal.nD Cert.HybInRefIdeal.τ).loc Cert.HybInRefIdeal.main_arg0) = m ((c.tc : Thread Cert.HybInRefIdeal.nD Cert.HybInRefIdeal.τ).loc Cert.HybInRefIdeal.main_arg0)
      ∧ r.2.mem ((c.tc : Thread Cert.HybInRefIdeal.nD Cert.HybInRefIdeal.τ).loc Cert.HybInRefIdeal.main_arg1) = m ((c.tc : Thread Cert.HybInRefIdeal.nD Cert.HybInRefIdeal.τ).loc Cert.HybInRefIdeal.main_arg1))
      ∧ r.2.sem = fun _ => 0)

def quiescent_HybOut [hHybOut : Cert.HybOut.Facts] : Prop :=
  ∀ (m : (ℓ : Loc Cert.HybOut.nD Cert.HybOut.τ Cert.HybOut.sig) → Buf (Elt Bits) ℓ) (g : Dev Cert.HybOut.nD → PrngReg), Pre_HybOut m →
    θ_run (Cert.HybOut.defs (F := Bits)) (onTc (τ := Cert.HybOut.τ) (Cert.HybOut.main (F := Bits))) ⟨m, fun _ => 0, g⟩ (fun r => (∀ c : Dev Cert.HybOut.nD,
      r.2.mem ((c.tc : Thread Cert.HybOut.nD Cert.HybOut.τ).loc Cert.HybOut.main_arg0) = m ((c.tc : Thread Cert.HybOut.nD Cert.HybOut.τ).loc Cert.HybOut.main_arg0)
      ∧ r.2.mem ((c.tc : Thread Cert.HybOut.nD Cert.HybOut.τ).loc Cert.HybOut.main_arg1) = m ((c.tc : Thread Cert.HybOut.nD Cert.HybOut.τ).loc Cert.HybOut.main_arg1)
      ∧ r.2.mem ((c.tc : Thread Cert.HybOut.nD Cert.HybOut.τ).loc Cert.HybOut.main_arg2) = m ((c.tc : Thread Cert.HybOut.nD Cert.HybOut.τ).loc Cert.HybOut.main_arg2))
      ∧ r.2.sem = fun _ => 0)

def quiescent_HybOutIdeal [hHybOutIdeal : Cert.HybOutIdeal.Facts] : Prop :=
  ∀ (m : (ℓ : Loc Cert.HybOutIdeal.nD Cert.HybOutIdeal.τ Cert.HybOutIdeal.sig) → Buf (Elt Ideal) ℓ) (g : Dev Cert.HybOutIdeal.nD → PrngReg), Pre_HybOutIdeal m →
    θ_run (Cert.HybOutIdeal.defs (F := Ideal)) (onTc (τ := Cert.HybOutIdeal.τ) (Cert.HybOutIdeal.main (F := Ideal))) ⟨m, fun _ => 0, g⟩ (fun r => (∀ c : Dev Cert.HybOutIdeal.nD,
      r.2.mem ((c.tc : Thread Cert.HybOutIdeal.nD Cert.HybOutIdeal.τ).loc Cert.HybOutIdeal.main_arg0) = m ((c.tc : Thread Cert.HybOutIdeal.nD Cert.HybOutIdeal.τ).loc Cert.HybOutIdeal.main_arg0)
      ∧ r.2.mem ((c.tc : Thread Cert.HybOutIdeal.nD Cert.HybOutIdeal.τ).loc Cert.HybOutIdeal.main_arg1) = m ((c.tc : Thread Cert.HybOutIdeal.nD Cert.HybOutIdeal.τ).loc Cert.HybOutIdeal.main_arg1)
      ∧ r.2.mem ((c.tc : Thread Cert.HybOutIdeal.nD Cert.HybOutIdeal.τ).loc Cert.HybOutIdeal.main_arg2) = m ((c.tc : Thread Cert.HybOutIdeal.nD Cert.HybOutIdeal.τ).loc Cert.HybOutIdeal.main_arg2))
      ∧ r.2.sem = fun _ => 0)

def quiescent_HybOutRefIdeal [hHybOutRefIdeal : Cert.HybOutRefIdeal.Facts] : Prop :=
  ∀ (m : (ℓ : Loc Cert.HybOutRefIdeal.nD Cert.HybOutRefIdeal.τ Cert.HybOutRefIdeal.sig) → Buf (Elt Ideal) ℓ) (g : Dev Cert.HybOutRefIdeal.nD → PrngReg), Pre_HybOutRefIdeal m →
    θ_run (Cert.HybOutRefIdeal.defs (F := Ideal)) (onTc (τ := Cert.HybOutRefIdeal.τ) (Cert.HybOutRefIdeal.main (F := Ideal))) ⟨m, fun _ => 0, g⟩ (fun r => (∀ c : Dev Cert.HybOutRefIdeal.nD,
      r.2.mem ((c.tc : Thread Cert.HybOutRefIdeal.nD Cert.HybOutRefIdeal.τ).loc Cert.HybOutRefIdeal.main_arg0) = m ((c.tc : Thread Cert.HybOutRefIdeal.nD Cert.HybOutRefIdeal.τ).loc Cert.HybOutRefIdeal.main_arg0)
      ∧ r.2.mem ((c.tc : Thread Cert.HybOutRefIdeal.nD Cert.HybOutRefIdeal.τ).loc Cert.HybOutRefIdeal.main_arg1) = m ((c.tc : Thread Cert.HybOutRefIdeal.nD Cert.HybOutRefIdeal.τ).loc Cert.HybOutRefIdeal.main_arg1)
      ∧ r.2.mem ((c.tc : Thread Cert.HybOutRefIdeal.nD Cert.HybOutRefIdeal.τ).loc Cert.HybOutRefIdeal.main_arg2) = m ((c.tc : Thread Cert.HybOutRefIdeal.nD Cert.HybOutRefIdeal.τ).loc Cert.HybOutRefIdeal.main_arg2))
      ∧ r.2.sem = fun _ => 0)

def quiescent_MixOutDm [hMixOutDm : Cert.MixOutDm.Facts] : Prop :=
  ∀ (m : (ℓ : Loc Cert.MixOutDm.nD Cert.MixOutDm.τ Cert.MixOutDm.sig) → Buf (Elt Bits) ℓ) (g : Dev Cert.MixOutDm.nD → PrngReg), Pre_MixOutDm m →
    θ_run (Cert.MixOutDm.defs (F := Bits)) (onTc (τ := Cert.MixOutDm.τ) (Cert.MixOutDm.main (F := Bits))) ⟨m, fun _ => 0, g⟩ (fun r => (∀ c : Dev Cert.MixOutDm.nD,
      r.2.mem ((c.tc : Thread Cert.MixOutDm.nD Cert.MixOutDm.τ).loc Cert.MixOutDm.main_arg0) = m ((c.tc : Thread Cert.MixOutDm.nD Cert.MixOutDm.τ).loc Cert.MixOutDm.main_arg0)
      ∧ r.2.mem ((c.tc : Thread Cert.MixOutDm.nD Cert.MixOutDm.τ).loc Cert.MixOutDm.main_arg1) = m ((c.tc : Thread Cert.MixOutDm.nD Cert.MixOutDm.τ).loc Cert.MixOutDm.main_arg1))
      ∧ r.2.sem = fun _ => 0)

def quiescent_MixOutDmIdeal [hMixOutDmIdeal : Cert.MixOutDmIdeal.Facts] : Prop :=
  ∀ (m : (ℓ : Loc Cert.MixOutDmIdeal.nD Cert.MixOutDmIdeal.τ Cert.MixOutDmIdeal.sig) → Buf (Elt Ideal) ℓ) (g : Dev Cert.MixOutDmIdeal.nD → PrngReg), Pre_MixOutDmIdeal m →
    θ_run (Cert.MixOutDmIdeal.defs (F := Ideal)) (onTc (τ := Cert.MixOutDmIdeal.τ) (Cert.MixOutDmIdeal.main (F := Ideal))) ⟨m, fun _ => 0, g⟩ (fun r => (∀ c : Dev Cert.MixOutDmIdeal.nD,
      r.2.mem ((c.tc : Thread Cert.MixOutDmIdeal.nD Cert.MixOutDmIdeal.τ).loc Cert.MixOutDmIdeal.main_arg0) = m ((c.tc : Thread Cert.MixOutDmIdeal.nD Cert.MixOutDmIdeal.τ).loc Cert.MixOutDmIdeal.main_arg0)
      ∧ r.2.mem ((c.tc : Thread Cert.MixOutDmIdeal.nD Cert.MixOutDmIdeal.τ).loc Cert.MixOutDmIdeal.main_arg1) = m ((c.tc : Thread Cert.MixOutDmIdeal.nD Cert.MixOutDmIdeal.τ).loc Cert.MixOutDmIdeal.main_arg1))
      ∧ r.2.sem = fun _ => 0)

def quiescent_MixOutDmRefIdeal [hMixOutDmRefIdeal : Cert.MixOutDmRefIdeal.Facts] : Prop :=
  ∀ (m : (ℓ : Loc Cert.MixOutDmRefIdeal.nD Cert.MixOutDmRefIdeal.τ Cert.MixOutDmRefIdeal.sig) → Buf (Elt Ideal) ℓ) (g : Dev Cert.MixOutDmRefIdeal.nD → PrngReg), Pre_MixOutDmRefIdeal m →
    θ_run (Cert.MixOutDmRefIdeal.defs (F := Ideal)) (onTc (τ := Cert.MixOutDmRefIdeal.τ) (Cert.MixOutDmRefIdeal.main (F := Ideal))) ⟨m, fun _ => 0, g⟩ (fun r => (∀ c : Dev Cert.MixOutDmRefIdeal.nD,
      r.2.mem ((c.tc : Thread Cert.MixOutDmRefIdeal.nD Cert.MixOutDmRefIdeal.τ).loc Cert.MixOutDmRefIdeal.main_arg0) = m ((c.tc : Thread Cert.MixOutDmRefIdeal.nD Cert.MixOutDmRefIdeal.τ).loc Cert.MixOutDmRefIdeal.main_arg0)
      ∧ r.2.mem ((c.tc : Thread Cert.MixOutDmRefIdeal.nD Cert.MixOutDmRefIdeal.τ).loc Cert.MixOutDmRefIdeal.main_arg1) = m ((c.tc : Thread Cert.MixOutDmRefIdeal.nD Cert.MixOutDmRefIdeal.τ).loc Cert.MixOutDmRefIdeal.main_arg1))
      ∧ r.2.sem = fun _ => 0)

def quiescent_HybOutDw [hHybOutDw : Cert.HybOutDw.Facts] : Prop :=
  ∀ (m : (ℓ : Loc Cert.HybOutDw.nD Cert.HybOutDw.τ Cert.HybOutDw.sig) → Buf (Elt Bits) ℓ) (g : Dev Cert.HybOutDw.nD → PrngReg), Pre_HybOutDw m →
    θ_run (Cert.HybOutDw.defs (F := Bits)) (onTc (τ := Cert.HybOutDw.τ) (Cert.HybOutDw.main (F := Bits))) ⟨m, fun _ => 0, g⟩ (fun r => (∀ c : Dev Cert.HybOutDw.nD,
      r.2.mem ((c.tc : Thread Cert.HybOutDw.nD Cert.HybOutDw.τ).loc Cert.HybOutDw.main_arg0) = m ((c.tc : Thread Cert.HybOutDw.nD Cert.HybOutDw.τ).loc Cert.HybOutDw.main_arg0)
      ∧ r.2.mem ((c.tc : Thread Cert.HybOutDw.nD Cert.HybOutDw.τ).loc Cert.HybOutDw.main_arg1) = m ((c.tc : Thread Cert.HybOutDw.nD Cert.HybOutDw.τ).loc Cert.HybOutDw.main_arg1))
      ∧ r.2.sem = fun _ => 0)

def quiescent_HybOutDwIdeal [hHybOutDwIdeal : Cert.HybOutDwIdeal.Facts] : Prop :=
  ∀ (m : (ℓ : Loc Cert.HybOutDwIdeal.nD Cert.HybOutDwIdeal.τ Cert.HybOutDwIdeal.sig) → Buf (Elt Ideal) ℓ) (g : Dev Cert.HybOutDwIdeal.nD → PrngReg), Pre_HybOutDwIdeal m →
    θ_run (Cert.HybOutDwIdeal.defs (F := Ideal)) (onTc (τ := Cert.HybOutDwIdeal.τ) (Cert.HybOutDwIdeal.main (F := Ideal))) ⟨m, fun _ => 0, g⟩ (fun r => (∀ c : Dev Cert.HybOutDwIdeal.nD,
      r.2.mem ((c.tc : Thread Cert.HybOutDwIdeal.nD Cert.HybOutDwIdeal.τ).loc Cert.HybOutDwIdeal.main_arg0) = m ((c.tc : Thread Cert.HybOutDwIdeal.nD Cert.HybOutDwIdeal.τ).loc Cert.HybOutDwIdeal.main_arg0)
      ∧ r.2.mem ((c.tc : Thread Cert.HybOutDwIdeal.nD Cert.HybOutDwIdeal.τ).loc Cert.HybOutDwIdeal.main_arg1) = m ((c.tc : Thread Cert.HybOutDwIdeal.nD Cert.HybOutDwIdeal.τ).loc Cert.HybOutDwIdeal.main_arg1))
      ∧ r.2.sem = fun _ => 0)

def quiescent_HybOutDwRefIdeal [hHybOutDwRefIdeal : Cert.HybOutDwRefIdeal.Facts] : Prop :=
  ∀ (m : (ℓ : Loc Cert.HybOutDwRefIdeal.nD Cert.HybOutDwRefIdeal.τ Cert.HybOutDwRefIdeal.sig) → Buf (Elt Ideal) ℓ) (g : Dev Cert.HybOutDwRefIdeal.nD → PrngReg), Pre_HybOutDwRefIdeal m →
    θ_run (Cert.HybOutDwRefIdeal.defs (F := Ideal)) (onTc (τ := Cert.HybOutDwRefIdeal.τ) (Cert.HybOutDwRefIdeal.main (F := Ideal))) ⟨m, fun _ => 0, g⟩ (fun r => (∀ c : Dev Cert.HybOutDwRefIdeal.nD,
      r.2.mem ((c.tc : Thread Cert.HybOutDwRefIdeal.nD Cert.HybOutDwRefIdeal.τ).loc Cert.HybOutDwRefIdeal.main_arg0) = m ((c.tc : Thread Cert.HybOutDwRefIdeal.nD Cert.HybOutDwRefIdeal.τ).loc Cert.HybOutDwRefIdeal.main_arg0)
      ∧ r.2.mem ((c.tc : Thread Cert.HybOutDwRefIdeal.nD Cert.HybOutDwRefIdeal.τ).loc Cert.HybOutDwRefIdeal.main_arg1) = m ((c.tc : Thread Cert.HybOutDwRefIdeal.nD Cert.HybOutDwRefIdeal.τ).loc Cert.HybOutDwRefIdeal.main_arg1))
      ∧ r.2.sem = fun _ => 0)

def quiescent_HybInDh [hHybInDh : Cert.HybInDh.Facts] : Prop :=
  ∀ (m : (ℓ : Loc Cert.HybInDh.nD Cert.HybInDh.τ Cert.HybInDh.sig) → Buf (Elt Bits) ℓ) (g : Dev Cert.HybInDh.nD → PrngReg), Pre_HybInDh m →
    θ_run (Cert.HybInDh.defs (F := Bits)) (onTc (τ := Cert.HybInDh.τ) (Cert.HybInDh.main (F := Bits))) ⟨m, fun _ => 0, g⟩ (fun r => (∀ c : Dev Cert.HybInDh.nD,
      r.2.mem ((c.tc : Thread Cert.HybInDh.nD Cert.HybInDh.τ).loc Cert.HybInDh.main_arg0) = m ((c.tc : Thread Cert.HybInDh.nD Cert.HybInDh.τ).loc Cert.HybInDh.main_arg0)
      ∧ r.2.mem ((c.tc : Thread Cert.HybInDh.nD Cert.HybInDh.τ).loc Cert.HybInDh.main_arg1) = m ((c.tc : Thread Cert.HybInDh.nD Cert.HybInDh.τ).loc Cert.HybInDh.main_arg1))
      ∧ r.2.sem = fun _ => 0)

def quiescent_HybInDhIdeal [hHybInDhIdeal : Cert.HybInDhIdeal.Facts] : Prop :=
  ∀ (m : (ℓ : Loc Cert.HybInDhIdeal.nD Cert.HybInDhIdeal.τ Cert.HybInDhIdeal.sig) → Buf (Elt Ideal) ℓ) (g : Dev Cert.HybInDhIdeal.nD → PrngReg), Pre_HybInDhIdeal m →
    θ_run (Cert.HybInDhIdeal.defs (F := Ideal)) (onTc (τ := Cert.HybInDhIdeal.τ) (Cert.HybInDhIdeal.main (F := Ideal))) ⟨m, fun _ => 0, g⟩ (fun r => (∀ c : Dev Cert.HybInDhIdeal.nD,
      r.2.mem ((c.tc : Thread Cert.HybInDhIdeal.nD Cert.HybInDhIdeal.τ).loc Cert.HybInDhIdeal.main_arg0) = m ((c.tc : Thread Cert.HybInDhIdeal.nD Cert.HybInDhIdeal.τ).loc Cert.HybInDhIdeal.main_arg0)
      ∧ r.2.mem ((c.tc : Thread Cert.HybInDhIdeal.nD Cert.HybInDhIdeal.τ).loc Cert.HybInDhIdeal.main_arg1) = m ((c.tc : Thread Cert.HybInDhIdeal.nD Cert.HybInDhIdeal.τ).loc Cert.HybInDhIdeal.main_arg1))
      ∧ r.2.sem = fun _ => 0)

def quiescent_HybInDhRefIdeal [hHybInDhRefIdeal : Cert.HybInDhRefIdeal.Facts] : Prop :=
  ∀ (m : (ℓ : Loc Cert.HybInDhRefIdeal.nD Cert.HybInDhRefIdeal.τ Cert.HybInDhRefIdeal.sig) → Buf (Elt Ideal) ℓ) (g : Dev Cert.HybInDhRefIdeal.nD → PrngReg), Pre_HybInDhRefIdeal m →
    θ_run (Cert.HybInDhRefIdeal.defs (F := Ideal)) (onTc (τ := Cert.HybInDhRefIdeal.τ) (Cert.HybInDhRefIdeal.main (F := Ideal))) ⟨m, fun _ => 0, g⟩ (fun r => (∀ c : Dev Cert.HybInDhRefIdeal.nD,
      r.2.mem ((c.tc : Thread Cert.HybInDhRefIdeal.nD Cert.HybInDhRefIdeal.τ).loc Cert.HybInDhRefIdeal.main_arg0) = m ((c.tc : Thread Cert.HybInDhRefIdeal.nD Cert.HybInDhRefIdeal.τ).loc Cert.HybInDhRefIdeal.main_arg0)
      ∧ r.2.mem ((c.tc : Thread Cert.HybInDhRefIdeal.nD Cert.HybInDhRefIdeal.τ).loc Cert.HybInDhRefIdeal.main_arg1) = m ((c.tc : Thread Cert.HybInDhRefIdeal.nD Cert.HybInDhRefIdeal.τ).loc Cert.HybInDhRefIdeal.main_arg1))
      ∧ r.2.sem = fun _ => 0)

def quiescent_HybInDw [hHybInDw : Cert.HybInDw.Facts] : Prop :=
  ∀ (m : (ℓ : Loc Cert.HybInDw.nD Cert.HybInDw.τ Cert.HybInDw.sig) → Buf (Elt Bits) ℓ) (g : Dev Cert.HybInDw.nD → PrngReg), Pre_HybInDw m →
    θ_run (Cert.HybInDw.defs (F := Bits)) (onTc (τ := Cert.HybInDw.τ) (Cert.HybInDw.main (F := Bits))) ⟨m, fun _ => 0, g⟩ (fun r => (∀ c : Dev Cert.HybInDw.nD,
      r.2.mem ((c.tc : Thread Cert.HybInDw.nD Cert.HybInDw.τ).loc Cert.HybInDw.main_arg0) = m ((c.tc : Thread Cert.HybInDw.nD Cert.HybInDw.τ).loc Cert.HybInDw.main_arg0)
      ∧ r.2.mem ((c.tc : Thread Cert.HybInDw.nD Cert.HybInDw.τ).loc Cert.HybInDw.main_arg1) = m ((c.tc : Thread Cert.HybInDw.nD Cert.HybInDw.τ).loc Cert.HybInDw.main_arg1))
      ∧ r.2.sem = fun _ => 0)

def quiescent_HybInDwIdeal [hHybInDwIdeal : Cert.HybInDwIdeal.Facts] : Prop :=
  ∀ (m : (ℓ : Loc Cert.HybInDwIdeal.nD Cert.HybInDwIdeal.τ Cert.HybInDwIdeal.sig) → Buf (Elt Ideal) ℓ) (g : Dev Cert.HybInDwIdeal.nD → PrngReg), Pre_HybInDwIdeal m →
    θ_run (Cert.HybInDwIdeal.defs (F := Ideal)) (onTc (τ := Cert.HybInDwIdeal.τ) (Cert.HybInDwIdeal.main (F := Ideal))) ⟨m, fun _ => 0, g⟩ (fun r => (∀ c : Dev Cert.HybInDwIdeal.nD,
      r.2.mem ((c.tc : Thread Cert.HybInDwIdeal.nD Cert.HybInDwIdeal.τ).loc Cert.HybInDwIdeal.main_arg0) = m ((c.tc : Thread Cert.HybInDwIdeal.nD Cert.HybInDwIdeal.τ).loc Cert.HybInDwIdeal.main_arg0)
      ∧ r.2.mem ((c.tc : Thread Cert.HybInDwIdeal.nD Cert.HybInDwIdeal.τ).loc Cert.HybInDwIdeal.main_arg1) = m ((c.tc : Thread Cert.HybInDwIdeal.nD Cert.HybInDwIdeal.τ).loc Cert.HybInDwIdeal.main_arg1))
      ∧ r.2.sem = fun _ => 0)

def quiescent_HybInDwRefIdeal [hHybInDwRefIdeal : Cert.HybInDwRefIdeal.Facts] : Prop :=
  ∀ (m : (ℓ : Loc Cert.HybInDwRefIdeal.nD Cert.HybInDwRefIdeal.τ Cert.HybInDwRefIdeal.sig) → Buf (Elt Ideal) ℓ) (g : Dev Cert.HybInDwRefIdeal.nD → PrngReg), Pre_HybInDwRefIdeal m →
    θ_run (Cert.HybInDwRefIdeal.defs (F := Ideal)) (onTc (τ := Cert.HybInDwRefIdeal.τ) (Cert.HybInDwRefIdeal.main (F := Ideal))) ⟨m, fun _ => 0, g⟩ (fun r => (∀ c : Dev Cert.HybInDwRefIdeal.nD,
      r.2.mem ((c.tc : Thread Cert.HybInDwRefIdeal.nD Cert.HybInDwRefIdeal.τ).loc Cert.HybInDwRefIdeal.main_arg0) = m ((c.tc : Thread Cert.HybInDwRefIdeal.nD Cert.HybInDwRefIdeal.τ).loc Cert.HybInDwRefIdeal.main_arg0)
      ∧ r.2.mem ((c.tc : Thread Cert.HybInDwRefIdeal.nD Cert.HybInDwRefIdeal.τ).loc Cert.HybInDwRefIdeal.main_arg1) = m ((c.tc : Thread Cert.HybInDwRefIdeal.nD Cert.HybInDwRefIdeal.τ).loc Cert.HybInDwRefIdeal.main_arg1))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1))
      ∧ r.2.sem = fun _ => 0)

def quiescent_SwaOut [hSwaOut : Cert.SwaOut.Facts] : Prop :=
  ∀ (m : (ℓ : Loc Cert.SwaOut.nD Cert.SwaOut.τ Cert.SwaOut.sig) → Buf (Elt Bits) ℓ) (g : Dev Cert.SwaOut.nD → PrngReg), Pre_SwaOut m →
    θ_run (Cert.SwaOut.defs (F := Bits)) (onTc (τ := Cert.SwaOut.τ) (Cert.SwaOut.main (F := Bits))) ⟨m, fun _ => 0, g⟩ (fun r => (∀ c : Dev Cert.SwaOut.nD,
      r.2.mem ((c.tc : Thread Cert.SwaOut.nD Cert.SwaOut.τ).loc Cert.SwaOut.main_arg0) = m ((c.tc : Thread Cert.SwaOut.nD Cert.SwaOut.τ).loc Cert.SwaOut.main_arg0)
      ∧ r.2.mem ((c.tc : Thread Cert.SwaOut.nD Cert.SwaOut.τ).loc Cert.SwaOut.main_arg1) = m ((c.tc : Thread Cert.SwaOut.nD Cert.SwaOut.τ).loc Cert.SwaOut.main_arg1)
      ∧ r.2.mem ((c.tc : Thread Cert.SwaOut.nD Cert.SwaOut.τ).loc Cert.SwaOut.main_arg2) = m ((c.tc : Thread Cert.SwaOut.nD Cert.SwaOut.τ).loc Cert.SwaOut.main_arg2))
      ∧ r.2.sem = fun _ => 0)

def quiescent_SwaOutIdeal [hSwaOutIdeal : Cert.SwaOutIdeal.Facts] : Prop :=
  ∀ (m : (ℓ : Loc Cert.SwaOutIdeal.nD Cert.SwaOutIdeal.τ Cert.SwaOutIdeal.sig) → Buf (Elt Ideal) ℓ) (g : Dev Cert.SwaOutIdeal.nD → PrngReg), Pre_SwaOutIdeal m →
    θ_run (Cert.SwaOutIdeal.defs (F := Ideal)) (onTc (τ := Cert.SwaOutIdeal.τ) (Cert.SwaOutIdeal.main (F := Ideal))) ⟨m, fun _ => 0, g⟩ (fun r => (∀ c : Dev Cert.SwaOutIdeal.nD,
      r.2.mem ((c.tc : Thread Cert.SwaOutIdeal.nD Cert.SwaOutIdeal.τ).loc Cert.SwaOutIdeal.main_arg0) = m ((c.tc : Thread Cert.SwaOutIdeal.nD Cert.SwaOutIdeal.τ).loc Cert.SwaOutIdeal.main_arg0)
      ∧ r.2.mem ((c.tc : Thread Cert.SwaOutIdeal.nD Cert.SwaOutIdeal.τ).loc Cert.SwaOutIdeal.main_arg1) = m ((c.tc : Thread Cert.SwaOutIdeal.nD Cert.SwaOutIdeal.τ).loc Cert.SwaOutIdeal.main_arg1)
      ∧ r.2.mem ((c.tc : Thread Cert.SwaOutIdeal.nD Cert.SwaOutIdeal.τ).loc Cert.SwaOutIdeal.main_arg2) = m ((c.tc : Thread Cert.SwaOutIdeal.nD Cert.SwaOutIdeal.τ).loc Cert.SwaOutIdeal.main_arg2))
      ∧ r.2.sem = fun _ => 0)

def quiescent_SwaOutRefIdeal [hSwaOutRefIdeal : Cert.SwaOutRefIdeal.Facts] : Prop :=
  ∀ (m : (ℓ : Loc Cert.SwaOutRefIdeal.nD Cert.SwaOutRefIdeal.τ Cert.SwaOutRefIdeal.sig) → Buf (Elt Ideal) ℓ) (g : Dev Cert.SwaOutRefIdeal.nD → PrngReg), Pre_SwaOutRefIdeal m →
    θ_run (Cert.SwaOutRefIdeal.defs (F := Ideal)) (onTc (τ := Cert.SwaOutRefIdeal.τ) (Cert.SwaOutRefIdeal.main (F := Ideal))) ⟨m, fun _ => 0, g⟩ (fun r => (∀ c : Dev Cert.SwaOutRefIdeal.nD,
      r.2.mem ((c.tc : Thread Cert.SwaOutRefIdeal.nD Cert.SwaOutRefIdeal.τ).loc Cert.SwaOutRefIdeal.main_arg0) = m ((c.tc : Thread Cert.SwaOutRefIdeal.nD Cert.SwaOutRefIdeal.τ).loc Cert.SwaOutRefIdeal.main_arg0)
      ∧ r.2.mem ((c.tc : Thread Cert.SwaOutRefIdeal.nD Cert.SwaOutRefIdeal.τ).loc Cert.SwaOutRefIdeal.main_arg1) = m ((c.tc : Thread Cert.SwaOutRefIdeal.nD Cert.SwaOutRefIdeal.τ).loc Cert.SwaOutRefIdeal.main_arg1)
      ∧ r.2.mem ((c.tc : Thread Cert.SwaOutRefIdeal.nD Cert.SwaOutRefIdeal.τ).loc Cert.SwaOutRefIdeal.main_arg2) = m ((c.tc : Thread Cert.SwaOutRefIdeal.nD Cert.SwaOutRefIdeal.τ).loc Cert.SwaOutRefIdeal.main_arg2))
      ∧ r.2.sem = fun _ => 0)

def quiescent_SwaOutDw [hSwaOutDw : Cert.SwaOutDw.Facts] : Prop :=
  ∀ (m : (ℓ : Loc Cert.SwaOutDw.nD Cert.SwaOutDw.τ Cert.SwaOutDw.sig) → Buf (Elt Bits) ℓ) (g : Dev Cert.SwaOutDw.nD → PrngReg), Pre_SwaOutDw m →
    θ_run (Cert.SwaOutDw.defs (F := Bits)) (onTc (τ := Cert.SwaOutDw.τ) (Cert.SwaOutDw.main (F := Bits))) ⟨m, fun _ => 0, g⟩ (fun r => (∀ c : Dev Cert.SwaOutDw.nD,
      r.2.mem ((c.tc : Thread Cert.SwaOutDw.nD Cert.SwaOutDw.τ).loc Cert.SwaOutDw.main_arg0) = m ((c.tc : Thread Cert.SwaOutDw.nD Cert.SwaOutDw.τ).loc Cert.SwaOutDw.main_arg0)
      ∧ r.2.mem ((c.tc : Thread Cert.SwaOutDw.nD Cert.SwaOutDw.τ).loc Cert.SwaOutDw.main_arg1) = m ((c.tc : Thread Cert.SwaOutDw.nD Cert.SwaOutDw.τ).loc Cert.SwaOutDw.main_arg1))
      ∧ r.2.sem = fun _ => 0)

def quiescent_SwaOutDwIdeal [hSwaOutDwIdeal : Cert.SwaOutDwIdeal.Facts] : Prop :=
  ∀ (m : (ℓ : Loc Cert.SwaOutDwIdeal.nD Cert.SwaOutDwIdeal.τ Cert.SwaOutDwIdeal.sig) → Buf (Elt Ideal) ℓ) (g : Dev Cert.SwaOutDwIdeal.nD → PrngReg), Pre_SwaOutDwIdeal m →
    θ_run (Cert.SwaOutDwIdeal.defs (F := Ideal)) (onTc (τ := Cert.SwaOutDwIdeal.τ) (Cert.SwaOutDwIdeal.main (F := Ideal))) ⟨m, fun _ => 0, g⟩ (fun r => (∀ c : Dev Cert.SwaOutDwIdeal.nD,
      r.2.mem ((c.tc : Thread Cert.SwaOutDwIdeal.nD Cert.SwaOutDwIdeal.τ).loc Cert.SwaOutDwIdeal.main_arg0) = m ((c.tc : Thread Cert.SwaOutDwIdeal.nD Cert.SwaOutDwIdeal.τ).loc Cert.SwaOutDwIdeal.main_arg0)
      ∧ r.2.mem ((c.tc : Thread Cert.SwaOutDwIdeal.nD Cert.SwaOutDwIdeal.τ).loc Cert.SwaOutDwIdeal.main_arg1) = m ((c.tc : Thread Cert.SwaOutDwIdeal.nD Cert.SwaOutDwIdeal.τ).loc Cert.SwaOutDwIdeal.main_arg1))
      ∧ r.2.sem = fun _ => 0)

def quiescent_SwaOutDwRefIdeal [hSwaOutDwRefIdeal : Cert.SwaOutDwRefIdeal.Facts] : Prop :=
  ∀ (m : (ℓ : Loc Cert.SwaOutDwRefIdeal.nD Cert.SwaOutDwRefIdeal.τ Cert.SwaOutDwRefIdeal.sig) → Buf (Elt Ideal) ℓ) (g : Dev Cert.SwaOutDwRefIdeal.nD → PrngReg), Pre_SwaOutDwRefIdeal m →
    θ_run (Cert.SwaOutDwRefIdeal.defs (F := Ideal)) (onTc (τ := Cert.SwaOutDwRefIdeal.τ) (Cert.SwaOutDwRefIdeal.main (F := Ideal))) ⟨m, fun _ => 0, g⟩ (fun r => (∀ c : Dev Cert.SwaOutDwRefIdeal.nD,
      r.2.mem ((c.tc : Thread Cert.SwaOutDwRefIdeal.nD Cert.SwaOutDwRefIdeal.τ).loc Cert.SwaOutDwRefIdeal.main_arg0) = m ((c.tc : Thread Cert.SwaOutDwRefIdeal.nD Cert.SwaOutDwRefIdeal.τ).loc Cert.SwaOutDwRefIdeal.main_arg0)
      ∧ r.2.mem ((c.tc : Thread Cert.SwaOutDwRefIdeal.nD Cert.SwaOutDwRefIdeal.τ).loc Cert.SwaOutDwRefIdeal.main_arg1) = m ((c.tc : Thread Cert.SwaOutDwRefIdeal.nD Cert.SwaOutDwRefIdeal.τ).loc Cert.SwaOutDwRefIdeal.main_arg1))
      ∧ r.2.sem = fun _ => 0)

def quiescent_SwaInDh [hSwaInDh : Cert.SwaInDh.Facts] : Prop :=
  ∀ (m : (ℓ : Loc Cert.SwaInDh.nD Cert.SwaInDh.τ Cert.SwaInDh.sig) → Buf (Elt Bits) ℓ) (g : Dev Cert.SwaInDh.nD → PrngReg), Pre_SwaInDh m →
    θ_run (Cert.SwaInDh.defs (F := Bits)) (onTc (τ := Cert.SwaInDh.τ) (Cert.SwaInDh.main (F := Bits))) ⟨m, fun _ => 0, g⟩ (fun r => (∀ c : Dev Cert.SwaInDh.nD,
      r.2.mem ((c.tc : Thread Cert.SwaInDh.nD Cert.SwaInDh.τ).loc Cert.SwaInDh.main_arg0) = m ((c.tc : Thread Cert.SwaInDh.nD Cert.SwaInDh.τ).loc Cert.SwaInDh.main_arg0)
      ∧ r.2.mem ((c.tc : Thread Cert.SwaInDh.nD Cert.SwaInDh.τ).loc Cert.SwaInDh.main_arg1) = m ((c.tc : Thread Cert.SwaInDh.nD Cert.SwaInDh.τ).loc Cert.SwaInDh.main_arg1))
      ∧ r.2.sem = fun _ => 0)

def quiescent_SwaInDhIdeal [hSwaInDhIdeal : Cert.SwaInDhIdeal.Facts] : Prop :=
  ∀ (m : (ℓ : Loc Cert.SwaInDhIdeal.nD Cert.SwaInDhIdeal.τ Cert.SwaInDhIdeal.sig) → Buf (Elt Ideal) ℓ) (g : Dev Cert.SwaInDhIdeal.nD → PrngReg), Pre_SwaInDhIdeal m →
    θ_run (Cert.SwaInDhIdeal.defs (F := Ideal)) (onTc (τ := Cert.SwaInDhIdeal.τ) (Cert.SwaInDhIdeal.main (F := Ideal))) ⟨m, fun _ => 0, g⟩ (fun r => (∀ c : Dev Cert.SwaInDhIdeal.nD,
      r.2.mem ((c.tc : Thread Cert.SwaInDhIdeal.nD Cert.SwaInDhIdeal.τ).loc Cert.SwaInDhIdeal.main_arg0) = m ((c.tc : Thread Cert.SwaInDhIdeal.nD Cert.SwaInDhIdeal.τ).loc Cert.SwaInDhIdeal.main_arg0)
      ∧ r.2.mem ((c.tc : Thread Cert.SwaInDhIdeal.nD Cert.SwaInDhIdeal.τ).loc Cert.SwaInDhIdeal.main_arg1) = m ((c.tc : Thread Cert.SwaInDhIdeal.nD Cert.SwaInDhIdeal.τ).loc Cert.SwaInDhIdeal.main_arg1))
      ∧ r.2.sem = fun _ => 0)

def quiescent_SwaInDhRefIdeal [hSwaInDhRefIdeal : Cert.SwaInDhRefIdeal.Facts] : Prop :=
  ∀ (m : (ℓ : Loc Cert.SwaInDhRefIdeal.nD Cert.SwaInDhRefIdeal.τ Cert.SwaInDhRefIdeal.sig) → Buf (Elt Ideal) ℓ) (g : Dev Cert.SwaInDhRefIdeal.nD → PrngReg), Pre_SwaInDhRefIdeal m →
    θ_run (Cert.SwaInDhRefIdeal.defs (F := Ideal)) (onTc (τ := Cert.SwaInDhRefIdeal.τ) (Cert.SwaInDhRefIdeal.main (F := Ideal))) ⟨m, fun _ => 0, g⟩ (fun r => (∀ c : Dev Cert.SwaInDhRefIdeal.nD,
      r.2.mem ((c.tc : Thread Cert.SwaInDhRefIdeal.nD Cert.SwaInDhRefIdeal.τ).loc Cert.SwaInDhRefIdeal.main_arg0) = m ((c.tc : Thread Cert.SwaInDhRefIdeal.nD Cert.SwaInDhRefIdeal.τ).loc Cert.SwaInDhRefIdeal.main_arg0)
      ∧ r.2.mem ((c.tc : Thread Cert.SwaInDhRefIdeal.nD Cert.SwaInDhRefIdeal.τ).loc Cert.SwaInDhRefIdeal.main_arg1) = m ((c.tc : Thread Cert.SwaInDhRefIdeal.nD Cert.SwaInDhRefIdeal.τ).loc Cert.SwaInDhRefIdeal.main_arg1))
      ∧ r.2.sem = fun _ => 0)

def quiescent_SwaInDw [hSwaInDw : Cert.SwaInDw.Facts] : Prop :=
  ∀ (m : (ℓ : Loc Cert.SwaInDw.nD Cert.SwaInDw.τ Cert.SwaInDw.sig) → Buf (Elt Bits) ℓ) (g : Dev Cert.SwaInDw.nD → PrngReg), Pre_SwaInDw m →
    θ_run (Cert.SwaInDw.defs (F := Bits)) (onTc (τ := Cert.SwaInDw.τ) (Cert.SwaInDw.main (F := Bits))) ⟨m, fun _ => 0, g⟩ (fun r => (∀ c : Dev Cert.SwaInDw.nD,
      r.2.mem ((c.tc : Thread Cert.SwaInDw.nD Cert.SwaInDw.τ).loc Cert.SwaInDw.main_arg0) = m ((c.tc : Thread Cert.SwaInDw.nD Cert.SwaInDw.τ).loc Cert.SwaInDw.main_arg0)
      ∧ r.2.mem ((c.tc : Thread Cert.SwaInDw.nD Cert.SwaInDw.τ).loc Cert.SwaInDw.main_arg1) = m ((c.tc : Thread Cert.SwaInDw.nD Cert.SwaInDw.τ).loc Cert.SwaInDw.main_arg1))
      ∧ r.2.sem = fun _ => 0)

def quiescent_SwaInDwIdeal [hSwaInDwIdeal : Cert.SwaInDwIdeal.Facts] : Prop :=
  ∀ (m : (ℓ : Loc Cert.SwaInDwIdeal.nD Cert.SwaInDwIdeal.τ Cert.SwaInDwIdeal.sig) → Buf (Elt Ideal) ℓ) (g : Dev Cert.SwaInDwIdeal.nD → PrngReg), Pre_SwaInDwIdeal m →
    θ_run (Cert.SwaInDwIdeal.defs (F := Ideal)) (onTc (τ := Cert.SwaInDwIdeal.τ) (Cert.SwaInDwIdeal.main (F := Ideal))) ⟨m, fun _ => 0, g⟩ (fun r => (∀ c : Dev Cert.SwaInDwIdeal.nD,
      r.2.mem ((c.tc : Thread Cert.SwaInDwIdeal.nD Cert.SwaInDwIdeal.τ).loc Cert.SwaInDwIdeal.main_arg0) = m ((c.tc : Thread Cert.SwaInDwIdeal.nD Cert.SwaInDwIdeal.τ).loc Cert.SwaInDwIdeal.main_arg0)
      ∧ r.2.mem ((c.tc : Thread Cert.SwaInDwIdeal.nD Cert.SwaInDwIdeal.τ).loc Cert.SwaInDwIdeal.main_arg1) = m ((c.tc : Thread Cert.SwaInDwIdeal.nD Cert.SwaInDwIdeal.τ).loc Cert.SwaInDwIdeal.main_arg1))
      ∧ r.2.sem = fun _ => 0)

def quiescent_SwaInDwRefIdeal [hSwaInDwRefIdeal : Cert.SwaInDwRefIdeal.Facts] : Prop :=
  ∀ (m : (ℓ : Loc Cert.SwaInDwRefIdeal.nD Cert.SwaInDwRefIdeal.τ Cert.SwaInDwRefIdeal.sig) → Buf (Elt Ideal) ℓ) (g : Dev Cert.SwaInDwRefIdeal.nD → PrngReg), Pre_SwaInDwRefIdeal m →
    θ_run (Cert.SwaInDwRefIdeal.defs (F := Ideal)) (onTc (τ := Cert.SwaInDwRefIdeal.τ) (Cert.SwaInDwRefIdeal.main (F := Ideal))) ⟨m, fun _ => 0, g⟩ (fun r => (∀ c : Dev Cert.SwaInDwRefIdeal.nD,
      r.2.mem ((c.tc : Thread Cert.SwaInDwRefIdeal.nD Cert.SwaInDwRefIdeal.τ).loc Cert.SwaInDwRefIdeal.main_arg0) = m ((c.tc : Thread Cert.SwaInDwRefIdeal.nD Cert.SwaInDwRefIdeal.τ).loc Cert.SwaInDwRefIdeal.main_arg0)
      ∧ r.2.mem ((c.tc : Thread Cert.SwaInDwRefIdeal.nD Cert.SwaInDwRefIdeal.τ).loc Cert.SwaInDwRefIdeal.main_arg1) = m ((c.tc : Thread Cert.SwaInDwRefIdeal.nD Cert.SwaInDwRefIdeal.τ).loc Cert.SwaInDwRefIdeal.main_arg1))
      ∧ r.2.sem = fun _ => 0)

def quiescent_XqIn [hXqIn : Cert.XqIn.Facts] : Prop :=
  ∀ (m : (ℓ : Loc Cert.XqIn.nD Cert.XqIn.τ Cert.XqIn.sig) → Buf (Elt Bits) ℓ) (g : Dev Cert.XqIn.nD → PrngReg), Pre_XqIn m →
    θ_run (Cert.XqIn.defs (F := Bits)) (onTc (τ := Cert.XqIn.τ) (Cert.XqIn.main (F := Bits))) ⟨m, fun _ => 0, g⟩ (fun r => (∀ c : Dev Cert.XqIn.nD,
      r.2.mem ((c.tc : Thread Cert.XqIn.nD Cert.XqIn.τ).loc Cert.XqIn.main_arg0) = m ((c.tc : Thread Cert.XqIn.nD Cert.XqIn.τ).loc Cert.XqIn.main_arg0)
      ∧ r.2.mem ((c.tc : Thread Cert.XqIn.nD Cert.XqIn.τ).loc Cert.XqIn.main_arg1) = m ((c.tc : Thread Cert.XqIn.nD Cert.XqIn.τ).loc Cert.XqIn.main_arg1))
      ∧ r.2.sem = fun _ => 0)

def quiescent_XqInIdeal [hXqInIdeal : Cert.XqInIdeal.Facts] : Prop :=
  ∀ (m : (ℓ : Loc Cert.XqInIdeal.nD Cert.XqInIdeal.τ Cert.XqInIdeal.sig) → Buf (Elt Ideal) ℓ) (g : Dev Cert.XqInIdeal.nD → PrngReg), Pre_XqInIdeal m →
    θ_run (Cert.XqInIdeal.defs (F := Ideal)) (onTc (τ := Cert.XqInIdeal.τ) (Cert.XqInIdeal.main (F := Ideal))) ⟨m, fun _ => 0, g⟩ (fun r => (∀ c : Dev Cert.XqInIdeal.nD,
      r.2.mem ((c.tc : Thread Cert.XqInIdeal.nD Cert.XqInIdeal.τ).loc Cert.XqInIdeal.main_arg0) = m ((c.tc : Thread Cert.XqInIdeal.nD Cert.XqInIdeal.τ).loc Cert.XqInIdeal.main_arg0)
      ∧ r.2.mem ((c.tc : Thread Cert.XqInIdeal.nD Cert.XqInIdeal.τ).loc Cert.XqInIdeal.main_arg1) = m ((c.tc : Thread Cert.XqInIdeal.nD Cert.XqInIdeal.τ).loc Cert.XqInIdeal.main_arg1))
      ∧ r.2.sem = fun _ => 0)

def quiescent_XqInRefIdeal [hXqInRefIdeal : Cert.XqInRefIdeal.Facts] : Prop :=
  ∀ (m : (ℓ : Loc Cert.XqInRefIdeal.nD Cert.XqInRefIdeal.τ Cert.XqInRefIdeal.sig) → Buf (Elt Ideal) ℓ) (g : Dev Cert.XqInRefIdeal.nD → PrngReg), Pre_XqInRefIdeal m →
    θ_run (Cert.XqInRefIdeal.defs (F := Ideal)) (onTc (τ := Cert.XqInRefIdeal.τ) (Cert.XqInRefIdeal.main (F := Ideal))) ⟨m, fun _ => 0, g⟩ (fun r => (∀ c : Dev Cert.XqInRefIdeal.nD,
      r.2.mem ((c.tc : Thread Cert.XqInRefIdeal.nD Cert.XqInRefIdeal.τ).loc Cert.XqInRefIdeal.main_arg0) = m ((c.tc : Thread Cert.XqInRefIdeal.nD Cert.XqInRefIdeal.τ).loc Cert.XqInRefIdeal.main_arg0)
      ∧ r.2.mem ((c.tc : Thread Cert.XqInRefIdeal.nD Cert.XqInRefIdeal.τ).loc Cert.XqInRefIdeal.main_arg1) = m ((c.tc : Thread Cert.XqInRefIdeal.nD Cert.XqInRefIdeal.τ).loc Cert.XqInRefIdeal.main_arg1))
      ∧ r.2.sem = fun _ => 0)

def quiescent_XoOut [hXoOut : Cert.XoOut.Facts] : Prop :=
  ∀ (m : (ℓ : Loc Cert.XoOut.nD Cert.XoOut.τ Cert.XoOut.sig) → Buf (Elt Bits) ℓ) (g : Dev Cert.XoOut.nD → PrngReg), Pre_XoOut m →
    θ_run (Cert.XoOut.defs (F := Bits)) (onTc (τ := Cert.XoOut.τ) (Cert.XoOut.main (F := Bits))) ⟨m, fun _ => 0, g⟩ (fun r => (∀ c : Dev Cert.XoOut.nD,
      r.2.mem ((c.tc : Thread Cert.XoOut.nD Cert.XoOut.τ).loc Cert.XoOut.main_arg0) = m ((c.tc : Thread Cert.XoOut.nD Cert.XoOut.τ).loc Cert.XoOut.main_arg0)
      ∧ r.2.mem ((c.tc : Thread Cert.XoOut.nD Cert.XoOut.τ).loc Cert.XoOut.main_arg1) = m ((c.tc : Thread Cert.XoOut.nD Cert.XoOut.τ).loc Cert.XoOut.main_arg1)
      ∧ r.2.mem ((c.tc : Thread Cert.XoOut.nD Cert.XoOut.τ).loc Cert.XoOut.main_arg2) = m ((c.tc : Thread Cert.XoOut.nD Cert.XoOut.τ).loc Cert.XoOut.main_arg2))
      ∧ r.2.sem = fun _ => 0)

def quiescent_XoOutIdeal [hXoOutIdeal : Cert.XoOutIdeal.Facts] : Prop :=
  ∀ (m : (ℓ : Loc Cert.XoOutIdeal.nD Cert.XoOutIdeal.τ Cert.XoOutIdeal.sig) → Buf (Elt Ideal) ℓ) (g : Dev Cert.XoOutIdeal.nD → PrngReg), Pre_XoOutIdeal m →
    θ_run (Cert.XoOutIdeal.defs (F := Ideal)) (onTc (τ := Cert.XoOutIdeal.τ) (Cert.XoOutIdeal.main (F := Ideal))) ⟨m, fun _ => 0, g⟩ (fun r => (∀ c : Dev Cert.XoOutIdeal.nD,
      r.2.mem ((c.tc : Thread Cert.XoOutIdeal.nD Cert.XoOutIdeal.τ).loc Cert.XoOutIdeal.main_arg0) = m ((c.tc : Thread Cert.XoOutIdeal.nD Cert.XoOutIdeal.τ).loc Cert.XoOutIdeal.main_arg0)
      ∧ r.2.mem ((c.tc : Thread Cert.XoOutIdeal.nD Cert.XoOutIdeal.τ).loc Cert.XoOutIdeal.main_arg1) = m ((c.tc : Thread Cert.XoOutIdeal.nD Cert.XoOutIdeal.τ).loc Cert.XoOutIdeal.main_arg1)
      ∧ r.2.mem ((c.tc : Thread Cert.XoOutIdeal.nD Cert.XoOutIdeal.τ).loc Cert.XoOutIdeal.main_arg2) = m ((c.tc : Thread Cert.XoOutIdeal.nD Cert.XoOutIdeal.τ).loc Cert.XoOutIdeal.main_arg2))
      ∧ r.2.sem = fun _ => 0)

def quiescent_XoOutRefIdeal [hXoOutRefIdeal : Cert.XoOutRefIdeal.Facts] : Prop :=
  ∀ (m : (ℓ : Loc Cert.XoOutRefIdeal.nD Cert.XoOutRefIdeal.τ Cert.XoOutRefIdeal.sig) → Buf (Elt Ideal) ℓ) (g : Dev Cert.XoOutRefIdeal.nD → PrngReg), Pre_XoOutRefIdeal m →
    θ_run (Cert.XoOutRefIdeal.defs (F := Ideal)) (onTc (τ := Cert.XoOutRefIdeal.τ) (Cert.XoOutRefIdeal.main (F := Ideal))) ⟨m, fun _ => 0, g⟩ (fun r => (∀ c : Dev Cert.XoOutRefIdeal.nD,
      r.2.mem ((c.tc : Thread Cert.XoOutRefIdeal.nD Cert.XoOutRefIdeal.τ).loc Cert.XoOutRefIdeal.main_arg0) = m ((c.tc : Thread Cert.XoOutRefIdeal.nD Cert.XoOutRefIdeal.τ).loc Cert.XoOutRefIdeal.main_arg0)
      ∧ r.2.mem ((c.tc : Thread Cert.XoOutRefIdeal.nD Cert.XoOutRefIdeal.τ).loc Cert.XoOutRefIdeal.main_arg1) = m ((c.tc : Thread Cert.XoOutRefIdeal.nD Cert.XoOutRefIdeal.τ).loc Cert.XoOutRefIdeal.main_arg1)
      ∧ r.2.mem ((c.tc : Thread Cert.XoOutRefIdeal.nD Cert.XoOutRefIdeal.τ).loc Cert.XoOutRefIdeal.main_arg2) = m ((c.tc : Thread Cert.XoOutRefIdeal.nD Cert.XoOutRefIdeal.τ).loc Cert.XoOutRefIdeal.main_arg2))
      ∧ r.2.sem = fun _ => 0)

def quiescent_XoDo [hXoDo : Cert.XoDo.Facts] : Prop :=
  ∀ (m : (ℓ : Loc Cert.XoDo.nD Cert.XoDo.τ Cert.XoDo.sig) → Buf (Elt Bits) ℓ) (g : Dev Cert.XoDo.nD → PrngReg), Pre_XoDo m →
    θ_run (Cert.XoDo.defs (F := Bits)) (onTc (τ := Cert.XoDo.τ) (Cert.XoDo.main (F := Bits))) ⟨m, fun _ => 0, g⟩ (fun r => (∀ c : Dev Cert.XoDo.nD,
      r.2.mem ((c.tc : Thread Cert.XoDo.nD Cert.XoDo.τ).loc Cert.XoDo.main_arg0) = m ((c.tc : Thread Cert.XoDo.nD Cert.XoDo.τ).loc Cert.XoDo.main_arg0)
      ∧ r.2.mem ((c.tc : Thread Cert.XoDo.nD Cert.XoDo.τ).loc Cert.XoDo.main_arg1) = m ((c.tc : Thread Cert.XoDo.nD Cert.XoDo.τ).loc Cert.XoDo.main_arg1))
      ∧ r.2.sem = fun _ => 0)

def quiescent_XoDoIdeal [hXoDoIdeal : Cert.XoDoIdeal.Facts] : Prop :=
  ∀ (m : (ℓ : Loc Cert.XoDoIdeal.nD Cert.XoDoIdeal.τ Cert.XoDoIdeal.sig) → Buf (Elt Ideal) ℓ) (g : Dev Cert.XoDoIdeal.nD → PrngReg), Pre_XoDoIdeal m →
    θ_run (Cert.XoDoIdeal.defs (F := Ideal)) (onTc (τ := Cert.XoDoIdeal.τ) (Cert.XoDoIdeal.main (F := Ideal))) ⟨m, fun _ => 0, g⟩ (fun r => (∀ c : Dev Cert.XoDoIdeal.nD,
      r.2.mem ((c.tc : Thread Cert.XoDoIdeal.nD Cert.XoDoIdeal.τ).loc Cert.XoDoIdeal.main_arg0) = m ((c.tc : Thread Cert.XoDoIdeal.nD Cert.XoDoIdeal.τ).loc Cert.XoDoIdeal.main_arg0)
      ∧ r.2.mem ((c.tc : Thread Cert.XoDoIdeal.nD Cert.XoDoIdeal.τ).loc Cert.XoDoIdeal.main_arg1) = m ((c.tc : Thread Cert.XoDoIdeal.nD Cert.XoDoIdeal.τ).loc Cert.XoDoIdeal.main_arg1))
      ∧ r.2.sem = fun _ => 0)

def quiescent_XoDoRefIdeal [hXoDoRefIdeal : Cert.XoDoRefIdeal.Facts] : Prop :=
  ∀ (m : (ℓ : Loc Cert.XoDoRefIdeal.nD Cert.XoDoRefIdeal.τ Cert.XoDoRefIdeal.sig) → Buf (Elt Ideal) ℓ) (g : Dev Cert.XoDoRefIdeal.nD → PrngReg), Pre_XoDoRefIdeal m →
    θ_run (Cert.XoDoRefIdeal.defs (F := Ideal)) (onTc (τ := Cert.XoDoRefIdeal.τ) (Cert.XoDoRefIdeal.main (F := Ideal))) ⟨m, fun _ => 0, g⟩ (fun r => (∀ c : Dev Cert.XoDoRefIdeal.nD,
      r.2.mem ((c.tc : Thread Cert.XoDoRefIdeal.nD Cert.XoDoRefIdeal.τ).loc Cert.XoDoRefIdeal.main_arg0) = m ((c.tc : Thread Cert.XoDoRefIdeal.nD Cert.XoDoRefIdeal.τ).loc Cert.XoDoRefIdeal.main_arg0)
      ∧ r.2.mem ((c.tc : Thread Cert.XoDoRefIdeal.nD Cert.XoDoRefIdeal.τ).loc Cert.XoDoRefIdeal.main_arg1) = m ((c.tc : Thread Cert.XoDoRefIdeal.nD Cert.XoDoRefIdeal.τ).loc Cert.XoDoRefIdeal.main_arg1))
      ∧ r.2.sem = fun _ => 0)

def quiescent_XoDw [hXoDw : Cert.XoDw.Facts] : Prop :=
  ∀ (m : (ℓ : Loc Cert.XoDw.nD Cert.XoDw.τ Cert.XoDw.sig) → Buf (Elt Bits) ℓ) (g : Dev Cert.XoDw.nD → PrngReg), Pre_XoDw m →
    θ_run (Cert.XoDw.defs (F := Bits)) (onTc (τ := Cert.XoDw.τ) (Cert.XoDw.main (F := Bits))) ⟨m, fun _ => 0, g⟩ (fun r => (∀ c : Dev Cert.XoDw.nD,
      r.2.mem ((c.tc : Thread Cert.XoDw.nD Cert.XoDw.τ).loc Cert.XoDw.main_arg0) = m ((c.tc : Thread Cert.XoDw.nD Cert.XoDw.τ).loc Cert.XoDw.main_arg0)
      ∧ r.2.mem ((c.tc : Thread Cert.XoDw.nD Cert.XoDw.τ).loc Cert.XoDw.main_arg1) = m ((c.tc : Thread Cert.XoDw.nD Cert.XoDw.τ).loc Cert.XoDw.main_arg1))
      ∧ r.2.sem = fun _ => 0)

def quiescent_XoDwIdeal [hXoDwIdeal : Cert.XoDwIdeal.Facts] : Prop :=
  ∀ (m : (ℓ : Loc Cert.XoDwIdeal.nD Cert.XoDwIdeal.τ Cert.XoDwIdeal.sig) → Buf (Elt Ideal) ℓ) (g : Dev Cert.XoDwIdeal.nD → PrngReg), Pre_XoDwIdeal m →
    θ_run (Cert.XoDwIdeal.defs (F := Ideal)) (onTc (τ := Cert.XoDwIdeal.τ) (Cert.XoDwIdeal.main (F := Ideal))) ⟨m, fun _ => 0, g⟩ (fun r => (∀ c : Dev Cert.XoDwIdeal.nD,
      r.2.mem ((c.tc : Thread Cert.XoDwIdeal.nD Cert.XoDwIdeal.τ).loc Cert.XoDwIdeal.main_arg0) = m ((c.tc : Thread Cert.XoDwIdeal.nD Cert.XoDwIdeal.τ).loc Cert.XoDwIdeal.main_arg0)
      ∧ r.2.mem ((c.tc : Thread Cert.XoDwIdeal.nD Cert.XoDwIdeal.τ).loc Cert.XoDwIdeal.main_arg1) = m ((c.tc : Thread Cert.XoDwIdeal.nD Cert.XoDwIdeal.τ).loc Cert.XoDwIdeal.main_arg1))
      ∧ r.2.sem = fun _ => 0)

def quiescent_XoDwRefIdeal [hXoDwRefIdeal : Cert.XoDwRefIdeal.Facts] : Prop :=
  ∀ (m : (ℓ : Loc Cert.XoDwRefIdeal.nD Cert.XoDwRefIdeal.τ Cert.XoDwRefIdeal.sig) → Buf (Elt Ideal) ℓ) (g : Dev Cert.XoDwRefIdeal.nD → PrngReg), Pre_XoDwRefIdeal m →
    θ_run (Cert.XoDwRefIdeal.defs (F := Ideal)) (onTc (τ := Cert.XoDwRefIdeal.τ) (Cert.XoDwRefIdeal.main (F := Ideal))) ⟨m, fun _ => 0, g⟩ (fun r => (∀ c : Dev Cert.XoDwRefIdeal.nD,
      r.2.mem ((c.tc : Thread Cert.XoDwRefIdeal.nD Cert.XoDwRefIdeal.τ).loc Cert.XoDwRefIdeal.main_arg0) = m ((c.tc : Thread Cert.XoDwRefIdeal.nD Cert.XoDwRefIdeal.τ).loc Cert.XoDwRefIdeal.main_arg0)
      ∧ r.2.mem ((c.tc : Thread Cert.XoDwRefIdeal.nD Cert.XoDwRefIdeal.τ).loc Cert.XoDwRefIdeal.main_arg1) = m ((c.tc : Thread Cert.XoDwRefIdeal.nD Cert.XoDwRefIdeal.τ).loc Cert.XoDwRefIdeal.main_arg1))
      ∧ r.2.sem = fun _ => 0)

def quiescent_XqDh [hXqDh : Cert.XqDh.Facts] : Prop :=
  ∀ (m : (ℓ : Loc Cert.XqDh.nD Cert.XqDh.τ Cert.XqDh.sig) → Buf (Elt Bits) ℓ) (g : Dev Cert.XqDh.nD → PrngReg), Pre_XqDh m →
    θ_run (Cert.XqDh.defs (F := Bits)) (onTc (τ := Cert.XqDh.τ) (Cert.XqDh.main (F := Bits))) ⟨m, fun _ => 0, g⟩ (fun r => (∀ c : Dev Cert.XqDh.nD,
      r.2.mem ((c.tc : Thread Cert.XqDh.nD Cert.XqDh.τ).loc Cert.XqDh.main_arg0) = m ((c.tc : Thread Cert.XqDh.nD Cert.XqDh.τ).loc Cert.XqDh.main_arg0)
      ∧ r.2.mem ((c.tc : Thread Cert.XqDh.nD Cert.XqDh.τ).loc Cert.XqDh.main_arg1) = m ((c.tc : Thread Cert.XqDh.nD Cert.XqDh.τ).loc Cert.XqDh.main_arg1))
      ∧ r.2.sem = fun _ => 0)

def quiescent_XqDhIdeal [hXqDhIdeal : Cert.XqDhIdeal.Facts] : Prop :=
  ∀ (m : (ℓ : Loc Cert.XqDhIdeal.nD Cert.XqDhIdeal.τ Cert.XqDhIdeal.sig) → Buf (Elt Ideal) ℓ) (g : Dev Cert.XqDhIdeal.nD → PrngReg), Pre_XqDhIdeal m →
    θ_run (Cert.XqDhIdeal.defs (F := Ideal)) (onTc (τ := Cert.XqDhIdeal.τ) (Cert.XqDhIdeal.main (F := Ideal))) ⟨m, fun _ => 0, g⟩ (fun r => (∀ c : Dev Cert.XqDhIdeal.nD,
      r.2.mem ((c.tc : Thread Cert.XqDhIdeal.nD Cert.XqDhIdeal.τ).loc Cert.XqDhIdeal.main_arg0) = m ((c.tc : Thread Cert.XqDhIdeal.nD Cert.XqDhIdeal.τ).loc Cert.XqDhIdeal.main_arg0)
      ∧ r.2.mem ((c.tc : Thread Cert.XqDhIdeal.nD Cert.XqDhIdeal.τ).loc Cert.XqDhIdeal.main_arg1) = m ((c.tc : Thread Cert.XqDhIdeal.nD Cert.XqDhIdeal.τ).loc Cert.XqDhIdeal.main_arg1))
      ∧ r.2.sem = fun _ => 0)

def quiescent_XqDhRefIdeal [hXqDhRefIdeal : Cert.XqDhRefIdeal.Facts] : Prop :=
  ∀ (m : (ℓ : Loc Cert.XqDhRefIdeal.nD Cert.XqDhRefIdeal.τ Cert.XqDhRefIdeal.sig) → Buf (Elt Ideal) ℓ) (g : Dev Cert.XqDhRefIdeal.nD → PrngReg), Pre_XqDhRefIdeal m →
    θ_run (Cert.XqDhRefIdeal.defs (F := Ideal)) (onTc (τ := Cert.XqDhRefIdeal.τ) (Cert.XqDhRefIdeal.main (F := Ideal))) ⟨m, fun _ => 0, g⟩ (fun r => (∀ c : Dev Cert.XqDhRefIdeal.nD,
      r.2.mem ((c.tc : Thread Cert.XqDhRefIdeal.nD Cert.XqDhRefIdeal.τ).loc Cert.XqDhRefIdeal.main_arg0) = m ((c.tc : Thread Cert.XqDhRefIdeal.nD Cert.XqDhRefIdeal.τ).loc Cert.XqDhRefIdeal.main_arg0)
      ∧ r.2.mem ((c.tc : Thread Cert.XqDhRefIdeal.nD Cert.XqDhRefIdeal.τ).loc Cert.XqDhRefIdeal.main_arg1) = m ((c.tc : Thread Cert.XqDhRefIdeal.nD Cert.XqDhRefIdeal.τ).loc Cert.XqDhRefIdeal.main_arg1))
      ∧ r.2.sem = fun _ => 0)

def quiescent_XqDw [hXqDw : Cert.XqDw.Facts] : Prop :=
  ∀ (m : (ℓ : Loc Cert.XqDw.nD Cert.XqDw.τ Cert.XqDw.sig) → Buf (Elt Bits) ℓ) (g : Dev Cert.XqDw.nD → PrngReg), Pre_XqDw m →
    θ_run (Cert.XqDw.defs (F := Bits)) (onTc (τ := Cert.XqDw.τ) (Cert.XqDw.main (F := Bits))) ⟨m, fun _ => 0, g⟩ (fun r => (∀ c : Dev Cert.XqDw.nD,
      r.2.mem ((c.tc : Thread Cert.XqDw.nD Cert.XqDw.τ).loc Cert.XqDw.main_arg0) = m ((c.tc : Thread Cert.XqDw.nD Cert.XqDw.τ).loc Cert.XqDw.main_arg0)
      ∧ r.2.mem ((c.tc : Thread Cert.XqDw.nD Cert.XqDw.τ).loc Cert.XqDw.main_arg1) = m ((c.tc : Thread Cert.XqDw.nD Cert.XqDw.τ).loc Cert.XqDw.main_arg1))
      ∧ r.2.sem = fun _ => 0)

def quiescent_XqDwIdeal [hXqDwIdeal : Cert.XqDwIdeal.Facts] : Prop :=
  ∀ (m : (ℓ : Loc Cert.XqDwIdeal.nD Cert.XqDwIdeal.τ Cert.XqDwIdeal.sig) → Buf (Elt Ideal) ℓ) (g : Dev Cert.XqDwIdeal.nD → PrngReg), Pre_XqDwIdeal m →
    θ_run (Cert.XqDwIdeal.defs (F := Ideal)) (onTc (τ := Cert.XqDwIdeal.τ) (Cert.XqDwIdeal.main (F := Ideal))) ⟨m, fun _ => 0, g⟩ (fun r => (∀ c : Dev Cert.XqDwIdeal.nD,
      r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
      ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ r.2.sem = fun _ => 0)

def quiescent_XqDwRefIdeal [hXqDwRefIdeal : Cert.XqDwRefIdeal.Facts] : Prop :=
  ∀ (m : (ℓ : Loc Cert.XqDwRefIdeal.nD Cert.XqDwRefIdeal.τ Cert.XqDwRefIdeal.sig) → Buf (Elt Ideal) ℓ) (g : Dev Cert.XqDwRefIdeal.nD → PrngReg), Pre_XqDwRefIdeal m →
    θ_run (Cert.XqDwRefIdeal.defs (F := Ideal)) (onTc (τ := Cert.XqDwRefIdeal.τ) (Cert.XqDwRefIdeal.main (F := Ideal))) ⟨m, fun _ => 0, g⟩ (fun r => (∀ c : Dev Cert.XqDwRefIdeal.nD,
      r.2.mem ((c.tc : Thread Cert.XqDwRefIdeal.nD Cert.XqDwRefIdeal.τ).loc Cert.XqDwRefIdeal.main_arg0) = m ((c.tc : Thread Cert.XqDwRefIdeal.nD Cert.XqDwRefIdeal.τ).loc Cert.XqDwRefIdeal.main_arg0)
      ∧ r.2.mem ((c.tc : Thread Cert.XqDwRefIdeal.nD Cert.XqDwRefIdeal.τ).loc Cert.XqDwRefIdeal.main_arg1) = m ((c.tc : Thread Cert.XqDwRefIdeal.nD Cert.XqDwRefIdeal.τ).loc Cert.XqDwRefIdeal.main_arg1))
      ∧ r.2.sem = fun _ => 0)

def quiescent_XkvIn [hXkvIn : Cert.XkvIn.Facts] : Prop :=
  ∀ (m : (ℓ : Loc Cert.XkvIn.nD Cert.XkvIn.τ Cert.XkvIn.sig) → Buf (Elt Bits) ℓ) (g : Dev Cert.XkvIn.nD → PrngReg), Pre_XkvIn m →
    θ_run (Cert.XkvIn.defs (F := Bits)) (onTc (τ := Cert.XkvIn.τ) (Cert.XkvIn.main (F := Bits))) ⟨m, fun _ => 0, g⟩ (fun r => (∀ c : Dev Cert.XkvIn.nD,
      r.2.mem ((c.tc : Thread Cert.XkvIn.nD Cert.XkvIn.τ).loc Cert.XkvIn.main_arg0) = m ((c.tc : Thread Cert.XkvIn.nD Cert.XkvIn.τ).loc Cert.XkvIn.main_arg0)
      ∧ r.2.mem ((c.tc : Thread Cert.XkvIn.nD Cert.XkvIn.τ).loc Cert.XkvIn.main_arg1) = m ((c.tc : Thread Cert.XkvIn.nD Cert.XkvIn.τ).loc Cert.XkvIn.main_arg1))
      ∧ r.2.sem = fun _ => 0)

def quiescent_XkvInIdeal [hXkvInIdeal : Cert.XkvInIdeal.Facts] : Prop :=
  ∀ (m : (ℓ : Loc Cert.XkvInIdeal.nD Cert.XkvInIdeal.τ Cert.XkvInIdeal.sig) → Buf (Elt Ideal) ℓ) (g : Dev Cert.XkvInIdeal.nD → PrngReg), Pre_XkvInIdeal m →
    θ_run (Cert.XkvInIdeal.defs (F := Ideal)) (onTc (τ := Cert.XkvInIdeal.τ) (Cert.XkvInIdeal.main (F := Ideal))) ⟨m, fun _ => 0, g⟩ (fun r => (∀ c : Dev Cert.XkvInIdeal.nD,
      r.2.mem ((c.tc : Thread Cert.XkvInIdeal.nD Cert.XkvInIdeal.τ).loc Cert.XkvInIdeal.main_arg0) = m ((c.tc : Thread Cert.XkvInIdeal.nD Cert.XkvInIdeal.τ).loc Cert.XkvInIdeal.main_arg0)
      ∧ r.2.mem ((c.tc : Thread Cert.XkvInIdeal.nD Cert.XkvInIdeal.τ).loc Cert.XkvInIdeal.main_arg1) = m ((c.tc : Thread Cert.XkvInIdeal.nD Cert.XkvInIdeal.τ).loc Cert.XkvInIdeal.main_arg1))
      ∧ r.2.sem = fun _ => 0)

def quiescent_XkvInRefIdeal [hXkvInRefIdeal : Cert.XkvInRefIdeal.Facts] : Prop :=
  ∀ (m : (ℓ : Loc Cert.XkvInRefIdeal.nD Cert.XkvInRefIdeal.τ Cert.XkvInRefIdeal.sig) → Buf (Elt Ideal) ℓ) (g : Dev Cert.XkvInRefIdeal.nD → PrngReg), Pre_XkvInRefIdeal m →
    θ_run (Cert.XkvInRefIdeal.defs (F := Ideal)) (onTc (τ := Cert.XkvInRefIdeal.τ) (Cert.XkvInRefIdeal.main (F := Ideal))) ⟨m, fun _ => 0, g⟩ (fun r => (∀ c : Dev Cert.XkvInRefIdeal.nD,
      r.2.mem ((c.tc : Thread Cert.XkvInRefIdeal.nD Cert.XkvInRefIdeal.τ).loc Cert.XkvInRefIdeal.main_arg0) = m ((c.tc : Thread Cert.XkvInRefIdeal.nD Cert.XkvInRefIdeal.τ).loc Cert.XkvInRefIdeal.main_arg0)
      ∧ r.2.mem ((c.tc : Thread Cert.XkvInRefIdeal.nD Cert.XkvInRefIdeal.τ).loc Cert.XkvInRefIdeal.main_arg1) = m ((c.tc : Thread Cert.XkvInRefIdeal.nD Cert.XkvInRefIdeal.τ).loc Cert.XkvInRefIdeal.main_arg1))
      ∧ r.2.sem = fun _ => 0)

def quiescent_XkvDh [hXkvDh : Cert.XkvDh.Facts] : Prop :=
  ∀ (m : (ℓ : Loc Cert.XkvDh.nD Cert.XkvDh.τ Cert.XkvDh.sig) → Buf (Elt Bits) ℓ) (g : Dev Cert.XkvDh.nD → PrngReg), Pre_XkvDh m →
    θ_run (Cert.XkvDh.defs (F := Bits)) (onTc (τ := Cert.XkvDh.τ) (Cert.XkvDh.main (F := Bits))) ⟨m, fun _ => 0, g⟩ (fun r => (∀ c : Dev Cert.XkvDh.nD,
      r.2.mem ((c.tc : Thread Cert.XkvDh.nD Cert.XkvDh.τ).loc Cert.XkvDh.main_arg0) = m ((c.tc : Thread Cert.XkvDh.nD Cert.XkvDh.τ).loc Cert.XkvDh.main_arg0)
      ∧ r.2.mem ((c.tc : Thread Cert.XkvDh.nD Cert.XkvDh.τ).loc Cert.XkvDh.main_arg1) = m ((c.tc : Thread Cert.XkvDh.nD Cert.XkvDh.τ).loc Cert.XkvDh.main_arg1))
      ∧ r.2.sem = fun _ => 0)

def quiescent_XkvDhIdeal [hXkvDhIdeal : Cert.XkvDhIdeal.Facts] : Prop :=
  ∀ (m : (ℓ : Loc Cert.XkvDhIdeal.nD Cert.XkvDhIdeal.τ Cert.XkvDhIdeal.sig) → Buf (Elt Ideal) ℓ) (g : Dev Cert.XkvDhIdeal.nD → PrngReg), Pre_XkvDhIdeal m →
    θ_run (Cert.XkvDhIdeal.defs (F := Ideal)) (onTc (τ := Cert.XkvDhIdeal.τ) (Cert.XkvDhIdeal.main (F := Ideal))) ⟨m, fun _ => 0, g⟩ (fun r => (∀ c : Dev Cert.XkvDhIdeal.nD,
      r.2.mem ((c.tc : Thread Cert.XkvDhIdeal.nD Cert.XkvDhIdeal.τ).loc Cert.XkvDhIdeal.main_arg0) = m ((c.tc : Thread Cert.XkvDhIdeal.nD Cert.XkvDhIdeal.τ).loc Cert.XkvDhIdeal.main_arg0)
      ∧ r.2.mem ((c.tc : Thread Cert.XkvDhIdeal.nD Cert.XkvDhIdeal.τ).loc Cert.XkvDhIdeal.main_arg1) = m ((c.tc : Thread Cert.XkvDhIdeal.nD Cert.XkvDhIdeal.τ).loc Cert.XkvDhIdeal.main_arg1))
      ∧ r.2.sem = fun _ => 0)

def quiescent_XkvDhRefIdeal [hXkvDhRefIdeal : Cert.XkvDhRefIdeal.Facts] : Prop :=
  ∀ (m : (ℓ : Loc Cert.XkvDhRefIdeal.nD Cert.XkvDhRefIdeal.τ Cert.XkvDhRefIdeal.sig) → Buf (Elt Ideal) ℓ) (g : Dev Cert.XkvDhRefIdeal.nD → PrngReg), Pre_XkvDhRefIdeal m →
    θ_run (Cert.XkvDhRefIdeal.defs (F := Ideal)) (onTc (τ := Cert.XkvDhRefIdeal.τ) (Cert.XkvDhRefIdeal.main (F := Ideal))) ⟨m, fun _ => 0, g⟩ (fun r => (∀ c : Dev Cert.XkvDhRefIdeal.nD,
      r.2.mem ((c.tc : Thread Cert.XkvDhRefIdeal.nD Cert.XkvDhRefIdeal.τ).loc Cert.XkvDhRefIdeal.main_arg0) = m ((c.tc : Thread Cert.XkvDhRefIdeal.nD Cert.XkvDhRefIdeal.τ).loc Cert.XkvDhRefIdeal.main_arg0)
      ∧ r.2.mem ((c.tc : Thread Cert.XkvDhRefIdeal.nD Cert.XkvDhRefIdeal.τ).loc Cert.XkvDhRefIdeal.main_arg1) = m ((c.tc : Thread Cert.XkvDhRefIdeal.nD Cert.XkvDhRefIdeal.τ).loc Cert.XkvDhRefIdeal.main_arg1))
      ∧ r.2.sem = fun _ => 0)

def quiescent_XkvDw [hXkvDw : Cert.XkvDw.Facts] : Prop :=
  ∀ (m : (ℓ : Loc Cert.XkvDw.nD Cert.XkvDw.τ Cert.XkvDw.sig) → Buf (Elt Bits) ℓ) (g : Dev Cert.XkvDw.nD → PrngReg), Pre_XkvDw m →
    θ_run (Cert.XkvDw.defs (F := Bits)) (onTc (τ := Cert.XkvDw.τ) (Cert.XkvDw.main (F := Bits))) ⟨m, fun _ => 0, g⟩ (fun r => (∀ c : Dev Cert.XkvDw.nD,
      r.2.mem ((c.tc : Thread Cert.XkvDw.nD Cert.XkvDw.τ).loc Cert.XkvDw.main_arg0) = m ((c.tc : Thread Cert.XkvDw.nD Cert.XkvDw.τ).loc Cert.XkvDw.main_arg0)
      ∧ r.2.mem ((c.tc : Thread Cert.XkvDw.nD Cert.XkvDw.τ).loc Cert.XkvDw.main_arg1) = m ((c.tc : Thread Cert.XkvDw.nD Cert.XkvDw.τ).loc Cert.XkvDw.main_arg1))
      ∧ r.2.sem = fun _ => 0)

def quiescent_XkvDwIdeal [hXkvDwIdeal : Cert.XkvDwIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg), Pre_XkvDwIdeal m →
    θ_run (Cert.XkvDwIdeal.defs (F := Ideal)) (onTc (τ := Cert.XkvDwIdeal.τ) (Cert.XkvDwIdeal.main (F := Ideal))) ⟨m, fun _ => 0, g⟩ (fun r => (∀ c : Dev Cert.XkvDwIdeal.nD,
      r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
      ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ r.2.sem = fun _ => 0)

def quiescent_XkvDwRefIdeal [hXkvDwRefIdeal : Cert.XkvDwRefIdeal.Facts] : Prop :=
  ∀ (m : (ℓ : Loc Cert.XkvDwRefIdeal.nD Cert.XkvDwRefIdeal.τ Cert.XkvDwRefIdeal.sig) → Buf (Elt Ideal) ℓ) (g : Dev Cert.XkvDwRefIdeal.nD → PrngReg), Pre_XkvDwRefIdeal m →
    θ_run (Cert.XkvDwRefIdeal.defs (F := Ideal)) (onTc (τ := Cert.XkvDwRefIdeal.τ) (Cert.XkvDwRefIdeal.main (F := Ideal))) ⟨m, fun _ => 0, g⟩ (fun r => (∀ c : Dev Cert.XkvDwRefIdeal.nD,
      r.2.mem ((c.tc : Thread Cert.XkvDwRefIdeal.nD Cert.XkvDwRefIdeal.τ).loc Cert.XkvDwRefIdeal.main_arg0) = m ((c.tc : Thread Cert.XkvDwRefIdeal.nD Cert.XkvDwRefIdeal.τ).loc Cert.XkvDwRefIdeal.main_arg0)
      ∧ r.2.mem ((c.tc : Thread Cert.XkvDwRefIdeal.nD Cert.XkvDwRefIdeal.τ).loc Cert.XkvDwRefIdeal.main_arg1) = m ((c.tc : Thread Cert.XkvDwRefIdeal.nD Cert.XkvDwRefIdeal.τ).loc Cert.XkvDwRefIdeal.main_arg1))
      ∧ r.2.sem = fun _ => 0)

def quiescent_AdamXq [hAdamXq : Cert.AdamXq.Facts] : Prop :=
  ∀ (m : (ℓ : Loc Cert.AdamXq.nD Cert.AdamXq.τ Cert.AdamXq.sig) → Buf (Elt Bits) ℓ) (g : Dev Cert.AdamXq.nD → PrngReg), Pre_AdamXq m →
    θ_run (Cert.AdamXq.defs (F := Bits)) (onTc (τ := Cert.AdamXq.τ) (Cert.AdamXq.main (F := Bits))) ⟨m, fun _ => 0, g⟩ (fun r => (∀ c : Dev Cert.AdamXq.nD,
      r.2.mem ((c.tc : Thread Cert.AdamXq.nD Cert.AdamXq.τ).loc Cert.AdamXq.main_arg0) = m ((c.tc : Thread Cert.AdamXq.nD Cert.AdamXq.τ).loc Cert.AdamXq.main_arg0)
      ∧ r.2.mem ((c.tc : Thread Cert.AdamXq.nD Cert.AdamXq.τ).loc Cert.AdamXq.main_arg1) = m ((c.tc : Thread Cert.AdamXq.nD Cert.AdamXq.τ).loc Cert.AdamXq.main_arg1)
      ∧ r.2.mem ((c.tc : Thread Cert.AdamXq.nD Cert.AdamXq.τ).loc Cert.AdamXq.main_arg2) = m ((c.tc : Thread Cert.AdamXq.nD Cert.AdamXq.τ).loc Cert.AdamXq.main_arg2)
      ∧ r.2.mem ((c.tc : Thread Cert.AdamXq.nD Cert.AdamXq.τ).loc Cert.AdamXq.main_arg3) = m ((c.tc : Thread Cert.AdamXq.nD Cert.AdamXq.τ).loc Cert.AdamXq.main_arg3))
      ∧ r.2.sem = fun _ => 0)

def quiescent_AdamXqIdeal [hAdamXqIdeal : Cert.AdamXqIdeal.Facts] : Prop :=
  ∀ (m : (ℓ : Loc Cert.AdamXqIdeal.nD Cert.AdamXqIdeal.τ Cert.AdamXqIdeal.sig) → Buf (Elt Ideal) ℓ) (g : Dev Cert.AdamXqIdeal.nD → PrngReg), Pre_AdamXqIdeal m →
    θ_run (Cert.AdamXqIdeal.defs (F := Ideal)) (onTc (τ := Cert.AdamXqIdeal.τ) (Cert.AdamXqIdeal.main (F := Ideal))) ⟨m, fun _ => 0, g⟩ (fun r => (∀ c : Dev Cert.AdamXqIdeal.nD,
      r.2.mem ((c.tc : Thread Cert.AdamXqIdeal.nD Cert.AdamXqIdeal.τ).loc Cert.AdamXqIdeal.main_arg0) = m ((c.tc : Thread Cert.AdamXqIdeal.nD Cert.AdamXqIdeal.τ).loc Cert.AdamXqIdeal.main_arg0)
      ∧ r.2.mem ((c.tc : Thread Cert.AdamXqIdeal.nD Cert.AdamXqIdeal.τ).loc Cert.AdamXqIdeal.main_arg1) = m ((c.tc : Thread Cert.AdamXqIdeal.nD Cert.AdamXqIdeal.τ).loc Cert.AdamXqIdeal.main_arg1)
      ∧ r.2.mem ((c.tc : Thread Cert.AdamXqIdeal.nD Cert.AdamXqIdeal.τ).loc Cert.AdamXqIdeal.main_arg2) = m ((c.tc : Thread Cert.AdamXqIdeal.nD Cert.AdamXqIdeal.τ).loc Cert.AdamXqIdeal.main_arg2)
      ∧ r.2.mem ((c.tc : Thread Cert.AdamXqIdeal.nD Cert.AdamXqIdeal.τ).loc Cert.AdamXqIdeal.main_arg3) = m ((c.tc : Thread Cert.AdamXqIdeal.nD Cert.AdamXqIdeal.τ).loc Cert.AdamXqIdeal.main_arg3))
      ∧ r.2.sem = fun _ => 0)

def quiescent_AdamXqRefIdeal [hAdamXqRefIdeal : Cert.AdamXqRefIdeal.Facts] : Prop :=
  ∀ (m : (ℓ : Loc Cert.AdamXqRefIdeal.nD Cert.AdamXqRefIdeal.τ Cert.AdamXqRefIdeal.sig) → Buf (Elt Ideal) ℓ) (g : Dev Cert.AdamXqRefIdeal.nD → PrngReg), Pre_AdamXqRefIdeal m →
    θ_run (Cert.AdamXqRefIdeal.defs (F := Ideal)) (onTc (τ := Cert.AdamXqRefIdeal.τ) (Cert.AdamXqRefIdeal.main (F := Ideal))) ⟨m, fun _ => 0, g⟩ (fun r => (∀ c : Dev Cert.AdamXqRefIdeal.nD,
      r.2.mem ((c.tc : Thread Cert.AdamXqRefIdeal.nD Cert.AdamXqRefIdeal.τ).loc Cert.AdamXqRefIdeal.main_arg0) = m ((c.tc : Thread Cert.AdamXqRefIdeal.nD Cert.AdamXqRefIdeal.τ).loc Cert.AdamXqRefIdeal.main_arg0)
      ∧ r.2.mem ((c.tc : Thread Cert.AdamXqRefIdeal.nD Cert.AdamXqRefIdeal.τ).loc Cert.AdamXqRefIdeal.main_arg1) = m ((c.tc : Thread Cert.AdamXqRefIdeal.nD Cert.AdamXqRefIdeal.τ).loc Cert.AdamXqRefIdeal.main_arg1)
      ∧ r.2.mem ((c.tc : Thread Cert.AdamXqRefIdeal.nD Cert.AdamXqRefIdeal.τ).loc Cert.AdamXqRefIdeal.main_arg2) = m ((c.tc : Thread Cert.AdamXqRefIdeal.nD Cert.AdamXqRefIdeal.τ).loc Cert.AdamXqRefIdeal.main_arg2)
      ∧ r.2.mem ((c.tc : Thread Cert.AdamXqRefIdeal.nD Cert.AdamXqRefIdeal.τ).loc Cert.AdamXqRefIdeal.main_arg3) = m ((c.tc : Thread Cert.AdamXqRefIdeal.nD Cert.AdamXqRefIdeal.τ).loc Cert.AdamXqRefIdeal.main_arg3))
      ∧ r.2.sem = fun _ => 0)

def quiescent_AdamXkv [hAdamXkv : Cert.AdamXkv.Facts] : Prop :=
  ∀ (m : (ℓ : Loc Cert.AdamXkv.nD Cert.AdamXkv.τ Cert.AdamXkv.sig) → Buf (Elt Bits) ℓ) (g : Dev Cert.AdamXkv.nD → PrngReg), Pre_AdamXkv m →
    θ_run (Cert.AdamXkv.defs (F := Bits)) (onTc (τ := Cert.AdamXkv.τ) (Cert.AdamXkv.main (F := Bits))) ⟨m, fun _ => 0, g⟩ (fun r => (∀ c : Dev Cert.AdamXkv.nD,
      r.2.mem ((c.tc : Thread Cert.AdamXkv.nD Cert.AdamXkv.τ).loc Cert.AdamXkv.main_arg0) = m ((c.tc : Thread Cert.AdamXkv.nD Cert.AdamXkv.τ).loc Cert.AdamXkv.main_arg0)
      ∧ r.2.mem ((c.tc : Thread Cert.AdamXkv.nD Cert.AdamXkv.τ).loc Cert.AdamXkv.main_arg1) = m ((c.tc : Thread Cert.AdamXkv.nD Cert.AdamXkv.τ).loc Cert.AdamXkv.main_arg1)
      ∧ r.2.mem ((c.tc : Thread Cert.AdamXkv.nD Cert.AdamXkv.τ).loc Cert.AdamXkv.main_arg2) = m ((c.tc : Thread Cert.AdamXkv.nD Cert.AdamXkv.τ).loc Cert.AdamXkv.main_arg2)
      ∧ r.2.mem ((c.tc : Thread Cert.AdamXkv.nD Cert.AdamXkv.τ).loc Cert.AdamXkv.main_arg3) = m ((c.tc : Thread Cert.AdamXkv.nD Cert.AdamXkv.τ).loc Cert.AdamXkv.main_arg3))
      ∧ r.2.sem = fun _ => 0)

def quiescent_AdamXkvIdeal [hAdamXkvIdeal : Cert.AdamXkvIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg), Pre_AdamXkvIdeal m →
    θ_run (Cert.AdamXkvIdeal.defs (F := Ideal)) (onTc (τ := Cert.AdamXkvIdeal.τ) (Cert.AdamXkvIdeal.main (F := Ideal))) ⟨m, fun _ => 0, g⟩ (fun r => (∀ c : Dev Cert.AdamXkvIdeal.nD,
      r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
      ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
      ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
      ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ r.2.sem = fun _ => 0)

def quiescent_AdamXkvRefIdeal [hAdamXkvRefIdeal : Cert.AdamXkvRefIdeal.Facts] : Prop :=
  ∀ (m : (ℓ : Loc Cert.AdamXkvRefIdeal.nD Cert.AdamXkvRefIdeal.τ Cert.AdamXkvRefIdeal.sig) → Buf (Elt Ideal) ℓ) (g : Dev Cert.AdamXkvRefIdeal.nD → PrngReg), Pre_AdamXkvRefIdeal m →
    θ_run (Cert.AdamXkvRefIdeal.defs (F := Ideal)) (onTc (τ := Cert.AdamXkvRefIdeal.τ) (Cert.AdamXkvRefIdeal.main (F := Ideal))) ⟨m, fun _ => 0, g⟩ (fun r => (∀ c : Dev Cert.AdamXkvRefIdeal.nD,
      r.2.mem ((c.tc : Thread Cert.AdamXkvRefIdeal.nD Cert.AdamXkvRefIdeal.τ).loc Cert.AdamXkvRefIdeal.main_arg0) = m ((c.tc : Thread Cert.AdamXkvRefIdeal.nD Cert.AdamXkvRefIdeal.τ).loc Cert.AdamXkvRefIdeal.main_arg0)
      ∧ r.2.mem ((c.tc : Thread Cert.AdamXkvRefIdeal.nD Cert.AdamXkvRefIdeal.τ).loc Cert.AdamXkvRefIdeal.main_arg1) = m ((c.tc : Thread Cert.AdamXkvRefIdeal.nD Cert.AdamXkvRefIdeal.τ).loc Cert.AdamXkvRefIdeal.main_arg1)
      ∧ r.2.mem ((c.tc : Thread Cert.AdamXkvRefIdeal.nD Cert.AdamXkvRefIdeal.τ).loc Cert.AdamXkvRefIdeal.main_arg2) = m ((c.tc : Thread Cert.AdamXkvRefIdeal.nD Cert.AdamXkvRefIdeal.τ).loc Cert.AdamXkvRefIdeal.main_arg2)
      ∧ r.2.mem ((c.tc : Thread Cert.AdamXkvRefIdeal.nD Cert.AdamXkvRefIdeal.τ).loc Cert.AdamXkvRefIdeal.main_arg3) = m ((c.tc : Thread Cert.AdamXkvRefIdeal.nD Cert.AdamXkvRefIdeal.τ).loc Cert.AdamXkvRefIdeal.main_arg3))
      ∧ r.2.sem = fun _ => 0)

def quiescent_AdamXo [hAdamXo : Cert.AdamXo.Facts] : Prop :=
  ∀ (m : (ℓ : Loc Cert.AdamXo.nD Cert.AdamXo.τ Cert.AdamXo.sig) → Buf (Elt Bits) ℓ) (g : Dev Cert.AdamXo.nD → PrngReg), Pre_AdamXo m →
    θ_run (Cert.AdamXo.defs (F := Bits)) (onTc (τ := Cert.AdamXo.τ) (Cert.AdamXo.main (F := Bits))) ⟨m, fun _ => 0, g⟩ (fun r => (∀ c : Dev Cert.AdamXo.nD,
      r.2.mem ((c.tc : Thread Cert.AdamXo.nD Cert.AdamXo.τ).loc Cert.AdamXo.main_arg0) = m ((c.tc : Thread Cert.AdamXo.nD Cert.AdamXo.τ).loc Cert.AdamXo.main_arg0)
      ∧ r.2.mem ((c.tc : Thread Cert.AdamXo.nD Cert.AdamXo.τ).loc Cert.AdamXo.main_arg1) = m ((c.tc : Thread Cert.AdamXo.nD Cert.AdamXo.τ).loc Cert.AdamXo.main_arg1)
      ∧ r.2.mem ((c.tc : Thread Cert.AdamXo.nD Cert.AdamXo.τ).loc Cert.AdamXo.main_arg2) = m ((c.tc : Thread Cert.AdamXo.nD Cert.AdamXo.τ).loc Cert.AdamXo.main_arg2)
      ∧ r.2.mem ((c.tc : Thread Cert.AdamXo.nD Cert.AdamXo.τ).loc Cert.AdamXo.main_arg3) = m ((c.tc : Thread Cert.AdamXo.nD Cert.AdamXo.τ).loc Cert.AdamXo.main_arg3))
      ∧ r.2.sem = fun _ => 0)

def quiescent_AdamXoIdeal [hAdamXoIdeal : Cert.AdamXoIdeal.Facts] : Prop :=
  ∀ (m : (ℓ : Loc Cert.AdamXoIdeal.nD Cert.AdamXoIdeal.τ Cert.AdamXoIdeal.sig) → Buf (Elt Ideal) ℓ) (g : Dev Cert.AdamXoIdeal.nD → PrngReg), Pre_AdamXoIdeal m →
    θ_run (Cert.AdamXoIdeal.defs (F := Ideal)) (onTc (τ := Cert.AdamXoIdeal.τ) (Cert.AdamXoIdeal.main (F := Ideal))) ⟨m, fun _ => 0, g⟩ (fun r => (∀ c : Dev Cert.AdamXoIdeal.nD,
      r.2.mem ((c.tc : Thread Cert.AdamXoIdeal.nD Cert.AdamXoIdeal.τ).loc Cert.AdamXoIdeal.main_arg0) = m ((c.tc : Thread Cert.AdamXoIdeal.nD Cert.AdamXoIdeal.τ).loc Cert.AdamXoIdeal.main_arg0)
      ∧ r.2.mem ((c.tc : Thread Cert.AdamXoIdeal.nD Cert.AdamXoIdeal.τ).loc Cert.AdamXoIdeal.main_arg1) = m ((c.tc : Thread Cert.AdamXoIdeal.nD Cert.AdamXoIdeal.τ).loc Cert.AdamXoIdeal.main_arg1)
      ∧ r.2.mem ((c.tc : Thread Cert.AdamXoIdeal.nD Cert.AdamXoIdeal.τ).loc Cert.AdamXoIdeal.main_arg2) = m ((c.tc : Thread Cert.AdamXoIdeal.nD Cert.AdamXoIdeal.τ).loc Cert.AdamXoIdeal.main_arg2)
      ∧ r.2.mem ((c.tc : Thread Cert.AdamXoIdeal.nD Cert.AdamXoIdeal.τ).loc Cert.AdamXoIdeal.main_arg3) = m ((c.tc : Thread Cert.AdamXoIdeal.nD Cert.AdamXoIdeal.τ).loc Cert.AdamXoIdeal.main_arg3))
      ∧ r.2.sem = fun _ => 0)

def quiescent_AdamXoRefIdeal [hAdamXoRefIdeal : Cert.AdamXoRefIdeal.Facts] : Prop :=
  ∀ (m : (ℓ : Loc Cert.AdamXoRefIdeal.nD Cert.AdamXoRefIdeal.τ Cert.AdamXoRefIdeal.sig) → Buf (Elt Ideal) ℓ) (g : Dev Cert.AdamXoRefIdeal.nD → PrngReg), Pre_AdamXoRefIdeal m →
    θ_run (Cert.AdamXoRefIdeal.defs (F := Ideal)) (onTc (τ := Cert.AdamXoRefIdeal.τ) (Cert.AdamXoRefIdeal.main (F := Ideal))) ⟨m, fun _ => 0, g⟩ (fun r => (∀ c : Dev Cert.AdamXoRefIdeal.nD,
      r.2.mem ((c.tc : Thread Cert.AdamXoRefIdeal.nD Cert.AdamXoRefIdeal.τ).loc Cert.AdamXoRefIdeal.main_arg0) = m ((c.tc : Thread Cert.AdamXoRefIdeal.nD Cert.AdamXoRefIdeal.τ).loc Cert.AdamXoRefIdeal.main_arg0)
      ∧ r.2.mem ((c.tc : Thread Cert.AdamXoRefIdeal.nD Cert.AdamXoRefIdeal.τ).loc Cert.AdamXoRefIdeal.main_arg1) = m ((c.tc : Thread Cert.AdamXoRefIdeal.nD Cert.AdamXoRefIdeal.τ).loc Cert.AdamXoRefIdeal.main_arg1)
      ∧ r.2.mem ((c.tc : Thread Cert.AdamXoRefIdeal.nD Cert.AdamXoRefIdeal.τ).loc Cert.AdamXoRefIdeal.main_arg2) = m ((c.tc : Thread Cert.AdamXoRefIdeal.nD Cert.AdamXoRefIdeal.τ).loc Cert.AdamXoRefIdeal.main_arg2)
      ∧ r.2.mem ((c.tc : Thread Cert.AdamXoRefIdeal.nD Cert.AdamXoRefIdeal.τ).loc Cert.AdamXoRefIdeal.main_arg3) = m ((c.tc : Thread Cert.AdamXoRefIdeal.nD Cert.AdamXoRefIdeal.τ).loc Cert.AdamXoRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnConv [hAdamFfnConv : Cert.AdamFfnConv.Facts] : Prop :=
  ∀ (m : (ℓ : Loc Cert.AdamFfnConv.nD Cert.AdamFfnConv.τ Cert.AdamFfnConv.sig) → Buf (Elt Bits) ℓ) (g : Dev Cert.AdamFfnConv.nD → PrngReg), Pre_AdamFfnConv m →
    θ_run (Cert.AdamFfnConv.defs (F := Bits)) (onTc (τ := Cert.AdamFfnConv.τ) (Cert.AdamFfnConv.main (F := Bits))) ⟨m, fun _ => 0, g⟩ (fun r => (∀ c : Dev Cert.AdamFfnConv.nD,
      r.2.mem ((c.tc : Thread Cert.AdamFfnConv.nD Cert.AdamFfnConv.τ).loc Cert.AdamFfnConv.main_arg0) = m ((c.tc : Thread Cert.AdamFfnConv.nD Cert.AdamFfnConv.τ).loc Cert.AdamFfnConv.main_arg0)
      ∧ r.2.mem ((c.tc : Thread Cert.AdamFfnConv.nD Cert.AdamFfnConv.τ).loc Cert.AdamFfnConv.main_arg1) = m ((c.tc : Thread Cert.AdamFfnConv.nD Cert.AdamFfnConv.τ).loc Cert.AdamFfnConv.main_arg1)
      ∧ r.2.mem ((c.tc : Thread Cert.AdamFfnConv.nD Cert.AdamFfnConv.τ).loc Cert.AdamFfnConv.main_arg2) = m ((c.tc : Thread Cert.AdamFfnConv.nD Cert.AdamFfnConv.τ).loc Cert.AdamFfnConv.main_arg2)
      ∧ r.2.mem ((c.tc : Thread Cert.AdamFfnConv.nD Cert.AdamFfnConv.τ).loc Cert.AdamFfnConv.main_arg3) = m ((c.tc : Thread Cert.AdamFfnConv.nD Cert.AdamFfnConv.τ).loc Cert.AdamFfnConv.main_arg3))
      ∧ r.2.sem = fun _ => 0)

def quiescent_AdamFfnConvIdeal [hAdamFfnConvIdeal : Cert.AdamFfnConvIdeal.Facts] : Prop :=
  ∀ (m : (ℓ : Loc Cert.AdamFfnConvIdeal.nD Cert.AdamFfnConvIdeal.τ Cert.AdamFfnConvIdeal.sig) → Buf (Elt Ideal) ℓ) (g : Dev Cert.AdamFfnConvIdeal.nD → PrngReg), Pre_AdamFfnConvIdeal m →
    θ_run (Cert.AdamFfnConvIdeal.defs (F := Ideal)) (onTc (τ := Cert.AdamFfnConvIdeal.τ) (Cert.AdamFfnConvIdeal.main (F := Ideal))) ⟨m, fun _ => 0, g⟩ (fun r => (∀ c : Dev Cert.AdamFfnConvIdeal.nD,
      r.2.mem ((c.tc : Thread Cert.AdamFfnConvIdeal.nD Cert.AdamFfnConvIdeal.τ).loc Cert.AdamFfnConvIdeal.main_arg0) = m ((c.tc : Thread Cert.AdamFfnConvIdeal.nD Cert.AdamFfnConvIdeal.τ).loc Cert.AdamFfnConvIdeal.main_arg0)
      ∧ r.2.mem ((c.tc : Thread Cert.AdamFfnConvIdeal.nD Cert.AdamFfnConvIdeal.τ).loc Cert.AdamFfnConvIdeal.main_arg1) = m ((c.tc : Thread Cert.AdamFfnConvIdeal.nD Cert.AdamFfnConvIdeal.τ).loc Cert.AdamFfnConvIdeal.main_arg1)
      ∧ r.2.mem ((c.tc : Thread Cert.AdamFfnConvIdeal.nD Cert.AdamFfnConvIdeal.τ).loc Cert.AdamFfnConvIdeal.main_arg2) = m ((c.tc : Thread Cert.AdamFfnConvIdeal.nD Cert.AdamFfnConvIdeal.τ).loc Cert.AdamFfnConvIdeal.main_arg2)
      ∧ r.2.mem ((c.tc : Thread Cert.AdamFfnConvIdeal.nD Cert.AdamFfnConvIdeal.τ).loc Cert.AdamFfnConvIdeal.main_arg3) = m ((c.tc : Thread Cert.AdamFfnConvIdeal.nD Cert.AdamFfnConvIdeal.τ).loc Cert.AdamFfnConvIdeal.main_arg3))
      ∧ r.2.sem = fun _ => 0)

def quiescent_AdamFfnConvRefIdeal [hAdamFfnConvRefIdeal : Cert.AdamFfnConvRefIdeal.Facts] : Prop :=
  ∀ (m : (ℓ : Loc Cert.AdamFfnConvRefIdeal.nD Cert.AdamFfnConvRefIdeal.τ Cert.AdamFfnConvRefIdeal.sig) → Buf (Elt Ideal) ℓ) (g : Dev Cert.AdamFfnConvRefIdeal.nD → PrngReg), Pre_AdamFfnConvRefIdeal m →
    θ_run (Cert.AdamFfnConvRefIdeal.defs (F := Ideal)) (onTc (τ := Cert.AdamFfnConvRefIdeal.τ) (Cert.AdamFfnConvRefIdeal.main (F := Ideal))) ⟨m, fun _ => 0, g⟩ (fun r => (∀ c : Dev Cert.AdamFfnConvRefIdeal.nD,
      r.2.mem ((c.tc : Thread Cert.AdamFfnConvRefIdeal.nD Cert.AdamFfnConvRefIdeal.τ).loc Cert.AdamFfnConvRefIdeal.main_arg0) = m ((c.tc : Thread Cert.AdamFfnConvRefIdeal.nD Cert.AdamFfnConvRefIdeal.τ).loc Cert.AdamFfnConvRefIdeal.main_arg0)
      ∧ r.2.mem ((c.tc : Thread Cert.AdamFfnConvRefIdeal.nD Cert.AdamFfnConvRefIdeal.τ).loc Cert.AdamFfnConvRefIdeal.main_arg1) = m ((c.tc : Thread Cert.AdamFfnConvRefIdeal.nD Cert.AdamFfnConvRefIdeal.τ).loc Cert.AdamFfnConvRefIdeal.main_arg1)
      ∧ r.2.mem ((c.tc : Thread Cert.AdamFfnConvRefIdeal.nD Cert.AdamFfnConvRefIdeal.τ).loc Cert.AdamFfnConvRefIdeal.main_arg2) = m ((c.tc : Thread Cert.AdamFfnConvRefIdeal.nD Cert.AdamFfnConvRefIdeal.τ).loc Cert.AdamFfnConvRefIdeal.main_arg2)
      ∧ r.2.mem ((c.tc : Thread Cert.AdamFfnConvRefIdeal.nD Cert.AdamFfnConvRefIdeal.τ).loc Cert.AdamFfnConvRefIdeal.main_arg3) = m ((c.tc : Thread Cert.AdamFfnConvRefIdeal.nD Cert.AdamFfnConvRefIdeal.τ).loc Cert.AdamFfnConvRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamHybIn [hAdamHybIn : Cert.AdamHybIn.Facts] : Prop :=
  ∀ (m : (ℓ : Loc Cert.AdamHybIn.nD Cert.AdamHybIn.τ Cert.AdamHybIn.sig) → Buf (Elt Bits) ℓ) (g : Dev Cert.AdamHybIn.nD → PrngReg), Pre_AdamHybIn m →
    θ_run (Cert.AdamHybIn.defs (F := Bits)) (onTc (τ := Cert.AdamHybIn.τ) (Cert.AdamHybIn.main (F := Bits))) ⟨m, fun _ => 0, g⟩ (fun r => (∀ c : Dev Cert.AdamHybIn.nD,
      r.2.mem ((c.tc : Thread Cert.AdamHybIn.nD Cert.AdamHybIn.τ).loc Cert.AdamHybIn.main_arg0) = m ((c.tc : Thread Cert.AdamHybIn.nD Cert.AdamHybIn.τ).loc Cert.AdamHybIn.main_arg0)
      ∧ r.2.mem ((c.tc : Thread Cert.AdamHybIn.nD Cert.AdamHybIn.τ).loc Cert.AdamHybIn.main_arg1) = m ((c.tc : Thread Cert.AdamHybIn.nD Cert.AdamHybIn.τ).loc Cert.AdamHybIn.main_arg1)
      ∧ r.2.mem ((c.tc : Thread Cert.AdamHybIn.nD Cert.AdamHybIn.τ).loc Cert.AdamHybIn.main_arg2) = m ((c.tc : Thread Cert.AdamHybIn.nD Cert.AdamHybIn.τ).loc Cert.AdamHybIn.main_arg2)
      ∧ r.2.mem ((c.tc : Thread Cert.AdamHybIn.nD Cert.AdamHybIn.τ).loc Cert.AdamHybIn.main_arg3) = m ((c.tc : Thread Cert.AdamHybIn.nD Cert.AdamHybIn.τ).loc Cert.AdamHybIn.main_arg3))
      ∧ r.2.sem = fun _ => 0)

def quiescent_AdamHybInIdeal [hAdamHybInIdeal : Cert.AdamHybInIdeal.Facts] : Prop :=
  ∀ (m : (ℓ : Loc Cert.AdamHybInIdeal.nD Cert.AdamHybInIdeal.τ Cert.AdamHybInIdeal.sig) → Buf (Elt Ideal) ℓ) (g : Dev Cert.AdamHybInIdeal.nD → PrngReg), Pre_AdamHybInIdeal m →
    θ_run (Cert.AdamHybInIdeal.defs (F := Ideal)) (onTc (τ := Cert.AdamHybInIdeal.τ) (Cert.AdamHybInIdeal.main (F := Ideal))) ⟨m, fun _ => 0, g⟩ (fun r => (∀ c : Dev Cert.AdamHybInIdeal.nD,
      r.2.mem ((c.tc : Thread Cert.AdamHybInIdeal.nD Cert.AdamHybInIdeal.τ).loc Cert.AdamHybInIdeal.main_arg0) = m ((c.tc : Thread Cert.AdamHybInIdeal.nD Cert.AdamHybInIdeal.τ).loc Cert.AdamHybInIdeal.main_arg0)
      ∧ r.2.mem ((c.tc : Thread Cert.AdamHybInIdeal.nD Cert.AdamHybInIdeal.τ).loc Cert.AdamHybInIdeal.main_arg1) = m ((c.tc : Thread Cert.AdamHybInIdeal.nD Cert.AdamHybInIdeal.τ).loc Cert.AdamHybInIdeal.main_arg1)
      ∧ r.2.mem ((c.tc : Thread Cert.AdamHybInIdeal.nD Cert.AdamHybInIdeal.τ).loc Cert.AdamHybInIdeal.main_arg2) = m ((c.tc : Thread Cert.AdamHybInIdeal.nD Cert.AdamHybInIdeal.τ).loc Cert.AdamHybInIdeal.main_arg2)
      ∧ r.2.mem ((c.tc : Thread Cert.AdamHybInIdeal.nD Cert.AdamHybInIdeal.τ).loc Cert.AdamHybInIdeal.main_arg3) = m ((c.tc : Thread Cert.AdamHybInIdeal.nD Cert.AdamHybInIdeal.τ).loc Cert.AdamHybInIdeal.main_arg3))
      ∧ r.2.sem = fun _ => 0)

def quiescent_AdamHybInRefIdeal [hAdamHybInRefIdeal : Cert.AdamHybInRefIdeal.Facts] : Prop :=
  ∀ (m : (ℓ : Loc Cert.AdamHybInRefIdeal.nD Cert.AdamHybInRefIdeal.τ Cert.AdamHybInRefIdeal.sig) → Buf (Elt Ideal) ℓ) (g : Dev Cert.AdamHybInRefIdeal.nD → PrngReg), Pre_AdamHybInRefIdeal m →
    θ_run (Cert.AdamHybInRefIdeal.defs (F := Ideal)) (onTc (τ := Cert.AdamHybInRefIdeal.τ) (Cert.AdamHybInRefIdeal.main (F := Ideal))) ⟨m, fun _ => 0, g⟩ (fun r => (∀ c : Dev Cert.AdamHybInRefIdeal.nD,
      r.2.mem ((c.tc : Thread Cert.AdamHybInRefIdeal.nD Cert.AdamHybInRefIdeal.τ).loc Cert.AdamHybInRefIdeal.main_arg0) = m ((c.tc : Thread Cert.AdamHybInRefIdeal.nD Cert.AdamHybInRefIdeal.τ).loc Cert.AdamHybInRefIdeal.main_arg0)
      ∧ r.2.mem ((c.tc : Thread Cert.AdamHybInRefIdeal.nD Cert.AdamHybInRefIdeal.τ).loc Cert.AdamHybInRefIdeal.main_arg1) = m ((c.tc : Thread Cert.AdamHybInRefIdeal.nD Cert.AdamHybInRefIdeal.τ).loc Cert.AdamHybInRefIdeal.main_arg1)
      ∧ r.2.mem ((c.tc : Thread Cert.AdamHybInRefIdeal.nD Cert.AdamHybInRefIdeal.τ).loc Cert.AdamHybInRefIdeal.main_arg2) = m ((c.tc : Thread Cert.AdamHybInRefIdeal.nD Cert.AdamHybInRefIdeal.τ).loc Cert.AdamHybInRefIdeal.main_arg2)
      ∧ r.2.mem ((c.tc : Thread Cert.AdamHybInRefIdeal.nD Cert.AdamHybInRefIdeal.τ).loc Cert.AdamHybInRefIdeal.main_arg3) = m ((c.tc : Thread Cert.AdamHybInRefIdeal.nD Cert.AdamHybInRefIdeal.τ).loc Cert.AdamHybInRefIdeal.main_arg3))
      ∧ r.2.sem = fun _ => 0)

def quiescent_AdamMixOut [hAdamMixOut : Cert.AdamMixOut.Facts] : Prop :=
  ∀ (m : (ℓ : Loc Cert.AdamMixOut.nD Cert.AdamMixOut.τ Cert.AdamMixOut.sig) → Buf (Elt Bits) ℓ) (g : Dev Cert.AdamMixOut.nD → PrngReg), Pre_AdamMixOut m →
    θ_run (Cert.AdamMixOut.defs (F := Bits)) (onTc (τ := Cert.AdamMixOut.τ) (Cert.AdamMixOut.main (F := Bits))) ⟨m, fun _ => 0, g⟩ (fun r => (∀ c : Dev Cert.AdamMixOut.nD,
      r.2.mem ((c.tc : Thread Cert.AdamMixOut.nD Cert.AdamMixOut.τ).loc Cert.AdamMixOut.main_arg0) = m ((c.tc : Thread Cert.AdamMixOut.nD Cert.AdamMixOut.τ).loc Cert.AdamMixOut.main_arg0)
      ∧ r.2.mem ((c.tc : Thread Cert.AdamMixOut.nD Cert.AdamMixOut.τ).loc Cert.AdamMixOut.main_arg1) = m ((c.tc : Thread Cert.AdamMixOut.nD Cert.AdamMixOut.τ).loc Cert.AdamMixOut.main_arg1)
      ∧ r.2.mem ((c.tc : Thread Cert.AdamMixOut.nD Cert.AdamMixOut.τ).loc Cert.AdamMixOut.main_arg2) = m ((c.tc : Thread Cert.AdamMixOut.nD Cert.AdamMixOut.τ).loc Cert.AdamMixOut.main_arg2)
      ∧ r.2.mem ((c.tc : Thread Cert.AdamMixOut.nD Cert.AdamMixOut.τ).loc Cert.AdamMixOut.main_arg3) = m ((c.tc : Thread Cert.AdamMixOut.nD Cert.AdamMixOut.τ).loc Cert.AdamMixOut.main_arg3))
      ∧ r.2.sem = fun _ => 0)

def quiescent_AdamMixOutIdeal [hAdamMixOutIdeal : Cert.AdamMixOutIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg), Pre_AdamMixOutIdeal m →
    θ_run (Cert.AdamMixOutIdeal.defs (F := Ideal)) (onTc (τ := Cert.AdamMixOutIdeal.τ) (Cert.AdamMixOutIdeal.main (F := Ideal))) ⟨m, fun _ => 0, g⟩ (fun r => (∀ c : Dev Cert.AdamMixOutIdeal.nD,
      r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
      ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
      ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
      ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ r.2.sem = fun _ => 0)

def quiescent_AdamMixOutRefIdeal [hAdamMixOutRefIdeal : Cert.AdamMixOutRefIdeal.Facts] : Prop :=
  ∀ (m : (ℓ : Loc Cert.AdamMixOutRefIdeal.nD Cert.AdamMixOutRefIdeal.τ Cert.AdamMixOutRefIdeal.sig) → Buf (Elt Ideal) ℓ) (g : Dev Cert.AdamMixOutRefIdeal.nD → PrngReg), Pre_AdamMixOutRefIdeal m →
    θ_run (Cert.AdamMixOutRefIdeal.defs (F := Ideal)) (onTc (τ := Cert.AdamMixOutRefIdeal.τ) (Cert.AdamMixOutRefIdeal.main (F := Ideal))) ⟨m, fun _ => 0, g⟩ (fun r => (∀ c : Dev Cert.AdamMixOutRefIdeal.nD,
      r.2.mem ((c.tc : Thread Cert.AdamMixOutRefIdeal.nD Cert.AdamMixOutRefIdeal.τ).loc Cert.AdamMixOutRefIdeal.main_arg0) = m ((c.tc : Thread Cert.AdamMixOutRefIdeal.nD Cert.AdamMixOutRefIdeal.τ).loc Cert.AdamMixOutRefIdeal.main_arg0)
      ∧ r.2.mem ((c.tc : Thread Cert.AdamMixOutRefIdeal.nD Cert.AdamMixOutRefIdeal.τ).loc Cert.AdamMixOutRefIdeal.main_arg1) = m ((c.tc : Thread Cert.AdamMixOutRefIdeal.nD Cert.AdamMixOutRefIdeal.τ).loc Cert.AdamMixOutRefIdeal.main_arg1)
      ∧ r.2.mem ((c.tc : Thread Cert.AdamMixOutRefIdeal.nD Cert.AdamMixOutRefIdeal.τ).loc Cert.AdamMixOutRefIdeal.main_arg2) = m ((c.tc : Thread Cert.AdamMixOutRefIdeal.nD Cert.AdamMixOutRefIdeal.τ).loc Cert.AdamMixOutRefIdeal.main_arg2)
      ∧ r.2.mem ((c.tc : Thread Cert.AdamMixOutRefIdeal.nD Cert.AdamMixOutRefIdeal.τ).loc Cert.AdamMixOutRefIdeal.main_arg3) = m ((c.tc : Thread Cert.AdamMixOutRefIdeal.nD Cert.AdamMixOutRefIdeal.τ).loc Cert.AdamMixOutRefIdeal.main_arg3))
      ∧ r.2.sem = fun _ => 0)

def quiescent_AdamGdnConv [hAdamGdnConv : Cert.AdamGdnConv.Facts] : Prop :=
  ∀ (m : (ℓ : Loc Cert.AdamGdnConv.nD Cert.AdamGdnConv.τ Cert.AdamGdnConv.sig) → Buf (Elt Bits) ℓ) (g : Dev Cert.AdamGdnConv.nD → PrngReg), Pre_AdamGdnConv m →
    θ_run (Cert.AdamGdnConv.defs (F := Bits)) (onTc (τ := Cert.AdamGdnConv.τ) (Cert.AdamGdnConv.main (F := Bits))) ⟨m, fun _ => 0, g⟩ (fun r => (∀ c : Dev Cert.AdamGdnConv.nD,
      r.2.mem ((c.tc : Thread Cert.AdamGdnConv.nD Cert.AdamGdnConv.τ).loc Cert.AdamGdnConv.main_arg0) = m ((c.tc : Thread Cert.AdamGdnConv.nD Cert.AdamGdnConv.τ).loc Cert.AdamGdnConv.main_arg0)
      ∧ r.2.mem ((c.tc : Thread Cert.AdamGdnConv.nD Cert.AdamGdnConv.τ).loc Cert.AdamGdnConv.main_arg1) = m ((c.tc : Thread Cert.AdamGdnConv.nD Cert.AdamGdnConv.τ).loc Cert.AdamGdnConv.main_arg1)
      ∧ r.2.mem ((c.tc : Thread Cert.AdamGdnConv.nD Cert.AdamGdnConv.τ).loc Cert.AdamGdnConv.main_arg2) = m ((c.tc : Thread Cert.AdamGdnConv.nD Cert.AdamGdnConv.τ).loc Cert.AdamGdnConv.main_arg2)
      ∧ r.2.mem ((c.tc : Thread Cert.AdamGdnConv.nD Cert.AdamGdnConv.τ).loc Cert.AdamGdnConv.main_arg3) = m ((c.tc : Thread Cert.AdamGdnConv.nD Cert.AdamGdnConv.τ).loc Cert.AdamGdnConv.main_arg3))
      ∧ r.2.sem = fun _ => 0)

def quiescent_AdamGdnConvIdeal [hAdamGdnConvIdeal : Cert.AdamGdnConvIdeal.Facts] : Prop :=
  ∀ (m : (ℓ : Loc Cert.AdamGdnConvIdeal.nD Cert.AdamGdnConvIdeal.τ Cert.AdamGdnConvIdeal.sig) → Buf (Elt Ideal) ℓ) (g : Dev Cert.AdamGdnConvIdeal.nD → PrngReg), Pre_AdamGdnConvIdeal m →
    θ_run (Cert.AdamGdnConvIdeal.defs (F := Ideal)) (onTc (τ := Cert.AdamGdnConvIdeal.τ) (Cert.AdamGdnConvIdeal.main (F := Ideal))) ⟨m, fun _ => 0, g⟩ (fun r => (∀ c : Dev Cert.AdamGdnConvIdeal.nD,
      r.2.mem ((c.tc : Thread Cert.AdamGdnConvIdeal.nD Cert.AdamGdnConvIdeal.τ).loc Cert.AdamGdnConvIdeal.main_arg0) = m ((c.tc : Thread Cert.AdamGdnConvIdeal.nD Cert.AdamGdnConvIdeal.τ).loc Cert.AdamGdnConvIdeal.main_arg0)
      ∧ r.2.mem ((c.tc : Thread Cert.AdamGdnConvIdeal.nD Cert.AdamGdnConvIdeal.τ).loc Cert.AdamGdnConvIdeal.main_arg1) = m ((c.tc : Thread Cert.AdamGdnConvIdeal.nD Cert.AdamGdnConvIdeal.τ).loc Cert.AdamGdnConvIdeal.main_arg1)
      ∧ r.2.mem ((c.tc : Thread Cert.AdamGdnConvIdeal.nD Cert.AdamGdnConvIdeal.τ).loc Cert.AdamGdnConvIdeal.main_arg2) = m ((c.tc : Thread Cert.AdamGdnConvIdeal.nD Cert.AdamGdnConvIdeal.τ).loc Cert.AdamGdnConvIdeal.main_arg2)
      ∧ r.2.mem ((c.tc : Thread Cert.AdamGdnConvIdeal.nD Cert.AdamGdnConvIdeal.τ).loc Cert.AdamGdnConvIdeal.main_arg3) = m ((c.tc : Thread Cert.AdamGdnConvIdeal.nD Cert.AdamGdnConvIdeal.τ).loc Cert.AdamGdnConvIdeal.main_arg3))
      ∧ r.2.sem = fun _ => 0)

def quiescent_AdamGdnConvRefIdeal [hAdamGdnConvRefIdeal : Cert.AdamGdnConvRefIdeal.Facts] : Prop :=
  ∀ (m : (ℓ : Loc Cert.AdamGdnConvRefIdeal.nD Cert.AdamGdnConvRefIdeal.τ Cert.AdamGdnConvRefIdeal.sig) → Buf (Elt Ideal) ℓ) (g : Dev Cert.AdamGdnConvRefIdeal.nD → PrngReg), Pre_AdamGdnConvRefIdeal m →
    θ_run (Cert.AdamGdnConvRefIdeal.defs (F := Ideal)) (onTc (τ := Cert.AdamGdnConvRefIdeal.τ) (Cert.AdamGdnConvRefIdeal.main (F := Ideal))) ⟨m, fun _ => 0, g⟩ (fun r => (∀ c : Dev Cert.AdamGdnConvRefIdeal.nD,
      r.2.mem ((c.tc : Thread Cert.AdamGdnConvRefIdeal.nD Cert.AdamGdnConvRefIdeal.τ).loc Cert.AdamGdnConvRefIdeal.main_arg0) = m ((c.tc : Thread Cert.AdamGdnConvRefIdeal.nD Cert.AdamGdnConvRefIdeal.τ).loc Cert.AdamGdnConvRefIdeal.main_arg0)
      ∧ r.2.mem ((c.tc : Thread Cert.AdamGdnConvRefIdeal.nD Cert.AdamGdnConvRefIdeal.τ).loc Cert.AdamGdnConvRefIdeal.main_arg1) = m ((c.tc : Thread Cert.AdamGdnConvRefIdeal.nD Cert.AdamGdnConvRefIdeal.τ).loc Cert.AdamGdnConvRefIdeal.main_arg1)
      ∧ r.2.mem ((c.tc : Thread Cert.AdamGdnConvRefIdeal.nD Cert.AdamGdnConvRefIdeal.τ).loc Cert.AdamGdnConvRefIdeal.main_arg2) = m ((c.tc : Thread Cert.AdamGdnConvRefIdeal.nD Cert.AdamGdnConvRefIdeal.τ).loc Cert.AdamGdnConvRefIdeal.main_arg2)
      ∧ r.2.mem ((c.tc : Thread Cert.AdamGdnConvRefIdeal.nD Cert.AdamGdnConvRefIdeal.τ).loc Cert.AdamGdnConvRefIdeal.main_arg3) = m ((c.tc : Thread Cert.AdamGdnConvRefIdeal.nD Cert.AdamGdnConvRefIdeal.τ).loc Cert.AdamGdnConvRefIdeal.main_arg3))
      ∧ r.2.sem = fun _ => 0)

def quiescent_AdamLruConv [hAdamLruConv : Cert.AdamLruConv.Facts] : Prop :=
  ∀ (m : (ℓ : Loc Cert.AdamLruConv.nD Cert.AdamLruConv.τ Cert.AdamLruConv.sig) → Buf (Elt Bits) ℓ) (g : Dev Cert.AdamLruConv.nD → PrngReg), Pre_AdamLruConv m →
    θ_run (Cert.AdamLruConv.defs (F := Bits)) (onTc (τ := Cert.AdamLruConv.τ) (Cert.AdamLruConv.main (F := Bits))) ⟨m, fun _ => 0, g⟩ (fun r => (∀ c : Dev Cert.AdamLruConv.nD,
      r.2.mem ((c.tc : Thread Cert.AdamLruConv.nD Cert.AdamLruConv.τ).loc Cert.AdamLruConv.main_arg0) = m ((c.tc : Thread Cert.AdamLruConv.nD Cert.AdamLruConv.τ).loc Cert.AdamLruConv.main_arg0)
      ∧ r.2.mem ((c.tc : Thread Cert.AdamLruConv.nD Cert.AdamLruConv.τ).loc Cert.AdamLruConv.main_arg1) = m ((c.tc : Thread Cert.AdamLruConv.nD Cert.AdamLruConv.τ).loc Cert.AdamLruConv.main_arg1)
      ∧ r.2.mem ((c.tc : Thread Cert.AdamLruConv.nD Cert.AdamLruConv.τ).loc Cert.AdamLruConv.main_arg2) = m ((c.tc : Thread Cert.AdamLruConv.nD Cert.AdamLruConv.τ).loc Cert.AdamLruConv.main_arg2)
      ∧ r.2.mem ((c.tc : Thread Cert.AdamLruConv.nD Cert.AdamLruConv.τ).loc Cert.AdamLruConv.main_arg3) = m ((c.tc : Thread Cert.AdamLruConv.nD Cert.AdamLruConv.τ).loc Cert.AdamLruConv.main_arg3))
      ∧ r.2.sem = fun _ => 0)

def quiescent_AdamLruConvIdeal [hAdamLruConvIdeal : Cert.AdamLruConvIdeal.Facts] : Prop :=
  ∀ (m : (ℓ : Loc Cert.AdamLruConvIdeal.nD Cert.AdamLruConvIdeal.τ Cert.AdamLruConvIdeal.sig) → Buf (Elt Ideal) ℓ) (g : Dev Cert.AdamLruConvIdeal.nD → PrngReg), Pre_AdamLruConvIdeal m →
    θ_run (Cert.AdamLruConvIdeal.defs (F := Ideal)) (onTc (τ := Cert.AdamLruConvIdeal.τ) (Cert.AdamLruConvIdeal.main (F := Ideal))) ⟨m, fun _ => 0, g⟩ (fun r => (∀ c : Dev Cert.AdamLruConvIdeal.nD,
      r.2.mem ((c.tc : Thread Cert.AdamLruConvIdeal.nD Cert.AdamLruConvIdeal.τ).loc Cert.AdamLruConvIdeal.main_arg0) = m ((c.tc : Thread Cert.AdamLruConvIdeal.nD Cert.AdamLruConvIdeal.τ).loc Cert.AdamLruConvIdeal.main_arg0)
      ∧ r.2.mem ((c.tc : Thread Cert.AdamLruConvIdeal.nD Cert.AdamLruConvIdeal.τ).loc Cert.AdamLruConvIdeal.main_arg1) = m ((c.tc : Thread Cert.AdamLruConvIdeal.nD Cert.AdamLruConvIdeal.τ).loc Cert.AdamLruConvIdeal.main_arg1)
      ∧ r.2.mem ((c.tc : Thread Cert.AdamLruConvIdeal.nD Cert.AdamLruConvIdeal.τ).loc Cert.AdamLruConvIdeal.main_arg2) = m ((c.tc : Thread Cert.AdamLruConvIdeal.nD Cert.AdamLruConvIdeal.τ).loc Cert.AdamLruConvIdeal.main_arg2)
      ∧ r.2.mem ((c.tc : Thread Cert.AdamLruConvIdeal.nD Cert.AdamLruConvIdeal.τ).loc Cert.AdamLruConvIdeal.main_arg3) = m ((c.tc : Thread Cert.AdamLruConvIdeal.nD Cert.AdamLruConvIdeal.τ).loc Cert.AdamLruConvIdeal.main_arg3))
      ∧ r.2.sem = fun _ => 0)

def quiescent_AdamLruConvRefIdeal [hAdamLruConvRefIdeal : Cert.AdamLruConvRefIdeal.Facts] : Prop :=
  ∀ (m : (ℓ : Loc Cert.AdamLruConvRefIdeal.nD Cert.AdamLruConvRefIdeal.τ Cert.AdamLruConvRefIdeal.sig) → Buf (Elt Ideal) ℓ) (g : Dev Cert.AdamLruConvRefIdeal.nD → PrngReg), Pre_AdamLruConvRefIdeal m →
    θ_run (Cert.AdamLruConvRefIdeal.defs (F := Ideal)) (onTc (τ := Cert.AdamLruConvRefIdeal.τ) (Cert.AdamLruConvRefIdeal.main (F := Ideal))) ⟨m, fun _ => 0, g⟩ (fun r => (∀ c : Dev Cert.AdamLruConvRefIdeal.nD,
      r.2.mem ((c.tc : Thread Cert.AdamLruConvRefIdeal.nD Cert.AdamLruConvRefIdeal.τ).loc Cert.AdamLruConvRefIdeal.main_arg0) = m ((c.tc : Thread Cert.AdamLruConvRefIdeal.nD Cert.AdamLruConvRefIdeal.τ).loc Cert.AdamLruConvRefIdeal.main_arg0)
      ∧ r.2.mem ((c.tc : Thread Cert.AdamLruConvRefIdeal.nD Cert.AdamLruConvRefIdeal.τ).loc Cert.AdamLruConvRefIdeal.main_arg1) = m ((c.tc : Thread Cert.AdamLruConvRefIdeal.nD Cert.AdamLruConvRefIdeal.τ).loc Cert.AdamLruConvRefIdeal.main_arg1)
      ∧ r.2.mem ((c.tc : Thread Cert.AdamLruConvRefIdeal.nD Cert.AdamLruConvRefIdeal.τ).loc Cert.AdamLruConvRefIdeal.main_arg2) = m ((c.tc : Thread Cert.AdamLruConvRefIdeal.nD Cert.AdamLruConvRefIdeal.τ).loc Cert.AdamLruConvRefIdeal.main_arg2)
      ∧ r.2.mem ((c.tc : Thread Cert.AdamLruConvRefIdeal.nD Cert.AdamLruConvRefIdeal.τ).loc Cert.AdamLruConvRefIdeal.main_arg3) = m ((c.tc : Thread Cert.AdamLruConvRefIdeal.nD Cert.AdamLruConvRefIdeal.τ).loc Cert.AdamLruConvRefIdeal.main_arg3))
      ∧ r.2.sem = fun _ => 0)

def quiescent_AdamSwaIn [hAdamSwaIn : Cert.AdamSwaIn.Facts] : Prop :=
  ∀ (m : (ℓ : Loc Cert.AdamSwaIn.nD Cert.AdamSwaIn.τ Cert.AdamSwaIn.sig) → Buf (Elt Bits) ℓ) (g : Dev Cert.AdamSwaIn.nD → PrngReg), Pre_AdamSwaIn m →
    θ_run (Cert.AdamSwaIn.defs (F := Bits)) (onTc (τ := Cert.AdamSwaIn.τ) (Cert.AdamSwaIn.main (F := Bits))) ⟨m, fun _ => 0, g⟩ (fun r => (∀ c : Dev Cert.AdamSwaIn.nD,
      r.2.mem ((c.tc : Thread Cert.AdamSwaIn.nD Cert.AdamSwaIn.τ).loc Cert.AdamSwaIn.main_arg0) = m ((c.tc : Thread Cert.AdamSwaIn.nD Cert.AdamSwaIn.τ).loc Cert.AdamSwaIn.main_arg0)
      ∧ r.2.mem ((c.tc : Thread Cert.AdamSwaIn.nD Cert.AdamSwaIn.τ).loc Cert.AdamSwaIn.main_arg1) = m ((c.tc : Thread Cert.AdamSwaIn.nD Cert.AdamSwaIn.τ).loc Cert.AdamSwaIn.main_arg1)
      ∧ r.2.mem ((c.tc : Thread Cert.AdamSwaIn.nD Cert.AdamSwaIn.τ).loc Cert.AdamSwaIn.main_arg2) = m ((c.tc : Thread Cert.AdamSwaIn.nD Cert.AdamSwaIn.τ).loc Cert.AdamSwaIn.main_arg2)
      ∧ r.2.mem ((c.tc : Thread Cert.AdamSwaIn.nD Cert.AdamSwaIn.τ).loc Cert.AdamSwaIn.main_arg3) = m ((c.tc : Thread Cert.AdamSwaIn.nD Cert.AdamSwaIn.τ).loc Cert.AdamSwaIn.main_arg3))
      ∧ r.2.sem = fun _ => 0)

def quiescent_AdamSwaInIdeal [hAdamSwaInIdeal : Cert.AdamSwaInIdeal.Facts] : Prop :=
  ∀ (m : (ℓ : Loc Cert.AdamSwaInIdeal.nD Cert.AdamSwaInIdeal.τ Cert.AdamSwaInIdeal.sig) → Buf (Elt Ideal) ℓ) (g : Dev Cert.AdamSwaInIdeal.nD → PrngReg), Pre_AdamSwaInIdeal m →
    θ_run (Cert.AdamSwaInIdeal.defs (F := Ideal)) (onTc (τ := Cert.AdamSwaInIdeal.τ) (Cert.AdamSwaInIdeal.main (F := Ideal))) ⟨m, fun _ => 0, g⟩ (fun r => (∀ c : Dev Cert.AdamSwaInIdeal.nD,
      r.2.mem ((c.tc : Thread Cert.AdamSwaInIdeal.nD Cert.AdamSwaInIdeal.τ).loc Cert.AdamSwaInIdeal.main_arg0) = m ((c.tc : Thread Cert.AdamSwaInIdeal.nD Cert.AdamSwaInIdeal.τ).loc Cert.AdamSwaInIdeal.main_arg0)
      ∧ r.2.mem ((c.tc : Thread Cert.AdamSwaInIdeal.nD Cert.AdamSwaInIdeal.τ).loc Cert.AdamSwaInIdeal.main_arg1) = m ((c.tc : Thread Cert.AdamSwaInIdeal.nD Cert.AdamSwaInIdeal.τ).loc Cert.AdamSwaInIdeal.main_arg1)
      ∧ r.2.mem ((c.tc : Thread Cert.AdamSwaInIdeal.nD Cert.AdamSwaInIdeal.τ).loc Cert.AdamSwaInIdeal.main_arg2) = m ((c.tc : Thread Cert.AdamSwaInIdeal.nD Cert.AdamSwaInIdeal.τ).loc Cert.AdamSwaInIdeal.main_arg2)
      ∧ r.2.mem ((c.tc : Thread Cert.AdamSwaInIdeal.nD Cert.AdamSwaInIdeal.τ).loc Cert.AdamSwaInIdeal.main_arg3) = m ((c.tc : Thread Cert.AdamSwaInIdeal.nD Cert.AdamSwaInIdeal.τ).loc Cert.AdamSwaInIdeal.main_arg3))
      ∧ r.2.sem = fun _ => 0)

def quiescent_AdamSwaInRefIdeal [hAdamSwaInRefIdeal : Cert.AdamSwaInRefIdeal.Facts] : Prop :=
  ∀ (m : (ℓ : Loc Cert.AdamSwaInRefIdeal.nD Cert.AdamSwaInRefIdeal.τ Cert.AdamSwaInRefIdeal.sig) → Buf (Elt Ideal) ℓ) (g : Dev Cert.AdamSwaInRefIdeal.nD → PrngReg), Pre_AdamSwaInRefIdeal m →
    θ_run (Cert.AdamSwaInRefIdeal.defs (F := Ideal)) (onTc (τ := Cert.AdamSwaInRefIdeal.τ) (Cert.AdamSwaInRefIdeal.main (F := Ideal))) ⟨m, fun _ => 0, g⟩ (fun r => (∀ c : Dev Cert.AdamSwaInRefIdeal.nD,
      r.2.mem ((c.tc : Thread Cert.AdamSwaInRefIdeal.nD Cert.AdamSwaInRefIdeal.τ).loc Cert.AdamSwaInRefIdeal.main_arg0) = m ((c.tc : Thread Cert.AdamSwaInRefIdeal.nD Cert.AdamSwaInRefIdeal.τ).loc Cert.AdamSwaInRefIdeal.main_arg0)
      ∧ r.2.mem ((c.tc : Thread Cert.AdamSwaInRefIdeal.nD Cert.AdamSwaInRefIdeal.τ).loc Cert.AdamSwaInRefIdeal.main_arg1) = m ((c.tc : Thread Cert.AdamSwaInRefIdeal.nD Cert.AdamSwaInRefIdeal.τ).loc Cert.AdamSwaInRefIdeal.main_arg1)
      ∧ r.2.mem ((c.tc : Thread Cert.AdamSwaInRefIdeal.nD Cert.AdamSwaInRefIdeal.τ).loc Cert.AdamSwaInRefIdeal.main_arg2) = m ((c.tc : Thread Cert.AdamSwaInRefIdeal.nD Cert.AdamSwaInRefIdeal.τ).loc Cert.AdamSwaInRefIdeal.main_arg2)
      ∧ r.2.mem ((c.tc : Thread Cert.AdamSwaInRefIdeal.nD Cert.AdamSwaInRefIdeal.τ).loc Cert.AdamSwaInRefIdeal.main_arg3) = m ((c.tc : Thread Cert.AdamSwaInRefIdeal.nD Cert.AdamSwaInRefIdeal.τ).loc Cert.AdamSwaInRefIdeal.main_arg3))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormMemFwd [hNormMemFwd : Cert.NormMemFwd.Facts] : Prop :=
  ∀ (m : (ℓ : Loc Cert.NormMemFwd.nD Cert.NormMemFwd.τ Cert.NormMemFwd.sig) → Buf (Elt Bits) ℓ) (g : Dev Cert.NormMemFwd.nD → PrngReg), Pre_NormMemFwd m →
    θ_run (Cert.NormMemFwd.defs (F := Bits)) (onTc (τ := Cert.NormMemFwd.τ) (Cert.NormMemFwd.main (F := Bits))) ⟨m, fun _ => 0, g⟩ (fun r => (∀ c : Dev Cert.NormMemFwd.nD,
      r.2.mem ((c.tc : Thread Cert.NormMemFwd.nD Cert.NormMemFwd.τ).loc Cert.NormMemFwd.main_arg0) = m ((c.tc : Thread Cert.NormMemFwd.nD Cert.NormMemFwd.τ).loc Cert.NormMemFwd.main_arg0)
      ∧ r.2.mem ((c.tc : Thread Cert.NormMemFwd.nD Cert.NormMemFwd.τ).loc Cert.NormMemFwd.main_arg1) = m ((c.tc : Thread Cert.NormMemFwd.nD Cert.NormMemFwd.τ).loc Cert.NormMemFwd.main_arg1))
      ∧ r.2.sem = fun _ => 0)

def quiescent_NormMemFwdIdeal [hNormMemFwdIdeal : Cert.NormMemFwdIdeal.Facts] : Prop :=
  ∀ (m : (ℓ : Loc Cert.NormMemFwdIdeal.nD Cert.NormMemFwdIdeal.τ Cert.NormMemFwdIdeal.sig) → Buf (Elt Ideal) ℓ) (g : Dev Cert.NormMemFwdIdeal.nD → PrngReg), Pre_NormMemFwdIdeal m →
    θ_run (Cert.NormMemFwdIdeal.defs (F := Ideal)) (onTc (τ := Cert.NormMemFwdIdeal.τ) (Cert.NormMemFwdIdeal.main (F := Ideal))) ⟨m, fun _ => 0, g⟩ (fun r => (∀ c : Dev Cert.NormMemFwdIdeal.nD,
      r.2.mem ((c.tc : Thread Cert.NormMemFwdIdeal.nD Cert.NormMemFwdIdeal.τ).loc Cert.NormMemFwdIdeal.main_arg0) = m ((c.tc : Thread Cert.NormMemFwdIdeal.nD Cert.NormMemFwdIdeal.τ).loc Cert.NormMemFwdIdeal.main_arg0)
      ∧ r.2.mem ((c.tc : Thread Cert.NormMemFwdIdeal.nD Cert.NormMemFwdIdeal.τ).loc Cert.NormMemFwdIdeal.main_arg1) = m ((c.tc : Thread Cert.NormMemFwdIdeal.nD Cert.NormMemFwdIdeal.τ).loc Cert.NormMemFwdIdeal.main_arg1))
      ∧ r.2.sem = fun _ => 0)

def quiescent_NormMemFwdRefIdeal [hNormMemFwdRefIdeal : Cert.NormMemFwdRefIdeal.Facts] : Prop :=
  ∀ (m : (ℓ : Loc Cert.NormMemFwdRefIdeal.nD Cert.NormMemFwdRefIdeal.τ Cert.NormMemFwdRefIdeal.sig) → Buf (Elt Ideal) ℓ) (g : Dev Cert.NormMemFwdRefIdeal.nD → PrngReg), Pre_NormMemFwdRefIdeal m →
    θ_run (Cert.NormMemFwdRefIdeal.defs (F := Ideal)) (onTc (τ := Cert.NormMemFwdRefIdeal.τ) (Cert.NormMemFwdRefIdeal.main (F := Ideal))) ⟨m, fun _ => 0, g⟩ (fun r => (∀ c : Dev Cert.NormMemFwdRefIdeal.nD,
      r.2.mem ((c.tc : Thread Cert.NormMemFwdRefIdeal.nD Cert.NormMemFwdRefIdeal.τ).loc Cert.NormMemFwdRefIdeal.main_arg0) = m ((c.tc : Thread Cert.NormMemFwdRefIdeal.nD Cert.NormMemFwdRefIdeal.τ).loc Cert.NormMemFwdRefIdeal.main_arg0)
      ∧ r.2.mem ((c.tc : Thread Cert.NormMemFwdRefIdeal.nD Cert.NormMemFwdRefIdeal.τ).loc Cert.NormMemFwdRefIdeal.main_arg1) = m ((c.tc : Thread Cert.NormMemFwdRefIdeal.nD Cert.NormMemFwdRefIdeal.τ).loc Cert.NormMemFwdRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormMemBwd [hNormMemBwd : Cert.NormMemBwd.Facts] : Prop :=
  ∀ (m : (ℓ : Loc Cert.NormMemBwd.nD Cert.NormMemBwd.τ Cert.NormMemBwd.sig) → Buf (Elt Bits) ℓ) (g : Dev Cert.NormMemBwd.nD → PrngReg), Pre_NormMemBwd m →
    θ_run (Cert.NormMemBwd.defs (F := Bits)) (onTc (τ := Cert.NormMemBwd.τ) (Cert.NormMemBwd.main (F := Bits))) ⟨m, fun _ => 0, g⟩ (fun r => (∀ c : Dev Cert.NormMemBwd.nD,
      r.2.mem ((c.tc : Thread Cert.NormMemBwd.nD Cert.NormMemBwd.τ).loc Cert.NormMemBwd.main_arg0) = m ((c.tc : Thread Cert.NormMemBwd.nD Cert.NormMemBwd.τ).loc Cert.NormMemBwd.main_arg0)
      ∧ r.2.mem ((c.tc : Thread Cert.NormMemBwd.nD Cert.NormMemBwd.τ).loc Cert.NormMemBwd.main_arg1) = m ((c.tc : Thread Cert.NormMemBwd.nD Cert.NormMemBwd.τ).loc Cert.NormMemBwd.main_arg1)
      ∧ r.2.mem ((c.tc : Thread Cert.NormMemBwd.nD Cert.NormMemBwd.τ).loc Cert.NormMemBwd.main_arg2) = m ((c.tc : Thread Cert.NormMemBwd.nD Cert.NormMemBwd.τ).loc Cert.NormMemBwd.main_arg2))
      ∧ r.2.sem = fun _ => 0)

def quiescent_NormMemBwdIdeal [hNormMemBwdIdeal : Cert.NormMemBwdIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg), Pre_NormMemBwdIdeal m →
    θ_run (Cert.NormMemBwdIdeal.defs (F := Ideal)) (onTc (τ := Cert.NormMemBwdIdeal.τ) (Cert.NormMemBwdIdeal.main (F := Ideal))) ⟨m, fun _ => 0, g⟩ (fun r => (∀ c : Dev Cert.NormMemBwdIdeal.nD,
      r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
      ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
      ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ r.2.sem = fun _ => 0)

def quiescent_NormMemBwdRefIdeal [hNormMemBwdRefIdeal : Cert.NormMemBwdRefIdeal.Facts] : Prop :=
  ∀ (m : (ℓ : Loc Cert.NormMemBwdRefIdeal.nD Cert.NormMemBwdRefIdeal.τ Cert.NormMemBwdRefIdeal.sig) → Buf (Elt Ideal) ℓ) (g : Dev Cert.NormMemBwdRefIdeal.nD → PrngReg), Pre_NormMemBwdRefIdeal m →
    θ_run (Cert.NormMemBwdRefIdeal.defs (F := Ideal)) (onTc (τ := Cert.NormMemBwdRefIdeal.τ) (Cert.NormMemBwdRefIdeal.main (F := Ideal))) ⟨m, fun _ => 0, g⟩ (fun r => (∀ c : Dev Cert.NormMemBwdRefIdeal.nD,
      r.2.mem ((c.tc : Thread Cert.NormMemBwdRefIdeal.nD Cert.NormMemBwdRefIdeal.τ).loc Cert.NormMemBwdRefIdeal.main_arg0) = m ((c.tc : Thread Cert.NormMemBwdRefIdeal.nD Cert.NormMemBwdRefIdeal.τ).loc Cert.NormMemBwdRefIdeal.main_arg0)
      ∧ r.2.mem ((c.tc : Thread Cert.NormMemBwdRefIdeal.nD Cert.NormMemBwdRefIdeal.τ).loc Cert.NormMemBwdRefIdeal.main_arg1) = m ((c.tc : Thread Cert.NormMemBwdRefIdeal.nD Cert.NormMemBwdRefIdeal.τ).loc Cert.NormMemBwdRefIdeal.main_arg1)
      ∧ r.2.mem ((c.tc : Thread Cert.NormMemBwdRefIdeal.nD Cert.NormMemBwdRefIdeal.τ).loc Cert.NormMemBwdRefIdeal.main_arg2) = m ((c.tc : Thread Cert.NormMemBwdRefIdeal.nD Cert.NormMemBwdRefIdeal.τ).loc Cert.NormMemBwdRefIdeal.main_arg2))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1)
      ∧ r.2.mem ((c.tc : Thread Cert.XattnFwd.nD Cert.XattnFwd.τ).loc Cert.XattnFwd.main_arg2) = m ((c.tc : Thread Cert.XattnFwd.nD Cert.XattnFwd.τ).loc Cert.XattnFwd.main_arg2)
      ∧ r.2.mem ((c.tc : Thread Cert.XattnFwd.nD Cert.XattnFwd.τ).loc Cert.XattnFwd.main_arg3) = m ((c.tc : Thread Cert.XattnFwd.nD Cert.XattnFwd.τ).loc Cert.XattnFwd.main_arg3))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1)
      ∧ r.2.mem ((c.tc : Thread Cert.XattnFwdIdeal.nD Cert.XattnFwdIdeal.τ).loc Cert.XattnFwdIdeal.main_arg2) = m ((c.tc : Thread Cert.XattnFwdIdeal.nD Cert.XattnFwdIdeal.τ).loc Cert.XattnFwdIdeal.main_arg2)
      ∧ r.2.mem ((c.tc : Thread Cert.XattnFwdIdeal.nD Cert.XattnFwdIdeal.τ).loc Cert.XattnFwdIdeal.main_arg3) = m ((c.tc : Thread Cert.XattnFwdIdeal.nD Cert.XattnFwdIdeal.τ).loc Cert.XattnFwdIdeal.main_arg3))
      ∧ r.2.sem = fun _ => 0)

def quiescent_XattnFwdRefIdeal [hXattnFwdRefIdeal : Cert.XattnFwdRefIdeal.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1)
      ∧ r.2.mem ((c.tc : Thread Cert.XattnFwdRefIdeal.nD Cert.XattnFwdRefIdeal.τ).loc Cert.XattnFwdRefIdeal.main_arg2) = m ((c.tc : Thread Cert.XattnFwdRefIdeal.nD Cert.XattnFwdRefIdeal.τ).loc Cert.XattnFwdRefIdeal.main_arg2)
      ∧ r.2.mem ((c.tc : Thread Cert.XattnFwdRefIdeal.nD Cert.XattnFwdRefIdeal.τ).loc Cert.XattnFwdRefIdeal.main_arg3) = m ((c.tc : Thread Cert.XattnFwdRefIdeal.nD Cert.XattnFwdRefIdeal.τ).loc Cert.XattnFwdRefIdeal.main_arg3))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3))
      ∧ r.2.sem = fun _ => 0)

def quiescent_RopeTables [hRopeTables : Cert.RopeTables.Facts] : Prop :=
  ∀ (m : (ℓ : Loc Cert.RopeTables.nD Cert.RopeTables.τ Cert.RopeTables.sig) → Buf (Elt Bits) ℓ) (g : Dev Cert.RopeTables.nD → PrngReg), Pre_RopeTables m →
    θ_run (Cert.RopeTables.defs (F := Bits)) (onTc (τ := Cert.RopeTables.τ) (Cert.RopeTables.main (F := Bits))) ⟨m, fun _ => 0, g⟩ (fun r => (∀ c : Dev Cert.RopeTables.nD,
      r.2.mem ((c.tc : Thread Cert.RopeTables.nD Cert.RopeTables.τ).loc Cert.RopeTables.main_arg0) = m ((c.tc : Thread Cert.RopeTables.nD Cert.RopeTables.τ).loc Cert.RopeTables.main_arg0))
      ∧ r.2.sem = fun _ => 0)

def quiescent_RopeTablesIdeal [hRopeTablesIdeal : Cert.RopeTablesIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg), Pre_RopeTablesIdeal m →
    θ_run (Cert.RopeTablesIdeal.defs (F := Ideal)) (onTc (τ := Cert.RopeTablesIdeal.τ) (Cert.RopeTablesIdeal.main (F := Ideal))) ⟨m, fun _ => 0, g⟩ (fun r => (∀ c : Dev Cert.RopeTablesIdeal.nD,
      r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0))
      ∧ r.2.sem = fun _ => 0)

def quiescent_RopeTablesRefIdeal [hRopeTablesRefIdeal : Cert.RopeTablesRefIdeal.Facts] : Prop :=
  ∀ (m : (ℓ : Loc Cert.RopeTablesRefIdeal.nD Cert.RopeTablesRefIdeal.τ Cert.RopeTablesRefIdeal.sig) → Buf (Elt Ideal) ℓ) (g : Dev Cert.RopeTablesRefIdeal.nD → PrngReg), Pre_RopeTablesRefIdeal m →
    θ_run (Cert.RopeTablesRefIdeal.defs (F := Ideal)) (onTc (τ := Cert.RopeTablesRefIdeal.τ) (Cert.RopeTablesRefIdeal.main (F := Ideal))) ⟨m, fun _ => 0, g⟩ (fun r => (∀ c : Dev Cert.RopeTablesRefIdeal.nD,
      r.2.mem ((c.tc : Thread Cert.RopeTablesRefIdeal.nD Cert.RopeTablesRefIdeal.τ).loc Cert.RopeTablesRefIdeal.main_arg0) = m ((c.tc : Thread Cert.RopeTablesRefIdeal.nD Cert.RopeTablesRefIdeal.τ).loc Cert.RopeTablesRefIdeal.main_arg0))
      ∧ r.2.sem = fun _ => 0)

def preserves_Xattn_XattnIdeal : Prop :=
  True

def algebraic_XattnIdeal_XattnRefIdeal_pre_finite_xattn [hXattnIdeal : Cert.XattnIdeal.Facts] [hXattnRefIdeal : Cert.XattnRefIdeal.Facts] [hPre_finite_xattn : Cert.Pre_finite_xattn.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite_xattn m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v0_0)) (v1 : (c : Dev Cert.XattnIdeal.nD) → Buf (Elt Ideal) ((c.tc : Thread Cert.XattnIdeal.nD Cert.XattnIdeal.τ).loc Cert.XattnIdeal.main_v0_1)) (v2 : (c : Dev Cert.XattnIdeal.nD) → Buf (Elt Ideal) ((c.tc : Thread Cert.XattnIdeal.nD Cert.XattnIdeal.τ).loc Cert.XattnIdeal.main_v0_2)) (v3 : (c : Dev Cert.XattnIdeal.nD) → Buf (Elt Ideal) ((c.tc : Thread Cert.XattnIdeal.nD Cert.XattnIdeal.τ).loc Cert.XattnIdeal.main_v0_3)) (v4 : (c : Dev Cert.XattnIdeal.nD) → Buf (Elt Ideal) ((c.tc : Thread Cert.XattnIdeal.nD Cert.XattnIdeal.τ).loc Cert.XattnIdeal.main_v0_4)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0_0) = v0 c
          ∧ r.2.mem ((c.tc : Thread Cert.XattnIdeal.nD Cert.XattnIdeal.τ).loc Cert.XattnIdeal.main_v0_1) = v1 c
          ∧ r.2.mem ((c.tc : Thread Cert.XattnIdeal.nD Cert.XattnIdeal.τ).loc Cert.XattnIdeal.main_v0_2) = v2 c
          ∧ r.2.mem ((c.tc : Thread Cert.XattnIdeal.nD Cert.XattnIdeal.τ).loc Cert.XattnIdeal.main_v0_3) = v3 c
          ∧ r.2.mem ((c.tc : Thread Cert.XattnIdeal.nD Cert.XattnIdeal.τ).loc Cert.XattnIdeal.main_v0_4) = v4 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v139) = v0 c
          ∧ r.2.mem ((c.tc : Thread Cert.XattnRefIdeal.nD Cert.XattnRefIdeal.τ).loc Cert.XattnRefIdeal.main_v116) = v1 c
          ∧ r.2.mem ((c.tc : Thread Cert.XattnRefIdeal.nD Cert.XattnRefIdeal.τ).loc Cert.XattnRefIdeal.main_v94) = v2 c
          ∧ r.2.mem ((c.tc : Thread Cert.XattnRefIdeal.nD Cert.XattnRefIdeal.τ).loc Cert.XattnRefIdeal.main_v123) = v3 c
          ∧ r.2.mem ((c.tc : Thread Cert.XattnRefIdeal.nD Cert.XattnRefIdeal.τ).loc Cert.XattnRefIdeal.main_v101) = v4 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v1) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_FfnOutDa_FfnOutDaIdeal : Prop :=
  True

def algebraic_FfnOutDaIdeal_FfnOutDaRefIdeal [hFfnOutDaIdeal : Cert.FfnOutDaIdeal.Facts] [hFfnOutDaRefIdeal : Cert.FfnOutDaRefIdeal.Facts] : Prop :=
  ∀ (m : (ℓ : Loc Cert.FfnOutDaIdeal.nD Cert.FfnOutDaIdeal.τ Cert.FfnOutDaIdeal.sig) → Buf (Elt Ideal) ℓ) (g : Dev Cert.FfnOutDaIdeal.nD → PrngReg)
    (m' : (ℓ : Loc Cert.FfnOutDaRefIdeal.nD Cert.FfnOutDaRefIdeal.τ Cert.FfnOutDaRefIdeal.sig) → Buf (Elt Ideal) ℓ) (g' : Dev Cert.FfnOutDaRefIdeal.nD → PrngReg), Pre_FfnOutDaIdeal m →
    (∀ c : Dev Cert.FfnOutDaIdeal.nD,
      m' ((c.tc : Thread Cert.FfnOutDaRefIdeal.nD Cert.FfnOutDaRefIdeal.τ).loc Cert.FfnOutDaRefIdeal.main_arg0) = m ((c.tc : Thread Cert.FfnOutDaIdeal.nD Cert.FfnOutDaIdeal.τ).loc Cert.FfnOutDaIdeal.main_arg0)
      ∧ m' ((c.tc : Thread Cert.FfnOutDaRefIdeal.nD Cert.FfnOutDaRefIdeal.τ).loc Cert.FfnOutDaRefIdeal.main_arg1) = m ((c.tc : Thread Cert.FfnOutDaIdeal.nD Cert.FfnOutDaIdeal.τ).loc Cert.FfnOutDaIdeal.main_arg1)) →
    ∃ (v0 : (c : Dev Cert.FfnOutDaIdeal.nD) → Buf (Elt Ideal) ((c.tc : Thread Cert.FfnOutDaIdeal.nD Cert.FfnOutDaIdeal.τ).loc Cert.FfnOutDaIdeal.main_v1)),
      θ_run (Cert.FfnOutDaIdeal.defs (F := Ideal)) (onTc (τ := Cert.FfnOutDaIdeal.τ) (Cert.FfnOutDaIdeal.main (F := Ideal))) ⟨m, fun _ => 0, g⟩ (fun r => ∀ c : Dev Cert.FfnOutDaIdeal.nD,
          r.2.mem ((c.tc : Thread Cert.FfnOutDaIdeal.nD Cert.FfnOutDaIdeal.τ).loc Cert.FfnOutDaIdeal.main_v1) = v0 c
          ∧ r.2.mem ((c.tc : Thread Cert.FfnOutDaIdeal.nD Cert.FfnOutDaIdeal.τ).loc Cert.FfnOutDaIdeal.main_arg0) = m ((c.tc : Thread Cert.FfnOutDaIdeal.nD Cert.FfnOutDaIdeal.τ).loc Cert.FfnOutDaIdeal.main_arg0)
          ∧ r.2.mem ((c.tc : Thread Cert.FfnOutDaIdeal.nD Cert.FfnOutDaIdeal.τ).loc Cert.FfnOutDaIdeal.main_arg1) = m ((c.tc : Thread Cert.FfnOutDaIdeal.nD Cert.FfnOutDaIdeal.τ).loc Cert.FfnOutDaIdeal.main_arg1))
      ∧ θ_run (Cert.FfnOutDaRefIdeal.defs (F := Ideal)) (onTc (τ := Cert.FfnOutDaRefIdeal.τ) (Cert.FfnOutDaRefIdeal.main (F := Ideal))) ⟨m', fun _ => 0, g'⟩ (fun r => ∀ c : Dev Cert.FfnOutDaRefIdeal.nD,
          r.2.mem ((c.tc : Thread Cert.FfnOutDaRefIdeal.nD Cert.FfnOutDaRefIdeal.τ).loc Cert.FfnOutDaRefIdeal.main_v2) = v0 c
          ∧ r.2.mem ((c.tc : Thread Cert.FfnOutDaRefIdeal.nD Cert.FfnOutDaRefIdeal.τ).loc Cert.FfnOutDaRefIdeal.main_arg0) = m' ((c.tc : Thread Cert.FfnOutDaRefIdeal.nD Cert.FfnOutDaRefIdeal.τ).loc Cert.FfnOutDaRefIdeal.main_arg0)
          ∧ r.2.mem ((c.tc : Thread Cert.FfnOutDaRefIdeal.nD Cert.FfnOutDaRefIdeal.τ).loc Cert.FfnOutDaRefIdeal.main_arg1) = m' ((c.tc : Thread Cert.FfnOutDaRefIdeal.nD Cert.FfnOutDaRefIdeal.τ).loc Cert.FfnOutDaRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v5) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnInDhGate_FfnInDhGateIdeal : Prop :=
  True

def algebraic_FfnInDhGateIdeal_FfnInDhGateRefIdeal [hFfnInDhGateIdeal : Cert.FfnInDhGateIdeal.Facts] [hFfnInDhGateRefIdeal : Cert.FfnInDhGateRefIdeal.Facts] : Prop :=
  ∀ (m : (ℓ : Loc Cert.FfnInDhGateIdeal.nD Cert.FfnInDhGateIdeal.τ Cert.FfnInDhGateIdeal.sig) → Buf (Elt Ideal) ℓ) (g : Dev Cert.FfnInDhGateIdeal.nD → PrngReg)
    (m' : (ℓ : Loc Cert.FfnInDhGateRefIdeal.nD Cert.FfnInDhGateRefIdeal.τ Cert.FfnInDhGateRefIdeal.sig) → Buf (Elt Ideal) ℓ) (g' : Dev Cert.FfnInDhGateRefIdeal.nD → PrngReg), Pre_FfnInDhGateIdeal m →
    (∀ c : Dev Cert.FfnInDhGateIdeal.nD,
      m' ((c.tc : Thread Cert.FfnInDhGateRefIdeal.nD Cert.FfnInDhGateRefIdeal.τ).loc Cert.FfnInDhGateRefIdeal.main_arg0) = m ((c.tc : Thread Cert.FfnInDhGateIdeal.nD Cert.FfnInDhGateIdeal.τ).loc Cert.FfnInDhGateIdeal.main_arg0)
      ∧ m' ((c.tc : Thread Cert.FfnInDhGateRefIdeal.nD Cert.FfnInDhGateRefIdeal.τ).loc Cert.FfnInDhGateRefIdeal.main_arg1) = m ((c.tc : Thread Cert.FfnInDhGateIdeal.nD Cert.FfnInDhGateIdeal.τ).loc Cert.FfnInDhGateIdeal.main_arg1)) →
    ∃ (v0 : (c : Dev Cert.FfnInDhGateIdeal.nD) → Buf (Elt Ideal) ((c.tc : Thread Cert.FfnInDhGateIdeal.nD Cert.FfnInDhGateIdeal.τ).loc Cert.FfnInDhGateIdeal.main_v3)),
      θ_run (Cert.FfnInDhGateIdeal.defs (F := Ideal)) (onTc (τ := Cert.FfnInDhGateIdeal.τ) (Cert.FfnInDhGateIdeal.main (F := Ideal))) ⟨m, fun _ => 0, g⟩ (fun r => ∀ c : Dev Cert.FfnInDhGateIdeal.nD,
          r.2.mem ((c.tc : Thread Cert.FfnInDhGateIdeal.nD Cert.FfnInDhGateIdeal.τ).loc Cert.FfnInDhGateIdeal.main_v3) = v0 c
          ∧ r.2.mem ((c.tc : Thread Cert.FfnInDhGateIdeal.nD Cert.FfnInDhGateIdeal.τ).loc Cert.FfnInDhGateIdeal.main_arg0) = m ((c.tc : Thread Cert.FfnInDhGateIdeal.nD Cert.FfnInDhGateIdeal.τ).loc Cert.FfnInDhGateIdeal.main_arg0)
          ∧ r.2.mem ((c.tc : Thread Cert.FfnInDhGateIdeal.nD Cert.FfnInDhGateIdeal.τ).loc Cert.FfnInDhGateIdeal.main_arg1) = m ((c.tc : Thread Cert.FfnInDhGateIdeal.nD Cert.FfnInDhGateIdeal.τ).loc Cert.FfnInDhGateIdeal.main_arg1))
      ∧ θ_run (Cert.FfnInDhGateRefIdeal.defs (F := Ideal)) (onTc (τ := Cert.FfnInDhGateRefIdeal.τ) (Cert.FfnInDhGateRefIdeal.main (F := Ideal))) ⟨m', fun _ => 0, g'⟩ (fun r => ∀ c : Dev Cert.FfnInDhGateRefIdeal.nD,
          r.2.mem ((c.tc : Thread Cert.FfnInDhGateRefIdeal.nD Cert.FfnInDhGateRefIdeal.τ).loc Cert.FfnInDhGateRefIdeal.main_v4) = v0 c
          ∧ r.2.mem ((c.tc : Thread Cert.FfnInDhGateRefIdeal.nD Cert.FfnInDhGateRefIdeal.τ).loc Cert.FfnInDhGateRefIdeal.main_arg0) = m' ((c.tc : Thread Cert.FfnInDhGateRefIdeal.nD Cert.FfnInDhGateRefIdeal.τ).loc Cert.FfnInDhGateRefIdeal.main_arg0)
          ∧ r.2.mem ((c.tc : Thread Cert.FfnInDhGateRefIdeal.nD Cert.FfnInDhGateRefIdeal.τ).loc Cert.FfnInDhGateRefIdeal.main_arg1) = m' ((c.tc : Thread Cert.FfnInDhGateRefIdeal.nD Cert.FfnInDhGateRefIdeal.τ).loc Cert.FfnInDhGateRefIdeal.main_arg1))

def preserves_FfnInDhUp_FfnInDhUpIdeal : Prop :=
  True

def algebraic_FfnInDhUpIdeal_FfnInDhUpRefIdeal [hFfnInDhUpIdeal : Cert.FfnInDhUpIdeal.Facts] [hFfnInDhUpRefIdeal : Cert.FfnInDhUpRefIdeal.Facts] : Prop :=
  ∀ (m : (ℓ : Loc Cert.FfnInDhUpIdeal.nD Cert.FfnInDhUpIdeal.τ Cert.FfnInDhUpIdeal.sig) → Buf (Elt Ideal) ℓ) (g : Dev Cert.FfnInDhUpIdeal.nD → PrngReg)
    (m' : (ℓ : Loc Cert.FfnInDhUpRefIdeal.nD Cert.FfnInDhUpRefIdeal.τ Cert.FfnInDhUpRefIdeal.sig) → Buf (Elt Ideal) ℓ) (g' : Dev Cert.FfnInDhUpRefIdeal.nD → PrngReg), Pre_FfnInDhUpIdeal m →
    (∀ c : Dev Cert.FfnInDhUpIdeal.nD,
      m' ((c.tc : Thread Cert.FfnInDhUpRefIdeal.nD Cert.FfnInDhUpRefIdeal.τ).loc Cert.FfnInDhUpRefIdeal.main_arg0) = m ((c.tc : Thread Cert.FfnInDhUpIdeal.nD Cert.FfnInDhUpIdeal.τ).loc Cert.FfnInDhUpIdeal.main_arg0)
      ∧ m' ((c.tc : Thread Cert.FfnInDhUpRefIdeal.nD Cert.FfnInDhUpRefIdeal.τ).loc Cert.FfnInDhUpRefIdeal.main_arg1) = m ((c.tc : Thread Cert.FfnInDhUpIdeal.nD Cert.FfnInDhUpIdeal.τ).loc Cert.FfnInDhUpIdeal.main_arg1)
      ∧ m' ((c.tc : Thread Cert.FfnInDhUpRefIdeal.nD Cert.FfnInDhUpRefIdeal.τ).loc Cert.FfnInDhUpRefIdeal.main_arg2) = m ((c.tc : Thread Cert.FfnInDhUpIdeal.nD Cert.FfnInDhUpIdeal.τ).loc Cert.FfnInDhUpIdeal.main_arg2)) →
    ∃ (v0 : (c : Dev Cert.FfnInDhUpIdeal.nD) → Buf (Elt Ideal) ((c.tc : Thread Cert.FfnInDhUpIdeal.nD Cert.FfnInDhUpIdeal.τ).loc Cert.FfnInDhUpIdeal.main_v3)),
      θ_run (Cert.FfnInDhUpIdeal.defs (F := Ideal)) (onTc (τ := Cert.FfnInDhUpIdeal.τ) (Cert.FfnInDhUpIdeal.main (F := Ideal))) ⟨m, fun _ => 0, g⟩ (fun r => ∀ c : Dev Cert.FfnInDhUpIdeal.nD,
          r.2.mem ((c.tc : Thread Cert.FfnInDhUpIdeal.nD Cert.FfnInDhUpIdeal.τ).loc Cert.FfnInDhUpIdeal.main_v3) = v0 c
          ∧ r.2.mem ((c.tc : Thread Cert.FfnInDhUpIdeal.nD Cert.FfnInDhUpIdeal.τ).loc Cert.FfnInDhUpIdeal.main_arg0) = m ((c.tc : Thread Cert.FfnInDhUpIdeal.nD Cert.FfnInDhUpIdeal.τ).loc Cert.FfnInDhUpIdeal.main_arg0)
          ∧ r.2.mem ((c.tc : Thread Cert.FfnInDhUpIdeal.nD Cert.FfnInDhUpIdeal.τ).loc Cert.FfnInDhUpIdeal.main_arg1) = m ((c.tc : Thread Cert.FfnInDhUpIdeal.nD Cert.FfnInDhUpIdeal.τ).loc Cert.FfnInDhUpIdeal.main_arg1)
          ∧ r.2.mem ((c.tc : Thread Cert.FfnInDhUpIdeal.nD Cert.FfnInDhUpIdeal.τ).loc Cert.FfnInDhUpIdeal.main_arg2) = m ((c.tc : Thread Cert.FfnInDhUpIdeal.nD Cert.FfnInDhUpIdeal.τ).loc Cert.FfnInDhUpIdeal.main_arg2))
      ∧ θ_run (Cert.FfnInDhUpRefIdeal.defs (F := Ideal)) (onTc (τ := Cert.FfnInDhUpRefIdeal.τ) (Cert.FfnInDhUpRefIdeal.main (F := Ideal))) ⟨m', fun _ => 0, g'⟩ (fun r => ∀ c : Dev Cert.FfnInDhUpRefIdeal.nD,
          r.2.mem ((c.tc : Thread Cert.FfnInDhUpRefIdeal.nD Cert.FfnInDhUpRefIdeal.τ).loc Cert.FfnInDhUpRefIdeal.main_v5) = v0 c
          ∧ r.2.mem ((c.tc : Thread Cert.FfnInDhUpRefIdeal.nD Cert.FfnInDhUpRefIdeal.τ).loc Cert.FfnInDhUpRefIdeal.main_arg0) = m' ((c.tc : Thread Cert.FfnInDhUpRefIdeal.nD Cert.FfnInDhUpRefIdeal.τ).loc Cert.FfnInDhUpRefIdeal.main_arg0)
          ∧ r.2.mem ((c.tc : Thread Cert.FfnInDhUpRefIdeal.nD Cert.FfnInDhUpRefIdeal.τ).loc Cert.FfnInDhUpRefIdeal.main_arg1) = m' ((c.tc : Thread Cert.FfnInDhUpRefIdeal.nD Cert.FfnInDhUpRefIdeal.τ).loc Cert.FfnInDhUpRefIdeal.main_arg1)
          ∧ r.2.mem ((c.tc : Thread Cert.FfnInDhUpRefIdeal.nD Cert.FfnInDhUpRefIdeal.τ).loc Cert.FfnInDhUpRefIdeal.main_arg2) = m' ((c.tc : Thread Cert.FfnInDhUpRefIdeal.nD Cert.FfnInDhUpRefIdeal.τ).loc Cert.FfnInDhUpRefIdeal.main_arg2))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v7) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_HybIn_HybInIdeal : Prop :=
  True

def algebraic_HybInIdeal_HybInRefIdeal [hHybInIdeal : Cert.HybInIdeal.Facts] [hHybInRefIdeal : Cert.HybInRefIdeal.Facts] : Prop :=
  ∀ (m : (ℓ : Loc Cert.HybInIdeal.nD Cert.HybInIdeal.τ Cert.HybInIdeal.sig) → Buf (Elt Ideal) ℓ) (g : Dev Cert.HybInIdeal.nD → PrngReg)
    (m' : (ℓ : Loc Cert.HybInRefIdeal.nD Cert.HybInRefIdeal.τ Cert.HybInRefIdeal.sig) → Buf (Elt Ideal) ℓ) (g' : Dev Cert.HybInRefIdeal.nD → PrngReg), Pre_HybInIdeal m →
    (∀ c : Dev Cert.HybInIdeal.nD,
      m' ((c.tc : Thread Cert.HybInRefIdeal.nD Cert.HybInRefIdeal.τ).loc Cert.HybInRefIdeal.main_arg0) = m ((c.tc : Thread Cert.HybInIdeal.nD Cert.HybInIdeal.τ).loc Cert.HybInIdeal.main_arg0)
      ∧ m' ((c.tc : Thread Cert.HybInRefIdeal.nD Cert.HybInRefIdeal.τ).loc Cert.HybInRefIdeal.main_arg1) = m ((c.tc : Thread Cert.HybInIdeal.nD Cert.HybInIdeal.τ).loc Cert.HybInIdeal.main_arg1)) →
    ∃ (v0 : (c : Dev Cert.HybInIdeal.nD) → Buf (Elt Ideal) ((c.tc : Thread Cert.HybInIdeal.nD Cert.HybInIdeal.τ).loc Cert.HybInIdeal.main_v7)),
      θ_run (Cert.HybInIdeal.defs (F := Ideal)) (onTc (τ := Cert.HybInIdeal.τ) (Cert.HybInIdeal.main (F := Ideal))) ⟨m, fun _ => 0, g⟩ (fun r => ∀ c : Dev Cert.HybInIdeal.nD,
          r.2.mem ((c.tc : Thread Cert.HybInIdeal.nD Cert.HybInIdeal.τ).loc Cert.HybInIdeal.main_v7) = v0 c
          ∧ r.2.mem ((c.tc : Thread Cert.HybInIdeal.nD Cert.HybInIdeal.τ).loc Cert.HybInIdeal.main_arg0) = m ((c.tc : Thread Cert.HybInIdeal.nD Cert.HybInIdeal.τ).loc Cert.HybInIdeal.main_arg0)
          ∧ r.2.mem ((c.tc : Thread Cert.HybInIdeal.nD Cert.HybInIdeal.τ).loc Cert.HybInIdeal.main_arg1) = m ((c.tc : Thread Cert.HybInIdeal.nD Cert.HybInIdeal.τ).loc Cert.HybInIdeal.main_arg1))
      ∧ θ_run (Cert.HybInRefIdeal.defs (F := Ideal)) (onTc (τ := Cert.HybInRefIdeal.τ) (Cert.HybInRefIdeal.main (F := Ideal))) ⟨m', fun _ => 0, g'⟩ (fun r => ∀ c : Dev Cert.HybInRefIdeal.nD,
          r.2.mem ((c.tc : Thread Cert.HybInRefIdeal.nD Cert.HybInRefIdeal.τ).loc Cert.HybInRefIdeal.main_v6) = v0 c
          ∧ r.2.mem ((c.tc : Thread Cert.HybInRefIdeal.nD Cert.HybInRefIdeal.τ).loc Cert.HybInRefIdeal.main_arg0) = m' ((c.tc : Thread Cert.HybInRefIdeal.nD Cert.HybInRefIdeal.τ).loc Cert.HybInRefIdeal.main_arg0)
          ∧ r.2.mem ((c.tc : Thread Cert.HybInRefIdeal.nD Cert.HybInRefIdeal.τ).loc Cert.HybInRefIdeal.main_arg1) = m' ((c.tc : Thread Cert.HybInRefIdeal.nD Cert.HybInRefIdeal.τ).loc Cert.HybInRefIdeal.main_arg1))

def preserves_HybOut_HybOutIdeal : Prop :=
  True

def algebraic_HybOutIdeal_HybOutRefIdeal [hHybOutIdeal : Cert.HybOutIdeal.Facts] [hHybOutRefIdeal : Cert.HybOutRefIdeal.Facts] : Prop :=
  ∀ (m : (ℓ : Loc Cert.HybOutIdeal.nD Cert.HybOutIdeal.τ Cert.HybOutIdeal.sig) → Buf (Elt Ideal) ℓ) (g : Dev Cert.HybOutIdeal.nD → PrngReg)
    (m' : (ℓ : Loc Cert.HybOutRefIdeal.nD Cert.HybOutRefIdeal.τ Cert.HybOutRefIdeal.sig) → Buf (Elt Ideal) ℓ) (g' : Dev Cert.HybOutRefIdeal.nD → PrngReg), Pre_HybOutIdeal m →
    (∀ c : Dev Cert.HybOutIdeal.nD,
      m' ((c.tc : Thread Cert.HybOutRefIdeal.nD Cert.HybOutRefIdeal.τ).loc Cert.HybOutRefIdeal.main_arg0) = m ((c.tc : Thread Cert.HybOutIdeal.nD Cert.HybOutIdeal.τ).loc Cert.HybOutIdeal.main_arg0)
      ∧ m' ((c.tc : Thread Cert.HybOutRefIdeal.nD Cert.HybOutRefIdeal.τ).loc Cert.HybOutRefIdeal.main_arg1) = m ((c.tc : Thread Cert.HybOutIdeal.nD Cert.HybOutIdeal.τ).loc Cert.HybOutIdeal.main_arg1)
      ∧ m' ((c.tc : Thread Cert.HybOutRefIdeal.nD Cert.HybOutRefIdeal.τ).loc Cert.HybOutRefIdeal.main_arg2) = m ((c.tc : Thread Cert.HybOutIdeal.nD Cert.HybOutIdeal.τ).loc Cert.HybOutIdeal.main_arg2)) →
    ∃ (v0 : (c : Dev Cert.HybOutIdeal.nD) → Buf (Elt Ideal) ((c.tc : Thread Cert.HybOutIdeal.nD Cert.HybOutIdeal.τ).loc Cert.HybOutIdeal.main_v1)),
      θ_run (Cert.HybOutIdeal.defs (F := Ideal)) (onTc (τ := Cert.HybOutIdeal.τ) (Cert.HybOutIdeal.main (F := Ideal))) ⟨m, fun _ => 0, g⟩ (fun r => ∀ c : Dev Cert.HybOutIdeal.nD,
          r.2.mem ((c.tc : Thread Cert.HybOutIdeal.nD Cert.HybOutIdeal.τ).loc Cert.HybOutIdeal.main_v1) = v0 c
          ∧ r.2.mem ((c.tc : Thread Cert.HybOutIdeal.nD Cert.HybOutIdeal.τ).loc Cert.HybOutIdeal.main_arg0) = m ((c.tc : Thread Cert.HybOutIdeal.nD Cert.HybOutIdeal.τ).loc Cert.HybOutIdeal.main_arg0)
          ∧ r.2.mem ((c.tc : Thread Cert.HybOutIdeal.nD Cert.HybOutIdeal.τ).loc Cert.HybOutIdeal.main_arg1) = m ((c.tc : Thread Cert.HybOutIdeal.nD Cert.HybOutIdeal.τ).loc Cert.HybOutIdeal.main_arg1)
          ∧ r.2.mem ((c.tc : Thread Cert.HybOutIdeal.nD Cert.HybOutIdeal.τ).loc Cert.HybOutIdeal.main_arg2) = m ((c.tc : Thread Cert.HybOutIdeal.nD Cert.HybOutIdeal.τ).loc Cert.HybOutIdeal.main_arg2))
      ∧ θ_run (Cert.HybOutRefIdeal.defs (F := Ideal)) (onTc (τ := Cert.HybOutRefIdeal.τ) (Cert.HybOutRefIdeal.main (F := Ideal))) ⟨m', fun _ => 0, g'⟩ (fun r => ∀ c : Dev Cert.HybOutRefIdeal.nD,
          r.2.mem ((c.tc : Thread Cert.HybOutRefIdeal.nD Cert.HybOutRefIdeal.τ).loc Cert.HybOutRefIdeal.main_v2) = v0 c
          ∧ r.2.mem ((c.tc : Thread Cert.HybOutRefIdeal.nD Cert.HybOutRefIdeal.τ).loc Cert.HybOutRefIdeal.main_arg0) = m' ((c.tc : Thread Cert.HybOutRefIdeal.nD Cert.HybOutRefIdeal.τ).loc Cert.HybOutRefIdeal.main_arg0)
          ∧ r.2.mem ((c.tc : Thread Cert.HybOutRefIdeal.nD Cert.HybOutRefIdeal.τ).loc Cert.HybOutRefIdeal.main_arg1) = m' ((c.tc : Thread Cert.HybOutRefIdeal.nD Cert.HybOutRefIdeal.τ).loc Cert.HybOutRefIdeal.main_arg1)
          ∧ r.2.mem ((c.tc : Thread Cert.HybOutRefIdeal.nD Cert.HybOutRefIdeal.τ).loc Cert.HybOutRefIdeal.main_arg2) = m' ((c.tc : Thread Cert.HybOutRefIdeal.nD Cert.HybOutRefIdeal.τ).loc Cert.HybOutRefIdeal.main_arg2))

def preserves_MixOutDm_MixOutDmIdeal : Prop :=
  True

def algebraic_MixOutDmIdeal_MixOutDmRefIdeal [hMixOutDmIdeal : Cert.MixOutDmIdeal.Facts] [hMixOutDmRefIdeal : Cert.MixOutDmRefIdeal.Facts] : Prop :=
  ∀ (m : (ℓ : Loc Cert.MixOutDmIdeal.nD Cert.MixOutDmIdeal.τ Cert.MixOutDmIdeal.sig) → Buf (Elt Ideal) ℓ) (g : Dev Cert.MixOutDmIdeal.nD → PrngReg)
    (m' : (ℓ : Loc Cert.MixOutDmRefIdeal.nD Cert.MixOutDmRefIdeal.τ Cert.MixOutDmRefIdeal.sig) → Buf (Elt Ideal) ℓ) (g' : Dev Cert.MixOutDmRefIdeal.nD → PrngReg), Pre_MixOutDmIdeal m →
    (∀ c : Dev Cert.MixOutDmIdeal.nD,
      m' ((c.tc : Thread Cert.MixOutDmRefIdeal.nD Cert.MixOutDmRefIdeal.τ).loc Cert.MixOutDmRefIdeal.main_arg0) = m ((c.tc : Thread Cert.MixOutDmIdeal.nD Cert.MixOutDmIdeal.τ).loc Cert.MixOutDmIdeal.main_arg0)
      ∧ m' ((c.tc : Thread Cert.MixOutDmRefIdeal.nD Cert.MixOutDmRefIdeal.τ).loc Cert.MixOutDmRefIdeal.main_arg1) = m ((c.tc : Thread Cert.MixOutDmIdeal.nD Cert.MixOutDmIdeal.τ).loc Cert.MixOutDmIdeal.main_arg1)) →
    ∃ (v0 : (c : Dev Cert.MixOutDmIdeal.nD) → Buf (Elt Ideal) ((c.tc : Thread Cert.MixOutDmIdeal.nD Cert.MixOutDmIdeal.τ).loc Cert.MixOutDmIdeal.main_v1)),
      θ_run (Cert.MixOutDmIdeal.defs (F := Ideal)) (onTc (τ := Cert.MixOutDmIdeal.τ) (Cert.MixOutDmIdeal.main (F := Ideal))) ⟨m, fun _ => 0, g⟩ (fun r => ∀ c : Dev Cert.MixOutDmIdeal.nD,
          r.2.mem ((c.tc : Thread Cert.MixOutDmIdeal.nD Cert.MixOutDmIdeal.τ).loc Cert.MixOutDmIdeal.main_v1) = v0 c
          ∧ r.2.mem ((c.tc : Thread Cert.MixOutDmIdeal.nD Cert.MixOutDmIdeal.τ).loc Cert.MixOutDmIdeal.main_arg0) = m ((c.tc : Thread Cert.MixOutDmIdeal.nD Cert.MixOutDmIdeal.τ).loc Cert.MixOutDmIdeal.main_arg0)
          ∧ r.2.mem ((c.tc : Thread Cert.MixOutDmIdeal.nD Cert.MixOutDmIdeal.τ).loc Cert.MixOutDmIdeal.main_arg1) = m ((c.tc : Thread Cert.MixOutDmIdeal.nD Cert.MixOutDmIdeal.τ).loc Cert.MixOutDmIdeal.main_arg1))
      ∧ θ_run (Cert.MixOutDmRefIdeal.defs (F := Ideal)) (onTc (τ := Cert.MixOutDmRefIdeal.τ) (Cert.MixOutDmRefIdeal.main (F := Ideal))) ⟨m', fun _ => 0, g'⟩ (fun r => ∀ c : Dev Cert.MixOutDmRefIdeal.nD,
          r.2.mem ((c.tc : Thread Cert.MixOutDmRefIdeal.nD Cert.MixOutDmRefIdeal.τ).loc Cert.MixOutDmRefIdeal.main_v2) = v0 c
          ∧ r.2.mem ((c.tc : Thread Cert.MixOutDmRefIdeal.nD Cert.MixOutDmRefIdeal.τ).loc Cert.MixOutDmRefIdeal.main_arg0) = m' ((c.tc : Thread Cert.MixOutDmRefIdeal.nD Cert.MixOutDmRefIdeal.τ).loc Cert.MixOutDmRefIdeal.main_arg0)
          ∧ r.2.mem ((c.tc : Thread Cert.MixOutDmRefIdeal.nD Cert.MixOutDmRefIdeal.τ).loc Cert.MixOutDmRefIdeal.main_arg1) = m' ((c.tc : Thread Cert.MixOutDmRefIdeal.nD Cert.MixOutDmRefIdeal.τ).loc Cert.MixOutDmRefIdeal.main_arg1))

def preserves_HybOutDw_HybOutDwIdeal : Prop :=
  True

def algebraic_HybOutDwIdeal_HybOutDwRefIdeal [hHybOutDwIdeal : Cert.HybOutDwIdeal.Facts] [hHybOutDwRefIdeal : Cert.HybOutDwRefIdeal.Facts] : Prop :=
  ∀ (m : (ℓ : Loc Cert.HybOutDwIdeal.nD Cert.HybOutDwIdeal.τ Cert.HybOutDwIdeal.sig) → Buf (Elt Ideal) ℓ) (g : Dev Cert.HybOutDwIdeal.nD → PrngReg)
    (m' : (ℓ : Loc Cert.HybOutDwRefIdeal.nD Cert.HybOutDwRefIdeal.τ Cert.HybOutDwRefIdeal.sig) → Buf (Elt Ideal) ℓ) (g' : Dev Cert.HybOutDwRefIdeal.nD → PrngReg), Pre_HybOutDwIdeal m →
    (∀ c : Dev Cert.HybOutDwIdeal.nD,
      m' ((c.tc : Thread Cert.HybOutDwRefIdeal.nD Cert.HybOutDwRefIdeal.τ).loc Cert.HybOutDwRefIdeal.main_arg0) = m ((c.tc : Thread Cert.HybOutDwIdeal.nD Cert.HybOutDwIdeal.τ).loc Cert.HybOutDwIdeal.main_arg0)
      ∧ m' ((c.tc : Thread Cert.HybOutDwRefIdeal.nD Cert.HybOutDwRefIdeal.τ).loc Cert.HybOutDwRefIdeal.main_arg1) = m ((c.tc : Thread Cert.HybOutDwIdeal.nD Cert.HybOutDwIdeal.τ).loc Cert.HybOutDwIdeal.main_arg1)) →
    ∃ (v0 : (c : Dev Cert.HybOutDwIdeal.nD) → Buf (Elt Ideal) ((c.tc : Thread Cert.HybOutDwIdeal.nD Cert.HybOutDwIdeal.τ).loc Cert.HybOutDwIdeal.main_v0)),
      θ_run (Cert.HybOutDwIdeal.defs (F := Ideal)) (onTc (τ := Cert.HybOutDwIdeal.τ) (Cert.HybOutDwIdeal.main (F := Ideal))) ⟨m, fun _ => 0, g⟩ (fun r => ∀ c : Dev Cert.HybOutDwIdeal.nD,
          r.2.mem ((c.tc : Thread Cert.HybOutDwIdeal.nD Cert.HybOutDwIdeal.τ).loc Cert.HybOutDwIdeal.main_v0) = v0 c
          ∧ r.2.mem ((c.tc : Thread Cert.HybOutDwIdeal.nD Cert.HybOutDwIdeal.τ).loc Cert.HybOutDwIdeal.main_arg0) = m ((c.tc : Thread Cert.HybOutDwIdeal.nD Cert.HybOutDwIdeal.τ).loc Cert.HybOutDwIdeal.main_arg0)
          ∧ r.2.mem ((c.tc : Thread Cert.HybOutDwIdeal.nD Cert.HybOutDwIdeal.τ).loc Cert.HybOutDwIdeal.main_arg1) = m ((c.tc : Thread Cert.HybOutDwIdeal.nD Cert.HybOutDwIdeal.τ).loc Cert.HybOutDwIdeal.main_arg1))
      ∧ θ_run (Cert.HybOutDwRefIdeal.defs (F := Ideal)) (onTc (τ := Cert.HybOutDwRefIdeal.τ) (Cert.HybOutDwRefIdeal.main (F := Ideal))) ⟨m', fun _ => 0, g'⟩ (fun r => ∀ c : Dev Cert.HybOutDwRefIdeal.nD,
          r.2.mem ((c.tc : Thread Cert.HybOutDwRefIdeal.nD Cert.HybOutDwRefIdeal.τ).loc Cert.HybOutDwRefIdeal.main_v5) = v0 c
          ∧ r.2.mem ((c.tc : Thread Cert.HybOutDwRefIdeal.nD Cert.HybOutDwRefIdeal.τ).loc Cert.HybOutDwRefIdeal.main_arg0) = m' ((c.tc : Thread Cert.HybOutDwRefIdeal.nD Cert.HybOutDwRefIdeal.τ).loc Cert.HybOutDwRefIdeal.main_arg0)
          ∧ r.2.mem ((c.tc : Thread Cert.HybOutDwRefIdeal.nD Cert.HybOutDwRefIdeal.τ).loc Cert.HybOutDwRefIdeal.main_arg1) = m' ((c.tc : Thread Cert.HybOutDwRefIdeal.nD Cert.HybOutDwRefIdeal.τ).loc Cert.HybOutDwRefIdeal.main_arg1))

def preserves_HybInDh_HybInDhIdeal : Prop :=
  True

def algebraic_HybInDhIdeal_HybInDhRefIdeal [hHybInDhIdeal : Cert.HybInDhIdeal.Facts] [hHybInDhRefIdeal : Cert.HybInDhRefIdeal.Facts] : Prop :=
  ∀ (m : (ℓ : Loc Cert.HybInDhIdeal.nD Cert.HybInDhIdeal.τ Cert.HybInDhIdeal.sig) → Buf (Elt Ideal) ℓ) (g : Dev Cert.HybInDhIdeal.nD → PrngReg)
    (m' : (ℓ : Loc Cert.HybInDhRefIdeal.nD Cert.HybInDhRefIdeal.τ Cert.HybInDhRefIdeal.sig) → Buf (Elt Ideal) ℓ) (g' : Dev Cert.HybInDhRefIdeal.nD → PrngReg), Pre_HybInDhIdeal m →
    (∀ c : Dev Cert.HybInDhIdeal.nD,
      m' ((c.tc : Thread Cert.HybInDhRefIdeal.nD Cert.HybInDhRefIdeal.τ).loc Cert.HybInDhRefIdeal.main_arg0) = m ((c.tc : Thread Cert.HybInDhIdeal.nD Cert.HybInDhIdeal.τ).loc Cert.HybInDhIdeal.main_arg0)
      ∧ m' ((c.tc : Thread Cert.HybInDhRefIdeal.nD Cert.HybInDhRefIdeal.τ).loc Cert.HybInDhRefIdeal.main_arg1) = m ((c.tc : Thread Cert.HybInDhIdeal.nD Cert.HybInDhIdeal.τ).loc Cert.HybInDhIdeal.main_arg1)) →
    ∃ (v0 : (c : Dev Cert.HybInDhIdeal.nD) → Buf (Elt Ideal) ((c.tc : Thread Cert.HybInDhIdeal.nD Cert.HybInDhIdeal.τ).loc Cert.HybInDhIdeal.main_v7)),
      θ_run (Cert.HybInDhIdeal.defs (F := Ideal)) (onTc (τ := Cert.HybInDhIdeal.τ) (Cert.HybInDhIdeal.main (F := Ideal))) ⟨m, fun _ => 0, g⟩ (fun r => ∀ c : Dev Cert.HybInDhIdeal.nD,
          r.2.mem ((c.tc : Thread Cert.HybInDhIdeal.nD Cert.HybInDhIdeal.τ).loc Cert.HybInDhIdeal.main_v7) = v0 c
          ∧ r.2.mem ((c.tc : Thread Cert.HybInDhIdeal.nD Cert.HybInDhIdeal.τ).loc Cert.HybInDhIdeal.main_arg0) = m ((c.tc : Thread Cert.HybInDhIdeal.nD Cert.HybInDhIdeal.τ).loc Cert.HybInDhIdeal.main_arg0)
          ∧ r.2.mem ((c.tc : Thread Cert.HybInDhIdeal.nD Cert.HybInDhIdeal.τ).loc Cert.HybInDhIdeal.main_arg1) = m ((c.tc : Thread Cert.HybInDhIdeal.nD Cert.HybInDhIdeal.τ).loc Cert.HybInDhIdeal.main_arg1))
      ∧ θ_run (Cert.HybInDhRefIdeal.defs (F := Ideal)) (onTc (τ := Cert.HybInDhRefIdeal.τ) (Cert.HybInDhRefIdeal.main (F := Ideal))) ⟨m', fun _ => 0, g'⟩ (fun r => ∀ c : Dev Cert.HybInDhRefIdeal.nD,
          r.2.mem ((c.tc : Thread Cert.HybInDhRefIdeal.nD Cert.HybInDhRefIdeal.τ).loc Cert.HybInDhRefIdeal.main_v7) = v0 c
          ∧ r.2.mem ((c.tc : Thread Cert.HybInDhRefIdeal.nD Cert.HybInDhRefIdeal.τ).loc Cert.HybInDhRefIdeal.main_arg0) = m' ((c.tc : Thread Cert.HybInDhRefIdeal.nD Cert.HybInDhRefIdeal.τ).loc Cert.HybInDhRefIdeal.main_arg0)
          ∧ r.2.mem ((c.tc : Thread Cert.HybInDhRefIdeal.nD Cert.HybInDhRefIdeal.τ).loc Cert.HybInDhRefIdeal.main_arg1) = m' ((c.tc : Thread Cert.HybInDhRefIdeal.nD Cert.HybInDhRefIdeal.τ).loc Cert.HybInDhRefIdeal.main_arg1))

def preserves_HybInDw_HybInDwIdeal : Prop :=
  True

def algebraic_HybInDwIdeal_HybInDwRefIdeal [hHybInDwIdeal : Cert.HybInDwIdeal.Facts] [hHybInDwRefIdeal : Cert.HybInDwRefIdeal.Facts] : Prop :=
  ∀ (m : (ℓ : Loc Cert.HybInDwIdeal.nD Cert.HybInDwIdeal.τ Cert.HybInDwIdeal.sig) → Buf (Elt Ideal) ℓ) (g : Dev Cert.HybInDwIdeal.nD → PrngReg)
    (m' : (ℓ : Loc Cert.HybInDwRefIdeal.nD Cert.HybInDwRefIdeal.τ Cert.HybInDwRefIdeal.sig) → Buf (Elt Ideal) ℓ) (g' : Dev Cert.HybInDwRefIdeal.nD → PrngReg), Pre_HybInDwIdeal m →
    (∀ c : Dev Cert.HybInDwIdeal.nD,
      m' ((c.tc : Thread Cert.HybInDwRefIdeal.nD Cert.HybInDwRefIdeal.τ).loc Cert.HybInDwRefIdeal.main_arg0) = m ((c.tc : Thread Cert.HybInDwIdeal.nD Cert.HybInDwIdeal.τ).loc Cert.HybInDwIdeal.main_arg0)
      ∧ m' ((c.tc : Thread Cert.HybInDwRefIdeal.nD Cert.HybInDwRefIdeal.τ).loc Cert.HybInDwRefIdeal.main_arg1) = m ((c.tc : Thread Cert.HybInDwIdeal.nD Cert.HybInDwIdeal.τ).loc Cert.HybInDwIdeal.main_arg1)) →
    ∃ (v0 : (c : Dev Cert.HybInDwIdeal.nD) → Buf (Elt Ideal) ((c.tc : Thread Cert.HybInDwIdeal.nD Cert.HybInDwIdeal.τ).loc Cert.HybInDwIdeal.main_v0)),
      θ_run (Cert.HybInDwIdeal.defs (F := Ideal)) (onTc (τ := Cert.HybInDwIdeal.τ) (Cert.HybInDwIdeal.main (F := Ideal))) ⟨m, fun _ => 0, g⟩ (fun r => ∀ c : Dev Cert.HybInDwIdeal.nD,
          r.2.mem ((c.tc : Thread Cert.HybInDwIdeal.nD Cert.HybInDwIdeal.τ).loc Cert.HybInDwIdeal.main_v0) = v0 c
          ∧ r.2.mem ((c.tc : Thread Cert.HybInDwIdeal.nD Cert.HybInDwIdeal.τ).loc Cert.HybInDwIdeal.main_arg0) = m ((c.tc : Thread Cert.HybInDwIdeal.nD Cert.HybInDwIdeal.τ).loc Cert.HybInDwIdeal.main_arg0)
          ∧ r.2.mem ((c.tc : Thread Cert.HybInDwIdeal.nD Cert.HybInDwIdeal.τ).loc Cert.HybInDwIdeal.main_arg1) = m ((c.tc : Thread Cert.HybInDwIdeal.nD Cert.HybInDwIdeal.τ).loc Cert.HybInDwIdeal.main_arg1))
      ∧ θ_run (Cert.HybInDwRefIdeal.defs (F := Ideal)) (onTc (τ := Cert.HybInDwRefIdeal.τ) (Cert.HybInDwRefIdeal.main (F := Ideal))) ⟨m', fun _ => 0, g'⟩ (fun r => ∀ c : Dev Cert.HybInDwRefIdeal.nD,
          r.2.mem ((c.tc : Thread Cert.HybInDwRefIdeal.nD Cert.HybInDwRefIdeal.τ).loc Cert.HybInDwRefIdeal.main_v7) = v0 c
          ∧ r.2.mem ((c.tc : Thread Cert.HybInDwRefIdeal.nD Cert.HybInDwRefIdeal.τ).loc Cert.HybInDwRefIdeal.main_arg0) = m' ((c.tc : Thread Cert.HybInDwRefIdeal.nD Cert.HybInDwRefIdeal.τ).loc Cert.HybInDwRefIdeal.main_arg0)
          ∧ r.2.mem ((c.tc : Thread Cert.HybInDwRefIdeal.nD Cert.HybInDwRefIdeal.τ).loc Cert.HybInDwRefIdeal.main_arg1) = m' ((c.tc : Thread Cert.HybInDwRefIdeal.nD Cert.HybInDwRefIdeal.τ).loc Cert.HybInDwRefIdeal.main_arg1))

def preserves_SwaIn_SwaInIdeal : Prop :=
  True

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)) →
    ∃ (v0 : (c : Dev Cert.SwaInIdeal.nD) → Buf (Elt Ideal) ((c.tc : Thread Cert.SwaInIdeal.nD Cert.SwaInIdeal.τ).loc Cert.SwaInIdeal.main_v2)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v2) = v0 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v1) = v0 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1))

def preserves_SwaOut_SwaOutIdeal : Prop :=
  True

def algebraic_SwaOutIdeal_SwaOutRefIdeal [hSwaOutIdeal : Cert.SwaOutIdeal.Facts] [hSwaOutRefIdeal : Cert.SwaOutRefIdeal.Facts] : Prop :=
  ∀ (m : (ℓ : Loc Cert.SwaOutIdeal.nD Cert.SwaOutIdeal.τ Cert.SwaOutIdeal.sig) → Buf (Elt Ideal) ℓ) (g : Dev Cert.SwaOutIdeal.nD → PrngReg)
    (m' : (ℓ : Loc Cert.SwaOutRefIdeal.nD Cert.SwaOutRefIdeal.τ Cert.SwaOutRefIdeal.sig) → Buf (Elt Ideal) ℓ) (g' : Dev Cert.SwaOutRefIdeal.nD → PrngReg), Pre_SwaOutIdeal m →
    (∀ c : Dev Cert.SwaOutIdeal.nD,
      m' ((c.tc : Thread Cert.SwaOutRefIdeal.nD Cert.SwaOutRefIdeal.τ).loc Cert.SwaOutRefIdeal.main_arg0) = m ((c.tc : Thread Cert.SwaOutIdeal.nD Cert.SwaOutIdeal.τ).loc Cert.SwaOutIdeal.main_arg0)
      ∧ m' ((c.tc : Thread Cert.SwaOutRefIdeal.nD Cert.SwaOutRefIdeal.τ).loc Cert.SwaOutRefIdeal.main_arg1) = m ((c.tc : Thread Cert.SwaOutIdeal.nD Cert.SwaOutIdeal.τ).loc Cert.SwaOutIdeal.main_arg1)
      ∧ m' ((c.tc : Thread Cert.SwaOutRefIdeal.nD Cert.SwaOutRefIdeal.τ).loc Cert.SwaOutRefIdeal.main_arg2) = m ((c.tc : Thread Cert.SwaOutIdeal.nD Cert.SwaOutIdeal.τ).loc Cert.SwaOutIdeal.main_arg2)) →
    ∃ (v0 : (c : Dev Cert.SwaOutIdeal.nD) → Buf (Elt Ideal) ((c.tc : Thread Cert.SwaOutIdeal.nD Cert.SwaOutIdeal.τ).loc Cert.SwaOutIdeal.main_v1)),
      θ_run (Cert.SwaOutIdeal.defs (F := Ideal)) (onTc (τ := Cert.SwaOutIdeal.τ) (Cert.SwaOutIdeal.main (F := Ideal))) ⟨m, fun _ => 0, g⟩ (fun r => ∀ c : Dev Cert.SwaOutIdeal.nD,
          r.2.mem ((c.tc : Thread Cert.SwaOutIdeal.nD Cert.SwaOutIdeal.τ).loc Cert.SwaOutIdeal.main_v1) = v0 c
          ∧ r.2.mem ((c.tc : Thread Cert.SwaOutIdeal.nD Cert.SwaOutIdeal.τ).loc Cert.SwaOutIdeal.main_arg0) = m ((c.tc : Thread Cert.SwaOutIdeal.nD Cert.SwaOutIdeal.τ).loc Cert.SwaOutIdeal.main_arg0)
          ∧ r.2.mem ((c.tc : Thread Cert.SwaOutIdeal.nD Cert.SwaOutIdeal.τ).loc Cert.SwaOutIdeal.main_arg1) = m ((c.tc : Thread Cert.SwaOutIdeal.nD Cert.SwaOutIdeal.τ).loc Cert.SwaOutIdeal.main_arg1)
          ∧ r.2.mem ((c.tc : Thread Cert.SwaOutIdeal.nD Cert.SwaOutIdeal.τ).loc Cert.SwaOutIdeal.main_arg2) = m ((c.tc : Thread Cert.SwaOutIdeal.nD Cert.SwaOutIdeal.τ).loc Cert.SwaOutIdeal.main_arg2))
      ∧ θ_run (Cert.SwaOutRefIdeal.defs (F := Ideal)) (onTc (τ := Cert.SwaOutRefIdeal.τ) (Cert.SwaOutRefIdeal.main (F := Ideal))) ⟨m', fun _ => 0, g'⟩ (fun r => ∀ c : Dev Cert.SwaOutRefIdeal.nD,
          r.2.mem ((c.tc : Thread Cert.SwaOutRefIdeal.nD Cert.SwaOutRefIdeal.τ).loc Cert.SwaOutRefIdeal.main_v2) = v0 c
          ∧ r.2.mem ((c.tc : Thread Cert.SwaOutRefIdeal.nD Cert.SwaOutRefIdeal.τ).loc Cert.SwaOutRefIdeal.main_arg0) = m' ((c.tc : Thread Cert.SwaOutRefIdeal.nD Cert.SwaOutRefIdeal.τ).loc Cert.SwaOutRefIdeal.main_arg0)
          ∧ r.2.mem ((c.tc : Thread Cert.SwaOutRefIdeal.nD Cert.SwaOutRefIdeal.τ).loc Cert.SwaOutRefIdeal.main_arg1) = m' ((c.tc : Thread Cert.SwaOutRefIdeal.nD Cert.SwaOutRefIdeal.τ).loc Cert.SwaOutRefIdeal.main_arg1)
          ∧ r.2.mem ((c.tc : Thread Cert.SwaOutRefIdeal.nD Cert.SwaOutRefIdeal.τ).loc Cert.SwaOutRefIdeal.main_arg2) = m' ((c.tc : Thread Cert.SwaOutRefIdeal.nD Cert.SwaOutRefIdeal.τ).loc Cert.SwaOutRefIdeal.main_arg2))

def preserves_SwaOutDw_SwaOutDwIdeal : Prop :=
  True

def algebraic_SwaOutDwIdeal_SwaOutDwRefIdeal [hSwaOutDwIdeal : Cert.SwaOutDwIdeal.Facts] [hSwaOutDwRefIdeal : Cert.SwaOutDwRefIdeal.Facts] : Prop :=
  ∀ (m : (ℓ : Loc Cert.SwaOutDwIdeal.nD Cert.SwaOutDwIdeal.τ Cert.SwaOutDwIdeal.sig) → Buf (Elt Ideal) ℓ) (g : Dev Cert.SwaOutDwIdeal.nD → PrngReg)
    (m' : (ℓ : Loc Cert.SwaOutDwRefIdeal.nD Cert.SwaOutDwRefIdeal.τ Cert.SwaOutDwRefIdeal.sig) → Buf (Elt Ideal) ℓ) (g' : Dev Cert.SwaOutDwRefIdeal.nD → PrngReg), Pre_SwaOutDwIdeal m →
    (∀ c : Dev Cert.SwaOutDwIdeal.nD,
      m' ((c.tc : Thread Cert.SwaOutDwRefIdeal.nD Cert.SwaOutDwRefIdeal.τ).loc Cert.SwaOutDwRefIdeal.main_arg0) = m ((c.tc : Thread Cert.SwaOutDwIdeal.nD Cert.SwaOutDwIdeal.τ).loc Cert.SwaOutDwIdeal.main_arg0)
      ∧ m' ((c.tc : Thread Cert.SwaOutDwRefIdeal.nD Cert.SwaOutDwRefIdeal.τ).loc Cert.SwaOutDwRefIdeal.main_arg1) = m ((c.tc : Thread Cert.SwaOutDwIdeal.nD Cert.SwaOutDwIdeal.τ).loc Cert.SwaOutDwIdeal.main_arg1)) →
    ∃ (v0 : (c : Dev Cert.SwaOutDwIdeal.nD) → Buf (Elt Ideal) ((c.tc : Thread Cert.SwaOutDwIdeal.nD Cert.SwaOutDwIdeal.τ).loc Cert.SwaOutDwIdeal.main_v0)),
      θ_run (Cert.SwaOutDwIdeal.defs (F := Ideal)) (onTc (τ := Cert.SwaOutDwIdeal.τ) (Cert.SwaOutDwIdeal.main (F := Ideal))) ⟨m, fun _ => 0, g⟩ (fun r => ∀ c : Dev Cert.SwaOutDwIdeal.nD,
          r.2.mem ((c.tc : Thread Cert.SwaOutDwIdeal.nD Cert.SwaOutDwIdeal.τ).loc Cert.SwaOutDwIdeal.main_v0) = v0 c
          ∧ r.2.mem ((c.tc : Thread Cert.SwaOutDwIdeal.nD Cert.SwaOutDwIdeal.τ).loc Cert.SwaOutDwIdeal.main_arg0) = m ((c.tc : Thread Cert.SwaOutDwIdeal.nD Cert.SwaOutDwIdeal.τ).loc Cert.SwaOutDwIdeal.main_arg0)
          ∧ r.2.mem ((c.tc : Thread Cert.SwaOutDwIdeal.nD Cert.SwaOutDwIdeal.τ).loc Cert.SwaOutDwIdeal.main_arg1) = m ((c.tc : Thread Cert.SwaOutDwIdeal.nD Cert.SwaOutDwIdeal.τ).loc Cert.SwaOutDwIdeal.main_arg1))
      ∧ θ_run (Cert.SwaOutDwRefIdeal.defs (F := Ideal)) (onTc (τ := Cert.SwaOutDwRefIdeal.τ) (Cert.SwaOutDwRefIdeal.main (F := Ideal))) ⟨m', fun _ => 0, g'⟩ (fun r => ∀ c : Dev Cert.SwaOutDwRefIdeal.nD,
          r.2.mem ((c.tc : Thread Cert.SwaOutDwRefIdeal.nD Cert.SwaOutDwRefIdeal.τ).loc Cert.SwaOutDwRefIdeal.main_v5) = v0 c
          ∧ r.2.mem ((c.tc : Thread Cert.SwaOutDwRefIdeal.nD Cert.SwaOutDwRefIdeal.τ).loc Cert.SwaOutDwRefIdeal.main_arg0) = m' ((c.tc : Thread Cert.SwaOutDwRefIdeal.nD Cert.SwaOutDwRefIdeal.τ).loc Cert.SwaOutDwRefIdeal.main_arg0)
          ∧ r.2.mem ((c.tc : Thread Cert.SwaOutDwRefIdeal.nD Cert.SwaOutDwRefIdeal.τ).loc Cert.SwaOutDwRefIdeal.main_arg1) = m' ((c.tc : Thread Cert.SwaOutDwRefIdeal.nD Cert.SwaOutDwRefIdeal.τ).loc Cert.SwaOutDwRefIdeal.main_arg1))

def preserves_SwaInDh_SwaInDhIdeal : Prop :=
  True

def algebraic_SwaInDhIdeal_SwaInDhRefIdeal [hSwaInDhIdeal : Cert.SwaInDhIdeal.Facts] [hSwaInDhRefIdeal : Cert.SwaInDhRefIdeal.Facts] : Prop :=
  ∀ (m : (ℓ : Loc Cert.SwaInDhIdeal.nD Cert.SwaInDhIdeal.τ Cert.SwaInDhIdeal.sig) → Buf (Elt Ideal) ℓ) (g : Dev Cert.SwaInDhIdeal.nD → PrngReg)
    (m' : (ℓ : Loc Cert.SwaInDhRefIdeal.nD Cert.SwaInDhRefIdeal.τ Cert.SwaInDhRefIdeal.sig) → Buf (Elt Ideal) ℓ) (g' : Dev Cert.SwaInDhRefIdeal.nD → PrngReg), Pre_SwaInDhIdeal m →
    (∀ c : Dev Cert.SwaInDhIdeal.nD,
      m' ((c.tc : Thread Cert.SwaInDhRefIdeal.nD Cert.SwaInDhRefIdeal.τ).loc Cert.SwaInDhRefIdeal.main_arg0) = m ((c.tc : Thread Cert.SwaInDhIdeal.nD Cert.SwaInDhIdeal.τ).loc Cert.SwaInDhIdeal.main_arg0)
      ∧ m' ((c.tc : Thread Cert.SwaInDhRefIdeal.nD Cert.SwaInDhRefIdeal.τ).loc Cert.SwaInDhRefIdeal.main_arg1) = m ((c.tc : Thread Cert.SwaInDhIdeal.nD Cert.SwaInDhIdeal.τ).loc Cert.SwaInDhIdeal.main_arg1)) →
    ∃ (v0 : (c : Dev Cert.SwaInDhIdeal.nD) → Buf (Elt Ideal) ((c.tc : Thread Cert.SwaInDhIdeal.nD Cert.SwaInDhIdeal.τ).loc Cert.SwaInDhIdeal.main_v2)),
      θ_run (Cert.SwaInDhIdeal.defs (F := Ideal)) (onTc (τ := Cert.SwaInDhIdeal.τ) (Cert.SwaInDhIdeal.main (F := Ideal))) ⟨m, fun _ => 0, g⟩ (fun r => ∀ c : Dev Cert.SwaInDhIdeal.nD,
          r.2.mem ((c.tc : Thread Cert.SwaInDhIdeal.nD Cert.SwaInDhIdeal.τ).loc Cert.SwaInDhIdeal.main_v2) = v0 c
          ∧ r.2.mem ((c.tc : Thread Cert.SwaInDhIdeal.nD Cert.SwaInDhIdeal.τ).loc Cert.SwaInDhIdeal.main_arg0) = m ((c.tc : Thread Cert.SwaInDhIdeal.nD Cert.SwaInDhIdeal.τ).loc Cert.SwaInDhIdeal.main_arg0)
          ∧ r.2.mem ((c.tc : Thread Cert.SwaInDhIdeal.nD Cert.SwaInDhIdeal.τ).loc Cert.SwaInDhIdeal.main_arg1) = m ((c.tc : Thread Cert.SwaInDhIdeal.nD Cert.SwaInDhIdeal.τ).loc Cert.SwaInDhIdeal.main_arg1))
      ∧ θ_run (Cert.SwaInDhRefIdeal.defs (F := Ideal)) (onTc (τ := Cert.SwaInDhRefIdeal.τ) (Cert.SwaInDhRefIdeal.main (F := Ideal))) ⟨m', fun _ => 0, g'⟩ (fun r => ∀ c : Dev Cert.SwaInDhRefIdeal.nD,
          r.2.mem ((c.tc : Thread Cert.SwaInDhRefIdeal.nD Cert.SwaInDhRefIdeal.τ).loc Cert.SwaInDhRefIdeal.main_v3) = v0 c
          ∧ r.2.mem ((c.tc : Thread Cert.SwaInDhRefIdeal.nD Cert.SwaInDhRefIdeal.τ).loc Cert.SwaInDhRefIdeal.main_arg0) = m' ((c.tc : Thread Cert.SwaInDhRefIdeal.nD Cert.SwaInDhRefIdeal.τ).loc Cert.SwaInDhRefIdeal.main_arg0)
          ∧ r.2.mem ((c.tc : Thread Cert.SwaInDhRefIdeal.nD Cert.SwaInDhRefIdeal.τ).loc Cert.SwaInDhRefIdeal.main_arg1) = m' ((c.tc : Thread Cert.SwaInDhRefIdeal.nD Cert.SwaInDhRefIdeal.τ).loc Cert.SwaInDhRefIdeal.main_arg1))

def preserves_SwaInDw_SwaInDwIdeal : Prop :=
  True

def algebraic_SwaInDwIdeal_SwaInDwRefIdeal [hSwaInDwIdeal : Cert.SwaInDwIdeal.Facts] [hSwaInDwRefIdeal : Cert.SwaInDwRefIdeal.Facts] : Prop :=
  ∀ (m : (ℓ : Loc Cert.SwaInDwIdeal.nD Cert.SwaInDwIdeal.τ Cert.SwaInDwIdeal.sig) → Buf (Elt Ideal) ℓ) (g : Dev Cert.SwaInDwIdeal.nD → PrngReg)
    (m' : (ℓ : Loc Cert.SwaInDwRefIdeal.nD Cert.SwaInDwRefIdeal.τ Cert.SwaInDwRefIdeal.sig) → Buf (Elt Ideal) ℓ) (g' : Dev Cert.SwaInDwRefIdeal.nD → PrngReg), Pre_SwaInDwIdeal m →
    (∀ c : Dev Cert.SwaInDwIdeal.nD,
      m' ((c.tc : Thread Cert.SwaInDwRefIdeal.nD Cert.SwaInDwRefIdeal.τ).loc Cert.SwaInDwRefIdeal.main_arg0) = m ((c.tc : Thread Cert.SwaInDwIdeal.nD Cert.SwaInDwIdeal.τ).loc Cert.SwaInDwIdeal.main_arg0)
      ∧ m' ((c.tc : Thread Cert.SwaInDwRefIdeal.nD Cert.SwaInDwRefIdeal.τ).loc Cert.SwaInDwRefIdeal.main_arg1) = m ((c.tc : Thread Cert.SwaInDwIdeal.nD Cert.SwaInDwIdeal.τ).loc Cert.SwaInDwIdeal.main_arg1)) →
    ∃ (v0 : (c : Dev Cert.SwaInDwIdeal.nD) → Buf (Elt Ideal) ((c.tc : Thread Cert.SwaInDwIdeal.nD Cert.SwaInDwIdeal.τ).loc Cert.SwaInDwIdeal.main_v0)),
      θ_run (Cert.SwaInDwIdeal.defs (F := Ideal)) (onTc (τ := Cert.SwaInDwIdeal.τ) (Cert.SwaInDwIdeal.main (F := Ideal))) ⟨m, fun _ => 0, g⟩ (fun r => ∀ c : Dev Cert.SwaInDwIdeal.nD,
          r.2.mem ((c.tc : Thread Cert.SwaInDwIdeal.nD Cert.SwaInDwIdeal.τ).loc Cert.SwaInDwIdeal.main_v0) = v0 c
          ∧ r.2.mem ((c.tc : Thread Cert.SwaInDwIdeal.nD Cert.SwaInDwIdeal.τ).loc Cert.SwaInDwIdeal.main_arg0) = m ((c.tc : Thread Cert.SwaInDwIdeal.nD Cert.SwaInDwIdeal.τ).loc Cert.SwaInDwIdeal.main_arg0)
          ∧ r.2.mem ((c.tc : Thread Cert.SwaInDwIdeal.nD Cert.SwaInDwIdeal.τ).loc Cert.SwaInDwIdeal.main_arg1) = m ((c.tc : Thread Cert.SwaInDwIdeal.nD Cert.SwaInDwIdeal.τ).loc Cert.SwaInDwIdeal.main_arg1))
      ∧ θ_run (Cert.SwaInDwRefIdeal.defs (F := Ideal)) (onTc (τ := Cert.SwaInDwRefIdeal.τ) (Cert.SwaInDwRefIdeal.main (F := Ideal))) ⟨m', fun _ => 0, g'⟩ (fun r => ∀ c : Dev Cert.SwaInDwRefIdeal.nD,
          r.2.mem ((c.tc : Thread Cert.SwaInDwRefIdeal.nD Cert.SwaInDwRefIdeal.τ).loc Cert.SwaInDwRefIdeal.main_v7) = v0 c
          ∧ r.2.mem ((c.tc : Thread Cert.SwaInDwRefIdeal.nD Cert.SwaInDwRefIdeal.τ).loc Cert.SwaInDwRefIdeal.main_arg0) = m' ((c.tc : Thread Cert.SwaInDwRefIdeal.nD Cert.SwaInDwRefIdeal.τ).loc Cert.SwaInDwRefIdeal.main_arg0)
          ∧ r.2.mem ((c.tc : Thread Cert.SwaInDwRefIdeal.nD Cert.SwaInDwRefIdeal.τ).loc Cert.SwaInDwRefIdeal.main_arg1) = m' ((c.tc : Thread Cert.SwaInDwRefIdeal.nD Cert.SwaInDwRefIdeal.τ).loc Cert.SwaInDwRefIdeal.main_arg1))

def preserves_XqIn_XqInIdeal : Prop :=
  True

def algebraic_XqInIdeal_XqInRefIdeal [hXqInIdeal : Cert.XqInIdeal.Facts] [hXqInRefIdeal : Cert.XqInRefIdeal.Facts] : Prop :=
  ∀ (m : (ℓ : Loc Cert.XqInIdeal.nD Cert.XqInIdeal.τ Cert.XqInIdeal.sig) → Buf (Elt Ideal) ℓ) (g : Dev Cert.XqInIdeal.nD → PrngReg)
    (m' : (ℓ : Loc Cert.XqInRefIdeal.nD Cert.XqInRefIdeal.τ Cert.XqInRefIdeal.sig) → Buf (Elt Ideal) ℓ) (g' : Dev Cert.XqInRefIdeal.nD → PrngReg), Pre_XqInIdeal m →
    (∀ c : Dev Cert.XqInIdeal.nD,
      m' ((c.tc : Thread Cert.XqInRefIdeal.nD Cert.XqInRefIdeal.τ).loc Cert.XqInRefIdeal.main_arg0) = m ((c.tc : Thread Cert.XqInIdeal.nD Cert.XqInIdeal.τ).loc Cert.XqInIdeal.main_arg0)
      ∧ m' ((c.tc : Thread Cert.XqInRefIdeal.nD Cert.XqInRefIdeal.τ).loc Cert.XqInRefIdeal.main_arg1) = m ((c.tc : Thread Cert.XqInIdeal.nD Cert.XqInIdeal.τ).loc Cert.XqInIdeal.main_arg1)) →
    ∃ (v0 : (c : Dev Cert.XqInIdeal.nD) → Buf (Elt Ideal) ((c.tc : Thread Cert.XqInIdeal.nD Cert.XqInIdeal.τ).loc Cert.XqInIdeal.main_v1)),
      θ_run (Cert.XqInIdeal.defs (F := Ideal)) (onTc (τ := Cert.XqInIdeal.τ) (Cert.XqInIdeal.main (F := Ideal))) ⟨m, fun _ => 0, g⟩ (fun r => ∀ c : Dev Cert.XqInIdeal.nD,
          r.2.mem ((c.tc : Thread Cert.XqInIdeal.nD Cert.XqInIdeal.τ).loc Cert.XqInIdeal.main_v1) = v0 c
          ∧ r.2.mem ((c.tc : Thread Cert.XqInIdeal.nD Cert.XqInIdeal.τ).loc Cert.XqInIdeal.main_arg0) = m ((c.tc : Thread Cert.XqInIdeal.nD Cert.XqInIdeal.τ).loc Cert.XqInIdeal.main_arg0)
          ∧ r.2.mem ((c.tc : Thread Cert.XqInIdeal.nD Cert.XqInIdeal.τ).loc Cert.XqInIdeal.main_arg1) = m ((c.tc : Thread Cert.XqInIdeal.nD Cert.XqInIdeal.τ).loc Cert.XqInIdeal.main_arg1))
      ∧ θ_run (Cert.XqInRefIdeal.defs (F := Ideal)) (onTc (τ := Cert.XqInRefIdeal.τ) (Cert.XqInRefIdeal.main (F := Ideal))) ⟨m', fun _ => 0, g'⟩ (fun r => ∀ c : Dev Cert.XqInRefIdeal.nD,
          r.2.mem ((c.tc : Thread Cert.XqInRefIdeal.nD Cert.XqInRefIdeal.τ).loc Cert.XqInRefIdeal.main_v1) = v0 c
          ∧ r.2.mem ((c.tc : Thread Cert.XqInRefIdeal.nD Cert.XqInRefIdeal.τ).loc Cert.XqInRefIdeal.main_arg0) = m' ((c.tc : Thread Cert.XqInRefIdeal.nD Cert.XqInRefIdeal.τ).loc Cert.XqInRefIdeal.main_arg0)
          ∧ r.2.mem ((c.tc : Thread Cert.XqInRefIdeal.nD Cert.XqInRefIdeal.τ).loc Cert.XqInRefIdeal.main_arg1) = m' ((c.tc : Thread Cert.XqInRefIdeal.nD Cert.XqInRefIdeal.τ).loc Cert.XqInRefIdeal.main_arg1))

def preserves_XoOut_XoOutIdeal : Prop :=
  True

def algebraic_XoOutIdeal_XoOutRefIdeal [hXoOutIdeal : Cert.XoOutIdeal.Facts] [hXoOutRefIdeal : Cert.XoOutRefIdeal.Facts] : Prop :=
  ∀ (m : (ℓ : Loc Cert.XoOutIdeal.nD Cert.XoOutIdeal.τ Cert.XoOutIdeal.sig) → Buf (Elt Ideal) ℓ) (g : Dev Cert.XoOutIdeal.nD → PrngReg)
    (m' : (ℓ : Loc Cert.XoOutRefIdeal.nD Cert.XoOutRefIdeal.τ Cert.XoOutRefIdeal.sig) → Buf (Elt Ideal) ℓ) (g' : Dev Cert.XoOutRefIdeal.nD → PrngReg), Pre_XoOutIdeal m →
    (∀ c : Dev Cert.XoOutIdeal.nD,
      m' ((c.tc : Thread Cert.XoOutRefIdeal.nD Cert.XoOutRefIdeal.τ).loc Cert.XoOutRefIdeal.main_arg0) = m ((c.tc : Thread Cert.XoOutIdeal.nD Cert.XoOutIdeal.τ).loc Cert.XoOutIdeal.main_arg0)
      ∧ m' ((c.tc : Thread Cert.XoOutRefIdeal.nD Cert.XoOutRefIdeal.τ).loc Cert.XoOutRefIdeal.main_arg1) = m ((c.tc : Thread Cert.XoOutIdeal.nD Cert.XoOutIdeal.τ).loc Cert.XoOutIdeal.main_arg1)
      ∧ m' ((c.tc : Thread Cert.XoOutRefIdeal.nD Cert.XoOutRefIdeal.τ).loc Cert.XoOutRefIdeal.main_arg2) = m ((c.tc : Thread Cert.XoOutIdeal.nD Cert.XoOutIdeal.τ).loc Cert.XoOutIdeal.main_arg2)) →
    ∃ (v0 : (c : Dev Cert.XoOutIdeal.nD) → Buf (Elt Ideal) ((c.tc : Thread Cert.XoOutIdeal.nD Cert.XoOutIdeal.τ).loc Cert.XoOutIdeal.main_v2)),
      θ_run (Cert.XoOutIdeal.defs (F := Ideal)) (onTc (τ := Cert.XoOutIdeal.τ) (Cert.XoOutIdeal.main (F := Ideal))) ⟨m, fun _ => 0, g⟩ (fun r => ∀ c : Dev Cert.XoOutIdeal.nD,
          r.2.mem ((c.tc : Thread Cert.XoOutIdeal.nD Cert.XoOutIdeal.τ).loc Cert.XoOutIdeal.main_v2) = v0 c
          ∧ r.2.mem ((c.tc : Thread Cert.XoOutIdeal.nD Cert.XoOutIdeal.τ).loc Cert.XoOutIdeal.main_arg0) = m ((c.tc : Thread Cert.XoOutIdeal.nD Cert.XoOutIdeal.τ).loc Cert.XoOutIdeal.main_arg0)
          ∧ r.2.mem ((c.tc : Thread Cert.XoOutIdeal.nD Cert.XoOutIdeal.τ).loc Cert.XoOutIdeal.main_arg1) = m ((c.tc : Thread Cert.XoOutIdeal.nD Cert.XoOutIdeal.τ).loc Cert.XoOutIdeal.main_arg1)
          ∧ r.2.mem ((c.tc : Thread Cert.XoOutIdeal.nD Cert.XoOutIdeal.τ).loc Cert.XoOutIdeal.main_arg2) = m ((c.tc : Thread Cert.XoOutIdeal.nD Cert.XoOutIdeal.τ).loc Cert.XoOutIdeal.main_arg2))
      ∧ θ_run (Cert.XoOutRefIdeal.defs (F := Ideal)) (onTc (τ := Cert.XoOutRefIdeal.τ) (Cert.XoOutRefIdeal.main (F := Ideal))) ⟨m', fun _ => 0, g'⟩ (fun r => ∀ c : Dev Cert.XoOutRefIdeal.nD,
          r.2.mem ((c.tc : Thread Cert.XoOutRefIdeal.nD Cert.XoOutRefIdeal.τ).loc Cert.XoOutRefIdeal.main_v2) = v0 c
          ∧ r.2.mem ((c.tc : Thread Cert.XoOutRefIdeal.nD Cert.XoOutRefIdeal.τ).loc Cert.XoOutRefIdeal.main_arg0) = m' ((c.tc : Thread Cert.XoOutRefIdeal.nD Cert.XoOutRefIdeal.τ).loc Cert.XoOutRefIdeal.main_arg0)
          ∧ r.2.mem ((c.tc : Thread Cert.XoOutRefIdeal.nD Cert.XoOutRefIdeal.τ).loc Cert.XoOutRefIdeal.main_arg1) = m' ((c.tc : Thread Cert.XoOutRefIdeal.nD Cert.XoOutRefIdeal.τ).loc Cert.XoOutRefIdeal.main_arg1)
          ∧ r.2.mem ((c.tc : Thread Cert.XoOutRefIdeal.nD Cert.XoOutRefIdeal.τ).loc Cert.XoOutRefIdeal.main_arg2) = m' ((c.tc : Thread Cert.XoOutRefIdeal.nD Cert.XoOutRefIdeal.τ).loc Cert.XoOutRefIdeal.main_arg2))

def preserves_XoDo_XoDoIdeal : Prop :=
  True

def algebraic_XoDoIdeal_XoDoRefIdeal [hXoDoIdeal : Cert.XoDoIdeal.Facts] [hXoDoRefIdeal : Cert.XoDoRefIdeal.Facts] : Prop :=
  ∀ (m : (ℓ : Loc Cert.XoDoIdeal.nD Cert.XoDoIdeal.τ Cert.XoDoIdeal.sig) → Buf (Elt Ideal) ℓ) (g : Dev Cert.XoDoIdeal.nD → PrngReg)
    (m' : (ℓ : Loc Cert.XoDoRefIdeal.nD Cert.XoDoRefIdeal.τ Cert.XoDoRefIdeal.sig) → Buf (Elt Ideal) ℓ) (g' : Dev Cert.XoDoRefIdeal.nD → PrngReg), Pre_XoDoIdeal m →
    (∀ c : Dev Cert.XoDoIdeal.nD,
      m' ((c.tc : Thread Cert.XoDoRefIdeal.nD Cert.XoDoRefIdeal.τ).loc Cert.XoDoRefIdeal.main_arg0) = m ((c.tc : Thread Cert.XoDoIdeal.nD Cert.XoDoIdeal.τ).loc Cert.XoDoIdeal.main_arg0)
      ∧ m' ((c.tc : Thread Cert.XoDoRefIdeal.nD Cert.XoDoRefIdeal.τ).loc Cert.XoDoRefIdeal.main_arg1) = m ((c.tc : Thread Cert.XoDoIdeal.nD Cert.XoDoIdeal.τ).loc Cert.XoDoIdeal.main_arg1)) →
    ∃ (v0 : (c : Dev Cert.XoDoIdeal.nD) → Buf (Elt Ideal) ((c.tc : Thread Cert.XoDoIdeal.nD Cert.XoDoIdeal.τ).loc Cert.XoDoIdeal.main_v2)),
      θ_run (Cert.XoDoIdeal.defs (F := Ideal)) (onTc (τ := Cert.XoDoIdeal.τ) (Cert.XoDoIdeal.main (F := Ideal))) ⟨m, fun _ => 0, g⟩ (fun r => ∀ c : Dev Cert.XoDoIdeal.nD,
          r.2.mem ((c.tc : Thread Cert.XoDoIdeal.nD Cert.XoDoIdeal.τ).loc Cert.XoDoIdeal.main_v2) = v0 c
          ∧ r.2.mem ((c.tc : Thread Cert.XoDoIdeal.nD Cert.XoDoIdeal.τ).loc Cert.XoDoIdeal.main_arg0) = m ((c.tc : Thread Cert.XoDoIdeal.nD Cert.XoDoIdeal.τ).loc Cert.XoDoIdeal.main_arg0)
          ∧ r.2.mem ((c.tc : Thread Cert.XoDoIdeal.nD Cert.XoDoIdeal.τ).loc Cert.XoDoIdeal.main_arg1) = m ((c.tc : Thread Cert.XoDoIdeal.nD Cert.XoDoIdeal.τ).loc Cert.XoDoIdeal.main_arg1))
      ∧ θ_run (Cert.XoDoRefIdeal.defs (F := Ideal)) (onTc (τ := Cert.XoDoRefIdeal.τ) (Cert.XoDoRefIdeal.main (F := Ideal))) ⟨m', fun _ => 0, g'⟩ (fun r => ∀ c : Dev Cert.XoDoRefIdeal.nD,
          r.2.mem ((c.tc : Thread Cert.XoDoRefIdeal.nD Cert.XoDoRefIdeal.τ).loc Cert.XoDoRefIdeal.main_v2) = v0 c
          ∧ r.2.mem ((c.tc : Thread Cert.XoDoRefIdeal.nD Cert.XoDoRefIdeal.τ).loc Cert.XoDoRefIdeal.main_arg0) = m' ((c.tc : Thread Cert.XoDoRefIdeal.nD Cert.XoDoRefIdeal.τ).loc Cert.XoDoRefIdeal.main_arg0)
          ∧ r.2.mem ((c.tc : Thread Cert.XoDoRefIdeal.nD Cert.XoDoRefIdeal.τ).loc Cert.XoDoRefIdeal.main_arg1) = m' ((c.tc : Thread Cert.XoDoRefIdeal.nD Cert.XoDoRefIdeal.τ).loc Cert.XoDoRefIdeal.main_arg1))

def preserves_XoDw_XoDwIdeal : Prop :=
  True

def algebraic_XoDwIdeal_XoDwRefIdeal [hXoDwIdeal : Cert.XoDwIdeal.Facts] [hXoDwRefIdeal : Cert.XoDwRefIdeal.Facts] : Prop :=
  ∀ (m : (ℓ : Loc Cert.XoDwIdeal.nD Cert.XoDwIdeal.τ Cert.XoDwIdeal.sig) → Buf (Elt Ideal) ℓ) (g : Dev Cert.XoDwIdeal.nD → PrngReg)
    (m' : (ℓ : Loc Cert.XoDwRefIdeal.nD Cert.XoDwRefIdeal.τ Cert.XoDwRefIdeal.sig) → Buf (Elt Ideal) ℓ) (g' : Dev Cert.XoDwRefIdeal.nD → PrngReg), Pre_XoDwIdeal m →
    (∀ c : Dev Cert.XoDwIdeal.nD,
      m' ((c.tc : Thread Cert.XoDwRefIdeal.nD Cert.XoDwRefIdeal.τ).loc Cert.XoDwRefIdeal.main_arg0) = m ((c.tc : Thread Cert.XoDwIdeal.nD Cert.XoDwIdeal.τ).loc Cert.XoDwIdeal.main_arg0)
      ∧ m' ((c.tc : Thread Cert.XoDwRefIdeal.nD Cert.XoDwRefIdeal.τ).loc Cert.XoDwRefIdeal.main_arg1) = m ((c.tc : Thread Cert.XoDwIdeal.nD Cert.XoDwIdeal.τ).loc Cert.XoDwIdeal.main_arg1)) →
    ∃ (v0 : (c : Dev Cert.XoDwIdeal.nD) → Buf (Elt Ideal) ((c.tc : Thread Cert.XoDwIdeal.nD Cert.XoDwIdeal.τ).loc Cert.XoDwIdeal.main_v0)),
      θ_run (Cert.XoDwIdeal.defs (F := Ideal)) (onTc (τ := Cert.XoDwIdeal.τ) (Cert.XoDwIdeal.main (F := Ideal))) ⟨m, fun _ => 0, g⟩ (fun r => ∀ c : Dev Cert.XoDwIdeal.nD,
          r.2.mem ((c.tc : Thread Cert.XoDwIdeal.nD Cert.XoDwIdeal.τ).loc Cert.XoDwIdeal.main_v0) = v0 c
          ∧ r.2.mem ((c.tc : Thread Cert.XoDwIdeal.nD Cert.XoDwIdeal.τ).loc Cert.XoDwIdeal.main_arg0) = m ((c.tc : Thread Cert.XoDwIdeal.nD Cert.XoDwIdeal.τ).loc Cert.XoDwIdeal.main_arg0)
          ∧ r.2.mem ((c.tc : Thread Cert.XoDwIdeal.nD Cert.XoDwIdeal.τ).loc Cert.XoDwIdeal.main_arg1) = m ((c.tc : Thread Cert.XoDwIdeal.nD Cert.XoDwIdeal.τ).loc Cert.XoDwIdeal.main_arg1))
      ∧ θ_run (Cert.XoDwRefIdeal.defs (F := Ideal)) (onTc (τ := Cert.XoDwRefIdeal.τ) (Cert.XoDwRefIdeal.main (F := Ideal))) ⟨m', fun _ => 0, g'⟩ (fun r => ∀ c : Dev Cert.XoDwRefIdeal.nD,
          r.2.mem ((c.tc : Thread Cert.XoDwRefIdeal.nD Cert.XoDwRefIdeal.τ).loc Cert.XoDwRefIdeal.main_v6) = v0 c
          ∧ r.2.mem ((c.tc : Thread Cert.XoDwRefIdeal.nD Cert.XoDwRefIdeal.τ).loc Cert.XoDwRefIdeal.main_arg0) = m' ((c.tc : Thread Cert.XoDwRefIdeal.nD Cert.XoDwRefIdeal.τ).loc Cert.XoDwRefIdeal.main_arg0)
          ∧ r.2.mem ((c.tc : Thread Cert.XoDwRefIdeal.nD Cert.XoDwRefIdeal.τ).loc Cert.XoDwRefIdeal.main_arg1) = m' ((c.tc : Thread Cert.XoDwRefIdeal.nD Cert.XoDwRefIdeal.τ).loc Cert.XoDwRefIdeal.main_arg1))

def preserves_XqDh_XqDhIdeal : Prop :=
  True

def algebraic_XqDhIdeal_XqDhRefIdeal [hXqDhIdeal : Cert.XqDhIdeal.Facts] [hXqDhRefIdeal : Cert.XqDhRefIdeal.Facts] : Prop :=
  ∀ (m : (ℓ : Loc Cert.XqDhIdeal.nD Cert.XqDhIdeal.τ Cert.XqDhIdeal.sig) → Buf (Elt Ideal) ℓ) (g : Dev Cert.XqDhIdeal.nD → PrngReg)
    (m' : (ℓ : Loc Cert.XqDhRefIdeal.nD Cert.XqDhRefIdeal.τ Cert.XqDhRefIdeal.sig) → Buf (Elt Ideal) ℓ) (g' : Dev Cert.XqDhRefIdeal.nD → PrngReg), Pre_XqDhIdeal m →
    (∀ c : Dev Cert.XqDhIdeal.nD,
      m' ((c.tc : Thread Cert.XqDhRefIdeal.nD Cert.XqDhRefIdeal.τ).loc Cert.XqDhRefIdeal.main_arg0) = m ((c.tc : Thread Cert.XqDhIdeal.nD Cert.XqDhIdeal.τ).loc Cert.XqDhIdeal.main_arg0)
      ∧ m' ((c.tc : Thread Cert.XqDhRefIdeal.nD Cert.XqDhRefIdeal.τ).loc Cert.XqDhRefIdeal.main_arg1) = m ((c.tc : Thread Cert.XqDhIdeal.nD Cert.XqDhIdeal.τ).loc Cert.XqDhIdeal.main_arg1)) →
    ∃ (v0 : (c : Dev Cert.XqDhIdeal.nD) → Buf (Elt Ideal) ((c.tc : Thread Cert.XqDhIdeal.nD Cert.XqDhIdeal.τ).loc Cert.XqDhIdeal.main_v1)),
      θ_run (Cert.XqDhIdeal.defs (F := Ideal)) (onTc (τ := Cert.XqDhIdeal.τ) (Cert.XqDhIdeal.main (F := Ideal))) ⟨m, fun _ => 0, g⟩ (fun r => ∀ c : Dev Cert.XqDhIdeal.nD,
          r.2.mem ((c.tc : Thread Cert.XqDhIdeal.nD Cert.XqDhIdeal.τ).loc Cert.XqDhIdeal.main_v1) = v0 c
          ∧ r.2.mem ((c.tc : Thread Cert.XqDhIdeal.nD Cert.XqDhIdeal.τ).loc Cert.XqDhIdeal.main_arg0) = m ((c.tc : Thread Cert.XqDhIdeal.nD Cert.XqDhIdeal.τ).loc Cert.XqDhIdeal.main_arg0)
          ∧ r.2.mem ((c.tc : Thread Cert.XqDhIdeal.nD Cert.XqDhIdeal.τ).loc Cert.XqDhIdeal.main_arg1) = m ((c.tc : Thread Cert.XqDhIdeal.nD Cert.XqDhIdeal.τ).loc Cert.XqDhIdeal.main_arg1))
      ∧ θ_run (Cert.XqDhRefIdeal.defs (F := Ideal)) (onTc (τ := Cert.XqDhRefIdeal.τ) (Cert.XqDhRefIdeal.main (F := Ideal))) ⟨m', fun _ => 0, g'⟩ (fun r => ∀ c : Dev Cert.XqDhRefIdeal.nD,
          r.2.mem ((c.tc : Thread Cert.XqDhRefIdeal.nD Cert.XqDhRefIdeal.τ).loc Cert.XqDhRefIdeal.main_v3) = v0 c
          ∧ r.2.mem ((c.tc : Thread Cert.XqDhRefIdeal.nD Cert.XqDhRefIdeal.τ).loc Cert.XqDhRefIdeal.main_arg0) = m' ((c.tc : Thread Cert.XqDhRefIdeal.nD Cert.XqDhRefIdeal.τ).loc Cert.XqDhRefIdeal.main_arg0)
          ∧ r.2.mem ((c.tc : Thread Cert.XqDhRefIdeal.nD Cert.XqDhRefIdeal.τ).loc Cert.XqDhRefIdeal.main_arg1) = m' ((c.tc : Thread Cert.XqDhRefIdeal.nD Cert.XqDhRefIdeal.τ).loc Cert.XqDhRefIdeal.main_arg1))

def preserves_XqDw_XqDwIdeal : Prop :=
  True

def algebraic_XqDwIdeal_XqDwRefIdeal [hXqDwIdeal : Cert.XqDwIdeal.Facts] [hXqDwRefIdeal : Cert.XqDwRefIdeal.Facts] : Prop :=
  ∀ (m : (ℓ : Loc Cert.XqDwIdeal.nD Cert.XqDwIdeal.τ Cert.XqDwIdeal.sig) → Buf (Elt Ideal) ℓ) (g : Dev Cert.XqDwIdeal.nD → PrngReg)
    (m' : (ℓ : Loc Cert.XqDwRefIdeal.nD Cert.XqDwRefIdeal.τ Cert.XqDwRefIdeal.sig) → Buf (Elt Ideal) ℓ) (g' : Dev Cert.XqDwRefIdeal.nD → PrngReg), Pre_XqDwIdeal m →
    (∀ c : Dev Cert.XqDwIdeal.nD,
      m' ((c.tc : Thread Cert.XqDwRefIdeal.nD Cert.XqDwRefIdeal.τ).loc Cert.XqDwRefIdeal.main_arg0) = m ((c.tc : Thread Cert.XqDwIdeal.nD Cert.XqDwIdeal.τ).loc Cert.XqDwIdeal.main_arg0)
      ∧ m' ((c.tc : Thread Cert.XqDwRefIdeal.nD Cert.XqDwRefIdeal.τ).loc Cert.XqDwRefIdeal.main_arg1) = m ((c.tc : Thread Cert.XqDwIdeal.nD Cert.XqDwIdeal.τ).loc Cert.XqDwIdeal.main_arg1)) →
    ∃ (v0 : (c : Dev Cert.XqDwIdeal.nD) → Buf (Elt Ideal) ((c.tc : Thread Cert.XqDwIdeal.nD Cert.XqDwIdeal.τ).loc Cert.XqDwIdeal.main_v0)),
      θ_run (Cert.XqDwIdeal.defs (F := Ideal)) (onTc (τ := Cert.XqDwIdeal.τ) (Cert.XqDwIdeal.main (F := Ideal))) ⟨m, fun _ => 0, g⟩ (fun r => ∀ c : Dev Cert.XqDwIdeal.nD,
          r.2.mem ((c.tc : Thread Cert.XqDwIdeal.nD Cert.XqDwIdeal.τ).loc Cert.XqDwIdeal.main_v0) = v0 c
          ∧ r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
          ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ θ_run (Cert.XqDwRefIdeal.defs (F := Ideal)) (onTc (τ := Cert.XqDwRefIdeal.τ) (Cert.XqDwRefIdeal.main (F := Ideal))) ⟨m', fun _ => 0, g'⟩ (fun r => ∀ c : Dev Cert.XqDwRefIdeal.nD,
          r.2.mem ((c.tc : Thread Cert.XqDwRefIdeal.nD Cert.XqDwRefIdeal.τ).loc Cert.XqDwRefIdeal.main_v6) = v0 c
          ∧ r.2.mem ((c.tc : Thread Cert.XqDwRefIdeal.nD Cert.XqDwRefIdeal.τ).loc Cert.XqDwRefIdeal.main_arg0) = m' ((c.tc : Thread Cert.XqDwRefIdeal.nD Cert.XqDwRefIdeal.τ).loc Cert.XqDwRefIdeal.main_arg0)
          ∧ r.2.mem ((c.tc : Thread Cert.XqDwRefIdeal.nD Cert.XqDwRefIdeal.τ).loc Cert.XqDwRefIdeal.main_arg1) = m' ((c.tc : Thread Cert.XqDwRefIdeal.nD Cert.XqDwRefIdeal.τ).loc Cert.XqDwRefIdeal.main_arg1))

def preserves_XkvIn_XkvInIdeal : Prop :=
  True

def algebraic_XkvInIdeal_XkvInRefIdeal [hXkvInIdeal : Cert.XkvInIdeal.Facts] [hXkvInRefIdeal : Cert.XkvInRefIdeal.Facts] : Prop :=
  ∀ (m : (ℓ : Loc Cert.XkvInIdeal.nD Cert.XkvInIdeal.τ Cert.XkvInIdeal.sig) → Buf (Elt Ideal) ℓ) (g : Dev Cert.XkvInIdeal.nD → PrngReg)
    (m' : (ℓ : Loc Cert.XkvInRefIdeal.nD Cert.XkvInRefIdeal.τ Cert.XkvInRefIdeal.sig) → Buf (Elt Ideal) ℓ) (g' : Dev Cert.XkvInRefIdeal.nD → PrngReg), Pre_XkvInIdeal m →
    (∀ c : Dev Cert.XkvInIdeal.nD,
      m' ((c.tc : Thread Cert.XkvInRefIdeal.nD Cert.XkvInRefIdeal.τ).loc Cert.XkvInRefIdeal.main_arg0) = m ((c.tc : Thread Cert.XkvInIdeal.nD Cert.XkvInIdeal.τ).loc Cert.XkvInIdeal.main_arg0)
      ∧ m' ((c.tc : Thread Cert.XkvInRefIdeal.nD Cert.XkvInRefIdeal.τ).loc Cert.XkvInRefIdeal.main_arg1) = m ((c.tc : Thread Cert.XkvInIdeal.nD Cert.XkvInIdeal.τ).loc Cert.XkvInIdeal.main_arg1)) →
    ∃ (v0 : (c : Dev Cert.XkvInIdeal.nD) → Buf (Elt Ideal) ((c.tc : Thread Cert.XkvInIdeal.nD Cert.XkvInIdeal.τ).loc Cert.XkvInIdeal.main_v1)),
      θ_run (Cert.XkvInIdeal.defs (F := Ideal)) (onTc (τ := Cert.XkvInIdeal.τ) (Cert.XkvInIdeal.main (F := Ideal))) ⟨m, fun _ => 0, g⟩ (fun r => ∀ c : Dev Cert.XkvInIdeal.nD,
          r.2.mem ((c.tc : Thread Cert.XkvInIdeal.nD Cert.XkvInIdeal.τ).loc Cert.XkvInIdeal.main_v1) = v0 c
          ∧ r.2.mem ((c.tc : Thread Cert.XkvInIdeal.nD Cert.XkvInIdeal.τ).loc Cert.XkvInIdeal.main_arg0) = m ((c.tc : Thread Cert.XkvInIdeal.nD Cert.XkvInIdeal.τ).loc Cert.XkvInIdeal.main_arg0)
          ∧ r.2.mem ((c.tc : Thread Cert.XkvInIdeal.nD Cert.XkvInIdeal.τ).loc Cert.XkvInIdeal.main_arg1) = m ((c.tc : Thread Cert.XkvInIdeal.nD Cert.XkvInIdeal.τ).loc Cert.XkvInIdeal.main_arg1))
      ∧ θ_run (Cert.XkvInRefIdeal.defs (F := Ideal)) (onTc (τ := Cert.XkvInRefIdeal.τ) (Cert.XkvInRefIdeal.main (F := Ideal))) ⟨m', fun _ => 0, g'⟩ (fun r => ∀ c : Dev Cert.XkvInRefIdeal.nD,
          r.2.mem ((c.tc : Thread Cert.XkvInRefIdeal.nD Cert.XkvInRefIdeal.τ).loc Cert.XkvInRefIdeal.main_v1) = v0 c
          ∧ r.2.mem ((c.tc : Thread Cert.XkvInRefIdeal.nD Cert.XkvInRefIdeal.τ).loc Cert.XkvInRefIdeal.main_arg0) = m' ((c.tc : Thread Cert.XkvInRefIdeal.nD Cert.XkvInRefIdeal.τ).loc Cert.XkvInRefIdeal.main_arg0)
          ∧ r.2.mem ((c.tc : Thread Cert.XkvInRefIdeal.nD Cert.XkvInRefIdeal.τ).loc Cert.XkvInRefIdeal.main_arg1) = m' ((c.tc : Thread Cert.XkvInRefIdeal.nD Cert.XkvInRefIdeal.τ).loc Cert.XkvInRefIdeal.main_arg1))

def preserves_XkvDh_XkvDhIdeal : Prop :=
  True

def algebraic_XkvDhIdeal_XkvDhRefIdeal [hXkvDhIdeal : Cert.XkvDhIdeal.Facts] [hXkvDhRefIdeal : Cert.XkvDhRefIdeal.Facts] : Prop :=
  ∀ (m : (ℓ : Loc Cert.XkvDhIdeal.nD Cert.XkvDhIdeal.τ Cert.XkvDhIdeal.sig) → Buf (Elt Ideal) ℓ) (g : Dev Cert.XkvDhIdeal.nD → PrngReg)
    (m' : (ℓ : Loc Cert.XkvDhRefIdeal.nD Cert.XkvDhRefIdeal.τ Cert.XkvDhRefIdeal.sig) → Buf (Elt Ideal) ℓ) (g' : Dev Cert.XkvDhRefIdeal.nD → PrngReg), Pre_XkvDhIdeal m →
    (∀ c : Dev Cert.XkvDhIdeal.nD,
      m' ((c.tc : Thread Cert.XkvDhRefIdeal.nD Cert.XkvDhRefIdeal.τ).loc Cert.XkvDhRefIdeal.main_arg0) = m ((c.tc : Thread Cert.XkvDhIdeal.nD Cert.XkvDhIdeal.τ).loc Cert.XkvDhIdeal.main_arg0)
      ∧ m' ((c.tc : Thread Cert.XkvDhRefIdeal.nD Cert.XkvDhRefIdeal.τ).loc Cert.XkvDhRefIdeal.main_arg1) = m ((c.tc : Thread Cert.XkvDhIdeal.nD Cert.XkvDhIdeal.τ).loc Cert.XkvDhIdeal.main_arg1)) →
    ∃ (v0 : (c : Dev Cert.XkvDhIdeal.nD) → Buf (Elt Ideal) ((c.tc : Thread Cert.XkvDhIdeal.nD Cert.XkvDhIdeal.τ).loc Cert.XkvDhIdeal.main_v1)),
      θ_run (Cert.XkvDhIdeal.defs (F := Ideal)) (onTc (τ := Cert.XkvDhIdeal.τ) (Cert.XkvDhIdeal.main (F := Ideal))) ⟨m, fun _ => 0, g⟩ (fun r => ∀ c : Dev Cert.XkvDhIdeal.nD,
          r.2.mem ((c.tc : Thread Cert.XkvDhIdeal.nD Cert.XkvDhIdeal.τ).loc Cert.XkvDhIdeal.main_v1) = v0 c
          ∧ r.2.mem ((c.tc : Thread Cert.XkvDhIdeal.nD Cert.XkvDhIdeal.τ).loc Cert.XkvDhIdeal.main_arg0) = m ((c.tc : Thread Cert.XkvDhIdeal.nD Cert.XkvDhIdeal.τ).loc Cert.XkvDhIdeal.main_arg0)
          ∧ r.2.mem ((c.tc : Thread Cert.XkvDhIdeal.nD Cert.XkvDhIdeal.τ).loc Cert.XkvDhIdeal.main_arg1) = m ((c.tc : Thread Cert.XkvDhIdeal.nD Cert.XkvDhIdeal.τ).loc Cert.XkvDhIdeal.main_arg1))
      ∧ θ_run (Cert.XkvDhRefIdeal.defs (F := Ideal)) (onTc (τ := Cert.XkvDhRefIdeal.τ) (Cert.XkvDhRefIdeal.main (F := Ideal))) ⟨m', fun _ => 0, g'⟩ (fun r => ∀ c : Dev Cert.XkvDhRefIdeal.nD,
          r.2.mem ((c.tc : Thread Cert.XkvDhRefIdeal.nD Cert.XkvDhRefIdeal.τ).loc Cert.XkvDhRefIdeal.main_v2) = v0 c
          ∧ r.2.mem ((c.tc : Thread Cert.XkvDhRefIdeal.nD Cert.XkvDhRefIdeal.τ).loc Cert.XkvDhRefIdeal.main_arg0) = m' ((c.tc : Thread Cert.XkvDhRefIdeal.nD Cert.XkvDhRefIdeal.τ).loc Cert.XkvDhRefIdeal.main_arg0)
          ∧ r.2.mem ((c.tc : Thread Cert.XkvDhRefIdeal.nD Cert.XkvDhRefIdeal.τ).loc Cert.XkvDhRefIdeal.main_arg1) = m' ((c.tc : Thread Cert.XkvDhRefIdeal.nD Cert.XkvDhRefIdeal.τ).loc Cert.XkvDhRefIdeal.main_arg1))

def preserves_XkvDw_XkvDwIdeal : Prop :=
  True

def algebraic_XkvDwIdeal_XkvDwRefIdeal [hXkvDwIdeal : Cert.XkvDwIdeal.Facts] [hXkvDwRefIdeal : Cert.XkvDwRefIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg)
    (m' : (ℓ : Loc Cert.XkvDwRefIdeal.nD Cert.XkvDwRefIdeal.τ Cert.XkvDwRefIdeal.sig) → Buf (Elt Ideal) ℓ) (g' : Dev Cert.XkvDwRefIdeal.nD → PrngReg), Pre_XkvDwIdeal m →
    (∀ c : Dev Cert.XkvDwIdeal.nD,
      m' ((c.tc : Thread Cert.XkvDwRefIdeal.nD Cert.XkvDwRefIdeal.τ).loc Cert.XkvDwRefIdeal.main_arg0) = m ((c.tc : Thread Cert.XkvDwIdeal.nD Cert.XkvDwIdeal.τ).loc Cert.XkvDwIdeal.main_arg0)
      ∧ m' ((c.tc : Thread Cert.XkvDwRefIdeal.nD Cert.XkvDwRefIdeal.τ).loc Cert.XkvDwRefIdeal.main_arg1) = m ((c.tc : Thread Cert.XkvDwIdeal.nD Cert.XkvDwIdeal.τ).loc Cert.XkvDwIdeal.main_arg1)) →
    ∃ (v0 : (c : Dev Cert.XkvDwIdeal.nD) → Buf (Elt Ideal) ((c.tc : Thread Cert.XkvDwIdeal.nD Cert.XkvDwIdeal.τ).loc Cert.XkvDwIdeal.main_v0)),
      θ_run (Cert.XkvDwIdeal.defs (F := Ideal)) (onTc (τ := Cert.XkvDwIdeal.τ) (Cert.XkvDwIdeal.main (F := Ideal))) ⟨m, fun _ => 0, g⟩ (fun r => ∀ c : Dev Cert.XkvDwIdeal.nD,
          r.2.mem ((c.tc : Thread Cert.XkvDwIdeal.nD Cert.XkvDwIdeal.τ).loc Cert.XkvDwIdeal.main_v0) = v0 c
          ∧ r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
          ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ θ_run (Cert.XkvDwRefIdeal.defs (F := Ideal)) (onTc (τ := Cert.XkvDwRefIdeal.τ) (Cert.XkvDwRefIdeal.main (F := Ideal))) ⟨m', fun _ => 0, g'⟩ (fun r => ∀ c : Dev Cert.XkvDwRefIdeal.nD,
          r.2.mem ((c.tc : Thread Cert.XkvDwRefIdeal.nD Cert.XkvDwRefIdeal.τ).loc Cert.XkvDwRefIdeal.main_v5) = v0 c
          ∧ r.2.mem ((c.tc : Thread Cert.XkvDwRefIdeal.nD Cert.XkvDwRefIdeal.τ).loc Cert.XkvDwRefIdeal.main_arg0) = m' ((c.tc : Thread Cert.XkvDwRefIdeal.nD Cert.XkvDwRefIdeal.τ).loc Cert.XkvDwRefIdeal.main_arg0)
          ∧ r.2.mem ((c.tc : Thread Cert.XkvDwRefIdeal.nD Cert.XkvDwRefIdeal.τ).loc Cert.XkvDwRefIdeal.main_arg1) = m' ((c.tc : Thread Cert.XkvDwRefIdeal.nD Cert.XkvDwRefIdeal.τ).loc Cert.XkvDwRefIdeal.main_arg1))

def preserves_AdamXq_AdamXqIdeal : Prop :=
  True

def algebraic_AdamXqIdeal_AdamXqRefIdeal [hAdamXqIdeal : Cert.AdamXqIdeal.Facts] [hAdamXqRefIdeal : Cert.AdamXqRefIdeal.Facts] : Prop :=
  ∀ (m : (ℓ : Loc Cert.AdamXqIdeal.nD Cert.AdamXqIdeal.τ Cert.AdamXqIdeal.sig) → Buf (Elt Ideal) ℓ) (g : Dev Cert.AdamXqIdeal.nD → PrngReg)
    (m' : (ℓ : Loc Cert.AdamXqRefIdeal.nD Cert.AdamXqRefIdeal.τ Cert.AdamXqRefIdeal.sig) → Buf (Elt Ideal) ℓ) (g' : Dev Cert.AdamXqRefIdeal.nD → PrngReg), Pre_AdamXqIdeal m →
    (∀ c : Dev Cert.AdamXqIdeal.nD,
      m' ((c.tc : Thread Cert.AdamXqRefIdeal.nD Cert.AdamXqRefIdeal.τ).loc Cert.AdamXqRefIdeal.main_arg0) = m ((c.tc : Thread Cert.AdamXqIdeal.nD Cert.AdamXqIdeal.τ).loc Cert.AdamXqIdeal.main_arg0)
      ∧ m' ((c.tc : Thread Cert.AdamXqRefIdeal.nD Cert.AdamXqRefIdeal.τ).loc Cert.AdamXqRefIdeal.main_arg1) = m ((c.tc : Thread Cert.AdamXqIdeal.nD Cert.AdamXqIdeal.τ).loc Cert.AdamXqIdeal.main_arg1)
      ∧ m' ((c.tc : Thread Cert.AdamXqRefIdeal.nD Cert.AdamXqRefIdeal.τ).loc Cert.AdamXqRefIdeal.main_arg2) = m ((c.tc : Thread Cert.AdamXqIdeal.nD Cert.AdamXqIdeal.τ).loc Cert.AdamXqIdeal.main_arg2)
      ∧ m' ((c.tc : Thread Cert.AdamXqRefIdeal.nD Cert.AdamXqRefIdeal.τ).loc Cert.AdamXqRefIdeal.main_arg3) = m ((c.tc : Thread Cert.AdamXqIdeal.nD Cert.AdamXqIdeal.τ).loc Cert.AdamXqIdeal.main_arg3)) →
    ∃ (v0 : (c : Dev Cert.AdamXqIdeal.nD) → Buf (Elt Ideal) ((c.tc : Thread Cert.AdamXqIdeal.nD Cert.AdamXqIdeal.τ).loc Cert.AdamXqIdeal.main_v0_0)) (v1 : (c : Dev Cert.AdamXqIdeal.nD) → Buf (Elt Ideal) ((c.tc : Thread Cert.AdamXqIdeal.nD Cert.AdamXqIdeal.τ).loc Cert.AdamXqIdeal.main_v0_1)) (v2 : (c : Dev Cert.AdamXqIdeal.nD) → Buf (Elt Ideal) ((c.tc : Thread Cert.AdamXqIdeal.nD Cert.AdamXqIdeal.τ).loc Cert.AdamXqIdeal.main_v0_2)) (v3 : (c : Dev Cert.AdamXqIdeal.nD) → Buf (Elt Ideal) ((c.tc : Thread Cert.AdamXqIdeal.nD Cert.AdamXqIdeal.τ).loc Cert.AdamXqIdeal.main_v0_3)),
      θ_run (Cert.AdamXqIdeal.defs (F := Ideal)) (onTc (τ := Cert.AdamXqIdeal.τ) (Cert.AdamXqIdeal.main (F := Ideal))) ⟨m, fun _ => 0, g⟩ (fun r => ∀ c : Dev Cert.AdamXqIdeal.nD,
          r.2.mem ((c.tc : Thread Cert.AdamXqIdeal.nD Cert.AdamXqIdeal.τ).loc Cert.AdamXqIdeal.main_v0_0) = v0 c
          ∧ r.2.mem ((c.tc : Thread Cert.AdamXqIdeal.nD Cert.AdamXqIdeal.τ).loc Cert.AdamXqIdeal.main_v0_1) = v1 c
          ∧ r.2.mem ((c.tc : Thread Cert.AdamXqIdeal.nD Cert.AdamXqIdeal.τ).loc Cert.AdamXqIdeal.main_v0_2) = v2 c
          ∧ r.2.mem ((c.tc : Thread Cert.AdamXqIdeal.nD Cert.AdamXqIdeal.τ).loc Cert.AdamXqIdeal.main_v0_3) = v3 c
          ∧ r.2.mem ((c.tc : Thread Cert.AdamXqIdeal.nD Cert.AdamXqIdeal.τ).loc Cert.AdamXqIdeal.main_arg0) = m ((c.tc : Thread Cert.AdamXqIdeal.nD Cert.AdamXqIdeal.τ).loc Cert.AdamXqIdeal.main_arg0)
          ∧ r.2.mem ((c.tc : Thread Cert.AdamXqIdeal.nD Cert.AdamXqIdeal.τ).loc Cert.AdamXqIdeal.main_arg1) = m ((c.tc : Thread Cert.AdamXqIdeal.nD Cert.AdamXqIdeal.τ).loc Cert.AdamXqIdeal.main_arg1)
          ∧ r.2.mem ((c.tc : Thread Cert.AdamXqIdeal.nD Cert.AdamXqIdeal.τ).loc Cert.AdamXqIdeal.main_arg2) = m ((c.tc : Thread Cert.AdamXqIdeal.nD Cert.AdamXqIdeal.τ).loc Cert.AdamXqIdeal.main_arg2)
          ∧ r.2.mem ((c.tc : Thread Cert.AdamXqIdeal.nD Cert.AdamXqIdeal.τ).loc Cert.AdamXqIdeal.main_arg3) = m ((c.tc : Thread Cert.AdamXqIdeal.nD Cert.AdamXqIdeal.τ).loc Cert.AdamXqIdeal.main_arg3))
      ∧ θ_run (Cert.AdamXqRefIdeal.defs (F := Ideal)) (onTc (τ := Cert.AdamXqRefIdeal.τ) (Cert.AdamXqRefIdeal.main (F := Ideal))) ⟨m', fun _ => 0, g'⟩ (fun r => ∀ c : Dev Cert.AdamXqRefIdeal.nD,
          r.2.mem ((c.tc : Thread Cert.AdamXqRefIdeal.nD Cert.AdamXqRefIdeal.τ).loc Cert.AdamXqRefIdeal.main_v1) = v0 c
          ∧ r.2.mem ((c.tc : Thread Cert.AdamXqRefIdeal.nD Cert.AdamXqRefIdeal.τ).loc Cert.AdamXqRefIdeal.main_v25) = v1 c
          ∧ r.2.mem ((c.tc : Thread Cert.AdamXqRefIdeal.nD Cert.AdamXqRefIdeal.τ).loc Cert.AdamXqRefIdeal.main_v6) = v2 c
          ∧ r.2.mem ((c.tc : Thread Cert.AdamXqRefIdeal.nD Cert.AdamXqRefIdeal.τ).loc Cert.AdamXqRefIdeal.main_v12) = v3 c
          ∧ r.2.mem ((c.tc : Thread Cert.AdamXqRefIdeal.nD Cert.AdamXqRefIdeal.τ).loc Cert.AdamXqRefIdeal.main_arg0) = m' ((c.tc : Thread Cert.AdamXqRefIdeal.nD Cert.AdamXqRefIdeal.τ).loc Cert.AdamXqRefIdeal.main_arg0)
          ∧ r.2.mem ((c.tc : Thread Cert.AdamXqRefIdeal.nD Cert.AdamXqRefIdeal.τ).loc Cert.AdamXqRefIdeal.main_arg1) = m' ((c.tc : Thread Cert.AdamXqRefIdeal.nD Cert.AdamXqRefIdeal.τ).loc Cert.AdamXqRefIdeal.main_arg1)
          ∧ r.2.mem ((c.tc : Thread Cert.AdamXqRefIdeal.nD Cert.AdamXqRefIdeal.τ).loc Cert.AdamXqRefIdeal.main_arg2) = m' ((c.tc : Thread Cert.AdamXqRefIdeal.nD Cert.AdamXqRefIdeal.τ).loc Cert.AdamXqRefIdeal.main_arg2)
          ∧ r.2.mem ((c.tc : Thread Cert.AdamXqRefIdeal.nD Cert.AdamXqRefIdeal.τ).loc Cert.AdamXqRefIdeal.main_arg3) = m' ((c.tc : Thread Cert.AdamXqRefIdeal.nD Cert.AdamXqRefIdeal.τ).loc Cert.AdamXqRefIdeal.main_arg3))

def preserves_AdamXkv_AdamXkvIdeal : Prop :=
  True

def algebraic_AdamXkvIdeal_AdamXkvRefIdeal [hAdamXkvIdeal : Cert.AdamXkvIdeal.Facts] [hAdamXkvRefIdeal : Cert.AdamXkvRefIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg)
    (m' : (ℓ : Loc Cert.AdamXkvRefIdeal.nD Cert.AdamXkvRefIdeal.τ Cert.AdamXkvRefIdeal.sig) → Buf (Elt Ideal) ℓ) (g' : Dev Cert.AdamXkvRefIdeal.nD → PrngReg), Pre_AdamXkvIdeal m →
    (∀ c : Dev Cert.AdamXkvIdeal.nD,
      m' ((c.tc : Thread Cert.AdamXkvRefIdeal.nD Cert.AdamXkvRefIdeal.τ).loc Cert.AdamXkvRefIdeal.main_arg0) = m ((c.tc : Thread Cert.AdamXkvIdeal.nD Cert.AdamXkvIdeal.τ).loc Cert.AdamXkvIdeal.main_arg0)
      ∧ m' ((c.tc : Thread Cert.AdamXkvRefIdeal.nD Cert.AdamXkvRefIdeal.τ).loc Cert.AdamXkvRefIdeal.main_arg1) = m ((c.tc : Thread Cert.AdamXkvIdeal.nD Cert.AdamXkvIdeal.τ).loc Cert.AdamXkvIdeal.main_arg1)
      ∧ m' ((c.tc : Thread Cert.AdamXkvRefIdeal.nD Cert.AdamXkvRefIdeal.τ).loc Cert.AdamXkvRefIdeal.main_arg2) = m ((c.tc : Thread Cert.AdamXkvIdeal.nD Cert.AdamXkvIdeal.τ).loc Cert.AdamXkvIdeal.main_arg2)
      ∧ m' ((c.tc : Thread Cert.AdamXkvRefIdeal.nD Cert.AdamXkvRefIdeal.τ).loc Cert.AdamXkvRefIdeal.main_arg3) = m ((c.tc : Thread Cert.AdamXkvIdeal.nD Cert.AdamXkvIdeal.τ).loc Cert.AdamXkvIdeal.main_arg3)) →
    ∃ (v0 : (c : Dev Cert.AdamXkvIdeal.nD) → Buf (Elt Ideal) ((c.tc : Thread Cert.AdamXkvIdeal.nD Cert.AdamXkvIdeal.τ).loc Cert.AdamXkvIdeal.main_v0_0)) (v1 : (c : Dev Cert.AdamXkvIdeal.nD) → Buf (Elt Ideal) ((c.tc : Thread Cert.AdamXkvIdeal.nD Cert.AdamXkvIdeal.τ).loc Cert.AdamXkvIdeal.main_v0_1)) (v2 : (c : Dev Cert.AdamXkvIdeal.nD) → Buf (Elt Ideal) ((c.tc : Thread Cert.AdamXkvIdeal.nD Cert.AdamXkvIdeal.τ).loc Cert.AdamXkvIdeal.main_v0_2)) (v3 : (c : Dev Cert.AdamXkvIdeal.nD) → Buf (Elt Ideal) ((c.tc : Thread Cert.AdamXkvIdeal.nD Cert.AdamXkvIdeal.τ).loc Cert.AdamXkvIdeal.main_v0_3)),
      θ_run (Cert.AdamXkvIdeal.defs (F := Ideal)) (onTc (τ := Cert.AdamXkvIdeal.τ) (Cert.AdamXkvIdeal.main (F := Ideal))) ⟨m, fun _ => 0, g⟩ (fun r => ∀ c : Dev Cert.AdamXkvIdeal.nD,
          r.2.mem ((c.tc : Thread Cert.AdamXkvIdeal.nD Cert.AdamXkvIdeal.τ).loc Cert.AdamXkvIdeal.main_v0_0) = v0 c
          ∧ r.2.mem ((c.tc : Thread Cert.AdamXkvIdeal.nD Cert.AdamXkvIdeal.τ).loc Cert.AdamXkvIdeal.main_v0_1) = v1 c
          ∧ r.2.mem ((c.tc : Thread Cert.AdamXkvIdeal.nD Cert.AdamXkvIdeal.τ).loc Cert.AdamXkvIdeal.main_v0_2) = v2 c
          ∧ r.2.mem ((c.tc : Thread Cert.AdamXkvIdeal.nD Cert.AdamXkvIdeal.τ).loc Cert.AdamXkvIdeal.main_v0_3) = v3 c
          ∧ r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
          ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
          ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
          ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ θ_run (Cert.AdamXkvRefIdeal.defs (F := Ideal)) (onTc (τ := Cert.AdamXkvRefIdeal.τ) (Cert.AdamXkvRefIdeal.main (F := Ideal))) ⟨m', fun _ => 0, g'⟩ (fun r => ∀ c : Dev Cert.AdamXkvRefIdeal.nD,
          r.2.mem ((c.tc : Thread Cert.AdamXkvRefIdeal.nD Cert.AdamXkvRefIdeal.τ).loc Cert.AdamXkvRefIdeal.main_v1) = v0 c
          ∧ r.2.mem ((c.tc : Thread Cert.AdamXkvRefIdeal.nD Cert.AdamXkvRefIdeal.τ).loc Cert.AdamXkvRefIdeal.main_v25) = v1 c
          ∧ r.2.mem ((c.tc : Thread Cert.AdamXkvRefIdeal.nD Cert.AdamXkvRefIdeal.τ).loc Cert.AdamXkvRefIdeal.main_v6) = v2 c
          ∧ r.2.mem ((c.tc : Thread Cert.AdamXkvRefIdeal.nD Cert.AdamXkvRefIdeal.τ).loc Cert.AdamXkvRefIdeal.main_v12) = v3 c
          ∧ r.2.mem ((c.tc : Thread Cert.AdamXkvRefIdeal.nD Cert.AdamXkvRefIdeal.τ).loc Cert.AdamXkvRefIdeal.main_arg0) = m' ((c.tc : Thread Cert.AdamXkvRefIdeal.nD Cert.AdamXkvRefIdeal.τ).loc Cert.AdamXkvRefIdeal.main_arg0)
          ∧ r.2.mem ((c.tc : Thread Cert.AdamXkvRefIdeal.nD Cert.AdamXkvRefIdeal.τ).loc Cert.AdamXkvRefIdeal.main_arg1) = m' ((c.tc : Thread Cert.AdamXkvRefIdeal.nD Cert.AdamXkvRefIdeal.τ).loc Cert.AdamXkvRefIdeal.main_arg1)
          ∧ r.2.mem ((c.tc : Thread Cert.AdamXkvRefIdeal.nD Cert.AdamXkvRefIdeal.τ).loc Cert.AdamXkvRefIdeal.main_arg2) = m' ((c.tc : Thread Cert.AdamXkvRefIdeal.nD Cert.AdamXkvRefIdeal.τ).loc Cert.AdamXkvRefIdeal.main_arg2)
          ∧ r.2.mem ((c.tc : Thread Cert.AdamXkvRefIdeal.nD Cert.AdamXkvRefIdeal.τ).loc Cert.AdamXkvRefIdeal.main_arg3) = m' ((c.tc : Thread Cert.AdamXkvRefIdeal.nD Cert.AdamXkvRefIdeal.τ).loc Cert.AdamXkvRefIdeal.main_arg3))

def preserves_AdamXo_AdamXoIdeal : Prop :=
  True

def algebraic_AdamXoIdeal_AdamXoRefIdeal [hAdamXoIdeal : Cert.AdamXoIdeal.Facts] [hAdamXoRefIdeal : Cert.AdamXoRefIdeal.Facts] : Prop :=
  ∀ (m : (ℓ : Loc Cert.AdamXoIdeal.nD Cert.AdamXoIdeal.τ Cert.AdamXoIdeal.sig) → Buf (Elt Ideal) ℓ) (g : Dev Cert.AdamXoIdeal.nD → PrngReg)
    (m' : (ℓ : Loc Cert.AdamXoRefIdeal.nD Cert.AdamXoRefIdeal.τ Cert.AdamXoRefIdeal.sig) → Buf (Elt Ideal) ℓ) (g' : Dev Cert.AdamXoRefIdeal.nD → PrngReg), Pre_AdamXoIdeal m →
    (∀ c : Dev Cert.AdamXoIdeal.nD,
      m' ((c.tc : Thread Cert.AdamXoRefIdeal.nD Cert.AdamXoRefIdeal.τ).loc Cert.AdamXoRefIdeal.main_arg0) = m ((c.tc : Thread Cert.AdamXoIdeal.nD Cert.AdamXoIdeal.τ).loc Cert.AdamXoIdeal.main_arg0)
      ∧ m' ((c.tc : Thread Cert.AdamXoRefIdeal.nD Cert.AdamXoRefIdeal.τ).loc Cert.AdamXoRefIdeal.main_arg1) = m ((c.tc : Thread Cert.AdamXoIdeal.nD Cert.AdamXoIdeal.τ).loc Cert.AdamXoIdeal.main_arg1)
      ∧ m' ((c.tc : Thread Cert.AdamXoRefIdeal.nD Cert.AdamXoRefIdeal.τ).loc Cert.AdamXoRefIdeal.main_arg2) = m ((c.tc : Thread Cert.AdamXoIdeal.nD Cert.AdamXoIdeal.τ).loc Cert.AdamXoIdeal.main_arg2)
      ∧ m' ((c.tc : Thread Cert.AdamXoRefIdeal.nD Cert.AdamXoRefIdeal.τ).loc Cert.AdamXoRefIdeal.main_arg3) = m ((c.tc : Thread Cert.AdamXoIdeal.nD Cert.AdamXoIdeal.τ).loc Cert.AdamXoIdeal.main_arg3)) →
    ∃ (v0 : (c : Dev Cert.AdamXoIdeal.nD) → Buf (Elt Ideal) ((c.tc : Thread Cert.AdamXoIdeal.nD Cert.AdamXoIdeal.τ).loc Cert.AdamXoIdeal.main_v3_0)) (v1 : (c : Dev Cert.AdamXoIdeal.nD) → Buf (Elt Ideal) ((c.tc : Thread Cert.AdamXoIdeal.nD Cert.AdamXoIdeal.τ).loc Cert.AdamXoIdeal.main_v3_1)) (v2 : (c : Dev Cert.AdamXoIdeal.nD) → Buf (Elt Ideal) ((c.tc : Thread Cert.AdamXoIdeal.nD Cert.AdamXoIdeal.τ).loc Cert.AdamXoIdeal.main_v3_2)) (v3 : (c : Dev Cert.AdamXoIdeal.nD) → Buf (Elt Ideal) ((c.tc : Thread Cert.AdamXoIdeal.nD Cert.AdamXoIdeal.τ).loc Cert.AdamXoIdeal.main_v3_3)),
      θ_run (Cert.AdamXoIdeal.defs (F := Ideal)) (onTc (τ := Cert.AdamXoIdeal.τ) (Cert.AdamXoIdeal.main (F := Ideal))) ⟨m, fun _ => 0, g⟩ (fun r => ∀ c : Dev Cert.AdamXoIdeal.nD,
          r.2.mem ((c.tc : Thread Cert.AdamXoIdeal.nD Cert.AdamXoIdeal.τ).loc Cert.AdamXoIdeal.main_v3_0) = v0 c
          ∧ r.2.mem ((c.tc : Thread Cert.AdamXoIdeal.nD Cert.AdamXoIdeal.τ).loc Cert.AdamXoIdeal.main_v3_1) = v1 c
          ∧ r.2.mem ((c.tc : Thread Cert.AdamXoIdeal.nD Cert.AdamXoIdeal.τ).loc Cert.AdamXoIdeal.main_v3_2) = v2 c
          ∧ r.2.mem ((c.tc : Thread Cert.AdamXoIdeal.nD Cert.AdamXoIdeal.τ).loc Cert.AdamXoIdeal.main_v3_3) = v3 c
          ∧ r.2.mem ((c.tc : Thread Cert.AdamXoIdeal.nD Cert.AdamXoIdeal.τ).loc Cert.AdamXoIdeal.main_arg0) = m ((c.tc : Thread Cert.AdamXoIdeal.nD Cert.AdamXoIdeal.τ).loc Cert.AdamXoIdeal.main_arg0)
          ∧ r.2.mem ((c.tc : Thread Cert.AdamXoIdeal.nD Cert.AdamXoIdeal.τ).loc Cert.AdamXoIdeal.main_arg1) = m ((c.tc : Thread Cert.AdamXoIdeal.nD Cert.AdamXoIdeal.τ).loc Cert.AdamXoIdeal.main_arg1)
          ∧ r.2.mem ((c.tc : Thread Cert.AdamXoIdeal.nD Cert.AdamXoIdeal.τ).loc Cert.AdamXoIdeal.main_arg2) = m ((c.tc : Thread Cert.AdamXoIdeal.nD Cert.AdamXoIdeal.τ).loc Cert.AdamXoIdeal.main_arg2)
          ∧ r.2.mem ((c.tc : Thread Cert.AdamXoIdeal.nD Cert.AdamXoIdeal.τ).loc Cert.AdamXoIdeal.main_arg3) = m ((c.tc : Thread Cert.AdamXoIdeal.nD Cert.AdamXoIdeal.τ).loc Cert.AdamXoIdeal.main_arg3))
      ∧ θ_run (Cert.AdamXoRefIdeal.defs (F := Ideal)) (onTc (τ := Cert.AdamXoRefIdeal.τ) (Cert.AdamXoRefIdeal.main (F := Ideal))) ⟨m', fun _ => 0, g'⟩ (fun r => ∀ c : Dev Cert.AdamXoRefIdeal.nD,
          r.2.mem ((c.tc : Thread Cert.AdamXoRefIdeal.nD Cert.AdamXoRefIdeal.τ).loc Cert.AdamXoRefIdeal.main_v27) = v0 c
          ∧ r.2.mem ((c.tc : Thread Cert.AdamXoRefIdeal.nD Cert.AdamXoRefIdeal.τ).loc Cert.AdamXoRefIdeal.main_v28) = v1 c
          ∧ r.2.mem ((c.tc : Thread Cert.AdamXoRefIdeal.nD Cert.AdamXoRefIdeal.τ).loc Cert.AdamXoRefIdeal.main_v29) = v2 c
          ∧ r.2.mem ((c.tc : Thread Cert.AdamXoRefIdeal.nD Cert.AdamXoRefIdeal.τ).loc Cert.AdamXoRefIdeal.main_v30) = v3 c
          ∧ r.2.mem ((c.tc : Thread Cert.AdamXoRefIdeal.nD Cert.AdamXoRefIdeal.τ).loc Cert.AdamXoRefIdeal.main_arg0) = m' ((c.tc : Thread Cert.AdamXoRefIdeal.nD Cert.AdamXoRefIdeal.τ).loc Cert.AdamXoRefIdeal.main_arg0)
          ∧ r.2.mem ((c.tc : Thread Cert.AdamXoRefIdeal.nD Cert.AdamXoRefIdeal.τ).loc Cert.AdamXoRefIdeal.main_arg1) = m' ((c.tc : Thread Cert.AdamXoRefIdeal.nD Cert.AdamXoRefIdeal.τ).loc Cert.AdamXoRefIdeal.main_arg1)
          ∧ r.2.mem ((c.tc : Thread Cert.AdamXoRefIdeal.nD Cert.AdamXoRefIdeal.τ).loc Cert.AdamXoRefIdeal.main_arg2) = m' ((c.tc : Thread Cert.AdamXoRefIdeal.nD Cert.AdamXoRefIdeal.τ).loc Cert.AdamXoRefIdeal.main_arg2)
          ∧ r.2.mem ((c.tc : Thread Cert.AdamXoRefIdeal.nD Cert.AdamXoRefIdeal.τ).loc Cert.AdamXoRefIdeal.main_arg3) = m' ((c.tc : Thread Cert.AdamXoRefIdeal.nD Cert.AdamXoRefIdeal.τ).loc Cert.AdamXoRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v3_0)) (v1 : (c : Dev Cert.AdamFfnInIdeal.nD) → Buf (Elt Ideal) ((c.tc : Thread Cert.AdamFfnInIdeal.nD Cert.AdamFfnInIdeal.τ).loc Cert.AdamFfnInIdeal.main_v3_1)) (v2 : (c : Dev Cert.AdamFfnInIdeal.nD) → Buf (Elt Ideal) ((c.tc : Thread Cert.AdamFfnInIdeal.nD Cert.AdamFfnInIdeal.τ).loc Cert.AdamFfnInIdeal.main_v3_2)) (v3 : (c : Dev Cert.AdamFfnInIdeal.nD) → Buf (Elt Ideal) ((c.tc : Thread Cert.AdamFfnInIdeal.nD Cert.AdamFfnInIdeal.τ).loc Cert.AdamFfnInIdeal.main_v3_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v3_0) = v0 c
          ∧ r.2.mem ((c.tc : Thread Cert.AdamFfnInIdeal.nD Cert.AdamFfnInIdeal.τ).loc Cert.AdamFfnInIdeal.main_v3_1) = v1 c
          ∧ r.2.mem ((c.tc : Thread Cert.AdamFfnInIdeal.nD Cert.AdamFfnInIdeal.τ).loc Cert.AdamFfnInIdeal.main_v3_2) = v2 c
          ∧ r.2.mem ((c.tc : Thread Cert.AdamFfnInIdeal.nD Cert.AdamFfnInIdeal.τ).loc Cert.AdamFfnInIdeal.main_v3_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v27) = v0 c
          ∧ r.2.mem ((c.tc : Thread Cert.AdamFfnInRefIdeal.nD Cert.AdamFfnInRefIdeal.τ).loc Cert.AdamFfnInRefIdeal.main_v28) = v1 c
          ∧ r.2.mem ((c.tc : Thread Cert.AdamFfnInRefIdeal.nD Cert.AdamFfnInRefIdeal.τ).loc Cert.AdamFfnInRefIdeal.main_v29) = v2 c
          ∧ r.2.mem ((c.tc : Thread Cert.AdamFfnInRefIdeal.nD Cert.AdamFfnInRefIdeal.τ).loc Cert.AdamFfnInRefIdeal.main_v30) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnConv_AdamFfnConvIdeal : Prop :=
  True

def algebraic_AdamFfnConvIdeal_AdamFfnConvRefIdeal [hAdamFfnConvIdeal : Cert.AdamFfnConvIdeal.Facts] [hAdamFfnConvRefIdeal : Cert.AdamFfnConvRefIdeal.Facts] : Prop :=
  ∀ (m : (ℓ : Loc Cert.AdamFfnConvIdeal.nD Cert.AdamFfnConvIdeal.τ Cert.AdamFfnConvIdeal.sig) → Buf (Elt Ideal) ℓ) (g : Dev Cert.AdamFfnConvIdeal.nD → PrngReg)
    (m' : (ℓ : Loc Cert.AdamFfnConvRefIdeal.nD Cert.AdamFfnConvRefIdeal.τ Cert.AdamFfnConvRefIdeal.sig) → Buf (Elt Ideal) ℓ) (g' : Dev Cert.AdamFfnConvRefIdeal.nD → PrngReg), Pre_AdamFfnConvIdeal m →
    (∀ c : Dev Cert.AdamFfnConvIdeal.nD,
      m' ((c.tc : Thread Cert.AdamFfnConvRefIdeal.nD Cert.AdamFfnConvRefIdeal.τ).loc Cert.AdamFfnConvRefIdeal.main_arg0) = m ((c.tc : Thread Cert.AdamFfnConvIdeal.nD Cert.AdamFfnConvIdeal.τ).loc Cert.AdamFfnConvIdeal.main_arg0)
      ∧ m' ((c.tc : Thread Cert.AdamFfnConvRefIdeal.nD Cert.AdamFfnConvRefIdeal.τ).loc Cert.AdamFfnConvRefIdeal.main_arg1) = m ((c.tc : Thread Cert.AdamFfnConvIdeal.nD Cert.AdamFfnConvIdeal.τ).loc Cert.AdamFfnConvIdeal.main_arg1)
      ∧ m' ((c.tc : Thread Cert.AdamFfnConvRefIdeal.nD Cert.AdamFfnConvRefIdeal.τ).loc Cert.AdamFfnConvRefIdeal.main_arg2) = m ((c.tc : Thread Cert.AdamFfnConvIdeal.nD Cert.AdamFfnConvIdeal.τ).loc Cert.AdamFfnConvIdeal.main_arg2)
      ∧ m' ((c.tc : Thread Cert.AdamFfnConvRefIdeal.nD Cert.AdamFfnConvRefIdeal.τ).loc Cert.AdamFfnConvRefIdeal.main_arg3) = m ((c.tc : Thread Cert.AdamFfnConvIdeal.nD Cert.AdamFfnConvIdeal.τ).loc Cert.AdamFfnConvIdeal.main_arg3)) →
    ∃ (v0 : (c : Dev Cert.AdamFfnConvIdeal.nD) → Buf (Elt Ideal) ((c.tc : Thread Cert.AdamFfnConvIdeal.nD Cert.AdamFfnConvIdeal.τ).loc Cert.AdamFfnConvIdeal.main_v0_0)) (v1 : (c : Dev Cert.AdamFfnConvIdeal.nD) → Buf (Elt Ideal) ((c.tc : Thread Cert.AdamFfnConvIdeal.nD Cert.AdamFfnConvIdeal.τ).loc Cert.AdamFfnConvIdeal.main_v0_1)) (v2 : (c : Dev Cert.AdamFfnConvIdeal.nD) → Buf (Elt Ideal) ((c.tc : Thread Cert.AdamFfnConvIdeal.nD Cert.AdamFfnConvIdeal.τ).loc Cert.AdamFfnConvIdeal.main_v0_2)) (v3 : (c : Dev Cert.AdamFfnConvIdeal.nD) → Buf (Elt Ideal) ((c.tc : Thread Cert.AdamFfnConvIdeal.nD Cert.AdamFfnConvIdeal.τ).loc Cert.AdamFfnConvIdeal.main_v0_3)),
      θ_run (Cert.AdamFfnConvIdeal.defs (F := Ideal)) (onTc (τ := Cert.AdamFfnConvIdeal.τ) (Cert.AdamFfnConvIdeal.main (F := Ideal))) ⟨m, fun _ => 0, g⟩ (fun r => ∀ c : Dev Cert.AdamFfnConvIdeal.nD,
          r.2.mem ((c.tc : Thread Cert.AdamFfnConvIdeal.nD Cert.AdamFfnConvIdeal.τ).loc Cert.AdamFfnConvIdeal.main_v0_0) = v0 c
          ∧ r.2.mem ((c.tc : Thread Cert.AdamFfnConvIdeal.nD Cert.AdamFfnConvIdeal.τ).loc Cert.AdamFfnConvIdeal.main_v0_1) = v1 c
          ∧ r.2.mem ((c.tc : Thread Cert.AdamFfnConvIdeal.nD Cert.AdamFfnConvIdeal.τ).loc Cert.AdamFfnConvIdeal.main_v0_2) = v2 c
          ∧ r.2.mem ((c.tc : Thread Cert.AdamFfnConvIdeal.nD Cert.AdamFfnConvIdeal.τ).loc Cert.AdamFfnConvIdeal.main_v0_3) = v3 c
          ∧ r.2.mem ((c.tc : Thread Cert.AdamFfnConvIdeal.nD Cert.AdamFfnConvIdeal.τ).loc Cert.AdamFfnConvIdeal.main_arg0) = m ((c.tc : Thread Cert.AdamFfnConvIdeal.nD Cert.AdamFfnConvIdeal.τ).loc Cert.AdamFfnConvIdeal.main_arg0)
          ∧ r.2.mem ((c.tc : Thread Cert.AdamFfnConvIdeal.nD Cert.AdamFfnConvIdeal.τ).loc Cert.AdamFfnConvIdeal.main_arg1) = m ((c.tc : Thread Cert.AdamFfnConvIdeal.nD Cert.AdamFfnConvIdeal.τ).loc Cert.AdamFfnConvIdeal.main_arg1)
          ∧ r.2.mem ((c.tc : Thread Cert.AdamFfnConvIdeal.nD Cert.AdamFfnConvIdeal.τ).loc Cert.AdamFfnConvIdeal.main_arg2) = m ((c.tc : Thread Cert.AdamFfnConvIdeal.nD Cert.AdamFfnConvIdeal.τ).loc Cert.AdamFfnConvIdeal.main_arg2)
          ∧ r.2.mem ((c.tc : Thread Cert.AdamFfnConvIdeal.nD Cert.AdamFfnConvIdeal.τ).loc Cert.AdamFfnConvIdeal.main_arg3) = m ((c.tc : Thread Cert.AdamFfnConvIdeal.nD Cert.AdamFfnConvIdeal.τ).loc Cert.AdamFfnConvIdeal.main_arg3))
      ∧ θ_run (Cert.AdamFfnConvRefIdeal.defs (F := Ideal)) (onTc (τ := Cert.AdamFfnConvRefIdeal.τ) (Cert.AdamFfnConvRefIdeal.main (F := Ideal))) ⟨m', fun _ => 0, g'⟩ (fun r => ∀ c : Dev Cert.AdamFfnConvRefIdeal.nD,
          r.2.mem ((c.tc : Thread Cert.AdamFfnConvRefIdeal.nD Cert.AdamFfnConvRefIdeal.τ).loc Cert.AdamFfnConvRefIdeal.main_v0) = v0 c
          ∧ r.2.mem ((c.tc : Thread Cert.AdamFfnConvRefIdeal.nD Cert.AdamFfnConvRefIdeal.τ).loc Cert.AdamFfnConvRefIdeal.main_v24) = v1 c
          ∧ r.2.mem ((c.tc : Thread Cert.AdamFfnConvRefIdeal.nD Cert.AdamFfnConvRefIdeal.τ).loc Cert.AdamFfnConvRefIdeal.main_v5) = v2 c
          ∧ r.2.mem ((c.tc : Thread Cert.AdamFfnConvRefIdeal.nD Cert.AdamFfnConvRefIdeal.τ).loc Cert.AdamFfnConvRefIdeal.main_v11) = v3 c
          ∧ r.2.mem ((c.tc : Thread Cert.AdamFfnConvRefIdeal.nD Cert.AdamFfnConvRefIdeal.τ).loc Cert.AdamFfnConvRefIdeal.main_arg0) = m' ((c.tc : Thread Cert.AdamFfnConvRefIdeal.nD Cert.AdamFfnConvRefIdeal.τ).loc Cert.AdamFfnConvRefIdeal.main_arg0)
          ∧ r.2.mem ((c.tc : Thread Cert.AdamFfnConvRefIdeal.nD Cert.AdamFfnConvRefIdeal.τ).loc Cert.AdamFfnConvRefIdeal.main_arg1) = m' ((c.tc : Thread Cert.AdamFfnConvRefIdeal.nD Cert.AdamFfnConvRefIdeal.τ).loc Cert.AdamFfnConvRefIdeal.main_arg1)
          ∧ r.2.mem ((c.tc : Thread Cert.AdamFfnConvRefIdeal.nD Cert.AdamFfnConvRefIdeal.τ).loc Cert.AdamFfnConvRefIdeal.main_arg2) = m' ((c.tc : Thread Cert.AdamFfnConvRefIdeal.nD Cert.AdamFfnConvRefIdeal.τ).loc Cert.AdamFfnConvRefIdeal.main_arg2)
          ∧ r.2.mem ((c.tc : Thread Cert.AdamFfnConvRefIdeal.nD Cert.AdamFfnConvRefIdeal.τ).loc Cert.AdamFfnConvRefIdeal.main_arg3) = m' ((c.tc : Thread Cert.AdamFfnConvRefIdeal.nD Cert.AdamFfnConvRefIdeal.τ).loc Cert.AdamFfnConvRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v1) = v0 c
          ∧ r.2.mem ((c.tc : Thread Cert.AdamFfnOutRefIdeal.nD Cert.AdamFfnOutRefIdeal.τ).loc Cert.AdamFfnOutRefIdeal.main_v25) = v1 c
          ∧ r.2.mem ((c.tc : Thread Cert.AdamFfnOutRefIdeal.nD Cert.AdamFfnOutRefIdeal.τ).loc Cert.AdamFfnOutRefIdeal.main_v6) = v2 c
          ∧ r.2.mem ((c.tc : Thread Cert.AdamFfnOutRefIdeal.nD Cert.AdamFfnOutRefIdeal.τ).loc Cert.AdamFfnOutRefIdeal.main_v12) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamHybIn_AdamHybInIdeal : Prop :=
  True

def algebraic_AdamHybInIdeal_AdamHybInRefIdeal [hAdamHybInIdeal : Cert.AdamHybInIdeal.Facts] [hAdamHybInRefIdeal : Cert.AdamHybInRefIdeal.Facts] : Prop :=
  ∀ (m : (ℓ : Loc Cert.AdamHybInIdeal.nD Cert.AdamHybInIdeal.τ Cert.AdamHybInIdeal.sig) → Buf (Elt Ideal) ℓ) (g : Dev Cert.AdamHybInIdeal.nD → PrngReg)
    (m' : (ℓ : Loc Cert.AdamHybInRefIdeal.nD Cert.AdamHybInRefIdeal.τ Cert.AdamHybInRefIdeal.sig) → Buf (Elt Ideal) ℓ) (g' : Dev Cert.AdamHybInRefIdeal.nD → PrngReg), Pre_AdamHybInIdeal m →
    (∀ c : Dev Cert.AdamHybInIdeal.nD,
      m' ((c.tc : Thread Cert.AdamHybInRefIdeal.nD Cert.AdamHybInRefIdeal.τ).loc Cert.AdamHybInRefIdeal.main_arg0) = m ((c.tc : Thread Cert.AdamHybInIdeal.nD Cert.AdamHybInIdeal.τ).loc Cert.AdamHybInIdeal.main_arg0)
      ∧ m' ((c.tc : Thread Cert.AdamHybInRefIdeal.nD Cert.AdamHybInRefIdeal.τ).loc Cert.AdamHybInRefIdeal.main_arg1) = m ((c.tc : Thread Cert.AdamHybInIdeal.nD Cert.AdamHybInIdeal.τ).loc Cert.AdamHybInIdeal.main_arg1)
      ∧ m' ((c.tc : Thread Cert.AdamHybInRefIdeal.nD Cert.AdamHybInRefIdeal.τ).loc Cert.AdamHybInRefIdeal.main_arg2) = m ((c.tc : Thread Cert.AdamHybInIdeal.nD Cert.AdamHybInIdeal.τ).loc Cert.AdamHybInIdeal.main_arg2)
      ∧ m' ((c.tc : Thread Cert.AdamHybInRefIdeal.nD Cert.AdamHybInRefIdeal.τ).loc Cert.AdamHybInRefIdeal.main_arg3) = m ((c.tc : Thread Cert.AdamHybInIdeal.nD Cert.AdamHybInIdeal.τ).loc Cert.AdamHybInIdeal.main_arg3)) →
    ∃ (v0 : (c : Dev Cert.AdamHybInIdeal.nD) → Buf (Elt Ideal) ((c.tc : Thread Cert.AdamHybInIdeal.nD Cert.AdamHybInIdeal.τ).loc Cert.AdamHybInIdeal.main_v3_0)) (v1 : (c : Dev Cert.AdamHybInIdeal.nD) → Buf (Elt Ideal) ((c.tc : Thread Cert.AdamHybInIdeal.nD Cert.AdamHybInIdeal.τ).loc Cert.AdamHybInIdeal.main_v3_1)) (v2 : (c : Dev Cert.AdamHybInIdeal.nD) → Buf (Elt Ideal) ((c.tc : Thread Cert.AdamHybInIdeal.nD Cert.AdamHybInIdeal.τ).loc Cert.AdamHybInIdeal.main_v3_2)) (v3 : (c : Dev Cert.AdamHybInIdeal.nD) → Buf (Elt Ideal) ((c.tc : Thread Cert.AdamHybInIdeal.nD Cert.AdamHybInIdeal.τ).loc Cert.AdamHybInIdeal.main_v3_3)),
      θ_run (Cert.AdamHybInIdeal.defs (F := Ideal)) (onTc (τ := Cert.AdamHybInIdeal.τ) (Cert.AdamHybInIdeal.main (F := Ideal))) ⟨m, fun _ => 0, g⟩ (fun r => ∀ c : Dev Cert.AdamHybInIdeal.nD,
          r.2.mem ((c.tc : Thread Cert.AdamHybInIdeal.nD Cert.AdamHybInIdeal.τ).loc Cert.AdamHybInIdeal.main_v3_0) = v0 c
          ∧ r.2.mem ((c.tc : Thread Cert.AdamHybInIdeal.nD Cert.AdamHybInIdeal.τ).loc Cert.AdamHybInIdeal.main_v3_1) = v1 c
          ∧ r.2.mem ((c.tc : Thread Cert.AdamHybInIdeal.nD Cert.AdamHybInIdeal.τ).loc Cert.AdamHybInIdeal.main_v3_2) = v2 c
          ∧ r.2.mem ((c.tc : Thread Cert.AdamHybInIdeal.nD Cert.AdamHybInIdeal.τ).loc Cert.AdamHybInIdeal.main_v3_3) = v3 c
          ∧ r.2.mem ((c.tc : Thread Cert.AdamHybInIdeal.nD Cert.AdamHybInIdeal.τ).loc Cert.AdamHybInIdeal.main_arg0) = m ((c.tc : Thread Cert.AdamHybInIdeal.nD Cert.AdamHybInIdeal.τ).loc Cert.AdamHybInIdeal.main_arg0)
          ∧ r.2.mem ((c.tc : Thread Cert.AdamHybInIdeal.nD Cert.AdamHybInIdeal.τ).loc Cert.AdamHybInIdeal.main_arg1) = m ((c.tc : Thread Cert.AdamHybInIdeal.nD Cert.AdamHybInIdeal.τ).loc Cert.AdamHybInIdeal.main_arg1)
          ∧ r.2.mem ((c.tc : Thread Cert.AdamHybInIdeal.nD Cert.AdamHybInIdeal.τ).loc Cert.AdamHybInIdeal.main_arg2) = m ((c.tc : Thread Cert.AdamHybInIdeal.nD Cert.AdamHybInIdeal.τ).loc Cert.AdamHybInIdeal.main_arg2)
          ∧ r.2.mem ((c.tc : Thread Cert.AdamHybInIdeal.nD Cert.AdamHybInIdeal.τ).loc Cert.AdamHybInIdeal.main_arg3) = m ((c.tc : Thread Cert.AdamHybInIdeal.nD Cert.AdamHybInIdeal.τ).loc Cert.AdamHybInIdeal.main_arg3))
      ∧ θ_run (Cert.AdamHybInRefIdeal.defs (F := Ideal)) (onTc (τ := Cert.AdamHybInRefIdeal.τ) (Cert.AdamHybInRefIdeal.main (F := Ideal))) ⟨m', fun _ => 0, g'⟩ (fun r => ∀ c : Dev Cert.AdamHybInRefIdeal.nD,
          r.2.mem ((c.tc : Thread Cert.AdamHybInRefIdeal.nD Cert.AdamHybInRefIdeal.τ).loc Cert.AdamHybInRefIdeal.main_v27) = v0 c
          ∧ r.2.mem ((c.tc : Thread Cert.AdamHybInRefIdeal.nD Cert.AdamHybInRefIdeal.τ).loc Cert.AdamHybInRefIdeal.main_v28) = v1 c
          ∧ r.2.mem ((c.tc : Thread Cert.AdamHybInRefIdeal.nD Cert.AdamHybInRefIdeal.τ).loc Cert.AdamHybInRefIdeal.main_v29) = v2 c
          ∧ r.2.mem ((c.tc : Thread Cert.AdamHybInRefIdeal.nD Cert.AdamHybInRefIdeal.τ).loc Cert.AdamHybInRefIdeal.main_v30) = v3 c
          ∧ r.2.mem ((c.tc : Thread Cert.AdamHybInRefIdeal.nD Cert.AdamHybInRefIdeal.τ).loc Cert.AdamHybInRefIdeal.main_arg0) = m' ((c.tc : Thread Cert.AdamHybInRefIdeal.nD Cert.AdamHybInRefIdeal.τ).loc Cert.AdamHybInRefIdeal.main_arg0)
          ∧ r.2.mem ((c.tc : Thread Cert.AdamHybInRefIdeal.nD Cert.AdamHybInRefIdeal.τ).loc Cert.AdamHybInRefIdeal.main_arg1) = m' ((c.tc : Thread Cert.AdamHybInRefIdeal.nD Cert.AdamHybInRefIdeal.τ).loc Cert.AdamHybInRefIdeal.main_arg1)
          ∧ r.2.mem ((c.tc : Thread Cert.AdamHybInRefIdeal.nD Cert.AdamHybInRefIdeal.τ).loc Cert.AdamHybInRefIdeal.main_arg2) = m' ((c.tc : Thread Cert.AdamHybInRefIdeal.nD Cert.AdamHybInRefIdeal.τ).loc Cert.AdamHybInRefIdeal.main_arg2)
          ∧ r.2.mem ((c.tc : Thread Cert.AdamHybInRefIdeal.nD Cert.AdamHybInRefIdeal.τ).loc Cert.AdamHybInRefIdeal.main_arg3) = m' ((c.tc : Thread Cert.AdamHybInRefIdeal.nD Cert.AdamHybInRefIdeal.τ).loc Cert.AdamHybInRefIdeal.main_arg3))

def preserves_AdamMixOut_AdamMixOutIdeal : Prop :=
  True

def algebraic_AdamMixOutIdeal_AdamMixOutRefIdeal [hAdamMixOutIdeal : Cert.AdamMixOutIdeal.Facts] [hAdamMixOutRefIdeal : Cert.AdamMixOutRefIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg)
    (m' : (ℓ : Loc Cert.AdamMixOutRefIdeal.nD Cert.AdamMixOutRefIdeal.τ Cert.AdamMixOutRefIdeal.sig) → Buf (Elt Ideal) ℓ) (g' : Dev Cert.AdamMixOutRefIdeal.nD → PrngReg), Pre_AdamMixOutIdeal m →
    (∀ c : Dev Cert.AdamMixOutIdeal.nD,
      m' ((c.tc : Thread Cert.AdamMixOutRefIdeal.nD Cert.AdamMixOutRefIdeal.τ).loc Cert.AdamMixOutRefIdeal.main_arg0) = m ((c.tc : Thread Cert.AdamMixOutIdeal.nD Cert.AdamMixOutIdeal.τ).loc Cert.AdamMixOutIdeal.main_arg0)
      ∧ m' ((c.tc : Thread Cert.AdamMixOutRefIdeal.nD Cert.AdamMixOutRefIdeal.τ).loc Cert.AdamMixOutRefIdeal.main_arg1) = m ((c.tc : Thread Cert.AdamMixOutIdeal.nD Cert.AdamMixOutIdeal.τ).loc Cert.AdamMixOutIdeal.main_arg1)
      ∧ m' ((c.tc : Thread Cert.AdamMixOutRefIdeal.nD Cert.AdamMixOutRefIdeal.τ).loc Cert.AdamMixOutRefIdeal.main_arg2) = m ((c.tc : Thread Cert.AdamMixOutIdeal.nD Cert.AdamMixOutIdeal.τ).loc Cert.AdamMixOutIdeal.main_arg2)
      ∧ m' ((c.tc : Thread Cert.AdamMixOutRefIdeal.nD Cert.AdamMixOutRefIdeal.τ).loc Cert.AdamMixOutRefIdeal.main_arg3) = m ((c.tc : Thread Cert.AdamMixOutIdeal.nD Cert.AdamMixOutIdeal.τ).loc Cert.AdamMixOutIdeal.main_arg3)) →
    ∃ (v0 : (c : Dev Cert.AdamMixOutIdeal.nD) → Buf (Elt Ideal) ((c.tc : Thread Cert.AdamMixOutIdeal.nD Cert.AdamMixOutIdeal.τ).loc Cert.AdamMixOutIdeal.main_v0_0)) (v1 : (c : Dev Cert.AdamMixOutIdeal.nD) → Buf (Elt Ideal) ((c.tc : Thread Cert.AdamMixOutIdeal.nD Cert.AdamMixOutIdeal.τ).loc Cert.AdamMixOutIdeal.main_v0_1)) (v2 : (c : Dev Cert.AdamMixOutIdeal.nD) → Buf (Elt Ideal) ((c.tc : Thread Cert.AdamMixOutIdeal.nD Cert.AdamMixOutIdeal.τ).loc Cert.AdamMixOutIdeal.main_v0_2)) (v3 : (c : Dev Cert.AdamMixOutIdeal.nD) → Buf (Elt Ideal) ((c.tc : Thread Cert.AdamMixOutIdeal.nD Cert.AdamMixOutIdeal.τ).loc Cert.AdamMixOutIdeal.main_v0_3)),
      θ_run (Cert.AdamMixOutIdeal.defs (F := Ideal)) (onTc (τ := Cert.AdamMixOutIdeal.τ) (Cert.AdamMixOutIdeal.main (F := Ideal))) ⟨m, fun _ => 0, g⟩ (fun r => ∀ c : Dev Cert.AdamMixOutIdeal.nD,
          r.2.mem ((c.tc : Thread Cert.AdamMixOutIdeal.nD Cert.AdamMixOutIdeal.τ).loc Cert.AdamMixOutIdeal.main_v0_0) = v0 c
          ∧ r.2.mem ((c.tc : Thread Cert.AdamMixOutIdeal.nD Cert.AdamMixOutIdeal.τ).loc Cert.AdamMixOutIdeal.main_v0_1) = v1 c
          ∧ r.2.mem ((c.tc : Thread Cert.AdamMixOutIdeal.nD Cert.AdamMixOutIdeal.τ).loc Cert.AdamMixOutIdeal.main_v0_2) = v2 c
          ∧ r.2.mem ((c.tc : Thread Cert.AdamMixOutIdeal.nD Cert.AdamMixOutIdeal.τ).loc Cert.AdamMixOutIdeal.main_v0_3) = v3 c
          ∧ r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
          ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
          ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
          ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ θ_run (Cert.AdamMixOutRefIdeal.defs (F := Ideal)) (onTc (τ := Cert.AdamMixOutRefIdeal.τ) (Cert.AdamMixOutRefIdeal.main (F := Ideal))) ⟨m', fun _ => 0, g'⟩ (fun r => ∀ c : Dev Cert.AdamMixOutRefIdeal.nD,
          r.2.mem ((c.tc : Thread Cert.AdamMixOutRefIdeal.nD Cert.AdamMixOutRefIdeal.τ).loc Cert.AdamMixOutRefIdeal.main_v1) = v0 c
          ∧ r.2.mem ((c.tc : Thread Cert.AdamMixOutRefIdeal.nD Cert.AdamMixOutRefIdeal.τ).loc Cert.AdamMixOutRefIdeal.main_v25) = v1 c
          ∧ r.2.mem ((c.tc : Thread Cert.AdamMixOutRefIdeal.nD Cert.AdamMixOutRefIdeal.τ).loc Cert.AdamMixOutRefIdeal.main_v6) = v2 c
          ∧ r.2.mem ((c.tc : Thread Cert.AdamMixOutRefIdeal.nD Cert.AdamMixOutRefIdeal.τ).loc Cert.AdamMixOutRefIdeal.main_v12) = v3 c
          ∧ r.2.mem ((c.tc : Thread Cert.AdamMixOutRefIdeal.nD Cert.AdamMixOutRefIdeal.τ).loc Cert.AdamMixOutRefIdeal.main_arg0) = m' ((c.tc : Thread Cert.AdamMixOutRefIdeal.nD Cert.AdamMixOutRefIdeal.τ).loc Cert.AdamMixOutRefIdeal.main_arg0)
          ∧ r.2.mem ((c.tc : Thread Cert.AdamMixOutRefIdeal.nD Cert.AdamMixOutRefIdeal.τ).loc Cert.AdamMixOutRefIdeal.main_arg1) = m' ((c.tc : Thread Cert.AdamMixOutRefIdeal.nD Cert.AdamMixOutRefIdeal.τ).loc Cert.AdamMixOutRefIdeal.main_arg1)
          ∧ r.2.mem ((c.tc : Thread Cert.AdamMixOutRefIdeal.nD Cert.AdamMixOutRefIdeal.τ).loc Cert.AdamMixOutRefIdeal.main_arg2) = m' ((c.tc : Thread Cert.AdamMixOutRefIdeal.nD Cert.AdamMixOutRefIdeal.τ).loc Cert.AdamMixOutRefIdeal.main_arg2)
          ∧ r.2.mem ((c.tc : Thread Cert.AdamMixOutRefIdeal.nD Cert.AdamMixOutRefIdeal.τ).loc Cert.AdamMixOutRefIdeal.main_arg3) = m' ((c.tc : Thread Cert.AdamMixOutRefIdeal.nD Cert.AdamMixOutRefIdeal.τ).loc Cert.AdamMixOutRefIdeal.main_arg3))

def preserves_AdamGdnConv_AdamGdnConvIdeal : Prop :=
  True

def algebraic_AdamGdnConvIdeal_AdamGdnConvRefIdeal [hAdamGdnConvIdeal : Cert.AdamGdnConvIdeal.Facts] [hAdamGdnConvRefIdeal : Cert.AdamGdnConvRefIdeal.Facts] : Prop :=
  ∀ (m : (ℓ : Loc Cert.AdamGdnConvIdeal.nD Cert.AdamGdnConvIdeal.τ Cert.AdamGdnConvIdeal.sig) → Buf (Elt Ideal) ℓ) (g : Dev Cert.AdamGdnConvIdeal.nD → PrngReg)
    (m' : (ℓ : Loc Cert.AdamGdnConvRefIdeal.nD Cert.AdamGdnConvRefIdeal.τ Cert.AdamGdnConvRefIdeal.sig) → Buf (Elt Ideal) ℓ) (g' : Dev Cert.AdamGdnConvRefIdeal.nD → PrngReg), Pre_AdamGdnConvIdeal m →
    (∀ c : Dev Cert.AdamGdnConvIdeal.nD,
      m' ((c.tc : Thread Cert.AdamGdnConvRefIdeal.nD Cert.AdamGdnConvRefIdeal.τ).loc Cert.AdamGdnConvRefIdeal.main_arg0) = m ((c.tc : Thread Cert.AdamGdnConvIdeal.nD Cert.AdamGdnConvIdeal.τ).loc Cert.AdamGdnConvIdeal.main_arg0)
      ∧ m' ((c.tc : Thread Cert.AdamGdnConvRefIdeal.nD Cert.AdamGdnConvRefIdeal.τ).loc Cert.AdamGdnConvRefIdeal.main_arg1) = m ((c.tc : Thread Cert.AdamGdnConvIdeal.nD Cert.AdamGdnConvIdeal.τ).loc Cert.AdamGdnConvIdeal.main_arg1)
      ∧ m' ((c.tc : Thread Cert.AdamGdnConvRefIdeal.nD Cert.AdamGdnConvRefIdeal.τ).loc Cert.AdamGdnConvRefIdeal.main_arg2) = m ((c.tc : Thread Cert.AdamGdnConvIdeal.nD Cert.AdamGdnConvIdeal.τ).loc Cert.AdamGdnConvIdeal.main_arg2)
      ∧ m' ((c.tc : Thread Cert.AdamGdnConvRefIdeal.nD Cert.AdamGdnConvRefIdeal.τ).loc Cert.AdamGdnConvRefIdeal.main_arg3) = m ((c.tc : Thread Cert.AdamGdnConvIdeal.nD Cert.AdamGdnConvIdeal.τ).loc Cert.AdamGdnConvIdeal.main_arg3)) →
    ∃ (v0 : (c : Dev Cert.AdamGdnConvIdeal.nD) → Buf (Elt Ideal) ((c.tc : Thread Cert.AdamGdnConvIdeal.nD Cert.AdamGdnConvIdeal.τ).loc Cert.AdamGdnConvIdeal.main_v0_0)) (v1 : (c : Dev Cert.AdamGdnConvIdeal.nD) → Buf (Elt Ideal) ((c.tc : Thread Cert.AdamGdnConvIdeal.nD Cert.AdamGdnConvIdeal.τ).loc Cert.AdamGdnConvIdeal.main_v0_1)) (v2 : (c : Dev Cert.AdamGdnConvIdeal.nD) → Buf (Elt Ideal) ((c.tc : Thread Cert.AdamGdnConvIdeal.nD Cert.AdamGdnConvIdeal.τ).loc Cert.AdamGdnConvIdeal.main_v0_2)) (v3 : (c : Dev Cert.AdamGdnConvIdeal.nD) → Buf (Elt Ideal) ((c.tc : Thread Cert.AdamGdnConvIdeal.nD Cert.AdamGdnConvIdeal.τ).loc Cert.AdamGdnConvIdeal.main_v0_3)),
      θ_run (Cert.AdamGdnConvIdeal.defs (F := Ideal)) (onTc (τ := Cert.AdamGdnConvIdeal.τ) (Cert.AdamGdnConvIdeal.main (F := Ideal))) ⟨m, fun _ => 0, g⟩ (fun r => ∀ c : Dev Cert.AdamGdnConvIdeal.nD,
          r.2.mem ((c.tc : Thread Cert.AdamGdnConvIdeal.nD Cert.AdamGdnConvIdeal.τ).loc Cert.AdamGdnConvIdeal.main_v0_0) = v0 c
          ∧ r.2.mem ((c.tc : Thread Cert.AdamGdnConvIdeal.nD Cert.AdamGdnConvIdeal.τ).loc Cert.AdamGdnConvIdeal.main_v0_1) = v1 c
          ∧ r.2.mem ((c.tc : Thread Cert.AdamGdnConvIdeal.nD Cert.AdamGdnConvIdeal.τ).loc Cert.AdamGdnConvIdeal.main_v0_2) = v2 c
          ∧ r.2.mem ((c.tc : Thread Cert.AdamGdnConvIdeal.nD Cert.AdamGdnConvIdeal.τ).loc Cert.AdamGdnConvIdeal.main_v0_3) = v3 c
          ∧ r.2.mem ((c.tc : Thread Cert.AdamGdnConvIdeal.nD Cert.AdamGdnConvIdeal.τ).loc Cert.AdamGdnConvIdeal.main_arg0) = m ((c.tc : Thread Cert.AdamGdnConvIdeal.nD Cert.AdamGdnConvIdeal.τ).loc Cert.AdamGdnConvIdeal.main_arg0)
          ∧ r.2.mem ((c.tc : Thread Cert.AdamGdnConvIdeal.nD Cert.AdamGdnConvIdeal.τ).loc Cert.AdamGdnConvIdeal.main_arg1) = m ((c.tc : Thread Cert.AdamGdnConvIdeal.nD Cert.AdamGdnConvIdeal.τ).loc Cert.AdamGdnConvIdeal.main_arg1)
          ∧ r.2.mem ((c.tc : Thread Cert.AdamGdnConvIdeal.nD Cert.AdamGdnConvIdeal.τ).loc Cert.AdamGdnConvIdeal.main_arg2) = m ((c.tc : Thread Cert.AdamGdnConvIdeal.nD Cert.AdamGdnConvIdeal.τ).loc Cert.AdamGdnConvIdeal.main_arg2)
          ∧ r.2.mem ((c.tc : Thread Cert.AdamGdnConvIdeal.nD Cert.AdamGdnConvIdeal.τ).loc Cert.AdamGdnConvIdeal.main_arg3) = m ((c.tc : Thread Cert.AdamGdnConvIdeal.nD Cert.AdamGdnConvIdeal.τ).loc Cert.AdamGdnConvIdeal.main_arg3))
      ∧ θ_run (Cert.AdamGdnConvRefIdeal.defs (F := Ideal)) (onTc (τ := Cert.AdamGdnConvRefIdeal.τ) (Cert.AdamGdnConvRefIdeal.main (F := Ideal))) ⟨m', fun _ => 0, g'⟩ (fun r => ∀ c : Dev Cert.AdamGdnConvRefIdeal.nD,
          r.2.mem ((c.tc : Thread Cert.AdamGdnConvRefIdeal.nD Cert.AdamGdnConvRefIdeal.τ).loc Cert.AdamGdnConvRefIdeal.main_v0) = v0 c
          ∧ r.2.mem ((c.tc : Thread Cert.AdamGdnConvRefIdeal.nD Cert.AdamGdnConvRefIdeal.τ).loc Cert.AdamGdnConvRefIdeal.main_v24) = v1 c
          ∧ r.2.mem ((c.tc : Thread Cert.AdamGdnConvRefIdeal.nD Cert.AdamGdnConvRefIdeal.τ).loc Cert.AdamGdnConvRefIdeal.main_v5) = v2 c
          ∧ r.2.mem ((c.tc : Thread Cert.AdamGdnConvRefIdeal.nD Cert.AdamGdnConvRefIdeal.τ).loc Cert.AdamGdnConvRefIdeal.main_v11) = v3 c
          ∧ r.2.mem ((c.tc : Thread Cert.AdamGdnConvRefIdeal.nD Cert.AdamGdnConvRefIdeal.τ).loc Cert.AdamGdnConvRefIdeal.main_arg0) = m' ((c.tc : Thread Cert.AdamGdnConvRefIdeal.nD Cert.AdamGdnConvRefIdeal.τ).loc Cert.AdamGdnConvRefIdeal.main_arg0)
          ∧ r.2.mem ((c.tc : Thread Cert.AdamGdnConvRefIdeal.nD Cert.AdamGdnConvRefIdeal.τ).loc Cert.AdamGdnConvRefIdeal.main_arg1) = m' ((c.tc : Thread Cert.AdamGdnConvRefIdeal.nD Cert.AdamGdnConvRefIdeal.τ).loc Cert.AdamGdnConvRefIdeal.main_arg1)
          ∧ r.2.mem ((c.tc : Thread Cert.AdamGdnConvRefIdeal.nD Cert.AdamGdnConvRefIdeal.τ).loc Cert.AdamGdnConvRefIdeal.main_arg2) = m' ((c.tc : Thread Cert.AdamGdnConvRefIdeal.nD Cert.AdamGdnConvRefIdeal.τ).loc Cert.AdamGdnConvRefIdeal.main_arg2)
          ∧ r.2.mem ((c.tc : Thread Cert.AdamGdnConvRefIdeal.nD Cert.AdamGdnConvRefIdeal.τ).loc Cert.AdamGdnConvRefIdeal.main_arg3) = m' ((c.tc : Thread Cert.AdamGdnConvRefIdeal.nD Cert.AdamGdnConvRefIdeal.τ).loc Cert.AdamGdnConvRefIdeal.main_arg3))

def preserves_AdamLruConv_AdamLruConvIdeal : Prop :=
  True

def algebraic_AdamLruConvIdeal_AdamLruConvRefIdeal [hAdamLruConvIdeal : Cert.AdamLruConvIdeal.Facts] [hAdamLruConvRefIdeal : Cert.AdamLruConvRefIdeal.Facts] : Prop :=
  ∀ (m : (ℓ : Loc Cert.AdamLruConvIdeal.nD Cert.AdamLruConvIdeal.τ Cert.AdamLruConvIdeal.sig) → Buf (Elt Ideal) ℓ) (g : Dev Cert.AdamLruConvIdeal.nD → PrngReg)
    (m' : (ℓ : Loc Cert.AdamLruConvRefIdeal.nD Cert.AdamLruConvRefIdeal.τ Cert.AdamLruConvRefIdeal.sig) → Buf (Elt Ideal) ℓ) (g' : Dev Cert.AdamLruConvRefIdeal.nD → PrngReg), Pre_AdamLruConvIdeal m →
    (∀ c : Dev Cert.AdamLruConvIdeal.nD,
      m' ((c.tc : Thread Cert.AdamLruConvRefIdeal.nD Cert.AdamLruConvRefIdeal.τ).loc Cert.AdamLruConvRefIdeal.main_arg0) = m ((c.tc : Thread Cert.AdamLruConvIdeal.nD Cert.AdamLruConvIdeal.τ).loc Cert.AdamLruConvIdeal.main_arg0)
      ∧ m' ((c.tc : Thread Cert.AdamLruConvRefIdeal.nD Cert.AdamLruConvRefIdeal.τ).loc Cert.AdamLruConvRefIdeal.main_arg1) = m ((c.tc : Thread Cert.AdamLruConvIdeal.nD Cert.AdamLruConvIdeal.τ).loc Cert.AdamLruConvIdeal.main_arg1)
      ∧ m' ((c.tc : Thread Cert.AdamLruConvRefIdeal.nD Cert.AdamLruConvRefIdeal.τ).loc Cert.AdamLruConvRefIdeal.main_arg2) = m ((c.tc : Thread Cert.AdamLruConvIdeal.nD Cert.AdamLruConvIdeal.τ).loc Cert.AdamLruConvIdeal.main_arg2)
      ∧ m' ((c.tc : Thread Cert.AdamLruConvRefIdeal.nD Cert.AdamLruConvRefIdeal.τ).loc Cert.AdamLruConvRefIdeal.main_arg3) = m ((c.tc : Thread Cert.AdamLruConvIdeal.nD Cert.AdamLruConvIdeal.τ).loc Cert.AdamLruConvIdeal.main_arg3)) →
    ∃ (v0 : (c : Dev Cert.AdamLruConvIdeal.nD) → Buf (Elt Ideal) ((c.tc : Thread Cert.AdamLruConvIdeal.nD Cert.AdamLruConvIdeal.τ).loc Cert.AdamLruConvIdeal.main_v0_0)) (v1 : (c : Dev Cert.AdamLruConvIdeal.nD) → Buf (Elt Ideal) ((c.tc : Thread Cert.AdamLruConvIdeal.nD Cert.AdamLruConvIdeal.τ).loc Cert.AdamLruConvIdeal.main_v0_1)) (v2 : (c : Dev Cert.AdamLruConvIdeal.nD) → Buf (Elt Ideal) ((c.tc : Thread Cert.AdamLruConvIdeal.nD Cert.AdamLruConvIdeal.τ).loc Cert.AdamLruConvIdeal.main_v0_2)) (v3 : (c : Dev Cert.AdamLruConvIdeal.nD) → Buf (Elt Ideal) ((c.tc : Thread Cert.AdamLruConvIdeal.nD Cert.AdamLruConvIdeal.τ).loc Cert.AdamLruConvIdeal.main_v0_3)),
      θ_run (Cert.AdamLruConvIdeal.defs (F := Ideal)) (onTc (τ := Cert.AdamLruConvIdeal.τ) (Cert.AdamLruConvIdeal.main (F := Ideal))) ⟨m, fun _ => 0, g⟩ (fun r => ∀ c : Dev Cert.AdamLruConvIdeal.nD,
          r.2.mem ((c.tc : Thread Cert.AdamLruConvIdeal.nD Cert.AdamLruConvIdeal.τ).loc Cert.AdamLruConvIdeal.main_v0_0) = v0 c
          ∧ r.2.mem ((c.tc : Thread Cert.AdamLruConvIdeal.nD Cert.AdamLruConvIdeal.τ).loc Cert.AdamLruConvIdeal.main_v0_1) = v1 c
          ∧ r.2.mem ((c.tc : Thread Cert.AdamLruConvIdeal.nD Cert.AdamLruConvIdeal.τ).loc Cert.AdamLruConvIdeal.main_v0_2) = v2 c
          ∧ r.2.mem ((c.tc : Thread Cert.AdamLruConvIdeal.nD Cert.AdamLruConvIdeal.τ).loc Cert.AdamLruConvIdeal.main_v0_3) = v3 c
          ∧ r.2.mem ((c.tc : Thread Cert.AdamLruConvIdeal.nD Cert.AdamLruConvIdeal.τ).loc Cert.AdamLruConvIdeal.main_arg0) = m ((c.tc : Thread Cert.AdamLruConvIdeal.nD Cert.AdamLruConvIdeal.τ).loc Cert.AdamLruConvIdeal.main_arg0)
          ∧ r.2.mem ((c.tc : Thread Cert.AdamLruConvIdeal.nD Cert.AdamLruConvIdeal.τ).loc Cert.AdamLruConvIdeal.main_arg1) = m ((c.tc : Thread Cert.AdamLruConvIdeal.nD Cert.AdamLruConvIdeal.τ).loc Cert.AdamLruConvIdeal.main_arg1)
          ∧ r.2.mem ((c.tc : Thread Cert.AdamLruConvIdeal.nD Cert.AdamLruConvIdeal.τ).loc Cert.AdamLruConvIdeal.main_arg2) = m ((c.tc : Thread Cert.AdamLruConvIdeal.nD Cert.AdamLruConvIdeal.τ).loc Cert.AdamLruConvIdeal.main_arg2)
          ∧ r.2.mem ((c.tc : Thread Cert.AdamLruConvIdeal.nD Cert.AdamLruConvIdeal.τ).loc Cert.AdamLruConvIdeal.main_arg3) = m ((c.tc : Thread Cert.AdamLruConvIdeal.nD Cert.AdamLruConvIdeal.τ).loc Cert.AdamLruConvIdeal.main_arg3))
      ∧ θ_run (Cert.AdamLruConvRefIdeal.defs (F := Ideal)) (onTc (τ := Cert.AdamLruConvRefIdeal.τ) (Cert.AdamLruConvRefIdeal.main (F := Ideal))) ⟨m', fun _ => 0, g'⟩ (fun r => ∀ c : Dev Cert.AdamLruConvRefIdeal.nD,
          r.2.mem ((c.tc : Thread Cert.AdamLruConvRefIdeal.nD Cert.AdamLruConvRefIdeal.τ).loc Cert.AdamLruConvRefIdeal.main_v0) = v0 c
          ∧ r.2.mem ((c.tc : Thread Cert.AdamLruConvRefIdeal.nD Cert.AdamLruConvRefIdeal.τ).loc Cert.AdamLruConvRefIdeal.main_v24) = v1 c
          ∧ r.2.mem ((c.tc : Thread Cert.AdamLruConvRefIdeal.nD Cert.AdamLruConvRefIdeal.τ).loc Cert.AdamLruConvRefIdeal.main_v5) = v2 c
          ∧ r.2.mem ((c.tc : Thread Cert.AdamLruConvRefIdeal.nD Cert.AdamLruConvRefIdeal.τ).loc Cert.AdamLruConvRefIdeal.main_v11) = v3 c
          ∧ r.2.mem ((c.tc : Thread Cert.AdamLruConvRefIdeal.nD Cert.AdamLruConvRefIdeal.τ).loc Cert.AdamLruConvRefIdeal.main_arg0) = m' ((c.tc : Thread Cert.AdamLruConvRefIdeal.nD Cert.AdamLruConvRefIdeal.τ).loc Cert.AdamLruConvRefIdeal.main_arg0)
          ∧ r.2.mem ((c.tc : Thread Cert.AdamLruConvRefIdeal.nD Cert.AdamLruConvRefIdeal.τ).loc Cert.AdamLruConvRefIdeal.main_arg1) = m' ((c.tc : Thread Cert.AdamLruConvRefIdeal.nD Cert.AdamLruConvRefIdeal.τ).loc Cert.AdamLruConvRefIdeal.main_arg1)
          ∧ r.2.mem ((c.tc : Thread Cert.AdamLruConvRefIdeal.nD Cert.AdamLruConvRefIdeal.τ).loc Cert.AdamLruConvRefIdeal.main_arg2) = m' ((c.tc : Thread Cert.AdamLruConvRefIdeal.nD Cert.AdamLruConvRefIdeal.τ).loc Cert.AdamLruConvRefIdeal.main_arg2)
          ∧ r.2.mem ((c.tc : Thread Cert.AdamLruConvRefIdeal.nD Cert.AdamLruConvRefIdeal.τ).loc Cert.AdamLruConvRefIdeal.main_arg3) = m' ((c.tc : Thread Cert.AdamLruConvRefIdeal.nD Cert.AdamLruConvRefIdeal.τ).loc Cert.AdamLruConvRefIdeal.main_arg3))

def preserves_AdamSwaIn_AdamSwaInIdeal : Prop :=
  True

def algebraic_AdamSwaInIdeal_AdamSwaInRefIdeal [hAdamSwaInIdeal : Cert.AdamSwaInIdeal.Facts] [hAdamSwaInRefIdeal : Cert.AdamSwaInRefIdeal.Facts] : Prop :=
  ∀ (m : (ℓ : Loc Cert.AdamSwaInIdeal.nD Cert.AdamSwaInIdeal.τ Cert.AdamSwaInIdeal.sig) → Buf (Elt Ideal) ℓ) (g : Dev Cert.AdamSwaInIdeal.nD → PrngReg)
    (m' : (ℓ : Loc Cert.AdamSwaInRefIdeal.nD Cert.AdamSwaInRefIdeal.τ Cert.AdamSwaInRefIdeal.sig) → Buf (Elt Ideal) ℓ) (g' : Dev Cert.AdamSwaInRefIdeal.nD → PrngReg), Pre_AdamSwaInIdeal m →
    (∀ c : Dev Cert.AdamSwaInIdeal.nD,
      m' ((c.tc : Thread Cert.AdamSwaInRefIdeal.nD Cert.AdamSwaInRefIdeal.τ).loc Cert.AdamSwaInRefIdeal.main_arg0) = m ((c.tc : Thread Cert.AdamSwaInIdeal.nD Cert.AdamSwaInIdeal.τ).loc Cert.AdamSwaInIdeal.main_arg0)
      ∧ m' ((c.tc : Thread Cert.AdamSwaInRefIdeal.nD Cert.AdamSwaInRefIdeal.τ).loc Cert.AdamSwaInRefIdeal.main_arg1) = m ((c.tc : Thread Cert.AdamSwaInIdeal.nD Cert.AdamSwaInIdeal.τ).loc Cert.AdamSwaInIdeal.main_arg1)
      ∧ m' ((c.tc : Thread Cert.AdamSwaInRefIdeal.nD Cert.AdamSwaInRefIdeal.τ).loc Cert.AdamSwaInRefIdeal.main_arg2) = m ((c.tc : Thread Cert.AdamSwaInIdeal.nD Cert.AdamSwaInIdeal.τ).loc Cert.AdamSwaInIdeal.main_arg2)
      ∧ m' ((c.tc : Thread Cert.AdamSwaInRefIdeal.nD Cert.AdamSwaInRefIdeal.τ).loc Cert.AdamSwaInRefIdeal.main_arg3) = m ((c.tc : Thread Cert.AdamSwaInIdeal.nD Cert.AdamSwaInIdeal.τ).loc Cert.AdamSwaInIdeal.main_arg3)) →
    ∃ (v0 : (c : Dev Cert.AdamSwaInIdeal.nD) → Buf (Elt Ideal) ((c.tc : Thread Cert.AdamSwaInIdeal.nD Cert.AdamSwaInIdeal.τ).loc Cert.AdamSwaInIdeal.main_v3_0)) (v1 : (c : Dev Cert.AdamSwaInIdeal.nD) → Buf (Elt Ideal) ((c.tc : Thread Cert.AdamSwaInIdeal.nD Cert.AdamSwaInIdeal.τ).loc Cert.AdamSwaInIdeal.main_v3_1)) (v2 : (c : Dev Cert.AdamSwaInIdeal.nD) → Buf (Elt Ideal) ((c.tc : Thread Cert.AdamSwaInIdeal.nD Cert.AdamSwaInIdeal.τ).loc Cert.AdamSwaInIdeal.main_v3_2)) (v3 : (c : Dev Cert.AdamSwaInIdeal.nD) → Buf (Elt Ideal) ((c.tc : Thread Cert.AdamSwaInIdeal.nD Cert.AdamSwaInIdeal.τ).loc Cert.AdamSwaInIdeal.main_v3_3)),
      θ_run (Cert.AdamSwaInIdeal.defs (F := Ideal)) (onTc (τ := Cert.AdamSwaInIdeal.τ) (Cert.AdamSwaInIdeal.main (F := Ideal))) ⟨m, fun _ => 0, g⟩ (fun r => ∀ c : Dev Cert.AdamSwaInIdeal.nD,
          r.2.mem ((c.tc : Thread Cert.AdamSwaInIdeal.nD Cert.AdamSwaInIdeal.τ).loc Cert.AdamSwaInIdeal.main_v3_0) = v0 c
          ∧ r.2.mem ((c.tc : Thread Cert.AdamSwaInIdeal.nD Cert.AdamSwaInIdeal.τ).loc Cert.AdamSwaInIdeal.main_v3_1) = v1 c
          ∧ r.2.mem ((c.tc : Thread Cert.AdamSwaInIdeal.nD Cert.AdamSwaInIdeal.τ).loc Cert.AdamSwaInIdeal.main_v3_2) = v2 c
          ∧ r.2.mem ((c.tc : Thread Cert.AdamSwaInIdeal.nD Cert.AdamSwaInIdeal.τ).loc Cert.AdamSwaInIdeal.main_v3_3) = v3 c
          ∧ r.2.mem ((c.tc : Thread Cert.AdamSwaInIdeal.nD Cert.AdamSwaInIdeal.τ).loc Cert.AdamSwaInIdeal.main_arg0) = m ((c.tc : Thread Cert.AdamSwaInIdeal.nD Cert.AdamSwaInIdeal.τ).loc Cert.AdamSwaInIdeal.main_arg0)
          ∧ r.2.mem ((c.tc : Thread Cert.AdamSwaInIdeal.nD Cert.AdamSwaInIdeal.τ).loc Cert.AdamSwaInIdeal.main_arg1) = m ((c.tc : Thread Cert.AdamSwaInIdeal.nD Cert.AdamSwaInIdeal.τ).loc Cert.AdamSwaInIdeal.main_arg1)
          ∧ r.2.mem ((c.tc : Thread Cert.AdamSwaInIdeal.nD Cert.AdamSwaInIdeal.τ).loc Cert.AdamSwaInIdeal.main_arg2) = m ((c.tc : Thread Cert.AdamSwaInIdeal.nD Cert.AdamSwaInIdeal.τ).loc Cert.AdamSwaInIdeal.main_arg2)
          ∧ r.2.mem ((c.tc : Thread Cert.AdamSwaInIdeal.nD Cert.AdamSwaInIdeal.τ).loc Cert.AdamSwaInIdeal.main_arg3) = m ((c.tc : Thread Cert.AdamSwaInIdeal.nD Cert.AdamSwaInIdeal.τ).loc Cert.AdamSwaInIdeal.main_arg3))
      ∧ θ_run (Cert.AdamSwaInRefIdeal.defs (F := Ideal)) (onTc (τ := Cert.AdamSwaInRefIdeal.τ) (Cert.AdamSwaInRefIdeal.main (F := Ideal))) ⟨m', fun _ => 0, g'⟩ (fun r => ∀ c : Dev Cert.AdamSwaInRefIdeal.nD,
          r.2.mem ((c.tc : Thread Cert.AdamSwaInRefIdeal.nD Cert.AdamSwaInRefIdeal.τ).loc Cert.AdamSwaInRefIdeal.main_v27) = v0 c
          ∧ r.2.mem ((c.tc : Thread Cert.AdamSwaInRefIdeal.nD Cert.AdamSwaInRefIdeal.τ).loc Cert.AdamSwaInRefIdeal.main_v28) = v1 c
          ∧ r.2.mem ((c.tc : Thread Cert.AdamSwaInRefIdeal.nD Cert.AdamSwaInRefIdeal.τ).loc Cert.AdamSwaInRefIdeal.main_v29) = v2 c
          ∧ r.2.mem ((c.tc : Thread Cert.AdamSwaInRefIdeal.nD Cert.AdamSwaInRefIdeal.τ).loc Cert.AdamSwaInRefIdeal.main_v30) = v3 c
          ∧ r.2.mem ((c.tc : Thread Cert.AdamSwaInRefIdeal.nD Cert.AdamSwaInRefIdeal.τ).loc Cert.AdamSwaInRefIdeal.main_arg0) = m' ((c.tc : Thread Cert.AdamSwaInRefIdeal.nD Cert.AdamSwaInRefIdeal.τ).loc Cert.AdamSwaInRefIdeal.main_arg0)
          ∧ r.2.mem ((c.tc : Thread Cert.AdamSwaInRefIdeal.nD Cert.AdamSwaInRefIdeal.τ).loc Cert.AdamSwaInRefIdeal.main_arg1) = m' ((c.tc : Thread Cert.AdamSwaInRefIdeal.nD Cert.AdamSwaInRefIdeal.τ).loc Cert.AdamSwaInRefIdeal.main_arg1)
          ∧ r.2.mem ((c.tc : Thread Cert.AdamSwaInRefIdeal.nD Cert.AdamSwaInRefIdeal.τ).loc Cert.AdamSwaInRefIdeal.main_arg2) = m' ((c.tc : Thread Cert.AdamSwaInRefIdeal.nD Cert.AdamSwaInRefIdeal.τ).loc Cert.AdamSwaInRefIdeal.main_arg2)
          ∧ r.2.mem ((c.tc : Thread Cert.AdamSwaInRefIdeal.nD Cert.AdamSwaInRefIdeal.τ).loc Cert.AdamSwaInRefIdeal.main_arg3) = m' ((c.tc : Thread Cert.AdamSwaInRefIdeal.nD Cert.AdamSwaInRefIdeal.τ).loc Cert.AdamSwaInRefIdeal.main_arg3))

def preserves_AdamRep_AdamRepIdeal : Prop :=
  True

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)) (v3 : (c : Dev Cert.AdamRepIdeal.nD) → Buf (Elt Ideal) ((c.tc : Thread Cert.AdamRepIdeal.nD Cert.AdamRepIdeal.τ).loc Cert.AdamRepIdeal.main_v0_3)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_v0_3) = v3 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v0) = v0 c
          ∧ r.2.mem ((c.tc : Thread Cert.AdamRepRefIdeal.nD Cert.AdamRepRefIdeal.τ).loc Cert.AdamRepRefIdeal.main_v24) = v1 c
          ∧ r.2.mem ((c.tc : Thread Cert.AdamRepRefIdeal.nD Cert.AdamRepRefIdeal.τ).loc Cert.AdamRepRefIdeal.main_v5) = v2 c
          ∧ r.2.mem ((c.tc : Thread Cert.AdamRepRefIdeal.nD Cert.AdamRepRefIdeal.τ).loc Cert.AdamRepRefIdeal.main_v11) = v3 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_NormMemFwd_NormMemFwdIdeal : Prop :=
  True

def algebraic_NormMemFwdIdeal_NormMemFwdRefIdeal [hNormMemFwdIdeal : Cert.NormMemFwdIdeal.Facts] [hNormMemFwdRefIdeal : Cert.NormMemFwdRefIdeal.Facts] : Prop :=
  ∀ (m : (ℓ : Loc Cert.NormMemFwdIdeal.nD Cert.NormMemFwdIdeal.τ Cert.NormMemFwdIdeal.sig) → Buf (Elt Ideal) ℓ) (g : Dev Cert.NormMemFwdIdeal.nD → PrngReg)
    (m' : (ℓ : Loc Cert.NormMemFwdRefIdeal.nD Cert.NormMemFwdRefIdeal.τ Cert.NormMemFwdRefIdeal.sig) → Buf (Elt Ideal) ℓ) (g' : Dev Cert.NormMemFwdRefIdeal.nD → PrngReg), Pre_NormMemFwdIdeal m →
    (∀ c : Dev Cert.NormMemFwdIdeal.nD,
      m' ((c.tc : Thread Cert.NormMemFwdRefIdeal.nD Cert.NormMemFwdRefIdeal.τ).loc Cert.NormMemFwdRefIdeal.main_arg0) = m ((c.tc : Thread Cert.NormMemFwdIdeal.nD Cert.NormMemFwdIdeal.τ).loc Cert.NormMemFwdIdeal.main_arg0)
      ∧ m' ((c.tc : Thread Cert.NormMemFwdRefIdeal.nD Cert.NormMemFwdRefIdeal.τ).loc Cert.NormMemFwdRefIdeal.main_arg1) = m ((c.tc : Thread Cert.NormMemFwdIdeal.nD Cert.NormMemFwdIdeal.τ).loc Cert.NormMemFwdIdeal.main_arg1)) →
    ∃ (v0 : (c : Dev Cert.NormMemFwdIdeal.nD) → Buf (Elt Ideal) ((c.tc : Thread Cert.NormMemFwdIdeal.nD Cert.NormMemFwdIdeal.τ).loc Cert.NormMemFwdIdeal.main_v0)),
      θ_run (Cert.NormMemFwdIdeal.defs (F := Ideal)) (onTc (τ := Cert.NormMemFwdIdeal.τ) (Cert.NormMemFwdIdeal.main (F := Ideal))) ⟨m, fun _ => 0, g⟩ (fun r => ∀ c : Dev Cert.NormMemFwdIdeal.nD,
          r.2.mem ((c.tc : Thread Cert.NormMemFwdIdeal.nD Cert.NormMemFwdIdeal.τ).loc Cert.NormMemFwdIdeal.main_v0) = v0 c
          ∧ r.2.mem ((c.tc : Thread Cert.NormMemFwdIdeal.nD Cert.NormMemFwdIdeal.τ).loc Cert.NormMemFwdIdeal.main_arg0) = m ((c.tc : Thread Cert.NormMemFwdIdeal.nD Cert.NormMemFwdIdeal.τ).loc Cert.NormMemFwdIdeal.main_arg0)
          ∧ r.2.mem ((c.tc : Thread Cert.NormMemFwdIdeal.nD Cert.NormMemFwdIdeal.τ).loc Cert.NormMemFwdIdeal.main_arg1) = m ((c.tc : Thread Cert.NormMemFwdIdeal.nD Cert.NormMemFwdIdeal.τ).loc Cert.NormMemFwdIdeal.main_arg1))
      ∧ θ_run (Cert.NormMemFwdRefIdeal.defs (F := Ideal)) (onTc (τ := Cert.NormMemFwdRefIdeal.τ) (Cert.NormMemFwdRefIdeal.main (F := Ideal))) ⟨m', fun _ => 0, g'⟩ (fun r => ∀ c : Dev Cert.NormMemFwdRefIdeal.nD,
          r.2.mem ((c.tc : Thread Cert.NormMemFwdRefIdeal.nD Cert.NormMemFwdRefIdeal.τ).loc Cert.NormMemFwdRefIdeal.main_v12) = v0 c
          ∧ r.2.mem ((c.tc : Thread Cert.NormMemFwdRefIdeal.nD Cert.NormMemFwdRefIdeal.τ).loc Cert.NormMemFwdRefIdeal.main_arg0) = m' ((c.tc : Thread Cert.NormMemFwdRefIdeal.nD Cert.NormMemFwdRefIdeal.τ).loc Cert.NormMemFwdRefIdeal.main_arg0)
          ∧ r.2.mem ((c.tc : Thread Cert.NormMemFwdRefIdeal.nD Cert.NormMemFwdRefIdeal.τ).loc Cert.NormMemFwdRefIdeal.main_arg1) = m' ((c.tc : Thread Cert.NormMemFwdRefIdeal.nD Cert.NormMemFwdRefIdeal.τ).loc Cert.NormMemFwdRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v17) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_NormMemBwd_NormMemBwdIdeal : Prop :=
  True

def algebraic_NormMemBwdIdeal_NormMemBwdRefIdeal [hNormMemBwdIdeal : Cert.NormMemBwdIdeal.Facts] [hNormMemBwdRefIdeal : Cert.NormMemBwdRefIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg)
    (m' : (ℓ : Loc Cert.NormMemBwdRefIdeal.nD Cert.NormMemBwdRefIdeal.τ Cert.NormMemBwdRefIdeal.sig) → Buf (Elt Ideal) ℓ) (g' : Dev Cert.NormMemBwdRefIdeal.nD → PrngReg), Pre_NormMemBwdIdeal m →
    (∀ c : Dev Cert.NormMemBwdIdeal.nD,
      m' ((c.tc : Thread Cert.NormMemBwdRefIdeal.nD Cert.NormMemBwdRefIdeal.τ).loc Cert.NormMemBwdRefIdeal.main_arg0) = m ((c.tc : Thread Cert.NormMemBwdIdeal.nD Cert.NormMemBwdIdeal.τ).loc Cert.NormMemBwdIdeal.main_arg0)
      ∧ m' ((c.tc : Thread Cert.NormMemBwdRefIdeal.nD Cert.NormMemBwdRefIdeal.τ).loc Cert.NormMemBwdRefIdeal.main_arg1) = m ((c.tc : Thread Cert.NormMemBwdIdeal.nD Cert.NormMemBwdIdeal.τ).loc Cert.NormMemBwdIdeal.main_arg1)
      ∧ m' ((c.tc : Thread Cert.NormMemBwdRefIdeal.nD Cert.NormMemBwdRefIdeal.τ).loc Cert.NormMemBwdRefIdeal.main_arg2) = m ((c.tc : Thread Cert.NormMemBwdIdeal.nD Cert.NormMemBwdIdeal.τ).loc Cert.NormMemBwdIdeal.main_arg2)) →
    ∃ (v0 : (c : Dev Cert.NormMemBwdIdeal.nD) → Buf (Elt Ideal) ((c.tc : Thread Cert.NormMemBwdIdeal.nD Cert.NormMemBwdIdeal.τ).loc Cert.NormMemBwdIdeal.main_v0)),
      θ_run (Cert.NormMemBwdIdeal.defs (F := Ideal)) (onTc (τ := Cert.NormMemBwdIdeal.τ) (Cert.NormMemBwdIdeal.main (F := Ideal))) ⟨m, fun _ => 0, g⟩ (fun r => ∀ c : Dev Cert.NormMemBwdIdeal.nD,
          r.2.mem ((c.tc : Thread Cert.NormMemBwdIdeal.nD Cert.NormMemBwdIdeal.τ).loc Cert.NormMemBwdIdeal.main_v0) = v0 c
          ∧ r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
          ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
          ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ θ_run (Cert.NormMemBwdRefIdeal.defs (F := Ideal)) (onTc (τ := Cert.NormMemBwdRefIdeal.τ) (Cert.NormMemBwdRefIdeal.main (F := Ideal))) ⟨m', fun _ => 0, g'⟩ (fun r => ∀ c : Dev Cert.NormMemBwdRefIdeal.nD,
          r.2.mem ((c.tc : Thread Cert.NormMemBwdRefIdeal.nD Cert.NormMemBwdRefIdeal.τ).loc Cert.NormMemBwdRefIdeal.main_v17) = v0 c
          ∧ r.2.mem ((c.tc : Thread Cert.NormMemBwdRefIdeal.nD Cert.NormMemBwdRefIdeal.τ).loc Cert.NormMemBwdRefIdeal.main_arg0) = m' ((c.tc : Thread Cert.NormMemBwdRefIdeal.nD Cert.NormMemBwdRefIdeal.τ).loc Cert.NormMemBwdRefIdeal.main_arg0)
          ∧ r.2.mem ((c.tc : Thread Cert.NormMemBwdRefIdeal.nD Cert.NormMemBwdRefIdeal.τ).loc Cert.NormMemBwdRefIdeal.main_arg1) = m' ((c.tc : Thread Cert.NormMemBwdRefIdeal.nD Cert.NormMemBwdRefIdeal.τ).loc Cert.NormMemBwdRefIdeal.main_arg1)
          ∧ r.2.mem ((c.tc : Thread Cert.NormMemBwdRefIdeal.nD Cert.NormMemBwdRefIdeal.τ).loc Cert.NormMemBwdRefIdeal.main_arg2) = m' ((c.tc : Thread Cert.NormMemBwdRefIdeal.nD Cert.NormMemBwdRefIdeal.τ).loc Cert.NormMemBwdRefIdeal.main_arg2))

def preserves_LossGrad_LossGradIdeal : Prop :=
  True

def algebraic_LossGradIdeal_LossGradRefIdeal [hLossGradIdeal : Cert.LossGradIdeal.Facts] [hLossGradRefIdeal : Cert.LossGradRefIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v0_1)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v0_1) = v1 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v14) = v0 c
          ∧ r.2.mem ((c.tc : Thread Cert.LossGradRefIdeal.nD Cert.LossGradRefIdeal.τ).loc Cert.LossGradRefIdeal.main_v15) = v1 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1))

def preserves_XattnFwd_XattnFwdIdeal : Prop :=
  True

def algebraic_XattnFwdIdeal_XattnFwdRefIdeal [hXattnFwdIdeal : Cert.XattnFwdIdeal.Facts] [hXattnFwdRefIdeal : Cert.XattnFwdRefIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.XattnFwdRefIdeal.nD Cert.XattnFwdRefIdeal.τ Cert.XattnFwdRefIdeal.sig) → Buf (Elt Ideal) ℓ) (g' : Dev Cert.XattnFwdRefIdeal.nD → PrngReg), Pre_XattnFwdIdeal m →
    (∀ c : Dev Cert.XattnFwdIdeal.nD,
      m' ((c.tc : Thread Cert.XattnFwdRefIdeal.nD Cert.XattnFwdRefIdeal.τ).loc Cert.XattnFwdRefIdeal.main_arg0) = m ((c.tc : Thread Cert.XattnFwdIdeal.nD Cert.XattnFwdIdeal.τ).loc Cert.XattnFwdIdeal.main_arg0)
      ∧ m' ((c.tc : Thread Cert.XattnFwdRefIdeal.nD Cert.XattnFwdRefIdeal.τ).loc Cert.XattnFwdRefIdeal.main_arg1) = m ((c.tc : Thread Cert.XattnFwdIdeal.nD Cert.XattnFwdIdeal.τ).loc Cert.XattnFwdIdeal.main_arg1)
      ∧ m' ((c.tc : Thread Cert.XattnFwdRefIdeal.nD Cert.XattnFwdRefIdeal.τ).loc Cert.XattnFwdRefIdeal.main_arg2) = m ((c.tc : Thread Cert.XattnFwdIdeal.nD Cert.XattnFwdIdeal.τ).loc Cert.XattnFwdIdeal.main_arg2)
      ∧ m' ((c.tc : Thread Cert.XattnFwdRefIdeal.nD Cert.XattnFwdRefIdeal.τ).loc Cert.XattnFwdRefIdeal.main_arg3) = m ((c.tc : Thread Cert.XattnFwdIdeal.nD Cert.XattnFwdIdeal.τ).loc Cert.XattnFwdIdeal.main_arg3)) →
    ∃ (v0 : (c : Dev Cert.XattnFwdIdeal.nD) → Buf (Elt Ideal) ((c.tc : Thread Cert.XattnFwdIdeal.nD Cert.XattnFwdIdeal.τ).loc Cert.XattnFwdIdeal.main_v0)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v0) = v0 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1)
          ∧ r.2.mem ((c.tc : Thread Cert.XattnFwdIdeal.nD Cert.XattnFwdIdeal.τ).loc Cert.XattnFwdIdeal.main_arg2) = m ((c.tc : Thread Cert.XattnFwdIdeal.nD Cert.XattnFwdIdeal.τ).loc Cert.XattnFwdIdeal.main_arg2)
          ∧ r.2.mem ((c.tc : Thread Cert.XattnFwdIdeal.nD Cert.XattnFwdIdeal.τ).loc Cert.XattnFwdIdeal.main_arg3) = m ((c.tc : Thread Cert.XattnFwdIdeal.nD Cert.XattnFwdIdeal.τ).loc Cert.XattnFwdIdeal.main_arg3))
      ∧ θ_run (Cert.XattnFwdRefIdeal.defs (F := Ideal)) (onTc (τ := Cert.XattnFwdRefIdeal.τ) (Cert.XattnFwdRefIdeal.main (F := Ideal))) ⟨m', fun _ => 0, g'⟩ (fun r => ∀ c : Dev Cert.XattnFwdRefIdeal.nD,
          r.2.mem ((c.tc : Thread Cert.XattnFwdRefIdeal.nD Cert.XattnFwdRefIdeal.τ).loc Cert.XattnFwdRefIdeal.main_v48) = v0 c
          ∧ r.2.mem ((c.tc : Thread Cert.XattnFwdRefIdeal.nD Cert.XattnFwdRefIdeal.τ).loc Cert.XattnFwdRefIdeal.main_arg0) = m' ((c.tc : Thread Cert.XattnFwdRefIdeal.nD Cert.XattnFwdRefIdeal.τ).loc Cert.XattnFwdRefIdeal.main_arg0)
          ∧ r.2.mem ((c.tc : Thread Cert.XattnFwdRefIdeal.nD Cert.XattnFwdRefIdeal.τ).loc Cert.XattnFwdRefIdeal.main_arg1) = m' ((c.tc : Thread Cert.XattnFwdRefIdeal.nD Cert.XattnFwdRefIdeal.τ).loc Cert.XattnFwdRefIdeal.main_arg1)
          ∧ r.2.mem ((c.tc : Thread Cert.XattnFwdRefIdeal.nD Cert.XattnFwdRefIdeal.τ).loc Cert.XattnFwdRefIdeal.main_arg2) = m' ((c.tc : Thread Cert.XattnFwdRefIdeal.nD Cert.XattnFwdRefIdeal.τ).loc Cert.XattnFwdRefIdeal.main_arg2)
          ∧ r.2.mem ((c.tc : Thread Cert.XattnFwdRefIdeal.nD Cert.XattnFwdRefIdeal.τ).loc Cert.XattnFwdRefIdeal.main_arg3) = m' ((c.tc : Thread Cert.XattnFwdRefIdeal.nD Cert.XattnFwdRefIdeal.τ).loc Cert.XattnFwdRefIdeal.main_arg3))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v0)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v29) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def preserves_FfnBwd_FfnBwdIdeal : Prop :=
  True

def algebraic_FfnBwdIdeal_FfnBwdRefIdeal [hFfnBwdIdeal : Cert.FfnBwdIdeal.Facts] [hFfnBwdRefIdeal : Cert.FfnBwdRefIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)) (v2 : (c : Dev Cert.FfnBwdIdeal.nD) → Buf (Elt Ideal) ((c.tc : Thread Cert.FfnBwdIdeal.nD Cert.FfnBwdIdeal.τ).loc Cert.FfnBwdIdeal.main_v0_2)) (v3 : (c : Dev Cert.FfnBwdIdeal.nD) → Buf (Elt Ideal) ((c.tc : Thread Cert.FfnBwdIdeal.nD Cert.FfnBwdIdeal.τ).loc Cert.FfnBwdIdeal.main_v0_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_v0_2) = v2 c
          ∧ r.2.mem ((c.tc : Thread Cert.FfnBwdIdeal.nD Cert.FfnBwdIdeal.τ).loc Cert.FfnBwdIdeal.main_v0_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v70) = v0 c
          ∧ r.2.mem ((c.tc : Thread Cert.FfnBwdRefIdeal.nD Cert.FfnBwdRefIdeal.τ).loc Cert.FfnBwdRefIdeal.main_v71) = v1 c
          ∧ r.2.mem ((c.tc : Thread Cert.FfnBwdRefIdeal.nD Cert.FfnBwdRefIdeal.τ).loc Cert.FfnBwdRefIdeal.main_v69) = v2 c
          ∧ r.2.mem ((c.tc : Thread Cert.FfnBwdRefIdeal.nD Cert.FfnBwdRefIdeal.τ).loc Cert.FfnBwdRefIdeal.main_v35) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3))

def preserves_RopeTables_RopeTablesIdeal : Prop :=
  True

def algebraic_RopeTablesIdeal_RopeTablesRefIdeal [hRopeTablesIdeal : Cert.RopeTablesIdeal.Facts] [hRopeTablesRefIdeal : Cert.RopeTablesRefIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg)
    (m' : (ℓ : Loc Cert.RopeTablesRefIdeal.nD Cert.RopeTablesRefIdeal.τ Cert.RopeTablesRefIdeal.sig) → Buf (Elt Ideal) ℓ) (g' : Dev Cert.RopeTablesRefIdeal.nD → PrngReg), Pre_RopeTablesIdeal m →
    (∀ c : Dev Cert.RopeTablesIdeal.nD,
      m' ((c.tc : Thread Cert.RopeTablesRefIdeal.nD Cert.RopeTablesRefIdeal.τ).loc Cert.RopeTablesRefIdeal.main_arg0) = m ((c.tc : Thread Cert.RopeTablesIdeal.nD Cert.RopeTablesIdeal.τ).loc Cert.RopeTablesIdeal.main_arg0)) →
    ∃ (v0 : (c : Dev Cert.RopeTablesIdeal.nD) → Buf (Elt Ideal) ((c.tc : Thread Cert.RopeTablesIdeal.nD Cert.RopeTablesIdeal.τ).loc Cert.RopeTablesIdeal.main_v15_0)) (v1 : (c : Dev Cert.RopeTablesIdeal.nD) → Buf (Elt Ideal) ((c.tc : Thread Cert.RopeTablesIdeal.nD Cert.RopeTablesIdeal.τ).loc Cert.RopeTablesIdeal.main_v15_1)),
      θ_run (Cert.RopeTablesIdeal.defs (F := Ideal)) (onTc (τ := Cert.RopeTablesIdeal.τ) (Cert.RopeTablesIdeal.main (F := Ideal))) ⟨m, fun _ => 0, g⟩ (fun r => ∀ c : Dev Cert.RopeTablesIdeal.nD,
          r.2.mem ((c.tc : Thread Cert.RopeTablesIdeal.nD Cert.RopeTablesIdeal.τ).loc Cert.RopeTablesIdeal.main_v15_0) = v0 c
          ∧ r.2.mem ((c.tc : Thread Cert.RopeTablesIdeal.nD Cert.RopeTablesIdeal.τ).loc Cert.RopeTablesIdeal.main_v15_1) = v1 c
          ∧ r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0))
      ∧ θ_run (Cert.RopeTablesRefIdeal.defs (F := Ideal)) (onTc (τ := Cert.RopeTablesRefIdeal.τ) (Cert.RopeTablesRefIdeal.main (F := Ideal))) ⟨m', fun _ => 0, g'⟩ (fun r => ∀ c : Dev Cert.RopeTablesRefIdeal.nD,
          r.2.mem ((c.tc : Thread Cert.RopeTablesRefIdeal.nD Cert.RopeTablesRefIdeal.τ).loc Cert.RopeTablesRefIdeal.main_v19) = v0 c
          ∧ r.2.mem ((c.tc : Thread Cert.RopeTablesRefIdeal.nD Cert.RopeTablesRefIdeal.τ).loc Cert.RopeTablesRefIdeal.main_v20) = v1 c
          ∧ r.2.mem ((c.tc : Thread Cert.RopeTablesRefIdeal.nD Cert.RopeTablesRefIdeal.τ).loc Cert.RopeTablesRefIdeal.main_arg0) = m' ((c.tc : Thread Cert.RopeTablesRefIdeal.nD Cert.RopeTablesRefIdeal.τ).loc Cert.RopeTablesRefIdeal.main_arg0))

def Claim : Prop :=
  ∃ (hXattn : Cert.Xattn.Facts) (hXattnIdeal : Cert.XattnIdeal.Facts) (hXattnRefIdeal : Cert.XattnRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hFfnOutDa : Cert.FfnOutDa.Facts) (hFfnOutDaIdeal : Cert.FfnOutDaIdeal.Facts) (hFfnOutDaRefIdeal : Cert.FfnOutDaRefIdeal.Facts) (hFfnOutDw : Cert.FfnOutDw.Facts) (hFfnOutDwIdeal : Cert.FfnOutDwIdeal.Facts) (hFfnOutDwRefIdeal : Cert.FfnOutDwRefIdeal.Facts) (hFfnInDhGate : Cert.FfnInDhGate.Facts) (hFfnInDhGateIdeal : Cert.FfnInDhGateIdeal.Facts) (hFfnInDhGateRefIdeal : Cert.FfnInDhGateRefIdeal.Facts) (hFfnInDhUp : Cert.FfnInDhUp.Facts) (hFfnInDhUpIdeal : Cert.FfnInDhUpIdeal.Facts) (hFfnInDhUpRefIdeal : Cert.FfnInDhUpRefIdeal.Facts) (hFfnInDw : Cert.FfnInDw.Facts) (hFfnInDwIdeal : Cert.FfnInDwIdeal.Facts) (hFfnInDwRefIdeal : Cert.FfnInDwRefIdeal.Facts) (hHybIn : Cert.HybIn.Facts) (hHybInIdeal : Cert.HybInIdeal.Facts) (hHybInRefIdeal : Cert.HybInRefIdeal.Facts) (hHybOut : Cert.HybOut.Facts) (hHybOutIdeal : Cert.HybOutIdeal.Facts) (hHybOutRefIdeal : Cert.HybOutRefIdeal.Facts) (hMixOutDm : Cert.MixOutDm.Facts) (hMixOutDmIdeal : Cert.MixOutDmIdeal.Facts) (hMixOutDmRefIdeal : Cert.MixOutDmRefIdeal.Facts) (hHybOutDw : Cert.HybOutDw.Facts) (hHybOutDwIdeal : Cert.HybOutDwIdeal.Facts) (hHybOutDwRefIdeal : Cert.HybOutDwRefIdeal.Facts) (hHybInDh : Cert.HybInDh.Facts) (hHybInDhIdeal : Cert.HybInDhIdeal.Facts) (hHybInDhRefIdeal : Cert.HybInDhRefIdeal.Facts) (hHybInDw : Cert.HybInDw.Facts) (hHybInDwIdeal : Cert.HybInDwIdeal.Facts) (hHybInDwRefIdeal : Cert.HybInDwRefIdeal.Facts) (hSwaIn : Cert.SwaIn.Facts) (hSwaInIdeal : Cert.SwaInIdeal.Facts) (hSwaInRefIdeal : Cert.SwaInRefIdeal.Facts) (hSwaOut : Cert.SwaOut.Facts) (hSwaOutIdeal : Cert.SwaOutIdeal.Facts) (hSwaOutRefIdeal : Cert.SwaOutRefIdeal.Facts) (hSwaOutDw : Cert.SwaOutDw.Facts) (hSwaOutDwIdeal : Cert.SwaOutDwIdeal.Facts) (hSwaOutDwRefIdeal : Cert.SwaOutDwRefIdeal.Facts) (hSwaInDh : Cert.SwaInDh.Facts) (hSwaInDhIdeal : Cert.SwaInDhIdeal.Facts) (hSwaInDhRefIdeal : Cert.SwaInDhRefIdeal.Facts) (hSwaInDw : Cert.SwaInDw.Facts) (hSwaInDwIdeal : Cert.SwaInDwIdeal.Facts) (hSwaInDwRefIdeal : Cert.SwaInDwRefIdeal.Facts) (hXqIn : Cert.XqIn.Facts) (hXqInIdeal : Cert.XqInIdeal.Facts) (hXqInRefIdeal : Cert.XqInRefIdeal.Facts) (hXoOut : Cert.XoOut.Facts) (hXoOutIdeal : Cert.XoOutIdeal.Facts) (hXoOutRefIdeal : Cert.XoOutRefIdeal.Facts) (hXoDo : Cert.XoDo.Facts) (hXoDoIdeal : Cert.XoDoIdeal.Facts) (hXoDoRefIdeal : Cert.XoDoRefIdeal.Facts) (hXoDw : Cert.XoDw.Facts) (hXoDwIdeal : Cert.XoDwIdeal.Facts) (hXoDwRefIdeal : Cert.XoDwRefIdeal.Facts) (hXqDh : Cert.XqDh.Facts) (hXqDhIdeal : Cert.XqDhIdeal.Facts) (hXqDhRefIdeal : Cert.XqDhRefIdeal.Facts) (hXqDw : Cert.XqDw.Facts) (hXqDwIdeal : Cert.XqDwIdeal.Facts) (hXqDwRefIdeal : Cert.XqDwRefIdeal.Facts) (hXkvIn : Cert.XkvIn.Facts) (hXkvInIdeal : Cert.XkvInIdeal.Facts) (hXkvInRefIdeal : Cert.XkvInRefIdeal.Facts) (hXkvDh : Cert.XkvDh.Facts) (hXkvDhIdeal : Cert.XkvDhIdeal.Facts) (hXkvDhRefIdeal : Cert.XkvDhRefIdeal.Facts) (hXkvDw : Cert.XkvDw.Facts) (hXkvDwIdeal : Cert.XkvDwIdeal.Facts) (hXkvDwRefIdeal : Cert.XkvDwRefIdeal.Facts) (hAdamXq : Cert.AdamXq.Facts) (hAdamXqIdeal : Cert.AdamXqIdeal.Facts) (hAdamXqRefIdeal : Cert.AdamXqRefIdeal.Facts) (hAdamXkv : Cert.AdamXkv.Facts) (hAdamXkvIdeal : Cert.AdamXkvIdeal.Facts) (hAdamXkvRefIdeal : Cert.AdamXkvRefIdeal.Facts) (hAdamXo : Cert.AdamXo.Facts) (hAdamXoIdeal : Cert.AdamXoIdeal.Facts) (hAdamXoRefIdeal : Cert.AdamXoRefIdeal.Facts) (hAdamFfnIn : Cert.AdamFfnIn.Facts) (hAdamFfnInIdeal : Cert.AdamFfnInIdeal.Facts) (hAdamFfnInRefIdeal : Cert.AdamFfnInRefIdeal.Facts) (hAdamFfnConv : Cert.AdamFfnConv.Facts) (hAdamFfnConvIdeal : Cert.AdamFfnConvIdeal.Facts) (hAdamFfnConvRefIdeal : Cert.AdamFfnConvRefIdeal.Facts) (hAdamFfnOut : Cert.AdamFfnOut.Facts) (hAdamFfnOutIdeal : Cert.AdamFfnOutIdeal.Facts) (hAdamFfnOutRefIdeal : Cert.AdamFfnOutRefIdeal.Facts) (hAdamHybIn : Cert.AdamHybIn.Facts) (hAdamHybInIdeal : Cert.AdamHybInIdeal.Facts) (hAdamHybInRefIdeal : Cert.AdamHybInRefIdeal.Facts) (hAdamMixOut : Cert.AdamMixOut.Facts) (hAdamMixOutIdeal : Cert.AdamMixOutIdeal.Facts) (hAdamMixOutRefIdeal : Cert.AdamMixOutRefIdeal.Facts) (hAdamGdnConv : Cert.AdamGdnConv.Facts) (hAdamGdnConvIdeal : Cert.AdamGdnConvIdeal.Facts) (hAdamGdnConvRefIdeal : Cert.AdamGdnConvRefIdeal.Facts) (hAdamLruConv : Cert.AdamLruConv.Facts) (hAdamLruConvIdeal : Cert.AdamLruConvIdeal.Facts) (hAdamLruConvRefIdeal : Cert.AdamLruConvRefIdeal.Facts) (hAdamSwaIn : Cert.AdamSwaIn.Facts) (hAdamSwaInIdeal : Cert.AdamSwaInIdeal.Facts) (hAdamSwaInRefIdeal : Cert.AdamSwaInRefIdeal.Facts) (hAdamRep : Cert.AdamRep.Facts) (hAdamRepIdeal : Cert.AdamRepIdeal.Facts) (hAdamRepRefIdeal : Cert.AdamRepRefIdeal.Facts) (hNormFwd : Cert.NormFwd.Facts) (hNormFwdIdeal : Cert.NormFwdIdeal.Facts) (hNormFwdRefIdeal : Cert.NormFwdRefIdeal.Facts) (hNormMemFwd : Cert.NormMemFwd.Facts) (hNormMemFwdIdeal : Cert.NormMemFwdIdeal.Facts) (hNormMemFwdRefIdeal : Cert.NormMemFwdRefIdeal.Facts) (hNormBwd : Cert.NormBwd.Facts) (hNormBwdIdeal : Cert.NormBwdIdeal.Facts) (hNormBwdRefIdeal : Cert.NormBwdRefIdeal.Facts) (hNormMemBwd : Cert.NormMemBwd.Facts) (hNormMemBwdIdeal : Cert.NormMemBwdIdeal.Facts) (hNormMemBwdRefIdeal : Cert.NormMemBwdRefIdeal.Facts) (hLossGrad : Cert.LossGrad.Facts) (hLossGradIdeal : Cert.LossGradIdeal.Facts) (hLossGradRefIdeal : Cert.LossGradRefIdeal.Facts) (hXattnFwd : Cert.XattnFwd.Facts) (hXattnFwdIdeal : Cert.XattnFwdIdeal.Facts) (hXattnFwdRefIdeal : Cert.XattnFwdRefIdeal.Facts) (hFfnFwd : Cert.FfnFwd.Facts) (hFfnFwdIdeal : Cert.FfnFwdIdeal.Facts) (hFfnFwdRefIdeal : Cert.FfnFwdRefIdeal.Facts) (hFfnBwd : Cert.FfnBwd.Facts) (hFfnBwdIdeal : Cert.FfnBwdIdeal.Facts) (hFfnBwdRefIdeal : Cert.FfnBwdRefIdeal.Facts) (hRopeTables : Cert.RopeTables.Facts) (hRopeTablesIdeal : Cert.RopeTablesIdeal.Facts) (hRopeTablesRefIdeal : Cert.RopeTablesRefIdeal.Facts) (hPre_finite_xattn : Cert.Pre_finite_xattn.Facts),
    quiescent_Xattn (hXattn := hXattn)
    ∧ quiescent_XattnIdeal (hXattnIdeal := hXattnIdeal)
    ∧ quiescent_XattnIdeal_pre_finite_xattn (hXattnIdeal := hXattnIdeal) (hPre_finite_xattn := hPre_finite_xattn)
    ∧ quiescent_XattnRefIdeal (hXattnRefIdeal := hXattnRefIdeal)
    ∧ quiescent_XattnRefIdeal_pre_finite_xattn (hXattnRefIdeal := hXattnRefIdeal) (hPre_finite_xattn := hPre_finite_xattn)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnOutDa (hFfnOutDa := hFfnOutDa)
    ∧ quiescent_FfnOutDaIdeal (hFfnOutDaIdeal := hFfnOutDaIdeal)
    ∧ quiescent_FfnOutDaRefIdeal (hFfnOutDaRefIdeal := hFfnOutDaRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnInDhGate (hFfnInDhGate := hFfnInDhGate)
    ∧ quiescent_FfnInDhGateIdeal (hFfnInDhGateIdeal := hFfnInDhGateIdeal)
    ∧ quiescent_FfnInDhGateRefIdeal (hFfnInDhGateRefIdeal := hFfnInDhGateRefIdeal)
    ∧ quiescent_FfnInDhUp (hFfnInDhUp := hFfnInDhUp)
    ∧ quiescent_FfnInDhUpIdeal (hFfnInDhUpIdeal := hFfnInDhUpIdeal)
    ∧ quiescent_FfnInDhUpRefIdeal (hFfnInDhUpRefIdeal := hFfnInDhUpRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_HybIn (hHybIn := hHybIn)
    ∧ quiescent_HybInIdeal (hHybInIdeal := hHybInIdeal)
    ∧ quiescent_HybInRefIdeal (hHybInRefIdeal := hHybInRefIdeal)
    ∧ quiescent_HybOut (hHybOut := hHybOut)
    ∧ quiescent_HybOutIdeal (hHybOutIdeal := hHybOutIdeal)
    ∧ quiescent_HybOutRefIdeal (hHybOutRefIdeal := hHybOutRefIdeal)
    ∧ quiescent_MixOutDm (hMixOutDm := hMixOutDm)
    ∧ quiescent_MixOutDmIdeal (hMixOutDmIdeal := hMixOutDmIdeal)
    ∧ quiescent_MixOutDmRefIdeal (hMixOutDmRefIdeal := hMixOutDmRefIdeal)
    ∧ quiescent_HybOutDw (hHybOutDw := hHybOutDw)
    ∧ quiescent_HybOutDwIdeal (hHybOutDwIdeal := hHybOutDwIdeal)
    ∧ quiescent_HybOutDwRefIdeal (hHybOutDwRefIdeal := hHybOutDwRefIdeal)
    ∧ quiescent_HybInDh (hHybInDh := hHybInDh)
    ∧ quiescent_HybInDhIdeal (hHybInDhIdeal := hHybInDhIdeal)
    ∧ quiescent_HybInDhRefIdeal (hHybInDhRefIdeal := hHybInDhRefIdeal)
    ∧ quiescent_HybInDw (hHybInDw := hHybInDw)
    ∧ quiescent_HybInDwIdeal (hHybInDwIdeal := hHybInDwIdeal)
    ∧ quiescent_HybInDwRefIdeal (hHybInDwRefIdeal := hHybInDwRefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ quiescent_SwaOut (hSwaOut := hSwaOut)
    ∧ quiescent_SwaOutIdeal (hSwaOutIdeal := hSwaOutIdeal)
    ∧ quiescent_SwaOutRefIdeal (hSwaOutRefIdeal := hSwaOutRefIdeal)
    ∧ quiescent_SwaOutDw (hSwaOutDw := hSwaOutDw)
    ∧ quiescent_SwaOutDwIdeal (hSwaOutDwIdeal := hSwaOutDwIdeal)
    ∧ quiescent_SwaOutDwRefIdeal (hSwaOutDwRefIdeal := hSwaOutDwRefIdeal)
    ∧ quiescent_SwaInDh (hSwaInDh := hSwaInDh)
    ∧ quiescent_SwaInDhIdeal (hSwaInDhIdeal := hSwaInDhIdeal)
    ∧ quiescent_SwaInDhRefIdeal (hSwaInDhRefIdeal := hSwaInDhRefIdeal)
    ∧ quiescent_SwaInDw (hSwaInDw := hSwaInDw)
    ∧ quiescent_SwaInDwIdeal (hSwaInDwIdeal := hSwaInDwIdeal)
    ∧ quiescent_SwaInDwRefIdeal (hSwaInDwRefIdeal := hSwaInDwRefIdeal)
    ∧ quiescent_XqIn (hXqIn := hXqIn)
    ∧ quiescent_XqInIdeal (hXqInIdeal := hXqInIdeal)
    ∧ quiescent_XqInRefIdeal (hXqInRefIdeal := hXqInRefIdeal)
    ∧ quiescent_XoOut (hXoOut := hXoOut)
    ∧ quiescent_XoOutIdeal (hXoOutIdeal := hXoOutIdeal)
    ∧ quiescent_XoOutRefIdeal (hXoOutRefIdeal := hXoOutRefIdeal)
    ∧ quiescent_XoDo (hXoDo := hXoDo)
    ∧ quiescent_XoDoIdeal (hXoDoIdeal := hXoDoIdeal)
    ∧ quiescent_XoDoRefIdeal (hXoDoRefIdeal := hXoDoRefIdeal)
    ∧ quiescent_XoDw (hXoDw := hXoDw)
    ∧ quiescent_XoDwIdeal (hXoDwIdeal := hXoDwIdeal)
    ∧ quiescent_XoDwRefIdeal (hXoDwRefIdeal := hXoDwRefIdeal)
    ∧ quiescent_XqDh (hXqDh := hXqDh)
    ∧ quiescent_XqDhIdeal (hXqDhIdeal := hXqDhIdeal)
    ∧ quiescent_XqDhRefIdeal (hXqDhRefIdeal := hXqDhRefIdeal)
    ∧ quiescent_XqDw (hXqDw := hXqDw)
    ∧ quiescent_XqDwIdeal (hXqDwIdeal := hXqDwIdeal)
    ∧ quiescent_XqDwRefIdeal (hXqDwRefIdeal := hXqDwRefIdeal)
    ∧ quiescent_XkvIn (hXkvIn := hXkvIn)
    ∧ quiescent_XkvInIdeal (hXkvInIdeal := hXkvInIdeal)
    ∧ quiescent_XkvInRefIdeal (hXkvInRefIdeal := hXkvInRefIdeal)
    ∧ quiescent_XkvDh (hXkvDh := hXkvDh)
    ∧ quiescent_XkvDhIdeal (hXkvDhIdeal := hXkvDhIdeal)
    ∧ quiescent_XkvDhRefIdeal (hXkvDhRefIdeal := hXkvDhRefIdeal)
    ∧ quiescent_XkvDw (hXkvDw := hXkvDw)
    ∧ quiescent_XkvDwIdeal (hXkvDwIdeal := hXkvDwIdeal)
    ∧ quiescent_XkvDwRefIdeal (hXkvDwRefIdeal := hXkvDwRefIdeal)
    ∧ quiescent_AdamXq (hAdamXq := hAdamXq)
    ∧ quiescent_AdamXqIdeal (hAdamXqIdeal := hAdamXqIdeal)
    ∧ quiescent_AdamXqRefIdeal (hAdamXqRefIdeal := hAdamXqRefIdeal)
    ∧ quiescent_AdamXkv (hAdamXkv := hAdamXkv)
    ∧ quiescent_AdamXkvIdeal (hAdamXkvIdeal := hAdamXkvIdeal)
    ∧ quiescent_AdamXkvRefIdeal (hAdamXkvRefIdeal := hAdamXkvRefIdeal)
    ∧ quiescent_AdamXo (hAdamXo := hAdamXo)
    ∧ quiescent_AdamXoIdeal (hAdamXoIdeal := hAdamXoIdeal)
    ∧ quiescent_AdamXoRefIdeal (hAdamXoRefIdeal := hAdamXoRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnConv (hAdamFfnConv := hAdamFfnConv)
    ∧ quiescent_AdamFfnConvIdeal (hAdamFfnConvIdeal := hAdamFfnConvIdeal)
    ∧ quiescent_AdamFfnConvRefIdeal (hAdamFfnConvRefIdeal := hAdamFfnConvRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamHybIn (hAdamHybIn := hAdamHybIn)
    ∧ quiescent_AdamHybInIdeal (hAdamHybInIdeal := hAdamHybInIdeal)
    ∧ quiescent_AdamHybInRefIdeal (hAdamHybInRefIdeal := hAdamHybInRefIdeal)
    ∧ quiescent_AdamMixOut (hAdamMixOut := hAdamMixOut)
    ∧ quiescent_AdamMixOutIdeal (hAdamMixOutIdeal := hAdamMixOutIdeal)
    ∧ quiescent_AdamMixOutRefIdeal (hAdamMixOutRefIdeal := hAdamMixOutRefIdeal)
    ∧ quiescent_AdamGdnConv (hAdamGdnConv := hAdamGdnConv)
    ∧ quiescent_AdamGdnConvIdeal (hAdamGdnConvIdeal := hAdamGdnConvIdeal)
    ∧ quiescent_AdamGdnConvRefIdeal (hAdamGdnConvRefIdeal := hAdamGdnConvRefIdeal)
    ∧ quiescent_AdamLruConv (hAdamLruConv := hAdamLruConv)
    ∧ quiescent_AdamLruConvIdeal (hAdamLruConvIdeal := hAdamLruConvIdeal)
    ∧ quiescent_AdamLruConvRefIdeal (hAdamLruConvRefIdeal := hAdamLruConvRefIdeal)
    ∧ quiescent_AdamSwaIn (hAdamSwaIn := hAdamSwaIn)
    ∧ quiescent_AdamSwaInIdeal (hAdamSwaInIdeal := hAdamSwaInIdeal)
    ∧ quiescent_AdamSwaInRefIdeal (hAdamSwaInRefIdeal := hAdamSwaInRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormMemFwd (hNormMemFwd := hNormMemFwd)
    ∧ quiescent_NormMemFwdIdeal (hNormMemFwdIdeal := hNormMemFwdIdeal)
    ∧ quiescent_NormMemFwdRefIdeal (hNormMemFwdRefIdeal := hNormMemFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormMemBwd (hNormMemBwd := hNormMemBwd)
    ∧ quiescent_NormMemBwdIdeal (hNormMemBwdIdeal := hNormMemBwdIdeal)
    ∧ quiescent_NormMemBwdRefIdeal (hNormMemBwdRefIdeal := hNormMemBwdRefIdeal)
    ∧ quiescent_LossGrad (hLossGrad := hLossGrad)
    ∧ quiescent_LossGradIdeal (hLossGradIdeal := hLossGradIdeal)
    ∧ quiescent_LossGradRefIdeal (hLossGradRefIdeal := hLossGradRefIdeal)
    ∧ quiescent_XattnFwd (hXattnFwd := hXattnFwd)
    ∧ quiescent_XattnFwdIdeal (hXattnFwdIdeal := hXattnFwdIdeal)
    ∧ quiescent_XattnFwdRefIdeal (hXattnFwdRefIdeal := hXattnFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnBwd (hFfnBwd := hFfnBwd)
    ∧ quiescent_FfnBwdIdeal (hFfnBwdIdeal := hFfnBwdIdeal)
    ∧ quiescent_FfnBwdRefIdeal (hFfnBwdRefIdeal := hFfnBwdRefIdeal)
    ∧ quiescent_RopeTables (hRopeTables := hRopeTables)
    ∧ quiescent_RopeTablesIdeal (hRopeTablesIdeal := hRopeTablesIdeal)
    ∧ quiescent_RopeTablesRefIdeal (hRopeTablesRefIdeal := hRopeTablesRefIdeal)
    ∧ preserves_Xattn_XattnIdeal
    ∧ algebraic_XattnIdeal_XattnRefIdeal_pre_finite_xattn (hXattnIdeal := hXattnIdeal) (hXattnRefIdeal := hXattnRefIdeal) (hPre_finite_xattn := hPre_finite_xattn)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnOutDa_FfnOutDaIdeal
    ∧ algebraic_FfnOutDaIdeal_FfnOutDaRefIdeal (hFfnOutDaIdeal := hFfnOutDaIdeal) (hFfnOutDaRefIdeal := hFfnOutDaRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnInDhGate_FfnInDhGateIdeal
    ∧ algebraic_FfnInDhGateIdeal_FfnInDhGateRefIdeal (hFfnInDhGateIdeal := hFfnInDhGateIdeal) (hFfnInDhGateRefIdeal := hFfnInDhGateRefIdeal)
    ∧ preserves_FfnInDhUp_FfnInDhUpIdeal
    ∧ algebraic_FfnInDhUpIdeal_FfnInDhUpRefIdeal (hFfnInDhUpIdeal := hFfnInDhUpIdeal) (hFfnInDhUpRefIdeal := hFfnInDhUpRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_HybIn_HybInIdeal
    ∧ algebraic_HybInIdeal_HybInRefIdeal (hHybInIdeal := hHybInIdeal) (hHybInRefIdeal := hHybInRefIdeal)
    ∧ preserves_HybOut_HybOutIdeal
    ∧ algebraic_HybOutIdeal_HybOutRefIdeal (hHybOutIdeal := hHybOutIdeal) (hHybOutRefIdeal := hHybOutRefIdeal)
    ∧ preserves_MixOutDm_MixOutDmIdeal
    ∧ algebraic_MixOutDmIdeal_MixOutDmRefIdeal (hMixOutDmIdeal := hMixOutDmIdeal) (hMixOutDmRefIdeal := hMixOutDmRefIdeal)
    ∧ preserves_HybOutDw_HybOutDwIdeal
    ∧ algebraic_HybOutDwIdeal_HybOutDwRefIdeal (hHybOutDwIdeal := hHybOutDwIdeal) (hHybOutDwRefIdeal := hHybOutDwRefIdeal)
    ∧ preserves_HybInDh_HybInDhIdeal
    ∧ algebraic_HybInDhIdeal_HybInDhRefIdeal (hHybInDhIdeal := hHybInDhIdeal) (hHybInDhRefIdeal := hHybInDhRefIdeal)
    ∧ preserves_HybInDw_HybInDwIdeal
    ∧ algebraic_HybInDwIdeal_HybInDwRefIdeal (hHybInDwIdeal := hHybInDwIdeal) (hHybInDwRefIdeal := hHybInDwRefIdeal)
    ∧ preserves_SwaIn_SwaInIdeal
    ∧ algebraic_SwaInIdeal_SwaInRefIdeal (hSwaInIdeal := hSwaInIdeal) (hSwaInRefIdeal := hSwaInRefIdeal)
    ∧ preserves_SwaOut_SwaOutIdeal
    ∧ algebraic_SwaOutIdeal_SwaOutRefIdeal (hSwaOutIdeal := hSwaOutIdeal) (hSwaOutRefIdeal := hSwaOutRefIdeal)
    ∧ preserves_SwaOutDw_SwaOutDwIdeal
    ∧ algebraic_SwaOutDwIdeal_SwaOutDwRefIdeal (hSwaOutDwIdeal := hSwaOutDwIdeal) (hSwaOutDwRefIdeal := hSwaOutDwRefIdeal)
    ∧ preserves_SwaInDh_SwaInDhIdeal
    ∧ algebraic_SwaInDhIdeal_SwaInDhRefIdeal (hSwaInDhIdeal := hSwaInDhIdeal) (hSwaInDhRefIdeal := hSwaInDhRefIdeal)
    ∧ preserves_SwaInDw_SwaInDwIdeal
    ∧ algebraic_SwaInDwIdeal_SwaInDwRefIdeal (hSwaInDwIdeal := hSwaInDwIdeal) (hSwaInDwRefIdeal := hSwaInDwRefIdeal)
    ∧ preserves_XqIn_XqInIdeal
    ∧ algebraic_XqInIdeal_XqInRefIdeal (hXqInIdeal := hXqInIdeal) (hXqInRefIdeal := hXqInRefIdeal)
    ∧ preserves_XoOut_XoOutIdeal
    ∧ algebraic_XoOutIdeal_XoOutRefIdeal (hXoOutIdeal := hXoOutIdeal) (hXoOutRefIdeal := hXoOutRefIdeal)
    ∧ preserves_XoDo_XoDoIdeal
    ∧ algebraic_XoDoIdeal_XoDoRefIdeal (hXoDoIdeal := hXoDoIdeal) (hXoDoRefIdeal := hXoDoRefIdeal)
    ∧ preserves_XoDw_XoDwIdeal
    ∧ algebraic_XoDwIdeal_XoDwRefIdeal (hXoDwIdeal := hXoDwIdeal) (hXoDwRefIdeal := hXoDwRefIdeal)
    ∧ preserves_XqDh_XqDhIdeal
    ∧ algebraic_XqDhIdeal_XqDhRefIdeal (hXqDhIdeal := hXqDhIdeal) (hXqDhRefIdeal := hXqDhRefIdeal)
    ∧ preserves_XqDw_XqDwIdeal
    ∧ algebraic_XqDwIdeal_XqDwRefIdeal (hXqDwIdeal := hXqDwIdeal) (hXqDwRefIdeal := hXqDwRefIdeal)
    ∧ preserves_XkvIn_XkvInIdeal
    ∧ algebraic_XkvInIdeal_XkvInRefIdeal (hXkvInIdeal := hXkvInIdeal) (hXkvInRefIdeal := hXkvInRefIdeal)
    ∧ preserves_XkvDh_XkvDhIdeal
    ∧ algebraic_XkvDhIdeal_XkvDhRefIdeal (hXkvDhIdeal := hXkvDhIdeal) (hXkvDhRefIdeal := hXkvDhRefIdeal)
    ∧ preserves_XkvDw_XkvDwIdeal
    ∧ algebraic_XkvDwIdeal_XkvDwRefIdeal (hXkvDwIdeal := hXkvDwIdeal) (hXkvDwRefIdeal := hXkvDwRefIdeal)
    ∧ preserves_AdamXq_AdamXqIdeal
    ∧ algebraic_AdamXqIdeal_AdamXqRefIdeal (hAdamXqIdeal := hAdamXqIdeal) (hAdamXqRefIdeal := hAdamXqRefIdeal)
    ∧ preserves_AdamXkv_AdamXkvIdeal
    ∧ algebraic_AdamXkvIdeal_AdamXkvRefIdeal (hAdamXkvIdeal := hAdamXkvIdeal) (hAdamXkvRefIdeal := hAdamXkvRefIdeal)
    ∧ preserves_AdamXo_AdamXoIdeal
    ∧ algebraic_AdamXoIdeal_AdamXoRefIdeal (hAdamXoIdeal := hAdamXoIdeal) (hAdamXoRefIdeal := hAdamXoRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnConv_AdamFfnConvIdeal
    ∧ algebraic_AdamFfnConvIdeal_AdamFfnConvRefIdeal (hAdamFfnConvIdeal := hAdamFfnConvIdeal) (hAdamFfnConvRefIdeal := hAdamFfnConvRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamHybIn_AdamHybInIdeal
    ∧ algebraic_AdamHybInIdeal_AdamHybInRefIdeal (hAdamHybInIdeal := hAdamHybInIdeal) (hAdamHybInRefIdeal := hAdamHybInRefIdeal)
    ∧ preserves_AdamMixOut_AdamMixOutIdeal
    ∧ algebraic_AdamMixOutIdeal_AdamMixOutRefIdeal (hAdamMixOutIdeal := hAdamMixOutIdeal) (hAdamMixOutRefIdeal := hAdamMixOutRefIdeal)
    ∧ preserves_AdamGdnConv_AdamGdnConvIdeal
    ∧ algebraic_AdamGdnConvIdeal_AdamGdnConvRefIdeal (hAdamGdnConvIdeal := hAdamGdnConvIdeal) (hAdamGdnConvRefIdeal := hAdamGdnConvRefIdeal)
    ∧ preserves_AdamLruConv_AdamLruConvIdeal
    ∧ algebraic_AdamLruConvIdeal_AdamLruConvRefIdeal (hAdamLruConvIdeal := hAdamLruConvIdeal) (hAdamLruConvRefIdeal := hAdamLruConvRefIdeal)
    ∧ preserves_AdamSwaIn_AdamSwaInIdeal
    ∧ algebraic_AdamSwaInIdeal_AdamSwaInRefIdeal (hAdamSwaInIdeal := hAdamSwaInIdeal) (hAdamSwaInRefIdeal := hAdamSwaInRefIdeal)
    ∧ preserves_AdamRep_AdamRepIdeal
    ∧ algebraic_AdamRepIdeal_AdamRepRefIdeal (hAdamRepIdeal := hAdamRepIdeal) (hAdamRepRefIdeal := hAdamRepRefIdeal)
    ∧ preserves_NormFwd_NormFwdIdeal
    ∧ algebraic_NormFwdIdeal_NormFwdRefIdeal (hNormFwdIdeal := hNormFwdIdeal) (hNormFwdRefIdeal := hNormFwdRefIdeal)
    ∧ preserves_NormMemFwd_NormMemFwdIdeal
    ∧ algebraic_NormMemFwdIdeal_NormMemFwdRefIdeal (hNormMemFwdIdeal := hNormMemFwdIdeal) (hNormMemFwdRefIdeal := hNormMemFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormMemBwd_NormMemBwdIdeal
    ∧ algebraic_NormMemBwdIdeal_NormMemBwdRefIdeal (hNormMemBwdIdeal := hNormMemBwdIdeal) (hNormMemBwdRefIdeal := hNormMemBwdRefIdeal)
    ∧ preserves_LossGrad_LossGradIdeal
    ∧ algebraic_LossGradIdeal_LossGradRefIdeal (hLossGradIdeal := hLossGradIdeal) (hLossGradRefIdeal := hLossGradRefIdeal)
    ∧ preserves_XattnFwd_XattnFwdIdeal
    ∧ algebraic_XattnFwdIdeal_XattnFwdRefIdeal (hXattnFwdIdeal := hXattnFwdIdeal) (hXattnFwdRefIdeal := hXattnFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnBwd_FfnBwdIdeal
    ∧ algebraic_FfnBwdIdeal_FfnBwdRefIdeal (hFfnBwdIdeal := hFfnBwdIdeal) (hFfnBwdRefIdeal := hFfnBwdRefIdeal)
    ∧ preserves_RopeTables_RopeTablesIdeal
    ∧ algebraic_RopeTablesIdeal_RopeTablesRefIdeal (hRopeTablesIdeal := hRopeTablesIdeal) (hRopeTablesRefIdeal := hRopeTablesRefIdeal)
-- ==== Pre_finite_xattn.lean ====
abbrev S8192x512 : Shape := ⟨2, ![8192, 512]⟩
abbrev S256x1024 : Shape := ⟨2, ![256, 1024]⟩
abbrev S1x128 : Shape := ⟨2, ![1, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S8192x512 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  main_v23

def fn {F : FTy → Type} [FloatOps F] (main_arg0 : FVec F S8192x512 .f32) (main_arg1 : FVec F S256x1024 .f32) (main_arg2 : FVec F S1x128 .f32) (main_arg3 : FVec F S1x128 .f32) (main_arg4 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_v13 main_v16
-- ==== Xattn.lean ====
abbrev S8192x512 : Shape := ⟨2, ![8192, 512]⟩
abbrev S256x1024 : Shape := ⟨2, ![256, 1024]⟩
abbrev S1x128 : Shape := ⟨2, ![1, 128]⟩
abbrev S256x512 : Shape := ⟨2, ![256, 512]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S256 : Shape := ⟨1, ![256]⟩
abbrev S256x1 : Shape := ⟨2, ![256, 1]⟩
abbrev S512x256 : Shape := ⟨2, ![512, 256]⟩
abbrev S128 : Shape := ⟨1, ![128]⟩

abbrev nBuf : Space → Nat
  | .hbm => 10
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S8192x512, .f32⟩
  | .hbm, ⟨5, _⟩ => ⟨S8192x512, .bf16⟩
  | .hbm, ⟨6, _⟩ => ⟨S256x512, .f32⟩
  | .hbm, ⟨7, _⟩ => ⟨S256x512, .f32⟩
  | .hbm, ⟨8, _⟩ => ⟨S1x128, .f32⟩
  | .hbm, ⟨9, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x128, .f32⟩
  | .local _ .vmem, ⟨17, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== XattnRefIdeal.lean ====
abbrev S8192x512 : Shape := ⟨2, ![8192, 512]⟩
abbrev S256x1024 : Shape := ⟨2, ![256, 1024]⟩
abbrev S1x128 : Shape := ⟨2, ![1, 128]⟩
abbrev S256x512 : Shape := ⟨2, ![256, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩
abbrev S128 : Shape := ⟨1, ![128]⟩

abbrev nBuf : Space → Nat
  | .hbm => 177
  | .vmem => 0
  | .smem => 0
  | _ => 0

abbrev hbmTy0_0 (i : Nat) : BufTy := match i % 128 with
  | 0 => ⟨S8192x512, .f32⟩
  | 1 => ⟨S256x1024, .f32⟩
  | 2 => ⟨S1x128, .f32⟩
  | 3 => ⟨S1x128, .f32⟩
  | 4 => ⟨S8192x512, .f32⟩
  | 5 => ⟨S256x512, .f32⟩
  | 6 => ⟨S256x512, .f32⟩
  | 7 => ⟨S8192x4x128, .f32⟩
  | 8 => ⟨S8192x4x128, .f32⟩
  | 9 => ⟨S_, .f32⟩
  | 10 => ⟨S8192x4, .f32⟩
  | 11 => ⟨S8192x4x1, .f32⟩
  | 12 => ⟨S_, .f32⟩
  | 13 => ⟨S8192x4x1, .f32⟩
  | 14 => ⟨S8192x4x1, .f32⟩
  | 15 => ⟨S_, .f32⟩
  | 16 => ⟨S8192x4x1, .f32⟩
  | 17 => ⟨S8192x4x1, .f32⟩
  | 18 => ⟨S8192x4x1, .f32⟩
  | 19 => ⟨S8192x4x1, .f32⟩
  | 20 => ⟨S_, .f32⟩
  | 21 => ⟨S8192x4x1, .f32⟩
  | 22 => ⟨S8192x4x1, .f32⟩
  | 23 => ⟨S8192x4x128, .f32⟩
  | 24 => ⟨S8192x4x128, .f32⟩
  | 25 => ⟨S1x1x128, .f32⟩
  | 26 => ⟨S8192x4x128, .f32⟩
  | 27 => ⟨S8192x4x128, .f32⟩
  | 28 => ⟨S256x4x128, .f32⟩
  | 29 => ⟨S256x4x128, .f32⟩
  | 30 => ⟨S_, .f32⟩
  | 31 => ⟨S256x4, .f32⟩
  | 32 => ⟨S256x4x1, .f32⟩
  | 33 => ⟨S_, .f32⟩
  | 34 => ⟨S256x4x1, .f32⟩
  | 35 => ⟨S256x4x1, .f32⟩
  | 36 => ⟨S_, .f32⟩
  | 37 => ⟨S256x4x1, .f32⟩
  | 38 => ⟨S256x4x1, .f32⟩
  | 39 => ⟨S256x4x1, .f32⟩
  | 40 => ⟨S256x4x1, .f32⟩
  | 41 => ⟨S_, .f32⟩
  | 42 => ⟨S256x4x1, .f32⟩
  | 43 => ⟨S256x4x1, .f32⟩
  | 44 => ⟨S256x4x128, .f32⟩
  | 45 => ⟨S256x4x128, .f32⟩
  | 46 => ⟨S1x1x128, .f32⟩
  | 47 => ⟨S256x4x128, .f32⟩
  | 48 => ⟨S256x4x128, .f32⟩
  | 49 => ⟨S256x4x128, .f32⟩
  | 50 => ⟨S4x8192x256, .f32⟩
  | 51 => ⟨S_, .f32⟩
  | 52 => ⟨S4x8192x256, .f32⟩
  | 53 => ⟨S4x8192x256, .f32⟩
  | 54 => ⟨S_, .f32⟩
  | 55 => ⟨S4x8192, .f32⟩
  | 56 => ⟨S4x8192x1, .f32⟩
  | 57 => ⟨S4x8192x256, .f32⟩
  | 58 => ⟨S4x8192x256, .i1⟩
  | 59 => ⟨S4x8192x256, .f32⟩
  | 60 => ⟨S_, .f32⟩
  | 61 => ⟨S4x8192, .f32⟩
  | 62 => ⟨S_, .f32⟩
  | 63 => ⟨S4x8192, .f32⟩
  | 64 => ⟨S4x8192, .f32⟩
  | 65 => ⟨S_, .f32⟩
  | 66 => ⟨S4x8192, .f32⟩
  | 67 => ⟨S4x8192, .i1⟩
  | 68 => ⟨S_, .f32⟩
  | 69 => ⟨S4x8192, .f32⟩
  | 70 => ⟨S4x8192, .i1⟩
  | 71 => ⟨S_, .f32⟩
  | 72 => ⟨S4x8192, .f32⟩
  | 73 => ⟨S_, .f32⟩
  | 74 => ⟨S4x8192, .f32⟩
  | 75 => ⟨S_, .f32⟩
  | 76 => ⟨S4x8192, .f32⟩
  | 77 => ⟨S4x8192, .f32⟩
  | 78 => ⟨S4x8192, .f32⟩
  | 79 => ⟨S4x8192x1, .f32⟩
  | 80 => ⟨S4x8192x256, .f32⟩
  | 81 => ⟨S4x8192x256, .f32⟩
  | 82 => ⟨S4x8192x256, .f32⟩
  | 83 => ⟨S_, .f32⟩
  | 84 => ⟨S4x8192, .f32⟩
  | 85 => ⟨S4x8192x1, .f32⟩
  | 86 => ⟨S4x8192x256, .f32⟩
  | 87 => ⟨S4x8192x256, .f32⟩
  | 88 => ⟨S4x8192x1, .f32⟩
  | 89 => ⟨S_, .f32⟩
  | 90 => ⟨S4x8192x1, .f32⟩
  | 91 => ⟨S4x8192x1, .f32⟩
  | 92 => ⟨S4x128x8192, .f32⟩
  | 93 => ⟨S8192x4x128, .f32⟩
  | 94 => ⟨S8192x512, .f32⟩
  | 95 => ⟨S8192x4x128, .f32⟩
  | 96 => ⟨S4x128x8192, .f32⟩
  | 97 => ⟨S4x8192x256, .f32⟩
  | 98 => ⟨S4x128x256, .f32⟩
  | 99 => ⟨S256x4x128, .f32⟩
  | 100 => ⟨S4x8192x256, .f32⟩
  | 101 => ⟨S4x8192x256, .f32⟩
  | 102 => ⟨S4x8192x256, .f32⟩
  | 103 => ⟨S_, .f32⟩
  | 104 => ⟨S4x8192, .f32⟩
  | 105 => ⟨S4x8192x1, .f32⟩
  | 106 => ⟨S4x8192x1, .f32⟩
  | 107 => ⟨S4x8192x256, .f32⟩
  | 108 => ⟨S4x8192x256, .f32⟩
  | 109 => ⟨S_, .f32⟩
  | 110 => ⟨S4x8192, .f32⟩
  | 111 => ⟨S4x8192x256, .f32⟩
  | 112 => ⟨S4x8192x256, .f32⟩
  | 113 => ⟨S4x8192x256, .f32⟩
  | 114 => ⟨S_, .f32⟩
  | 115 => ⟨S4x8192x256, .f32⟩
  | 116 => ⟨S4x8192x256, .f32⟩
  | 117 => ⟨S4x256x128, .f32⟩
  | 118 => ⟨S256x4x128, .f32⟩
  | 119 => ⟨S4x8192x128, .f32⟩
  | 120 => ⟨S8192x4x128, .f32⟩
  | 121 => ⟨S256x512, .f32⟩
  | 122 => ⟨S256x4x128, .f32⟩
  | 123 => ⟨S_, .f32⟩
  | 124 => ⟨S128, .f32⟩
  | 125 => ⟨S1x1x128, .f32⟩
  | 126 => ⟨S256x4x128, .f32⟩
  | 127 => ⟨S256x4x128, .f32⟩
  | _ => ⟨S8192x512, .f32⟩

abbrev hbmTy0_1 (i : Nat) : BufTy := match i % 128 with
  | 0 => ⟨S_, .f32⟩
  | 1 => ⟨S128, .f32⟩
  | 2 => ⟨S1x128, .f32⟩
  | 3 => ⟨S256x4x128, .f32⟩
  | 4 => ⟨S_, .f32⟩
  | 5 => ⟨S256x4, .f32⟩
  | 6 => ⟨S256x4x1, .f32⟩
  | 7 => ⟨S256x4x128, .f32⟩
  | 8 => ⟨S256x4x128, .f32⟩
  | 9 => ⟨S256x4x1, .f32⟩
  | 10 => ⟨S_, .f32⟩
  | 11 => ⟨S256x4x1, .f32⟩
  | 12 => ⟨S256x4x1, .f32⟩
  | 13 => ⟨S_, .f32⟩
  | 14 => ⟨S256x4, .f32⟩
  | 15 => ⟨S256x4x128, .f32⟩
  | 16 => ⟨S256x4x128, .f32⟩
  | 17 => ⟨S256x4x128, .f32⟩
  | 18 => ⟨S256x4x128, .f32⟩
  | 19 => ⟨S256x4x128, .f32⟩
  | 20 => ⟨S256x512, .f32⟩
  | 21 => ⟨S8192x4x128, .f32⟩
  | 22 => ⟨S_, .f32⟩
  | 23 => ⟨S128, .f32⟩
  | 24 => ⟨S1x1x128, .f32⟩
  | 25 => ⟨S8192x4x128, .f32⟩
  | 26 => ⟨S8192x4x128, .f32⟩
  | 27 => ⟨S_, .f32⟩
  | 28 => ⟨S128, .f32⟩
  | 29 => ⟨S1x128, .f32⟩
  | 30 => ⟨S8192x4x128, .f32⟩
  | 31 => ⟨S_, .f32⟩
  | 32 => ⟨S8192x4, .f32⟩
  | 33 => ⟨S8192x4x1, .f32⟩
  | 34 => ⟨S8192x4x128, .f32⟩
  | 35 => ⟨S8192x4x128, .f32⟩
  | 36 => ⟨S8192x4x1, .f32⟩
  | 37 => ⟨S_, .f32⟩
  | 38 => ⟨S8192x4x1, .f32⟩
  | 39 => ⟨S8192x4x1, .f32⟩
  | 40 => ⟨S_, .f32⟩
  | 41 => ⟨S8192x4, .f32⟩
  | 42 => ⟨S8192x4x128, .f32⟩
  | 43 => ⟨S8192x4x128, .f32⟩
  | 44 => ⟨S8192x4x128, .f32⟩
  | 45 => ⟨S8192x4x128, .f32⟩
  | 46 => ⟨S8192x4x128, .f32⟩
  | 47 => ⟨S8192x512, .f32⟩
  | 48 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_18 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_19 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_22 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_23 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_24 : Ref sig .tc := ⟨.hbm, 138, rfl⟩
abbrev main_v108 : Ref sig .tc := ⟨.hbm, 139, rfl⟩
abbrev main_v109 : Ref sig .tc := ⟨.hbm, 140, rfl⟩
abbrev main_cst_25 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_26 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_27 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_28 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_29 : Ref sig .tc := ⟨.hbm, 165, rfl⟩
abbrev main_v130 : Ref sig .tc := ⟨.hbm, 166, rfl⟩
abbrev main_v131 : Ref sig .tc := ⟨.hbm, 167, rfl⟩
abbrev main_cst_30 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩

abbrev nD : Nat := 1
abbrev τ : Topo := Topo.v7x

variable {F : FTy → Type} [FloatOps F]
-- ==== FfnIn.lean ====
abbrev S8192x2048 : Shape := ⟨2, ![8192, 2048]⟩
abbrev S2048x11264 : Shape := ⟨2, ![2048, 11264]⟩
abbrev S11264x2048 : Shape := ⟨2, ![11264, 2048]⟩
abbrev S8192x11264 : Shape := ⟨2, ![8192, 11264]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S11264x2048, .f32⟩
  | .hbm, ⟨3, _⟩ => ⟨S11264x2048, .bf16⟩
  | .hbm, ⟨4, _⟩ => ⟨S8192x11264, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x2048, .f32⟩
  | .hbm, ⟨3, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnOut.lean ====
abbrev S8192x5632 : Shape := ⟨2, ![8192, 5632]⟩
abbrev S5632x2048 : Shape := ⟨2, ![5632, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnOutDa.lean ====
abbrev S8192x2048 : Shape := ⟨2, ![8192, 2048]⟩
abbrev S5632x2048 : Shape := ⟨2, ![5632, 2048]⟩
abbrev S8192x5632 : Shape := ⟨2, ![8192, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S5632x2048, .bf16⟩
  | .hbm, ⟨3, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDaRefIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S_, .f32⟩
  | .hbm, ⟨3, _⟩ => ⟨S8192x5632, .f32⟩
  | .hbm, ⟨4, _⟩ => ⟨S8192x2048, .f32⟩
  | .hbm, ⟨5, _⟩ => ⟨S8192x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnOutDw.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInDhGate.lean ====
abbrev S8192x5632 : Shape := ⟨2, ![8192, 5632]⟩
abbrev S2048x11264 : Shape := ⟨2, ![2048, 11264]⟩
abbrev S11264x2048 : Shape := ⟨2, ![11264, 2048]⟩
abbrev S5632x2048 : Shape := ⟨2, ![5632, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2048x11264, .f32⟩
  | .hbm, ⟨2, _⟩ => ⟨S11264x2048, .f32⟩
  | .hbm, ⟨3, _⟩ => ⟨S11264x2048, .bf16⟩
  | .hbm, ⟨4, _⟩ => ⟨S5632x2048, .bf16⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDhGateRefIdeal.lean ====
abbrev S8192x5632 : Shape := ⟨2, ![8192, 5632]⟩
abbrev S2048x11264 : Shape := ⟨2, ![2048, 11264]⟩
abbrev S_ : Shape := ⟨0, ![]⟩
abbrev S8192x2048 : Shape := ⟨2, ![8192, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x11264, .f32⟩
  | .hbm, ⟨2, _⟩ => ⟨S_, .f32⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInDhUp.lean ====
abbrev S8192x5632 : Shape := ⟨2, ![8192, 5632]⟩
abbrev S2048x11264 : Shape := ⟨2, ![2048, 11264]⟩
abbrev S8192x2048 : Shape := ⟨2, ![8192, 2048]⟩
abbrev S11264x2048 : Shape := ⟨2, ![11264, 2048]⟩
abbrev S5632x2048 : Shape := ⟨2, ![5632, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2048x11264, .f32⟩
  | .hbm, ⟨2, _⟩ => ⟨S8192x2048, .f32⟩
  | .hbm, ⟨3, _⟩ => ⟨S11264x2048, .f32⟩
  | .hbm, ⟨4, _⟩ => ⟨S11264x2048, .bf16⟩
  | .hbm, ⟨5, _⟩ => ⟨S5632x2048, .bf16⟩
  | .hbm, ⟨6, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInDhUpRefIdeal.lean ====
abbrev S8192x5632 : Shape := ⟨2, ![8192, 5632]⟩
abbrev S2048x11264 : Shape := ⟨2, ![2048, 11264]⟩
abbrev S8192x2048 : Shape := ⟨2, ![8192, 2048]⟩
abbrev S_ : Shape := ⟨0, ![]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x11264, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x2048, .f32⟩
  | .hbm, ⟨9, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfnInDw.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S8192x5632 : Shape := ⟨2, ![8192, 5632]⟩
abbrev S8192x2048 : Shape := ⟨2, ![8192, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== HybIn.lean ====
abbrev S8192x2048 : Shape := ⟨2, ![8192, 2048]⟩
abbrev S2048x6160 : Shape := ⟨2, ![2048, 6160]⟩
abbrev S6160x2048 : Shape := ⟨2, ![6160, 2048]⟩
abbrev S4096x2048 : Shape := ⟨2, ![4096, 2048]⟩
abbrev S2048x2048 : Shape := ⟨2, ![2048, 2048]⟩
abbrev S16x2048 : Shape := ⟨2, ![16, 2048]⟩
abbrev S_ : Shape := ⟨0, ![]⟩
abbrev S112x2048 : Shape := ⟨2, ![112, 2048]⟩
abbrev S6272x2048 : Shape := ⟨2, ![6272, 2048]⟩
abbrev S8192x6272 : Shape := ⟨2, ![8192, 6272]⟩
abbrev S1024x1024 : Shape := ⟨2, ![1024, 1024]⟩
abbrev S896x1024 : Shape := ⟨2, ![896, 1024]⟩
abbrev S1024x896 : Shape := ⟨2, ![1024, 896]⟩

abbrev nBuf : Space → Nat
  | .hbm => 11
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6160, .f32⟩
  | .hbm, ⟨2, _⟩ => ⟨S6160x2048, .f32⟩
  | .hbm, ⟨3, _⟩ => ⟨S6160x2048, .bf16⟩
  | .hbm, ⟨4, _⟩ => ⟨S4096x2048, .bf16⟩
  | .hbm, ⟨5, _⟩ => ⟨S2048x2048, .bf16⟩
  | .hbm, ⟨6, _⟩ => ⟨S16x2048, .bf16⟩
  | .hbm, ⟨7, _⟩ => ⟨S_, .bf16⟩
  | .hbm, ⟨8, _⟩ => ⟨S112x2048, .bf16⟩
  | .hbm, ⟨9, _⟩ => ⟨S6272x2048, .bf16⟩
  | .hbm, ⟨10, _⟩ => ⟨S8192x6272, .f32⟩
  | .local _ .vmem, ⟨0, _⟩ => ⟨S1024x1024, .bf16⟩
  | .local _ .vmem, ⟨1, _⟩ => ⟨S1024x1024, .bf16⟩
  | .local _ .vmem, ⟨2, _⟩ => ⟨S896x1024, .bf16⟩
  | .local _ .vmem, ⟨3, _⟩ => ⟨S896x1024, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInRefIdeal.lean ====
abbrev S8192x2048 : Shape := ⟨2, ![8192, 2048]⟩
abbrev S2048x6160 : Shape := ⟨2, ![2048, 6160]⟩
abbrev S8192x6160 : Shape := ⟨2, ![8192, 6160]⟩
abbrev S8192x4096 : Shape := ⟨2, ![8192, 4096]⟩
abbrev S8192x16 : Shape := ⟨2, ![8192, 16]⟩
abbrev S_ : Shape := ⟨0, ![]⟩
abbrev S8192x112 : Shape := ⟨2, ![8192, 112]⟩
abbrev S8192x6272 : Shape := ⟨2, ![8192, 6272]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6160, .f32⟩
  | .hbm, ⟨2, _⟩ => ⟨S8192x2048, .f32⟩
  | .hbm, ⟨3, _⟩ => ⟨S8192x6160, .f32⟩
  | .hbm, ⟨4, _⟩ => ⟨S8192x4096, .f32⟩
  | .hbm, ⟨5, _⟩ => ⟨S8192x2048, .f32⟩
  | .hbm, ⟨6, _⟩ => ⟨S8192x16, .f32⟩
  | .hbm, ⟨7, _⟩ => ⟨S_, .f32⟩
  | .hbm, ⟨8, _⟩ => ⟨S8192x112, .f32⟩
  | .hbm, ⟨9, _⟩ => ⟨S8192x6272, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HybOut.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x2048, .f32⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HybOutRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x2048, .f32⟩
  | .hbm, ⟨3, _⟩ => ⟨S8192x1024, .f32⟩
  | .hbm, ⟨4, _⟩ => ⟨S8192x2048, .f32⟩
  | .hbm, ⟨5, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixOutDm.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDmRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== HybOutDw.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybOutDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HybInDh.lean ====
abbrev S8192x6272 : Shape := ⟨2, ![8192, 6272]⟩
abbrev S2048x6160 : Shape := ⟨2, ![2048, 6160]⟩
abbrev S6160x2048 : Shape := ⟨2, ![6160, 2048]⟩
abbrev S4096x2048 : Shape := ⟨2, ![4096, 2048]⟩
abbrev S2048x2048 : Shape := ⟨2, ![2048, 2048]⟩
abbrev S16x2048 : Shape := ⟨2, ![16, 2048]⟩
abbrev S_ : Shape := ⟨0, ![]⟩
abbrev S112x2048 : Shape := ⟨2, ![112, 2048]⟩
abbrev S6272x2048 : Shape := ⟨2, ![6272, 2048]⟩
abbrev S8192x2048 : Shape := ⟨2, ![8192, 2048]⟩
abbrev S1024x896 : Shape := ⟨2, ![1024, 896]⟩
abbrev S896x1024 : Shape := ⟨2, ![896, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8192x6272, .bf16⟩
  | .hbm, ⟨1, _⟩ => ⟨S2048x6160, .f32⟩
  | .hbm, ⟨2, _⟩ => ⟨S6160x2048, .f32⟩
  | .hbm, ⟨3, _⟩ => ⟨S6160x2048, .bf16⟩
  | .hbm, ⟨4, _⟩ => ⟨S4096x2048, .bf16⟩
  | .hbm, ⟨5, _⟩ => ⟨S2048x2048, .bf16⟩
  | .hbm, ⟨6, _⟩ => ⟨S16x2048, .bf16⟩
  | .hbm, ⟨7, _⟩ => ⟨S_, .bf16⟩
  | .hbm, ⟨8, _⟩ => ⟨S112x2048, .bf16⟩
  | .hbm, ⟨9, _⟩ => ⟨S6272x2048, .bf16⟩
  | .hbm, ⟨10, _⟩ => ⟨S8192x2048, .f32⟩
  | .local _ .vmem, ⟨0, _⟩ => ⟨S1024x896, .bf16⟩
  | .local _ .vmem, ⟨1, _⟩ => ⟨S1024x896, .bf16⟩
  | .local _ .vmem, ⟨2, _⟩ => ⟨S896x1024, .bf16⟩
  | .local _ .vmem, ⟨3, _⟩ => ⟨S896x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 7], ![false, false, false]⟩

def k0_cond2 (i : grid0.Coords) : BitVec 1 :=
  let arg2 : BitVec 32 := BitVec.ofNat 32 (i 2).val
  let c6_i32 : BitVec 32 := 6#32
  let v12 : BitVec 1 := Scalar.cmpi .eq arg2 c6_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInDhRefIdeal.lean ====
abbrev S8192x6272 : Shape := ⟨2, ![8192, 6272]⟩
abbrev S2048x6160 : Shape := ⟨2, ![2048, 6160]⟩
abbrev S_ : Shape := ⟨0, ![]⟩
abbrev S8192x2048 : Shape := ⟨2, ![8192, 2048]⟩
abbrev S8192x6160 : Shape := ⟨2, ![8192, 6160]⟩
abbrev S8192x4096 : Shape := ⟨2, ![8192, 4096]⟩
abbrev S8192x16 : Shape := ⟨2, ![8192, 16]⟩

abbrev nBuf : Space → Nat
  | .hbm => 11
  | .vmem => 0
  | .smem => 0
  | _ => 0

abbrev bufTy : (tb : Table) → Fin (tcTables nBuf tb) → BufTy
  | .hbm, ⟨0, _⟩ => ⟨S8192x6272, .bf16⟩
  | .hbm, ⟨1, _⟩ => ⟨S2048x6160, .f32⟩
  | .hbm, ⟨2, _⟩ => ⟨S_, .f32⟩
  | .hbm, ⟨3, _⟩ => ⟨S8192x2048, .f32⟩
  | .hbm, ⟨4, _⟩ => ⟨S8192x6160, .f32⟩
  | .hbm, ⟨5, _⟩ => ⟨S8192x6272, .f32⟩
  | .hbm, ⟨6, _⟩ => ⟨S8192x4096, .f32⟩
  | .hbm, ⟨7, _⟩ => ⟨S8192x16, .f32⟩
  | .hbm, ⟨8, _⟩ => ⟨S8192x2048, .f32⟩
  | .hbm, ⟨9, _⟩ => ⟨S8192x6160, .f32⟩
  | .hbm, ⟨10, _⟩ => ⟨S8192x2048, .f32⟩
  | _, _ => ⟨S8192x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== HybInDw.lean ====
abbrev S8192x6272 : Shape := ⟨2, ![8192, 6272]⟩
abbrev S8192x2048 : Shape := ⟨2, ![8192, 2048]⟩
abbrev S6272x2048 : Shape := ⟨2, ![6272, 2048]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6272, .bf16⟩
  | .hbm, ⟨1, _⟩ => ⟨S8192x2048, .bf16⟩
  | .hbm, ⟨2, _⟩ => ⟨S6272x2048, .bf16⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S896x1024, .bf16⟩
  | .local _ .vmem, ⟨5, _⟩ => ⟨S896x1024, .bf16⟩
  | .local _ .vmem, ⟨6, _⟩ => ⟨S896x1024, .f32⟩
  | _, _ => ⟨S8192x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInDwRefIdeal.lean ====
abbrev S8192x6272 : Shape := ⟨2, ![8192, 6272]⟩
abbrev S8192x2048 : Shape := ⟨2, ![8192, 2048]⟩
abbrev S_ : Shape := ⟨0, ![]⟩
abbrev S2048x6272 : Shape := ⟨2, ![2048, 6272]⟩
abbrev S6272x2048 : Shape := ⟨2, ![6272, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x6272, .bf16⟩
  | .hbm, ⟨1, _⟩ => ⟨S8192x2048, .bf16⟩
  | .hbm, ⟨2, _⟩ => ⟨S_, .f32⟩
  | .hbm, ⟨3, _⟩ => ⟨S2048x6272, .f32⟩
  | .hbm, ⟨4, _⟩ => ⟨S8192x2048, .f32⟩
  | .hbm, ⟨5, _⟩ => ⟨S8192x6272, .f32⟩
  | .hbm, ⟨6, _⟩ => ⟨S8192x6272, .f32⟩
  | .hbm, ⟨7, _⟩ => ⟨S6272x2048, .f32⟩
  | .hbm, ⟨8, _⟩ => ⟨S2048x6272, .f32⟩
  | .hbm, ⟨9, _⟩ => ⟨S6272x2048, .f32⟩
  | .hbm, ⟨10, _⟩ => ⟨S6272x2048, .bf16⟩
  | _, _ => ⟨S8192x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SwaIn.lean ====
abbrev S8192x2048 : Shape := ⟨2, ![8192, 2048]⟩
abbrev S2048x3072 : Shape := ⟨2, ![2048, 3072]⟩
abbrev S3072x2048 : Shape := ⟨2, ![3072, 2048]⟩
abbrev S8192x3072 : Shape := ⟨2, ![8192, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S3072x2048, .f32⟩
  | .hbm, ⟨3, _⟩ => ⟨S3072x2048, .bf16⟩
  | .hbm, ⟨4, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaInRefIdeal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S8192x2048, .f32⟩
  | .hbm, ⟨3, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SwaOut.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SwaOutRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SwaOutDw.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaOutDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SwaInDh.lean ====
abbrev S8192x3072 : Shape := ⟨2, ![8192, 3072]⟩
abbrev S2048x3072 : Shape := ⟨2, ![2048, 3072]⟩
abbrev S3072x2048 : Shape := ⟨2, ![3072, 2048]⟩
abbrev S8192x2048 : Shape := ⟨2, ![8192, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .f32⟩
  | .hbm, ⟨2, _⟩ => ⟨S3072x2048, .f32⟩
  | .hbm, ⟨3, _⟩ => ⟨S3072x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaInDhRefIdeal.lean ====
abbrev S8192x3072 : Shape := ⟨2, ![8192, 3072]⟩
abbrev S2048x3072 : Shape := ⟨2, ![2048, 3072]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S2048x3072, .f32⟩
  | .hbm, ⟨2, _⟩ => ⟨S_, .f32⟩
  | .hbm, ⟨3, _⟩ => ⟨S8192x2048, .f32⟩
  | .hbm, ⟨4, _⟩ => ⟨S8192x3072, .f32⟩
  | .hbm, ⟨5, _⟩ => ⟨S8192x3072, .f32⟩
  | .hbm, ⟨6, _⟩ => ⟨S8192x2048, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SwaInDw.lean ====
abbrev S8192x3072 : Shape := ⟨2, ![8192, 3072]⟩
abbrev S8192x2048 : Shape := ⟨2, ![8192, 2048]⟩
abbrev S3072x2048 : Shape := ⟨2, ![3072, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x2048, .bf16⟩
  | .hbm, ⟨2, _⟩ => ⟨S3072x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaInDwRefIdeal.lean ====
abbrev S8192x3072 : Shape := ⟨2, ![8192, 3072]⟩
abbrev S8192x2048 : Shape := ⟨2, ![8192, 2048]⟩
abbrev S_ : Shape := ⟨0, ![]⟩
abbrev S2048x3072 : Shape := ⟨2, ![2048, 3072]⟩
abbrev S3072x2048 : Shape := ⟨2, ![3072, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x2048, .bf16⟩
  | .hbm, ⟨2, _⟩ => ⟨S_, .f32⟩
  | .hbm, ⟨3, _⟩ => ⟨S2048x3072, .f32⟩
  | .hbm, ⟨4, _⟩ => ⟨S8192x2048, .f32⟩
  | .hbm, ⟨5, _⟩ => ⟨S8192x3072, .f32⟩
  | .hbm, ⟨6, _⟩ => ⟨S8192x3072, .f32⟩
  | .hbm, ⟨7, _⟩ => ⟨S3072x2048, .f32⟩
  | .hbm, ⟨8, _⟩ => ⟨S2048x3072, .f32⟩
  | .hbm, ⟨9, _⟩ => ⟨S3072x2048, .f32⟩
  | .hbm, ⟨10, _⟩ => ⟨S3072x2048, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== XqIn.lean ====
abbrev S8192x2048 : Shape := ⟨2, ![8192, 2048]⟩
abbrev S2048x512 : Shape := ⟨2, ![2048, 512]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S2048x512, .bf16⟩
  | .hbm, ⟨3, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqInRefIdeal.lean ====
abbrev S8192x2048 : Shape := ⟨2, ![8192, 2048]⟩
abbrev S2048x512 : Shape := ⟨2, ![2048, 512]⟩
abbrev S8192x512 : Shape := ⟨2, ![8192, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S8192x2048, .f32⟩
  | .hbm, ⟨3, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== XoOut.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩
abbrev S1024x512 : Shape := ⟨2, ![1024, 512]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x512, .bf16⟩
  | .hbm, ⟨1, _⟩ => ⟨S512x2048, .f32⟩
  | .hbm, ⟨2, _⟩ => ⟨S8192x2048, .f32⟩
  | .hbm, ⟨3, _⟩ => ⟨S2048x512, .f32⟩
  | .hbm, ⟨4, _⟩ => ⟨S2048x512, .bf16⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XoOutRefIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .f32⟩
  | .hbm, ⟨2, _⟩ => ⟨S8192x2048, .f32⟩
  | .hbm, ⟨3, _⟩ => ⟨S8192x512, .f32⟩
  | .hbm, ⟨4, _⟩ => ⟨S8192x2048, .f32⟩
  | .hbm, ⟨5, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== XoDo.lean ====
abbrev S8192x2048 : Shape := ⟨2, ![8192, 2048]⟩
abbrev S512x2048 : Shape := ⟨2, ![512, 2048]⟩
abbrev S2048x512 : Shape := ⟨2, ![2048, 512]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048x512, .f32⟩
  | .hbm, ⟨3, _⟩ => ⟨S2048x512, .bf16⟩
  | .hbm, ⟨4, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XoDoRefIdeal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S_, .f32⟩
  | .hbm, ⟨3, _⟩ => ⟨S8192x512, .f32⟩
  | .hbm, ⟨4, _⟩ => ⟨S8192x2048, .f32⟩
  | .hbm, ⟨5, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== XoDw.lean ====
abbrev S8192x2048 : Shape := ⟨2, ![8192, 2048]⟩
abbrev S8192x512 : Shape := ⟨2, ![8192, 512]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S2048x512, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XoDwRefIdeal.lean ====
abbrev S8192x2048 : Shape := ⟨2, ![8192, 2048]⟩
abbrev S8192x512 : Shape := ⟨2, ![8192, 512]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S_, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S2048x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== XqDh.lean ====
abbrev S8192x512 : Shape := ⟨2, ![8192, 512]⟩
abbrev S2048x512 : Shape := ⟨2, ![2048, 512]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S2048x512, .f32⟩
  | .hbm, ⟨2, _⟩ => ⟨S2048x512, .bf16⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqDhRefIdeal.lean ====
abbrev S8192x512 : Shape := ⟨2, ![8192, 512]⟩
abbrev S2048x512 : Shape := ⟨2, ![2048, 512]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2048x512, .f32⟩
  | .hbm, ⟨2, _⟩ => ⟨S_, .f32⟩
  | .hbm, ⟨3, _⟩ => ⟨S8192x2048, .f32⟩
  | .hbm, ⟨4, _⟩ => ⟨S8192x512, .f32⟩
  | .hbm, ⟨5, _⟩ => ⟨S8192x512, .f32⟩
  | .hbm, ⟨6, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XqDw.lean ====
abbrev S8192x2048 : Shape := ⟨2, ![8192, 2048]⟩
abbrev S8192x512 : Shape := ⟨2, ![8192, 512]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S2048x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqDwRefIdeal.lean ====
abbrev S8192x2048 : Shape := ⟨2, ![8192, 2048]⟩
abbrev S8192x512 : Shape := ⟨2, ![8192, 512]⟩
abbrev S_ : Shape := ⟨0, ![]⟩
abbrev S2048x512 : Shape := ⟨2, ![2048, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S_, .f32⟩
  | .hbm, ⟨3, _⟩ => ⟨S2048x512, .f32⟩
  | .hbm, ⟨4, _⟩ => ⟨S8192x2048, .f32⟩
  | .hbm, ⟨5, _⟩ => ⟨S8192x512, .f32⟩
  | .hbm, ⟨6, _⟩ => ⟨S8192x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== XkvIn.lean ====
abbrev S256x2048 : Shape := ⟨2, ![256, 2048]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x1024, .f32⟩
  | .hbm, ⟨2, _⟩ => ⟨S2048x1024, .bf16⟩
  | .hbm, ⟨3, _⟩ => ⟨S256x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XkvInRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .f32⟩
  | .hbm, ⟨2, _⟩ => ⟨S256x2048, .f32⟩
  | .hbm, ⟨3, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== XkvDh.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S2048x1024, .bf16⟩
  | .hbm, ⟨3, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvDhRefIdeal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S_, .f32⟩
  | .hbm, ⟨3, _⟩ => ⟨S256x2048, .f32⟩
  | .hbm, ⟨4, _⟩ => ⟨S256x1024, .f32⟩
  | .hbm, ⟨5, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== XkvDw.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvDwRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamXq.lean ====
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x256x512, .bf16⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S8x256x512, .bf16⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamXqRefIdeal.lean ====
abbrev S8x256x512 : Shape := ⟨3, ![8, 256, 512]⟩
abbrev S256x512 : Shape := ⟨2, ![256, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S8x256x512, .f32⟩
  | .hbm, ⟨5, _⟩ => ⟨S_, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S_, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S_, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x512, .f32⟩
  | .hbm, ⟨39, _⟩ => ⟨S256x512, .f32⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamXkv.lean ====
abbrev S8x256x1024 : Shape := ⟨3, ![8, 256, 1024]⟩
abbrev S256x1024 : Shape := ⟨2, ![256, 1024]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamXkvRefIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamXo.lean ====
abbrev S8x256x512 : Shape := ⟨3, ![8, 256, 512]⟩
abbrev S512x256 : Shape := ⟨2, ![512, 256]⟩
abbrev S256x512 : Shape := ⟨2, ![256, 512]⟩
abbrev S1x256x512 : Shape := ⟨3, ![1, 256, 512]⟩

abbrev nBuf : Space → Nat
  | .hbm => 11
  | .vmem => 8
  | .smem => 0
  | _ => 0

abbrev bufTy : (tb : Table) → Fin (tcTables nBuf tb) → BufTy
  | .hbm, ⟨0, _⟩ => ⟨S8x256x512, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S8x256x512, .bf16⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamXoRefIdeal.lean ====
abbrev S8x256x512 : Shape := ⟨3, ![8, 256, 512]⟩
abbrev S512x256 : Shape := ⟨2, ![512, 256]⟩
abbrev S_ : Shape := ⟨0, ![]⟩
abbrev S256x512 : Shape := ⟨2, ![256, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S8x256x512, .f32⟩
  | .hbm, ⟨5, _⟩ => ⟨S_, .f32⟩
  | .hbm, ⟨6, _⟩ => ⟨S256x512, .f32⟩
  | .hbm, ⟨7, _⟩ => ⟨S512x256, .f32⟩
  | .hbm, ⟨8, _⟩ => ⟨S_, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | .hbm, ⟨37, _⟩ => ⟨S512x256, .f32⟩
  | .hbm, ⟨38, _⟩ => ⟨S_, .f32⟩
  | .hbm, ⟨39, _⟩ => ⟨S512x256, .f32⟩
  | .hbm, ⟨40, _⟩ => ⟨S512x256, .f32⟩
  | .hbm, ⟨41, _⟩ => ⟨S256x512, .f32⟩
  | .hbm, ⟨42, _⟩ => ⟨S256x512, .f32⟩
  | .hbm, ⟨43, _⟩ => ⟨S256x512, .f32⟩
  | .hbm, ⟨44, _⟩ => ⟨S256x512, .f32⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamFfnIn.lean ====
abbrev S8x1408x2048 : Shape := ⟨3, ![8, 1408, 2048]⟩
abbrev S2048x1408 : Shape := ⟨2, ![2048, 1408]⟩
abbrev S1408x2048 : Shape := ⟨2, ![1408, 2048]⟩
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 11
  | .vmem => 16
  | .smem => 0
  | _ => 0

abbrev bufTy : (tb : Table) → Fin (tcTables nBuf tb) → BufTy
  | .hbm, ⟨0, _⟩ => ⟨S8x1408x2048, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .hbm, ⟨9, _⟩ => ⟨S1408x2048, .f32⟩
  | .hbm, ⟨10, _⟩ => ⟨S1408x2048, .f32⟩
  | .local _ .vmem, ⟨0, _⟩ => ⟨S8x128x512, .bf16⟩
  | .local _ .vmem, ⟨1, _⟩ => ⟨S8x128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S8x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamFfnInRefIdeal.lean ====
abbrev S8x1408x2048 : Shape := ⟨3, ![8, 1408, 2048]⟩
abbrev S2048x1408 : Shape := ⟨2, ![2048, 1408]⟩
abbrev S_ : Shape := ⟨0, ![]⟩
abbrev S1408x2048 : Shape := ⟨2, ![1408, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x1408x2048, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x1408x2048, .f32⟩
  | .hbm, ⟨5, _⟩ => ⟨S_, .f32⟩
  | .hbm, ⟨6, _⟩ => ⟨S1408x2048, .f32⟩
  | .hbm, ⟨7, _⟩ => ⟨S2048x1408, .f32⟩
  | .hbm, ⟨8, _⟩ => ⟨S_, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | .hbm, ⟨37, _⟩ => ⟨S2048x1408, .f32⟩
  | .hbm, ⟨38, _⟩ => ⟨S_, .f32⟩
  | .hbm, ⟨39, _⟩ => ⟨S2048x1408, .f32⟩
  | .hbm, ⟨40, _⟩ => ⟨S2048x1408, .f32⟩
  | .hbm, ⟨41, _⟩ => ⟨S1408x2048, .f32⟩
  | .hbm, ⟨42, _⟩ => ⟨S1408x2048, .f32⟩
  | .hbm, ⟨43, _⟩ => ⟨S1408x2048, .f32⟩
  | .hbm, ⟨44, _⟩ => ⟨S1408x2048, .f32⟩
  | _, _ => ⟨S8x1408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamFfnConv.lean ====
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S8x3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamFfnConvRefIdeal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamFfnOut.lean ====
abbrev S8x704x2048 : Shape := ⟨3, ![8, 704, 2048]⟩
abbrev S704x2048 : Shape := ⟨2, ![704, 2048]⟩
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x512, .bf16⟩
  | .local _ .vmem, ⟨1, _⟩ => ⟨S8x64x512, .bf16⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamFfnOutRefIdeal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamHybIn.lean ====
abbrev S8x770x2048 : Shape := ⟨3, ![8, 770, 2048]⟩
abbrev S2048x770 : Shape := ⟨2, ![2048, 770]⟩
abbrev S770x2048 : Shape := ⟨2, ![770, 2048]⟩
abbrev S8x770x256 : Shape := ⟨3, ![8, 770, 256]⟩
abbrev S770x256 : Shape := ⟨2, ![770, 256]⟩
abbrev S1x770x256 : Shape := ⟨3, ![1, 770, 256]⟩

abbrev nBuf : Space → Nat
  | .hbm => 11
  | .vmem => 16
  | .smem => 0
  | _ => 0

abbrev bufTy : (tb : Table) → Fin (tcTables nBuf tb) → BufTy
  | .hbm, ⟨0, _⟩ => ⟨S8x770x2048, .bf16⟩
  | .hbm, ⟨1, _⟩ => ⟨S2048x770, .f32⟩
  | .hbm, ⟨2, _⟩ => ⟨S2048x770, .f32⟩
  | .hbm, ⟨3, _⟩ => ⟨S2048x770, .f32⟩
  | .hbm, ⟨4, _⟩ => ⟨S770x2048, .f32⟩
  | .hbm, ⟨5, _⟩ => ⟨S770x2048, .f32⟩
  | .hbm, ⟨6, _⟩ => ⟨S770x2048, .f32⟩
  | .hbm, ⟨7, _⟩ => ⟨S770x2048, .f32⟩
  | .hbm, ⟨8, _⟩ => ⟨S770x2048, .f32⟩
  | .hbm, ⟨9, _⟩ => ⟨S770x2048, .f32⟩
  | .hbm, ⟨10, _⟩ => ⟨S770x2048, .f32⟩
  | .local _ .vmem, ⟨0, _⟩ => ⟨S8x770x256, .bf16⟩
  | .local _ .vmem, ⟨1, _⟩ => ⟨S8x770x256, .bf16⟩
  | .local _ .vmem, ⟨2, _⟩ => ⟨S770x256, .f32⟩
  | .local _ .vmem, ⟨3, _⟩ => ⟨S770x256, .f32⟩
  | .local _ .vmem, ⟨4, _⟩ => ⟨S770x256, .f32⟩
  | .local _ .vmem, ⟨5, _⟩ => ⟨S770x256, .f32⟩
  | .local _ .vmem, ⟨6, _⟩ => ⟨S770x256, .f32⟩
  | .local _ .vmem, ⟨7, _⟩ => ⟨S770x256, .f32⟩
  | .local _ .vmem, ⟨8, _⟩ => ⟨S770x256, .f32⟩
  | .local _ .vmem, ⟨9, _⟩ => ⟨S770x256, .f32⟩
  | .local _ .vmem, ⟨10, _⟩ => ⟨S770x256, .f32⟩
  | .local _ .vmem, ⟨11, _⟩ => ⟨S770x256, .f32⟩
  | .local _ .vmem, ⟨12, _⟩ => ⟨S770x256, .f32⟩
  | .local _ .vmem, ⟨13, _⟩ => ⟨S770x256, .f32⟩
  | .local _ .vmem, ⟨14, _⟩ => ⟨S770x256, .f32⟩
  | .local _ .vmem, ⟨15, _⟩ => ⟨S770x256, .f32⟩
  | _, _ => ⟨S8x770x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x770x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S770x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S770x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S770x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S770x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S770x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S770x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S770x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamHybInRefIdeal.lean ====
abbrev S8x770x2048 : Shape := ⟨3, ![8, 770, 2048]⟩
abbrev S2048x770 : Shape := ⟨2, ![2048, 770]⟩
abbrev S_ : Shape := ⟨0, ![]⟩
abbrev S770x2048 : Shape := ⟨2, ![770, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x770x2048, .bf16⟩
  | .hbm, ⟨1, _⟩ => ⟨S2048x770, .f32⟩
  | .hbm, ⟨2, _⟩ => ⟨S2048x770, .f32⟩
  | .hbm, ⟨3, _⟩ => ⟨S2048x770, .f32⟩
  | .hbm, ⟨4, _⟩ => ⟨S8x770x2048, .f32⟩
  | .hbm, ⟨5, _⟩ => ⟨S_, .f32⟩
  | .hbm, ⟨6, _⟩ => ⟨S770x2048, .f32⟩
  | .hbm, ⟨7, _⟩ => ⟨S2048x770, .f32⟩
  | .hbm, ⟨8, _⟩ => ⟨S_, .f32⟩
  | .hbm, ⟨9, _⟩ => ⟨S2048x770, .f32⟩
  | .hbm, ⟨10, _⟩ => ⟨S2048x770, .f32⟩
  | .hbm, ⟨11, _⟩ => ⟨S_, .f32⟩
  | .hbm, ⟨12, _⟩ => ⟨S2048x770, .f32⟩
  | .hbm, ⟨13, _⟩ => ⟨S2048x770, .f32⟩
  | .hbm, ⟨14, _⟩ => ⟨S2048x770, .f32⟩
  | .hbm, ⟨15, _⟩ => ⟨S_, .f32⟩
  | .hbm, ⟨16, _⟩ => ⟨S2048x770, .f32⟩
  | .hbm, ⟨17, _⟩ => ⟨S2048x770, .f32⟩
  | .hbm, ⟨18, _⟩ => ⟨S2048x770, .f32⟩
  | .hbm, ⟨19, _⟩ => ⟨S_, .f32⟩
  | .hbm, ⟨20, _⟩ => ⟨S2048x770, .f32⟩
  | .hbm, ⟨21, _⟩ => ⟨S2048x770, .f32⟩
  | .hbm, ⟨22, _⟩ => ⟨S2048x770, .f32⟩
  | .hbm, ⟨23, _⟩ => ⟨S_, .f32⟩
  | .hbm, ⟨24, _⟩ => ⟨S2048x770, .f32⟩
  | .hbm, ⟨25, _⟩ => ⟨S2048x770, .f32⟩
  | .hbm, ⟨26, _⟩ => ⟨S_, .f32⟩
  | .hbm, ⟨27, _⟩ => ⟨S2048x770, .f32⟩
  | .hbm, ⟨28, _⟩ => ⟨S2048x770, .f32⟩
  | .hbm, ⟨29, _⟩ => ⟨S2048x770, .f32⟩
  | .hbm, ⟨30, _⟩ => ⟨S_, .f32⟩
  | .hbm, ⟨31, _⟩ => ⟨S2048x770, .f32⟩
  | .hbm, ⟨32, _⟩ => ⟨S2048x770, .f32⟩
  | .hbm, ⟨33, _⟩ => ⟨S2048x770, .f32⟩
  | .hbm, ⟨34, _⟩ => ⟨S_, .f32⟩
  | .hbm, ⟨35, _⟩ => ⟨S2048x770, .f32⟩
  | .hbm, ⟨36, _⟩ => ⟨S2048x770, .f32⟩
  | .hbm, ⟨37, _⟩ => ⟨S2048x770, .f32⟩
  | .hbm, ⟨38, _⟩ => ⟨S_, .f32⟩
  | .hbm, ⟨39, _⟩ => ⟨S2048x770, .f32⟩
  | .hbm, ⟨40, _⟩ => ⟨S2048x770, .f32⟩
  | .hbm, ⟨41, _⟩ => ⟨S770x2048, .f32⟩
  | .hbm, ⟨42, _⟩ => ⟨S770x2048, .f32⟩
  | .hbm, ⟨43, _⟩ => ⟨S770x2048, .f32⟩
  | .hbm, ⟨44, _⟩ => ⟨S770x2048, .f32⟩
  | _, _ => ⟨S8x770x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamMixOut.lean ====
abbrev S8x256x2048 : Shape := ⟨3, ![8, 256, 2048]⟩
abbrev S256x2048 : Shape := ⟨2, ![256, 2048]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamMixOutRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGdnConv.lean ====
abbrev S8x4x384 : Shape := ⟨3, ![8, 4, 384]⟩
abbrev S4x384 : Shape := ⟨2, ![4, 384]⟩
abbrev S8x4x128 : Shape := ⟨3, ![8, 4, 128]⟩
abbrev S4x128 : Shape := ⟨2, ![4, 128]⟩
abbrev S1x4x128 : Shape := ⟨3, ![1, 4, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S8x4x128, .f32⟩
  | .local _ .vmem, ⟨1, _⟩ => ⟨S8x4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | .local _ .vmem, ⟨8, _⟩ => ⟨S4x128, .f32⟩
  | .local _ .vmem, ⟨9, _⟩ => ⟨S4x128, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S4x128, .f32⟩
  | .local _ .vmem, ⟨15, _⟩ => ⟨S4x128, .f32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGdnConvRefIdeal.lean ====
abbrev S8x4x384 : Shape := ⟨3, ![8, 4, 384]⟩
abbrev S4x384 : Shape := ⟨2, ![4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S_, .f32⟩
  | .hbm, ⟨7, _⟩ => ⟨S4x384, .f32⟩
  | .hbm, ⟨8, _⟩ => ⟨S4x384, .f32⟩
  | .hbm, ⟨9, _⟩ => ⟨S_, .f32⟩
  | .hbm, ⟨10, _⟩ => ⟨S4x384, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | _, _ => ⟨S8x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamLruConv.lean ====
abbrev S8x4x128 : Shape := ⟨3, ![8, 4, 128]⟩
abbrev S4x128 : Shape := ⟨2, ![4, 128]⟩
abbrev S1x4x128 : Shape := ⟨3, ![1, 4, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .local _ .vmem, ⟨0, _⟩ => ⟨S8x4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S8x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamLruConvRefIdeal.lean ====
abbrev S8x4x128 : Shape := ⟨3, ![8, 4, 128]⟩
abbrev S4x128 : Shape := ⟨2, ![4, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S_, .f32⟩
  | .hbm, ⟨7, _⟩ => ⟨S4x128, .f32⟩
  | .hbm, ⟨8, _⟩ => ⟨S4x128, .f32⟩
  | .hbm, ⟨9, _⟩ => ⟨S_, .f32⟩
  | .hbm, ⟨10, _⟩ => ⟨S4x128, .f32⟩
  | .hbm, ⟨11, _⟩ => ⟨S4x128, .f32⟩
  | .hbm, ⟨12, _⟩ => ⟨S4x128, .f32⟩
  | .hbm, ⟨13, _⟩ => ⟨S_, .f32⟩
  | .hbm, ⟨14, _⟩ => ⟨S4x128, .f32⟩
  | .hbm, ⟨15, _⟩ => ⟨S4x128, .f32⟩
  | .hbm, ⟨16, _⟩ => ⟨S4x128, .f32⟩
  | .hbm, ⟨17, _⟩ => ⟨S_, .f32⟩
  | .hbm, ⟨18, _⟩ => ⟨S4x128, .f32⟩
  | .hbm, ⟨19, _⟩ => ⟨S4x128, .f32⟩
  | .hbm, ⟨20, _⟩ => ⟨S4x128, .f32⟩
  | .hbm, ⟨21, _⟩ => ⟨S_, .f32⟩
  | .hbm, ⟨22, _⟩ => ⟨S4x128, .f32⟩
  | .hbm, ⟨23, _⟩ => ⟨S4x128, .f32⟩
  | .hbm, ⟨24, _⟩ => ⟨S_, .f32⟩
  | .hbm, ⟨25, _⟩ => ⟨S4x128, .f32⟩
  | .hbm, ⟨26, _⟩ => ⟨S4x128, .f32⟩
  | .hbm, ⟨27, _⟩ => ⟨S4x128, .f32⟩
  | .hbm, ⟨28, _⟩ => ⟨S_, .f32⟩
  | .hbm, ⟨29, _⟩ => ⟨S4x128, .f32⟩
  | .hbm, ⟨30, _⟩ => ⟨S4x128, .f32⟩
  | .hbm, ⟨31, _⟩ => ⟨S4x128, .f32⟩
  | .hbm, ⟨32, _⟩ => ⟨S_, .f32⟩
  | .hbm, ⟨33, _⟩ => ⟨S4x128, .f32⟩
  | .hbm, ⟨34, _⟩ => ⟨S4x128, .f32⟩
  | .hbm, ⟨35, _⟩ => ⟨S4x128, .f32⟩
  | .hbm, ⟨36, _⟩ => ⟨S_, .f32⟩
  | .hbm, ⟨37, _⟩ => ⟨S4x128, .f32⟩
  | .hbm, ⟨38, _⟩ => ⟨S4x128, .f32⟩
  | _, _ => ⟨S8x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSwaIn.lean ====
abbrev S8x384x2048 : Shape := ⟨3, ![8, 384, 2048]⟩
abbrev S2048x384 : Shape := ⟨2, ![2048, 384]⟩
abbrev S384x2048 : Shape := ⟨2, ![384, 2048]⟩
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 11
  | .vmem => 16
  | .smem => 0
  | _ => 0

abbrev bufTy : (tb : Table) → Fin (tcTables nBuf tb) → BufTy
  | .hbm, ⟨0, _⟩ => ⟨S8x384x2048, .bf16⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S384x2048, .f32⟩
  | .hbm, ⟨5, _⟩ => ⟨S384x2048, .f32⟩
  | .hbm, ⟨6, _⟩ => ⟨S384x2048, .f32⟩
  | .hbm, ⟨7, _⟩ => ⟨S384x2048, .f32⟩
  | .hbm, ⟨8, _⟩ => ⟨S384x2048, .f32⟩
  | .hbm, ⟨9, _⟩ => ⟨S384x2048, .f32⟩
  | .hbm, ⟨10, _⟩ => ⟨S384x2048, .f32⟩
  | .local _ .vmem, ⟨0, _⟩ => ⟨S8x128x512, .bf16⟩
  | .local _ .vmem, ⟨1, _⟩ => ⟨S8x128x512, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S8x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSwaInRefIdeal.lean ====
abbrev S8x384x2048 : Shape := ⟨3, ![8, 384, 2048]⟩
abbrev S2048x384 : Shape := ⟨2, ![2048, 384]⟩
abbrev S_ : Shape := ⟨0, ![]⟩
abbrev S384x2048 : Shape := ⟨2, ![384, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x384x2048, .bf16⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S8x384x2048, .f32⟩
  | .hbm, ⟨5, _⟩ => ⟨S_, .f32⟩
  | .hbm, ⟨6, _⟩ => ⟨S384x2048, .f32⟩
  | .hbm, ⟨7, _⟩ => ⟨S2048x384, .f32⟩
  | .hbm, ⟨8, _⟩ => ⟨S_, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S2048x384, .f32⟩
  | .hbm, ⟨23, _⟩ => ⟨S_, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | .hbm, ⟨37, _⟩ => ⟨S2048x384, .f32⟩
  | .hbm, ⟨38, _⟩ => ⟨S_, .f32⟩
  | .hbm, ⟨39, _⟩ => ⟨S2048x384, .f32⟩
  | .hbm, ⟨40, _⟩ => ⟨S2048x384, .f32⟩
  | .hbm, ⟨41, _⟩ => ⟨S384x2048, .f32⟩
  | .hbm, ⟨42, _⟩ => ⟨S384x2048, .f32⟩
  | .hbm, ⟨43, _⟩ => ⟨S384x2048, .f32⟩
  | .hbm, ⟨44, _⟩ => ⟨S384x2048, .f32⟩
  | _, _ => ⟨S8x384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamRep.lean ====
abbrev S8x576x1024 : Shape := ⟨3, ![8, 576, 1024]⟩
abbrev S576x1024 : Shape := ⟨2, ![576, 1024]⟩
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x576x1024, .f32⟩
  | .hbm, ⟨1, _⟩ => ⟨S576x1024, .f32⟩
  | .hbm, ⟨2, _⟩ => ⟨S576x1024, .f32⟩
  | .hbm, ⟨3, _⟩ => ⟨S576x1024, .f32⟩
  | .hbm, ⟨4, _⟩ => ⟨S576x1024, .f32⟩
  | .hbm, ⟨5, _⟩ => ⟨S576x1024, .f32⟩
  | .hbm, ⟨6, _⟩ => ⟨S576x1024, .f32⟩
  | .hbm, ⟨7, _⟩ => ⟨S576x1024, .f32⟩
  | .local _ .vmem, ⟨0, _⟩ => ⟨S8x64x512, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | _, _ => ⟨S8x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![9, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRepRefIdeal.lean ====
abbrev S8x576x1024 : Shape := ⟨3, ![8, 576, 1024]⟩
abbrev S576x1024 : Shape := ⟨2, ![576, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x576x1024, .f32⟩
  | .hbm, ⟨1, _⟩ => ⟨S576x1024, .f32⟩
  | .hbm, ⟨2, _⟩ => ⟨S576x1024, .f32⟩
  | .hbm, ⟨3, _⟩ => ⟨S576x1024, .f32⟩
  | .hbm, ⟨4, _⟩ => ⟨S_, .f32⟩
  | .hbm, ⟨5, _⟩ => ⟨S576x1024, .f32⟩
  | .hbm, ⟨6, _⟩ => ⟨S_, .f32⟩
  | .hbm, ⟨7, _⟩ => ⟨S576x1024, .f32⟩
  | .hbm, ⟨8, _⟩ => ⟨S576x1024, .f32⟩
  | .hbm, ⟨9, _⟩ => ⟨S_, .f32⟩
  | .hbm, ⟨10, _⟩ => ⟨S576x1024, .f32⟩
  | .hbm, ⟨11, _⟩ => ⟨S576x1024, .f32⟩
  | .hbm, ⟨12, _⟩ => ⟨S576x1024, .f32⟩
  | .hbm, ⟨13, _⟩ => ⟨S_, .f32⟩
  | .hbm, ⟨14, _⟩ => ⟨S576x1024, .f32⟩
  | .hbm, ⟨15, _⟩ => ⟨S576x1024, .f32⟩
  | .hbm, ⟨16, _⟩ => ⟨S576x1024, .f32⟩
  | .hbm, ⟨17, _⟩ => ⟨S_, .f32⟩
  | .hbm, ⟨18, _⟩ => ⟨S576x1024, .f32⟩
  | .hbm, ⟨19, _⟩ => ⟨S576x1024, .f32⟩
  | .hbm, ⟨20, _⟩ => ⟨S576x1024, .f32⟩
  | .hbm, ⟨21, _⟩ => ⟨S_, .f32⟩
  | .hbm, ⟨22, _⟩ => ⟨S576x1024, .f32⟩
  | .hbm, ⟨23, _⟩ => ⟨S576x1024, .f32⟩
  | .hbm, ⟨24, _⟩ => ⟨S_, .f32⟩
  | .hbm, ⟨25, _⟩ => ⟨S576x1024, .f32⟩
  | .hbm, ⟨26, _⟩ => ⟨S576x1024, .f32⟩
  | .hbm, ⟨27, _⟩ => ⟨S576x1024, .f32⟩
  | .hbm, ⟨28, _⟩ => ⟨S_, .f32⟩
  | .hbm, ⟨29, _⟩ => ⟨S576x1024, .f32⟩
  | .hbm, ⟨30, _⟩ => ⟨S576x1024, .f32⟩
  | .hbm, ⟨31, _⟩ => ⟨S576x1024, .f32⟩
  | .hbm, ⟨32, _⟩ => ⟨S_, .f32⟩
  | .hbm, ⟨33, _⟩ => ⟨S576x1024, .f32⟩
  | .hbm, ⟨34, _⟩ => ⟨S576x1024, .f32⟩
  | .hbm, ⟨35, _⟩ => ⟨S576x1024, .f32⟩
  | .hbm, ⟨36, _⟩ => ⟨S_, .f32⟩
  | .hbm, ⟨37, _⟩ => ⟨S576x1024, .f32⟩
  | .hbm, ⟨38, _⟩ => ⟨S576x1024, .f32⟩
  | _, _ => ⟨S8x576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== NormFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMemFwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemFwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== NormMemBwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormMemBwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== LossGrad.lean ====
abbrev S8192x2048 : Shape := ⟨2, ![8192, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossGradRefIdeal.lean ====
abbrev S8192x2048 : Shape := ⟨2, ![8192, 2048]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== XattnFwd.lean ====
abbrev S8192x512 : Shape := ⟨2, ![8192, 512]⟩
abbrev S256x1024 : Shape := ⟨2, ![256, 1024]⟩
abbrev S1x128 : Shape := ⟨2, ![1, 128]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S256 : Shape := ⟨1, ![256]⟩
abbrev S256x1 : Shape := ⟨2, ![256, 1]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S8192x512, .bf16⟩
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XattnFwdRefIdeal.lean ====
abbrev S8192x512 : Shape := ⟨2, ![8192, 512]⟩
abbrev S256x1024 : Shape := ⟨2, ![256, 1024]⟩
abbrev S1x128 : Shape := ⟨2, ![1, 128]⟩
abbrev S256x512 : Shape := ⟨2, ![256, 512]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S256x512, .f32⟩
  | .hbm, ⟨5, _⟩ => ⟨S256x512, .f32⟩
  | .hbm, ⟨6, _⟩ => ⟨S8192x4x128, .f32⟩
  | .hbm, ⟨7, _⟩ => ⟨S8192x4x128, .f32⟩
  | .hbm, ⟨8, _⟩ => ⟨S_, .f32⟩
  | .hbm, ⟨9, _⟩ => ⟨S8192x4, .f32⟩
  | .hbm, ⟨10, _⟩ => ⟨S8192x4x1, .f32⟩
  | .hbm, ⟨11, _⟩ => ⟨S_, .f32⟩
  | .hbm, ⟨12, _⟩ => ⟨S8192x4x1, .f32⟩
  | .hbm, ⟨13, _⟩ => ⟨S8192x4x1, .f32⟩
  | .hbm, ⟨14, _⟩ => ⟨S_, .f32⟩
  | .hbm, ⟨15, _⟩ => ⟨S8192x4x1, .f32⟩
  | .hbm, ⟨16, _⟩ => ⟨S8192x4x1, .f32⟩
  | .hbm, ⟨17, _⟩ => ⟨S8192x4x1, .f32⟩
  | .hbm, ⟨18, _⟩ => ⟨S8192x4x128, .f32⟩
  | .hbm, ⟨19, _⟩ => ⟨S8192x4x128, .f32⟩
  | .hbm, ⟨20, _⟩ => ⟨S1x1x128, .f32⟩
  | .hbm, ⟨21, _⟩ => ⟨S8192x4x128, .f32⟩
  | .hbm, ⟨22, _⟩ => ⟨S8192x4x128, .f32⟩
  | .hbm, ⟨23, _⟩ => ⟨S256x4x128, .f32⟩
  | .hbm, ⟨24, _⟩ => ⟨S256x4x128, .f32⟩
  | .hbm, ⟨25, _⟩ => ⟨S_, .f32⟩
  | .hbm, ⟨26, _⟩ => ⟨S256x4, .f32⟩
  | .hbm, ⟨27, _⟩ => ⟨S256x4x1, .f32⟩
  | .hbm, ⟨28, _⟩ => ⟨S_, .f32⟩
  | .hbm, ⟨29, _⟩ => ⟨S256x4x1, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S256x4x1, .f32⟩
  | .hbm, ⟨35, _⟩ => ⟨S256x4x128, .f32⟩
  | .hbm, ⟨36, _⟩ => ⟨S256x4x128, .f32⟩
  | .hbm, ⟨37, _⟩ => ⟨S1x1x128, .f32⟩
  | .hbm, ⟨38, _⟩ => ⟨S256x4x128, .f32⟩
  | .hbm, ⟨39, _⟩ => ⟨S256x4x128, .f32⟩
  | .hbm, ⟨40, _⟩ => ⟨S256x4x128, .f32⟩
  | .hbm, ⟨41, _⟩ => ⟨S4x8192x256, .f32⟩
  | .hbm, ⟨42, _⟩ => ⟨S_, .f32⟩
  | .hbm, ⟨43, _⟩ => ⟨S4x8192x256, .f32⟩
  | .hbm, ⟨44, _⟩ => ⟨S4x8192x256, .f32⟩
  | .hbm, ⟨45, _⟩ => ⟨S_, .f32⟩
  | .hbm, ⟨46, _⟩ => ⟨S4x8192, .f32⟩
  | .hbm, ⟨47, _⟩ => ⟨S_, .f32⟩
  | .hbm, ⟨48, _⟩ => ⟨S4x8192, .f32⟩
  | .hbm, ⟨49, _⟩ => ⟨S4x8192, .f32⟩
  | .hbm, ⟨50, _⟩ => ⟨S4x8192x1, .f32⟩
  | .hbm, ⟨51, _⟩ => ⟨S4x8192x256, .f32⟩
  | .hbm, ⟨52, _⟩ => ⟨S4x8192x256, .f32⟩
  | .hbm, ⟨53, _⟩ => ⟨S4x8192x256, .f32⟩
  | .hbm, ⟨54, _⟩ => ⟨S_, .f32⟩
  | .hbm, ⟨55, _⟩ => ⟨S4x8192, .f32⟩
  | .hbm, ⟨56, _⟩ => ⟨S4x8192x1, .f32⟩
  | .hbm, ⟨57, _⟩ => ⟨S4x8192x256, .f32⟩
  | .hbm, ⟨58, _⟩ => ⟨S4x8192x256, .f32⟩
  | .hbm, ⟨59, _⟩ => ⟨S4x128x8192, .f32⟩
  | .hbm, ⟨60, _⟩ => ⟨S8192x4x128, .f32⟩
  | .hbm, ⟨61, _⟩ => ⟨S8192x512, .f32⟩
  | .hbm, ⟨62, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== FfnFwd.lean ====
abbrev S8192x11264 : Shape := ⟨2, ![8192, 11264]⟩
abbrev S3x5632 : Shape := ⟨2, ![3, 5632]⟩
abbrev S1x5632 : Shape := ⟨2, ![1, 5632]⟩
abbrev S8192x5632 : Shape := ⟨2, ![8192, 5632]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S512 : Shape := ⟨1, ![512]⟩
abbrev S504x512 : Shape := ⟨2, ![504, 512]⟩

abbrev nBuf : Space → Nat
  | .hbm => 4
  | .vmem => 12
  | .smem => 0
  | _ => 0

abbrev bufTy : (tb : Table) → Fin (tcTables nBuf tb) → BufTy
  | .hbm, ⟨0, _⟩ => ⟨S8192x11264, .f32⟩
  | .hbm, ⟨1, _⟩ => ⟨S3x5632, .f32⟩
  | .hbm, ⟨2, _⟩ => ⟨S1x5632, .f32⟩
  | .hbm, ⟨3, _⟩ => ⟨S8192x5632, .bf16⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnFwdRefIdeal.lean ====
abbrev S8192x11264 : Shape := ⟨2, ![8192, 11264]⟩
abbrev S3x5632 : Shape := ⟨2, ![3, 5632]⟩
abbrev S1x5632 : Shape := ⟨2, ![1, 5632]⟩
abbrev S8192x5632 : Shape := ⟨2, ![8192, 5632]⟩
abbrev S_ : Shape := ⟨0, ![]⟩
abbrev S2x5632 : Shape := ⟨2, ![2, 5632]⟩
abbrev S5632 : Shape := ⟨1, ![5632]⟩
abbrev S8190x5632 : Shape := ⟨2, ![8190, 5632]⟩
abbrev S8191x5632 : Shape := ⟨2, ![8191, 5632]⟩

abbrev nBuf : Space → Nat
  | .hbm => 42
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S3x5632, .f32⟩
  | .hbm, ⟨2, _⟩ => ⟨S1x5632, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S2x5632, .f32⟩
  | .hbm, ⟨7, _⟩ => ⟨S1x5632, .f32⟩
  | .hbm, ⟨8, _⟩ => ⟨S5632, .f32⟩
  | .hbm, ⟨9, _⟩ => ⟨S8190x5632, .f32⟩
  | .hbm, ⟨10, _⟩ => ⟨S8192x5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S8191x5632, .f32⟩
  | .hbm, ⟨18, _⟩ => ⟨S8192x5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== FfnBwd.lean ====
abbrev S8192x11264 : Shape := ⟨2, ![8192, 11264]⟩
abbrev S3x5632 : Shape := ⟨2, ![3, 5632]⟩
abbrev S1x5632 : Shape := ⟨2, ![1, 5632]⟩
abbrev S8192x5632 : Shape := ⟨2, ![8192, 5632]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S512 : Shape := ⟨1, ![512]⟩
abbrev S504x512 : Shape := ⟨2, ![504, 512]⟩

abbrev nBuf : Space → Nat
  | .hbm => 8
  | .vmem => 21
  | .smem => 0
  | _ => 0

abbrev bufTy : (tb : Table) → Fin (tcTables nBuf tb) → BufTy
  | .hbm, ⟨0, _⟩ => ⟨S8192x11264, .f32⟩
  | .hbm, ⟨1, _⟩ => ⟨S3x5632, .f32⟩
  | .hbm, ⟨2, _⟩ => ⟨S1x5632, .f32⟩
  | .hbm, ⟨3, _⟩ => ⟨S8192x5632, .f32⟩
  | .hbm, ⟨4, _⟩ => ⟨S8192x5632, .bf16⟩
  | .hbm, ⟨5, _⟩ => ⟨S8192x5632, .bf16⟩
  | .hbm, ⟨6, _⟩ => ⟨S3x5632, .f32⟩
  | .hbm, ⟨7, _⟩ => ⟨S1x5632, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S3x512, .f32⟩
  | .local _ .vmem, ⟨17, _⟩ => ⟨S3x512, .f32⟩
  | .local _ .vmem, ⟨18, _⟩ => ⟨S1x512, .f32⟩
  | .local _ .vmem, ⟨19, _⟩ => ⟨S1x512, .f32⟩
  | .local _ .vmem, ⟨20, _⟩ => ⟨S8x512, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c11_i32 : BitVec 32 := 11#32
  let v1 : BitVec 32 := Scalar.addi c11_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnBwdRefIdeal.lean ====
abbrev S8192x11264 : Shape := ⟨2, ![8192, 11264]⟩
abbrev S3x5632 : Shape := ⟨2, ![3, 5632]⟩
abbrev S1x5632 : Shape := ⟨2, ![1, 5632]⟩
abbrev S8192x5632 : Shape := ⟨2, ![8192, 5632]⟩
abbrev S_ : Shape := ⟨0, ![]⟩
abbrev S2x5632 : Shape := ⟨2, ![2, 5632]⟩
abbrev S5632 : Shape := ⟨1, ![5632]⟩
abbrev S8190x5632 : Shape := ⟨2, ![8190, 5632]⟩
abbrev S8191x5632 : Shape := ⟨2, ![8191, 5632]⟩

abbrev nBuf : Space → Nat
  | .hbm => 106
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S3x5632, .f32⟩
  | .hbm, ⟨2, _⟩ => ⟨S1x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S2x5632, .f32⟩
  | .hbm, ⟨8, _⟩ => ⟨S1x5632, .f32⟩
  | .hbm, ⟨9, _⟩ => ⟨S5632, .f32⟩
  | .hbm, ⟨10, _⟩ => ⟨S8190x5632, .f32⟩
  | .hbm, ⟨11, _⟩ => ⟨S8192x5632, .f32⟩
  | .hbm, ⟨12, _⟩ => ⟨S_, .f32⟩
  | .hbm, ⟨13, _⟩ => ⟨S2x5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S8191x5632, .f32⟩
  | .hbm, ⟨21, _⟩ => ⟨S8192x5632, .f32⟩
  | .hbm, ⟨22, _⟩ => ⟨S_, .f32⟩
  | .hbm, ⟨23, _⟩ => ⟨S1x5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S_, .f32⟩
  | .hbm, ⟨57, _⟩ => ⟨S5632, .f32⟩
  | .hbm, ⟨58, _⟩ => ⟨S1x5632, .f32⟩
  | .hbm, ⟨59, _⟩ => ⟨S8192x5632, .f32⟩
  | .hbm, ⟨60, _⟩ => ⟨S8192x5632, .f32⟩
  | .hbm, ⟨61, _⟩ => ⟨S8192x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S3x5632, .f32⟩
  | .hbm, ⟨70, _⟩ => ⟨S8192x5632, .f32⟩
  | .hbm, ⟨71, _⟩ => ⟨S8192x5632, .f32⟩
  | .hbm, ⟨72, _⟩ => ⟨S8192x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S8191x5632, .f32⟩
  | .hbm, ⟨80, _⟩ => ⟨S_, .f32⟩
  | .hbm, ⟨81, _⟩ => ⟨S8192x5632, .f32⟩
  | .hbm, ⟨82, _⟩ => ⟨S8192x5632, .f32⟩
  | .hbm, ⟨83, _⟩ => ⟨S1x5632, .f32⟩
  | .hbm, ⟨84, _⟩ => ⟨S_, .f32⟩
  | .hbm, ⟨85, _⟩ => ⟨S3x5632, .f32⟩
  | .hbm, ⟨86, _⟩ => ⟨S3x5632, .f32⟩
  | .hbm, ⟨87, _⟩ => ⟨S8192x5632, .f32⟩
  | .hbm, ⟨88, _⟩ => ⟨S8192x5632, .f32⟩
  | .hbm, ⟨89, _⟩ => ⟨S8192x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S_, .f32⟩
  | .hbm, ⟨94, _⟩ => ⟨S5632, .f32⟩
  | .hbm, ⟨95, _⟩ => ⟨S2x5632, .f32⟩
  | .hbm, ⟨96, _⟩ => ⟨S8190x5632, .f32⟩
  | .hbm, ⟨97, _⟩ => ⟨S_, .f32⟩
  | .hbm, ⟨98, _⟩ => ⟨S8192x5632, .f32⟩
  | .hbm, ⟨99, _⟩ => ⟨S8192x5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S8192x5632, .bf16⟩
  | .hbm, ⟨105, _⟩ => ⟨S8192x5632, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v29_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v29_1 : Ref sig .tc := ⟨.hbm, 47, rfl⟩
abbrev main_v29_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== RopeTables.lean ====
abbrev S8192 : Shape := ⟨1, ![8192]⟩
abbrev S8192x1 : Shape := ⟨2, ![8192, 1]⟩
abbrev S32 : Shape := ⟨1, ![32]⟩
abbrev S_ : Shape := ⟨0, ![]⟩
abbrev S64 : Shape := ⟨1, ![64]⟩
abbrev S1x64 : Shape := ⟨2, ![1, 64]⟩
abbrev S8192x64 : Shape := ⟨2, ![8192, 64]⟩
abbrev S512x1 : Shape := ⟨2, ![512, 1]⟩
abbrev S512x64 : Shape := ⟨2, ![512, 64]⟩

abbrev nBuf : Space → Nat
  | .hbm => 23
  | .vmem => 7
  | .smem => 0
  | _ => 0

abbrev bufTy : (tb : Table) → Fin (tcTables nBuf tb) → BufTy
  | .hbm, ⟨0, _⟩ => ⟨S8192, .i32⟩
  | .hbm, ⟨1, _⟩ => ⟨S8192, .f32⟩
  | .hbm, ⟨2, _⟩ => ⟨S8192x1, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S64, .f32⟩
  | .hbm, ⟨20, _⟩ => ⟨S1x64, .f32⟩
  | .hbm, ⟨21, _⟩ => ⟨S8192x64, .f32⟩
  | .hbm, ⟨22, _⟩ => ⟨S8192x64, .f32⟩
  | .local _ .vmem, ⟨0, _⟩ => ⟨S512x1, .f32⟩
  | .local _ .vmem, ⟨1, _⟩ => ⟨S512x1, .f32⟩
  | .local _ .vmem, ⟨2, _⟩ => ⟨S1x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeTablesRefIdeal.lean ====
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩

abbrev nBuf : Space → Nat
  | .hbm => 27
  | .vmem => 0
  | .smem => 0
  | _ => 0

abbrev bufTy : (tb : Table) → Fin (tcTables nBuf tb) → BufTy
  | .hbm, ⟨0, _⟩ => ⟨S8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x64, .f32⟩
  | .hbm, ⟨26, _⟩ => ⟨S8192x64, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Xattn.Spec.lean ====
/- The mathematics of the cross-attention's gradient for one head, row by row, on extended reals.

   `x` is a row of a query or key block, `g` the gain of its root-mean-square norm, `u` a normalised query row, `K` the
   normalised keys, `V` the values, `o` the cotangent's row. The same operations in the same order as automatic
   differentiation leaves them, so that both the kernel's blocks and the reference's arrays read as these functions. -/
module

public import Idealize.ShloMosaic.PureOps.Ideal

@[expose] public section

noncomputable section

namespace Cert.XattnSpec

open Idealize.ShloMosaic

/-- The width 128 of a head, as the printed constant reads. -/
def cw : EReal := Ideal.ofBits .f32 0x43000000#32
/-- The norm's epsilon. -/
def ceps : EReal := Ideal.ofBits .f32 0x358637BD#32
/-- The constant -1/2 of the derivative of the reciprocal square root. -/
def cnh : EReal := Ideal.ofBits .f32 0xBF000000#32
/-- The softmax's scale. -/
def csc : EReal := Ideal.ofBits .f32 0x3DB504F3#32

/-- The mean square of a row plus epsilon. -/
def nv (x : Fin 128 → EReal) : EReal := Ideal.div (∑ d, x d * x d) cw + ceps
/-- Its reciprocal square root. -/
def nr (x : Fin 128 → EReal) : EReal := Ideal.rsqrt (nv x)
/-- The derivative of the reciprocal square root. -/
def nk (x : Fin 128 → EReal) : EReal := cnh * Ideal.div (nr x) (nv x)
/-- The row over its root mean square, before the gain. -/
def nh (x : Fin 128 → EReal) (d : Fin 128) : EReal := x d * nr x
/-- The normalised row. -/
def rn (x g : Fin 128 → EReal) (d : Fin 128) : EReal := nh x d * g d
/-- The coefficient of the row in the norm's gradient. -/
def rc (x g y : Fin 128 → EReal) : EReal := Ideal.div ((∑ d, x d * (y d * g d)) * nk x) cw
/-- The norm's gradient in its row, for the cotangent `y`. -/
def rb (x g y : Fin 128 → EReal) (d : Fin 128) : EReal := y d * g d * nr x + x d * rc x g y + rc x g y * x d

/-- The scaled score of a query row and a key. -/
def sc (u : Fin 128 → EReal) (K : Fin 256 → Fin 128 → EReal) (k : Fin 256) : EReal := (∑ d, u d * K k d) * csc
/-- The largest score. -/
def mx (u : Fin 128 → EReal) (K : Fin 256 → Fin 128 → EReal) : EReal := Finset.univ.fold max ⊥ fun k => sc u K k
/-- The exponential of a score less the largest. -/
def ex (u : Fin 128 → EReal) (K : Fin 256 → Fin 128 → EReal) (k : Fin 256) : EReal := Ideal.exp (sc u K k - mx u K)
/-- The softmax's denominator. -/
def ls (u : Fin 128 → EReal) (K : Fin 256 → Fin 128 → EReal) : EReal := ∑ k, ex u K k
/-- The softmax. -/
def pr (u : Fin 128 → EReal) (K : Fin 256 → Fin 128 → EReal) (k : Fin 256) : EReal := Ideal.div (ex u K k) (ls u K)
/-- The softmax's cotangent. -/
def ct (V : Fin 256 → Fin 128 → EReal) (o : Fin 128 → EReal) (k : Fin 256) : EReal := ∑ d, o d * V k d
/-- The cotangent of the softmax's denominator. -/
def lb (u : Fin 128 → EReal) (K V : Fin 256 → Fin 128 → EReal) (o : Fin 128 → EReal) : EReal :=
  -∑ k, ct V o k * Ideal.div 1 (ls u K * ls u K) * ex u K k
/-- The scores' gradient. -/
def ds (u : Fin 128 → EReal) (K V : Fin 256 → Fin 128 → EReal) (o : Fin 128 → EReal) (k : Fin 256) : EReal :=
  (Ideal.div (ct V o k) (ls u K) + lb u K V o) * ex u K k * csc
/-- The gradient of the normalised query row. -/
def dqh (u : Fin 128 → EReal) (K V : Fin 256 → Fin 128 → EReal) (o : Fin 128 → EReal) (d : Fin 128) : EReal :=
  ∑ k, ds u K V o k * K k d

end Cert.XattnSpec

end
-- ==== Proof.Xattn.Tile.lean ====
/- One grid point of the kernel, read at an index: the gradient of a tile of 512 query rows of one head.

   Each value of the body is a row function of Proof/Xattn/Spec.lean at the tile's rows. The body's values are composed
   here as the body composes them (`tDq`, `tDk`, `tDv`, `tDqn`, `tDkn`: what a tile adds to each result). -/
module

public import proofs.«01_k».proof.Proof.Gen.XattnIdeal.Skeleton
public import proofs.«01_k».proof.Proof.Xattn.Spec
public import Idealize.ShloMosaic.Lib.Pointwise

@[expose] public section

set_option maxRecDepth 16384

noncomputable section

namespace Cert.XattnTile

open Cert.XattnIdeal Cert.XattnIdeal.Gen Cert.XattnSpec Idealize.ShloMosaic

/-- The rows of a block. -/
abbrev rows {n w : ℕ} {φ : FTy} (v : FVec Ideal ⟨2, ![n, w]⟩ φ) : Fin n → Fin w → EReal := fun r d => v (ix2 r d)

theorem bot_bits : Ideal.ofBits .f32 0xFF800000#32 = ⊥ := by simp [Ideal.ofBits, Ideal.ieee]

section Blocks

variable (q o : FVec Ideal S512x128 .f32) (k v : FVec Ideal S256x128 .f32) (g h : FVec Ideal S1x128 .f32)

theorem pay9_apply (r : Fin 512) (z : Fin 1) : k0_pay9 (F := Ideal) q (ix2 r z) = nv (rows q r) := by
  pointwise [k0_pay9]; rfl

theorem pay10_apply (r : Fin 512) (z : Fin 1) : k0_pay10 (F := Ideal) q (ix2 r z) = nr (rows q r) := by
  pointwise [k0_pay10]; rw [pay9_apply]; rfl

theorem pay11_apply (r : Fin 512) (z : Fin 1) : k0_pay11 (F := Ideal) q (ix2 r z) = nk (rows q r) := by
  pointwise [k0_pay11]; rw [pay9_apply, pay10_apply]; rfl

theorem pay12_apply (r : Fin 512) (d : Fin 128) : k0_pay12 (F := Ideal) q (ix2 r d) = nh (rows q r) d := by
  pointwise [k0_pay12]; rw [pay10_apply]; rfl

theorem pay13_apply (r : Fin 512) (d : Fin 128) : k0_pay13 (F := Ideal) q g (ix2 r d) = rn (rows q r) (rows g 0) d := by
  pointwise [k0_pay13]; rw [pay12_apply]; rfl

/-- The keys' mean squares plus epsilon, as the body cuts them. -/
theorem pay16_apply (r : Fin 256) (z : Fin 1) : k0_pay16 (F := Ideal) (k0_pay14 k) k0_pay15 (ix2 r z) = nv (rows k r) := by
  pointwise [k0_pay16, k0_pay14, k0_pay15]; rfl

theorem pay17_apply (r : Fin 256) (z : Fin 1) : k0_pay17 (F := Ideal) (k0_pay14 k) k0_pay15 (ix2 r z) = nr (rows k r) := by
  pointwise [k0_pay17]; rw [pay16_apply]; rfl

theorem pay18_apply (r : Fin 256) (z : Fin 1) : k0_pay18 (F := Ideal) (k0_pay14 k) k0_pay15 (ix2 r z) = nk (rows k r) := by
  pointwise [k0_pay18]; rw [pay16_apply, pay17_apply]; rfl

theorem pay19_apply (r : Fin 256) (d : Fin 128) : k0_pay19 (F := Ideal) k (k0_pay14 k) k0_pay15 (ix2 r d) = nh (rows k r) d := by
  pointwise [k0_pay19]; rw [pay17_apply]; rfl

theorem pay20_apply (r : Fin 256) (d : Fin 128) :
    k0_pay20 (F := Ideal) k h (k0_pay14 k) k0_pay15 (ix2 r d) = rn (rows k r) (rows h 0) d := by
  pointwise [k0_pay20]; rw [pay19_apply]; rfl

end Blocks

section Softmax

variable (u o : FVec Ideal S512x128 .f32) (k v : FVec Ideal S256x128 .f32) (h : FVec Ideal S1x128 .f32)
  (a b : FVec Ideal S256x1 .f32)

theorem pay21_apply (r : Fin 512) (z : Fin 256) :
    k0_pay21 (F := Ideal) k h u a b (ix2 r z) = ex (rows u r) (rows (k0_pay20 (F := Ideal) k h a b)) z := by
  pointwise [k0_pay21]; rw [bot_bits]; rfl

theorem pay22_apply (r : Fin 512) (z : Fin 1) :
    k0_pay22 (F := Ideal) k h u a b (ix2 r z) = ls (rows u r) (rows (k0_pay20 (F := Ideal) k h a b)) := by
  pointwise [k0_pay22]; simp only [pay21_apply]; rfl

theorem pay23_apply (z : Fin 256) (d : Fin 128) :
    k0_pay23 (F := Ideal) k h u a b o (ix2 z d) = ∑ r : Fin 512, pr (rows u r) (rows (k0_pay20 (F := Ideal) k h a b)) z * rows o r d := by
  pointwise [k0_pay23]; simp only [pay21_apply, pay22_apply]; rfl

theorem pay24_apply (r : Fin 512) (z : Fin 256) :
    k0_pay25 (F := Ideal) (k0_pay24 k v h u a b o) (ix2 r z) = ds (rows u r) (rows (k0_pay20 (F := Ideal) k h a b)) (rows v) (rows o r) z := by
  pointwise [k0_pay25, k0_pay24]; simp only [pay21_apply, pay22_apply, Fin.sum_univ_one]
  rw [zero_sub]
  rfl

end Softmax

section Gradients

variable (q u o : FVec Ideal S512x128 .f32) (k v w : FVec Ideal S256x128 .f32) (g h : FVec Ideal S1x128 .f32)
  (e : FVec Ideal S512x256 .f32)

theorem pay26_apply (r : Fin 512) (d : Fin 128) :
    k0_pay26 (F := Ideal) w e (ix2 r d) = ∑ z : Fin 256, k0_pay25 e (ix2 r z) * rows w z d := by
  pointwise [k0_pay26]

theorem pay27_apply (z : Fin 256) (d : Fin 128) :
    k0_pay27 (F := Ideal) u e (ix2 z d) = ∑ r : Fin 512, k0_pay25 e (ix2 r z) * rows u r d := by
  pointwise [k0_pay27]

theorem pay28_apply (z : Fin 1) (d : Fin 128) :
    k0_pay28 (F := Ideal) u w e (ix2 z d) = ∑ m : Fin 256, rows w m d * rows (k0_pay27 (F := Ideal) u e) m d := by
  pointwise [k0_pay28]

theorem pay29_apply (m : Fin 256) (d : Fin 128) :
    k0_pay29 (F := Ideal) k h u (k0_pay17 (k0_pay14 k) k0_pay15) (k0_pay18 (k0_pay14 k) k0_pay15) e (ix2 m d)
      = rb (rows k m) (rows h 0) (rows (k0_pay27 (F := Ideal) u e) m) d := by
  pointwise [k0_pay29]; simp only [pay17_apply, pay18_apply, Fin.sum_univ_one]; rfl

theorem pay30_apply (z : Fin 1) (d : Fin 128) :
    k0_pay30 (F := Ideal) u w e (ix2 z d) = ∑ r : Fin 512, rows u r d * rows (k0_pay26 (F := Ideal) w e) r d := by
  pointwise [k0_pay30]

theorem pay31_apply (r : Fin 512) (d : Fin 128) :
    k0_pay31 (F := Ideal) q g (k0_pay10 q) (k0_pay11 q) w e (ix2 r d) = rb (rows q r) (rows g 0) (rows (k0_pay26 (F := Ideal) w e) r) d := by
  pointwise [k0_pay31]; simp only [pay10_apply, pay11_apply, Fin.sum_univ_one]; rfl

end Gradients

/-! ## What a grid point computes, composed -/

section Tile

variable (q : FVec Ideal S512x128 .f32) (k v : FVec Ideal S256x128 .f32) (g h : FVec Ideal S1x128 .f32)
  (o : FVec Ideal S512x128 .f32)

/-- The normalised keys. -/
abbrev tK : FVec Ideal S256x128 .f32 := k0_pay20 k h (k0_pay14 k) k0_pay15
/-- The scores' gradient before the scale. -/
abbrev tE : FVec Ideal S512x256 .f32 := k0_pay24 k v h (k0_pay13 q g) (k0_pay14 k) k0_pay15 o
/-- The tile of the query gradient. -/
abbrev tDq : FVec Ideal S512x128 .bf16 := k0_pay31 q g (k0_pay10 q) (k0_pay11 q) (tK k h) (tE q k v g h o)
/-- What the tile adds to the key gradient. -/
abbrev tDk : FVec Ideal S256x128 .f32 :=
  k0_pay29 k h (k0_pay13 q g) (k0_pay17 (k0_pay14 k) k0_pay15) (k0_pay18 (k0_pay14 k) k0_pay15) (tE q k v g h o)
/-- What the tile adds to the value gradient. -/
abbrev tDv : FVec Ideal S256x128 .f32 := k0_pay23 k h (k0_pay13 q g) (k0_pay14 k) k0_pay15 o
/-- What the tile adds to the gradient of the query norm's gain. -/
abbrev tDqn : FVec Ideal S1x128 .f32 := k0_pay30 (k0_pay12 q) (tK k h) (tE q k v g h o)
/-- What the tile adds to the gradient of the key norm's gain. -/
abbrev tDkn : FVec Ideal S1x128 .f32 :=
  k0_pay28 (k0_pay13 q g) (k0_pay19 k (k0_pay14 k) k0_pay15) (tE q k v g h o)

/-- The normalised rows of a block. -/
abbrev rnRows {n : ℕ} (x : Fin n → Fin 128 → EReal) (g : Fin 128 → EReal) : Fin n → Fin 128 → EReal := fun r => rn (x r) g

theorem rows_tK : rows (tK k h) = rnRows (rows k) (rows h 0) :=
  funext fun m => funext fun d => pay20_apply k h m d

theorem rows_tU : rows (k0_pay13 (F := Ideal) q g) = rnRows (rows q) (rows g 0) :=
  funext fun m => funext fun d => pay13_apply q g m d

/-- The tile's scores' gradient, row by row. -/
theorem tE_apply (r : Fin 512) (z : Fin 256) :
    k0_pay25 (F := Ideal) (tE q k v g h o) (ix2 r z)
      = ds (rn (rows q r) (rows g 0)) (rnRows (rows k) (rows h 0)) (rows v) (rows o r) z := by
  refine (pay24_apply ..).trans ?_; rw [rows_tU, ← rows_tK]

theorem tDqh_apply (r : Fin 512) (d : Fin 128) :
    k0_pay26 (F := Ideal) (tK k h) (tE q k v g h o) (ix2 r d)
      = dqh (rn (rows q r) (rows g 0)) (rnRows (rows k) (rows h 0)) (rows v) (rows o r) d := by
  rw [pay26_apply, rows_tK]; simp only [tE_apply]; rfl

theorem tDq_apply (r : Fin 512) (d : Fin 128) :
    tDq q k v g h o (ix2 r d) = rb (rows q r) (rows g 0)
      (dqh (rn (rows q r) (rows g 0)) (rnRows (rows k) (rows h 0)) (rows v) (rows o r)) d := by
  refine (pay31_apply ..).trans ?_; congr 1; funext d'; exact tDqh_apply q k v g h o r d'

theorem tDqn_apply (z : Fin 1) (d : Fin 128) :
    tDqn q k v g h o (ix2 z d) = ∑ r : Fin 512, nh (rows q r) d
      * dqh (rn (rows q r) (rows g 0)) (rnRows (rows k) (rows h 0)) (rows v) (rows o r) d := by
  refine (pay30_apply ..).trans ?_; simp only [rows, pay12_apply, tDqh_apply]

theorem tDv_apply (m : Fin 256) (d : Fin 128) :
    tDv q k g h o (ix2 m d)
      = ∑ r : Fin 512, pr (rn (rows q r) (rows g 0)) (rnRows (rows k) (rows h 0)) m * rows o r d := by
  refine (pay23_apply ..).trans ?_; rw [rows_tU, ← rows_tK]

/-- The tile's part of the normalised keys' gradient. -/
theorem tDkh_apply (m : Fin 256) (d : Fin 128) :
    k0_pay27 (F := Ideal) (k0_pay13 q g) (tE q k v g h o) (ix2 m d)
      = ∑ r : Fin 512, ds (rn (rows q r) (rows g 0)) (rnRows (rows k) (rows h 0)) (rows v) (rows o r) m
          * rn (rows q r) (rows g 0) d := by
  rw [pay27_apply, rows_tU]; simp only [tE_apply]

theorem tDk_apply (m : Fin 256) (d : Fin 128) :
    tDk q k v g h o (ix2 m d) = rb (rows k m) (rows h 0) (fun d' => ∑ r : Fin 512,
      ds (rn (rows q r) (rows g 0)) (rnRows (rows k) (rows h 0)) (rows v) (rows o r) m
          * rn (rows q r) (rows g 0) d') d := by
  refine (pay29_apply ..).trans ?_; congr 1; funext d'; exact tDkh_apply q k v g h o m d'

theorem tDkn_apply (z : Fin 1) (d : Fin 128) :
    tDkn q k v g h o (ix2 z d) = ∑ m : Fin 256, nh (rows k m) d * ∑ r : Fin 512,
      ds (rn (rows q r) (rows g 0)) (rnRows (rows k) (rows h 0)) (rows v) (rows o r) m
          * rn (rows q r) (rows g 0) d := by
  refine (pay28_apply ..).trans ?_; simp only [rows, pay19_apply]
  refine Finset.sum_congr rfl fun m _ => ?_
  rw [tDkh_apply]

end Tile

end Cert.XattnTile

end
-- ==== Proof.Xattn.Body.lean ====
/- What the body leaves in each output's buffer at a grid point, as a term of the input blocks.

   Three kinds of point: the first of all, which clears every accumulator (A); the first of a later head, which clears the
   key and value gradients (C); and the others (B). The query gradient is the tile's own; each other result is what its
   buffer held, or zero, plus what the tile adds. -/
module

public import proofs.«01_k».proof.Proof.Gen.XattnIdeal.Frame
public import proofs.«01_k».proof.Proof.Xattn.Tile

@[expose] public section

set_option maxRecDepth 16384

noncomputable section

namespace Cert.XattnBody

open Cert.XattnIdeal Cert.XattnIdeal.Gen Cert.XattnTile Idealize.ShloMosaic

theorem hz : (![0, 0] : Fin 2 → Nat) = fun _ => 0 := funext fun a => by fin_cases a <;> rfl

/-- The zero block of an accumulator. -/
abbrev zeros (S : Shape) : FVec Ideal S .f32 := broadcast S (Scalar.ofBits .f32 0x00000000#32)

variable (c : Dev nD) (i : grid0.Coords)
  (aq : Memref sig .tc .vmem S512x128 .f32) (hq : aq.IsWhole)
  (ak : Memref sig .tc .vmem S256x128 .f32) (hk : ak.IsWhole)
  (av : Memref sig .tc .vmem S256x128 .f32) (hv : av.IsWhole)
  (aqn : Memref sig .tc .vmem S1x128 .f32) (hqn : aqn.IsWhole)
  (akn : Memref sig .tc .vmem S1x128 .f32) (hkn : akn.IsWhole)
  (ao : Memref sig .tc .vmem S512x128 .f32) (ho : ao.IsWhole)
  (adq : Memref sig .tc .vmem S512x128 .bf16) (hdq : adq.IsWhole)
  (adk : Memref sig .tc .vmem S256x128 .f32) (hdk : adk.IsWhole)
  (adv : Memref sig .tc .vmem S256x128 .f32) (hdv : adv.IsWhole)
  (adqn : Memref sig .tc .vmem S1x128 .f32) (hdqn : adqn.IsWhole)
  (adkn : Memref sig .tc .vmem S1x128 .f32) (hdkn : adkn.IsWhole)
  (q : FVec Ideal S512x128 .f32) (k v : FVec Ideal S256x128 .f32) (g h : FVec Ideal S1x128 .f32) (o : FVec Ideal S512x128 .f32)
  (dk dv : FVec Ideal S256x128 .f32) (dqn dkn : FVec Ideal S1x128 .f32)

section CaseA

variable (hc0 : cond0_0 i) (hc1 : cond0_1 i)

theorem out_A_6 : out0_A_6 (F := Ideal) c i aq hq ak hk av hv aqn hqn akn hkn ao ho adq hdq adk hdk adv hdv adqn hdqn adkn hdkn hc0 hc1 q k v g h o
    = tDq q k v g h o := by
  unfold out0_A_6
  rw [View.read_writes_eq_canon _ _ _ (cover0_A_6 (F := Ideal) c i aq hq ak hk av hv aqn hqn akn hkn ao ho adq hdq adk hdk adv hdv adqn hdqn adkn hdkn hc0 hc1 q k v g h o)]
  unfold kernelRun0_A
  dsimp only
  rw [View.canon_unit_zero hz]
  sl_unfold_words
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_A_7 : out0_A_7 (F := Ideal) c i aq hq ak hk av hv aqn hqn akn hkn ao ho adq hdq adk hdk adv hdv adqn hdqn adkn hdkn hc0 hc1 q k v g h o
    = addf (zeros S256x128) (tDk q k v g h o) := by
  unfold out0_A_7
  rw [View.read_writes_eq_canon _ _ _ (cover0_A_7 (F := Ideal) c i aq hq ak hk av hv aqn hqn akn hkn ao ho adq hdq adk hdk adv hdv adqn hdqn adkn hdkn hc0 hc1 q k v g h o)]
  unfold kernelRun0_A
  dsimp only
  sl_unfold_words
  rw [View.canon_cons_unit_zero (S := S256x128) hz, View.readCov_unit_zero (S := S256x128) _ hz]
  unfold k0_pay1 k0_pay5
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_A_8 : out0_A_8 (F := Ideal) c i aq hq ak hk av hv aqn hqn akn hkn ao ho adq hdq adk hdk adv hdv adqn hdqn adkn hdkn hc0 hc1 q k v g h o
    = addf (zeros S256x128) (tDv q k g h o) := by
  unfold out0_A_8
  rw [View.read_writes_eq_canon _ _ _ (cover0_A_8 (F := Ideal) c i aq hq ak hk av hv aqn hqn akn hkn ao ho adq hdq adk hdk adv hdv adqn hdqn adkn hdkn hc0 hc1 q k v g h o)]
  unfold kernelRun0_A
  dsimp only
  sl_unfold_words
  rw [View.canon_cons_unit_zero (S := S256x128) hz, View.readCov_unit_zero (S := S256x128) _ hz]
  unfold k0_pay2 k0_pay6
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_A_9 : out0_A_9 (F := Ideal) c i aq hq ak hk av hv aqn hqn akn hkn ao ho adq hdq adk hdk adv hdv adqn hdqn adkn hdkn hc0 hc1 q k v g h o
    = addf (zeros S1x128) (tDqn q k v g h o) := by
  unfold out0_A_9
  rw [View.read_writes_eq_canon _ _ _ (cover0_A_9 (F := Ideal) c i aq hq ak hk av hv aqn hqn akn hkn ao ho adq hdq adk hdk adv hdv adqn hdqn adkn hdkn hc0 hc1 q k v g h o)]
  unfold kernelRun0_A
  dsimp only
  sl_unfold_words
  rw [View.canon_cons_unit_zero (S := S1x128) hz, View.readCov_unit_zero (S := S1x128) _ hz]
  unfold k0_pay3 k0_pay7
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_A_10 : out0_A_10 (F := Ideal) c i aq hq ak hk av hv aqn hqn akn hkn ao ho adq hdq adk hdk adv hdv adqn hdqn adkn hdkn hc0 hc1 q k v g h o
    = addf (zeros S1x128) (tDkn q k v g h o) := by
  unfold out0_A_10
  rw [View.read_writes_eq_canon _ _ _ (cover0_A_10 (F := Ideal) c i aq hq ak hk av hv aqn hqn akn hkn ao ho adq hdq adk hdk adv hdv adqn hdqn adkn hdkn hc0 hc1 q k v g h o)]
  unfold kernelRun0_A
  dsimp only
  sl_unfold_words
  rw [View.canon_cons_unit_zero (S := S1x128) hz, View.readCov_unit_zero (S := S1x128) _ hz]
  unfold k0_pay4 k0_pay8
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

end CaseA

section CaseB

variable (hc0 : ¬cond0_0 i) (hc1 : ¬cond0_1 i)

theorem out_B_6 : out0_B_6 (F := Ideal) c i aq hq ak hk av hv aqn hqn akn hkn ao ho adq hdq adk hdk adv hdv adqn hdqn adkn hdkn hc0 hc1 q k v g h o dk dv dqn dkn
    = tDq q k v g h o := by
  unfold out0_B_6
  rw [View.read_writes_eq_canon _ _ _ (cover0_B_6 (F := Ideal) c i aq hq ak hk av hv aqn hqn akn hkn ao ho adq hdq adk hdk adv hdv adqn hdqn adkn hdkn hc0 hc1 q k v g h o dk dv dqn dkn)]
  unfold kernelRun0_B
  dsimp only
  rw [View.canon_unit_zero hz]
  sl_unfold_words
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_B_7 : out0_B_7 (F := Ideal) c i aq hq ak hk av hv aqn hqn akn hkn ao ho adq hdq adk hdk adv hdv adqn hdqn adkn hdkn hc0 hc1 q k v g h o dk dv dqn dkn
    = addf dk (tDk q k v g h o) := by
  unfold out0_B_7
  rw [View.read_writes_eq_canon _ _ _ (cover0_B_7 (F := Ideal) c i aq hq ak hk av hv aqn hqn akn hkn ao ho adq hdq adk hdk adv hdv adqn hdqn adkn hdkn hc0 hc1 q k v g h o dk dv dqn dkn)]
  unfold kernelRun0_B
  dsimp only
  rw [View.canon_unit_zero hz]
  sl_unfold_words
  unfold k0_pay1
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_B_8 : out0_B_8 (F := Ideal) c i aq hq ak hk av hv aqn hqn akn hkn ao ho adq hdq adk hdk adv hdv adqn hdqn adkn hdkn hc0 hc1 q k v g h o dk dv dqn dkn
    = addf dv (tDv q k g h o) := by
  unfold out0_B_8
  rw [View.read_writes_eq_canon _ _ _ (cover0_B_8 (F := Ideal) c i aq hq ak hk av hv aqn hqn akn hkn ao ho adq hdq adk hdk adv hdv adqn hdqn adkn hdkn hc0 hc1 q k v g h o dk dv dqn dkn)]
  unfold kernelRun0_B
  dsimp only
  rw [View.canon_unit_zero hz]
  sl_unfold_words
  unfold k0_pay2
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_B_9 : out0_B_9 (F := Ideal) c i aq hq ak hk av hv aqn hqn akn hkn ao ho adq hdq adk hdk adv hdv adqn hdqn adkn hdkn hc0 hc1 q k v g h o dk dv dqn dkn
    = addf dqn (tDqn q k v g h o) := by
  unfold out0_B_9
  rw [View.read_writes_eq_canon _ _ _ (cover0_B_9 (F := Ideal) c i aq hq ak hk av hv aqn hqn akn hkn ao ho adq hdq adk hdk adv hdv adqn hdqn adkn hdkn hc0 hc1 q k v g h o dk dv dqn dkn)]
  unfold kernelRun0_B
  dsimp only
  rw [View.canon_unit_zero hz]
  sl_unfold_words
  unfold k0_pay3
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_B_10 : out0_B_10 (F := Ideal) c i aq hq ak hk av hv aqn hqn akn hkn ao ho adq hdq adk hdk adv hdv adqn hdqn adkn hdkn hc0 hc1 q k v g h o dk dv dqn dkn
    = addf dkn (tDkn q k v g h o) := by
  unfold out0_B_10
  rw [View.read_writes_eq_canon _ _ _ (cover0_B_10 (F := Ideal) c i aq hq ak hk av hv aqn hqn akn hkn ao ho adq hdq adk hdk adv hdv adqn hdqn adkn hdkn hc0 hc1 q k v g h o dk dv dqn dkn)]
  unfold kernelRun0_B
  dsimp only
  rw [View.canon_unit_zero hz]
  sl_unfold_words
  unfold k0_pay4
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

end CaseB

section CaseC

variable (hc0 : cond0_0 i) (hc1 : ¬cond0_1 i)

theorem out_C_6 : out0_C_6 (F := Ideal) c i aq hq ak hk av hv aqn hqn akn hkn ao ho adq hdq adk hdk adv hdv adqn hdqn adkn hdkn hc0 hc1 q k v g h o dqn dkn
    = tDq q k v g h o := by
  unfold out0_C_6
  rw [View.read_writes_eq_canon _ _ _ (cover0_C_6 (F := Ideal) c i aq hq ak hk av hv aqn hqn akn hkn ao ho adq hdq adk hdk adv hdv adqn hdqn adkn hdkn hc0 hc1 q k v g h o dqn dkn)]
  unfold kernelRun0_C
  dsimp only
  rw [View.canon_unit_zero hz]
  sl_unfold_words
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_C_7 : out0_C_7 (F := Ideal) c i aq hq ak hk av hv aqn hqn akn hkn ao ho adq hdq adk hdk adv hdv adqn hdqn adkn hdkn hc0 hc1 q k v g h o dqn dkn
    = addf (zeros S256x128) (tDk q k v g h o) := by
  unfold out0_C_7
  rw [View.read_writes_eq_canon _ _ _ (cover0_C_7 (F := Ideal) c i aq hq ak hk av hv aqn hqn akn hkn ao ho adq hdq adk hdk adv hdv adqn hdqn adkn hdkn hc0 hc1 q k v g h o dqn dkn)]
  unfold kernelRun0_C
  dsimp only
  sl_unfold_words
  rw [View.canon_cons_unit_zero (S := S256x128) hz, View.readCov_unit_zero (S := S256x128) _ hz]
  unfold k0_pay1 k0_pay5
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_C_8 : out0_C_8 (F := Ideal) c i aq hq ak hk av hv aqn hqn akn hkn ao ho adq hdq adk hdk adv hdv adqn hdqn adkn hdkn hc0 hc1 q k v g h o dqn dkn
    = addf (zeros S256x128) (tDv q k g h o) := by
  unfold out0_C_8
  rw [View.read_writes_eq_canon _ _ _ (cover0_C_8 (F := Ideal) c i aq hq ak hk av hv aqn hqn akn hkn ao ho adq hdq adk hdk adv hdv adqn hdqn adkn hdkn hc0 hc1 q k v g h o dqn dkn)]
  unfold kernelRun0_C
  dsimp only
  sl_unfold_words
  rw [View.canon_cons_unit_zero (S := S256x128) hz, View.readCov_unit_zero (S := S256x128) _ hz]
  unfold k0_pay2 k0_pay6
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_C_9 : out0_C_9 (F := Ideal) c i aq hq ak hk av hv aqn hqn akn hkn ao ho adq hdq adk hdk adv hdv adqn hdqn adkn hdkn hc0 hc1 q k v g h o dqn dkn
    = addf dqn (tDqn q k v g h o) := by
  unfold out0_C_9
  rw [View.read_writes_eq_canon _ _ _ (cover0_C_9 (F := Ideal) c i aq hq ak hk av hv aqn hqn akn hkn ao ho adq hdq adk hdk adv hdv adqn hdqn adkn hdkn hc0 hc1 q k v g h o dqn dkn)]
  unfold kernelRun0_C
  dsimp only
  rw [View.canon_unit_zero hz]
  sl_unfold_words
  unfold k0_pay3
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

theorem out_C_10 : out0_C_10 (F := Ideal) c i aq hq ak hk av hv aqn hqn akn hkn ao ho adq hdq adk hdk adv hdv adqn hdqn adkn hdkn hc0 hc1 q k v g h o dqn dkn
    = addf dkn (tDkn q k v g h o) := by
  unfold out0_C_10
  rw [View.read_writes_eq_canon _ _ _ (cover0_C_10 (F := Ideal) c i aq hq ak hk av hv aqn hqn akn hkn ao ho adq hdq adk hdk adv hdv adqn hdqn adkn hdkn hc0 hc1 q k v g h o dqn dkn)]
  unfold kernelRun0_C
  dsimp only
  rw [View.canon_unit_zero hz]
  sl_unfold_words
  unfold k0_pay4
  simp only [View.readAt_eq_ld, hq.read_unread, hk.read_unread, hv.read_unread, hqn.read_unread, hkn.read_unread, ho.read_unread, hdq.read_unread, hdk.read_unread, hdv.read_unread, hdqn.read_unread, hdkn.read_unread,
    View.ld_unit_zero (S := S512x128) hz, View.ld_unit_zero (S := S256x128) hz, View.ld_unit_zero (S := S1x128) hz, shapeCast_self]

end CaseC

end Cert.XattnBody

end
-- ==== Proof.Xattn.Rows.lean ====
/- The cross-attention's arguments by head: the rows of the queries, keys, values and the cotangent, and each gradient as a
   function of them. Both programs are read as these functions. -/
module

public import proofs.«01_k».proof.Proof.Xattn.Spec
public import Idealize.ShloMosaic.Lib.Pointwise

@[expose] public section

noncomputable section

namespace Cert.XattnRows

open Cert.XattnSpec Idealize.ShloMosaic

/-- Column `d` of head `h` in an array of four heads. -/
abbrev col (h : Fin 4) (d : Fin 128) : Fin 512 := ⟨h.val * 128 + d.val, by have := h.isLt; have := d.isLt; omega⟩
/-- The same column of the keys in the array of keys and values. -/
abbrev kcol (h : Fin 4) (d : Fin 128) : Fin 1024 := ⟨h.val * 128 + d.val, by have := h.isLt; have := d.isLt; omega⟩
/-- The same column of the values, which follow the keys. -/
abbrev vcol (h : Fin 4) (d : Fin 128) : Fin 1024 := ⟨512 + (h.val * 128 + d.val), by have := h.isLt; have := d.isLt; omega⟩
/-- The head of a column. -/
abbrev hd (j : Fin 512) : Fin 4 := ⟨j.val / 128, by have := j.isLt; omega⟩
/-- The place of a column in its head. -/
abbrev pl (j : Fin 512) : Fin 128 := ⟨j.val % 128, by omega⟩
/-- Row `r` of tile `b`. -/
abbrev row (b : Fin 16) (r : Fin 512) : Fin 8192 := ⟨b.val * 512 + r.val, by have := b.isLt; have := r.isLt; omega⟩

variable (q o : FVec Ideal ⟨2, ![8192, 512]⟩ .f32) (kv : FVec Ideal ⟨2, ![256, 1024]⟩ .f32)
  (g k : FVec Ideal ⟨2, ![1, 128]⟩ .f32)

/-- Row `s` of head `h` of the queries, or of the cotangent. -/
def Q (h : Fin 4) (s : Fin 8192) (d : Fin 128) : EReal := q (ix2 s (col h d))
/-- Key `m` of head `h`. -/
def K (h : Fin 4) (m : Fin 256) (d : Fin 128) : EReal := kv (ix2 m (kcol h d))
/-- Value `m` of head `h`. -/
def VL (h : Fin 4) (m : Fin 256) (d : Fin 128) : EReal := kv (ix2 m (vcol h d))
/-- A gain. -/
def G (d : Fin 128) : EReal := g (ix2 0 d)

/-- The normalised query row. -/
def qn (h : Fin 4) (s : Fin 8192) : Fin 128 → EReal := rn (Q q h s) (G g)
/-- The normalised keys. -/
def kn (h : Fin 4) : Fin 256 → Fin 128 → EReal := fun m => rn (K kv h m) (G k)
/-- The softmax of a query row. -/
def P (h : Fin 4) (s : Fin 8192) (m : Fin 256) : EReal := pr (qn q g h s) (kn kv k h) m
/-- The gradient of its scores. -/
def DS (h : Fin 4) (s : Fin 8192) (m : Fin 256) : EReal := ds (qn q g h s) (kn kv k h) (VL kv h) (Q o h s) m
/-- The gradient of the normalised query row. -/
def DQH (h : Fin 4) (s : Fin 8192) (d : Fin 128) : EReal := dqh (qn q g h s) (kn kv k h) (VL kv h) (Q o h s) d
/-- What row `s` adds to the gradient of the normalised keys. -/
def KT (h : Fin 4) (m : Fin 256) (d : Fin 128) (s : Fin 8192) : EReal := DS q o kv g k h s m * qn q g h s d
/-- The gradient of the queries. -/
def DQ (h : Fin 4) (s : Fin 8192) (d : Fin 128) : EReal := rb (Q q h s) (G g) (DQH q o kv g k h s) d
/-- What tile `b` adds to the gradient of the keys. -/
def DKt (h : Fin 4) (b : Fin 16) (m : Fin 256) (d : Fin 128) : EReal :=
  rb (K kv h m) (G k) (fun d' => ∑ r, KT q o kv g k h m d' (row b r)) d
/-- What tile `b` adds to the gradient of the values. -/
def DVt (h : Fin 4) (b : Fin 16) (m : Fin 256) (d : Fin 128) : EReal := ∑ r, P q kv g k h (row b r) m * Q o h (row b r) d
/-- What tile `b` adds to the gradient of the query norm's gain. -/
def DQNt (h : Fin 4) (b : Fin 16) (d : Fin 128) : EReal := ∑ r, nh (Q q h (row b r)) d * DQH q o kv g k h (row b r) d
/-- What tile `b` adds to the gradient of the key norm's gain. -/
def DKNt (h : Fin 4) (b : Fin 16) (d : Fin 128) : EReal :=
  ∑ m, nh (K kv h m) d * ∑ r, KT q o kv g k h m d (row b r)

/-- The gradient of the keys. -/
def DK (h : Fin 4) (m : Fin 256) (d : Fin 128) : EReal :=
  rb (K kv h m) (G k) (fun d' => ∑ s, KT q o kv g k h m d' s) d
/-- The gradient of the values. -/
def DV (h : Fin 4) (m : Fin 256) (d : Fin 128) : EReal := ∑ s, P q kv g k h s m * Q o h s d
/-- The gradient of the query norm's gain. -/
def DQN (d : Fin 128) : EReal := ∑ h, ∑ s, nh (Q q h s) d * DQH q o kv g k h s d
/-- The gradient of the key norm's gain. -/
def DKN (d : Fin 128) : EReal := ∑ h, ∑ m, nh (K kv h m) d * ∑ s, KT q o kv g k h m d s

end Cert.XattnRows

end
-- ==== Proof.Xattn.Run.lean ====
/- The kernel's result arrays after its run, as functions of the argument arrays.

   Each grid point `16 h + b` computes tile `b` of head `h`. A block of an argument is read at the rows and columns it stands
   for; an accumulator's contents are the sum over the points since it was last cleared; a result array holds what the last
   point of each block's run left. -/
module

public import proofs.«01_k».proof.Proof.Gen.XattnIdeal.Value
public import proofs.«01_k».proof.Proof.Xattn.Body
public import proofs.«01_k».proof.Proof.Xattn.Rows
public import Idealize.ShloMosaic.Lib.Pipeline.ValueKit

@[expose] public section

set_option maxRecDepth 16384

noncomputable section

namespace Cert.XattnRun

open Cert.XattnIdeal Cert.XattnIdeal.Gen Cert.XattnSpec Cert.XattnTile Cert.XattnBody Cert.XattnRows
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev xq : FVec Ideal S8192x512 .f32 := m ((c : Thread nD τ).loc main_arg0)
abbrev xkv : FVec Ideal S256x1024 .f32 := m ((c : Thread nD τ).loc main_arg1)
abbrev xg : FVec Ideal S1x128 .f32 := m ((c : Thread nD τ).loc main_arg2)
abbrev xh : FVec Ideal S1x128 .f32 := m ((c : Thread nD τ).loc main_arg3)
abbrev xo : FVec Ideal S8192x512 .f32 := m ((c : Thread nD τ).loc main_arg4)

theorem idx : ∀ t : Fin cfg0.N, t.val / 16 < 4 ∧ win0_0.index t = ![t.val % 16, t.val / 16]
    ∧ win0_1.index t = ![0, t.val / 16] ∧ win0_2.index t = ![0, 4 + t.val / 16] ∧ win0_3.index t = ![0, 0]
    ∧ win0_4.index t = ![0, 0] ∧ win0_5.index t = ![t.val % 16, t.val / 16] ∧ win0_6.index t = ![t.val % 16, t.val / 16]
    ∧ win0_7.index t = ![0, t.val / 16] ∧ win0_8.index t = ![0, t.val / 16] ∧ win0_9.index t = ![0, 0]
    ∧ win0_10.index t = ![0, 0] :=
  (by decide +kernel : ∀ t : Fin grid0.N, _)

/-- The head of a point. -/
abbrev ph (t : Fin cfg0.N) : Fin 4 := ⟨t.val / 16, (idx t).1⟩
/-- The tile of a point. -/
abbrev pb (t : Fin cfg0.N) : Fin 16 := ⟨t.val % 16, Nat.mod_lt _ (by decide)⟩

/-! ## The blocks -/

abbrev bq (t : Fin cfg0.N) : FVec Ideal S512x128 .f32 := iblk m c 0 t
abbrev bk (t : Fin cfg0.N) : FVec Ideal S256x128 .f32 := iblk m c 1 t
abbrev bv (t : Fin cfg0.N) : FVec Ideal S256x128 .f32 := iblk m c 2 t
abbrev bg (t : Fin cfg0.N) : FVec Ideal S1x128 .f32 := iblk m c 3 t
abbrev bh (t : Fin cfg0.N) : FVec Ideal S1x128 .f32 := iblk m c 4 t
abbrev bo (t : Fin cfg0.N) : FVec Ideal S512x128 .f32 := iblk m c 5 t

theorem rows_bq (t : Fin cfg0.N) (r : Fin 512) : rows (bq m c t) r = Q (xq m c) (ph t) (row (pb t) r) := by
  funext d; unfold Q; show bq m c t (ix2 r d) = _; blk_ext [iblk, V, idx t]

theorem rows_bo (t : Fin cfg0.N) (r : Fin 512) : rows (bo m c t) r = Q (xo m c) (ph t) (row (pb t) r) := by
  funext d; unfold Q; show bo m c t (ix2 r d) = _; blk_ext [iblk, V, idx t]

theorem rows_bk (t : Fin cfg0.N) : rows (bk m c t) = K (xkv m c) (ph t) := by
  funext r d; unfold K; show bk m c t (ix2 r d) = _; blk_ext [iblk, V, idx t]

theorem rows_bv (t : Fin cfg0.N) : rows (bv m c t) = VL (xkv m c) (ph t) := by
  funext r d; unfold VL; show bv m c t (ix2 r d) = _; blk_ext [iblk, V, idx t]

theorem rows_bg (t : Fin cfg0.N) : rows (bg m c t) 0 = G (xg m c) := by
  funext d; unfold G; show bg m c t (ix2 0 d) = _; blk_ext [iblk, V, idx t]

theorem rows_bh (t : Fin cfg0.N) : rows (bh m c t) 0 = G (xh m c) := by
  funext d; unfold G; show bh m c t (ix2 0 d) = _; blk_ext [iblk, V, idx t]

/-! ## What a point computes -/

variable (t : Fin cfg0.N)

abbrev pDq : FVec Ideal S512x128 .bf16 := tDq (bq m c t) (bk m c t) (bv m c t) (bg m c t) (bh m c t) (bo m c t)
abbrev pDk : FVec Ideal S256x128 .f32 := tDk (bq m c t) (bk m c t) (bv m c t) (bg m c t) (bh m c t) (bo m c t)
abbrev pDv : FVec Ideal S256x128 .f32 := tDv (bq m c t) (bk m c t) (bg m c t) (bh m c t) (bo m c t)
abbrev pDqn : FVec Ideal S1x128 .f32 := tDqn (bq m c t) (bk m c t) (bv m c t) (bg m c t) (bh m c t) (bo m c t)
abbrev pDkn : FVec Ideal S1x128 .f32 := tDkn (bq m c t) (bk m c t) (bv m c t) (bg m c t) (bh m c t) (bo m c t)

theorem pDq_apply (r : Fin 512) (d : Fin 128) : pDq m c t (ix2 r d)
    = DQ (xq m c) (xo m c) (xkv m c) (xg m c) (xh m c) (ph t) (row (pb t) r) d := by
  refine (tDq_apply ..).trans ?_
  rw [rows_bq, rows_bk, rows_bv, rows_bg, rows_bh, rows_bo]; rfl

theorem pDk_apply (r : Fin 256) (d : Fin 128) : pDk m c t (ix2 r d)
    = DKt (xq m c) (xo m c) (xkv m c) (xg m c) (xh m c) (ph t) (pb t) r d := by
  refine (tDk_apply ..).trans ?_
  simp only [rows_bq, rows_bk, rows_bv, rows_bg, rows_bh, rows_bo]; rfl

theorem pDv_apply (r : Fin 256) (d : Fin 128) : pDv m c t (ix2 r d)
    = DVt (xq m c) (xo m c) (xkv m c) (xg m c) (xh m c) (ph t) (pb t) r d := by
  refine (tDv_apply ..).trans ?_
  simp only [rows_bq, rows_bk, rows_bg, rows_bh]
  exact Finset.sum_congr rfl fun r _ => by rw [rows_bo]; rfl

theorem pDqn_apply (d : Fin 128) : pDqn m c t (ix2 0 d)
    = DQNt (xq m c) (xo m c) (xkv m c) (xg m c) (xh m c) (ph t) (pb t) d := by
  refine (tDqn_apply ..).trans ?_
  simp only [rows_bq, rows_bk, rows_bv, rows_bg, rows_bh, rows_bo]; rfl

theorem pDkn_apply (d : Fin 128) : pDkn m c t (ix2 0 d)
    = DKNt (xq m c) (xo m c) (xkv m c) (xg m c) (xh m c) (ph t) (pb t) d := by
  refine (tDkn_apply ..).trans ?_
  simp only [rows_bq, rows_bk, rows_bv, rows_bg, rows_bh, rows_bo]; rfl

/-! ## The accumulators, point by point -/

theorem zeros_apply (S : Shape) (j : S.Idx) : zeros S j = (0 : EReal) := by
  show Ideal.ofBits .f32 0x00000000#32 = 0
  simp [Ideal.ofBits, Ideal.ieee]

/-- Every point leaves its tile of the query gradient. -/
theorem at_dq : (outsAt0 m c t.val t.isLt).1 = pDq m c t := by
  by_cases h0 : t.val % 16 = 0
  · by_cases h1 : t.val % 64 = 0
    · rw [outsAt0_A m c t h0 h1]; dsimp only; rw [out_A_6]
    · rw [outsAt0_C m c t h0 h1]; dsimp only; rw [out_C_6]
  · have h1 : ¬t.val % 64 = 0 := by omega
    rw [outsAt0_B m c t h0 h1]; dsimp only; rw [out_B_6]

theorem dk_first (h0 : t.val % 16 = 0) (j : S256x128.Idx) :
    (outsAt0 m c t.val t.isLt).2.1 j = ((0 : EReal) + pDk m c t j : EReal) := by
  rw [← zeros_apply S256x128 j]
  by_cases h1 : t.val % 64 = 0
  · rw [outsAt0_A m c t h0 h1]; dsimp only; rw [out_A_7]; rfl
  · rw [outsAt0_C m c t h0 h1]; dsimp only; rw [out_C_7]; rfl

theorem dk_next (h0 : ¬t.val % 16 = 0) (j : S256x128.Idx) : (outsAt0 m c t.val t.isLt).2.1 j
    = ((outsAt0 m c (t.val - 1) (Nat.lt_of_le_of_lt (Nat.sub_le _ _) t.isLt)).2.1 j + pDk m c t j : EReal) := by
  have h1 : ¬t.val % 64 = 0 := by omega
  rw [outsAt0_B m c t h0 h1]; dsimp only; rw [out_B_7]; rfl

theorem dv_first (h0 : t.val % 16 = 0) (j : S256x128.Idx) :
    (outsAt0 m c t.val t.isLt).2.2.1 j = ((0 : EReal) + pDv m c t j : EReal) := by
  rw [← zeros_apply S256x128 j]
  by_cases h1 : t.val % 64 = 0
  · rw [outsAt0_A m c t h0 h1]; dsimp only; rw [out_A_8]; rfl
  · rw [outsAt0_C m c t h0 h1]; dsimp only; rw [out_C_8]; rfl

theorem dv_next (h0 : ¬t.val % 16 = 0) (j : S256x128.Idx) : (outsAt0 m c t.val t.isLt).2.2.1 j
    = ((outsAt0 m c (t.val - 1) (Nat.lt_of_le_of_lt (Nat.sub_le _ _) t.isLt)).2.2.1 j + pDv m c t j : EReal) := by
  have h1 : ¬t.val % 64 = 0 := by omega
  rw [outsAt0_B m c t h0 h1]; dsimp only; rw [out_B_8]; rfl

theorem dqn_first (h1 : t.val % 64 = 0) (j : S1x128.Idx) :
    (outsAt0 m c t.val t.isLt).2.2.2.1 j = ((0 : EReal) + pDqn m c t j : EReal) := by
  rw [← zeros_apply S1x128 j]
  have h0 : t.val % 16 = 0 := by omega
  rw [outsAt0_A m c t h0 h1]; dsimp only; rw [out_A_9]; rfl

theorem dqn_next (h1 : ¬t.val % 64 = 0) (j : S1x128.Idx) : (outsAt0 m c t.val t.isLt).2.2.2.1 j
    = ((outsAt0 m c (t.val - 1) (Nat.lt_of_le_of_lt (Nat.sub_le _ _) t.isLt)).2.2.2.1 j + pDqn m c t j : EReal) := by
  by_cases h0 : t.val % 16 = 0
  · rw [outsAt0_C m c t h0 h1]; dsimp only; rw [out_C_9]; rfl
  · rw [outsAt0_B m c t h0 h1]; dsimp only; rw [out_B_9]; rfl

theorem dkn_first (h1 : t.val % 64 = 0) (j : S1x128.Idx) :
    (outsAt0 m c t.val t.isLt).2.2.2.2 j = ((0 : EReal) + pDkn m c t j : EReal) := by
  rw [← zeros_apply S1x128 j]
  have h0 : t.val % 16 = 0 := by omega
  rw [outsAt0_A m c t h0 h1]; dsimp only; rw [out_A_10]; rfl

theorem dkn_next (h1 : ¬t.val % 64 = 0) (j : S1x128.Idx) : (outsAt0 m c t.val t.isLt).2.2.2.2 j
    = ((outsAt0 m c (t.val - 1) (Nat.lt_of_le_of_lt (Nat.sub_le _ _) t.isLt)).2.2.2.2 j + pDkn m c t j : EReal) := by
  by_cases h0 : t.val % 16 = 0
  · rw [outsAt0_C m c t h0 h1]; dsimp only; rw [out_C_10]; rfl
  · rw [outsAt0_B m c t h0 h1]; dsimp only; rw [out_B_10]; rfl

/-! ## The result arrays -/

/-- The query gradient. -/
def resDq : FVec Ideal S8192x512 .bf16 := fun i =>
  DQ (xq m c) (xo m c) (xkv m c) (xg m c) (xh m c) (hd (i 1)) (i 0) (pl (i 1))

theorem hd_col (h : Fin 4) (d : Fin 128) : hd (col h d) = h := Fin.ext (by have := d.isLt; show (_ * 128 + _) / 128 = _; omega)
theorem pl_col (h : Fin 4) (d : Fin 128) : pl (col h d) = d := Fin.ext (by have := d.isLt; show (_ * 128 + _) % 128 = _; omega)

theorem final_dq : (dats m 0 c).arrAt 6 cfg0.N = resDq m c := by
  refine (dats m 0 c).arrAt_eq_of_covers 6 _ (by decide +kernel) fun t hf y => ?_
  blk_simp
  rw [after0_6, at_dq]
  obtain ⟨r, d, rfl⟩ : ∃ (r : Fin 512) (d : Fin 128), y = ix2 r d := ⟨y 0, y 1, by funext a; fin_cases a <;> rfl⟩
  refine (pDq_apply m c t r d).trans ?_
  have e : (win0_6.blk t).view.emb (ix2 r d) = ix2 (row (pb t) r) (col (ph t) d) := by blk_ext [idx t]
  rw [e]
  show _ = DQ _ _ _ _ _ (hd (col (ph t) d)) (row (pb t) r) (pl (col (ph t) d))
  rw [hd_col, pl_col]

/-- The key gradient. -/
def resDk : FVec Ideal S256x512 .f32 := fun i => (0 : EReal)
  + ∑ b, DKt (xq m c) (xo m c) (xkv m c) (xg m c) (xh m c) (hd (i 1)) b (i 0) (pl (i 1))

theorem final_dk : (dats m 0 c).arrAt 7 cfg0.N = resDk m c := by
  refine (dats m 0 c).arrAt_eq_of_covers 7 _ (by decide +kernel) fun t hf y => ?_
  blk_simp
  rw [after0_7]
  obtain ⟨r, d, rfl⟩ : ∃ (r : Fin 256) (d : Fin 128), y = ix2 r d := ⟨y 0, y 1, by funext a; fin_cases a <;> rfl⟩
  have hr := (flush0_7 t).mp hf
  refine (Pipeline.eq_sum_fin_of_reset_step_apply_of_flush (M := EReal) (fun n h => (outsAt0 m c n h).2.1) 16 (fun _ => 0)
    (fun t => pDk m c t) (dk_first m c) (dk_next m c) t hr (ix2 r d)).trans ?_
  have e : (win0_7.blk t).view.emb (ix2 r d) = ix2 r (col (ph t) d) := by blk_ext [idx t]
  rw [e]
  show _ = (0 : EReal) + ∑ b, DKt _ _ _ _ _ (hd (col (ph t) d)) b r (pl (col (ph t) d))
  rw [hd_col, pl_col]
  refine congrArg _ (Finset.sum_congr rfl fun b _ => ?_)
  rw [pDk_apply]
  congr 1 <;> apply Fin.ext <;> dsimp only <;> have := b.isLt <;> omega

/-- The value gradient. -/
def resDv : FVec Ideal S256x512 .f32 := fun i => (0 : EReal)
  + ∑ b, DVt (xq m c) (xo m c) (xkv m c) (xg m c) (xh m c) (hd (i 1)) b (i 0) (pl (i 1))

theorem final_dv : (dats m 0 c).arrAt 8 cfg0.N = resDv m c := by
  refine (dats m 0 c).arrAt_eq_of_covers 8 _ (by decide +kernel) fun t hf y => ?_
  blk_simp
  rw [after0_8]
  obtain ⟨r, d, rfl⟩ : ∃ (r : Fin 256) (d : Fin 128), y = ix2 r d := ⟨y 0, y 1, by funext a; fin_cases a <;> rfl⟩
  have hr := (flush0_8 t).mp hf
  refine (Pipeline.eq_sum_fin_of_reset_step_apply_of_flush (M := EReal) (fun n h => (outsAt0 m c n h).2.2.1) 16 (fun _ => 0)
    (fun t => pDv m c t) (dv_first m c) (dv_next m c) t hr (ix2 r d)).trans ?_
  have e : (win0_8.blk t).view.emb (ix2 r d) = ix2 r (col (ph t) d) := by blk_ext [idx t]
  rw [e]
  show _ = (0 : EReal) + ∑ b, DVt _ _ _ _ _ (hd (col (ph t) d)) b r (pl (col (ph t) d))
  rw [hd_col, pl_col]
  refine congrArg _ (Finset.sum_congr rfl fun b _ => ?_)
  rw [pDv_apply]
  congr 1 <;> apply Fin.ext <;> dsimp only <;> have := b.isLt <;> omega

/-- A sum over the grid's points is a sum over heads and tiles. -/
theorem sum_points (f : Fin 4 → Fin 16 → EReal) : ∑ t : Fin cfg0.N, f (ph t) (pb t) = ∑ h, ∑ b, f h b := by
  rw [← Fintype.sum_prod_type' f]
  refine Fintype.sum_equiv (finProdFinEquiv (m := 4) (n := 16)).symm _ _ fun t => ?_
  rfl

theorem last_val : ∀ t : Fin cfg0.N, t.val % 64 = 63 → t.val + 1 = cfg0.N :=
  (by decide +kernel : ∀ t : Fin grid0.N, t.val % 64 = 63 → t.val + 1 = grid0.N)

/-- The gradient of the query norm's gain. -/
def resDqn : FVec Ideal S1x128 .f32 := fun i => (0 : EReal)
  + ∑ h, ∑ b, DQNt (xq m c) (xo m c) (xkv m c) (xg m c) (xh m c) h b (i 1)

theorem final_dqn : (dats m 0 c).arrAt 9 cfg0.N = resDqn m c := by
  refine (dats m 0 c).arrAt_eq_of_covers 9 _ (by decide +kernel) fun t hf y => ?_
  blk_simp
  rw [after0_9]
  obtain ⟨d, rfl⟩ : ∃ (d : Fin 128), y = ix2 0 d := ⟨y 1, by funext a; fin_cases a; exact Subsingleton.elim (α := Fin 1) _ _; rfl⟩
  have hr := (flush0_9 t).mp hf
  refine (Pipeline.eq_sum_fin_of_reset_step_apply_last (M := EReal) (fun n h => (outsAt0 m c n h).2.2.2.1) 64 (fun _ => 0)
    (fun t => pDqn m c t) (dqn_first m c) (dqn_next m c) N_0.le t (last_val t hr) (ix2 0 d)).trans ?_
  have e : (win0_9.blk t).view.emb (ix2 0 d) = ix2 0 d := by blk_ext [idx t]
  rw [e]
  show _ = (0 : EReal) + ∑ h, ∑ b, DQNt _ _ _ _ _ h b d
  refine congrArg _ ((Finset.sum_congr rfl fun t _ => pDqn_apply m c t d).trans
    (sum_points fun h b => DQNt (xq m c) (xo m c) (xkv m c) (xg m c) (xh m c) h b d))

/-- The gradient of the key norm's gain. -/
def resDkn : FVec Ideal S1x128 .f32 := fun i => (0 : EReal)
  + ∑ h, ∑ b, DKNt (xq m c) (xo m c) (xkv m c) (xg m c) (xh m c) h b (i 1)

theorem final_dkn : (dats m 0 c).arrAt 10 cfg0.N = resDkn m c := by
  refine (dats m 0 c).arrAt_eq_of_covers 10 _ (by decide +kernel) fun t hf y => ?_
  blk_simp
  rw [after0_10]
  obtain ⟨d, rfl⟩ : ∃ (d : Fin 128), y = ix2 0 d := ⟨y 1, by funext a; fin_cases a; exact Subsingleton.elim (α := Fin 1) _ _; rfl⟩
  have hr := (flush0_10 t).mp hf
  refine (Pipeline.eq_sum_fin_of_reset_step_apply_last (M := EReal) (fun n h => (outsAt0 m c n h).2.2.2.2) 64 (fun _ => 0)
    (fun t => pDkn m c t) (dkn_first m c) (dkn_next m c) N_0.le t (last_val t hr) (ix2 0 d)).trans ?_
  have e : (win0_10.blk t).view.emb (ix2 0 d) = ix2 0 d := by blk_ext [idx t]
  rw [e]
  show _ = (0 : EReal) + ∑ h, ∑ b, DKNt _ _ _ _ _ h b d
  refine congrArg _ ((Finset.sum_congr rfl fun t _ => pDkn_apply m c t d).trans
    (sum_points fun h b => DKNt (xq m c) (xo m c) (xkv m c) (xg m c) (xh m c) h b d))

end Cert.XattnRun

end
-- ==== Proof.Xattn.Host.lean ====
module

public import proofs.«01_k».proof.Proof.Gen.XattnRefIdeal.Read
public import Idealize.ShloMosaic.Lib.Pointwise

@[expose] public section

set_option maxRecDepth 16384

/-! Two of the host's reductions read at an index: the largest element along the last of three axes, and the sum over the
    first two of three axes. -/

noncomputable section

namespace Cert.XattnHost

open Idealize.ShloMosaic

variable {n0 n1 n2 : Nat} {t : Shape}

theorem rank01 (h : (⟨3, ![n0, n1, n2]⟩ : Shape).ReducesTo [0, 1] t) : t.rank = 1 := h.1
theorem lt01 (h : (⟨3, ![n0, n1, n2]⟩ : Shape).ReducesTo [0, 1] t) : 0 < t.rank := rank01 h ▸ (by decide)
theorem size01 (h : (⟨3, ![n0, n1, n2]⟩ : Shape).ReducesTo [0, 1] t) : t.size ⟨0, lt01 h⟩ = n2 := h.2 ⟨0, lt01 h⟩

/-- The source indices that lose their first two coordinates to `j` are the ones that end in `j`'s coordinate. -/
theorem fiber01 (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, lt01 h⟩).val, Shape.coordLt (j ⟨0, lt01 h⟩) (size01 h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lt01 h⟩)).symm
  · rintro ⟨k, rfl⟩
    funext b
    apply Fin.ext
    match b with
    | ⟨0, _⟩ => rfl
    | ⟨_ + 1, hb⟩ => exact absurd hb (by have := rank01 h; omega)

/-- A sum over the first two of three axes, the initial value first. -/
theorem sum01 (h : (⟨3, ![n0, n1, n2]⟩ : Shape).ReducesTo [0, 1] t) (x : (⟨3, ![n0, n1, n2]⟩ : Shape).Idx → EReal) (c : EReal) (j : t.Idx) :
    Ideal.hostReduceAdd h x c j = c + ∑ a : Fin n0, ∑ b : Fin n1, x (ix3 a b ⟨(j ⟨0, lt01 h⟩).val, Shape.coordLt (j ⟨0, lt01 h⟩) (size01 h)⟩) := by
  unfold Ideal.hostReduceAdd
  congr 1
  refine (Finset.sum_filter_eq_sum_of_fiber _ (fun k : Fin n0 × Fin n1 => ix3 k.1 k.2 ⟨(j ⟨0, lt01 h⟩).val, Shape.coordLt (j ⟨0, lt01 h⟩) (size01 h)⟩)
    (fun _ _ e => Prod.ext (congrFun e 0) (congrFun e 1)) (fiber01 h j) x).trans ?_
  simp only [Fintype.sum_prod_type]

/-- The largest element along the last of three axes, never below the initial value. -/
theorem max2 (h : (⟨3, ![n0, n1, n2]⟩ : Shape).ReducesTo [2] ⟨2, ![n0, n1]⟩) {u : Shape} (hu : 0 < u.numel) (x : (⟨3, ![n0, n1, n2]⟩ : Shape).Idx → Ideal .f32) (c : u.Idx → Ideal .f32)
    (a : Fin n0) (b : Fin n1) :
    Host.reduce FloatOps.maximumf x c h hu (ix2 a b) = Finset.univ.fold max (c (Shape.Idx.first hu)) fun k => x (ix3 a b k) := by
  pointwise

end Cert.XattnHost

end
-- ==== Proof.Xattn.Ref.lean ====
/- The reference's values at an index, stage by stage, as the row functions of Proof/Xattn/Rows.lean. -/
module

public import proofs.«01_k».proof.Proof.Gen.XattnRefIdeal.Read
public import proofs.«01_k».proof.Proof.Xattn.Rows
public import proofs.«01_k».proof.Proof.Xattn.Host
public import Idealize.ShloMosaic.Lib.Pointwise

@[expose] public section

set_option maxRecDepth 16384

noncomputable section

namespace Cert.XattnRefRows

open Cert.XattnRefIdeal Cert.XattnRefIdeal.Gen Cert.XattnRefIdeal.Read Cert.XattnSpec Cert.XattnRows Idealize.ShloMosaic

variable (q o : FVec Ideal S8192x512 .f32) (kv : FVec Ideal S256x1024 .f32) (g k : FVec Ideal S1x128 .f32)

theorem bot_bits : Ideal.ofBits .f32 0xFF800000#32 = ⊥ := by simp [Ideal.ofBits, Ideal.ieee]

theorem r2 (s : Fin 8192) (h : Fin 4) (d : Fin 128) : val_main_v2 (F := Ideal) q (ix3 s h d) = Q q h s d := by
  pointwise [val_main_v2]
  unfold Q; congr 1

theorem r71 (s : Fin 8192) (h : Fin 4) (d : Fin 128) : val_main_v71 (F := Ideal) o (ix3 s h d) = Q o h s d := by
  pointwise [val_main_v71]
  unfold Q; congr 1

theorem r19 (m : Fin 256) (h : Fin 4) (d : Fin 128) : val_main_v19 (F := Ideal) kv (ix3 m h d) = K kv h m d := by
  pointwise [val_main_v19, val_main_v0]
  unfold K; congr 1

theorem r36 (m : Fin 256) (h : Fin 4) (d : Fin 128) : val_main_v36 (F := Ideal) kv (ix3 m h d) = VL kv h m d := by
  pointwise [val_main_v36, val_main_v1]
  rfl

theorem r9 (s : Fin 8192) (h : Fin 4) (z : Fin 1) : val_main_v9 (F := Ideal) q (ix3 s h z) = nv (Q q h s) := by
  pointwise [val_main_v9, val_main_v8, val_main_cst_1, val_main_v7, val_main_v6, val_main_cst_0, val_main_v5, val_main_v4, val_main_v3, val_main_cst]
  simp only [r2]
  rfl

theorem r10 (s : Fin 8192) (h : Fin 4) (z : Fin 1) : val_main_v10 (F := Ideal) q (ix3 s h z) = nr (Q q h s) := by
  pointwise [val_main_v10]
  rw [r9]
  rfl

theorem r13 (s : Fin 8192) (h : Fin 4) (z : Fin 1) : val_main_v13 (F := Ideal) q (ix3 s h z) = nk (Q q h s) := by
  pointwise [val_main_v13, val_main_v12, val_main_cst_2, val_main_v11]
  rw [r9, r10]
  rfl

theorem r15 (s : Fin 8192) (h : Fin 4) (d : Fin 128) : val_main_v15 (F := Ideal) q (ix3 s h d) = nh (Q q h s) d := by
  pointwise [val_main_v15, val_main_v14]
  rw [r2, r10]
  rfl

theorem r18 (s : Fin 8192) (h : Fin 4) (d : Fin 128) : val_main_v18 (F := Ideal) q g (ix3 s h d) = qn q g h s d := by
  pointwise [val_main_v18, val_main_v17, val_main_v16]
  rw [r15]
  rfl

theorem r26 (m : Fin 256) (h : Fin 4) (z : Fin 1) : val_main_v26 (F := Ideal) kv (ix3 m h z) = nv (K kv h m) := by
  pointwise [val_main_v26, val_main_v25, val_main_cst_5, val_main_v24, val_main_v23, val_main_cst_4, val_main_v22, val_main_v21, val_main_v20, val_main_cst_3]
  simp only [r19]
  rfl

theorem r27 (m : Fin 256) (h : Fin 4) (z : Fin 1) : val_main_v27 (F := Ideal) kv (ix3 m h z) = nr (K kv h m) := by
  pointwise [val_main_v27]
  rw [r26]
  rfl

theorem r30 (m : Fin 256) (h : Fin 4) (z : Fin 1) : val_main_v30 (F := Ideal) kv (ix3 m h z) = nk (K kv h m) := by
  pointwise [val_main_v30, val_main_v29, val_main_cst_6, val_main_v28]
  rw [r26, r27]
  rfl

theorem r32 (m : Fin 256) (h : Fin 4) (d : Fin 128) : val_main_v32 (F := Ideal) kv (ix3 m h d) = nh (K kv h m) d := by
  pointwise [val_main_v32, val_main_v31]
  rw [r19, r27]
  rfl

theorem r35 (m : Fin 256) (h : Fin 4) (d : Fin 128) : val_main_v35 (F := Ideal) kv k (ix3 m h d) = kn kv k h m d := by
  pointwise [val_main_v35, val_main_v34, val_main_v33]
  rw [r32]
  rfl

theorem r39 (h : Fin 4) (s : Fin 8192) (m : Fin 256) : val_main_v39 (F := Ideal) q kv g k (ix3 h s m) = sc (qn q g h s) (kn kv k h) m := by
  pointwise [val_main_v39, val_main_v38, val_main_cst_7, val_main_v37]
  simp only [r18, r35]
  rfl

theorem r40 (h : Fin 4) (s : Fin 8192) : val_main_v40 (F := Ideal) q kv g k (ix2 h s) = mx (qn q g h s) (kn kv k h) := by
  have e : (fun m => val_main_v39 (F := Ideal) q kv g k (ix3 h s m)) = fun m => sc (qn q g h s) (kn kv k h) m := funext (r39 q kv g k h s)
  have c : val_main_cst_8 (F := Ideal) (Shape.Idx.first h_S_) = ⊥ := bot_bits
  unfold val_main_v40
  generalize val_main_v39 (F := Ideal) q kv g k = X at e ⊢
  refine (XattnHost.max2 _ _ _ _ h s).trans ?_
  rw [e, c]
  unfold mx
  rfl

theorem r46 (h : Fin 4) (s : Fin 8192) : val_main_v46 (F := Ideal) (ix2 h s) = ⊥ := by
  pointwise [val_main_v46, val_main_cst_10]
  exact bot_bits

theorem r47 (h : Fin 4) (s : Fin 8192) : val_main_v47 (F := Ideal) q kv g k (ix2 h s) = mx (qn q g h s) (kn kv k h) := by
  rw [val_main_v47_apply, r46, r40]
  generalize mx (qn q g h s) (kn kv k h) = y
  exact max_eq_right bot_le

theorem r60 (h : Fin 4) (s : Fin 8192) (m : Fin 256) : val_main_v60 (F := Ideal) q kv g k (ix3 h s m) = ex (qn q g h s) (kn kv k h) m := by
  pointwise [val_main_v60, val_main_v59, val_main_v58, val_main_v57]
  rw [r39, r47]
  rfl

theorem r62 (h : Fin 4) (s : Fin 8192) (z : Fin 1) : val_main_v62 (F := Ideal) q kv g k (ix3 h s z) = ls (qn q g h s) (kn kv k h) := by
  pointwise [val_main_v62, val_main_v61, val_main_cst_16]
  simp only [r60]
  rfl

theorem r64 (h : Fin 4) (s : Fin 8192) (m : Fin 256) : val_main_v64 (F := Ideal) q kv g k (ix3 h s m) = P q kv g k h s m := by
  pointwise [val_main_v64, val_main_v63]
  rw [r60, r62]
  rfl

theorem r73 (h : Fin 4) (s : Fin 8192) (m : Fin 256) : val_main_v73 (F := Ideal) kv o (ix3 h s m) = ct (VL kv h) (Q o h s) m := by
  pointwise [val_main_v73, val_main_v72]
  simp only [r71, r36]
  rfl

theorem r81 (h : Fin 4) (s : Fin 8192) (z : Fin 1) : val_main_v81 (F := Ideal) q kv g k o (ix3 h s z) = lb (qn q g h s) (kn kv k h) (VL kv h) (Q o h s) := by
  pointwise [val_main_v81, val_main_v80, val_main_v79, val_main_v78, val_main_v77, val_main_v76, val_main_v67, val_main_v66, val_main_v65, val_main_cst_17, val_main_cst_18]
  simp only [r73, r60, r62]
  rfl

theorem r89 (h : Fin 4) (s : Fin 8192) (m : Fin 256) : val_main_v89 (F := Ideal) q kv g k o (ix3 h s m) = DS q o kv g k h s m := by
  pointwise [val_main_v89, val_main_v88, val_main_cst_20, val_main_v87, val_main_v86, val_main_v85, val_main_v84, val_main_v83, val_main_v82, val_main_cst_19]
  simp only [r73, r60, r62, r81, Fin.sum_univ_one]
  rfl

theorem r91 (m : Fin 256) (h : Fin 4) (d : Fin 128) : val_main_v91 (F := Ideal) q kv g k o (ix3 m h d) = ∑ s, KT q o kv g k h m d s := by
  pointwise [val_main_v91, val_main_v90]
  simp only [r89, r18]
  rfl

theorem r93 (s : Fin 8192) (h : Fin 4) (d : Fin 128) : val_main_v93 (F := Ideal) q kv g k o (ix3 s h d) = DQH q o kv g k h s d := by
  pointwise [val_main_v93, val_main_v92]
  simp only [r89, r35]
  rfl

theorem r94 (m : Fin 256) (j : Fin 512) : val_main_v94 (F := Ideal) q kv g k o (ix2 m j) = DV q o kv g k (hd j) m (pl j) := by
  pointwise [val_main_v94, val_main_v75, val_main_v74, val_main_v72]
  simp only [r64, r71]
  exact Finset.sum_congr rfl fun x _ => mul_comm _ _

theorem r96a (d : Fin 128) : val_main_v96 (F := Ideal) q kv g k o (ix1 d) = DKN q o kv g k d := by
  unfold val_main_v96
  refine (XattnHost.sum01 _ _ _ _).trans ?_
  pointwise [val_main_v95, val_main_cst_21]
  simp only [r32, r91]
  exact Finset.sum_comm

theorem r96b (d : Fin 128) : val_main_v100 (F := Ideal) q kv g k o (ix1 d) = DKN q o kv g k d := by
  have e := r96a q kv g k (o := o) d
  unfold val_main_v100 val_main_v97
  generalize val_main_v96 (F := Ideal) q kv g k o = X at e ⊢
  refine (XattnHost.sum01 _ _ _ _).trans ?_
  pointwise [val_main_cst_22]
  simp only [Fin.sum_univ_one]
  exact e

theorem r96 (d : Fin 128) : val_main_v101 (F := Ideal) q kv g k o (ix2 0 d) = DKN q o kv g k d := by
  have e := r96b q kv g k (o := o) d
  unfold val_main_v101
  generalize val_main_v100 (F := Ideal) q kv g k o = X at e ⊢
  pointwise
  exact e

theorem r123a (d : Fin 128) : val_main_v118 (F := Ideal) q kv g k o (ix1 d) = DQN q o kv g k d := by
  unfold val_main_v118
  refine (XattnHost.sum01 _ _ _ _).trans ?_
  pointwise [val_main_v117, val_main_cst_26]
  simp only [r15, r93]
  exact Finset.sum_comm

theorem r123b (d : Fin 128) : val_main_v122 (F := Ideal) q kv g k o (ix1 d) = DQN q o kv g k d := by
  have e := r123a q kv g k (o := o) d
  unfold val_main_v122 val_main_v119
  generalize val_main_v118 (F := Ideal) q kv g k o = X at e ⊢
  refine (XattnHost.sum01 _ _ _ _).trans ?_
  pointwise [val_main_cst_27]
  simp only [Fin.sum_univ_one]
  exact e

theorem r123 (d : Fin 128) : val_main_v123 (F := Ideal) q kv g k o (ix2 0 d) = DQN q o kv g k d := by
  have e := r123b q kv g k (o := o) d
  unfold val_main_v123
  generalize val_main_v122 (F := Ideal) q kv g k o = X at e ⊢
  pointwise
  exact e

theorem r99 (m : Fin 256) (h : Fin 4) (d : Fin 128) : val_main_v99 (F := Ideal) q kv g k o (ix3 m h d) = (∑ s, KT q o kv g k h m d s) * G k d := by
  pointwise [val_main_v99, val_main_v98, val_main_v33]
  rw [r91]
  rfl

theorem r116 (m : Fin 256) (j : Fin 512) : val_main_v116 (F := Ideal) q kv g k o (ix2 m j) = DK q o kv g k (hd j) m (pl j) := by
  pointwise [val_main_v116, val_main_v115, val_main_v114, val_main_v113, val_main_v112, val_main_v111, val_main_v110, val_main_v109, val_main_v108, val_main_v107, val_main_v106, val_main_v105, val_main_v104, val_main_v103, val_main_v102, val_main_cst_23, val_main_cst_24, val_main_cst_25]
  simp only [r19, r99, r27, r30, Fin.sum_univ_one]
  rfl

theorem r121 (s : Fin 8192) (h : Fin 4) (d : Fin 128) : val_main_v121 (F := Ideal) q kv g k o (ix3 s h d) = DQH q o kv g k h s d * G g d := by
  pointwise [val_main_v121, val_main_v120, val_main_v16]
  rw [r93]
  rfl

theorem r139 (s : Fin 8192) (j : Fin 512) : val_main_v139 (F := Ideal) q kv g k o (ix2 s j) = DQ q o kv g k (hd j) s (pl j) := by
  pointwise [val_main_v139, val_main_v138, val_main_v137, val_main_v136, val_main_v135, val_main_v134, val_main_v133, val_main_v132, val_main_v131, val_main_v130, val_main_v129, val_main_v128, val_main_v127, val_main_v126, val_main_v125, val_main_v124, val_main_cst_28, val_main_cst_29, val_main_cst_30]
  simp only [r2, r121, r10, r13, Fin.sum_univ_one]
  rfl

end Cert.XattnRefRows

end
-- ==== Proof.Xattn.Finite.lean ====
/- Real numbers among the extended reals, and the two places where the gradient of the keys needs them: the norm's
   gradient is linear in its cotangent, and a real factor goes through a sum. -/
module

public import proofs.«01_k».proof.Proof.Xattn.Rows

@[expose] public section

set_option maxRecDepth 16384

noncomputable section

namespace Cert.XattnFinite

open Cert.XattnSpec Cert.XattnRows Idealize.ShloMosaic

/-- A value that is a real number. -/
def Fine (x : EReal) : Prop := ∃ r : ℝ, x = r

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Fine.coe (r : ℝ) : Fine r := ⟨r, rfl⟩
theorem Fine.add {x y : EReal} (hx : Fine x) (hy : Fine y) : Fine (x + y) := by
  obtain ⟨a, rfl⟩ := hx; obtain ⟨b, rfl⟩ := hy; exact ⟨a + b, (EReal.coe_add a b).symm⟩
theorem Fine.sub {x y : EReal} (hx : Fine x) (hy : Fine y) : Fine (x - y) := by
  obtain ⟨a, rfl⟩ := hx; obtain ⟨b, rfl⟩ := hy; exact ⟨a - b, (EReal.coe_sub a b).symm⟩
theorem Fine.neg {x : EReal} (hx : Fine x) : Fine (-x) := by
  obtain ⟨a, rfl⟩ := hx; exact ⟨-a, (EReal.coe_neg a).symm⟩
theorem Fine.mul {x y : EReal} (hx : Fine x) (hy : Fine y) : Fine (x * y) := by
  obtain ⟨a, rfl⟩ := hx; obtain ⟨b, rfl⟩ := hy; exact ⟨a * b, (EReal.coe_mul a b).symm⟩
theorem Fine.sum {ι : Type} {s : Finset ι} {f : ι → EReal} (h : ∀ i, Fine (f i)) : Fine (∑ i ∈ s, f i) := by
  choose r hr using h
  exact ⟨∑ i ∈ s, r i, by rw [← coe_sum]; exact Finset.sum_congr rfl fun i _ => hr i⟩
theorem Fine.div {x y : EReal} (hx : Fine x) (hy : ∃ r : ℝ, r ≠ 0 ∧ y = r) : Fine (Ideal.div x y) := by
  obtain ⟨b, hb, rfl⟩ := hy
  rw [Ideal.div_coe hb]
  exact hx.mul (Fine.coe _)
theorem Fine.exp {x : EReal} (hx : Fine x) : ∃ r : ℝ, 0 < r ∧ Ideal.exp x = r := by
  obtain ⟨a, rfl⟩ := hx
  exact ⟨Real.exp a, Real.exp_pos a, by rw [Ideal.exp_coe]⟩

theorem cw_val : cw = ((128 : ℝ) : EReal) := by
  simp [cw, Ideal.ofBits, Ideal.ieee]
  rw [← EReal.coe_mul]
  norm_num
theorem cw_pos : ∃ r : ℝ, r ≠ 0 ∧ cw = r := ⟨128, by norm_num, cw_val⟩
theorem ceps_pos : ∃ r : ℝ, 0 < r ∧ ceps = r :=
  ⟨8796093 * (1 / 8796093022208), by norm_num, by
    simp [ceps, Ideal.ofBits, Ideal.ieee]
    norm_num⟩
theorem cnh_fine : Fine cnh := ⟨_, by simp [cnh, Ideal.ofBits, Ideal.ieee]; rfl⟩
theorem csc_fine : Fine csc := ⟨_, by simp [csc, Ideal.ofBits, Ideal.ieee]; rfl⟩

/-- The mean square of a row of real numbers plus epsilon is a positive real number. -/
theorem nv_pos {x : Fin 128 → EReal} (hx : ∀ d, Fine (x d)) : ∃ r : ℝ, 0 < r ∧ nv x = r := by
  choose a ha using hx
  obtain rfl : x = fun d => (a d : EReal) := funext ha
  obtain ⟨e, he, hc⟩ := ceps_pos
  refine ⟨(∑ d, a d * a d) * (1 / 128) + e, ?_, ?_⟩
  · have : 0 ≤ ∑ d, a d * a d := Finset.sum_nonneg fun d _ => mul_self_nonneg _
    positivity
  · unfold nv
    simp only [← EReal.coe_mul]
    rw [coe_sum, hc, cw_val, Ideal.div_coe (by norm_num), ← EReal.coe_mul, ← EReal.coe_add]

theorem nr_fine {x : Fin 128 → EReal} (hx : ∀ d, Fine (x d)) : Fine (nr x) := by
  obtain ⟨r, hr, h⟩ := nv_pos hx
  unfold nr
  rw [h, Ideal.rsqrt_coe, if_neg (not_lt.mpr hr.le), if_neg hr.ne']
  exact Fine.coe _

theorem nk_fine {x : Fin 128 → EReal} (hx : ∀ d, Fine (x d)) : Fine (nk x) := by
  obtain ⟨r, hr, h⟩ := nv_pos hx
  exact cnh_fine.mul ((nr_fine hx).div ⟨r, hr.ne', h⟩)

theorem nh_fine {x : Fin 128 → EReal} (hx : ∀ d, Fine (x d)) (d : Fin 128) : Fine (nh x d) := (hx d).mul (nr_fine hx)

theorem rn_fine {x g : Fin 128 → EReal} (hx : ∀ d, Fine (x d)) (hg : ∀ d, Fine (g d)) (d : Fin 128) : Fine (rn x g d) :=
  (nh_fine hx d).mul (hg d)

/-- The norm's gradient is linear in its cotangent, on real numbers. -/
theorem rb_sum {x g : Fin 128 → EReal} (hx : ∀ d, Fine (x d)) (hg : ∀ d, Fine (g d)) {n : Nat} {y : Fin n → Fin 128 → EReal}
    (hy : ∀ b d, Fine (y b d)) (d : Fin 128) : rb x g (fun d => ∑ b, y b d) d = ∑ b, rb x g (y b) d := by
  obtain ⟨r, hr⟩ := nr_fine hx
  obtain ⟨k, hk⟩ := nk_fine hx
  choose a ha using hx
  choose c hc using hg
  choose z hz using hy
  obtain rfl : x = fun d => (a d : EReal) := funext ha
  obtain rfl : g = fun d => (c d : EReal) := funext hc
  obtain rfl : y = fun b d => (z b d : EReal) := funext fun b => funext (hz b)
  unfold rb rc
  simp only [hr, hk, cw_val, Ideal.div_coe (show (128 : ℝ) ≠ 0 by norm_num), ← EReal.coe_mul, coe_sum, ← EReal.coe_add]
  congr 1
  have e : ∀ w : Fin 128 → ℝ, (∑ d, a d * (w d * c d)) * k * (1 / 128) = ∑ d, a d * c d * k * (1 / 128) * w d := by
    intro w; rw [Finset.sum_mul, Finset.sum_mul]; exact Finset.sum_congr rfl fun d _ => by ring
  simp only [e]
  have e2 : ∑ d, a d * c d * k * (1 / 128) * (∑ b, z b d) = ∑ b, ∑ d, a d * c d * k * (1 / 128) * z b d := by
    simp only [Finset.mul_sum]; exact Finset.sum_comm
  rw [e2]
  simp only [Finset.sum_add_distrib, Finset.sum_mul, Finset.mul_sum]

/-- A real factor goes through a sum of real numbers. -/
theorem mul_sum {x : EReal} (hx : Fine x) {n : Nat} {y : Fin n → EReal} (hy : ∀ b, Fine (y b)) : x * ∑ b, y b = ∑ b, x * y b := by
  obtain ⟨a, rfl⟩ := hx
  choose z hz using hy
  obtain rfl : y = fun b => (z b : EReal) := funext hz
  simp only [← EReal.coe_mul, coe_sum, Finset.mul_sum]

section softmax
variable {u : Fin 128 → EReal} {Ks V : Fin 256 → Fin 128 → EReal} {o : Fin 128 → EReal}

theorem sc_fine (hu : ∀ d, Fine (u d)) (hK : ∀ m d, Fine (Ks m d)) (m : Fin 256) : Fine (sc u Ks m) :=
  (Fine.sum fun d => (hu d).mul (hK m d)).mul csc_fine

/-- The largest of finitely many real numbers, at least one of them, is a real number. -/
theorem fold_fine {n : Nat} (f : Fin (n + 1) → EReal) (hf : ∀ i, Fine (f i)) : Fine (Finset.univ.fold max ⊥ f) := by
  have h : ∀ s : Finset (Fin (n + 1)), s.fold max ⊥ f = ⊥ ∧ s = ∅ ∨ Fine (s.fold max ⊥ f) := by
    intro s
    induction s using Finset.induction_on with
    | empty => exact Or.inl ⟨rfl, rfl⟩
    | insert a s ha ih =>
      right
      rw [Finset.fold_insert ha]
      rcases ih with ⟨e, -⟩ | h
      · rw [e, max_eq_left bot_le]; exact hf a
      · rcases max_choice (f a) (s.fold max ⊥ f) with e | e <;> rw [e]
        · exact hf a
        · exact h
  rcases h Finset.univ with ⟨-, e⟩ | h
  · exact absurd e Finset.univ_nonempty.ne_empty
  · exact h

theorem mx_fine (hu : ∀ d, Fine (u d)) (hK : ∀ m d, Fine (Ks m d)) : Fine (mx u Ks) :=
  fold_fine (n := 255) _ fun m => sc_fine hu hK m

theorem ex_pos (hu : ∀ d, Fine (u d)) (hK : ∀ m d, Fine (Ks m d)) (m : Fin 256) : ∃ r : ℝ, 0 < r ∧ ex u Ks m = r :=
  ((sc_fine hu hK m).sub (mx_fine hu hK)).exp

theorem ls_pos (hu : ∀ d, Fine (u d)) (hK : ∀ m d, Fine (Ks m d)) : ∃ r : ℝ, 0 < r ∧ ls u Ks = r := by
  choose a ha hr using ex_pos hu hK
  refine ⟨∑ m, a m, Finset.sum_pos (fun m _ => ha m) Finset.univ_nonempty, ?_⟩
  unfold ls
  rw [← coe_sum]
  exact Finset.sum_congr rfl fun m _ => hr m

theorem ds_fine (hu : ∀ d, Fine (u d)) (hK : ∀ m d, Fine (Ks m d)) (hV : ∀ m d, Fine (V m d)) (ho : ∀ d, Fine (o d)) (m : Fin 256) :
    Fine (ds u Ks V o m) := by
  obtain ⟨l, hl, e⟩ := ls_pos hu hK
  have hex : ∀ m, Fine (ex u Ks m) := fun m => let ⟨r, _, h⟩ := ex_pos hu hK m; ⟨r, h⟩
  have hct : ∀ m, Fine (ct V o m) := fun m => Fine.sum fun d => (ho d).mul (hV m d)
  have hlb : Fine (lb u Ks V o) :=
    (Fine.sum fun m => ((hct m).mul ((show Fine 1 from ⟨1, EReal.coe_one.symm⟩).div
      ⟨l * l, (mul_pos hl hl).ne', by rw [e, EReal.coe_mul]⟩)).mul (hex m)).neg
  exact ((((hct m).div ⟨l, hl.ne', e⟩).add hlb).mul (hex m)).mul csc_fine

end softmax

/-! ## The tiles of the gradients -/

/-- A sum over the rows, tile by tile. -/
theorem sum_rows (f : Fin 8192 → EReal) : ∑ s, f s = ∑ b, ∑ r, f (row b r) := by
  rw [← Finset.sum_product' (Finset.univ) (Finset.univ) fun b r => f (row b r)]
  refine (Finset.sum_bij' (fun x _ => row x.1 x.2) (fun s _ => ((⟨s.val / 512, by have := s.isLt; omega⟩ : Fin 16), (⟨s.val % 512, by omega⟩ : Fin 512)))
    (by simp) (by simp) ?_ ?_ (by simp)).symm
  · rintro ⟨b, r⟩ -
    have := r.isLt
    refine Prod.ext (Fin.ext ?_) (Fin.ext ?_)
    · show (b.val * 512 + r.val) / 512 = b.val; omega
    · show (b.val * 512 + r.val) % 512 = r.val; omega
  · intro s _
    exact Fin.ext (by show s.val / 512 * 512 + s.val % 512 = s.val; omega)

variable {q o : FVec Ideal ⟨2, ![8192, 512]⟩ .f32} {kv : FVec Ideal ⟨2, ![256, 1024]⟩ .f32}
  {g k : FVec Ideal ⟨2, ![1, 128]⟩ .f32}

theorem DV_tiles (h : Fin 4) (m : Fin 256) (d : Fin 128) : ∑ b, DVt q o kv g k h b m d = DV q o kv g k h m d :=
  (sum_rows fun s => P q kv g k h s m * Q o h s d).symm

theorem DQN_tiles (d : Fin 128) : ∑ h, ∑ b, DQNt q o kv g k h b d = DQN q o kv g k d :=
  Finset.sum_congr rfl fun h _ => (sum_rows fun s => nh (Q q h s) d * DQH q o kv g k h s d).symm

section real
variable (hq : ∀ i, Fine (q i)) (ho : ∀ i, Fine (o i)) (hkv : ∀ i, Fine (kv i)) (hg : ∀ i, Fine (g i)) (hk : ∀ i, Fine (k i))
include hq ho hkv hg hk

theorem KT_fine (h : Fin 4) (m : Fin 256) (d : Fin 128) (s : Fin 8192) : Fine (KT q o kv g k h m d s) := by
  have hu : ∀ d, Fine (qn q g h s d) := rn_fine (fun _ => hq _) (fun _ => hg _)
  exact (ds_fine hu (fun _ => rn_fine (fun _ => hkv _) (fun _ => hk _)) (fun _ _ => hkv _) (fun _ => ho _) m).mul (hu d)

theorem DK_tiles (h : Fin 4) (m : Fin 256) (d : Fin 128) : ∑ b, DKt q o kv g k h b m d = DK q o kv g k h m d := by
  unfold DKt DK
  simp only [sum_rows]
  exact (rb_sum (fun _ => hkv _) (fun _ => hk _) (fun b d' => Fine.sum fun r => KT_fine hq ho hkv hg hk h m d' (row b r)) d).symm

theorem DKN_tiles (d : Fin 128) : ∑ h, ∑ b, DKNt q o kv g k h b d = DKN q o kv g k d := by
  unfold DKNt DKN
  refine Finset.sum_congr rfl fun h _ => ?_
  rw [Finset.sum_comm]
  refine Finset.sum_congr rfl fun m _ => ?_
  rw [sum_rows]
  exact (mul_sum (nh_fine (fun _ => hkv _) d) fun b => Fine.sum fun r => KT_fine hq ho hkv hg hk h m d (row b r)).symm

end real

end Cert.XattnFinite

end
-- ==== Proof.Xattn.Claims.lean ====
/- The claims about the gradient of the cross-attention, and what its precondition says of each argument. -/
module

public import proofs.«01_k».proof.Defs
public import proofs.«01_k».proof.Proof.Gen.Xattn
public import proofs.«01_k».proof.Proof.Gen.Xattn.Frame
public import proofs.«01_k».proof.Proof.Gen.XattnIdeal.Frame
public import proofs.«01_k».proof.Proof.Gen.XattnRefIdeal.Run
public import proofs.«01_k».proof.Proof.Gen.Pre_finite_xattn
public import proofs.«01_k».proof.Proof.Xattn.Run
public import proofs.«01_k».proof.Proof.Xattn.Ref
public import proofs.«01_k».proof.Proof.Xattn.Finite
public import Idealize.ShloMosaic.Lib.ReduceAll

@[expose] public section

set_option maxRecDepth 16384

noncomputable section

namespace Cert.XattnFinite

open Idealize.ShloMosaic

instance : Subsingleton (Shape.Idx Cert.Pre_finite_xattn.S_) := ⟨fun _ _ => funext fun a => a.elim0⟩

theorem top_bits : Ideal.ofBits .f32 0x7F800000#32 = ⊤ := by simp [Ideal.ofBits, Ideal.ieee]

/-- A value whose absolute value is below infinity is a real number. -/
theorem fine_of_lt (x : EReal) (h : Ideal.cmp .olt (max x (-x)) ⊤ = 1#1) : Fine x := by
  have l : max x (-x) < ⊤ := by
    by_contra n
    simp [Ideal.cmp, n] at h
  induction x using EReal.rec with
  | bot => simp at l
  | coe r => exact ⟨r, rfl⟩
  | top => simp at l

/-- An array whose every absolute value is below infinity holds real numbers. -/
theorem fine_of_all {s : Shape} {axes : List (Fin s.rank)} (x : FVec Ideal s .f32) (h : s.ReducesTo axes Cert.Pre_finite_xattn.S_)
    (hu : 0 < Cert.Pre_finite_xattn.S_.numel) (hb : Cert.Pre_finite_xattn.S_.BroadcastsInDim s (![] : Fin 0 → Fin s.rank)) (j : Cert.Pre_finite_xattn.S_.Idx)
    (e : Host.reduce IntOp.andi (cmpf .olt (Host.absf x) (broadcastInDim s ![] hb (constant Cert.Pre_finite_xattn.S_ .f32 0x7F800000#32)))
      (constantI Cert.Pre_finite_xattn.S_ 1 1#1) h hu j = 1#1) (i : s.Idx) : Fine (x i) := by
  refine fine_of_lt _ ?_
  rw [← top_bits]
  exact Host.reduce_andi_all _ _ h hu j e i

/-- The precondition: every argument holds real numbers. -/
theorem fine_args {q : FVec Ideal Cert.Pre_finite_xattn.S8192x512 .f32} {kv : FVec Ideal Cert.Pre_finite_xattn.S256x1024 .f32}
    {g k : FVec Ideal Cert.Pre_finite_xattn.S1x128 .f32} {o : FVec Ideal Cert.Pre_finite_xattn.S8192x512 .f32}
    (h : Cert.Pre_finite_xattn.fn (F := Ideal) q kv g k o = fun _ => 1#1) :
    (∀ i, Fine (q i)) ∧ (∀ i, Fine (kv i)) ∧ (∀ i, Fine (g i)) ∧ (∀ i, Fine (k i)) ∧ ∀ i, Fine (o i) := by
  have e := congrFun h (fun a => a.elim0)
  unfold Cert.Pre_finite_xattn.fn Cert.Pre_finite_xattn.fn_part1 at e
  dsimp only at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fine_of_all _ _ _ _ _ e0, fine_of_all _ _ _ _ _ e1, fine_of_all _ _ _ _ _ e2, fine_of_all _ _ _ _ _ e3, fine_of_all _ _ _ _ _ e4⟩

end Cert.XattnFinite

namespace Cert.XattnClaims

open Idealize.ShloMosaic Idealize.ShloMosaic.TcCoe Idealize.SL.Sem Cert.XattnRun Cert.XattnFinite Cert.XattnRefRows Cert.XattnRefIdeal.Read

theorem frame_p : Cert.quiescent_Xattn := fun m ρ _ => Cert.Xattn.Gen.frame m ρ
theorem frame_pi : Cert.quiescent_XattnIdeal := fun m ρ _ => Cert.XattnIdeal.Gen.frame m ρ
theorem frame_pi_pre : Cert.quiescent_XattnIdeal_pre_finite_xattn := fun m ρ _ => Cert.XattnIdeal.Gen.frame m ρ

theorem frame_ri : Cert.quiescent_XattnRefIdeal := fun m ρ _ =>
  (θ_run Cert.XattnRefIdeal.defs _ _).mono (fun r h => ⟨fun c => (h c).2.2.2.2.2,
    Idealize.ShloMosaic.sem_eq_zero_of_no_sems (by decide) r.2⟩) (Cert.XattnRefIdeal.Value.run (F := Ideal) m ρ)
theorem frame_ri_pre : Cert.quiescent_XattnRefIdeal_pre_finite_xattn := fun m ρ _ => frame_ri m ρ trivial

section values
variable {m : (ℓ : Loc Cert.XattnIdeal.nD Cert.XattnIdeal.τ Cert.XattnIdeal.sig) → Buf (Elt Ideal) ℓ}
  (h : Cert.Pre_XattnIdeal_finite_xattn m) (c : Dev Cert.XattnIdeal.nD)

theorem dq_eq : (val_main_v139 (F := Ideal) (xq m c) (xkv m c) (xg m c) (xh m c) (xo m c) : FVec Ideal ⟨2, ![8192, 512]⟩ .bf16) = resDq m c := by
  funext i
  obtain ⟨a, b, rfl⟩ : ∃ (a : Fin 8192) (b : Fin 512), i = ix2 a b := ⟨i 0, i 1, by funext a; fin_cases a <;> rfl⟩
  exact r139 ..

theorem dv_eq : (val_main_v94 (F := Ideal) (xq m c) (xkv m c) (xg m c) (xh m c) (xo m c) : FVec Ideal ⟨2, ![256, 512]⟩ .f32) = resDv m c := by
  funext i
  obtain ⟨a, b, rfl⟩ : ∃ (a : Fin 256) (b : Fin 512), i = ix2 a b := ⟨i 0, i 1, by funext a; fin_cases a <;> rfl⟩
  exact (r94 ..).trans ((DV_tiles _ _ _).symm.trans (zero_add _).symm)

theorem dqn_eq : (val_main_v123 (F := Ideal) (xq m c) (xkv m c) (xg m c) (xh m c) (xo m c) : FVec Ideal ⟨2, ![1, 128]⟩ .f32) = resDqn m c := by
  funext i
  obtain ⟨b, rfl⟩ : ∃ (b : Fin 128), i = ix2 0 b := ⟨i 1, by funext a; fin_cases a; exact Subsingleton.elim (α := Fin 1) _ _; rfl⟩
  exact (r123 ..).trans ((DQN_tiles _).symm.trans (zero_add _).symm)

include h

theorem dk_eq : (val_main_v116 (F := Ideal) (xq m c) (xkv m c) (xg m c) (xh m c) (xo m c) : FVec Ideal ⟨2, ![256, 512]⟩ .f32) = resDk m c := by
  obtain ⟨hq, hkv, hg, hk, ho⟩ := fine_args (h c)
  funext i
  obtain ⟨a, b, rfl⟩ : ∃ (a : Fin 256) (b : Fin 512), i = ix2 a b := ⟨i 0, i 1, by funext a; fin_cases a <;> rfl⟩
  exact (r116 ..).trans ((DK_tiles hq ho hkv hg hk _ _ _).symm.trans (zero_add _).symm)

theorem dkn_eq : (val_main_v101 (F := Ideal) (xq m c) (xkv m c) (xg m c) (xh m c) (xo m c) : FVec Ideal ⟨2, ![1, 128]⟩ .f32) = resDkn m c := by
  obtain ⟨hq, hkv, hg, hk, ho⟩ := fine_args (h c)
  funext i
  obtain ⟨b, rfl⟩ : ∃ (b : Fin 128), i = ix2 0 b := ⟨i 1, by funext a; fin_cases a; exact Subsingleton.elim (α := Fin 1) _ _; rfl⟩
  exact (r96 ..).trans ((DKN_tiles hq ho hkv hg hk _).symm.trans (zero_add _).symm)

end values

/-- The kernel and the reference end with the same five arrays. -/
theorem algebraic : Cert.algebraic_XattnIdeal_XattnRefIdeal_pre_finite_xattn := by
  intro m ρ m' ρ' hpre hag
  refine ⟨fun c => resDq m c, fun c => resDk m c, fun c => resDv m c, fun c => resDqn m c, fun c => resDkn m c, ?_, ?_⟩
  · refine (θ_run Cert.XattnIdeal.defs _ _).mono (fun r h c => ?_) (Cert.XattnIdeal.Value.run_blocks (F := Ideal) m ρ)
    obtain ⟨h0, h1, h2, h3, h4, ha⟩ := h c
    exact ⟨h0.trans (final_dq m c), h1.trans (final_dk m c), h2.trans (final_dv m c), h3.trans (final_dqn m c), h4.trans (final_dkn m c), ha⟩
  · refine (θ_run Cert.XattnRefIdeal.defs _ _).mono (fun r h c => ?_) (Cert.XattnRefIdeal.Value.run (F := Ideal) m' ρ')
    obtain ⟨h0, h1, h2, h3, h4, ha⟩ := h c
    obtain ⟨a0, a1, a2, a3, a4⟩ := hag c
    refine ⟨h0.trans ?_, h1.trans ?_, h2.trans ?_, h3.trans ?_, h4.trans ?_, ha⟩
    · rw [val_main_v139_eq, a0, a1, a2, a3, a4]; exact dq_eq c
    · rw [val_main_v116_eq, a0, a1, a2, a3, a4]; exact dk_eq hpre c
    · rw [val_main_v94_eq, a0, a1, a2, a3, a4]; exact dv_eq c
    · rw [val_main_v123_eq, a0, a1, a2, a3, a4]; exact dqn_eq c
    · rw [val_main_v101_eq, a0, a1, a2, a3, a4]; exact dkn_eq hpre c

end Cert.XattnClaims

end
-- ==== Proof.Prod.Tiled.lean ====
/- A matrix product formed tile by tile: what an accumulator holds that is reset at the first of `nk` steps and to which every step adds the
   product of one tile of each factor. -/
module

public import Idealize.ShloMosaic.Lib.Pointwise
public import Idealize.ShloMosaic.Lib.Pipeline.ValueKit

@[expose] public section

noncomputable section

namespace Cert.Prod

open Idealize.ShloMosaic

theorem hz : (![0, 0] : Fin 2 → Nat) = fun _ => 0 := funext fun a => by fin_cases a <;> rfl

theorem zero_word : Ideal.ofBits .f32 0x00000000#32 = 0 := by simp [Ideal.ofBits, Ideal.ieee]

/-- An index of a matrix is a row and a column. -/
theorem pair {n m : ℕ} (y : (⟨2, ![n, m]⟩ : Shape).Idx) : ∃ (r : Fin n) (d : Fin m), y = ix2 r d :=
  ⟨y 0, y 1, by funext a; fin_cases a <;> rfl⟩

/-- What is read back of an array whose last store was of all of it. -/
theorem readCov_cons_unit_zero {Val : EltTy → Type} {S : Shape} {e : EltTy} [∀ e, Nonempty (Val e)] {sig : RefSig} {κ : Kind} {sp : Space}
    (v : View sig κ sp S e) {off : Fin S.rank → ℕ} (h : off = fun _ => 0) (inb : ∀ a, off a + S.size a ≤ S.size a) (w : S.Idx → Val e)
    (L : List (View.Piece Val S e)) :
    v.readCov (⟨Rect.unit off S.size inb, w⟩ :: L) (Rect.unit off S.size inb).toLoadRect = w := by
  subst h
  rw [View.readCov_eq_canon, View.canon_cons_unit_zero rfl]
  · funext j
    congr 1
    funext a
    apply Fin.ext
    simp [LoadRect.idx]
  · intro j
    refine ⟨_, List.mem_cons_self, (Rect.mem_set_unit (inb := inb)).mpr fun a => ⟨Nat.zero_le _, ?_⟩⟩
    have := ((Rect.unit (fun _ => 0) S.size inb).idx j a).isLt
    omega

/-- A sum taken tile by tile is the whole sum. -/
theorem sum_tiles {n l k : ℕ} (h : k = n * l) (f : Fin k → EReal) (g : Fin n → Fin l → EReal)
    (hg : ∀ (j : Fin n) (x : Fin l) (hx : l * j.val + x.val < k), g j x = f ⟨l * j.val + x.val, hx⟩) :
    ∑ j, ∑ x, g j x = ∑ x, f x := by
  subst h
  rw [← Equiv.sum_comp finProdFinEquiv f, Fintype.sum_prod_type]
  refine Finset.sum_congr rfl fun j _ => Finset.sum_congr rfl fun x _ => ?_
  have hx : l * j.val + x.val < n * l := by
    have := (finProdFinEquiv (j, x)).isLt
    simp only [finProdFinEquiv_apply_val] at this
    omega
  rw [hg j x hx]
  congr 1
  apply Fin.ext
  simp only [finProdFinEquiv_apply_val]
  omega

/-- A product formed by steps. The accumulator `acc` is reset at the first of `nk` steps; `step` adds the product of one tile of each factor:
    the rows `ra` of the first times the columns `cb` of the second, over the part `kk` of the contracted axis. At the last step it holds
    the sum over the whole of that axis. -/
theorem product_at {N nk tm tn tk M K P : ℕ} [NeZero nk] (hK : K = nk * tk) (A : Fin M → Fin K → EReal) (B : Fin K → Fin P → EReal)
    (ra : Fin N → Fin tm → Fin M) (cb : Fin N → Fin tn → Fin P) (kk : Fin N → Fin tk → Fin K)
    (hra : ∀ s t : Fin N, s.val / nk = t.val / nk → ra s = ra t) (hcb : ∀ s t : Fin N, s.val / nk = t.val / nk → cb s = cb t)
    (hkk : ∀ t x, (kk t x).val = tk * (t.val % nk) + x.val)
    (zero : (⟨2, ![tm, tn]⟩ : Shape).Idx → EReal) (step : ((⟨2, ![tm, tn]⟩ : Shape).Idx → EReal) → Fin N → (⟨2, ![tm, tn]⟩ : Shape).Idx → EReal)
    (hzero : ∀ i, zero i = 0)
    (hstep : ∀ x t r d, step x t (ix2 r d) = x (ix2 r d) + ∑ k, A (ra t r) (kk t k) * B (kk t k) (cb t d))
    (acc : (n : ℕ) → n < N → (⟨2, ![tm, tn]⟩ : Shape).Idx → EReal)
    (first : ∀ t : Fin N, t.val % nk = 0 → acc t.val t.isLt = step zero t)
    (next : ∀ t : Fin N, ¬t.val % nk = 0 → acc t.val t.isLt = step (acc (t.val - 1) (Nat.lt_of_le_of_lt (Nat.sub_le _ _) t.isLt)) t)
    (t : Fin N) (h : t.val % nk = nk - 1) (r : Fin tm) (d : Fin tn) :
    acc t.val t.isLt (ix2 r d) = ∑ k, A (ra t r) k * B k (cb t d) := by
  have key := Pipeline.eq_sum_fin_of_reset_step_apply_of_flush (M := EReal) (fun n h (i : Fin tm × Fin tn) => acc n h (ix2 i.1 i.2)) nk (fun _ => 0)
    (fun t i => ∑ k, A (ra t i.1) (kk t k) * B (kk t k) (cb t i.2))
    (fun t h i => by rw [first t h, hstep, hzero]) (fun t h i => by rw [next t h, hstep]) t h (r, d)
  refine key.trans ((zero_add _).trans ?_)
  refine sum_tiles hK (fun k => A (ra t r) k * B k (cb t d)) _ fun j x hx => ?_
  have hn : 0 < nk := Nat.pos_of_ne_zero (NeZero.ne nk)
  have near : ∀ s : Fin N, s.val = nk * (t.val / nk) + j.val →
      A (ra s r) (kk s x) * B (kk s x) (cb s d) = A (ra t r) ⟨tk * j.val + x.val, hx⟩ * B ⟨tk * j.val + x.val, hx⟩ (cb t d) := fun s hs => by
    have hq : s.val / nk = t.val / nk := by rw [hs, Nat.mul_add_div hn, Nat.div_eq_of_lt j.isLt, Nat.add_zero]
    have hm : s.val % nk = j.val := by rw [hs, Nat.mul_add_mod, Nat.mod_eq_of_lt j.isLt]
    have hk : kk s x = ⟨tk * j.val + x.val, hx⟩ := Fin.ext (by rw [hkk, hm])
    rw [hra s t hq, hcb s t hq, hk]
  exact near _ rfl

end Cert.Prod

end
-- ==== Proof.Prod.FfnIn.lean ====
/- The input projection of the gated feed-forward: the 8192 by 11264 product over 2048, formed in 8 by 8 tiles of 1024 by 1408
   and 2 steps of 1024 along the contracted axis. -/
module

public import proofs.«01_k».proof.Defs
public import proofs.«01_k».proof.Proof.Gen.FfnIn
public import proofs.«01_k».proof.Proof.Gen.FfnIn.Frame
public import proofs.«01_k».proof.Proof.Gen.FfnInIdeal.Value
public import proofs.«01_k».proof.Proof.Gen.FfnInRefIdeal.Run
public import proofs.«01_k».proof.Proof.Prod.Tiled
public import Idealize.ShloMosaic.Lib.StableHlo.Run

@[expose] public section

set_option maxRecDepth 16384

noncomputable section

namespace Cert.FfnInRun

open Cert.FfnInIdeal Cert.FfnInIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1408 .f32) (a : FVec Ideal S1024x1024 .bf16) (b : FVec Ideal S1408x1024 .bf16) (r : Fin 1024) (d : Fin 1408) :
    k0_pay2 acc a b (ix2 r d) = (acc (ix2 r d) + ∑ k : Fin 1024, a (ix2 r k) * b (ix2 d k) : EReal) := by
  pointwise [k0_pay2]

section Body
variable (c : Dev nD) (i : grid0.Coords)
  (aa : Memref sig .tc .vmem S1024x1024 .bf16) (ha : aa.IsWhole)
  (ab : Memref sig .tc .vmem S1408x1024 .bf16) (hb : ab.IsWhole)
  (ao : Memref sig .tc .vmem S1024x1408 .f32) (ho : ao.IsWhole)
  (aacc : Memref sig .tc .vmem S1024x1408 .f32) (hs : aacc.IsWhole)
  (a : FVec Ideal S1024x1024 .bf16) (b : FVec Ideal S1408x1024 .bf16) (acc : FVec Ideal S1024x1408 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x1408) hz, View.readCov_unit_zero (S := S1024x1408) _ hz]
  simp only [View.readAt_eq_ld, ha.read_unread, hb.read_unread,
    View.ld_unit_zero (S := S1024x1024) hz, View.ld_unit_zero (S := S1408x1024) hz, View.ld_unit_zero (S := S1024x1408) hz, shapeCast_self]

theorem sout_B (hc0 : ¬cond0_0 i) (hc1 : cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x1408) hz]
  simp only [View.readAt_eq_ld, ha.read_unread, hb.read_unread, hs.read_unread,
    View.ld_unit_zero (S := S1024x1024) hz, View.ld_unit_zero (S := S1408x1024) hz, View.ld_unit_zero (S := S1024x1408) hz, shapeCast_self]

theorem out_B (hc0 : ¬cond0_0 i) (hc1 : cond0_1 i) :
    out0_B_2 (F := Ideal) c i aa ha ab hb ao ho aacc hs hc0 hc1 a b acc = k0_pay2 (F := Ideal) acc a b := by
  unfold out0_B_2
  rw [View.read_writes_eq_canon _ _ _ (cover0_B_2 (F := Ideal) c i aa ha ab hb ao ho aacc hs hc0 hc1 a b acc)]
  unfold kernelRun0_B
  dsimp only
  sl_unfold_words
  rw [View.canon_unit_zero (S := S1024x1408) hz, View.readCov_unit_zero (S := S1024x1408) _ hz]
  simp only [View.readAt_eq_ld, ha.read_unread, hb.read_unread, hs.read_unread,
    View.ld_unit_zero (S := S1024x1024) hz, View.ld_unit_zero (S := S1408x1024) hz, View.ld_unit_zero (S := S1024x1408) hz, shapeCast_self]

end Body

variable (m : (ℓ : Loc nD τ sig) → Buf (Elt Ideal) ℓ) (c : Dev nD)

/-- The arguments, and the two factors they make. -/
abbrev arg0 : FVec Ideal S8192x2048 .bf16 := m ((c : Thread nD τ).loc main_arg0)
abbrev arg1 : FVec Ideal S2048x11264 .f32 := m ((c : Thread nD τ).loc main_arg1)
def A (i : Fin 8192) (k : Fin 2048) : EReal := arg0 m c (ix2 i k)
def B (k : Fin 2048) (n : Fin 11264) : EReal := arg1 m c (ix2 k n)

/-- The second factor as the host prepares it. -/
theorem V_b (k : Fin 2048) (n : Fin 11264) : (V m c main_v1 : FVec Ideal S11264x2048 .bf16) (ix2 n k) = B m c k n := by
  have e : V m c main_v1 = truncf .bf16 (transpose S11264x2048 [1, 0] (arg1 m c) transposes_S2048x11264_S11264x2048_1_0) bitsLt_bf16_f32 := by
    show StableHlo.after hostOps0 _ _ = _
    unfold hostOps0
    after_results
  rw [e]
  unfold B
  pointwise

theorem idx : ∀ t : Fin cfg0.N, t.val / 16 < 8 ∧ win0_0.index t = ![t.val / 16, t.val % 2]
    ∧ win0_1.index t = ![t.val / 2 % 8, t.val % 2] ∧ win0_2.index t = ![t.val / 16, t.val / 2 % 8] :=
  (by decide +kernel : ∀ t : Fin grid0.N, _)

/-- The rows, the columns and the contracted entries a step uses. -/
def ra (t : Fin cfg0.N) (r : Fin 1024) : Fin 8192 := ⟨1024 * (t.val / 16) + r.val, by have := (idx t).1; have := r.isLt; omega⟩
def cb (t : Fin cfg0.N) (d : Fin 1408) : Fin 11264 := ⟨1408 * (t.val / 2 % 8) + d.val, by have := d.isLt; omega⟩
def kk (t : Fin cfg0.N) (k : Fin 1024) : Fin 2048 := ⟨1024 * (t.val % 2) + k.val, by have := k.isLt; omega⟩

theorem a_apply (t : Fin cfg0.N) (r : Fin 1024) (k : Fin 1024) : (iblk m c 0 t : FVec Ideal S1024x1024 .bf16) (ix2 r k) = A m c (ra t r) (kk t k) := by
  unfold A arg0 ra kk; rw [← V_main_arg0 m c]; blk_ext [iblk, idx t]

theorem b_apply (t : Fin cfg0.N) (k : Fin 1024) (d : Fin 1408) : (iblk m c 1 t : FVec Ideal S1408x1024 .bf16) (ix2 d k) = B m c (kk t k) (cb t d) := by
  rw [← V_b]; unfold kk cb; blk_ext [iblk, idx t]

theorem pay_at (acc : FVec Ideal S1024x1408 .f32) (t : Fin cfg0.N) (r : Fin 1024) (d : Fin 1408) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 2 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]; dsimp only; rw [sout_B]

theorem last (t : Fin cfg0.N) (h1 : t.val % 2 = 1) : (outsAt0 m c t.val t.isLt).1 = (outsAt0 m c t.val t.isLt).2 := by
  rw [outsAt0_B m c t (by omega) h1]; dsimp only; rw [sout_B, out_B]

/-- What the call computes. -/
def res : FVec Ideal S8192x11264 .f32 := fun i => (∑ k : Fin 2048, A m c (i 0) k * B m c k (i 1) : EReal)

theorem total (t : Fin cfg0.N) (h : t.val % 2 = 1) (r : Fin 1024) (d : Fin 1408) :
    (outsAt0 m c t.val t.isLt).2 (ix2 r d) = (∑ k : Fin 2048, A m c (ra t r) k * B m c k (cb t d) : EReal) :=
  product_at (nk := 2) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_FfnIn := fun m ρ _ => Cert.FfnIn.Gen.frame m ρ
theorem frame_pi : Cert.quiescent_FfnInIdeal := fun m ρ _ => Cert.FfnInIdeal.Gen.frame m ρ
theorem frame_ri : Cert.quiescent_FfnInRefIdeal := fun m ρ _ => (θ_run Cert.FfnInRefIdeal.defs _ _).mono
  (fun r h => ⟨fun c => (h c).2, sem_eq_zero_of_no_sems (by decide) r.2⟩) (Cert.FfnInRefIdeal.Value.run (F := Ideal) m ρ)

/-- The call and the reference end with the same array. -/
theorem algebraic : Cert.algebraic_FfnInIdeal_FfnInRefIdeal := by
  intro m ρ m' ρ' _ hag
  refine ⟨fun c => res m c, ?_, ?_⟩
  · exact (θ_run Cert.FfnInIdeal.defs _ _).mono (fun r h c => ⟨(h c).1.trans (final m c), (h c).2⟩) (Cert.FfnInIdeal.Value.run_blocks (F := Ideal) m ρ)
  · refine (θ_run Cert.FfnInRefIdeal.defs _ _).mono (fun r h c => ⟨(h c).1.trans ?_, (h c).2⟩) (Cert.FfnInRefIdeal.Value.run (F := Ideal) m' ρ')
    obtain ⟨h0, h1⟩ := hag c
    rw [h0, h1]
    funext i
    obtain ⟨r, d, rfl⟩ := pair (n := 8192) (m := 11264) i
    refine Eq.trans (b := (∑ k : Fin 2048, arg0 m c (ix2 r k) * arg1 m c (ix2 k d) : EReal)) (by pointwise) ?_
    rfl

end Cert.FfnInRun

end
-- ==== Proof.Prod.FfnOut.lean ====
/- The output projection of the gated feed-forward, with the residual: the 8192 by 2048 product over 5632, formed in 8 by 2 tiles of 1024 by 1024
   and 11 steps of 512 along the contracted axis. -/
module

public import proofs.«01_k».proof.Defs
public import proofs.«01_k».proof.Proof.Gen.FfnOut
public import proofs.«01_k».proof.Proof.Gen.FfnOut.Frame
public import proofs.«01_k».proof.Proof.Gen.FfnOutIdeal.Value
public import proofs.«01_k».proof.Proof.Gen.FfnOutRefIdeal.Run
public import proofs.«01_k».proof.Proof.Prod.Tiled
public import Idealize.ShloMosaic.Lib.StableHlo.Run

@[expose] public section

set_option maxRecDepth 16384

noncomputable section

namespace Cert.FfnOutRun

open Cert.FfnOutIdeal Cert.FfnOutIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x512 .bf16) (b : FVec Ideal S512x1024 .bf16) (r : Fin 1024) (d : Fin 1024) :
    k0_pay2 acc a b (ix2 r d) = (acc (ix2 r d) + ∑ k : Fin 512, a (ix2 r k) * b (ix2 k d) : EReal) := by
  pointwise [k0_pay2]

section Body
variable (c : Dev nD) (i : grid0.Coords)
  (aa : Memref sig .tc .vmem S1024x512 .bf16) (ha : aa.IsWhole)
  (ab : Memref sig .tc .vmem S512x1024 .bf16) (hb : ab.IsWhole)
  (ar : Memref sig .tc .vmem S1024x1024 .f32) (hr : ar.IsWhole)
  (ao : Memref sig .tc .vmem S1024x1024 .f32) (ho : ao.IsWhole)
  (aacc : Memref sig .tc .vmem S1024x1024 .f32) (hs : aacc.IsWhole)
  (a : FVec Ideal S1024x512 .bf16) (b : FVec Ideal S512x1024 .bf16) (x : FVec Ideal S1024x1024 .f32) (acc : FVec Ideal S1024x1024 .f32)

theorem sout_A (hc0 : cond0_0 i) (hc1 : ¬cond0_1 i) :
    sout0_A_0 (F := Ideal) c i aa ha ab hb ar hr ao ho aacc hs hc0 hc1 a b x  = k0_pay2 (F := Ideal) (k0_pay1 (F := Ideal)) a b := by
  unfold sout0_A_0
  rw [View.read_writes_eq_canon _ _ _ (scover0_A_0 (F := Ideal) c i aa ha ab hb ar hr ao ho aacc hs hc0 hc1 a b x )]
  unfold kernelRun0_A
  dsimp only
  sl_unfold_words
  rw [View.canon_cons_unit_zero (S := S1024x1024) hz, View.readCov_unit_zero (S := S1024x1024) _ hz]
  simp only [View.readAt_eq_ld, ha.read_unread, hb.read_unread, hr.read_unread,
    View.ld_unit_zero (S := S1024x512) hz, View.ld_unit_zero (S := S512x1024) hz, View.ld_unit_zero (S := S1024x1024) hz, shapeCast_self]

theorem sout_B (hc0 : ¬cond0_0 i) (hc1 : ¬cond0_1 i) :
    sout0_B_0 (F := Ideal) c i aa ha ab hb ar hr ao ho aacc hs hc0 hc1 a b x acc = k0_pay2 (F := Ideal) acc a b := by
  unfold sout0_B_0
  rw [View.read_writes_eq_canon _ _ _ (scover0_B_0 (F := Ideal) c i aa ha ab hb ar hr ao ho aacc hs hc0 hc1 a b x acc)]
  unfold kernelRun0_B
  dsimp only
  sl_unfold_words
  rw [View.canon_unit_zero (S := S1024x1024) hz]
  simp only [View.readAt_eq_ld, ha.read_unread, hb.read_unread, hr.read_unread, hs.read_unread,
    View.ld_unit_zero (S := S1024x512) hz, View.ld_unit_zero (S := S512x1024) hz, View.ld_unit_zero (S := S1024x1024) hz, shapeCast_self]

theorem sout_C (hc0 : ¬cond0_0 i) (hc1 : cond0_1 i) :
    sout0_C_0 (F := Ideal) c i aa ha ab hb ar hr ao ho aacc hs hc0 hc1 a b x acc = k0_pay2 (F := Ideal) acc a b := by
  unfold sout0_C_0
  rw [View.read_writes_eq_canon _ _ _ (scover0_C_0 (F := Ideal) c i aa ha ab hb ar hr ao ho aacc hs hc0 hc1 a b x acc)]
  unfold kernelRun0_C
  dsimp only
  sl_unfold_words
  rw [View.canon_unit_zero (S := S1024x1024) hz]
  simp only [View.readAt_eq_ld, ha.read_unread, hb.read_unread, hr.read_unread, hs.read_unread,
    View.ld_unit_zero (S := S1024x512) hz, View.ld_unit_zero (S := S512x1024) hz, View.ld_unit_zero (S := S1024x1024) hz, shapeCast_self]

theorem out_C (hc0 : ¬cond0_0 i) (hc1 : cond0_1 i) :
    out0_C_3 (F := Ideal) c i aa ha ab hb ar hr ao ho aacc hs hc0 hc1 a b x acc = k0_pay3 (F := Ideal) (k0_pay2 (F := Ideal) acc a b) x := by
  unfold out0_C_3
  rw [View.read_writes_eq_canon _ _ _ (cover0_C_3 (F := Ideal) c i aa ha ab hb ar hr ao ho aacc hs hc0 hc1 a b x acc)]
  unfold kernelRun0_C
  dsimp only
  sl_unfold_words
  rw [View.canon_unit_zero (S := S1024x1024) hz, View.readCov_unit_zero (S := S1024x1024) _ hz]
  simp only [View.readAt_eq_ld, ha.read_unread, hb.read_unread, hr.read_unread, hs.read_unread,
    View.ld_unit_zero (S := S1024x512) hz, View.ld_unit_zero (S := S512x1024) hz, View.ld_unit_zero (S := S1024x1024) hz, shapeCast_self]

end Body

variable (m : (ℓ : Loc nD τ sig) → Buf (Elt Ideal) ℓ) (c : Dev nD)

/-- The arguments, and the two factors they make. -/
abbrev arg0 : FVec Ideal S8192x5632 .bf16 := m ((c : Thread nD τ).loc main_arg0)
abbrev arg1 : FVec Ideal S5632x2048 .f32 := m ((c : Thread nD τ).loc main_arg1)
abbrev arg2 : FVec Ideal S8192x2048 .f32 := m ((c : Thread nD τ).loc main_arg2)
def A (i : Fin 8192) (k : Fin 5632) : EReal := arg0 m c (ix2 i k)
def B (k : Fin 5632) (n : Fin 2048) : EReal := arg1 m c (ix2 k n)

/-- The second factor as the host prepares it. -/
theorem V_b (k : Fin 5632) (n : Fin 2048) : (V m c main_v0 : FVec Ideal S5632x2048 .bf16) (ix2 k n) = B m c k n := by
  have e : V m c main_v0 = truncf .bf16 (arg1 m c) bitsLt_bf16_f32 := by
    show StableHlo.after hostOps0 _ _ = _
    unfold hostOps0
    after_results
  rw [e]
  unfold B
  pointwise

theorem idx : ∀ t : Fin cfg0.N, t.val / 22 < 8 ∧ win0_0.index t = ![t.val / 22, t.val % 11]
    ∧ win0_1.index t = ![t.val % 11, t.val / 11 % 2] ∧ win0_2.index t = ![t.val / 22, t.val / 11 % 2] ∧ win0_3.index t = ![t.val / 22, t.val / 11 % 2] :=
  (by decide +kernel : ∀ t : Fin grid0.N, _)

/-- The rows, the columns and the contracted entries a step uses. -/
def ra (t : Fin cfg0.N) (r : Fin 1024) : Fin 8192 := ⟨1024 * (t.val / 22) + r.val, by have := (idx t).1; have := r.isLt; omega⟩
def cb (t : Fin cfg0.N) (d : Fin 1024) : Fin 2048 := ⟨1024 * (t.val / 11 % 2) + d.val, by have := d.isLt; omega⟩
def kk (t : Fin cfg0.N) (k : Fin 512) : Fin 5632 := ⟨512 * (t.val % 11) + k.val, by have := k.isLt; omega⟩

theorem a_apply (t : Fin cfg0.N) (r : Fin 1024) (k : Fin 512) : (iblk m c 0 t : FVec Ideal S1024x512 .bf16) (ix2 r k) = A m c (ra t r) (kk t k) := by
  unfold A arg0 ra kk; rw [← V_main_arg0 m c]; blk_ext [iblk, idx t]

theorem b_apply (t : Fin cfg0.N) (k : Fin 512) (d : Fin 1024) : (iblk m c 1 t : FVec Ideal S512x1024 .bf16) (ix2 k d) = B m c (kk t k) (cb t d) := by
  rw [← V_b]; unfold kk cb; blk_ext [iblk, idx t]

theorem x_apply (t : Fin cfg0.N) (r : Fin 1024) (d : Fin 1024) : (iblk m c 2 t : FVec Ideal S1024x1024 .f32) (ix2 r d) = arg2 m c (ix2 (ra t r) (cb t d)) := by
  unfold arg2 ra cb; rw [← V_main_arg2 m c]; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 512, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 11 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 11 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 11 = 10
  · rw [outsAt0_C m c t h0 h1]; dsimp only; rw [sout_C]
  · rw [outsAt0_B m c t h0 h1]; dsimp only; rw [sout_B]

theorem last (t : Fin cfg0.N) (h1 : t.val % 11 = 10) : (outsAt0 m c t.val t.isLt).1 = k0_pay3 (F := Ideal) ((outsAt0 m c t.val t.isLt).2) (iblk m c 2 t) := by
  rw [outsAt0_C m c t (by omega) h1]; dsimp only; rw [sout_C, out_C]

/-- What the call computes. -/
def res : FVec Ideal S8192x2048 .f32 := fun i => (arg2 m c i + ∑ k : Fin 5632, A m c (i 0) k * B m c k (i 1) : EReal)

theorem total (t : Fin cfg0.N) (h : t.val % 11 = 10) (r : Fin 1024) (d : Fin 1024) :
    (outsAt0 m c t.val t.isLt).2 (ix2 r d) = (∑ k : Fin 5632, A m c (ra t r) k * B m c k (cb t d) : EReal) :=
  product_at (nk := 11) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 3 cfg0.N = res m c := by
  refine (dats m 0 c).arrAt_eq_of_covers 3 _ (by decide +kernel) fun t hf y => ?_
  blk_simp
  rw [after0_3]
  obtain ⟨r, d, rfl⟩ := pair y
  have h := (flush0_3 t).mp hf
  have e : (win0_3.blk t).view.emb (ix2 r d) = ix2 (ra t r) (cb t d) := by unfold ra cb; blk_ext [idx t]
  rw [e]
  rw [last m c t h]
  have e : k0_pay3 (F := Ideal) (outsAt0 m c t.val t.isLt).2 (iblk m c 2 t) (ix2 r d) = ((outsAt0 m c t.val t.isLt).2 (ix2 r d) + arg2 m c (ix2 (ra t r) (cb t d)) : EReal) := by rw [← x_apply]; rfl
  rw [e, total m c t h]
  exact add_comm (G := EReal) _ _

theorem frame_p : Cert.quiescent_FfnOut := fun m ρ _ => Cert.FfnOut.Gen.frame m ρ
theorem frame_pi : Cert.quiescent_FfnOutIdeal := fun m ρ _ => Cert.FfnOutIdeal.Gen.frame m ρ
theorem frame_ri : Cert.quiescent_FfnOutRefIdeal := fun m ρ _ => (θ_run Cert.FfnOutRefIdeal.defs _ _).mono
  (fun r h => ⟨fun c => (h c).2, sem_eq_zero_of_no_sems (by decide) r.2⟩) (Cert.FfnOutRefIdeal.Value.run (F := Ideal) m ρ)

/-- The call and the reference end with the same array. -/
theorem algebraic : Cert.algebraic_FfnOutIdeal_FfnOutRefIdeal := by
  intro m ρ m' ρ' _ hag
  refine ⟨fun c => res m c, ?_, ?_⟩
  · exact (θ_run Cert.FfnOutIdeal.defs _ _).mono (fun r h c => ⟨(h c).1.trans (final m c), (h c).2⟩) (Cert.FfnOutIdeal.Value.run_blocks (F := Ideal) m ρ)
  · refine (θ_run Cert.FfnOutRefIdeal.defs _ _).mono (fun r h c => ⟨(h c).1.trans ?_, (h c).2⟩) (Cert.FfnOutRefIdeal.Value.run (F := Ideal) m' ρ')
    obtain ⟨h0, h1, h2⟩ := hag c
    rw [h0, h1, h2]
    funext i
    obtain ⟨r, d, rfl⟩ := pair (n := 8192) (m := 2048) i
    refine Eq.trans (b := (arg2 m c (ix2 r d) + ∑ k : Fin 5632, arg0 m c (ix2 r k) * arg1 m c (ix2 k d) : EReal)) (by pointwise) ?_
    rfl

end Cert.FfnOutRun

end
-- ==== Proof.Prod.FfnOutDa.lean ====
/- The gradient of the output projection of the gated feed-forward into its argument: the 8192 by 5632 product over 2048, formed in 8 by 4 tiles of 1024 by 1408
   and 2 steps of 1024 along the contracted axis. -/
module

public import proofs.«01_k».proof.Defs
public import proofs.«01_k».proof.Proof.Gen.FfnOutDa
public import proofs.«01_k».proof.Proof.Gen.FfnOutDa.Frame
public import proofs.«01_k».proof.Proof.Gen.FfnOutDaIdeal.Value
public import proofs.«01_k».proof.Proof.Gen.FfnOutDaRefIdeal.Run
public import proofs.«01_k».proof.Proof.Prod.Tiled
public import Idealize.ShloMosaic.Lib.StableHlo.Run

@[expose] public section

set_option maxRecDepth 16384

noncomputable section

namespace Cert.FfnOutDaRun

open Cert.FfnOutDaIdeal Cert.FfnOutDaIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1408 .f32) (a : FVec Ideal S1024x1024 .f32) (b : FVec Ideal S1408x1024 .bf16) (r : Fin 1024) (d : Fin 1408) :
    k0_pay2 acc a b (ix2 r d) = (acc (ix2 r d) + ∑ k : Fin 1024, a (ix2 r k) * b (ix2 d k) : EReal) := by
  pointwise [k0_pay2]

section Body
variable (c : Dev nD) (i : grid0.Coords)
  (aa : Memref sig .tc .vmem S1024x1024 .f32) (ha : aa.IsWhole)
  (ab : Memref sig .tc .vmem S1408x1024 .bf16) (hb : ab.IsWhole)
  (ao : Memref sig .tc .vmem S1024x1408 .f32) (ho : ao.IsWhole)
  (aacc : Memref sig .tc .vmem S1024x1408 .f32) (hs : aacc.IsWhole)
  (a : FVec Ideal S1024x1024 .f32) (b : FVec Ideal S1408x1024 .bf16) (acc : FVec Ideal S1024x1408 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x1408) hz, View.readCov_unit_zero (S := S1024x1408) _ hz]
  simp only [View.readAt_eq_ld, ha.read_unread, hb.read_unread,
    View.ld_unit_zero (S := S1024x1024) hz, View.ld_unit_zero (S := S1408x1024) hz, View.ld_unit_zero (S := S1024x1408) hz, shapeCast_self]

theorem sout_B (hc0 : ¬cond0_0 i) (hc1 : cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x1408) hz]
  simp only [View.readAt_eq_ld, ha.read_unread, hb.read_unread, hs.read_unread,
    View.ld_unit_zero (S := S1024x1024) hz, View.ld_unit_zero (S := S1408x1024) hz, View.ld_unit_zero (S := S1024x1408) hz, shapeCast_self]

theorem out_B (hc0 : ¬cond0_0 i) (hc1 : cond0_1 i) :
    out0_B_2 (F := Ideal) c i aa ha ab hb ao ho aacc hs hc0 hc1 a b acc = k0_pay2 (F := Ideal) acc a b := by
  unfold out0_B_2
  rw [View.read_writes_eq_canon _ _ _ (cover0_B_2 (F := Ideal) c i aa ha ab hb ao ho aacc hs hc0 hc1 a b acc)]
  unfold kernelRun0_B
  dsimp only
  sl_unfold_words
  rw [View.canon_unit_zero (S := S1024x1408) hz, View.readCov_unit_zero (S := S1024x1408) _ hz]
  simp only [View.readAt_eq_ld, ha.read_unread, hb.read_unread, hs.read_unread,
    View.ld_unit_zero (S := S1024x1024) hz, View.ld_unit_zero (S := S1408x1024) hz, View.ld_unit_zero (S := S1024x1408) hz, shapeCast_self]

end Body

variable (m : (ℓ : Loc nD τ sig) → Buf (Elt Ideal) ℓ) (c : Dev nD)

/-- The arguments, and the two factors they make. -/
abbrev arg0 : FVec Ideal S8192x2048 .f32 := m ((c : Thread nD τ).loc main_arg0)
abbrev arg1 : FVec Ideal S5632x2048 .f32 := m ((c : Thread nD τ).loc main_arg1)
def A (i : Fin 8192) (k : Fin 2048) : EReal := arg0 m c (ix2 i k)
def B (k : Fin 2048) (n : Fin 5632) : EReal := arg1 m c (ix2 n k)

/-- The second factor as the host prepares it. -/
theorem V_b (k : Fin 2048) (n : Fin 5632) : (V m c main_v0 : FVec Ideal S5632x2048 .bf16) (ix2 n k) = B m c k n := by
  have e : V m c main_v0 = truncf .bf16 (arg1 m c) bitsLt_bf16_f32 := by
    show StableHlo.after hostOps0 _ _ = _
    unfold hostOps0
    after_results
  rw [e]
  unfold B
  pointwise

theorem idx : ∀ t : Fin cfg0.N, t.val / 8 < 8 ∧ win0_0.index t = ![t.val / 8, t.val % 2]
    ∧ win0_1.index t = ![t.val / 2 % 4, t.val % 2] ∧ win0_2.index t = ![t.val / 8, t.val / 2 % 4] :=
  (by decide +kernel : ∀ t : Fin grid0.N, _)

/-- The rows, the columns and the contracted entries a step uses. -/
def ra (t : Fin cfg0.N) (r : Fin 1024) : Fin 8192 := ⟨1024 * (t.val / 8) + r.val, by have := (idx t).1; have := r.isLt; omega⟩
def cb (t : Fin cfg0.N) (d : Fin 1408) : Fin 5632 := ⟨1408 * (t.val / 2 % 4) + d.val, by have := d.isLt; omega⟩
def kk (t : Fin cfg0.N) (k : Fin 1024) : Fin 2048 := ⟨1024 * (t.val % 2) + k.val, by have := k.isLt; omega⟩

theorem a_apply (t : Fin cfg0.N) (r : Fin 1024) (k : Fin 1024) : (iblk m c 0 t : FVec Ideal S1024x1024 .f32) (ix2 r k) = A m c (ra t r) (kk t k) := by
  unfold A arg0 ra kk; rw [← V_main_arg0 m c]; blk_ext [iblk, idx t]

theorem b_apply (t : Fin cfg0.N) (k : Fin 1024) (d : Fin 1408) : (iblk m c 1 t : FVec Ideal S1408x1024 .bf16) (ix2 d k) = B m c (kk t k) (cb t d) := by
  rw [← V_b]; unfold kk cb; blk_ext [iblk, idx t]

theorem pay_at (acc : FVec Ideal S1024x1408 .f32) (t : Fin cfg0.N) (r : Fin 1024) (d : Fin 1408) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 2 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]; dsimp only; rw [sout_B]

theorem last (t : Fin cfg0.N) (h1 : t.val % 2 = 1) : (outsAt0 m c t.val t.isLt).1 = (outsAt0 m c t.val t.isLt).2 := by
  rw [outsAt0_B m c t (by omega) h1]; dsimp only; rw [sout_B, out_B]

/-- What the call computes. -/
def res : FVec Ideal S8192x5632 .f32 := fun i => (∑ k : Fin 2048, A m c (i 0) k * B m c k (i 1) : EReal)

theorem total (t : Fin cfg0.N) (h : t.val % 2 = 1) (r : Fin 1024) (d : Fin 1408) :
    (outsAt0 m c t.val t.isLt).2 (ix2 r d) = (∑ k : Fin 2048, A m c (ra t r) k * B m c k (cb t d) : EReal) :=
  product_at (nk := 2) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_FfnOutDa := fun m ρ _ => Cert.FfnOutDa.Gen.frame m ρ
theorem frame_pi : Cert.quiescent_FfnOutDaIdeal := fun m ρ _ => Cert.FfnOutDaIdeal.Gen.frame m ρ
theorem frame_ri : Cert.quiescent_FfnOutDaRefIdeal := fun m ρ _ => (θ_run Cert.FfnOutDaRefIdeal.defs _ _).mono
  (fun r h => ⟨fun c => (h c).2, sem_eq_zero_of_no_sems (by decide) r.2⟩) (Cert.FfnOutDaRefIdeal.Value.run (F := Ideal) m ρ)

/-- The call and the reference end with the same array. -/
theorem algebraic : Cert.algebraic_FfnOutDaIdeal_FfnOutDaRefIdeal := by
  intro m ρ m' ρ' _ hag
  refine ⟨fun c => res m c, ?_, ?_⟩
  · exact (θ_run Cert.FfnOutDaIdeal.defs _ _).mono (fun r h c => ⟨(h c).1.trans (final m c), (h c).2⟩) (Cert.FfnOutDaIdeal.Value.run_blocks (F := Ideal) m ρ)
  · refine (θ_run Cert.FfnOutDaRefIdeal.defs _ _).mono (fun r h c => ⟨(h c).1.trans ?_, (h c).2⟩) (Cert.FfnOutDaRefIdeal.Value.run (F := Ideal) m' ρ')
    obtain ⟨h0, h1⟩ := hag c
    rw [h0, h1]
    funext i
    obtain ⟨r, d, rfl⟩ := pair (n := 8192) (m := 5632) i
    refine Eq.trans (b := (∑ k : Fin 2048, arg0 m c (ix2 r k) * arg1 m c (ix2 d k) : EReal)) (by pointwise) ?_
    rfl

end Cert.FfnOutDaRun

end
-- ==== Proof.Prod.FfnOutDw.lean ====
/- The gradient of the output projection of the gated feed-forward into its weight: the 5632 by 2048 product over 8192, formed in 4 by 2 tiles of 1408 by 1024
   and 8 steps of 1024 along the contracted axis. -/
module

public import proofs.«01_k».proof.Defs
public import proofs.«01_k».proof.Proof.Gen.FfnOutDw
public import proofs.«01_k».proof.Proof.Gen.FfnOutDw.Frame
public import proofs.«01_k».proof.Proof.Gen.FfnOutDwIdeal.Value
public import proofs.«01_k».proof.Proof.Gen.FfnOutDwRefIdeal.Run
public import proofs.«01_k».proof.Proof.Prod.Tiled
public import Idealize.ShloMosaic.Lib.StableHlo.Run

@[expose] public section

set_option maxRecDepth 16384

noncomputable section

namespace Cert.FfnOutDwRun

open Cert.FfnOutDwIdeal Cert.FfnOutDwIdeal.Gen Cert.Prod
open Idealize.ShloMosaic Idealize.ShloMosaic.TcCoe Idealize.SL.Sem
open Idealize.ShloMosaic.Pipeline (Dat)

/-- One step: the product of two tiles is added. -/
theorem pay_apply (acc : FVec Ideal S1408x1024 .f32) (a : FVec Ideal S1024x1408 .bf16) (b : FVec Ideal S1024x1024 .f32) (r : Fin 1408) (d : Fin 1024) :
    k0_pay2 acc a b (ix2 r d) = (acc (ix2 r d) + ∑ k : Fin 1024, a (ix2 k r) * b (ix2 k d) : EReal) := by
  pointwise [k0_pay2]

section Body
variable (c : Dev nD) (i : grid0.Coords)
  (aa : Memref sig .tc .vmem S1024x1408 .bf16) (ha : aa.IsWhole)
  (ab : Memref sig .tc .vmem S1024x1024 .f32) (hb : ab.IsWhole)
  (ao : Memref sig .tc .vmem S1408x1024 .bf16) (ho : ao.IsWhole)
  (aacc : Memref sig .tc .vmem S1408x1024 .f32) (hs : aacc.IsWhole)
  (a : FVec Ideal S1024x1408 .bf16) (b : FVec Ideal S1024x1024 .f32) (acc : FVec Ideal S1408x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1408x1024) hz, View.readCov_unit_zero (S := S1408x1024) _ hz]
  simp only [View.readAt_eq_ld, ha.read_unread, hb.read_unread,
    View.ld_unit_zero (S := S1024x1408) hz, View.ld_unit_zero (S := S1024x1024) hz, View.ld_unit_zero (S := S1408x1024) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1408x1024) hz]
  simp only [View.readAt_eq_ld, ha.read_unread, hb.read_unread, hs.read_unread,
    View.ld_unit_zero (S := S1024x1408) hz, View.ld_unit_zero (S := S1024x1024) hz, View.ld_unit_zero (S := S1408x1024) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S1408x1024) hz]
  simp only [View.readAt_eq_ld, ha.read_unread, hb.read_unread, hs.read_unread,
    View.ld_unit_zero (S := S1024x1408) hz, View.ld_unit_zero (S := S1024x1024) hz, View.ld_unit_zero (S := S1408x1024) hz, shapeCast_self]

theorem out_C (hc0 : ¬cond0_0 i) (hc1 : cond0_1 i) :
    out0_C_2 (F := Ideal) c i aa ha ab hb ao ho aacc hs hc0 hc1 a b acc = k0_pay3 (F := Ideal) (k0_pay2 (F := Ideal) acc a b) := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S1408x1024) hz, View.readCov_unit_zero (S := S1408x1024) _ hz]
  simp only [View.readAt_eq_ld, ha.read_unread, hb.read_unread, hs.read_unread,
    View.ld_unit_zero (S := S1024x1408) hz, View.ld_unit_zero (S := S1024x1024) hz, View.ld_unit_zero (S := S1408x1024) hz, shapeCast_self]

end Body

variable (m : (ℓ : Loc nD τ sig) → Buf (Elt Ideal) ℓ) (c : Dev nD)

/-- The arguments, and the two factors they make. -/
abbrev arg0 : FVec Ideal S8192x5632 .bf16 := m ((c : Thread nD τ).loc main_arg0)
abbrev arg1 : FVec Ideal S8192x2048 .f32 := m ((c : Thread nD τ).loc main_arg1)
def A (i : Fin 5632) (k : Fin 8192) : EReal := arg0 m c (ix2 k i)
def B (k : Fin 8192) (n : Fin 2048) : EReal := arg1 m c (ix2 k n)

theorem idx : ∀ t : Fin cfg0.N, t.val / 16 < 4 ∧ win0_0.index t = ![t.val % 8, t.val / 16]
    ∧ win0_1.index t = ![t.val % 8, t.val / 8 % 2] ∧ win0_2.index t = ![t.val / 16, t.val / 8 % 2] :=
  (by decide +kernel : ∀ t : Fin grid0.N, _)

/-- The rows, the columns and the contracted entries a step uses. -/
def ra (t : Fin cfg0.N) (r : Fin 1408) : Fin 5632 := ⟨1408 * (t.val / 16) + r.val, by have := (idx t).1; have := r.isLt; omega⟩
def cb (t : Fin cfg0.N) (d : Fin 1024) : Fin 2048 := ⟨1024 * (t.val / 8 % 2) + d.val, by have := d.isLt; omega⟩
def kk (t : Fin cfg0.N) (k : Fin 1024) : Fin 8192 := ⟨1024 * (t.val % 8) + k.val, by have := k.isLt; omega⟩

theorem a_apply (t : Fin cfg0.N) (r : Fin 1408) (k : Fin 1024) : (iblk m c 0 t : FVec Ideal S1024x1408 .bf16) (ix2 k r) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .f32) (ix2 k d) = B m c (kk t k) (cb t d) := by
  unfold B arg1 kk cb; rw [← V_main_arg1 m c]; blk_ext [iblk, idx t]

theorem pay_at (acc : FVec Ideal S1408x1024 .f32) (t : Fin cfg0.N) (r : Fin 1408) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 8 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 8 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]; dsimp only; rw [sout_C]
  · rw [outsAt0_B m c t h0 h1]; dsimp only; rw [sout_B]

theorem last (t : Fin cfg0.N) (h1 : t.val % 8 = 7) : (outsAt0 m c t.val t.isLt).1 = k0_pay3 (F := Ideal) ((outsAt0 m c t.val t.isLt).2) := by
  rw [outsAt0_C m c t (by omega) h1]; dsimp only; rw [sout_C, out_C]

/-- What the call computes. -/
def res : FVec Ideal S5632x2048 .bf16 := fun i => (∑ k : Fin 8192, A m c (i 0) k * B m c k (i 1) : EReal)

theorem total (t : Fin cfg0.N) (h : t.val % 8 = 7) (r : Fin 1408) (d : Fin 1024) :
    (outsAt0 m c t.val t.isLt).2 (ix2 r d) = (∑ k : Fin 8192, A m c (ra t r) k * B m c k (cb t d) : EReal) :=
  product_at (nk := 8) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h]
  refine Eq.trans (b := (outsAt0 m c t.val t.isLt).2 (ix2 r d)) rfl ?_
  rw [total m c t h]
  rfl

theorem frame_p : Cert.quiescent_FfnOutDw := fun m ρ _ => Cert.FfnOutDw.Gen.frame m ρ
theorem frame_pi : Cert.quiescent_FfnOutDwIdeal := fun m ρ _ => Cert.FfnOutDwIdeal.Gen.frame m ρ
theorem frame_ri : Cert.quiescent_FfnOutDwRefIdeal := fun m ρ _ => (θ_run Cert.FfnOutDwRefIdeal.defs _ _).mono
  (fun r h => ⟨fun c => (h c).2, sem_eq_zero_of_no_sems (by decide) r.2⟩) (Cert.FfnOutDwRefIdeal.Value.run (F := Ideal) m ρ)

/-- The call and the reference end with the same array. -/
theorem algebraic : Cert.algebraic_FfnOutDwIdeal_FfnOutDwRefIdeal := by
  intro m ρ m' ρ' _ hag
  refine ⟨fun c => res m c, ?_, ?_⟩
  · exact (θ_run Cert.FfnOutDwIdeal.defs _ _).mono (fun r h c => ⟨(h c).1.trans (final m c), (h c).2⟩) (Cert.FfnOutDwIdeal.Value.run_blocks (F := Ideal) m ρ)
  · refine (θ_run Cert.FfnOutDwRefIdeal.defs _ _).mono (fun r h c => ⟨(h c).1.trans ?_, (h c).2⟩) (Cert.FfnOutDwRefIdeal.Value.run (F := Ideal) m' ρ')
    obtain ⟨h0, h1⟩ := hag c
    rw [h0, h1]
    funext i
    obtain ⟨r, d, rfl⟩ := pair (n := 5632) (m := 2048) i
    refine Eq.trans (b := (∑ k : Fin 8192, arg1 m c (ix2 k d) * arg0 m c (ix2 k r) : EReal)) (by pointwise) ?_
    exact Finset.sum_congr rfl fun k _ => mul_comm _ _

end Cert.FfnOutDwRun

end
-- ==== Proof.Prod.FfnInDhGate.lean ====
/- The gradient of the gate half of the input projection of the gated feed-forward into its argument: the 8192 by 2048 product over 5632, formed in 8 by 2 tiles of 1024 by 1024
   and 11 steps of 512 along the contracted axis. -/
module

public import proofs.«01_k».proof.Defs
public import proofs.«01_k».proof.Proof.Gen.FfnInDhGate
public import proofs.«01_k».proof.Proof.Gen.FfnInDhGate.Frame
public import proofs.«01_k».proof.Proof.Gen.FfnInDhGateIdeal.Value
public import proofs.«01_k».proof.Proof.Gen.FfnInDhGateRefIdeal.Run
public import proofs.«01_k».proof.Proof.Prod.Tiled
public import Idealize.ShloMosaic.Lib.StableHlo.Run

@[expose] public section

set_option maxRecDepth 16384

noncomputable section

namespace Cert.FfnInDhGateRun

open Cert.FfnInDhGateIdeal Cert.FfnInDhGateIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x512 .bf16) (b : FVec Ideal S512x1024 .bf16) (r : Fin 1024) (d : Fin 1024) :
    k0_pay2 acc a b (ix2 r d) = (acc (ix2 r d) + ∑ k : Fin 512, a (ix2 r k) * b (ix2 k d) : EReal) := by
  pointwise [k0_pay2]

section Body
variable (c : Dev nD) (i : grid0.Coords)
  (aa : Memref sig .tc .vmem S1024x512 .bf16) (ha : aa.IsWhole)
  (ab : Memref sig .tc .vmem S512x1024 .bf16) (hb : ab.IsWhole)
  (ao : Memref sig .tc .vmem S1024x1024 .f32) (ho : ao.IsWhole)
  (aacc : Memref sig .tc .vmem S1024x1024 .f32) (hs : aacc.IsWhole)
  (a : FVec Ideal S1024x512 .bf16) (b : FVec Ideal S512x1024 .bf16) (acc : FVec Ideal S1024x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x1024) hz, View.readCov_unit_zero (S := S1024x1024) _ hz]
  simp only [View.readAt_eq_ld, ha.read_unread, hb.read_unread,
    View.ld_unit_zero (S := S1024x512) hz, View.ld_unit_zero (S := S512x1024) hz, View.ld_unit_zero (S := S1024x1024) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x1024) hz]
  simp only [View.readAt_eq_ld, ha.read_unread, hb.read_unread, hs.read_unread,
    View.ld_unit_zero (S := S1024x512) hz, View.ld_unit_zero (S := S512x1024) hz, View.ld_unit_zero (S := S1024x1024) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S1024x1024) hz]
  simp only [View.readAt_eq_ld, ha.read_unread, hb.read_unread, hs.read_unread,
    View.ld_unit_zero (S := S1024x512) hz, View.ld_unit_zero (S := S512x1024) hz, View.ld_unit_zero (S := S1024x1024) hz, shapeCast_self]

theorem out_C (hc0 : ¬cond0_0 i) (hc1 : cond0_1 i) :
    out0_C_2 (F := Ideal) c i aa ha ab hb ao ho aacc hs hc0 hc1 a b acc = k0_pay2 (F := Ideal) acc a b := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S1024x1024) hz, View.readCov_unit_zero (S := S1024x1024) _ hz]
  simp only [View.readAt_eq_ld, ha.read_unread, hb.read_unread, hs.read_unread,
    View.ld_unit_zero (S := S1024x512) hz, View.ld_unit_zero (S := S512x1024) hz, View.ld_unit_zero (S := S1024x1024) hz, shapeCast_self]

end Body

variable (m : (ℓ : Loc nD τ sig) → Buf (Elt Ideal) ℓ) (c : Dev nD)

/-- The arguments, and the two factors they make. -/
abbrev arg0 : FVec Ideal S8192x5632 .bf16 := m ((c : Thread nD τ).loc main_arg0)
abbrev arg1 : FVec Ideal S2048x11264 .f32 := m ((c : Thread nD τ).loc main_arg1)
def A (i : Fin 8192) (k : Fin 5632) : EReal := arg0 m c (ix2 i k)
def B (k : Fin 5632) (n : Fin 2048) : EReal := arg1 m c (ix2 n ⟨k.val, by omega⟩)

/-- The second factor as the host prepares it. -/
theorem V_b (k : Fin 5632) (n : Fin 2048) : (V m c main_v2 : FVec Ideal S5632x2048 .bf16) (ix2 k n) = B m c k n := by
  have e : V m c main_v2 = extractStridedSlice S5632x2048 ![0, 0] (truncf .bf16 (transpose S11264x2048 [1, 0] (arg1 m c) transposes_S2048x11264_S11264x2048_1_0) bitsLt_bf16_f32) slices_S11264x2048_S5632x2048_0_0 := by
    show StableHlo.after hostOps0 _ _ = _
    unfold hostOps0
    after_results
  rw [e]
  unfold B
  pointwise

theorem idx : ∀ t : Fin cfg0.N, t.val / 22 < 8 ∧ win0_0.index t = ![t.val / 22, t.val % 11]
    ∧ win0_1.index t = ![t.val % 11, t.val / 11 % 2] ∧ win0_2.index t = ![t.val / 22, t.val / 11 % 2] :=
  (by decide +kernel : ∀ t : Fin grid0.N, _)

/-- The rows, the columns and the contracted entries a step uses. -/
def ra (t : Fin cfg0.N) (r : Fin 1024) : Fin 8192 := ⟨1024 * (t.val / 22) + r.val, by have := (idx t).1; have := r.isLt; omega⟩
def cb (t : Fin cfg0.N) (d : Fin 1024) : Fin 2048 := ⟨1024 * (t.val / 11 % 2) + d.val, by have := d.isLt; omega⟩
def kk (t : Fin cfg0.N) (k : Fin 512) : Fin 5632 := ⟨512 * (t.val % 11) + k.val, by have := k.isLt; omega⟩

theorem a_apply (t : Fin cfg0.N) (r : Fin 1024) (k : Fin 512) : (iblk m c 0 t : FVec Ideal S1024x512 .bf16) (ix2 r k) = A m c (ra t r) (kk t k) := by
  unfold A arg0 ra kk; rw [← V_main_arg0 m c]; blk_ext [iblk, idx t]

theorem b_apply (t : Fin cfg0.N) (k : Fin 512) (d : Fin 1024) : (iblk m c 1 t : FVec Ideal S512x1024 .bf16) (ix2 k d) = B m c (kk t k) (cb t d) := by
  rw [← V_b]; unfold kk cb; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 512, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 11 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 11 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 11 = 10
  · rw [outsAt0_C m c t h0 h1]; dsimp only; rw [sout_C]
  · rw [outsAt0_B m c t h0 h1]; dsimp only; rw [sout_B]

theorem last (t : Fin cfg0.N) (h1 : t.val % 11 = 10) : (outsAt0 m c t.val t.isLt).1 = (outsAt0 m c t.val t.isLt).2 := by
  rw [outsAt0_C m c t (by omega) h1]; dsimp only; rw [sout_C, out_C]

/-- What the call computes. -/
def res : FVec Ideal S8192x2048 .f32 := fun i => (∑ k : Fin 5632, A m c (i 0) k * B m c k (i 1) : EReal)

theorem total (t : Fin cfg0.N) (h : t.val % 11 = 10) (r : Fin 1024) (d : Fin 1024) :
    (outsAt0 m c t.val t.isLt).2 (ix2 r d) = (∑ k : Fin 5632, A m c (ra t r) k * B m c k (cb t d) : EReal) :=
  product_at (nk := 11) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_FfnInDhGate := fun m ρ _ => Cert.FfnInDhGate.Gen.frame m ρ
theorem frame_pi : Cert.quiescent_FfnInDhGateIdeal := fun m ρ _ => Cert.FfnInDhGateIdeal.Gen.frame m ρ
theorem frame_ri : Cert.quiescent_FfnInDhGateRefIdeal := fun m ρ _ => (θ_run Cert.FfnInDhGateRefIdeal.defs _ _).mono
  (fun r h => ⟨fun c => (h c).2, sem_eq_zero_of_no_sems (by decide) r.2⟩) (Cert.FfnInDhGateRefIdeal.Value.run (F := Ideal) m ρ)

/-- The call and the reference end with the same array. -/
theorem algebraic : Cert.algebraic_FfnInDhGateIdeal_FfnInDhGateRefIdeal := by
  intro m ρ m' ρ' _ hag
  refine ⟨fun c => res m c, ?_, ?_⟩
  · exact (θ_run Cert.FfnInDhGateIdeal.defs _ _).mono (fun r h c => ⟨(h c).1.trans (final m c), (h c).2⟩) (Cert.FfnInDhGateIdeal.Value.run_blocks (F := Ideal) m ρ)
  · refine (θ_run Cert.FfnInDhGateRefIdeal.defs _ _).mono (fun r h c => ⟨(h c).1.trans ?_, (h c).2⟩) (Cert.FfnInDhGateRefIdeal.Value.run (F := Ideal) m' ρ')
    obtain ⟨h0, h1⟩ := hag c
    rw [h0, h1]
    funext i
    obtain ⟨r, d, rfl⟩ := pair (n := 8192) (m := 2048) i
    refine Eq.trans (b := (∑ k : Fin 5632, arg0 m c (ix2 r k) * arg1 m c (ix2 d ⟨k.val, by omega⟩) : EReal)) (by pointwise) ?_
    rfl

end Cert.FfnInDhGateRun

end
-- ==== Proof.Prod.FfnInDhUp.lean ====
/- The gradient of the up half of the input projection of the gated feed-forward into its argument, added to that of the gate half: the 8192 by 2048 product over 5632, formed in 8 by 2 tiles of 1024 by 1024
   and 11 steps of 512 along the contracted axis. -/
module

public import proofs.«01_k».proof.Defs
public import proofs.«01_k».proof.Proof.Gen.FfnInDhUp
public import proofs.«01_k».proof.Proof.Gen.FfnInDhUp.Frame
public import proofs.«01_k».proof.Proof.Gen.FfnInDhUpIdeal.Value
public import proofs.«01_k».proof.Proof.Gen.FfnInDhUpRefIdeal.Run
public import proofs.«01_k».proof.Proof.Prod.Tiled
public import Idealize.ShloMosaic.Lib.StableHlo.Run

@[expose] public section

set_option maxRecDepth 16384

noncomputable section

namespace Cert.FfnInDhUpRun

open Cert.FfnInDhUpIdeal Cert.FfnInDhUpIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x512 .bf16) (b : FVec Ideal S512x1024 .bf16) (r : Fin 1024) (d : Fin 1024) :
    k0_pay2 acc a b (ix2 r d) = (acc (ix2 r d) + ∑ k : Fin 512, a (ix2 r k) * b (ix2 k d) : EReal) := by
  pointwise [k0_pay2]

section Body
variable (c : Dev nD) (i : grid0.Coords)
  (aa : Memref sig .tc .vmem S1024x512 .bf16) (ha : aa.IsWhole)
  (ab : Memref sig .tc .vmem S512x1024 .bf16) (hb : ab.IsWhole)
  (ar : Memref sig .tc .vmem S1024x1024 .f32) (hr : ar.IsWhole)
  (ao : Memref sig .tc .vmem S1024x1024 .f32) (ho : ao.IsWhole)
  (aacc : Memref sig .tc .vmem S1024x1024 .f32) (hs : aacc.IsWhole)
  (a : FVec Ideal S1024x512 .bf16) (b : FVec Ideal S512x1024 .bf16) (x : FVec Ideal S1024x1024 .f32) (acc : FVec Ideal S1024x1024 .f32)

theorem sout_A (hc0 : cond0_0 i) (hc1 : ¬cond0_1 i) :
    sout0_A_0 (F := Ideal) c i aa ha ab hb ar hr ao ho aacc hs hc0 hc1 a b x  = k0_pay2 (F := Ideal) (k0_pay1 (F := Ideal)) a b := by
  unfold sout0_A_0
  rw [View.read_writes_eq_canon _ _ _ (scover0_A_0 (F := Ideal) c i aa ha ab hb ar hr ao ho aacc hs hc0 hc1 a b x )]
  unfold kernelRun0_A
  dsimp only
  sl_unfold_words
  rw [View.canon_cons_unit_zero (S := S1024x1024) hz, View.readCov_unit_zero (S := S1024x1024) _ hz]
  simp only [View.readAt_eq_ld, ha.read_unread, hb.read_unread, hr.read_unread,
    View.ld_unit_zero (S := S1024x512) hz, View.ld_unit_zero (S := S512x1024) hz, View.ld_unit_zero (S := S1024x1024) hz, shapeCast_self]

theorem sout_B (hc0 : ¬cond0_0 i) (hc1 : ¬cond0_1 i) :
    sout0_B_0 (F := Ideal) c i aa ha ab hb ar hr ao ho aacc hs hc0 hc1 a b x acc = k0_pay2 (F := Ideal) acc a b := by
  unfold sout0_B_0
  rw [View.read_writes_eq_canon _ _ _ (scover0_B_0 (F := Ideal) c i aa ha ab hb ar hr ao ho aacc hs hc0 hc1 a b x acc)]
  unfold kernelRun0_B
  dsimp only
  sl_unfold_words
  rw [View.canon_unit_zero (S := S1024x1024) hz]
  simp only [View.readAt_eq_ld, ha.read_unread, hb.read_unread, hr.read_unread, hs.read_unread,
    View.ld_unit_zero (S := S1024x512) hz, View.ld_unit_zero (S := S512x1024) hz, View.ld_unit_zero (S := S1024x1024) hz, shapeCast_self]

theorem sout_C (hc0 : ¬cond0_0 i) (hc1 : cond0_1 i) :
    sout0_C_0 (F := Ideal) c i aa ha ab hb ar hr ao ho aacc hs hc0 hc1 a b x acc = k0_pay2 (F := Ideal) acc a b := by
  unfold sout0_C_0
  rw [View.read_writes_eq_canon _ _ _ (scover0_C_0 (F := Ideal) c i aa ha ab hb ar hr ao ho aacc hs hc0 hc1 a b x acc)]
  unfold kernelRun0_C
  dsimp only
  sl_unfold_words
  rw [View.canon_unit_zero (S := S1024x1024) hz]
  simp only [View.readAt_eq_ld, ha.read_unread, hb.read_unread, hr.read_unread, hs.read_unread,
    View.ld_unit_zero (S := S1024x512) hz, View.ld_unit_zero (S := S512x1024) hz, View.ld_unit_zero (S := S1024x1024) hz, shapeCast_self]

theorem out_C (hc0 : ¬cond0_0 i) (hc1 : cond0_1 i) :
    out0_C_3 (F := Ideal) c i aa ha ab hb ar hr ao ho aacc hs hc0 hc1 a b x acc = k0_pay3 (F := Ideal) (k0_pay2 (F := Ideal) acc a b) x := by
  unfold out0_C_3
  rw [View.read_writes_eq_canon _ _ _ (cover0_C_3 (F := Ideal) c i aa ha ab hb ar hr ao ho aacc hs hc0 hc1 a b x acc)]
  unfold kernelRun0_C
  dsimp only
  sl_unfold_words
  rw [View.canon_unit_zero (S := S1024x1024) hz, View.readCov_unit_zero (S := S1024x1024) _ hz]
  simp only [View.readAt_eq_ld, ha.read_unread, hb.read_unread, hr.read_unread, hs.read_unread,
    View.ld_unit_zero (S := S1024x512) hz, View.ld_unit_zero (S := S512x1024) hz, View.ld_unit_zero (S := S1024x1024) hz, shapeCast_self]

end Body

variable (m : (ℓ : Loc nD τ sig) → Buf (Elt Ideal) ℓ) (c : Dev nD)

/-- The arguments, and the two factors they make. -/
abbrev arg0 : FVec Ideal S8192x5632 .bf16 := m ((c : Thread nD τ).loc main_arg0)
abbrev arg1 : FVec Ideal S2048x11264 .f32 := m ((c : Thread nD τ).loc main_arg1)
abbrev arg2 : FVec Ideal S8192x2048 .f32 := m ((c : Thread nD τ).loc main_arg2)
def A (i : Fin 8192) (k : Fin 5632) : EReal := arg0 m c (ix2 i k)
def B (k : Fin 5632) (n : Fin 2048) : EReal := arg1 m c (ix2 n ⟨5632 + k.val, by omega⟩)

/-- The second factor as the host prepares it. -/
theorem V_b (k : Fin 5632) (n : Fin 2048) : (V m c main_v2 : FVec Ideal S5632x2048 .bf16) (ix2 k n) = B m c k n := by
  have e : V m c main_v2 = extractStridedSlice S5632x2048 ![5632, 0] (truncf .bf16 (transpose S11264x2048 [1, 0] (arg1 m c) transposes_S2048x11264_S11264x2048_1_0) bitsLt_bf16_f32) slices_S11264x2048_S5632x2048_5632_0 := by
    show StableHlo.after hostOps0 _ _ = _
    unfold hostOps0
    after_results
  rw [e]
  unfold B
  pointwise

theorem idx : ∀ t : Fin cfg0.N, t.val / 22 < 8 ∧ win0_0.index t = ![t.val / 22, t.val % 11]
    ∧ win0_1.index t = ![t.val % 11, t.val / 11 % 2] ∧ win0_2.index t = ![t.val / 22, t.val / 11 % 2] ∧ win0_3.index t = ![t.val / 22, t.val / 11 % 2] :=
  (by decide +kernel : ∀ t : Fin grid0.N, _)

/-- The rows, the columns and the contracted entries a step uses. -/
def ra (t : Fin cfg0.N) (r : Fin 1024) : Fin 8192 := ⟨1024 * (t.val / 22) + r.val, by have := (idx t).1; have := r.isLt; omega⟩
def cb (t : Fin cfg0.N) (d : Fin 1024) : Fin 2048 := ⟨1024 * (t.val / 11 % 2) + d.val, by have := d.isLt; omega⟩
def kk (t : Fin cfg0.N) (k : Fin 512) : Fin 5632 := ⟨512 * (t.val % 11) + k.val, by have := k.isLt; omega⟩

theorem a_apply (t : Fin cfg0.N) (r : Fin 1024) (k : Fin 512) : (iblk m c 0 t : FVec Ideal S1024x512 .bf16) (ix2 r k) = A m c (ra t r) (kk t k) := by
  unfold A arg0 ra kk; rw [← V_main_arg0 m c]; blk_ext [iblk, idx t]

theorem b_apply (t : Fin cfg0.N) (k : Fin 512) (d : Fin 1024) : (iblk m c 1 t : FVec Ideal S512x1024 .bf16) (ix2 k d) = B m c (kk t k) (cb t d) := by
  rw [← V_b]; unfold kk cb; blk_ext [iblk, idx t]

theorem x_apply (t : Fin cfg0.N) (r : Fin 1024) (d : Fin 1024) : (iblk m c 2 t : FVec Ideal S1024x1024 .f32) (ix2 r d) = arg2 m c (ix2 (ra t r) (cb t d)) := by
  unfold arg2 ra cb; rw [← V_main_arg2 m c]; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 512, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 11 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 11 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 11 = 10
  · rw [outsAt0_C m c t h0 h1]; dsimp only; rw [sout_C]
  · rw [outsAt0_B m c t h0 h1]; dsimp only; rw [sout_B]

theorem last (t : Fin cfg0.N) (h1 : t.val % 11 = 10) : (outsAt0 m c t.val t.isLt).1 = k0_pay3 (F := Ideal) ((outsAt0 m c t.val t.isLt).2) (iblk m c 2 t) := by
  rw [outsAt0_C m c t (by omega) h1]; dsimp only; rw [sout_C, out_C]

/-- What the call computes. -/
def res : FVec Ideal S8192x2048 .f32 := fun i => (arg2 m c i + ∑ k : Fin 5632, A m c (i 0) k * B m c k (i 1) : EReal)

theorem total (t : Fin cfg0.N) (h : t.val % 11 = 10) (r : Fin 1024) (d : Fin 1024) :
    (outsAt0 m c t.val t.isLt).2 (ix2 r d) = (∑ k : Fin 5632, A m c (ra t r) k * B m c k (cb t d) : EReal) :=
  product_at (nk := 11) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 3 cfg0.N = res m c := by
  refine (dats m 0 c).arrAt_eq_of_covers 3 _ (by decide +kernel) fun t hf y => ?_
  blk_simp
  rw [after0_3]
  obtain ⟨r, d, rfl⟩ := pair y
  have h := (flush0_3 t).mp hf
  have e : (win0_3.blk t).view.emb (ix2 r d) = ix2 (ra t r) (cb t d) := by unfold ra cb; blk_ext [idx t]
  rw [e]
  rw [last m c t h]
  have e : k0_pay3 (F := Ideal) (outsAt0 m c t.val t.isLt).2 (iblk m c 2 t) (ix2 r d) = ((outsAt0 m c t.val t.isLt).2 (ix2 r d) + arg2 m c (ix2 (ra t r) (cb t d)) : EReal) := by rw [← x_apply]; rfl
  rw [e, total m c t h]
  exact add_comm (G := EReal) _ _

theorem frame_p : Cert.quiescent_FfnInDhUp := fun m ρ _ => Cert.FfnInDhUp.Gen.frame m ρ
theorem frame_pi : Cert.quiescent_FfnInDhUpIdeal := fun m ρ _ => Cert.FfnInDhUpIdeal.Gen.frame m ρ
theorem frame_ri : Cert.quiescent_FfnInDhUpRefIdeal := fun m ρ _ => (θ_run Cert.FfnInDhUpRefIdeal.defs _ _).mono
  (fun r h => ⟨fun c => (h c).2, sem_eq_zero_of_no_sems (by decide) r.2⟩) (Cert.FfnInDhUpRefIdeal.Value.run (F := Ideal) m ρ)

/-- The call and the reference end with the same array. -/
theorem algebraic : Cert.algebraic_FfnInDhUpIdeal_FfnInDhUpRefIdeal := by
  intro m ρ m' ρ' _ hag
  refine ⟨fun c => res m c, ?_, ?_⟩
  · exact (θ_run Cert.FfnInDhUpIdeal.defs _ _).mono (fun r h c => ⟨(h c).1.trans (final m c), (h c).2⟩) (Cert.FfnInDhUpIdeal.Value.run_blocks (F := Ideal) m ρ)
  · refine (θ_run Cert.FfnInDhUpRefIdeal.defs _ _).mono (fun r h c => ⟨(h c).1.trans ?_, (h c).2⟩) (Cert.FfnInDhUpRefIdeal.Value.run (F := Ideal) m' ρ')
    obtain ⟨h0, h1, h2⟩ := hag c
    rw [h0, h1, h2]
    funext i
    obtain ⟨r, d, rfl⟩ := pair (n := 8192) (m := 2048) i
    refine Eq.trans (b := (arg2 m c (ix2 r d) + ∑ k : Fin 5632, arg0 m c (ix2 r k) * arg1 m c (ix2 d ⟨5632 + k.val, by omega⟩) : EReal)) (by pointwise) ?_
    rfl

end Cert.FfnInDhUpRun

end
-- ==== Proof.Prod.FfnInDw.lean ====
/- The gradient of one half of the input projection of the gated feed-forward into its weight: the 5632 by 2048 product over 8192, formed in 4 by 2 tiles of 1408 by 1024
   and 8 steps of 1024 along the contracted axis. -/
module

public import proofs.«01_k».proof.Defs
public import proofs.«01_k».proof.Proof.Gen.FfnInDw
public import proofs.«01_k».proof.Proof.Gen.FfnInDw.Frame
public import proofs.«01_k».proof.Proof.Gen.FfnInDwIdeal.Value
public import proofs.«01_k».proof.Proof.Gen.FfnInDwRefIdeal.Run
public import proofs.«01_k».proof.Proof.Prod.Tiled
public import Idealize.ShloMosaic.Lib.StableHlo.Run

@[expose] public section

set_option maxRecDepth 16384

noncomputable section

namespace Cert.FfnInDwRun

open Cert.FfnInDwIdeal Cert.FfnInDwIdeal.Gen Cert.Prod
open Idealize.ShloMosaic Idealize.ShloMosaic.TcCoe Idealize.SL.Sem
open Idealize.ShloMosaic.Pipeline (Dat)

/-- One step: the product of two tiles is added. -/
theorem pay_apply (acc : FVec Ideal S1408x1024 .f32) (a : FVec Ideal S1024x1408 .bf16) (b : FVec Ideal S1024x1024 .bf16) (r : Fin 1408) (d : Fin 1024) :
    k0_pay2 acc a b (ix2 r d) = (acc (ix2 r d) + ∑ k : Fin 1024, a (ix2 k r) * b (ix2 k d) : EReal) := by
  pointwise [k0_pay2]

section Body
variable (c : Dev nD) (i : grid0.Coords)
  (aa : Memref sig .tc .vmem S1024x1408 .bf16) (ha : aa.IsWhole)
  (ab : Memref sig .tc .vmem S1024x1024 .bf16) (hb : ab.IsWhole)
  (ao : Memref sig .tc .vmem S1408x1024 .bf16) (ho : ao.IsWhole)
  (aacc : Memref sig .tc .vmem S1408x1024 .f32) (hs : aacc.IsWhole)
  (a : FVec Ideal S1024x1408 .bf16) (b : FVec Ideal S1024x1024 .bf16) (acc : FVec Ideal S1408x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1408x1024) hz, View.readCov_unit_zero (S := S1408x1024) _ hz]
  simp only [View.readAt_eq_ld, ha.read_unread, hb.read_unread,
    View.ld_unit_zero (S := S1024x1408) hz, View.ld_unit_zero (S := S1024x1024) hz, View.ld_unit_zero (S := S1408x1024) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1408x1024) hz]
  simp only [View.readAt_eq_ld, ha.read_unread, hb.read_unread, hs.read_unread,
    View.ld_unit_zero (S := S1024x1408) hz, View.ld_unit_zero (S := S1024x1024) hz, View.ld_unit_zero (S := S1408x1024) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S1408x1024) hz]
  simp only [View.readAt_eq_ld, ha.read_unread, hb.read_unread, hs.read_unread,
    View.ld_unit_zero (S := S1024x1408) hz, View.ld_unit_zero (S := S1024x1024) hz, View.ld_unit_zero (S := S1408x1024) hz, shapeCast_self]

theorem out_C (hc0 : ¬cond0_0 i) (hc1 : cond0_1 i) :
    out0_C_2 (F := Ideal) c i aa ha ab hb ao ho aacc hs hc0 hc1 a b acc = k0_pay3 (F := Ideal) (k0_pay2 (F := Ideal) acc a b) := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S1408x1024) hz, View.readCov_unit_zero (S := S1408x1024) _ hz]
  simp only [View.readAt_eq_ld, ha.read_unread, hb.read_unread, hs.read_unread,
    View.ld_unit_zero (S := S1024x1408) hz, View.ld_unit_zero (S := S1024x1024) hz, View.ld_unit_zero (S := S1408x1024) hz, shapeCast_self]

end Body

variable (m : (ℓ : Loc nD τ sig) → Buf (Elt Ideal) ℓ) (c : Dev nD)

/-- The arguments, and the two factors they make. -/
abbrev arg0 : FVec Ideal S8192x5632 .bf16 := m ((c : Thread nD τ).loc main_arg0)
abbrev arg1 : FVec Ideal S8192x2048 .bf16 := m ((c : Thread nD τ).loc main_arg1)
def A (i : Fin 5632) (k : Fin 8192) : EReal := arg0 m c (ix2 k i)
def B (k : Fin 8192) (n : Fin 2048) : EReal := arg1 m c (ix2 k n)

theorem idx : ∀ t : Fin cfg0.N, t.val / 16 < 4 ∧ win0_0.index t = ![t.val % 8, t.val / 16]
    ∧ win0_1.index t = ![t.val % 8, t.val / 8 % 2] ∧ win0_2.index t = ![t.val / 16, t.val / 8 % 2] :=
  (by decide +kernel : ∀ t : Fin grid0.N, _)

/-- The rows, the columns and the contracted entries a step uses. -/
def ra (t : Fin cfg0.N) (r : Fin 1408) : Fin 5632 := ⟨1408 * (t.val / 16) + r.val, by have := (idx t).1; have := r.isLt; omega⟩
def cb (t : Fin cfg0.N) (d : Fin 1024) : Fin 2048 := ⟨1024 * (t.val / 8 % 2) + d.val, by have := d.isLt; omega⟩
def kk (t : Fin cfg0.N) (k : Fin 1024) : Fin 8192 := ⟨1024 * (t.val % 8) + k.val, by have := k.isLt; omega⟩

theorem a_apply (t : Fin cfg0.N) (r : Fin 1408) (k : Fin 1024) : (iblk m c 0 t : FVec Ideal S1024x1408 .bf16) (ix2 k r) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .bf16) (ix2 k d) = B m c (kk t k) (cb t d) := by
  unfold B arg1 kk cb; rw [← V_main_arg1 m c]; blk_ext [iblk, idx t]

theorem pay_at (acc : FVec Ideal S1408x1024 .f32) (t : Fin cfg0.N) (r : Fin 1408) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 8 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 8 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]; dsimp only; rw [sout_C]
  · rw [outsAt0_B m c t h0 h1]; dsimp only; rw [sout_B]

theorem last (t : Fin cfg0.N) (h1 : t.val % 8 = 7) : (outsAt0 m c t.val t.isLt).1 = k0_pay3 (F := Ideal) ((outsAt0 m c t.val t.isLt).2) := by
  rw [outsAt0_C m c t (by omega) h1]; dsimp only; rw [sout_C, out_C]

/-- What the call computes. -/
def res : FVec Ideal S5632x2048 .bf16 := fun i => (∑ k : Fin 8192, A m c (i 0) k * B m c k (i 1) : EReal)

theorem total (t : Fin cfg0.N) (h : t.val % 8 = 7) (r : Fin 1408) (d : Fin 1024) :
    (outsAt0 m c t.val t.isLt).2 (ix2 r d) = (∑ k : Fin 8192, A m c (ra t r) k * B m c k (cb t d) : EReal) :=
  product_at (nk := 8) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h]
  refine Eq.trans (b := (outsAt0 m c t.val t.isLt).2 (ix2 r d)) rfl ?_
  rw [total m c t h]
  rfl

theorem frame_p : Cert.quiescent_FfnInDw := fun m ρ _ => Cert.FfnInDw.Gen.frame m ρ
theorem frame_pi : Cert.quiescent_FfnInDwIdeal := fun m ρ _ => Cert.FfnInDwIdeal.Gen.frame m ρ
theorem frame_ri : Cert.quiescent_FfnInDwRefIdeal := fun m ρ _ => (θ_run Cert.FfnInDwRefIdeal.defs _ _).mono
  (fun r h => ⟨fun c => (h c).2, sem_eq_zero_of_no_sems (by decide) r.2⟩) (Cert.FfnInDwRefIdeal.Value.run (F := Ideal) m ρ)

/-- The call and the reference end with the same array. -/
theorem algebraic : Cert.algebraic_FfnInDwIdeal_FfnInDwRefIdeal := by
  intro m ρ m' ρ' _ hag
  refine ⟨fun c => res m c, ?_, ?_⟩
  · exact (θ_run Cert.FfnInDwIdeal.defs _ _).mono (fun r h c => ⟨(h c).1.trans (final m c), (h c).2⟩) (Cert.FfnInDwIdeal.Value.run_blocks (F := Ideal) m ρ)
  · refine (θ_run Cert.FfnInDwRefIdeal.defs _ _).mono (fun r h c => ⟨(h c).1.trans ?_, (h c).2⟩) (Cert.FfnInDwRefIdeal.Value.run (F := Ideal) m' ρ')
    obtain ⟨h0, h1⟩ := hag c
    rw [h0, h1]
    funext i
    obtain ⟨r, d, rfl⟩ := pair (n := 5632) (m := 2048) i
    refine Eq.trans (b := (∑ k : Fin 8192, arg0 m c (ix2 k r) * arg1 m c (ix2 k d) : EReal)) (by pointwise) ?_
    rfl

end Cert.FfnInDwRun

end
-- ==== Proof.Prod.Columns.lean ====
/- The working form of the hybrid layer's input weight: its columns in another order, transposed, with 112 rows of zeros after them. -/
module

public import Idealize.ShloMosaic.Lib.Pointwise

@[expose] public section

noncomputable section

namespace Cert.Prod

open Idealize.ShloMosaic

/-- Row `n` of the working weight. -/
def padded (w : Fin 2048 → Fin 6160 → EReal) (n : Fin 6272) (k : Fin 2048) : EReal :=
  if h0 : n.val < 4096 then w k ⟨n, by omega⟩ else if h1 : n.val - 4096 < 2048 then w k ⟨4112 + (n - 4096), by omega⟩
  else if h2 : n.val - 4096 - 2048 < 16 then w k ⟨4096 + (n - 4096 - 2048), by omega⟩ else 0

theorem padded_at (w : Fin 2048 → Fin 6160 → EReal) (n : Fin 6272) (j : Fin 6160) (k : Fin 2048)
    (h : n.val < 4096 ∧ j.val = n ∨ 4096 ≤ n.val ∧ n.val < 6144 ∧ j.val = n + 16 ∨ 6144 ≤ n.val ∧ n.val < 6160 ∧ j.val + 2048 = n) : padded w n k = w k j := by
  have := j.isLt
  unfold padded
  split_ifs
  · exact congrArg (w k) (Fin.ext (by dsimp only; omega))
  · exact congrArg (w k) (Fin.ext (by dsimp only; omega))
  · exact congrArg (w k) (Fin.ext (by dsimp only; omega))
  · exact absurd h (by omega)

/-- A product with a row of the working weight is a product with the column it was made of. -/
theorem padded_dot (w : Fin 2048 → Fin 6160 → EReal) (f : Fin 2048 → EReal) (n : Fin 6272) :
    padded (fun _ j => ∑ x, f x * w x j) n 0 = ∑ x, f x * padded w n x := by
  unfold padded
  split_ifs
  · rfl
  · rfl
  · rfl
  · exact (Finset.sum_eq_zero fun x _ => mul_zero _).symm

/-- The entry a column of the weight meets, when the entries stand in the order of the working weight's rows. -/
def unpadded (f : Fin 6272 → EReal) (n : Fin 6160) : EReal :=
  if h0 : n.val < 4096 then f ⟨n, by omega⟩ else if h1 : n.val - 4096 < 16 then f ⟨6144 + (n - 4096), by omega⟩
  else f ⟨4096 + (n - 4096 - 16), by omega⟩

/-- A sum over the rows of the working weight against the columns it was made of, in their own order. -/
theorem padded_sum (w : Fin 2048 → Fin 6160 → EReal) (f : Fin 6272 → EReal) (k : Fin 2048) :
    ∑ n, f n * padded w n k = ∑ n, unpadded f n * w k n := by
  let e : Fin 6160 → Fin 6272 := fun n =>
    if h : n.val < 4096 then ⟨n, by omega⟩ else if h' : n.val - 4096 < 16 then ⟨6144 + (n - 4096), by omega⟩ else ⟨4096 + (n - 4096 - 16), by omega⟩
  have inj : Function.Injective e := fun a b hab => by
    have := congrArg Fin.val hab
    have := a.isLt
    have := b.isLt
    apply Fin.ext
    dsimp only [e] at *
    split_ifs at * <;> simp only at * <;> omega
  have term : ∀ n, unpadded f n * w k n = f (e n) * padded w (e n) k := fun n => by
    have hn := n.isLt
    have he : (e n).val = if n.val < 4096 then n.val else if n.val < 4112 then n.val + 2048 else n.val - 16 := by
      dsimp only [e]
      split_ifs <;> simp only <;> omega
    have hf : unpadded f n = f (e n) := by
      unfold unpadded
      dsimp only [e]
      split_ifs <;> rfl
    rw [hf, padded_at w (e n) n k (by split_ifs at he <;> omega)]
  rw [Finset.sum_congr rfl fun n _ => term n, ← Finset.sum_image (f := fun n => f n * padded w n k) fun a _ b _ h => inj h]
  symm
  refine Finset.sum_subset (Finset.subset_univ _) fun n _ hn => ?_
  have : ¬n.val < 6160 := fun h => hn (Finset.mem_image.mpr (by
    by_cases c0 : n.val < 4096
    · exact ⟨⟨n, h⟩, Finset.mem_univ _, dif_pos c0⟩
    by_cases c1 : n.val < 6144
    · exact ⟨⟨n + 16, by omega⟩, Finset.mem_univ _, (dif_neg (show ¬n.val + 16 < 4096 by omega)).trans
        ((dif_neg (show ¬n.val + 16 - 4096 < 16 by omega)).trans (Fin.ext (show 4096 + (n.val + 16 - 4096 - 16) = n.val by omega)))⟩
    · exact ⟨⟨n - 2048, by omega⟩, Finset.mem_univ _, (dif_neg (show ¬n.val - 2048 < 4096 by omega)).trans
        ((dif_pos (show n.val - 2048 - 4096 < 16 by omega)).trans (Fin.ext (show 6144 + (n.val - 2048 - 4096) = n.val by omega)))⟩))
  unfold padded
  rw [dif_neg (by omega), dif_neg (by omega), dif_neg (by omega), mul_zero]

end Cert.Prod

end
-- ==== Proof.Prod.HybIn.lean ====
/- The input projection of the hybrid layer: the 8192 by 6272 product over 2048, formed in 8 by 7 tiles of 1024 by 896
   and 2 steps of 1024 along the contracted axis. -/
module

public import proofs.«01_k».proof.Defs
public import proofs.«01_k».proof.Proof.Gen.HybIn
public import proofs.«01_k».proof.Proof.Gen.HybIn.Frame
public import proofs.«01_k».proof.Proof.Gen.HybInIdeal.Value
public import proofs.«01_k».proof.Proof.Gen.HybInRefIdeal.Run
public import proofs.«01_k».proof.Proof.Prod.Tiled
public import Idealize.ShloMosaic.Lib.StableHlo.Run
public import proofs.«01_k».proof.Proof.Prod.Columns

@[expose] public section

set_option maxRecDepth 16384

noncomputable section

namespace Cert.HybInRun

open Cert.HybInIdeal Cert.HybInIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x896 .f32) (a : FVec Ideal S1024x1024 .bf16) (b : FVec Ideal S896x1024 .bf16) (r : Fin 1024) (d : Fin 896) :
    k0_pay2 acc a b (ix2 r d) = (acc (ix2 r d) + ∑ k : Fin 1024, a (ix2 r k) * b (ix2 d k) : EReal) := by
  pointwise [k0_pay2]

section Body
variable (c : Dev nD) (i : grid0.Coords)
  (aa : Memref sig .tc .vmem S1024x1024 .bf16) (ha : aa.IsWhole)
  (ab : Memref sig .tc .vmem S896x1024 .bf16) (hb : ab.IsWhole)
  (ao : Memref sig .tc .vmem S1024x896 .f32) (ho : ao.IsWhole)
  (aacc : Memref sig .tc .vmem S1024x896 .f32) (hs : aacc.IsWhole)
  (a : FVec Ideal S1024x1024 .bf16) (b : FVec Ideal S896x1024 .bf16) (acc : FVec Ideal S1024x896 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x896) hz, View.readCov_unit_zero (S := S1024x896) _ hz]
  simp only [View.readAt_eq_ld, ha.read_unread, hb.read_unread,
    View.ld_unit_zero (S := S1024x1024) hz, View.ld_unit_zero (S := S896x1024) hz, View.ld_unit_zero (S := S1024x896) hz, shapeCast_self]

theorem sout_B (hc0 : ¬cond0_0 i) (hc1 : cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x896) hz]
  simp only [View.readAt_eq_ld, ha.read_unread, hb.read_unread, hs.read_unread,
    View.ld_unit_zero (S := S1024x1024) hz, View.ld_unit_zero (S := S896x1024) hz, View.ld_unit_zero (S := S1024x896) hz, shapeCast_self]

theorem out_B (hc0 : ¬cond0_0 i) (hc1 : cond0_1 i) :
    out0_B_2 (F := Ideal) c i aa ha ab hb ao ho aacc hs hc0 hc1 a b acc = k0_pay2 (F := Ideal) acc a b := by
  unfold out0_B_2
  rw [View.read_writes_eq_canon _ _ _ (cover0_B_2 (F := Ideal) c i aa ha ab hb ao ho aacc hs hc0 hc1 a b acc)]
  unfold kernelRun0_B
  dsimp only
  sl_unfold_words
  rw [View.canon_unit_zero (S := S1024x896) hz, View.readCov_unit_zero (S := S1024x896) _ hz]
  simp only [View.readAt_eq_ld, ha.read_unread, hb.read_unread, hs.read_unread,
    View.ld_unit_zero (S := S1024x1024) hz, View.ld_unit_zero (S := S896x1024) hz, View.ld_unit_zero (S := S1024x896) hz, shapeCast_self]

end Body

variable (m : (ℓ : Loc nD τ sig) → Buf (Elt Ideal) ℓ) (c : Dev nD)

/-- The arguments, and the two factors they make. -/
abbrev arg0 : FVec Ideal S8192x2048 .bf16 := m ((c : Thread nD τ).loc main_arg0)
abbrev arg1 : FVec Ideal S2048x6160 .f32 := m ((c : Thread nD τ).loc main_arg1)
def A (i : Fin 8192) (k : Fin 2048) : EReal := arg0 m c (ix2 i k)
def B (k : Fin 2048) (n : Fin 6272) : EReal := padded (fun i j => arg1 m c (ix2 i j)) n k

/-- The second factor as the host prepares it. -/
theorem V_b (k : Fin 2048) (n : Fin 6272) : (V m c main_v6 : FVec Ideal S6272x2048 .bf16) (ix2 n k) = B m c k n := by
  have e : V m c main_v6 = concatenate S6272x2048 0 [⟨S4096x2048, ((extractStridedSlice S4096x2048 ![0, 0] (truncf .bf16 (transpose S6160x2048 [1, 0] (arg1 m c) transposes_S2048x6160_S6160x2048_1_0) bitsLt_bf16_f32) slices_S6160x2048_S4096x2048_0_0) : (⟨S4096x2048, .bf16⟩ : BufTy).Contents (Elt Ideal))⟩, ⟨S2048x2048, ((extractStridedSlice S2048x2048 ![4112, 0] (truncf .bf16 (transpose S6160x2048 [1, 0] (arg1 m c) transposes_S2048x6160_S6160x2048_1_0) bitsLt_bf16_f32) slices_S6160x2048_S2048x2048_4112_0) : (⟨S2048x2048, .bf16⟩ : BufTy).Contents (Elt Ideal))⟩, ⟨S16x2048, ((extractStridedSlice S16x2048 ![4096, 0] (truncf .bf16 (transpose S6160x2048 [1, 0] (arg1 m c) transposes_S2048x6160_S6160x2048_1_0) bitsLt_bf16_f32) slices_S6160x2048_S16x2048_4096_0) : (⟨S16x2048, .bf16⟩ : BufTy).Contents (Elt Ideal))⟩,
      ⟨S112x2048, ((broadcastInDim S112x2048 ![] bcast_S_S112x2048 (constant (F := Ideal) S_ .bf16 0x0000#16)) : (⟨S112x2048, .bf16⟩ : BufTy).Contents (Elt Ideal))⟩] concatenates_S4096x2048_S2048x2048_S16x2048_S112x2048_S6272x2048_d0 := by
    show StableHlo.after hostOps0 _ _ = _
    unfold hostOps0
    after_results
    rfl
  rw [e]
  unfold B padded
  pointwise

theorem idx : ∀ t : Fin cfg0.N, t.val / 14 < 8 ∧ win0_0.index t = ![t.val / 14, t.val % 2]
    ∧ win0_1.index t = ![t.val / 2 % 7, t.val % 2] ∧ win0_2.index t = ![t.val / 14, t.val / 2 % 7] :=
  (by decide +kernel : ∀ t : Fin grid0.N, _)

/-- The rows, the columns and the contracted entries a step uses. -/
def ra (t : Fin cfg0.N) (r : Fin 1024) : Fin 8192 := ⟨1024 * (t.val / 14) + r.val, by have := (idx t).1; have := r.isLt; omega⟩
def cb (t : Fin cfg0.N) (d : Fin 896) : Fin 6272 := ⟨896 * (t.val / 2 % 7) + d.val, by have := d.isLt; omega⟩
def kk (t : Fin cfg0.N) (k : Fin 1024) : Fin 2048 := ⟨1024 * (t.val % 2) + k.val, by have := k.isLt; omega⟩

theorem a_apply (t : Fin cfg0.N) (r : Fin 1024) (k : Fin 1024) : (iblk m c 0 t : FVec Ideal S1024x1024 .bf16) (ix2 r k) = A m c (ra t r) (kk t k) := by
  unfold A arg0 ra kk; rw [← V_main_arg0 m c]; blk_ext [iblk, idx t]

theorem b_apply (t : Fin cfg0.N) (k : Fin 1024) (d : Fin 896) : (iblk m c 1 t : FVec Ideal S896x1024 .bf16) (ix2 d k) = B m c (kk t k) (cb t d) := by
  rw [← V_b]; unfold kk cb; blk_ext [iblk, idx t]

theorem pay_at (acc : FVec Ideal S1024x896 .f32) (t : Fin cfg0.N) (r : Fin 1024) (d : Fin 896) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 2 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]; dsimp only; rw [sout_B]

theorem last (t : Fin cfg0.N) (h1 : t.val % 2 = 1) : (outsAt0 m c t.val t.isLt).1 = (outsAt0 m c t.val t.isLt).2 := by
  rw [outsAt0_B m c t (by omega) h1]; dsimp only; rw [sout_B, out_B]

/-- What the call computes. -/
def res : FVec Ideal S8192x6272 .f32 := fun i => (∑ k : Fin 2048, A m c (i 0) k * B m c k (i 1) : EReal)

theorem total (t : Fin cfg0.N) (h : t.val % 2 = 1) (r : Fin 1024) (d : Fin 896) :
    (outsAt0 m c t.val t.isLt).2 (ix2 r d) = (∑ k : Fin 2048, A m c (ra t r) k * B m c k (cb t d) : EReal) :=
  product_at (nk := 2) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_HybIn := fun m ρ _ => Cert.HybIn.Gen.frame m ρ
theorem frame_pi : Cert.quiescent_HybInIdeal := fun m ρ _ => Cert.HybInIdeal.Gen.frame m ρ
theorem frame_ri : Cert.quiescent_HybInRefIdeal := fun m ρ _ => (θ_run Cert.HybInRefIdeal.defs _ _).mono
  (fun r h => ⟨fun c => (h c).2, sem_eq_zero_of_no_sems (by decide) r.2⟩) (Cert.HybInRefIdeal.Value.run (F := Ideal) m ρ)

/-- The call and the reference end with the same array. -/
theorem algebraic : Cert.algebraic_HybInIdeal_HybInRefIdeal := by
  intro m ρ m' ρ' _ hag
  refine ⟨fun c => res m c, ?_, ?_⟩
  · exact (θ_run Cert.HybInIdeal.defs _ _).mono (fun r h c => ⟨(h c).1.trans (final m c), (h c).2⟩) (Cert.HybInIdeal.Value.run_blocks (F := Ideal) m ρ)
  · refine (θ_run Cert.HybInRefIdeal.defs _ _).mono (fun r h c => ⟨(h c).1.trans ?_, (h c).2⟩) (Cert.HybInRefIdeal.Value.run (F := Ideal) m' ρ')
    obtain ⟨h0, h1⟩ := hag c
    rw [h0, h1]
    funext i
    obtain ⟨r, d, rfl⟩ := pair (n := 8192) (m := 6272) i
    refine Eq.trans (b := padded (fun _ j => ∑ x : Fin 2048, arg0 m c (ix2 r x) * arg1 m c (ix2 x j)) d 0) (by unfold padded; pointwise) ?_
    exact padded_dot (fun i j => arg1 m c (ix2 i j)) (fun x => arg0 m c (ix2 r x)) d

end Cert.HybInRun

end
-- ==== Proof.Prod.HybOut.lean ====
/- The output projection of one branch of the hybrid layer, with the residual: the 8192 by 2048 product over 1024, formed in 8 by 2 tiles of 1024 by 1024
   over the whole contracted axis. -/
module

public import proofs.«01_k».proof.Defs
public import proofs.«01_k».proof.Proof.Gen.HybOut
public import proofs.«01_k».proof.Proof.Gen.HybOut.Frame
public import proofs.«01_k».proof.Proof.Gen.HybOutIdeal.Value
public import proofs.«01_k».proof.Proof.Gen.HybOutRefIdeal.Run
public import proofs.«01_k».proof.Proof.Prod.Tiled
public import Idealize.ShloMosaic.Lib.StableHlo.Run

@[expose] public section

set_option maxRecDepth 16384

noncomputable section

namespace Cert.HybOutRun

open Cert.HybOutIdeal Cert.HybOutIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x1024 .bf16) (b : FVec Ideal S1024x1024 .bf16) (r : Fin 1024) (d : Fin 1024) :
    k0_pay2 acc a b (ix2 r d) = (acc (ix2 r d) + ∑ k : Fin 1024, a (ix2 r k) * b (ix2 k d) : EReal) := by
  pointwise [k0_pay2]

section Body
variable (c : Dev nD) (i : grid0.Coords)
  (aa : Memref sig .tc .vmem S1024x1024 .bf16) (ha : aa.IsWhole)
  (ab : Memref sig .tc .vmem S1024x1024 .bf16) (hb : ab.IsWhole)
  (ar : Memref sig .tc .vmem S1024x1024 .f32) (hr : ar.IsWhole)
  (ao : Memref sig .tc .vmem S1024x1024 .f32) (ho : ao.IsWhole)
  (aacc : Memref sig .tc .vmem S1024x1024 .f32) (hs : aacc.IsWhole)
  (a : FVec Ideal S1024x1024 .bf16) (b : FVec Ideal S1024x1024 .bf16) (x : FVec Ideal S1024x1024 .f32) (acc : FVec Ideal S1024x1024 .f32)

theorem out_A (hc0 : cond0_0 i) (hc1 : cond0_1 i) :
    out0_A_3 (F := Ideal) c i aa ha ab hb ar hr ao ho aacc hs hc0 hc1 a b x  = k0_pay3 (F := Ideal) (k0_pay2 (F := Ideal) (k0_pay1 (F := Ideal)) a b) x := by
  unfold out0_A_3
  rw [View.read_writes_eq_canon _ _ _ (cover0_A_3 (F := Ideal) c i aa ha ab hb ar hr ao ho aacc hs hc0 hc1 a b x )]
  unfold kernelRun0_A
  dsimp only
  sl_unfold_words
  rw [View.canon_unit_zero (S := S1024x1024) hz, readCov_cons_unit_zero (S := S1024x1024) _ hz, View.readCov_unit_zero (S := S1024x1024) _ hz]
  simp only [View.readAt_eq_ld, ha.read_unread, hb.read_unread, hr.read_unread,
    View.ld_unit_zero (S := S1024x1024) hz, shapeCast_self]

end Body

variable (m : (ℓ : Loc nD τ sig) → Buf (Elt Ideal) ℓ) (c : Dev nD)

/-- The arguments, and the two factors they make. -/
abbrev arg0 : FVec Ideal S8192x1024 .bf16 := m ((c : Thread nD τ).loc main_arg0)
abbrev arg1 : FVec Ideal S1024x2048 .f32 := m ((c : Thread nD τ).loc main_arg1)
abbrev arg2 : FVec Ideal S8192x2048 .f32 := m ((c : Thread nD τ).loc main_arg2)
def A (i : Fin 8192) (k : Fin 1024) : EReal := arg0 m c (ix2 i k)
def B (k : Fin 1024) (n : Fin 2048) : EReal := arg1 m c (ix2 k n)

/-- The second factor as the host prepares it. -/
theorem V_b (k : Fin 1024) (n : Fin 2048) : (V m c main_v0 : FVec Ideal S1024x2048 .bf16) (ix2 k n) = B m c k n := by
  have e : V m c main_v0 = truncf .bf16 (arg1 m c) bitsLt_bf16_f32 := by
    show StableHlo.after hostOps0 _ _ = _
    unfold hostOps0
    after_results
  rw [e]
  unfold B
  pointwise

theorem idx : ∀ t : Fin cfg0.N, t.val / 2 < 8 ∧ win0_0.index t = ![t.val / 2, t.val % 1]
    ∧ win0_1.index t = ![t.val % 1, t.val / 1 % 2] ∧ win0_2.index t = ![t.val / 2, t.val / 1 % 2] ∧ win0_3.index t = ![t.val / 2, t.val / 1 % 2] :=
  (by decide +kernel : ∀ t : Fin grid0.N, _)

/-- The rows, the columns and the contracted entries a step uses. -/
def ra (t : Fin cfg0.N) (r : Fin 1024) : Fin 8192 := ⟨1024 * (t.val / 2) + r.val, by have := (idx t).1; have := r.isLt; omega⟩
def cb (t : Fin cfg0.N) (d : Fin 1024) : Fin 2048 := ⟨1024 * (t.val / 1 % 2) + d.val, by have := d.isLt; omega⟩
def kk (t : Fin cfg0.N) (k : Fin 1024) : Fin 1024 := ⟨1024 * (t.val % 1) + k.val, by have := k.isLt; omega⟩

theorem a_apply (t : Fin cfg0.N) (r : Fin 1024) (k : Fin 1024) : (iblk m c 0 t : FVec Ideal S1024x1024 .bf16) (ix2 r k) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .bf16) (ix2 k d) = B m c (kk t k) (cb t d) := by
  rw [← V_b]; unfold kk cb; blk_ext [iblk, idx t]

theorem x_apply (t : Fin cfg0.N) (r : Fin 1024) (d : Fin 1024) : (iblk m c 2 t : FVec Ideal S1024x1024 .f32) (ix2 r d) = arg2 m c (ix2 (ra t r) (cb t d)) := by
  unfold arg2 ra cb; rw [← V_main_arg2 m c]; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem last (t : Fin cfg0.N) : outsAt0 m c t = k0_pay3 (F := Ideal) (k0_pay2 (F := Ideal) (k0_pay1 (F := Ideal)) (iblk m c 0 t) (iblk m c 1 t)) (iblk m c 2 t) := by
  unfold outsAt0; exact out_A ..

/-- What the call computes. -/
def res : FVec Ideal S8192x2048 .f32 := fun i => (arg2 m c i + ∑ k : Fin 1024, A m c (i 0) k * B m c k (i 1) : EReal)

theorem total (t : Fin cfg0.N) (r : Fin 1024) (d : Fin 1024) :
    k0_pay2 (F := Ideal) (k0_pay1 (F := Ideal)) (iblk m c 0 t) (iblk m c 1 t) (ix2 r d) = (∑ k : Fin 1024, A m c (ra t r) k * B m c k (cb t d) : EReal) :=
  product_at (nk := 1) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => k0_pay2 (F := Ideal) (k0_pay1 (F := Ideal)) (iblk m c 0 ⟨n, h⟩) (iblk m c 1 ⟨n, h⟩)) (fun _ _ => rfl) (fun t h => absurd (Nat.mod_one t.val) h) t (Nat.mod_one _) r d

theorem final : (dats m 0 c).arrAt 3 cfg0.N = res m c := by
  refine (dats m 0 c).arrAt_eq_of_covers 3 _ (by decide +kernel) fun t hf y => ?_
  blk_simp
  rw [after0_3]
  obtain ⟨r, d, rfl⟩ := pair y
  have e : (win0_3.blk t).view.emb (ix2 r d) = ix2 (ra t r) (cb t d) := by unfold ra cb; blk_ext [idx t]
  rw [e]
  rw [last m c t]
  have e : k0_pay3 (F := Ideal) (k0_pay2 (F := Ideal) (k0_pay1 (F := Ideal)) (iblk m c 0 t) (iblk m c 1 t)) (iblk m c 2 t) (ix2 r d) = (k0_pay2 (F := Ideal) (k0_pay1 (F := Ideal)) (iblk m c 0 t) (iblk m c 1 t) (ix2 r d) + arg2 m c (ix2 (ra t r) (cb t d)) : EReal) := by rw [← x_apply]; rfl
  rw [e, total m c t]
  exact add_comm (G := EReal) _ _

theorem frame_p : Cert.quiescent_HybOut := fun m ρ _ => Cert.HybOut.Gen.frame m ρ
theorem frame_pi : Cert.quiescent_HybOutIdeal := fun m ρ _ => Cert.HybOutIdeal.Gen.frame m ρ
theorem frame_ri : Cert.quiescent_HybOutRefIdeal := fun m ρ _ => (θ_run Cert.HybOutRefIdeal.defs _ _).mono
  (fun r h => ⟨fun c => (h c).2, sem_eq_zero_of_no_sems (by decide) r.2⟩) (Cert.HybOutRefIdeal.Value.run (F := Ideal) m ρ)

/-- The call and the reference end with the same array. -/
theorem algebraic : Cert.algebraic_HybOutIdeal_HybOutRefIdeal := by
  intro m ρ m' ρ' _ hag
  refine ⟨fun c => res m c, ?_, ?_⟩
  · exact (θ_run Cert.HybOutIdeal.defs _ _).mono (fun r h c => ⟨(h c).1.trans (final m c), (h c).2⟩) (Cert.HybOutIdeal.Value.run_blocks (F := Ideal) m ρ)
  · refine (θ_run Cert.HybOutRefIdeal.defs _ _).mono (fun r h c => ⟨(h c).1.trans ?_, (h c).2⟩) (Cert.HybOutRefIdeal.Value.run (F := Ideal) m' ρ')
    obtain ⟨h0, h1, h2⟩ := hag c
    rw [h0, h1, h2]
    funext i
    obtain ⟨r, d, rfl⟩ := pair (n := 8192) (m := 2048) i
    refine Eq.trans (b := (arg2 m c (ix2 r d) + ∑ k : Fin 1024, arg0 m c (ix2 r k) * arg1 m c (ix2 k d) : EReal)) (by pointwise) ?_
    rfl

end Cert.HybOutRun

end
-- ==== Proof.Prod.MixOutDm.lean ====
/- The gradient of the output projection of the hybrid layer, or of the windowed attention, into its argument: the 8192 by 2048 product over 2048, formed in 8 by 2 tiles of 1024 by 1024
   and 2 steps of 1024 along the contracted axis. -/
module

public import proofs.«01_k».proof.Defs
public import proofs.«01_k».proof.Proof.Gen.MixOutDm
public import proofs.«01_k».proof.Proof.Gen.MixOutDm.Frame
public import proofs.«01_k».proof.Proof.Gen.MixOutDmIdeal.Value
public import proofs.«01_k».proof.Proof.Gen.MixOutDmRefIdeal.Run
public import proofs.«01_k».proof.Proof.Prod.Tiled
public import Idealize.ShloMosaic.Lib.StableHlo.Run

@[expose] public section

set_option maxRecDepth 16384

noncomputable section

namespace Cert.MixOutDmRun

open Cert.MixOutDmIdeal Cert.MixOutDmIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x1024 .f32) (b : FVec Ideal S1024x1024 .bf16) (r : Fin 1024) (d : Fin 1024) :
    k0_pay2 acc a b (ix2 r d) = (acc (ix2 r d) + ∑ k : Fin 1024, a (ix2 r k) * b (ix2 d k) : EReal) := by
  pointwise [k0_pay2]

section Body
variable (c : Dev nD) (i : grid0.Coords)
  (aa : Memref sig .tc .vmem S1024x1024 .f32) (ha : aa.IsWhole)
  (ab : Memref sig .tc .vmem S1024x1024 .bf16) (hb : ab.IsWhole)
  (ao : Memref sig .tc .vmem S1024x1024 .f32) (ho : ao.IsWhole)
  (aacc : Memref sig .tc .vmem S1024x1024 .f32) (hs : aacc.IsWhole)
  (a : FVec Ideal S1024x1024 .f32) (b : FVec Ideal S1024x1024 .bf16) (acc : FVec Ideal S1024x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x1024) hz, View.readCov_unit_zero (S := S1024x1024) _ hz]
  simp only [View.readAt_eq_ld, ha.read_unread, hb.read_unread,
    View.ld_unit_zero (S := S1024x1024) hz, shapeCast_self]

theorem sout_B (hc0 : ¬cond0_0 i) (hc1 : cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x1024) hz]
  simp only [View.readAt_eq_ld, ha.read_unread, hb.read_unread, hs.read_unread,
    View.ld_unit_zero (S := S1024x1024) hz, shapeCast_self]

theorem out_B (hc0 : ¬cond0_0 i) (hc1 : cond0_1 i) :
    out0_B_2 (F := Ideal) c i aa ha ab hb ao ho aacc hs hc0 hc1 a b acc = k0_pay2 (F := Ideal) acc a b := by
  unfold out0_B_2
  rw [View.read_writes_eq_canon _ _ _ (cover0_B_2 (F := Ideal) c i aa ha ab hb ao ho aacc hs hc0 hc1 a b acc)]
  unfold kernelRun0_B
  dsimp only
  sl_unfold_words
  rw [View.canon_unit_zero (S := S1024x1024) hz, View.readCov_unit_zero (S := S1024x1024) _ hz]
  simp only [View.readAt_eq_ld, ha.read_unread, hb.read_unread, hs.read_unread,
    View.ld_unit_zero (S := S1024x1024) hz, shapeCast_self]

end Body

variable (m : (ℓ : Loc nD τ sig) → Buf (Elt Ideal) ℓ) (c : Dev nD)

/-- The arguments, and the two factors they make. -/
abbrev arg0 : FVec Ideal S8192x2048 .f32 := m ((c : Thread nD τ).loc main_arg0)
abbrev arg1 : FVec Ideal S2048x2048 .f32 := m ((c : Thread nD τ).loc main_arg1)
def A (i : Fin 8192) (k : Fin 2048) : EReal := arg0 m c (ix2 i k)
def B (k : Fin 2048) (n : Fin 2048) : EReal := arg1 m c (ix2 n k)

/-- The second factor as the host prepares it. -/
theorem V_b (k : Fin 2048) (n : Fin 2048) : (V m c main_v0 : FVec Ideal S2048x2048 .bf16) (ix2 n k) = B m c k n := by
  have e : V m c main_v0 = truncf .bf16 (arg1 m c) bitsLt_bf16_f32 := by
    show StableHlo.after hostOps0 _ _ = _
    unfold hostOps0
    after_results
  rw [e]
  unfold B
  pointwise

theorem idx : ∀ t : Fin cfg0.N, t.val / 4 < 8 ∧ win0_0.index t = ![t.val / 4, t.val % 2]
    ∧ win0_1.index t = ![t.val / 2 % 2, t.val % 2] ∧ win0_2.index t = ![t.val / 4, t.val / 2 % 2] :=
  (by decide +kernel : ∀ t : Fin grid0.N, _)

/-- The rows, the columns and the contracted entries a step uses. -/
def ra (t : Fin cfg0.N) (r : Fin 1024) : Fin 8192 := ⟨1024 * (t.val / 4) + r.val, by have := (idx t).1; have := r.isLt; omega⟩
def cb (t : Fin cfg0.N) (d : Fin 1024) : Fin 2048 := ⟨1024 * (t.val / 2 % 2) + d.val, by have := d.isLt; omega⟩
def kk (t : Fin cfg0.N) (k : Fin 1024) : Fin 2048 := ⟨1024 * (t.val % 2) + k.val, by have := k.isLt; omega⟩

theorem a_apply (t : Fin cfg0.N) (r : Fin 1024) (k : Fin 1024) : (iblk m c 0 t : FVec Ideal S1024x1024 .f32) (ix2 r k) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .bf16) (ix2 d k) = B m c (kk t k) (cb t d) := by
  rw [← V_b]; unfold kk cb; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 2 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]; dsimp only; rw [sout_B]

theorem last (t : Fin cfg0.N) (h1 : t.val % 2 = 1) : (outsAt0 m c t.val t.isLt).1 = (outsAt0 m c t.val t.isLt).2 := by
  rw [outsAt0_B m c t (by omega) h1]; dsimp only; rw [sout_B, out_B]

/-- What the call computes. -/
def res : FVec Ideal S8192x2048 .f32 := fun i => (∑ k : Fin 2048, A m c (i 0) k * B m c k (i 1) : EReal)

theorem total (t : Fin cfg0.N) (h : t.val % 2 = 1) (r : Fin 1024) (d : Fin 1024) :
    (outsAt0 m c t.val t.isLt).2 (ix2 r d) = (∑ k : Fin 2048, A m c (ra t r) k * B m c k (cb t d) : EReal) :=
  product_at (nk := 2) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_MixOutDm := fun m ρ _ => Cert.MixOutDm.Gen.frame m ρ
theorem frame_pi : Cert.quiescent_MixOutDmIdeal := fun m ρ _ => Cert.MixOutDmIdeal.Gen.frame m ρ
theorem frame_ri : Cert.quiescent_MixOutDmRefIdeal := fun m ρ _ => (θ_run Cert.MixOutDmRefIdeal.defs _ _).mono
  (fun r h => ⟨fun c => (h c).2, sem_eq_zero_of_no_sems (by decide) r.2⟩) (Cert.MixOutDmRefIdeal.Value.run (F := Ideal) m ρ)

/-- The call and the reference end with the same array. -/
theorem algebraic : Cert.algebraic_MixOutDmIdeal_MixOutDmRefIdeal := by
  intro m ρ m' ρ' _ hag
  refine ⟨fun c => res m c, ?_, ?_⟩
  · exact (θ_run Cert.MixOutDmIdeal.defs _ _).mono (fun r h c => ⟨(h c).1.trans (final m c), (h c).2⟩) (Cert.MixOutDmIdeal.Value.run_blocks (F := Ideal) m ρ)
  · refine (θ_run Cert.MixOutDmRefIdeal.defs _ _).mono (fun r h c => ⟨(h c).1.trans ?_, (h c).2⟩) (Cert.MixOutDmRefIdeal.Value.run (F := Ideal) m' ρ')
    obtain ⟨h0, h1⟩ := hag c
    rw [h0, h1]
    funext i
    obtain ⟨r, d, rfl⟩ := pair (n := 8192) (m := 2048) i
    refine Eq.trans (b := (∑ k : Fin 2048, arg0 m c (ix2 r k) * arg1 m c (ix2 d k) : EReal)) (by pointwise) ?_
    rfl

end Cert.MixOutDmRun

end
-- ==== Proof.Prod.HybOutDw.lean ====
/- The gradient of the output projection of one branch of the hybrid layer into its weight: the 1024 by 2048 product over 8192, formed in 1 by 2 tiles of 1024 by 1024
   and 8 steps of 1024 along the contracted axis. -/
module

public import proofs.«01_k».proof.Defs
public import proofs.«01_k».proof.Proof.Gen.HybOutDw
public import proofs.«01_k».proof.Proof.Gen.HybOutDw.Frame
public import proofs.«01_k».proof.Proof.Gen.HybOutDwIdeal.Value
public import proofs.«01_k».proof.Proof.Gen.HybOutDwRefIdeal.Run
public import proofs.«01_k».proof.Proof.Prod.Tiled
public import Idealize.ShloMosaic.Lib.StableHlo.Run

@[expose] public section

set_option maxRecDepth 16384

noncomputable section

namespace Cert.HybOutDwRun

open Cert.HybOutDwIdeal Cert.HybOutDwIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x1024 .bf16) (b : FVec Ideal S1024x1024 .f32) (r : Fin 1024) (d : Fin 1024) :
    k0_pay2 acc a b (ix2 r d) = (acc (ix2 r d) + ∑ k : Fin 1024, a (ix2 k r) * b (ix2 k d) : EReal) := by
  pointwise [k0_pay2]

section Body
variable (c : Dev nD) (i : grid0.Coords)
  (aa : Memref sig .tc .vmem S1024x1024 .bf16) (ha : aa.IsWhole)
  (ab : Memref sig .tc .vmem S1024x1024 .f32) (hb : ab.IsWhole)
  (ao : Memref sig .tc .vmem S1024x1024 .bf16) (ho : ao.IsWhole)
  (aacc : Memref sig .tc .vmem S1024x1024 .f32) (hs : aacc.IsWhole)
  (a : FVec Ideal S1024x1024 .bf16) (b : FVec Ideal S1024x1024 .f32) (acc : FVec Ideal S1024x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x1024) hz, View.readCov_unit_zero (S := S1024x1024) _ hz]
  simp only [View.readAt_eq_ld, ha.read_unread, hb.read_unread,
    View.ld_unit_zero (S := S1024x1024) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x1024) hz]
  simp only [View.readAt_eq_ld, ha.read_unread, hb.read_unread, hs.read_unread,
    View.ld_unit_zero (S := S1024x1024) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S1024x1024) hz]
  simp only [View.readAt_eq_ld, ha.read_unread, hb.read_unread, hs.read_unread,
    View.ld_unit_zero (S := S1024x1024) hz, shapeCast_self]

theorem out_C (hc0 : ¬cond0_0 i) (hc1 : cond0_1 i) :
    out0_C_2 (F := Ideal) c i aa ha ab hb ao ho aacc hs hc0 hc1 a b acc = k0_pay3 (F := Ideal) (k0_pay2 (F := Ideal) acc a b) := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S1024x1024) hz, View.readCov_unit_zero (S := S1024x1024) _ hz]
  simp only [View.readAt_eq_ld, ha.read_unread, hb.read_unread, hs.read_unread,
    View.ld_unit_zero (S := S1024x1024) hz, shapeCast_self]

end Body

variable (m : (ℓ : Loc nD τ sig) → Buf (Elt Ideal) ℓ) (c : Dev nD)

/-- The arguments, and the two factors they make. -/
abbrev arg0 : FVec Ideal S8192x1024 .bf16 := m ((c : Thread nD τ).loc main_arg0)
abbrev arg1 : FVec Ideal S8192x2048 .f32 := m ((c : Thread nD τ).loc main_arg1)
def A (i : Fin 1024) (k : Fin 8192) : EReal := arg0 m c (ix2 k i)
def B (k : Fin 8192) (n : Fin 2048) : EReal := arg1 m c (ix2 k n)

theorem idx : ∀ t : Fin cfg0.N, t.val / 16 < 1 ∧ win0_0.index t = ![t.val % 8, t.val / 16]
    ∧ win0_1.index t = ![t.val % 8, t.val / 8 % 2] ∧ win0_2.index t = ![t.val / 16, t.val / 8 % 2] :=
  (by decide +kernel : ∀ t : Fin grid0.N, _)

/-- The rows, the columns and the contracted entries a step uses. -/
def ra (t : Fin cfg0.N) (r : Fin 1024) : Fin 1024 := ⟨1024 * (t.val / 16) + r.val, by have := (idx t).1; have := r.isLt; omega⟩
def cb (t : Fin cfg0.N) (d : Fin 1024) : Fin 2048 := ⟨1024 * (t.val / 8 % 2) + d.val, by have := d.isLt; omega⟩
def kk (t : Fin cfg0.N) (k : Fin 1024) : Fin 8192 := ⟨1024 * (t.val % 8) + k.val, by have := k.isLt; omega⟩

theorem a_apply (t : Fin cfg0.N) (r : Fin 1024) (k : Fin 1024) : (iblk m c 0 t : FVec Ideal S1024x1024 .bf16) (ix2 k r) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .f32) (ix2 k d) = B m c (kk t k) (cb t d) := by
  unfold B arg1 kk cb; rw [← V_main_arg1 m c]; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 8 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 8 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]; dsimp only; rw [sout_C]
  · rw [outsAt0_B m c t h0 h1]; dsimp only; rw [sout_B]

theorem last (t : Fin cfg0.N) (h1 : t.val % 8 = 7) : (outsAt0 m c t.val t.isLt).1 = k0_pay3 (F := Ideal) ((outsAt0 m c t.val t.isLt).2) := by
  rw [outsAt0_C m c t (by omega) h1]; dsimp only; rw [sout_C, out_C]

/-- What the call computes. -/
def res : FVec Ideal S1024x2048 .bf16 := fun i => (∑ k : Fin 8192, A m c (i 0) k * B m c k (i 1) : EReal)

theorem total (t : Fin cfg0.N) (h : t.val % 8 = 7) (r : Fin 1024) (d : Fin 1024) :
    (outsAt0 m c t.val t.isLt).2 (ix2 r d) = (∑ k : Fin 8192, A m c (ra t r) k * B m c k (cb t d) : EReal) :=
  product_at (nk := 8) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h]
  refine Eq.trans (b := (outsAt0 m c t.val t.isLt).2 (ix2 r d)) rfl ?_
  rw [total m c t h]
  rfl

theorem frame_p : Cert.quiescent_HybOutDw := fun m ρ _ => Cert.HybOutDw.Gen.frame m ρ
theorem frame_pi : Cert.quiescent_HybOutDwIdeal := fun m ρ _ => Cert.HybOutDwIdeal.Gen.frame m ρ
theorem frame_ri : Cert.quiescent_HybOutDwRefIdeal := fun m ρ _ => (θ_run Cert.HybOutDwRefIdeal.defs _ _).mono
  (fun r h => ⟨fun c => (h c).2, sem_eq_zero_of_no_sems (by decide) r.2⟩) (Cert.HybOutDwRefIdeal.Value.run (F := Ideal) m ρ)

/-- The call and the reference end with the same array. -/
theorem algebraic : Cert.algebraic_HybOutDwIdeal_HybOutDwRefIdeal := by
  intro m ρ m' ρ' _ hag
  refine ⟨fun c => res m c, ?_, ?_⟩
  · exact (θ_run Cert.HybOutDwIdeal.defs _ _).mono (fun r h c => ⟨(h c).1.trans (final m c), (h c).2⟩) (Cert.HybOutDwIdeal.Value.run_blocks (F := Ideal) m ρ)
  · refine (θ_run Cert.HybOutDwRefIdeal.defs _ _).mono (fun r h c => ⟨(h c).1.trans ?_, (h c).2⟩) (Cert.HybOutDwRefIdeal.Value.run (F := Ideal) m' ρ')
    obtain ⟨h0, h1⟩ := hag c
    rw [h0, h1]
    funext i
    obtain ⟨r, d, rfl⟩ := pair (n := 1024) (m := 2048) i
    refine Eq.trans (b := (∑ k : Fin 8192, arg1 m c (ix2 k d) * arg0 m c (ix2 k r) : EReal)) (by pointwise) ?_
    exact Finset.sum_congr rfl fun k _ => mul_comm _ _

end Cert.HybOutDwRun

end
-- ==== Proof.Prod.HybInDh.lean ====
/- The gradient of the input projection of the hybrid layer into its argument: the 8192 by 2048 product over 6272, formed in 8 by 2 tiles of 1024 by 1024
   and 7 steps of 896 along the contracted axis. -/
module

public import proofs.«01_k».proof.Defs
public import proofs.«01_k».proof.Proof.Gen.HybInDh
public import proofs.«01_k».proof.Proof.Gen.HybInDh.Frame
public import proofs.«01_k».proof.Proof.Gen.HybInDhIdeal.Value
public import proofs.«01_k».proof.Proof.Gen.HybInDhRefIdeal.Run
public import proofs.«01_k».proof.Proof.Prod.Tiled
public import Idealize.ShloMosaic.Lib.StableHlo.Run
public import proofs.«01_k».proof.Proof.Prod.Columns

@[expose] public section

set_option maxRecDepth 16384

noncomputable section

namespace Cert.HybInDhRun

open Cert.HybInDhIdeal Cert.HybInDhIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x896 .bf16) (b : FVec Ideal S896x1024 .bf16) (r : Fin 1024) (d : Fin 1024) :
    k0_pay2 acc a b (ix2 r d) = (acc (ix2 r d) + ∑ k : Fin 896, a (ix2 r k) * b (ix2 k d) : EReal) := by
  pointwise [k0_pay2]

section Body
variable (c : Dev nD) (i : grid0.Coords)
  (aa : Memref sig .tc .vmem S1024x896 .bf16) (ha : aa.IsWhole)
  (ab : Memref sig .tc .vmem S896x1024 .bf16) (hb : ab.IsWhole)
  (ao : Memref sig .tc .vmem S1024x1024 .f32) (ho : ao.IsWhole)
  (aacc : Memref sig .tc .vmem S1024x1024 .f32) (hs : aacc.IsWhole)
  (a : FVec Ideal S1024x896 .bf16) (b : FVec Ideal S896x1024 .bf16) (acc : FVec Ideal S1024x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x1024) hz, View.readCov_unit_zero (S := S1024x1024) _ hz]
  simp only [View.readAt_eq_ld, ha.read_unread, hb.read_unread,
    View.ld_unit_zero (S := S1024x896) hz, View.ld_unit_zero (S := S896x1024) hz, View.ld_unit_zero (S := S1024x1024) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x1024) hz]
  simp only [View.readAt_eq_ld, ha.read_unread, hb.read_unread, hs.read_unread,
    View.ld_unit_zero (S := S1024x896) hz, View.ld_unit_zero (S := S896x1024) hz, View.ld_unit_zero (S := S1024x1024) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S1024x1024) hz]
  simp only [View.readAt_eq_ld, ha.read_unread, hb.read_unread, hs.read_unread,
    View.ld_unit_zero (S := S1024x896) hz, View.ld_unit_zero (S := S896x1024) hz, View.ld_unit_zero (S := S1024x1024) hz, shapeCast_self]

theorem out_C (hc0 : ¬cond0_0 i) (hc1 : cond0_1 i) :
    out0_C_2 (F := Ideal) c i aa ha ab hb ao ho aacc hs hc0 hc1 a b acc = k0_pay2 (F := Ideal) acc a b := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S1024x1024) hz, View.readCov_unit_zero (S := S1024x1024) _ hz]
  simp only [View.readAt_eq_ld, ha.read_unread, hb.read_unread, hs.read_unread,
    View.ld_unit_zero (S := S1024x896) hz, View.ld_unit_zero (S := S896x1024) hz, View.ld_unit_zero (S := S1024x1024) hz, shapeCast_self]

end Body

variable (m : (ℓ : Loc nD τ sig) → Buf (Elt Ideal) ℓ) (c : Dev nD)

/-- The arguments, and the two factors they make. -/
abbrev arg0 : FVec Ideal S8192x6272 .bf16 := m ((c : Thread nD τ).loc main_arg0)
abbrev arg1 : FVec Ideal S2048x6160 .f32 := m ((c : Thread nD τ).loc main_arg1)
def A (i : Fin 8192) (k : Fin 6272) : EReal := arg0 m c (ix2 i k)
def B (k : Fin 6272) (n : Fin 2048) : EReal := padded (fun i j => arg1 m c (ix2 i j)) k n

/-- The second factor as the host prepares it. -/
theorem V_b (k : Fin 6272) (n : Fin 2048) : (V m c main_v6 : FVec Ideal S6272x2048 .bf16) (ix2 k n) = B m c k n := by
  have e : V m c main_v6 = concatenate S6272x2048 0 [⟨S4096x2048, ((extractStridedSlice S4096x2048 ![0, 0] (truncf .bf16 (transpose S6160x2048 [1, 0] (arg1 m c) transposes_S2048x6160_S6160x2048_1_0) bitsLt_bf16_f32) slices_S6160x2048_S4096x2048_0_0) : (⟨S4096x2048, .bf16⟩ : BufTy).Contents (Elt Ideal))⟩, ⟨S2048x2048, ((extractStridedSlice S2048x2048 ![4112, 0] (truncf .bf16 (transpose S6160x2048 [1, 0] (arg1 m c) transposes_S2048x6160_S6160x2048_1_0) bitsLt_bf16_f32) slices_S6160x2048_S2048x2048_4112_0) : (⟨S2048x2048, .bf16⟩ : BufTy).Contents (Elt Ideal))⟩, ⟨S16x2048, ((extractStridedSlice S16x2048 ![4096, 0] (truncf .bf16 (transpose S6160x2048 [1, 0] (arg1 m c) transposes_S2048x6160_S6160x2048_1_0) bitsLt_bf16_f32) slices_S6160x2048_S16x2048_4096_0) : (⟨S16x2048, .bf16⟩ : BufTy).Contents (Elt Ideal))⟩,
      ⟨S112x2048, ((broadcastInDim S112x2048 ![] bcast_S_S112x2048 (constant (F := Ideal) S_ .bf16 0x0000#16)) : (⟨S112x2048, .bf16⟩ : BufTy).Contents (Elt Ideal))⟩] concatenates_S4096x2048_S2048x2048_S16x2048_S112x2048_S6272x2048_d0 := by
    show StableHlo.after hostOps0 _ _ = _
    unfold hostOps0
    after_results
    rfl
  rw [e]
  unfold B padded
  pointwise

theorem idx : ∀ t : Fin cfg0.N, t.val / 14 < 8 ∧ win0_0.index t = ![t.val / 14, t.val % 7]
    ∧ win0_1.index t = ![t.val % 7, t.val / 7 % 2] ∧ win0_2.index t = ![t.val / 14, t.val / 7 % 2] :=
  (by decide +kernel : ∀ t : Fin grid0.N, _)

/-- The rows, the columns and the contracted entries a step uses. -/
def ra (t : Fin cfg0.N) (r : Fin 1024) : Fin 8192 := ⟨1024 * (t.val / 14) + r.val, by have := (idx t).1; have := r.isLt; omega⟩
def cb (t : Fin cfg0.N) (d : Fin 1024) : Fin 2048 := ⟨1024 * (t.val / 7 % 2) + d.val, by have := d.isLt; omega⟩
def kk (t : Fin cfg0.N) (k : Fin 896) : Fin 6272 := ⟨896 * (t.val % 7) + k.val, by have := k.isLt; omega⟩

theorem a_apply (t : Fin cfg0.N) (r : Fin 1024) (k : Fin 896) : (iblk m c 0 t : FVec Ideal S1024x896 .bf16) (ix2 r k) = A m c (ra t r) (kk t k) := by
  unfold A arg0 ra kk; rw [← V_main_arg0 m c]; blk_ext [iblk, idx t]

theorem b_apply (t : Fin cfg0.N) (k : Fin 896) (d : Fin 1024) : (iblk m c 1 t : FVec Ideal S896x1024 .bf16) (ix2 k d) = B m c (kk t k) (cb t d) := by
  rw [← V_b]; unfold kk cb; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 896, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 7 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 7 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 7 = 6
  · rw [outsAt0_C m c t h0 h1]; dsimp only; rw [sout_C]
  · rw [outsAt0_B m c t h0 h1]; dsimp only; rw [sout_B]

theorem last (t : Fin cfg0.N) (h1 : t.val % 7 = 6) : (outsAt0 m c t.val t.isLt).1 = (outsAt0 m c t.val t.isLt).2 := by
  rw [outsAt0_C m c t (by omega) h1]; dsimp only; rw [sout_C, out_C]

/-- What the call computes. -/
def res : FVec Ideal S8192x2048 .f32 := fun i => (∑ k : Fin 6272, A m c (i 0) k * B m c k (i 1) : EReal)

theorem total (t : Fin cfg0.N) (h : t.val % 7 = 6) (r : Fin 1024) (d : Fin 1024) :
    (outsAt0 m c t.val t.isLt).2 (ix2 r d) = (∑ k : Fin 6272, A m c (ra t r) k * B m c k (cb t d) : EReal) :=
  product_at (nk := 7) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_HybInDh := fun m ρ _ => Cert.HybInDh.Gen.frame m ρ
theorem frame_pi : Cert.quiescent_HybInDhIdeal := fun m ρ _ => Cert.HybInDhIdeal.Gen.frame m ρ
theorem frame_ri : Cert.quiescent_HybInDhRefIdeal := fun m ρ _ => (θ_run Cert.HybInDhRefIdeal.defs _ _).mono
  (fun r h => ⟨fun c => (h c).2, sem_eq_zero_of_no_sems (by decide) r.2⟩) (Cert.HybInDhRefIdeal.Value.run (F := Ideal) m ρ)

/-- The call and the reference end with the same array. -/
theorem algebraic : Cert.algebraic_HybInDhIdeal_HybInDhRefIdeal := by
  intro m ρ m' ρ' _ hag
  refine ⟨fun c => res m c, ?_, ?_⟩
  · exact (θ_run Cert.HybInDhIdeal.defs _ _).mono (fun r h c => ⟨(h c).1.trans (final m c), (h c).2⟩) (Cert.HybInDhIdeal.Value.run_blocks (F := Ideal) m ρ)
  · refine (θ_run Cert.HybInDhRefIdeal.defs _ _).mono (fun r h c => ⟨(h c).1.trans ?_, (h c).2⟩) (Cert.HybInDhRefIdeal.Value.run (F := Ideal) m' ρ')
    obtain ⟨h0, h1⟩ := hag c
    rw [h0, h1]
    funext i
    obtain ⟨r, d, rfl⟩ := pair (n := 8192) (m := 2048) i
    refine Eq.trans (b := (∑ n : Fin 6160, unpadded (fun n => arg0 m c (ix2 r n)) n * arg1 m c (ix2 d n) : EReal)) (by unfold unpadded; pointwise) ?_
    exact (padded_sum (fun i j => arg1 m c (ix2 i j)) (fun n => arg0 m c (ix2 r n)) d).symm

end Cert.HybInDhRun

end
-- ==== Proof.Prod.HybInDw.lean ====
/- The gradient of the input projection of the hybrid layer into its weight: the 6272 by 2048 product over 8192, formed in 7 by 2 tiles of 896 by 1024
   and 8 steps of 1024 along the contracted axis. -/
module

public import proofs.«01_k».proof.Defs
public import proofs.«01_k».proof.Proof.Gen.HybInDw
public import proofs.«01_k».proof.Proof.Gen.HybInDw.Frame
public import proofs.«01_k».proof.Proof.Gen.HybInDwIdeal.Value
public import proofs.«01_k».proof.Proof.Gen.HybInDwRefIdeal.Run
public import proofs.«01_k».proof.Proof.Prod.Tiled
public import Idealize.ShloMosaic.Lib.StableHlo.Run

@[expose] public section

set_option maxRecDepth 16384

noncomputable section

namespace Cert.HybInDwRun

open Cert.HybInDwIdeal Cert.HybInDwIdeal.Gen Cert.Prod
open Idealize.ShloMosaic Idealize.ShloMosaic.TcCoe Idealize.SL.Sem
open Idealize.ShloMosaic.Pipeline (Dat)

/-- One step: the product of two tiles is added. -/
theorem pay_apply (acc : FVec Ideal S896x1024 .f32) (a : FVec Ideal S1024x896 .bf16) (b : FVec Ideal S1024x1024 .bf16) (r : Fin 896) (d : Fin 1024) :
    k0_pay2 acc a b (ix2 r d) = (acc (ix2 r d) + ∑ k : Fin 1024, a (ix2 k r) * b (ix2 k d) : EReal) := by
  pointwise [k0_pay2]

section Body
variable (c : Dev nD) (i : grid0.Coords)
  (aa : Memref sig .tc .vmem S1024x896 .bf16) (ha : aa.IsWhole)
  (ab : Memref sig .tc .vmem S1024x1024 .bf16) (hb : ab.IsWhole)
  (ao : Memref sig .tc .vmem S896x1024 .bf16) (ho : ao.IsWhole)
  (aacc : Memref sig .tc .vmem S896x1024 .f32) (hs : aacc.IsWhole)
  (a : FVec Ideal S1024x896 .bf16) (b : FVec Ideal S1024x1024 .bf16) (acc : FVec Ideal S896x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S896x1024) hz, View.readCov_unit_zero (S := S896x1024) _ hz]
  simp only [View.readAt_eq_ld, ha.read_unread, hb.read_unread,
    View.ld_unit_zero (S := S1024x896) hz, View.ld_unit_zero (S := S1024x1024) hz, View.ld_unit_zero (S := S896x1024) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S896x1024) hz]
  simp only [View.readAt_eq_ld, ha.read_unread, hb.read_unread, hs.read_unread,
    View.ld_unit_zero (S := S1024x896) hz, View.ld_unit_zero (S := S1024x1024) hz, View.ld_unit_zero (S := S896x1024) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S896x1024) hz]
  simp only [View.readAt_eq_ld, ha.read_unread, hb.read_unread, hs.read_unread,
    View.ld_unit_zero (S := S1024x896) hz, View.ld_unit_zero (S := S1024x1024) hz, View.ld_unit_zero (S := S896x1024) hz, shapeCast_self]

theorem out_C (hc0 : ¬cond0_0 i) (hc1 : cond0_1 i) :
    out0_C_2 (F := Ideal) c i aa ha ab hb ao ho aacc hs hc0 hc1 a b acc = k0_pay3 (F := Ideal) (k0_pay2 (F := Ideal) acc a b) := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S896x1024) hz, View.readCov_unit_zero (S := S896x1024) _ hz]
  simp only [View.readAt_eq_ld, ha.read_unread, hb.read_unread, hs.read_unread,
    View.ld_unit_zero (S := S1024x896) hz, View.ld_unit_zero (S := S1024x1024) hz, View.ld_unit_zero (S := S896x1024) hz, shapeCast_self]

end Body

variable (m : (ℓ : Loc nD τ sig) → Buf (Elt Ideal) ℓ) (c : Dev nD)

/-- The arguments, and the two factors they make. -/
abbrev arg0 : FVec Ideal S8192x6272 .bf16 := m ((c : Thread nD τ).loc main_arg0)
abbrev arg1 : FVec Ideal S8192x2048 .bf16 := m ((c : Thread nD τ).loc main_arg1)
def A (i : Fin 6272) (k : Fin 8192) : EReal := arg0 m c (ix2 k i)
def B (k : Fin 8192) (n : Fin 2048) : EReal := arg1 m c (ix2 k n)

theorem idx : ∀ t : Fin cfg0.N, t.val / 16 < 7 ∧ win0_0.index t = ![t.val % 8, t.val / 16]
    ∧ win0_1.index t = ![t.val % 8, t.val / 8 % 2] ∧ win0_2.index t = ![t.val / 16, t.val / 8 % 2] :=
  (by decide +kernel : ∀ t : Fin grid0.N, _)

/-- The rows, the columns and the contracted entries a step uses. -/
def ra (t : Fin cfg0.N) (r : Fin 896) : Fin 6272 := ⟨896 * (t.val / 16) + r.val, by have := (idx t).1; have := r.isLt; omega⟩
def cb (t : Fin cfg0.N) (d : Fin 1024) : Fin 2048 := ⟨1024 * (t.val / 8 % 2) + d.val, by have := d.isLt; omega⟩
def kk (t : Fin cfg0.N) (k : Fin 1024) : Fin 8192 := ⟨1024 * (t.val % 8) + k.val, by have := k.isLt; omega⟩

theorem a_apply (t : Fin cfg0.N) (r : Fin 896) (k : Fin 1024) : (iblk m c 0 t : FVec Ideal S1024x896 .bf16) (ix2 k r) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .bf16) (ix2 k d) = B m c (kk t k) (cb t d) := by
  unfold B arg1 kk cb; rw [← V_main_arg1 m c]; blk_ext [iblk, idx t]

theorem pay_at (acc : FVec Ideal S896x1024 .f32) (t : Fin cfg0.N) (r : Fin 896) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 8 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 8 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]; dsimp only; rw [sout_C]
  · rw [outsAt0_B m c t h0 h1]; dsimp only; rw [sout_B]

theorem last (t : Fin cfg0.N) (h1 : t.val % 8 = 7) : (outsAt0 m c t.val t.isLt).1 = k0_pay3 (F := Ideal) ((outsAt0 m c t.val t.isLt).2) := by
  rw [outsAt0_C m c t (by omega) h1]; dsimp only; rw [sout_C, out_C]

/-- What the call computes. -/
def res : FVec Ideal S6272x2048 .bf16 := fun i => (∑ k : Fin 8192, A m c (i 0) k * B m c k (i 1) : EReal)

theorem total (t : Fin cfg0.N) (h : t.val % 8 = 7) (r : Fin 896) (d : Fin 1024) :
    (outsAt0 m c t.val t.isLt).2 (ix2 r d) = (∑ k : Fin 8192, A m c (ra t r) k * B m c k (cb t d) : EReal) :=
  product_at (nk := 8) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h]
  refine Eq.trans (b := (outsAt0 m c t.val t.isLt).2 (ix2 r d)) rfl ?_
  rw [total m c t h]
  rfl

theorem frame_p : Cert.quiescent_HybInDw := fun m ρ _ => Cert.HybInDw.Gen.frame m ρ
theorem frame_pi : Cert.quiescent_HybInDwIdeal := fun m ρ _ => Cert.HybInDwIdeal.Gen.frame m ρ
theorem frame_ri : Cert.quiescent_HybInDwRefIdeal := fun m ρ _ => (θ_run Cert.HybInDwRefIdeal.defs _ _).mono
  (fun r h => ⟨fun c => (h c).2, sem_eq_zero_of_no_sems (by decide) r.2⟩) (Cert.HybInDwRefIdeal.Value.run (F := Ideal) m ρ)

/-- The call and the reference end with the same array. -/
theorem algebraic : Cert.algebraic_HybInDwIdeal_HybInDwRefIdeal := by
  intro m ρ m' ρ' _ hag
  refine ⟨fun c => res m c, ?_, ?_⟩
  · exact (θ_run Cert.HybInDwIdeal.defs _ _).mono (fun r h c => ⟨(h c).1.trans (final m c), (h c).2⟩) (Cert.HybInDwIdeal.Value.run_blocks (F := Ideal) m ρ)
  · refine (θ_run Cert.HybInDwRefIdeal.defs _ _).mono (fun r h c => ⟨(h c).1.trans ?_, (h c).2⟩) (Cert.HybInDwRefIdeal.Value.run (F := Ideal) m' ρ')
    obtain ⟨h0, h1⟩ := hag c
    rw [h0, h1]
    funext i
    obtain ⟨r, d, rfl⟩ := pair (n := 6272) (m := 2048) i
    refine Eq.trans (b := (∑ k : Fin 8192, arg0 m c (ix2 k r) * arg1 m c (ix2 k d) : EReal)) (by pointwise) ?_
    rfl

end Cert.HybInDwRun

end
-- ==== Proof.Prod.SwaIn.lean ====
/- The input projection of the windowed attention: the 8192 by 3072 product over 2048, formed in 8 by 3 tiles of 1024 by 1024
   and 2 steps of 1024 along the contracted axis. -/
module

public import proofs.«01_k».proof.Defs
public import proofs.«01_k».proof.Proof.Gen.SwaIn
public import proofs.«01_k».proof.Proof.Gen.SwaIn.Frame
public import proofs.«01_k».proof.Proof.Gen.SwaInIdeal.Value
public import proofs.«01_k».proof.Proof.Gen.SwaInRefIdeal.Run
public import proofs.«01_k».proof.Proof.Prod.Tiled
public import Idealize.ShloMosaic.Lib.StableHlo.Run

@[expose] public section

set_option maxRecDepth 16384

noncomputable section

namespace Cert.SwaInRun

open Cert.SwaInIdeal Cert.SwaInIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x1024 .bf16) (b : FVec Ideal S1024x1024 .bf16) (r : Fin 1024) (d : Fin 1024) :
    k0_pay2 acc a b (ix2 r d) = (acc (ix2 r d) + ∑ k : Fin 1024, a (ix2 r k) * b (ix2 d k) : EReal) := by
  pointwise [k0_pay2]

section Body
variable (c : Dev nD) (i : grid0.Coords)
  (aa : Memref sig .tc .vmem S1024x1024 .bf16) (ha : aa.IsWhole)
  (ab : Memref sig .tc .vmem S1024x1024 .bf16) (hb : ab.IsWhole)
  (ao : Memref sig .tc .vmem S1024x1024 .f32) (ho : ao.IsWhole)
  (aacc : Memref sig .tc .vmem S1024x1024 .f32) (hs : aacc.IsWhole)
  (a : FVec Ideal S1024x1024 .bf16) (b : FVec Ideal S1024x1024 .bf16) (acc : FVec Ideal S1024x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x1024) hz, View.readCov_unit_zero (S := S1024x1024) _ hz]
  simp only [View.readAt_eq_ld, ha.read_unread, hb.read_unread,
    View.ld_unit_zero (S := S1024x1024) hz, shapeCast_self]

theorem sout_B (hc0 : ¬cond0_0 i) (hc1 : cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x1024) hz]
  simp only [View.readAt_eq_ld, ha.read_unread, hb.read_unread, hs.read_unread,
    View.ld_unit_zero (S := S1024x1024) hz, shapeCast_self]

theorem out_B (hc0 : ¬cond0_0 i) (hc1 : cond0_1 i) :
    out0_B_2 (F := Ideal) c i aa ha ab hb ao ho aacc hs hc0 hc1 a b acc = k0_pay2 (F := Ideal) acc a b := by
  unfold out0_B_2
  rw [View.read_writes_eq_canon _ _ _ (cover0_B_2 (F := Ideal) c i aa ha ab hb ao ho aacc hs hc0 hc1 a b acc)]
  unfold kernelRun0_B
  dsimp only
  sl_unfold_words
  rw [View.canon_unit_zero (S := S1024x1024) hz, View.readCov_unit_zero (S := S1024x1024) _ hz]
  simp only [View.readAt_eq_ld, ha.read_unread, hb.read_unread, hs.read_unread,
    View.ld_unit_zero (S := S1024x1024) hz, shapeCast_self]

end Body

variable (m : (ℓ : Loc nD τ sig) → Buf (Elt Ideal) ℓ) (c : Dev nD)

/-- The arguments, and the two factors they make. -/
abbrev arg0 : FVec Ideal S8192x2048 .bf16 := m ((c : Thread nD τ).loc main_arg0)
abbrev arg1 : FVec Ideal S2048x3072 .f32 := m ((c : Thread nD τ).loc main_arg1)
def A (i : Fin 8192) (k : Fin 2048) : EReal := arg0 m c (ix2 i k)
def B (k : Fin 2048) (n : Fin 3072) : EReal := arg1 m c (ix2 k n)

/-- The second factor as the host prepares it. -/
theorem V_b (k : Fin 2048) (n : Fin 3072) : (V m c main_v1 : FVec Ideal S3072x2048 .bf16) (ix2 n k) = B m c k n := by
  have e : V m c main_v1 = truncf .bf16 (transpose S3072x2048 [1, 0] (arg1 m c) transposes_S2048x3072_S3072x2048_1_0) bitsLt_bf16_f32 := by
    show StableHlo.after hostOps0 _ _ = _
    unfold hostOps0
    after_results
  rw [e]
  unfold B
  pointwise

theorem idx : ∀ t : Fin cfg0.N, t.val / 6 < 8 ∧ win0_0.index t = ![t.val / 6, t.val % 2]
    ∧ win0_1.index t = ![t.val / 2 % 3, t.val % 2] ∧ win0_2.index t = ![t.val / 6, t.val / 2 % 3] :=
  (by decide +kernel : ∀ t : Fin grid0.N, _)

/-- The rows, the columns and the contracted entries a step uses. -/
def ra (t : Fin cfg0.N) (r : Fin 1024) : Fin 8192 := ⟨1024 * (t.val / 6) + r.val, by have := (idx t).1; have := r.isLt; omega⟩
def cb (t : Fin cfg0.N) (d : Fin 1024) : Fin 3072 := ⟨1024 * (t.val / 2 % 3) + d.val, by have := d.isLt; omega⟩
def kk (t : Fin cfg0.N) (k : Fin 1024) : Fin 2048 := ⟨1024 * (t.val % 2) + k.val, by have := k.isLt; omega⟩

theorem a_apply (t : Fin cfg0.N) (r : Fin 1024) (k : Fin 1024) : (iblk m c 0 t : FVec Ideal S1024x1024 .bf16) (ix2 r k) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .bf16) (ix2 d k) = B m c (kk t k) (cb t d) := by
  rw [← V_b]; unfold kk cb; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 2 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]; dsimp only; rw [sout_B]

theorem last (t : Fin cfg0.N) (h1 : t.val % 2 = 1) : (outsAt0 m c t.val t.isLt).1 = (outsAt0 m c t.val t.isLt).2 := by
  rw [outsAt0_B m c t (by omega) h1]; dsimp only; rw [sout_B, out_B]

/-- What the call computes. -/
def res : FVec Ideal S8192x3072 .f32 := fun i => (∑ k : Fin 2048, A m c (i 0) k * B m c k (i 1) : EReal)

theorem total (t : Fin cfg0.N) (h : t.val % 2 = 1) (r : Fin 1024) (d : Fin 1024) :
    (outsAt0 m c t.val t.isLt).2 (ix2 r d) = (∑ k : Fin 2048, A m c (ra t r) k * B m c k (cb t d) : EReal) :=
  product_at (nk := 2) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_SwaIn := fun m ρ _ => Cert.SwaIn.Gen.frame m ρ
theorem frame_pi : Cert.quiescent_SwaInIdeal := fun m ρ _ => Cert.SwaInIdeal.Gen.frame m ρ
theorem frame_ri : Cert.quiescent_SwaInRefIdeal := fun m ρ _ => (θ_run Cert.SwaInRefIdeal.defs _ _).mono
  (fun r h => ⟨fun c => (h c).2, sem_eq_zero_of_no_sems (by decide) r.2⟩) (Cert.SwaInRefIdeal.Value.run (F := Ideal) m ρ)

/-- The call and the reference end with the same array. -/
theorem algebraic : Cert.algebraic_SwaInIdeal_SwaInRefIdeal := by
  intro m ρ m' ρ' _ hag
  refine ⟨fun c => res m c, ?_, ?_⟩
  · exact (θ_run Cert.SwaInIdeal.defs _ _).mono (fun r h c => ⟨(h c).1.trans (final m c), (h c).2⟩) (Cert.SwaInIdeal.Value.run_blocks (F := Ideal) m ρ)
  · refine (θ_run Cert.SwaInRefIdeal.defs _ _).mono (fun r h c => ⟨(h c).1.trans ?_, (h c).2⟩) (Cert.SwaInRefIdeal.Value.run (F := Ideal) m' ρ')
    obtain ⟨h0, h1⟩ := hag c
    rw [h0, h1]
    funext i
    obtain ⟨r, d, rfl⟩ := pair (n := 8192) (m := 3072) i
    refine Eq.trans (b := (∑ k : Fin 2048, arg0 m c (ix2 r k) * arg1 m c (ix2 k d) : EReal)) (by pointwise) ?_
    rfl

end Cert.SwaInRun

end
-- ==== Proof.Prod.SwaOut.lean ====
/- The output projection of the windowed attention, with the residual: the 8192 by 2048 product over 2048, formed in 8 by 2 tiles of 1024 by 1024
   and 2 steps of 1024 along the contracted axis. -/
module

public import proofs.«01_k».proof.Defs
public import proofs.«01_k».proof.Proof.Gen.SwaOut
public import proofs.«01_k».proof.Proof.Gen.SwaOut.Frame
public import proofs.«01_k».proof.Proof.Gen.SwaOutIdeal.Value
public import proofs.«01_k».proof.Proof.Gen.SwaOutRefIdeal.Run
public import proofs.«01_k».proof.Proof.Prod.Tiled
public import Idealize.ShloMosaic.Lib.StableHlo.Run

@[expose] public section

set_option maxRecDepth 16384

noncomputable section

namespace Cert.SwaOutRun

open Cert.SwaOutIdeal Cert.SwaOutIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x1024 .bf16) (b : FVec Ideal S1024x1024 .bf16) (r : Fin 1024) (d : Fin 1024) :
    k0_pay2 acc a b (ix2 r d) = (acc (ix2 r d) + ∑ k : Fin 1024, a (ix2 r k) * b (ix2 k d) : EReal) := by
  pointwise [k0_pay2]

section Body
variable (c : Dev nD) (i : grid0.Coords)
  (aa : Memref sig .tc .vmem S1024x1024 .bf16) (ha : aa.IsWhole)
  (ab : Memref sig .tc .vmem S1024x1024 .bf16) (hb : ab.IsWhole)
  (ar : Memref sig .tc .vmem S1024x1024 .f32) (hr : ar.IsWhole)
  (ao : Memref sig .tc .vmem S1024x1024 .f32) (ho : ao.IsWhole)
  (aacc : Memref sig .tc .vmem S1024x1024 .f32) (hs : aacc.IsWhole)
  (a : FVec Ideal S1024x1024 .bf16) (b : FVec Ideal S1024x1024 .bf16) (x : FVec Ideal S1024x1024 .f32) (acc : FVec Ideal S1024x1024 .f32)

theorem sout_A (hc0 : cond0_0 i) (hc1 : ¬cond0_1 i) :
    sout0_A_0 (F := Ideal) c i aa ha ab hb ar hr ao ho aacc hs hc0 hc1 a b x  = k0_pay2 (F := Ideal) (k0_pay1 (F := Ideal)) a b := by
  unfold sout0_A_0
  rw [View.read_writes_eq_canon _ _ _ (scover0_A_0 (F := Ideal) c i aa ha ab hb ar hr ao ho aacc hs hc0 hc1 a b x )]
  unfold kernelRun0_A
  dsimp only
  sl_unfold_words
  rw [View.canon_cons_unit_zero (S := S1024x1024) hz, View.readCov_unit_zero (S := S1024x1024) _ hz]
  simp only [View.readAt_eq_ld, ha.read_unread, hb.read_unread, hr.read_unread,
    View.ld_unit_zero (S := S1024x1024) hz, shapeCast_self]

theorem sout_B (hc0 : ¬cond0_0 i) (hc1 : cond0_1 i) :
    sout0_B_0 (F := Ideal) c i aa ha ab hb ar hr ao ho aacc hs hc0 hc1 a b x acc = k0_pay2 (F := Ideal) acc a b := by
  unfold sout0_B_0
  rw [View.read_writes_eq_canon _ _ _ (scover0_B_0 (F := Ideal) c i aa ha ab hb ar hr ao ho aacc hs hc0 hc1 a b x acc)]
  unfold kernelRun0_B
  dsimp only
  sl_unfold_words
  rw [View.canon_unit_zero (S := S1024x1024) hz]
  simp only [View.readAt_eq_ld, ha.read_unread, hb.read_unread, hr.read_unread, hs.read_unread,
    View.ld_unit_zero (S := S1024x1024) hz, shapeCast_self]

theorem out_B (hc0 : ¬cond0_0 i) (hc1 : cond0_1 i) :
    out0_B_3 (F := Ideal) c i aa ha ab hb ar hr ao ho aacc hs hc0 hc1 a b x acc = k0_pay3 (F := Ideal) (k0_pay2 (F := Ideal) acc a b) x := by
  unfold out0_B_3
  rw [View.read_writes_eq_canon _ _ _ (cover0_B_3 (F := Ideal) c i aa ha ab hb ar hr ao ho aacc hs hc0 hc1 a b x acc)]
  unfold kernelRun0_B
  dsimp only
  sl_unfold_words
  rw [View.canon_unit_zero (S := S1024x1024) hz, View.readCov_unit_zero (S := S1024x1024) _ hz]
  simp only [View.readAt_eq_ld, ha.read_unread, hb.read_unread, hr.read_unread, hs.read_unread,
    View.ld_unit_zero (S := S1024x1024) hz, shapeCast_self]

end Body

variable (m : (ℓ : Loc nD τ sig) → Buf (Elt Ideal) ℓ) (c : Dev nD)

/-- The arguments, and the two factors they make. -/
abbrev arg0 : FVec Ideal S8192x2048 .bf16 := m ((c : Thread nD τ).loc main_arg0)
abbrev arg1 : FVec Ideal S2048x2048 .f32 := m ((c : Thread nD τ).loc main_arg1)
abbrev arg2 : FVec Ideal S8192x2048 .f32 := m ((c : Thread nD τ).loc main_arg2)
def A (i : Fin 8192) (k : Fin 2048) : EReal := arg0 m c (ix2 i k)
def B (k : Fin 2048) (n : Fin 2048) : EReal := arg1 m c (ix2 k n)

/-- The second factor as the host prepares it. -/
theorem V_b (k : Fin 2048) (n : Fin 2048) : (V m c main_v0 : FVec Ideal S2048x2048 .bf16) (ix2 k n) = B m c k n := by
  have e : V m c main_v0 = truncf .bf16 (arg1 m c) bitsLt_bf16_f32 := by
    show StableHlo.after hostOps0 _ _ = _
    unfold hostOps0
    after_results
  rw [e]
  unfold B
  pointwise

theorem idx : ∀ t : Fin cfg0.N, t.val / 4 < 8 ∧ win0_0.index t = ![t.val / 4, t.val % 2]
    ∧ win0_1.index t = ![t.val % 2, t.val / 2 % 2] ∧ win0_2.index t = ![t.val / 4, t.val / 2 % 2] ∧ win0_3.index t = ![t.val / 4, t.val / 2 % 2] :=
  (by decide +kernel : ∀ t : Fin grid0.N, _)

/-- The rows, the columns and the contracted entries a step uses. -/
def ra (t : Fin cfg0.N) (r : Fin 1024) : Fin 8192 := ⟨1024 * (t.val / 4) + r.val, by have := (idx t).1; have := r.isLt; omega⟩
def cb (t : Fin cfg0.N) (d : Fin 1024) : Fin 2048 := ⟨1024 * (t.val / 2 % 2) + d.val, by have := d.isLt; omega⟩
def kk (t : Fin cfg0.N) (k : Fin 1024) : Fin 2048 := ⟨1024 * (t.val % 2) + k.val, by have := k.isLt; omega⟩

theorem a_apply (t : Fin cfg0.N) (r : Fin 1024) (k : Fin 1024) : (iblk m c 0 t : FVec Ideal S1024x1024 .bf16) (ix2 r k) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .bf16) (ix2 k d) = B m c (kk t k) (cb t d) := by
  rw [← V_b]; unfold kk cb; blk_ext [iblk, idx t]

theorem x_apply (t : Fin cfg0.N) (r : Fin 1024) (d : Fin 1024) : (iblk m c 2 t : FVec Ideal S1024x1024 .f32) (ix2 r d) = arg2 m c (ix2 (ra t r) (cb t d)) := by
  unfold arg2 ra cb; rw [← V_main_arg2 m c]; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 2 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]; dsimp only; rw [sout_B]

theorem last (t : Fin cfg0.N) (h1 : t.val % 2 = 1) : (outsAt0 m c t.val t.isLt).1 = k0_pay3 (F := Ideal) ((outsAt0 m c t.val t.isLt).2) (iblk m c 2 t) := by
  rw [outsAt0_B m c t (by omega) h1]; dsimp only; rw [sout_B, out_B]

/-- What the call computes. -/
def res : FVec Ideal S8192x2048 .f32 := fun i => (arg2 m c i + ∑ k : Fin 2048, A m c (i 0) k * B m c k (i 1) : EReal)

theorem total (t : Fin cfg0.N) (h : t.val % 2 = 1) (r : Fin 1024) (d : Fin 1024) :
    (outsAt0 m c t.val t.isLt).2 (ix2 r d) = (∑ k : Fin 2048, A m c (ra t r) k * B m c k (cb t d) : EReal) :=
  product_at (nk := 2) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 3 cfg0.N = res m c := by
  refine (dats m 0 c).arrAt_eq_of_covers 3 _ (by decide +kernel) fun t hf y => ?_
  blk_simp
  rw [after0_3]
  obtain ⟨r, d, rfl⟩ := pair y
  have h := (flush0_3 t).mp hf
  have e : (win0_3.blk t).view.emb (ix2 r d) = ix2 (ra t r) (cb t d) := by unfold ra cb; blk_ext [idx t]
  rw [e]
  rw [last m c t h]
  have e : k0_pay3 (F := Ideal) (outsAt0 m c t.val t.isLt).2 (iblk m c 2 t) (ix2 r d) = ((outsAt0 m c t.val t.isLt).2 (ix2 r d) + arg2 m c (ix2 (ra t r) (cb t d)) : EReal) := by rw [← x_apply]; rfl
  rw [e, total m c t h]
  exact add_comm (G := EReal) _ _

theorem frame_p : Cert.quiescent_SwaOut := fun m ρ _ => Cert.SwaOut.Gen.frame m ρ
theorem frame_pi : Cert.quiescent_SwaOutIdeal := fun m ρ _ => Cert.SwaOutIdeal.Gen.frame m ρ
theorem frame_ri : Cert.quiescent_SwaOutRefIdeal := fun m ρ _ => (θ_run Cert.SwaOutRefIdeal.defs _ _).mono
  (fun r h => ⟨fun c => (h c).2, sem_eq_zero_of_no_sems (by decide) r.2⟩) (Cert.SwaOutRefIdeal.Value.run (F := Ideal) m ρ)

/-- The call and the reference end with the same array. -/
theorem algebraic : Cert.algebraic_SwaOutIdeal_SwaOutRefIdeal := by
  intro m ρ m' ρ' _ hag
  refine ⟨fun c => res m c, ?_, ?_⟩
  · exact (θ_run Cert.SwaOutIdeal.defs _ _).mono (fun r h c => ⟨(h c).1.trans (final m c), (h c).2⟩) (Cert.SwaOutIdeal.Value.run_blocks (F := Ideal) m ρ)
  · refine (θ_run Cert.SwaOutRefIdeal.defs _ _).mono (fun r h c => ⟨(h c).1.trans ?_, (h c).2⟩) (Cert.SwaOutRefIdeal.Value.run (F := Ideal) m' ρ')
    obtain ⟨h0, h1, h2⟩ := hag c
    rw [h0, h1, h2]
    funext i
    obtain ⟨r, d, rfl⟩ := pair (n := 8192) (m := 2048) i
    refine Eq.trans (b := (arg2 m c (ix2 r d) + ∑ k : Fin 2048, arg0 m c (ix2 r k) * arg1 m c (ix2 k d) : EReal)) (by pointwise) ?_
    rfl

end Cert.SwaOutRun

end
-- ==== Proof.Prod.SwaOutDw.lean ====
/- The gradient of the output projection of the windowed attention into its weight: the 2048 by 2048 product over 8192, formed in 2 by 2 tiles of 1024 by 1024
   and 8 steps of 1024 along the contracted axis. -/
module

public import proofs.«01_k».proof.Defs
public import proofs.«01_k».proof.Proof.Gen.SwaOutDw
public import proofs.«01_k».proof.Proof.Gen.SwaOutDw.Frame
public import proofs.«01_k».proof.Proof.Gen.SwaOutDwIdeal.Value
public import proofs.«01_k».proof.Proof.Gen.SwaOutDwRefIdeal.Run
public import proofs.«01_k».proof.Proof.Prod.Tiled
public import Idealize.ShloMosaic.Lib.StableHlo.Run

@[expose] public section

set_option maxRecDepth 16384

noncomputable section

namespace Cert.SwaOutDwRun

open Cert.SwaOutDwIdeal Cert.SwaOutDwIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x1024 .bf16) (b : FVec Ideal S1024x1024 .f32) (r : Fin 1024) (d : Fin 1024) :
    k0_pay2 acc a b (ix2 r d) = (acc (ix2 r d) + ∑ k : Fin 1024, a (ix2 k r) * b (ix2 k d) : EReal) := by
  pointwise [k0_pay2]

section Body
variable (c : Dev nD) (i : grid0.Coords)
  (aa : Memref sig .tc .vmem S1024x1024 .bf16) (ha : aa.IsWhole)
  (ab : Memref sig .tc .vmem S1024x1024 .f32) (hb : ab.IsWhole)
  (ao : Memref sig .tc .vmem S1024x1024 .bf16) (ho : ao.IsWhole)
  (aacc : Memref sig .tc .vmem S1024x1024 .f32) (hs : aacc.IsWhole)
  (a : FVec Ideal S1024x1024 .bf16) (b : FVec Ideal S1024x1024 .f32) (acc : FVec Ideal S1024x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x1024) hz, View.readCov_unit_zero (S := S1024x1024) _ hz]
  simp only [View.readAt_eq_ld, ha.read_unread, hb.read_unread,
    View.ld_unit_zero (S := S1024x1024) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x1024) hz]
  simp only [View.readAt_eq_ld, ha.read_unread, hb.read_unread, hs.read_unread,
    View.ld_unit_zero (S := S1024x1024) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S1024x1024) hz]
  simp only [View.readAt_eq_ld, ha.read_unread, hb.read_unread, hs.read_unread,
    View.ld_unit_zero (S := S1024x1024) hz, shapeCast_self]

theorem out_C (hc0 : ¬cond0_0 i) (hc1 : cond0_1 i) :
    out0_C_2 (F := Ideal) c i aa ha ab hb ao ho aacc hs hc0 hc1 a b acc = k0_pay3 (F := Ideal) (k0_pay2 (F := Ideal) acc a b) := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S1024x1024) hz, View.readCov_unit_zero (S := S1024x1024) _ hz]
  simp only [View.readAt_eq_ld, ha.read_unread, hb.read_unread, hs.read_unread,
    View.ld_unit_zero (S := S1024x1024) hz, shapeCast_self]

end Body

variable (m : (ℓ : Loc nD τ sig) → Buf (Elt Ideal) ℓ) (c : Dev nD)

/-- The arguments, and the two factors they make. -/
abbrev arg0 : FVec Ideal S8192x2048 .bf16 := m ((c : Thread nD τ).loc main_arg0)
abbrev arg1 : FVec Ideal S8192x2048 .f32 := m ((c : Thread nD τ).loc main_arg1)
def A (i : Fin 2048) (k : Fin 8192) : EReal := arg0 m c (ix2 k i)
def B (k : Fin 8192) (n : Fin 2048) : EReal := arg1 m c (ix2 k n)

theorem idx : ∀ t : Fin cfg0.N, t.val / 16 < 2 ∧ win0_0.index t = ![t.val % 8, t.val / 16]
    ∧ win0_1.index t = ![t.val % 8, t.val / 8 % 2] ∧ win0_2.index t = ![t.val / 16, t.val / 8 % 2] :=
  (by decide +kernel : ∀ t : Fin grid0.N, _)

/-- The rows, the columns and the contracted entries a step uses. -/
def ra (t : Fin cfg0.N) (r : Fin 1024) : Fin 2048 := ⟨1024 * (t.val / 16) + r.val, by have := (idx t).1; have := r.isLt; omega⟩
def cb (t : Fin cfg0.N) (d : Fin 1024) : Fin 2048 := ⟨1024 * (t.val / 8 % 2) + d.val, by have := d.isLt; omega⟩
def kk (t : Fin cfg0.N) (k : Fin 1024) : Fin 8192 := ⟨1024 * (t.val % 8) + k.val, by have := k.isLt; omega⟩

theorem a_apply (t : Fin cfg0.N) (r : Fin 1024) (k : Fin 1024) : (iblk m c 0 t : FVec Ideal S1024x1024 .bf16) (ix2 k r) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .f32) (ix2 k d) = B m c (kk t k) (cb t d) := by
  unfold B arg1 kk cb; rw [← V_main_arg1 m c]; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 8 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 8 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]; dsimp only; rw [sout_C]
  · rw [outsAt0_B m c t h0 h1]; dsimp only; rw [sout_B]

theorem last (t : Fin cfg0.N) (h1 : t.val % 8 = 7) : (outsAt0 m c t.val t.isLt).1 = k0_pay3 (F := Ideal) ((outsAt0 m c t.val t.isLt).2) := by
  rw [outsAt0_C m c t (by omega) h1]; dsimp only; rw [sout_C, out_C]

/-- What the call computes. -/
def res : FVec Ideal S2048x2048 .bf16 := fun i => (∑ k : Fin 8192, A m c (i 0) k * B m c k (i 1) : EReal)

theorem total (t : Fin cfg0.N) (h : t.val % 8 = 7) (r : Fin 1024) (d : Fin 1024) :
    (outsAt0 m c t.val t.isLt).2 (ix2 r d) = (∑ k : Fin 8192, A m c (ra t r) k * B m c k (cb t d) : EReal) :=
  product_at (nk := 8) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h]
  refine Eq.trans (b := (outsAt0 m c t.val t.isLt).2 (ix2 r d)) rfl ?_
  rw [total m c t h]
  rfl

theorem frame_p : Cert.quiescent_SwaOutDw := fun m ρ _ => Cert.SwaOutDw.Gen.frame m ρ
theorem frame_pi : Cert.quiescent_SwaOutDwIdeal := fun m ρ _ => Cert.SwaOutDwIdeal.Gen.frame m ρ
theorem frame_ri : Cert.quiescent_SwaOutDwRefIdeal := fun m ρ _ => (θ_run Cert.SwaOutDwRefIdeal.defs _ _).mono
  (fun r h => ⟨fun c => (h c).2, sem_eq_zero_of_no_sems (by decide) r.2⟩) (Cert.SwaOutDwRefIdeal.Value.run (F := Ideal) m ρ)

/-- The call and the reference end with the same array. -/
theorem algebraic : Cert.algebraic_SwaOutDwIdeal_SwaOutDwRefIdeal := by
  intro m ρ m' ρ' _ hag
  refine ⟨fun c => res m c, ?_, ?_⟩
  · exact (θ_run Cert.SwaOutDwIdeal.defs _ _).mono (fun r h c => ⟨(h c).1.trans (final m c), (h c).2⟩) (Cert.SwaOutDwIdeal.Value.run_blocks (F := Ideal) m ρ)
  · refine (θ_run Cert.SwaOutDwRefIdeal.defs _ _).mono (fun r h c => ⟨(h c).1.trans ?_, (h c).2⟩) (Cert.SwaOutDwRefIdeal.Value.run (F := Ideal) m' ρ')
    obtain ⟨h0, h1⟩ := hag c
    rw [h0, h1]
    funext i
    obtain ⟨r, d, rfl⟩ := pair (n := 2048) (m := 2048) i
    refine Eq.trans (b := (∑ k : Fin 8192, arg1 m c (ix2 k d) * arg0 m c (ix2 k r) : EReal)) (by pointwise) ?_
    exact Finset.sum_congr rfl fun k _ => mul_comm _ _

end Cert.SwaOutDwRun

end
-- ==== Proof.Prod.SwaInDh.lean ====
/- The gradient of the input projection of the windowed attention into its argument: the 8192 by 2048 product over 3072, formed in 8 by 2 tiles of 1024 by 1024
   and 3 steps of 1024 along the contracted axis. -/
module

public import proofs.«01_k».proof.Defs
public import proofs.«01_k».proof.Proof.Gen.SwaInDh
public import proofs.«01_k».proof.Proof.Gen.SwaInDh.Frame
public import proofs.«01_k».proof.Proof.Gen.SwaInDhIdeal.Value
public import proofs.«01_k».proof.Proof.Gen.SwaInDhRefIdeal.Run
public import proofs.«01_k».proof.Proof.Prod.Tiled
public import Idealize.ShloMosaic.Lib.StableHlo.Run

@[expose] public section

set_option maxRecDepth 16384

noncomputable section

namespace Cert.SwaInDhRun

open Cert.SwaInDhIdeal Cert.SwaInDhIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x1024 .bf16) (b : FVec Ideal S1024x1024 .bf16) (r : Fin 1024) (d : Fin 1024) :
    k0_pay2 acc a b (ix2 r d) = (acc (ix2 r d) + ∑ k : Fin 1024, a (ix2 r k) * b (ix2 k d) : EReal) := by
  pointwise [k0_pay2]

section Body
variable (c : Dev nD) (i : grid0.Coords)
  (aa : Memref sig .tc .vmem S1024x1024 .bf16) (ha : aa.IsWhole)
  (ab : Memref sig .tc .vmem S1024x1024 .bf16) (hb : ab.IsWhole)
  (ao : Memref sig .tc .vmem S1024x1024 .f32) (ho : ao.IsWhole)
  (aacc : Memref sig .tc .vmem S1024x1024 .f32) (hs : aacc.IsWhole)
  (a : FVec Ideal S1024x1024 .bf16) (b : FVec Ideal S1024x1024 .bf16) (acc : FVec Ideal S1024x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x1024) hz, View.readCov_unit_zero (S := S1024x1024) _ hz]
  simp only [View.readAt_eq_ld, ha.read_unread, hb.read_unread,
    View.ld_unit_zero (S := S1024x1024) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x1024) hz]
  simp only [View.readAt_eq_ld, ha.read_unread, hb.read_unread, hs.read_unread,
    View.ld_unit_zero (S := S1024x1024) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S1024x1024) hz]
  simp only [View.readAt_eq_ld, ha.read_unread, hb.read_unread, hs.read_unread,
    View.ld_unit_zero (S := S1024x1024) hz, shapeCast_self]

theorem out_C (hc0 : ¬cond0_0 i) (hc1 : cond0_1 i) :
    out0_C_2 (F := Ideal) c i aa ha ab hb ao ho aacc hs hc0 hc1 a b acc = k0_pay2 (F := Ideal) acc a b := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S1024x1024) hz, View.readCov_unit_zero (S := S1024x1024) _ hz]
  simp only [View.readAt_eq_ld, ha.read_unread, hb.read_unread, hs.read_unread,
    View.ld_unit_zero (S := S1024x1024) hz, shapeCast_self]

end Body

variable (m : (ℓ : Loc nD τ sig) → Buf (Elt Ideal) ℓ) (c : Dev nD)

/-- The arguments, and the two factors they make. -/
abbrev arg0 : FVec Ideal S8192x3072 .bf16 := m ((c : Thread nD τ).loc main_arg0)
abbrev arg1 : FVec Ideal S2048x3072 .f32 := m ((c : Thread nD τ).loc main_arg1)
def A (i : Fin 8192) (k : Fin 3072) : EReal := arg0 m c (ix2 i k)
def B (k : Fin 3072) (n : Fin 2048) : EReal := arg1 m c (ix2 n k)

/-- The second factor as the host prepares it. -/
theorem V_b (k : Fin 3072) (n : Fin 2048) : (V m c main_v1 : FVec Ideal S3072x2048 .bf16) (ix2 k n) = B m c k n := by
  have e : V m c main_v1 = truncf .bf16 (transpose S3072x2048 [1, 0] (arg1 m c) transposes_S2048x3072_S3072x2048_1_0) bitsLt_bf16_f32 := by
    show StableHlo.after hostOps0 _ _ = _
    unfold hostOps0
    after_results
  rw [e]
  unfold B
  pointwise

theorem idx : ∀ t : Fin cfg0.N, t.val / 6 < 8 ∧ win0_0.index t = ![t.val / 6, t.val % 3]
    ∧ win0_1.index t = ![t.val % 3, t.val / 3 % 2] ∧ win0_2.index t = ![t.val / 6, t.val / 3 % 2] :=
  (by decide +kernel : ∀ t : Fin grid0.N, _)

/-- The rows, the columns and the contracted entries a step uses. -/
def ra (t : Fin cfg0.N) (r : Fin 1024) : Fin 8192 := ⟨1024 * (t.val / 6) + r.val, by have := (idx t).1; have := r.isLt; omega⟩
def cb (t : Fin cfg0.N) (d : Fin 1024) : Fin 2048 := ⟨1024 * (t.val / 3 % 2) + d.val, by have := d.isLt; omega⟩
def kk (t : Fin cfg0.N) (k : Fin 1024) : Fin 3072 := ⟨1024 * (t.val % 3) + k.val, by have := k.isLt; omega⟩

theorem a_apply (t : Fin cfg0.N) (r : Fin 1024) (k : Fin 1024) : (iblk m c 0 t : FVec Ideal S1024x1024 .bf16) (ix2 r k) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .bf16) (ix2 k d) = B m c (kk t k) (cb t d) := by
  rw [← V_b]; unfold kk cb; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 3 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 3 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 3 = 2
  · rw [outsAt0_C m c t h0 h1]; dsimp only; rw [sout_C]
  · rw [outsAt0_B m c t h0 h1]; dsimp only; rw [sout_B]

theorem last (t : Fin cfg0.N) (h1 : t.val % 3 = 2) : (outsAt0 m c t.val t.isLt).1 = (outsAt0 m c t.val t.isLt).2 := by
  rw [outsAt0_C m c t (by omega) h1]; dsimp only; rw [sout_C, out_C]

/-- What the call computes. -/
def res : FVec Ideal S8192x2048 .f32 := fun i => (∑ k : Fin 3072, A m c (i 0) k * B m c k (i 1) : EReal)

theorem total (t : Fin cfg0.N) (h : t.val % 3 = 2) (r : Fin 1024) (d : Fin 1024) :
    (outsAt0 m c t.val t.isLt).2 (ix2 r d) = (∑ k : Fin 3072, A m c (ra t r) k * B m c k (cb t d) : EReal) :=
  product_at (nk := 3) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_SwaInDh := fun m ρ _ => Cert.SwaInDh.Gen.frame m ρ
theorem frame_pi : Cert.quiescent_SwaInDhIdeal := fun m ρ _ => Cert.SwaInDhIdeal.Gen.frame m ρ
theorem frame_ri : Cert.quiescent_SwaInDhRefIdeal := fun m ρ _ => (θ_run Cert.SwaInDhRefIdeal.defs _ _).mono
  (fun r h => ⟨fun c => (h c).2, sem_eq_zero_of_no_sems (by decide) r.2⟩) (Cert.SwaInDhRefIdeal.Value.run (F := Ideal) m ρ)

/-- The call and the reference end with the same array. -/
theorem algebraic : Cert.algebraic_SwaInDhIdeal_SwaInDhRefIdeal := by
  intro m ρ m' ρ' _ hag
  refine ⟨fun c => res m c, ?_, ?_⟩
  · exact (θ_run Cert.SwaInDhIdeal.defs _ _).mono (fun r h c => ⟨(h c).1.trans (final m c), (h c).2⟩) (Cert.SwaInDhIdeal.Value.run_blocks (F := Ideal) m ρ)
  · refine (θ_run Cert.SwaInDhRefIdeal.defs _ _).mono (fun r h c => ⟨(h c).1.trans ?_, (h c).2⟩) (Cert.SwaInDhRefIdeal.Value.run (F := Ideal) m' ρ')
    obtain ⟨h0, h1⟩ := hag c
    rw [h0, h1]
    funext i
    obtain ⟨r, d, rfl⟩ := pair (n := 8192) (m := 2048) i
    refine Eq.trans (b := (∑ k : Fin 3072, arg0 m c (ix2 r k) * arg1 m c (ix2 d k) : EReal)) (by pointwise) ?_
    rfl

end Cert.SwaInDhRun

end
-- ==== Proof.Prod.SwaInDw.lean ====
/- The gradient of the input projection of the windowed attention into its weight: the 3072 by 2048 product over 8192, formed in 3 by 2 tiles of 1024 by 1024
   and 8 steps of 1024 along the contracted axis. -/
module

public import proofs.«01_k».proof.Defs
public import proofs.«01_k».proof.Proof.Gen.SwaInDw
public import proofs.«01_k».proof.Proof.Gen.SwaInDw.Frame
public import proofs.«01_k».proof.Proof.Gen.SwaInDwIdeal.Value
public import proofs.«01_k».proof.Proof.Gen.SwaInDwRefIdeal.Run
public import proofs.«01_k».proof.Proof.Prod.Tiled
public import Idealize.ShloMosaic.Lib.StableHlo.Run

@[expose] public section

set_option maxRecDepth 16384

noncomputable section

namespace Cert.SwaInDwRun

open Cert.SwaInDwIdeal Cert.SwaInDwIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x1024 .bf16) (b : FVec Ideal S1024x1024 .bf16) (r : Fin 1024) (d : Fin 1024) :
    k0_pay2 acc a b (ix2 r d) = (acc (ix2 r d) + ∑ k : Fin 1024, a (ix2 k r) * b (ix2 k d) : EReal) := by
  pointwise [k0_pay2]

section Body
variable (c : Dev nD) (i : grid0.Coords)
  (aa : Memref sig .tc .vmem S1024x1024 .bf16) (ha : aa.IsWhole)
  (ab : Memref sig .tc .vmem S1024x1024 .bf16) (hb : ab.IsWhole)
  (ao : Memref sig .tc .vmem S1024x1024 .bf16) (ho : ao.IsWhole)
  (aacc : Memref sig .tc .vmem S1024x1024 .f32) (hs : aacc.IsWhole)
  (a : FVec Ideal S1024x1024 .bf16) (b : FVec Ideal S1024x1024 .bf16) (acc : FVec Ideal S1024x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x1024) hz, View.readCov_unit_zero (S := S1024x1024) _ hz]
  simp only [View.readAt_eq_ld, ha.read_unread, hb.read_unread,
    View.ld_unit_zero (S := S1024x1024) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x1024) hz]
  simp only [View.readAt_eq_ld, ha.read_unread, hb.read_unread, hs.read_unread,
    View.ld_unit_zero (S := S1024x1024) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S1024x1024) hz]
  simp only [View.readAt_eq_ld, ha.read_unread, hb.read_unread, hs.read_unread,
    View.ld_unit_zero (S := S1024x1024) hz, shapeCast_self]

theorem out_C (hc0 : ¬cond0_0 i) (hc1 : cond0_1 i) :
    out0_C_2 (F := Ideal) c i aa ha ab hb ao ho aacc hs hc0 hc1 a b acc = k0_pay3 (F := Ideal) (k0_pay2 (F := Ideal) acc a b) := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S1024x1024) hz, View.readCov_unit_zero (S := S1024x1024) _ hz]
  simp only [View.readAt_eq_ld, ha.read_unread, hb.read_unread, hs.read_unread,
    View.ld_unit_zero (S := S1024x1024) hz, shapeCast_self]

end Body

variable (m : (ℓ : Loc nD τ sig) → Buf (Elt Ideal) ℓ) (c : Dev nD)

/-- The arguments, and the two factors they make. -/
abbrev arg0 : FVec Ideal S8192x3072 .bf16 := m ((c : Thread nD τ).loc main_arg0)
abbrev arg1 : FVec Ideal S8192x2048 .bf16 := m ((c : Thread nD τ).loc main_arg1)
def A (i : Fin 3072) (k : Fin 8192) : EReal := arg0 m c (ix2 k i)
def B (k : Fin 8192) (n : Fin 2048) : EReal := arg1 m c (ix2 k n)

theorem idx : ∀ t : Fin cfg0.N, t.val / 16 < 3 ∧ win0_0.index t = ![t.val % 8, t.val / 16]
    ∧ win0_1.index t = ![t.val % 8, t.val / 8 % 2] ∧ win0_2.index t = ![t.val / 16, t.val / 8 % 2] :=
  (by decide +kernel : ∀ t : Fin grid0.N, _)

/-- The rows, the columns and the contracted entries a step uses. -/
def ra (t : Fin cfg0.N) (r : Fin 1024) : Fin 3072 := ⟨1024 * (t.val / 16) + r.val, by have := (idx t).1; have := r.isLt; omega⟩
def cb (t : Fin cfg0.N) (d : Fin 1024) : Fin 2048 := ⟨1024 * (t.val / 8 % 2) + d.val, by have := d.isLt; omega⟩
def kk (t : Fin cfg0.N) (k : Fin 1024) : Fin 8192 := ⟨1024 * (t.val % 8) + k.val, by have := k.isLt; omega⟩

theorem a_apply (t : Fin cfg0.N) (r : Fin 1024) (k : Fin 1024) : (iblk m c 0 t : FVec Ideal S1024x1024 .bf16) (ix2 k r) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .bf16) (ix2 k d) = B m c (kk t k) (cb t d) := by
  unfold B arg1 kk cb; rw [← V_main_arg1 m c]; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 8 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 8 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]; dsimp only; rw [sout_C]
  · rw [outsAt0_B m c t h0 h1]; dsimp only; rw [sout_B]

theorem last (t : Fin cfg0.N) (h1 : t.val % 8 = 7) : (outsAt0 m c t.val t.isLt).1 = k0_pay3 (F := Ideal) ((outsAt0 m c t.val t.isLt).2) := by
  rw [outsAt0_C m c t (by omega) h1]; dsimp only; rw [sout_C, out_C]

/-- What the call computes. -/
def res : FVec Ideal S3072x2048 .bf16 := fun i => (∑ k : Fin 8192, A m c (i 0) k * B m c k (i 1) : EReal)

theorem total (t : Fin cfg0.N) (h : t.val % 8 = 7) (r : Fin 1024) (d : Fin 1024) :
    (outsAt0 m c t.val t.isLt).2 (ix2 r d) = (∑ k : Fin 8192, A m c (ra t r) k * B m c k (cb t d) : EReal) :=
  product_at (nk := 8) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h]
  refine Eq.trans (b := (outsAt0 m c t.val t.isLt).2 (ix2 r d)) rfl ?_
  rw [total m c t h]
  rfl

theorem frame_p : Cert.quiescent_SwaInDw := fun m ρ _ => Cert.SwaInDw.Gen.frame m ρ
theorem frame_pi : Cert.quiescent_SwaInDwIdeal := fun m ρ _ => Cert.SwaInDwIdeal.Gen.frame m ρ
theorem frame_ri : Cert.quiescent_SwaInDwRefIdeal := fun m ρ _ => (θ_run Cert.SwaInDwRefIdeal.defs _ _).mono
  (fun r h => ⟨fun c => (h c).2, sem_eq_zero_of_no_sems (by decide) r.2⟩) (Cert.SwaInDwRefIdeal.Value.run (F := Ideal) m ρ)

/-- The call and the reference end with the same array. -/
theorem algebraic : Cert.algebraic_SwaInDwIdeal_SwaInDwRefIdeal := by
  intro m ρ m' ρ' _ hag
  refine ⟨fun c => res m c, ?_, ?_⟩
  · exact (θ_run Cert.SwaInDwIdeal.defs _ _).mono (fun r h c => ⟨(h c).1.trans (final m c), (h c).2⟩) (Cert.SwaInDwIdeal.Value.run_blocks (F := Ideal) m ρ)
  · refine (θ_run Cert.SwaInDwRefIdeal.defs _ _).mono (fun r h c => ⟨(h c).1.trans ?_, (h c).2⟩) (Cert.SwaInDwRefIdeal.Value.run (F := Ideal) m' ρ')
    obtain ⟨h0, h1⟩ := hag c
    rw [h0, h1]
    funext i
    obtain ⟨r, d, rfl⟩ := pair (n := 3072) (m := 2048) i
    refine Eq.trans (b := (∑ k : Fin 8192, arg0 m c (ix2 k r) * arg1 m c (ix2 k d) : EReal)) (by pointwise) ?_
    rfl

end Cert.SwaInDwRun

end
-- ==== Proof.Prod.XqIn.lean ====
/- The query projection of the cross-attention: the 8192 by 512 product over 2048, formed in 8 by 1 tiles of 1024 by 512
   and 2 steps of 1024 along the contracted axis. -/
module

public import proofs.«01_k».proof.Defs
public import proofs.«01_k».proof.Proof.Gen.XqIn
public import proofs.«01_k».proof.Proof.Gen.XqIn.Frame
public import proofs.«01_k».proof.Proof.Gen.XqInIdeal.Value
public import proofs.«01_k».proof.Proof.Gen.XqInRefIdeal.Run
public import proofs.«01_k».proof.Proof.Prod.Tiled
public import Idealize.ShloMosaic.Lib.StableHlo.Run

@[expose] public section

set_option maxRecDepth 16384

noncomputable section

namespace Cert.XqInRun

open Cert.XqInIdeal Cert.XqInIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x512 .f32) (a : FVec Ideal S1024x1024 .bf16) (b : FVec Ideal S1024x512 .bf16) (r : Fin 1024) (d : Fin 512) :
    k0_pay2 acc a b (ix2 r d) = (acc (ix2 r d) + ∑ k : Fin 1024, a (ix2 r k) * b (ix2 k d) : EReal) := by
  pointwise [k0_pay2]

section Body
variable (c : Dev nD) (i : grid0.Coords)
  (aa : Memref sig .tc .vmem S1024x1024 .bf16) (ha : aa.IsWhole)
  (ab : Memref sig .tc .vmem S1024x512 .bf16) (hb : ab.IsWhole)
  (ao : Memref sig .tc .vmem S1024x512 .f32) (ho : ao.IsWhole)
  (aacc : Memref sig .tc .vmem S1024x512 .f32) (hs : aacc.IsWhole)
  (a : FVec Ideal S1024x1024 .bf16) (b : FVec Ideal S1024x512 .bf16) (acc : FVec Ideal S1024x512 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x512) hz, View.readCov_unit_zero (S := S1024x512) _ hz]
  simp only [View.readAt_eq_ld, ha.read_unread, hb.read_unread,
    View.ld_unit_zero (S := S1024x1024) hz, View.ld_unit_zero (S := S1024x512) hz, shapeCast_self]

theorem sout_B (hc0 : ¬cond0_0 i) (hc1 : cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x512) hz]
  simp only [View.readAt_eq_ld, ha.read_unread, hb.read_unread, hs.read_unread,
    View.ld_unit_zero (S := S1024x1024) hz, View.ld_unit_zero (S := S1024x512) hz, shapeCast_self]

theorem out_B (hc0 : ¬cond0_0 i) (hc1 : cond0_1 i) :
    out0_B_2 (F := Ideal) c i aa ha ab hb ao ho aacc hs hc0 hc1 a b acc = k0_pay2 (F := Ideal) acc a b := by
  unfold out0_B_2
  rw [View.read_writes_eq_canon _ _ _ (cover0_B_2 (F := Ideal) c i aa ha ab hb ao ho aacc hs hc0 hc1 a b acc)]
  unfold kernelRun0_B
  dsimp only
  sl_unfold_words
  rw [View.canon_unit_zero (S := S1024x512) hz, View.readCov_unit_zero (S := S1024x512) _ hz]
  simp only [View.readAt_eq_ld, ha.read_unread, hb.read_unread, hs.read_unread,
    View.ld_unit_zero (S := S1024x1024) hz, View.ld_unit_zero (S := S1024x512) hz, shapeCast_self]

end Body

variable (m : (ℓ : Loc nD τ sig) → Buf (Elt Ideal) ℓ) (c : Dev nD)

/-- The arguments, and the two factors they make. -/
abbrev arg0 : FVec Ideal S8192x2048 .bf16 := m ((c : Thread nD τ).loc main_arg0)
abbrev arg1 : FVec Ideal S2048x512 .f32 := m ((c : Thread nD τ).loc main_arg1)
def A (i : Fin 8192) (k : Fin 2048) : EReal := arg0 m c (ix2 i k)
def B (k : Fin 2048) (n : Fin 512) : EReal := arg1 m c (ix2 k n)

/-- The second factor as the host prepares it. -/
theorem V_b (k : Fin 2048) (n : Fin 512) : (V m c main_v0 : FVec Ideal S2048x512 .bf16) (ix2 k n) = B m c k n := by
  have e : V m c main_v0 = truncf .bf16 (arg1 m c) bitsLt_bf16_f32 := by
    show StableHlo.after hostOps0 _ _ = _
    unfold hostOps0
    after_results
  rw [e]
  unfold B
  pointwise

theorem idx : ∀ t : Fin cfg0.N, t.val / 2 < 8 ∧ win0_0.index t = ![t.val / 2, t.val % 2]
    ∧ win0_1.index t = ![t.val % 2, t.val / 2 % 1] ∧ win0_2.index t = ![t.val / 2, t.val / 2 % 1] :=
  (by decide +kernel : ∀ t : Fin grid0.N, _)

/-- The rows, the columns and the contracted entries a step uses. -/
def ra (t : Fin cfg0.N) (r : Fin 1024) : Fin 8192 := ⟨1024 * (t.val / 2) + r.val, by have := (idx t).1; have := r.isLt; omega⟩
def cb (t : Fin cfg0.N) (d : Fin 512) : Fin 512 := ⟨512 * (t.val / 2 % 1) + d.val, by have := d.isLt; omega⟩
def kk (t : Fin cfg0.N) (k : Fin 1024) : Fin 2048 := ⟨1024 * (t.val % 2) + k.val, by have := k.isLt; omega⟩

theorem a_apply (t : Fin cfg0.N) (r : Fin 1024) (k : Fin 1024) : (iblk m c 0 t : FVec Ideal S1024x1024 .bf16) (ix2 r k) = A m c (ra t r) (kk t k) := by
  unfold A arg0 ra kk; rw [← V_main_arg0 m c]; blk_ext [iblk, idx t]

theorem b_apply (t : Fin cfg0.N) (k : Fin 1024) (d : Fin 512) : (iblk m c 1 t : FVec Ideal S1024x512 .bf16) (ix2 k d) = B m c (kk t k) (cb t d) := by
  rw [← V_b]; unfold kk cb; blk_ext [iblk, idx t]

theorem pay_at (acc : FVec Ideal S1024x512 .f32) (t : Fin cfg0.N) (r : Fin 1024) (d : Fin 512) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 2 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]; dsimp only; rw [sout_B]

theorem last (t : Fin cfg0.N) (h1 : t.val % 2 = 1) : (outsAt0 m c t.val t.isLt).1 = (outsAt0 m c t.val t.isLt).2 := by
  rw [outsAt0_B m c t (by omega) h1]; dsimp only; rw [sout_B, out_B]

/-- What the call computes. -/
def res : FVec Ideal S8192x512 .f32 := fun i => (∑ k : Fin 2048, A m c (i 0) k * B m c k (i 1) : EReal)

theorem total (t : Fin cfg0.N) (h : t.val % 2 = 1) (r : Fin 1024) (d : Fin 512) :
    (outsAt0 m c t.val t.isLt).2 (ix2 r d) = (∑ k : Fin 2048, A m c (ra t r) k * B m c k (cb t d) : EReal) :=
  product_at (nk := 2) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_XqIn := fun m ρ _ => Cert.XqIn.Gen.frame m ρ
theorem frame_pi : Cert.quiescent_XqInIdeal := fun m ρ _ => Cert.XqInIdeal.Gen.frame m ρ
theorem frame_ri : Cert.quiescent_XqInRefIdeal := fun m ρ _ => (θ_run Cert.XqInRefIdeal.defs _ _).mono
  (fun r h => ⟨fun c => (h c).2, sem_eq_zero_of_no_sems (by decide) r.2⟩) (Cert.XqInRefIdeal.Value.run (F := Ideal) m ρ)

/-- The call and the reference end with the same array. -/
theorem algebraic : Cert.algebraic_XqInIdeal_XqInRefIdeal := by
  intro m ρ m' ρ' _ hag
  refine ⟨fun c => res m c, ?_, ?_⟩
  · exact (θ_run Cert.XqInIdeal.defs _ _).mono (fun r h c => ⟨(h c).1.trans (final m c), (h c).2⟩) (Cert.XqInIdeal.Value.run_blocks (F := Ideal) m ρ)
  · refine (θ_run Cert.XqInRefIdeal.defs _ _).mono (fun r h c => ⟨(h c).1.trans ?_, (h c).2⟩) (Cert.XqInRefIdeal.Value.run (F := Ideal) m' ρ')
    obtain ⟨h0, h1⟩ := hag c
    rw [h0, h1]
    funext i
    obtain ⟨r, d, rfl⟩ := pair (n := 8192) (m := 512) i
    refine Eq.trans (b := (∑ k : Fin 2048, arg0 m c (ix2 r k) * arg1 m c (ix2 k d) : EReal)) (by pointwise) ?_
    rfl

end Cert.XqInRun

end
-- ==== Proof.Prod.XoOut.lean ====
/- The output projection of the cross-attention, with the residual: the 8192 by 2048 product over 512, formed in 8 by 2 tiles of 1024 by 1024
   over the whole contracted axis. -/
module

public import proofs.«01_k».proof.Defs
public import proofs.«01_k».proof.Proof.Gen.XoOut
public import proofs.«01_k».proof.Proof.Gen.XoOut.Frame
public import proofs.«01_k».proof.Proof.Gen.XoOutIdeal.Value
public import proofs.«01_k».proof.Proof.Gen.XoOutRefIdeal.Run
public import proofs.«01_k».proof.Proof.Prod.Tiled
public import Idealize.ShloMosaic.Lib.StableHlo.Run

@[expose] public section

set_option maxRecDepth 16384

noncomputable section

namespace Cert.XoOutRun

open Cert.XoOutIdeal Cert.XoOutIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x512 .bf16) (b : FVec Ideal S1024x512 .bf16) (r : Fin 1024) (d : Fin 1024) :
    k0_pay2 acc a b (ix2 r d) = (acc (ix2 r d) + ∑ k : Fin 512, a (ix2 r k) * b (ix2 d k) : EReal) := by
  pointwise [k0_pay2]

section Body
variable (c : Dev nD) (i : grid0.Coords)
  (aa : Memref sig .tc .vmem S1024x512 .bf16) (ha : aa.IsWhole)
  (ab : Memref sig .tc .vmem S1024x512 .bf16) (hb : ab.IsWhole)
  (ar : Memref sig .tc .vmem S1024x1024 .f32) (hr : ar.IsWhole)
  (ao : Memref sig .tc .vmem S1024x1024 .f32) (ho : ao.IsWhole)
  (aacc : Memref sig .tc .vmem S1024x1024 .f32) (hs : aacc.IsWhole)
  (a : FVec Ideal S1024x512 .bf16) (b : FVec Ideal S1024x512 .bf16) (x : FVec Ideal S1024x1024 .f32) (acc : FVec Ideal S1024x1024 .f32)

theorem out_A (hc0 : cond0_0 i) (hc1 : cond0_1 i) :
    out0_A_3 (F := Ideal) c i aa ha ab hb ar hr ao ho aacc hs hc0 hc1 a b x  = k0_pay3 (F := Ideal) (k0_pay2 (F := Ideal) (k0_pay1 (F := Ideal)) a b) x := by
  unfold out0_A_3
  rw [View.read_writes_eq_canon _ _ _ (cover0_A_3 (F := Ideal) c i aa ha ab hb ar hr ao ho aacc hs hc0 hc1 a b x )]
  unfold kernelRun0_A
  dsimp only
  sl_unfold_words
  rw [View.canon_unit_zero (S := S1024x1024) hz, readCov_cons_unit_zero (S := S1024x1024) _ hz, View.readCov_unit_zero (S := S1024x1024) _ hz]
  simp only [View.readAt_eq_ld, ha.read_unread, hb.read_unread, hr.read_unread,
    View.ld_unit_zero (S := S1024x512) hz, View.ld_unit_zero (S := S1024x1024) hz, shapeCast_self]

end Body

variable (m : (ℓ : Loc nD τ sig) → Buf (Elt Ideal) ℓ) (c : Dev nD)

/-- The arguments, and the two factors they make. -/
abbrev arg0 : FVec Ideal S8192x512 .bf16 := m ((c : Thread nD τ).loc main_arg0)
abbrev arg1 : FVec Ideal S512x2048 .f32 := m ((c : Thread nD τ).loc main_arg1)
abbrev arg2 : FVec Ideal S8192x2048 .f32 := m ((c : Thread nD τ).loc main_arg2)
def A (i : Fin 8192) (k : Fin 512) : EReal := arg0 m c (ix2 i k)
def B (k : Fin 512) (n : Fin 2048) : EReal := arg1 m c (ix2 k n)

/-- The second factor as the host prepares it. -/
theorem V_b (k : Fin 512) (n : Fin 2048) : (V m c main_v1 : FVec Ideal S2048x512 .bf16) (ix2 n k) = B m c k n := by
  have e : V m c main_v1 = truncf .bf16 (transpose S2048x512 [1, 0] (arg1 m c) transposes_S512x2048_S2048x512_1_0) bitsLt_bf16_f32 := by
    show StableHlo.after hostOps0 _ _ = _
    unfold hostOps0
    after_results
  rw [e]
  unfold B
  pointwise

theorem idx : ∀ t : Fin cfg0.N, t.val / 2 < 8 ∧ win0_0.index t = ![t.val / 2, t.val % 1]
    ∧ win0_1.index t = ![t.val / 1 % 2, t.val % 1] ∧ win0_2.index t = ![t.val / 2, t.val / 1 % 2] ∧ win0_3.index t = ![t.val / 2, t.val / 1 % 2] :=
  (by decide +kernel : ∀ t : Fin grid0.N, _)

/-- The rows, the columns and the contracted entries a step uses. -/
def ra (t : Fin cfg0.N) (r : Fin 1024) : Fin 8192 := ⟨1024 * (t.val / 2) + r.val, by have := (idx t).1; have := r.isLt; omega⟩
def cb (t : Fin cfg0.N) (d : Fin 1024) : Fin 2048 := ⟨1024 * (t.val / 1 % 2) + d.val, by have := d.isLt; omega⟩
def kk (t : Fin cfg0.N) (k : Fin 512) : Fin 512 := ⟨512 * (t.val % 1) + k.val, by have := k.isLt; omega⟩

theorem a_apply (t : Fin cfg0.N) (r : Fin 1024) (k : Fin 512) : (iblk m c 0 t : FVec Ideal S1024x512 .bf16) (ix2 r k) = A m c (ra t r) (kk t k) := by
  unfold A arg0 ra kk; rw [← V_main_arg0 m c]; blk_ext [iblk, idx t]

theorem b_apply (t : Fin cfg0.N) (k : Fin 512) (d : Fin 1024) : (iblk m c 1 t : FVec Ideal S1024x512 .bf16) (ix2 d k) = B m c (kk t k) (cb t d) := by
  rw [← V_b]; unfold kk cb; blk_ext [iblk, idx t]

theorem x_apply (t : Fin cfg0.N) (r : Fin 1024) (d : Fin 1024) : (iblk m c 2 t : FVec Ideal S1024x1024 .f32) (ix2 r d) = arg2 m c (ix2 (ra t r) (cb t d)) := by
  unfold arg2 ra cb; rw [← V_main_arg2 m c]; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 512, A m c (ra t r) (kk t k) * B m c (kk t k) (cb t d) : EReal) :=
  (pay_apply acc _ _ r d).trans (congrArg _ (Finset.sum_congr rfl fun k _ => by rw [a_apply, b_apply]))

theorem last (t : Fin cfg0.N) : outsAt0 m c t = k0_pay3 (F := Ideal) (k0_pay2 (F := Ideal) (k0_pay1 (F := Ideal)) (iblk m c 0 t) (iblk m c 1 t)) (iblk m c 2 t) := by
  unfold outsAt0; exact out_A ..

/-- What the call computes. -/
def res : FVec Ideal S8192x2048 .f32 := fun i => (arg2 m c i + ∑ k : Fin 512, A m c (i 0) k * B m c k (i 1) : EReal)

theorem total (t : Fin cfg0.N) (r : Fin 1024) (d : Fin 1024) :
    k0_pay2 (F := Ideal) (k0_pay1 (F := Ideal)) (iblk m c 0 t) (iblk m c 1 t) (ix2 r d) = (∑ k : Fin 512, A m c (ra t r) k * B m c k (cb t d) : EReal) :=
  product_at (nk := 1) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => k0_pay2 (F := Ideal) (k0_pay1 (F := Ideal)) (iblk m c 0 ⟨n, h⟩) (iblk m c 1 ⟨n, h⟩)) (fun _ _ => rfl) (fun t h => absurd (Nat.mod_one t.val) h) t (Nat.mod_one _) r d

theorem final : (dats m 0 c).arrAt 3 cfg0.N = res m c := by
  refine (dats m 0 c).arrAt_eq_of_covers 3 _ (by decide +kernel) fun t hf y => ?_
  blk_simp
  rw [after0_3]
  obtain ⟨r, d, rfl⟩ := pair y
  have e : (win0_3.blk t).view.emb (ix2 r d) = ix2 (ra t r) (cb t d) := by unfold ra cb; blk_ext [idx t]
  rw [e]
  rw [last m c t]
  have e : k0_pay3 (F := Ideal) (k0_pay2 (F := Ideal) (k0_pay1 (F := Ideal)) (iblk m c 0 t) (iblk m c 1 t)) (iblk m c 2 t) (ix2 r d) = (k0_pay2 (F := Ideal) (k0_pay1 (F := Ideal)) (iblk m c 0 t) (iblk m c 1 t) (ix2 r d) + arg2 m c (ix2 (ra t r) (cb t d)) : EReal) := by rw [← x_apply]; rfl
  rw [e, total m c t]
  exact add_comm (G := EReal) _ _

theorem frame_p : Cert.quiescent_XoOut := fun m ρ _ => Cert.XoOut.Gen.frame m ρ
theorem frame_pi : Cert.quiescent_XoOutIdeal := fun m ρ _ => Cert.XoOutIdeal.Gen.frame m ρ
theorem frame_ri : Cert.quiescent_XoOutRefIdeal := fun m ρ _ => (θ_run Cert.XoOutRefIdeal.defs _ _).mono
  (fun r h => ⟨fun c => (h c).2, sem_eq_zero_of_no_sems (by decide) r.2⟩) (Cert.XoOutRefIdeal.Value.run (F := Ideal) m ρ)

/-- The call and the reference end with the same array. -/
theorem algebraic : Cert.algebraic_XoOutIdeal_XoOutRefIdeal := by
  intro m ρ m' ρ' _ hag
  refine ⟨fun c => res m c, ?_, ?_⟩
  · exact (θ_run Cert.XoOutIdeal.defs _ _).mono (fun r h c => ⟨(h c).1.trans (final m c), (h c).2⟩) (Cert.XoOutIdeal.Value.run_blocks (F := Ideal) m ρ)
  · refine (θ_run Cert.XoOutRefIdeal.defs _ _).mono (fun r h c => ⟨(h c).1.trans ?_, (h c).2⟩) (Cert.XoOutRefIdeal.Value.run (F := Ideal) m' ρ')
    obtain ⟨h0, h1, h2⟩ := hag c
    rw [h0, h1, h2]
    funext i
    obtain ⟨r, d, rfl⟩ := pair (n := 8192) (m := 2048) i
    refine Eq.trans (b := (arg2 m c (ix2 r d) + ∑ k : Fin 512, arg0 m c (ix2 r k) * arg1 m c (ix2 k d) : EReal)) (by pointwise) ?_
    rfl

end Cert.XoOutRun

end
-- ==== Proof.Prod.XoDo.lean ====
/- The gradient of the output projection of the cross-attention into its argument: the 8192 by 512 product over 2048, formed in 8 by 1 tiles of 1024 by 512
   and 2 steps of 1024 along the contracted axis. -/
module

public import proofs.«01_k».proof.Defs
public import proofs.«01_k».proof.Proof.Gen.XoDo
public import proofs.«01_k».proof.Proof.Gen.XoDo.Frame
public import proofs.«01_k».proof.Proof.Gen.XoDoIdeal.Value
public import proofs.«01_k».proof.Proof.Gen.XoDoRefIdeal.Run
public import proofs.«01_k».proof.Proof.Prod.Tiled
public import Idealize.ShloMosaic.Lib.StableHlo.Run

@[expose] public section

set_option maxRecDepth 16384

noncomputable section

namespace Cert.XoDoRun

open Cert.XoDoIdeal Cert.XoDoIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x512 .f32) (a : FVec Ideal S1024x1024 .f32) (b : FVec Ideal S1024x512 .bf16) (r : Fin 1024) (d : Fin 512) :
    k0_pay2 acc a b (ix2 r d) = (acc (ix2 r d) + ∑ k : Fin 1024, a (ix2 r k) * b (ix2 k d) : EReal) := by
  pointwise [k0_pay2]

section Body
variable (c : Dev nD) (i : grid0.Coords)
  (aa : Memref sig .tc .vmem S1024x1024 .f32) (ha : aa.IsWhole)
  (ab : Memref sig .tc .vmem S1024x512 .bf16) (hb : ab.IsWhole)
  (ao : Memref sig .tc .vmem S1024x512 .f32) (ho : ao.IsWhole)
  (aacc : Memref sig .tc .vmem S1024x512 .f32) (hs : aacc.IsWhole)
  (a : FVec Ideal S1024x1024 .f32) (b : FVec Ideal S1024x512 .bf16) (acc : FVec Ideal S1024x512 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x512) hz, View.readCov_unit_zero (S := S1024x512) _ hz]
  simp only [View.readAt_eq_ld, ha.read_unread, hb.read_unread,
    View.ld_unit_zero (S := S1024x1024) hz, View.ld_unit_zero (S := S1024x512) hz, shapeCast_self]

theorem sout_B (hc0 : ¬cond0_0 i) (hc1 : cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x512) hz]
  simp only [View.readAt_eq_ld, ha.read_unread, hb.read_unread, hs.read_unread,
    View.ld_unit_zero (S := S1024x1024) hz, View.ld_unit_zero (S := S1024x512) hz, shapeCast_self]

theorem out_B (hc0 : ¬cond0_0 i) (hc1 : cond0_1 i) :
    out0_B_2 (F := Ideal) c i aa ha ab hb ao ho aacc hs hc0 hc1 a b acc = k0_pay2 (F := Ideal) acc a b := by
  unfold out0_B_2
  rw [View.read_writes_eq_canon _ _ _ (cover0_B_2 (F := Ideal) c i aa ha ab hb ao ho aacc hs hc0 hc1 a b acc)]
  unfold kernelRun0_B
  dsimp only
  sl_unfold_words
  rw [View.canon_unit_zero (S := S1024x512) hz, View.readCov_unit_zero (S := S1024x512) _ hz]
  simp only [View.readAt_eq_ld, ha.read_unread, hb.read_unread, hs.read_unread,
    View.ld_unit_zero (S := S1024x1024) hz, View.ld_unit_zero (S := S1024x512) hz, shapeCast_self]

end Body

variable (m : (ℓ : Loc nD τ sig) → Buf (Elt Ideal) ℓ) (c : Dev nD)

/-- The arguments, and the two factors they make. -/
abbrev arg0 : FVec Ideal S8192x2048 .f32 := m ((c : Thread nD τ).loc main_arg0)
abbrev arg1 : FVec Ideal S512x2048 .f32 := m ((c : Thread nD τ).loc main_arg1)
def A (i : Fin 8192) (k : Fin 2048) : EReal := arg0 m c (ix2 i k)
def B (k : Fin 2048) (n : Fin 512) : EReal := arg1 m c (ix2 n k)

/-- The second factor as the host prepares it. -/
theorem V_b (k : Fin 2048) (n : Fin 512) : (V m c main_v1 : FVec Ideal S2048x512 .bf16) (ix2 k n) = B m c k n := by
  have e : V m c main_v1 = truncf .bf16 (transpose S2048x512 [1, 0] (arg1 m c) transposes_S512x2048_S2048x512_1_0) bitsLt_bf16_f32 := by
    show StableHlo.after hostOps0 _ _ = _
    unfold hostOps0
    after_results
  rw [e]
  unfold B
  pointwise

theorem idx : ∀ t : Fin cfg0.N, t.val / 2 < 8 ∧ win0_0.index t = ![t.val / 2, t.val % 2]
    ∧ win0_1.index t = ![t.val % 2, t.val / 2 % 1] ∧ win0_2.index t = ![t.val / 2, t.val / 2 % 1] :=
  (by decide +kernel : ∀ t : Fin grid0.N, _)

/-- The rows, the columns and the contracted entries a step uses. -/
def ra (t : Fin cfg0.N) (r : Fin 1024) : Fin 8192 := ⟨1024 * (t.val / 2) + r.val, by have := (idx t).1; have := r.isLt; omega⟩
def cb (t : Fin cfg0.N) (d : Fin 512) : Fin 512 := ⟨512 * (t.val / 2 % 1) + d.val, by have := d.isLt; omega⟩
def kk (t : Fin cfg0.N) (k : Fin 1024) : Fin 2048 := ⟨1024 * (t.val % 2) + k.val, by have := k.isLt; omega⟩

theorem a_apply (t : Fin cfg0.N) (r : Fin 1024) (k : Fin 1024) : (iblk m c 0 t : FVec Ideal S1024x1024 .f32) (ix2 r k) = A m c (ra t r) (kk t k) := by
  unfold A arg0 ra kk; rw [← V_main_arg0 m c]; blk_ext [iblk, idx t]

theorem b_apply (t : Fin cfg0.N) (k : Fin 1024) (d : Fin 512) : (iblk m c 1 t : FVec Ideal S1024x512 .bf16) (ix2 k d) = B m c (kk t k) (cb t d) := by
  rw [← V_b]; unfold kk cb; blk_ext [iblk, idx t]

theorem pay_at (acc : FVec Ideal S1024x512 .f32) (t : Fin cfg0.N) (r : Fin 1024) (d : Fin 512) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 2 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]; dsimp only; rw [sout_B]

theorem last (t : Fin cfg0.N) (h1 : t.val % 2 = 1) : (outsAt0 m c t.val t.isLt).1 = (outsAt0 m c t.val t.isLt).2 := by
  rw [outsAt0_B m c t (by omega) h1]; dsimp only; rw [sout_B, out_B]

/-- What the call computes. -/
def res : FVec Ideal S8192x512 .f32 := fun i => (∑ k : Fin 2048, A m c (i 0) k * B m c k (i 1) : EReal)

theorem total (t : Fin cfg0.N) (h : t.val % 2 = 1) (r : Fin 1024) (d : Fin 512) :
    (outsAt0 m c t.val t.isLt).2 (ix2 r d) = (∑ k : Fin 2048, A m c (ra t r) k * B m c k (cb t d) : EReal) :=
  product_at (nk := 2) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_XoDo := fun m ρ _ => Cert.XoDo.Gen.frame m ρ
theorem frame_pi : Cert.quiescent_XoDoIdeal := fun m ρ _ => Cert.XoDoIdeal.Gen.frame m ρ
theorem frame_ri : Cert.quiescent_XoDoRefIdeal := fun m ρ _ => (θ_run Cert.XoDoRefIdeal.defs _ _).mono
  (fun r h => ⟨fun c => (h c).2, sem_eq_zero_of_no_sems (by decide) r.2⟩) (Cert.XoDoRefIdeal.Value.run (F := Ideal) m ρ)

/-- The call and the reference end with the same array. -/
theorem algebraic : Cert.algebraic_XoDoIdeal_XoDoRefIdeal := by
  intro m ρ m' ρ' _ hag
  refine ⟨fun c => res m c, ?_, ?_⟩
  · exact (θ_run Cert.XoDoIdeal.defs _ _).mono (fun r h c => ⟨(h c).1.trans (final m c), (h c).2⟩) (Cert.XoDoIdeal.Value.run_blocks (F := Ideal) m ρ)
  · refine (θ_run Cert.XoDoRefIdeal.defs _ _).mono (fun r h c => ⟨(h c).1.trans ?_, (h c).2⟩) (Cert.XoDoRefIdeal.Value.run (F := Ideal) m' ρ')
    obtain ⟨h0, h1⟩ := hag c
    rw [h0, h1]
    funext i
    obtain ⟨r, d, rfl⟩ := pair (n := 8192) (m := 512) i
    refine Eq.trans (b := (∑ k : Fin 2048, arg0 m c (ix2 r k) * arg1 m c (ix2 d k) : EReal)) (by pointwise) ?_
    rfl

end Cert.XoDoRun

end
-- ==== Proof.Prod.XoDw.lean ====
/- The gradient of the output projection of the cross-attention into its weight: the 2048 by 512 product over 8192, formed in 2 by 1 tiles of 1024 by 512
   and 8 steps of 1024 along the contracted axis. -/
module

public import proofs.«01_k».proof.Defs
public import proofs.«01_k».proof.Proof.Gen.XoDw
public import proofs.«01_k».proof.Proof.Gen.XoDw.Frame
public import proofs.«01_k».proof.Proof.Gen.XoDwIdeal.Value
public import proofs.«01_k».proof.Proof.Gen.XoDwRefIdeal.Run
public import proofs.«01_k».proof.Proof.Prod.Tiled
public import Idealize.ShloMosaic.Lib.StableHlo.Run

@[expose] public section

set_option maxRecDepth 16384

noncomputable section

namespace Cert.XoDwRun

open Cert.XoDwIdeal Cert.XoDwIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x512 .f32) (a : FVec Ideal S1024x1024 .f32) (b : FVec Ideal S1024x512 .bf16) (r : Fin 1024) (d : Fin 512) :
    k0_pay2 acc a b (ix2 r d) = (acc (ix2 r d) + ∑ k : Fin 1024, a (ix2 k r) * b (ix2 k d) : EReal) := by
  pointwise [k0_pay2]

section Body
variable (c : Dev nD) (i : grid0.Coords)
  (aa : Memref sig .tc .vmem S1024x1024 .f32) (ha : aa.IsWhole)
  (ab : Memref sig .tc .vmem S1024x512 .bf16) (hb : ab.IsWhole)
  (ao : Memref sig .tc .vmem S1024x512 .bf16) (ho : ao.IsWhole)
  (aacc : Memref sig .tc .vmem S1024x512 .f32) (hs : aacc.IsWhole)
  (a : FVec Ideal S1024x1024 .f32) (b : FVec Ideal S1024x512 .bf16) (acc : FVec Ideal S1024x512 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x512) hz, View.readCov_unit_zero (S := S1024x512) _ hz]
  simp only [View.readAt_eq_ld, ha.read_unread, hb.read_unread,
    View.ld_unit_zero (S := S1024x1024) hz, View.ld_unit_zero (S := S1024x512) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x512) hz]
  simp only [View.readAt_eq_ld, ha.read_unread, hb.read_unread, hs.read_unread,
    View.ld_unit_zero (S := S1024x1024) hz, View.ld_unit_zero (S := S1024x512) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S1024x512) hz]
  simp only [View.readAt_eq_ld, ha.read_unread, hb.read_unread, hs.read_unread,
    View.ld_unit_zero (S := S1024x1024) hz, View.ld_unit_zero (S := S1024x512) hz, shapeCast_self]

theorem out_C (hc0 : ¬cond0_0 i) (hc1 : cond0_1 i) :
    out0_C_2 (F := Ideal) c i aa ha ab hb ao ho aacc hs hc0 hc1 a b acc = k0_pay3 (F := Ideal) (k0_pay2 (F := Ideal) acc a b) := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S1024x512) hz, View.readCov_unit_zero (S := S1024x512) _ hz]
  simp only [View.readAt_eq_ld, ha.read_unread, hb.read_unread, hs.read_unread,
    View.ld_unit_zero (S := S1024x1024) hz, View.ld_unit_zero (S := S1024x512) hz, shapeCast_self]

end Body

variable (m : (ℓ : Loc nD τ sig) → Buf (Elt Ideal) ℓ) (c : Dev nD)

/-- The arguments, and the two factors they make. -/
abbrev arg0 : FVec Ideal S8192x2048 .f32 := m ((c : Thread nD τ).loc main_arg0)
abbrev arg1 : FVec Ideal S8192x512 .bf16 := m ((c : Thread nD τ).loc main_arg1)
def A (i : Fin 2048) (k : Fin 8192) : EReal := arg0 m c (ix2 k i)
def B (k : Fin 8192) (n : Fin 512) : EReal := arg1 m c (ix2 k n)

theorem idx : ∀ t : Fin cfg0.N, t.val / 8 < 2 ∧ win0_0.index t = ![t.val % 8, t.val / 8]
    ∧ win0_1.index t = ![t.val % 8, t.val / 8 % 1] ∧ win0_2.index t = ![t.val / 8, t.val / 8 % 1] :=
  (by decide +kernel : ∀ t : Fin grid0.N, _)

/-- The rows, the columns and the contracted entries a step uses. -/
def ra (t : Fin cfg0.N) (r : Fin 1024) : Fin 2048 := ⟨1024 * (t.val / 8) + r.val, by have := (idx t).1; have := r.isLt; omega⟩
def cb (t : Fin cfg0.N) (d : Fin 512) : Fin 512 := ⟨512 * (t.val / 8 % 1) + d.val, by have := d.isLt; omega⟩
def kk (t : Fin cfg0.N) (k : Fin 1024) : Fin 8192 := ⟨1024 * (t.val % 8) + k.val, by have := k.isLt; omega⟩

theorem a_apply (t : Fin cfg0.N) (r : Fin 1024) (k : Fin 1024) : (iblk m c 0 t : FVec Ideal S1024x1024 .f32) (ix2 k r) = A m c (ra t r) (kk t k) := by
  unfold A arg0 ra kk; rw [← V_main_arg0 m c]; blk_ext [iblk, idx t]

theorem b_apply (t : Fin cfg0.N) (k : Fin 1024) (d : Fin 512) : (iblk m c 1 t : FVec Ideal S1024x512 .bf16) (ix2 k d) = B m c (kk t k) (cb t d) := by
  unfold B arg1 kk cb; rw [← V_main_arg1 m c]; blk_ext [iblk, idx t]

theorem pay_at (acc : FVec Ideal S1024x512 .f32) (t : Fin cfg0.N) (r : Fin 1024) (d : Fin 512) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 8 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 8 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]; dsimp only; rw [sout_C]
  · rw [outsAt0_B m c t h0 h1]; dsimp only; rw [sout_B]

theorem last (t : Fin cfg0.N) (h1 : t.val % 8 = 7) : (outsAt0 m c t.val t.isLt).1 = k0_pay3 (F := Ideal) ((outsAt0 m c t.val t.isLt).2) := by
  rw [outsAt0_C m c t (by omega) h1]; dsimp only; rw [sout_C, out_C]

/-- What the call computes. -/
def res : FVec Ideal S2048x512 .bf16 := fun i => (∑ k : Fin 8192, A m c (i 0) k * B m c k (i 1) : EReal)

theorem total (t : Fin cfg0.N) (h : t.val % 8 = 7) (r : Fin 1024) (d : Fin 512) :
    (outsAt0 m c t.val t.isLt).2 (ix2 r d) = (∑ k : Fin 8192, A m c (ra t r) k * B m c k (cb t d) : EReal) :=
  product_at (nk := 8) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h]
  refine Eq.trans (b := (outsAt0 m c t.val t.isLt).2 (ix2 r d)) rfl ?_
  rw [total m c t h]
  rfl

theorem frame_p : Cert.quiescent_XoDw := fun m ρ _ => Cert.XoDw.Gen.frame m ρ
theorem frame_pi : Cert.quiescent_XoDwIdeal := fun m ρ _ => Cert.XoDwIdeal.Gen.frame m ρ
theorem frame_ri : Cert.quiescent_XoDwRefIdeal := fun m ρ _ => (θ_run Cert.XoDwRefIdeal.defs _ _).mono
  (fun r h => ⟨fun c => (h c).2, sem_eq_zero_of_no_sems (by decide) r.2⟩) (Cert.XoDwRefIdeal.Value.run (F := Ideal) m ρ)

/-- The call and the reference end with the same array. -/
theorem algebraic : Cert.algebraic_XoDwIdeal_XoDwRefIdeal := by
  intro m ρ m' ρ' _ hag
  refine ⟨fun c => res m c, ?_, ?_⟩
  · exact (θ_run Cert.XoDwIdeal.defs _ _).mono (fun r h c => ⟨(h c).1.trans (final m c), (h c).2⟩) (Cert.XoDwIdeal.Value.run_blocks (F := Ideal) m ρ)
  · refine (θ_run Cert.XoDwRefIdeal.defs _ _).mono (fun r h c => ⟨(h c).1.trans ?_, (h c).2⟩) (Cert.XoDwRefIdeal.Value.run (F := Ideal) m' ρ')
    obtain ⟨h0, h1⟩ := hag c
    rw [h0, h1]
    funext i
    obtain ⟨r, d, rfl⟩ := pair (n := 2048) (m := 512) i
    refine Eq.trans (b := (∑ k : Fin 8192, arg0 m c (ix2 k r) * arg1 m c (ix2 k d) : EReal)) (by pointwise) ?_
    rfl

end Cert.XoDwRun

end
-- ==== Proof.Prod.XqDh.lean ====
/- The gradient of the query projection of the cross-attention into its argument: the 8192 by 2048 product over 512, formed in 8 by 2 tiles of 1024 by 1024
   over the whole contracted axis. -/
module

public import proofs.«01_k».proof.Defs
public import proofs.«01_k».proof.Proof.Gen.XqDh
public import proofs.«01_k».proof.Proof.Gen.XqDh.Frame
public import proofs.«01_k».proof.Proof.Gen.XqDhIdeal.Value
public import proofs.«01_k».proof.Proof.Gen.XqDhRefIdeal.Run
public import proofs.«01_k».proof.Proof.Prod.Tiled
public import Idealize.ShloMosaic.Lib.StableHlo.Run

@[expose] public section

set_option maxRecDepth 16384

noncomputable section

namespace Cert.XqDhRun

open Cert.XqDhIdeal Cert.XqDhIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S1024x512 .bf16) (b : FVec Ideal S1024x512 .bf16) (r : Fin 1024) (d : Fin 1024) :
    k0_pay2 acc a b (ix2 r d) = (acc (ix2 r d) + ∑ k : Fin 512, a (ix2 r k) * b (ix2 d k) : EReal) := by
  pointwise [k0_pay2]

section Body
variable (c : Dev nD) (i : grid0.Coords)
  (aa : Memref sig .tc .vmem S1024x512 .bf16) (ha : aa.IsWhole)
  (ab : Memref sig .tc .vmem S1024x512 .bf16) (hb : ab.IsWhole)
  (ao : Memref sig .tc .vmem S1024x1024 .f32) (ho : ao.IsWhole)
  (aacc : Memref sig .tc .vmem S1024x1024 .f32) (hs : aacc.IsWhole)
  (a : FVec Ideal S1024x512 .bf16) (b : FVec Ideal S1024x512 .bf16) (acc : FVec Ideal S1024x1024 .f32)

theorem out_A (hc0 : cond0_0 i) (hc1 : cond0_1 i) :
    out0_A_2 (F := Ideal) c i aa ha ab hb ao ho aacc hs hc0 hc1 a b  = k0_pay2 (F := Ideal) (k0_pay1 (F := Ideal)) a b := by
  unfold out0_A_2
  rw [View.read_writes_eq_canon _ _ _ (cover0_A_2 (F := Ideal) c i aa ha ab hb ao ho aacc hs hc0 hc1 a b )]
  unfold kernelRun0_A
  dsimp only
  sl_unfold_words
  rw [View.canon_unit_zero (S := S1024x1024) hz, readCov_cons_unit_zero (S := S1024x1024) _ hz, View.readCov_unit_zero (S := S1024x1024) _ hz]
  simp only [View.readAt_eq_ld, ha.read_unread, hb.read_unread,
    View.ld_unit_zero (S := S1024x512) hz, View.ld_unit_zero (S := S1024x1024) hz, shapeCast_self]

end Body

variable (m : (ℓ : Loc nD τ sig) → Buf (Elt Ideal) ℓ) (c : Dev nD)

/-- The arguments, and the two factors they make. -/
abbrev arg0 : FVec Ideal S8192x512 .bf16 := m ((c : Thread nD τ).loc main_arg0)
abbrev arg1 : FVec Ideal S2048x512 .f32 := m ((c : Thread nD τ).loc main_arg1)
def A (i : Fin 8192) (k : Fin 512) : EReal := arg0 m c (ix2 i k)
def B (k : Fin 512) (n : Fin 2048) : EReal := arg1 m c (ix2 n k)

/-- The second factor as the host prepares it. -/
theorem V_b (k : Fin 512) (n : Fin 2048) : (V m c main_v0 : FVec Ideal S2048x512 .bf16) (ix2 n k) = B m c k n := by
  have e : V m c main_v0 = truncf .bf16 (arg1 m c) bitsLt_bf16_f32 := by
    show StableHlo.after hostOps0 _ _ = _
    unfold hostOps0
    after_results
  rw [e]
  unfold B
  pointwise

theorem idx : ∀ t : Fin cfg0.N, t.val / 2 < 8 ∧ win0_0.index t = ![t.val / 2, t.val % 1]
    ∧ win0_1.index t = ![t.val / 1 % 2, t.val % 1] ∧ win0_2.index t = ![t.val / 2, t.val / 1 % 2] :=
  (by decide +kernel : ∀ t : Fin grid0.N, _)

/-- The rows, the columns and the contracted entries a step uses. -/
def ra (t : Fin cfg0.N) (r : Fin 1024) : Fin 8192 := ⟨1024 * (t.val / 2) + r.val, by have := (idx t).1; have := r.isLt; omega⟩
def cb (t : Fin cfg0.N) (d : Fin 1024) : Fin 2048 := ⟨1024 * (t.val / 1 % 2) + d.val, by have := d.isLt; omega⟩
def kk (t : Fin cfg0.N) (k : Fin 512) : Fin 512 := ⟨512 * (t.val % 1) + k.val, by have := k.isLt; omega⟩

theorem a_apply (t : Fin cfg0.N) (r : Fin 1024) (k : Fin 512) : (iblk m c 0 t : FVec Ideal S1024x512 .bf16) (ix2 r k) = A m c (ra t r) (kk t k) := by
  unfold A arg0 ra kk; rw [← V_main_arg0 m c]; blk_ext [iblk, idx t]

theorem b_apply (t : Fin cfg0.N) (k : Fin 512) (d : Fin 1024) : (iblk m c 1 t : FVec Ideal S1024x512 .bf16) (ix2 d k) = B m c (kk t k) (cb t d) := by
  rw [← V_b]; unfold kk cb; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 512, A m c (ra t r) (kk t k) * B m c (kk t k) (cb t d) : EReal) :=
  (pay_apply acc _ _ r d).trans (congrArg _ (Finset.sum_congr rfl fun k _ => by rw [a_apply, b_apply]))

theorem last (t : Fin cfg0.N) : outsAt0 m c t = k0_pay2 (F := Ideal) (k0_pay1 (F := Ideal)) (iblk m c 0 t) (iblk m c 1 t) := by
  unfold outsAt0; exact out_A ..

/-- What the call computes. -/
def res : FVec Ideal S8192x2048 .f32 := fun i => (∑ k : Fin 512, A m c (i 0) k * B m c k (i 1) : EReal)

theorem total (t : Fin cfg0.N) (r : Fin 1024) (d : Fin 1024) :
    k0_pay2 (F := Ideal) (k0_pay1 (F := Ideal)) (iblk m c 0 t) (iblk m c 1 t) (ix2 r d) = (∑ k : Fin 512, A m c (ra t r) k * B m c k (cb t d) : EReal) :=
  product_at (nk := 1) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => k0_pay2 (F := Ideal) (k0_pay1 (F := Ideal)) (iblk m c 0 ⟨n, h⟩) (iblk m c 1 ⟨n, h⟩)) (fun _ _ => rfl) (fun t h => absurd (Nat.mod_one t.val) h) t (Nat.mod_one _) r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have e : (win0_2.blk t).view.emb (ix2 r d) = ix2 (ra t r) (cb t d) := by unfold ra cb; blk_ext [idx t]
  rw [e]
  rw [last m c t, total m c t]
  rfl

theorem frame_p : Cert.quiescent_XqDh := fun m ρ _ => Cert.XqDh.Gen.frame m ρ
theorem frame_pi : Cert.quiescent_XqDhIdeal := fun m ρ _ => Cert.XqDhIdeal.Gen.frame m ρ
theorem frame_ri : Cert.quiescent_XqDhRefIdeal := fun m ρ _ => (θ_run Cert.XqDhRefIdeal.defs _ _).mono
  (fun r h => ⟨fun c => (h c).2, sem_eq_zero_of_no_sems (by decide) r.2⟩) (Cert.XqDhRefIdeal.Value.run (F := Ideal) m ρ)

/-- The call and the reference end with the same array. -/
theorem algebraic : Cert.algebraic_XqDhIdeal_XqDhRefIdeal := by
  intro m ρ m' ρ' _ hag
  refine ⟨fun c => res m c, ?_, ?_⟩
  · exact (θ_run Cert.XqDhIdeal.defs _ _).mono (fun r h c => ⟨(h c).1.trans (final m c), (h c).2⟩) (Cert.XqDhIdeal.Value.run_blocks (F := Ideal) m ρ)
  · refine (θ_run Cert.XqDhRefIdeal.defs _ _).mono (fun r h c => ⟨(h c).1.trans ?_, (h c).2⟩) (Cert.XqDhRefIdeal.Value.run (F := Ideal) m' ρ')
    obtain ⟨h0, h1⟩ := hag c
    rw [h0, h1]
    funext i
    obtain ⟨r, d, rfl⟩ := pair (n := 8192) (m := 2048) i
    refine Eq.trans (b := (∑ k : Fin 512, arg0 m c (ix2 r k) * arg1 m c (ix2 d k) : EReal)) (by pointwise) ?_
    rfl

end Cert.XqDhRun

end
-- ==== Proof.Prod.XqDw.lean ====
/- The gradient of the query projection of the cross-attention into its weight: the 2048 by 512 product over 8192, formed in 2 by 1 tiles of 1024 by 512
   and 8 steps of 1024 along the contracted axis. -/
module

public import proofs.«01_k».proof.Defs
public import proofs.«01_k».proof.Proof.Gen.XqDw
public import proofs.«01_k».proof.Proof.Gen.XqDw.Frame
public import proofs.«01_k».proof.Proof.Gen.XqDwIdeal.Value
public import proofs.«01_k».proof.Proof.Gen.XqDwRefIdeal.Run
public import proofs.«01_k».proof.Proof.Prod.Tiled
public import Idealize.ShloMosaic.Lib.StableHlo.Run

@[expose] public section

set_option maxRecDepth 16384

noncomputable section

namespace Cert.XqDwRun

open Cert.XqDwIdeal Cert.XqDwIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x512 .f32) (a : FVec Ideal S1024x1024 .bf16) (b : FVec Ideal S1024x512 .bf16) (r : Fin 1024) (d : Fin 512) :
    k0_pay2 acc a b (ix2 r d) = (acc (ix2 r d) + ∑ k : Fin 1024, a (ix2 k r) * b (ix2 k d) : EReal) := by
  pointwise [k0_pay2]

section Body
variable (c : Dev nD) (i : grid0.Coords)
  (aa : Memref sig .tc .vmem S1024x1024 .bf16) (ha : aa.IsWhole)
  (ab : Memref sig .tc .vmem S1024x512 .bf16) (hb : ab.IsWhole)
  (ao : Memref sig .tc .vmem S1024x512 .bf16) (ho : ao.IsWhole)
  (aacc : Memref sig .tc .vmem S1024x512 .f32) (hs : aacc.IsWhole)
  (a : FVec Ideal S1024x1024 .bf16) (b : FVec Ideal S1024x512 .bf16) (acc : FVec Ideal S1024x512 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S1024x512) hz, View.readCov_unit_zero (S := S1024x512) _ hz]
  simp only [View.readAt_eq_ld, ha.read_unread, hb.read_unread,
    View.ld_unit_zero (S := S1024x1024) hz, View.ld_unit_zero (S := S1024x512) hz, shapeCast_self]

theorem sout_B (hc0 : ¬cond0_0 i) (hc1 : ¬cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S1024x512) hz]
  simp only [View.readAt_eq_ld, ha.read_unread, hb.read_unread, hs.read_unread,
    View.ld_unit_zero (S := S1024x1024) hz, View.ld_unit_zero (S := S1024x512) hz, shapeCast_self]

theorem sout_C (hc0 : ¬cond0_0 i) (hc1 : cond0_1 i) :
    sout0_C_0 (F := Ideal) c i aa ha ab hb ao ho aacc hs hc0 hc1 a b acc = k0_pay2 (F := Ideal) acc a b := by
  unfold sout0_C_0
  rw [View.read_writes_eq_canon _ _ _ (scover0_C_0 (F := Ideal) c i aa ha ab hb ao ho aacc hs hc0 hc1 a b acc)]
  unfold kernelRun0_C
  dsimp only
  sl_unfold_words
  rw [View.canon_unit_zero (S := S1024x512) hz]
  simp only [View.readAt_eq_ld, ha.read_unread, hb.read_unread, hs.read_unread,
    View.ld_unit_zero (S := S1024x1024) hz, View.ld_unit_zero (S := S1024x512) hz, shapeCast_self]

theorem out_C (hc0 : ¬cond0_0 i) (hc1 : cond0_1 i) :
    out0_C_2 (F := Ideal) c i aa ha ab hb ao ho aacc hs hc0 hc1 a b acc = k0_pay3 (F := Ideal) (k0_pay2 (F := Ideal) acc a b) := by
  unfold out0_C_2
  rw [View.read_writes_eq_canon _ _ _ (cover0_C_2 (F := Ideal) c i aa ha ab hb ao ho aacc hs hc0 hc1 a b acc)]
  unfold kernelRun0_C
  dsimp only
  sl_unfold_words
  rw [View.canon_unit_zero (S := S1024x512) hz, View.readCov_unit_zero (S := S1024x512) _ hz]
  simp only [View.readAt_eq_ld, ha.read_unread, hb.read_unread, hs.read_unread,
    View.ld_unit_zero (S := S1024x1024) hz, View.ld_unit_zero (S := S1024x512) hz, shapeCast_self]

end Body

variable (m : (ℓ : Loc nD τ sig) → Buf (Elt Ideal) ℓ) (c : Dev nD)

/-- The arguments, and the two factors they make. -/
abbrev arg0 : FVec Ideal S8192x2048 .bf16 := m ((c : Thread nD τ).loc main_arg0)
abbrev arg1 : FVec Ideal S8192x512 .bf16 := m ((c : Thread nD τ).loc main_arg1)
def A (i : Fin 2048) (k : Fin 8192) : EReal := arg0 m c (ix2 k i)
def B (k : Fin 8192) (n : Fin 512) : EReal := arg1 m c (ix2 k n)

theorem idx : ∀ t : Fin cfg0.N, t.val / 8 < 2 ∧ win0_0.index t = ![t.val % 8, t.val / 8]
    ∧ win0_1.index t = ![t.val % 8, t.val / 8 % 1] ∧ win0_2.index t = ![t.val / 8, t.val / 8 % 1] :=
  (by decide +kernel : ∀ t : Fin grid0.N, _)

/-- The rows, the columns and the contracted entries a step uses. -/
def ra (t : Fin cfg0.N) (r : Fin 1024) : Fin 2048 := ⟨1024 * (t.val / 8) + r.val, by have := (idx t).1; have := r.isLt; omega⟩
def cb (t : Fin cfg0.N) (d : Fin 512) : Fin 512 := ⟨512 * (t.val / 8 % 1) + d.val, by have := d.isLt; omega⟩
def kk (t : Fin cfg0.N) (k : Fin 1024) : Fin 8192 := ⟨1024 * (t.val % 8) + k.val, by have := k.isLt; omega⟩

theorem a_apply (t : Fin cfg0.N) (r : Fin 1024) (k : Fin 1024) : (iblk m c 0 t : FVec Ideal S1024x1024 .bf16) (ix2 k r) = A m c (ra t r) (kk t k) := by
  unfold A arg0 ra kk; rw [← V_main_arg0 m c]; blk_ext [iblk, idx t]

theorem b_apply (t : Fin cfg0.N) (k : Fin 1024) (d : Fin 512) : (iblk m c 1 t : FVec Ideal S1024x512 .bf16) (ix2 k d) = B m c (kk t k) (cb t d) := by
  unfold B arg1 kk cb; rw [← V_main_arg1 m c]; blk_ext [iblk, idx t]

theorem pay_at (acc : FVec Ideal S1024x512 .f32) (t : Fin cfg0.N) (r : Fin 1024) (d : Fin 512) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 8 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 8 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]; dsimp only; rw [sout_C]
  · rw [outsAt0_B m c t h0 h1]; dsimp only; rw [sout_B]

theorem last (t : Fin cfg0.N) (h1 : t.val % 8 = 7) : (outsAt0 m c t.val t.isLt).1 = k0_pay3 (F := Ideal) ((outsAt0 m c t.val t.isLt).2) := by
  rw [outsAt0_C m c t (by omega) h1]; dsimp only; rw [sout_C, out_C]

/-- What the call computes. -/
def res : FVec Ideal S2048x512 .bf16 := fun i => (∑ k : Fin 8192, A m c (i 0) k * B m c k (i 1) : EReal)

theorem total (t : Fin cfg0.N) (h : t.val % 8 = 7) (r : Fin 1024) (d : Fin 512) :
    (outsAt0 m c t.val t.isLt).2 (ix2 r d) = (∑ k : Fin 8192, A m c (ra t r) k * B m c k (cb t d) : EReal) :=
  product_at (nk := 8) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h]
  refine Eq.trans (b := (outsAt0 m c t.val t.isLt).2 (ix2 r d)) rfl ?_
  rw [total m c t h]
  rfl

theorem frame_p : Cert.quiescent_XqDw := fun m ρ _ => Cert.XqDw.Gen.frame m ρ
theorem frame_pi : Cert.quiescent_XqDwIdeal := fun m ρ _ => Cert.XqDwIdeal.Gen.frame m ρ
theorem frame_ri : Cert.quiescent_XqDwRefIdeal := fun m ρ _ => (θ_run Cert.XqDwRefIdeal.defs _ _).mono
  (fun r h => ⟨fun c => (h c).2, sem_eq_zero_of_no_sems (by decide) r.2⟩) (Cert.XqDwRefIdeal.Value.run (F := Ideal) m ρ)

/-- The call and the reference end with the same array. -/
theorem algebraic : Cert.algebraic_XqDwIdeal_XqDwRefIdeal := by
  intro m ρ m' ρ' _ hag
  refine ⟨fun c => res m c, ?_, ?_⟩
  · exact (θ_run Cert.XqDwIdeal.defs _ _).mono (fun r h c => ⟨(h c).1.trans (final m c), (h c).2⟩) (Cert.XqDwIdeal.Value.run_blocks (F := Ideal) m ρ)
  · refine (θ_run Cert.XqDwRefIdeal.defs _ _).mono (fun r h c => ⟨(h c).1.trans ?_, (h c).2⟩) (Cert.XqDwRefIdeal.Value.run (F := Ideal) m' ρ')
    obtain ⟨h0, h1⟩ := hag c
    rw [h0, h1]
    funext i
    obtain ⟨r, d, rfl⟩ := pair (n := 2048) (m := 512) i
    refine Eq.trans (b := (∑ k : Fin 8192, arg1 m c (ix2 k d) * arg0 m c (ix2 k r) : EReal)) (by pointwise) ?_
    exact Finset.sum_congr rfl fun k _ => mul_comm _ _

end Cert.XqDwRun

end
-- ==== Proof.Prod.XkvIn.lean ====
/- The key and value projection of the memory: the 256 by 1024 product over 2048, formed in 1 by 1 tiles of 256 by 1024
   and 2 steps of 1024 along the contracted axis. -/
module

public import proofs.«01_k».proof.Defs
public import proofs.«01_k».proof.Proof.Gen.XkvIn
public import proofs.«01_k».proof.Proof.Gen.XkvIn.Frame
public import proofs.«01_k».proof.Proof.Gen.XkvInIdeal.Value
public import proofs.«01_k».proof.Proof.Gen.XkvInRefIdeal.Run
public import proofs.«01_k».proof.Proof.Prod.Tiled
public import Idealize.ShloMosaic.Lib.StableHlo.Run

@[expose] public section

set_option maxRecDepth 16384

noncomputable section

namespace Cert.XkvInRun

open Cert.XkvInIdeal Cert.XkvInIdeal.Gen Cert.Prod
open Idealize.ShloMosaic Idealize.ShloMosaic.TcCoe Idealize.SL.Sem
open Idealize.ShloMosaic.Pipeline (Dat)

/-- One step: the product of two tiles is added. -/
theorem pay_apply (acc : FVec Ideal S256x1024 .f32) (a : FVec Ideal S256x1024 .bf16) (b : FVec Ideal S1024x1024 .bf16) (r : Fin 256) (d : Fin 1024) :
    k0_pay2 acc a b (ix2 r d) = (acc (ix2 r d) + ∑ k : Fin 1024, a (ix2 r k) * b (ix2 k d) : EReal) := by
  pointwise [k0_pay2]

section Body
variable (c : Dev nD) (i : grid0.Coords)
  (aa : Memref sig .tc .vmem S256x1024 .bf16) (ha : aa.IsWhole)
  (ab : Memref sig .tc .vmem S1024x1024 .bf16) (hb : ab.IsWhole)
  (ao : Memref sig .tc .vmem S256x1024 .f32) (ho : ao.IsWhole)
  (aacc : Memref sig .tc .vmem S256x1024 .f32) (hs : aacc.IsWhole)
  (a : FVec Ideal S256x1024 .bf16) (b : FVec Ideal S1024x1024 .bf16) (acc : FVec Ideal S256x1024 .f32)

theorem sout_A (hc0 : cond0_0 i) (hc1 : ¬cond0_1 i) :
    sout0_A_0 (F := Ideal) c i aa ha ab hb ao ho aacc hs hc0 hc1 a b  = k0_pay2 (F := Ideal) (k0_pay1 (F := Ideal)) a b := by
  unfold sout0_A_0
  rw [View.read_writes_eq_canon _ _ _ (scover0_A_0 (F := Ideal) c i aa ha ab hb ao ho aacc hs hc0 hc1 a b )]
  unfold kernelRun0_A
  dsimp only
  sl_unfold_words
  rw [View.canon_cons_unit_zero (S := S256x1024) hz, View.readCov_unit_zero (S := S256x1024) _ hz]
  simp only [View.readAt_eq_ld, ha.read_unread, hb.read_unread,
    View.ld_unit_zero (S := S256x1024) hz, View.ld_unit_zero (S := S1024x1024) hz, shapeCast_self]

theorem sout_B (hc0 : ¬cond0_0 i) (hc1 : cond0_1 i) :
    sout0_B_0 (F := Ideal) c i aa ha ab hb ao ho aacc hs hc0 hc1 a b acc = k0_pay2 (F := Ideal) acc a b := by
  unfold sout0_B_0
  rw [View.read_writes_eq_canon _ _ _ (scover0_B_0 (F := Ideal) c i aa ha ab hb ao ho aacc hs hc0 hc1 a b acc)]
  unfold kernelRun0_B
  dsimp only
  sl_unfold_words
  rw [View.canon_unit_zero (S := S256x1024) hz]
  simp only [View.readAt_eq_ld, ha.read_unread, hb.read_unread, hs.read_unread,
    View.ld_unit_zero (S := S256x1024) hz, View.ld_unit_zero (S := S1024x1024) hz, shapeCast_self]

theorem out_B (hc0 : ¬cond0_0 i) (hc1 : cond0_1 i) :
    out0_B_2 (F := Ideal) c i aa ha ab hb ao ho aacc hs hc0 hc1 a b acc = k0_pay2 (F := Ideal) acc a b := by
  unfold out0_B_2
  rw [View.read_writes_eq_canon _ _ _ (cover0_B_2 (F := Ideal) c i aa ha ab hb ao ho aacc hs hc0 hc1 a b acc)]
  unfold kernelRun0_B
  dsimp only
  sl_unfold_words
  rw [View.canon_unit_zero (S := S256x1024) hz, View.readCov_unit_zero (S := S256x1024) _ hz]
  simp only [View.readAt_eq_ld, ha.read_unread, hb.read_unread, hs.read_unread,
    View.ld_unit_zero (S := S256x1024) hz, View.ld_unit_zero (S := S1024x1024) hz, shapeCast_self]

end Body

variable (m : (ℓ : Loc nD τ sig) → Buf (Elt Ideal) ℓ) (c : Dev nD)

/-- The arguments, and the two factors they make. -/
abbrev arg0 : FVec Ideal S256x2048 .bf16 := m ((c : Thread nD τ).loc main_arg0)
abbrev arg1 : FVec Ideal S2048x1024 .f32 := m ((c : Thread nD τ).loc main_arg1)
def A (i : Fin 256) (k : Fin 2048) : EReal := arg0 m c (ix2 i k)
def B (k : Fin 2048) (n : Fin 1024) : EReal := arg1 m c (ix2 k n)

/-- The second factor as the host prepares it. -/
theorem V_b (k : Fin 2048) (n : Fin 1024) : (V m c main_v0 : FVec Ideal S2048x1024 .bf16) (ix2 k n) = B m c k n := by
  have e : V m c main_v0 = truncf .bf16 (arg1 m c) bitsLt_bf16_f32 := by
    show StableHlo.after hostOps0 _ _ = _
    unfold hostOps0
    after_results
  rw [e]
  unfold B
  pointwise

theorem idx : ∀ t : Fin cfg0.N, t.val / 2 < 1 ∧ win0_0.index t = ![t.val / 2, t.val % 2]
    ∧ win0_1.index t = ![t.val % 2, t.val / 2 % 1] ∧ win0_2.index t = ![t.val / 2, t.val / 2 % 1] :=
  (by decide +kernel : ∀ t : Fin grid0.N, _)

/-- The rows, the columns and the contracted entries a step uses. -/
def ra (t : Fin cfg0.N) (r : Fin 256) : Fin 256 := ⟨256 * (t.val / 2) + r.val, by have := (idx t).1; have := r.isLt; omega⟩
def cb (t : Fin cfg0.N) (d : Fin 1024) : Fin 1024 := ⟨1024 * (t.val / 2 % 1) + d.val, by have := d.isLt; omega⟩
def kk (t : Fin cfg0.N) (k : Fin 1024) : Fin 2048 := ⟨1024 * (t.val % 2) + k.val, by have := k.isLt; omega⟩

theorem a_apply (t : Fin cfg0.N) (r : Fin 256) (k : Fin 1024) : (iblk m c 0 t : FVec Ideal S256x1024 .bf16) (ix2 r k) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .bf16) (ix2 k d) = B m c (kk t k) (cb t d) := by
  rw [← V_b]; unfold kk cb; blk_ext [iblk, idx t]

theorem pay_at (acc : FVec Ideal S256x1024 .f32) (t : Fin cfg0.N) (r : Fin 256) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem first (t : Fin cfg0.N) (h0 : t.val % 2 = 0) : (outsAt0 m c t.val t.isLt).2 = k0_pay2 (F := Ideal) (k0_pay1 (F := Ideal)) (iblk m c 0 t) (iblk m c 1 t) := by
  rw [outsAt0_A m c t h0 (by omega)]; dsimp only; rw [sout_A]

theorem next (t : Fin cfg0.N) (h0 : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 (by omega)]; dsimp only; rw [sout_B]

theorem last (t : Fin cfg0.N) (h1 : t.val % 2 = 1) : (outsAt0 m c t.val t.isLt).1 = (outsAt0 m c t.val t.isLt).2 := by
  rw [outsAt0_B m c t (by omega) h1]; dsimp only; rw [sout_B, out_B]

/-- What the call computes. -/
def res : FVec Ideal S256x1024 .f32 := fun i => (∑ k : Fin 2048, A m c (i 0) k * B m c k (i 1) : EReal)

theorem total (t : Fin cfg0.N) (h : t.val % 2 = 1) (r : Fin 256) (d : Fin 1024) :
    (outsAt0 m c t.val t.isLt).2 (ix2 r d) = (∑ k : Fin 2048, A m c (ra t r) k * B m c k (cb t d) : EReal) :=
  product_at (nk := 2) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => (outsAt0 m c n h).2) (first m c) (next m c) t h r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have h := (flush0_2 t).mp hf
  have e : (win0_2.blk t).view.emb (ix2 r d) = ix2 (ra t r) (cb t d) := by unfold ra cb; blk_ext [idx t]
  rw [e]
  rw [last m c t h, total m c t h]
  rfl

theorem frame_p : Cert.quiescent_XkvIn := fun m ρ _ => Cert.XkvIn.Gen.frame m ρ
theorem frame_pi : Cert.quiescent_XkvInIdeal := fun m ρ _ => Cert.XkvInIdeal.Gen.frame m ρ
theorem frame_ri : Cert.quiescent_XkvInRefIdeal := fun m ρ _ => (θ_run Cert.XkvInRefIdeal.defs _ _).mono
  (fun r h => ⟨fun c => (h c).2, sem_eq_zero_of_no_sems (by decide) r.2⟩) (Cert.XkvInRefIdeal.Value.run (F := Ideal) m ρ)

/-- The call and the reference end with the same array. -/
theorem algebraic : Cert.algebraic_XkvInIdeal_XkvInRefIdeal := by
  intro m ρ m' ρ' _ hag
  refine ⟨fun c => res m c, ?_, ?_⟩
  · exact (θ_run Cert.XkvInIdeal.defs _ _).mono (fun r h c => ⟨(h c).1.trans (final m c), (h c).2⟩) (Cert.XkvInIdeal.Value.run_blocks (F := Ideal) m ρ)
  · refine (θ_run Cert.XkvInRefIdeal.defs _ _).mono (fun r h c => ⟨(h c).1.trans ?_, (h c).2⟩) (Cert.XkvInRefIdeal.Value.run (F := Ideal) m' ρ')
    obtain ⟨h0, h1⟩ := hag c
    rw [h0, h1]
    funext i
    obtain ⟨r, d, rfl⟩ := pair (n := 256) (m := 1024) i
    refine Eq.trans (b := (∑ k : Fin 2048, arg0 m c (ix2 r k) * arg1 m c (ix2 k d) : EReal)) (by pointwise) ?_
    rfl

end Cert.XkvInRun

end
-- ==== Proof.Prod.XkvDh.lean ====
/- The gradient of the key and value projection into the memory: the 256 by 2048 product over 1024, formed in 1 by 2 tiles of 256 by 1024
   over the whole contracted axis. -/
module

public import proofs.«01_k».proof.Defs
public import proofs.«01_k».proof.Proof.Gen.XkvDh
public import proofs.«01_k».proof.Proof.Gen.XkvDh.Frame
public import proofs.«01_k».proof.Proof.Gen.XkvDhIdeal.Value
public import proofs.«01_k».proof.Proof.Gen.XkvDhRefIdeal.Run
public import proofs.«01_k».proof.Proof.Prod.Tiled
public import Idealize.ShloMosaic.Lib.StableHlo.Run

@[expose] public section

set_option maxRecDepth 16384

noncomputable section

namespace Cert.XkvDhRun

open Cert.XkvDhIdeal Cert.XkvDhIdeal.Gen Cert.Prod
open Idealize.ShloMosaic Idealize.ShloMosaic.TcCoe Idealize.SL.Sem
open Idealize.ShloMosaic.Pipeline (Dat)

/-- One step: the product of two tiles is added. -/
theorem pay_apply (acc : FVec Ideal S256x1024 .f32) (a : FVec Ideal S256x1024 .f32) (b : FVec Ideal S1024x1024 .bf16) (r : Fin 256) (d : Fin 1024) :
    k0_pay2 acc a b (ix2 r d) = (acc (ix2 r d) + ∑ k : Fin 1024, a (ix2 r k) * b (ix2 d k) : EReal) := by
  pointwise [k0_pay2]

section Body
variable (c : Dev nD) (i : grid0.Coords)
  (aa : Memref sig .tc .vmem S256x1024 .f32) (ha : aa.IsWhole)
  (ab : Memref sig .tc .vmem S1024x1024 .bf16) (hb : ab.IsWhole)
  (ao : Memref sig .tc .vmem S256x1024 .f32) (ho : ao.IsWhole)
  (aacc : Memref sig .tc .vmem S256x1024 .f32) (hs : aacc.IsWhole)
  (a : FVec Ideal S256x1024 .f32) (b : FVec Ideal S1024x1024 .bf16) (acc : FVec Ideal S256x1024 .f32)

theorem out_A (hc0 : cond0_0 i) (hc1 : cond0_1 i) :
    out0_A_2 (F := Ideal) c i aa ha ab hb ao ho aacc hs hc0 hc1 a b  = k0_pay2 (F := Ideal) (k0_pay1 (F := Ideal)) a b := by
  unfold out0_A_2
  rw [View.read_writes_eq_canon _ _ _ (cover0_A_2 (F := Ideal) c i aa ha ab hb ao ho aacc hs hc0 hc1 a b )]
  unfold kernelRun0_A
  dsimp only
  sl_unfold_words
  rw [View.canon_unit_zero (S := S256x1024) hz, readCov_cons_unit_zero (S := S256x1024) _ hz, View.readCov_unit_zero (S := S256x1024) _ hz]
  simp only [View.readAt_eq_ld, ha.read_unread, hb.read_unread,
    View.ld_unit_zero (S := S256x1024) hz, View.ld_unit_zero (S := S1024x1024) hz, shapeCast_self]

end Body

variable (m : (ℓ : Loc nD τ sig) → Buf (Elt Ideal) ℓ) (c : Dev nD)

/-- The arguments, and the two factors they make. -/
abbrev arg0 : FVec Ideal S256x1024 .f32 := m ((c : Thread nD τ).loc main_arg0)
abbrev arg1 : FVec Ideal S2048x1024 .f32 := m ((c : Thread nD τ).loc main_arg1)
def A (i : Fin 256) (k : Fin 1024) : EReal := arg0 m c (ix2 i k)
def B (k : Fin 1024) (n : Fin 2048) : EReal := arg1 m c (ix2 n k)

/-- The second factor as the host prepares it. -/
theorem V_b (k : Fin 1024) (n : Fin 2048) : (V m c main_v0 : FVec Ideal S2048x1024 .bf16) (ix2 n k) = B m c k n := by
  have e : V m c main_v0 = truncf .bf16 (arg1 m c) bitsLt_bf16_f32 := by
    show StableHlo.after hostOps0 _ _ = _
    unfold hostOps0
    after_results
  rw [e]
  unfold B
  pointwise

theorem idx : ∀ t : Fin cfg0.N, t.val / 2 < 1 ∧ win0_0.index t = ![t.val / 2, t.val % 1]
    ∧ win0_1.index t = ![t.val / 1 % 2, t.val % 1] ∧ win0_2.index t = ![t.val / 2, t.val / 1 % 2] :=
  (by decide +kernel : ∀ t : Fin grid0.N, _)

/-- The rows, the columns and the contracted entries a step uses. -/
def ra (t : Fin cfg0.N) (r : Fin 256) : Fin 256 := ⟨256 * (t.val / 2) + r.val, by have := (idx t).1; have := r.isLt; omega⟩
def cb (t : Fin cfg0.N) (d : Fin 1024) : Fin 2048 := ⟨1024 * (t.val / 1 % 2) + d.val, by have := d.isLt; omega⟩
def kk (t : Fin cfg0.N) (k : Fin 1024) : Fin 1024 := ⟨1024 * (t.val % 1) + k.val, by have := k.isLt; omega⟩

theorem a_apply (t : Fin cfg0.N) (r : Fin 256) (k : Fin 1024) : (iblk m c 0 t : FVec Ideal S256x1024 .f32) (ix2 r k) = A m c (ra t r) (kk t k) := by
  unfold A arg0 ra kk; rw [← V_main_arg0 m c]; blk_ext [iblk, idx t]

theorem b_apply (t : Fin cfg0.N) (k : Fin 1024) (d : Fin 1024) : (iblk m c 1 t : FVec Ideal S1024x1024 .bf16) (ix2 d k) = B m c (kk t k) (cb t d) := by
  rw [← V_b]; unfold kk cb; blk_ext [iblk, idx t]

theorem pay_at (acc : FVec Ideal S256x1024 .f32) (t : Fin cfg0.N) (r : Fin 256) (d : Fin 1024) :
    k0_pay2 (F := Ideal) acc (iblk m c 0 t) (iblk m c 1 t) (ix2 r d) = (acc (ix2 r d) + ∑ k : Fin 1024, A m c (ra t r) (kk t k) * B m c (kk t k) (cb t d) : EReal) :=
  (pay_apply acc _ _ r d).trans (congrArg _ (Finset.sum_congr rfl fun k _ => by rw [a_apply, b_apply]))

theorem last (t : Fin cfg0.N) : outsAt0 m c t = k0_pay2 (F := Ideal) (k0_pay1 (F := Ideal)) (iblk m c 0 t) (iblk m c 1 t) := by
  unfold outsAt0; exact out_A ..

/-- What the call computes. -/
def res : FVec Ideal S256x2048 .f32 := fun i => (∑ k : Fin 1024, A m c (i 0) k * B m c k (i 1) : EReal)

theorem total (t : Fin cfg0.N) (r : Fin 256) (d : Fin 1024) :
    k0_pay2 (F := Ideal) (k0_pay1 (F := Ideal)) (iblk m c 0 t) (iblk m c 1 t) (ix2 r d) = (∑ k : Fin 1024, A m c (ra t r) k * B m c k (cb t d) : EReal) :=
  product_at (nk := 1) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => k0_pay2 (F := Ideal) (k0_pay1 (F := Ideal)) (iblk m c 0 ⟨n, h⟩) (iblk m c 1 ⟨n, h⟩)) (fun _ _ => rfl) (fun t h => absurd (Nat.mod_one t.val) h) t (Nat.mod_one _) r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have e : (win0_2.blk t).view.emb (ix2 r d) = ix2 (ra t r) (cb t d) := by unfold ra cb; blk_ext [idx t]
  rw [e]
  rw [last m c t, total m c t]
  rfl

theorem frame_p : Cert.quiescent_XkvDh := fun m ρ _ => Cert.XkvDh.Gen.frame m ρ
theorem frame_pi : Cert.quiescent_XkvDhIdeal := fun m ρ _ => Cert.XkvDhIdeal.Gen.frame m ρ
theorem frame_ri : Cert.quiescent_XkvDhRefIdeal := fun m ρ _ => (θ_run Cert.XkvDhRefIdeal.defs _ _).mono
  (fun r h => ⟨fun c => (h c).2, sem_eq_zero_of_no_sems (by decide) r.2⟩) (Cert.XkvDhRefIdeal.Value.run (F := Ideal) m ρ)

/-- The call and the reference end with the same array. -/
theorem algebraic : Cert.algebraic_XkvDhIdeal_XkvDhRefIdeal := by
  intro m ρ m' ρ' _ hag
  refine ⟨fun c => res m c, ?_, ?_⟩
  · exact (θ_run Cert.XkvDhIdeal.defs _ _).mono (fun r h c => ⟨(h c).1.trans (final m c), (h c).2⟩) (Cert.XkvDhIdeal.Value.run_blocks (F := Ideal) m ρ)
  · refine (θ_run Cert.XkvDhRefIdeal.defs _ _).mono (fun r h c => ⟨(h c).1.trans ?_, (h c).2⟩) (Cert.XkvDhRefIdeal.Value.run (F := Ideal) m' ρ')
    obtain ⟨h0, h1⟩ := hag c
    rw [h0, h1]
    funext i
    obtain ⟨r, d, rfl⟩ := pair (n := 256) (m := 2048) i
    refine Eq.trans (b := (∑ k : Fin 1024, arg0 m c (ix2 r k) * arg1 m c (ix2 d k) : EReal)) (by pointwise) ?_
    rfl

end Cert.XkvDhRun

end
-- ==== Proof.Prod.XkvDw.lean ====
/- The gradient of the key and value projection into its weight: the 2048 by 1024 product over 256, formed in 2 by 1 tiles of 1024 by 1024
   over the whole contracted axis. -/
module

public import proofs.«01_k».proof.Defs
public import proofs.«01_k».proof.Proof.Gen.XkvDw
public import proofs.«01_k».proof.Proof.Gen.XkvDw.Frame
public import proofs.«01_k».proof.Proof.Gen.XkvDwIdeal.Value
public import proofs.«01_k».proof.Proof.Gen.XkvDwRefIdeal.Run
public import proofs.«01_k».proof.Proof.Prod.Tiled
public import Idealize.ShloMosaic.Lib.StableHlo.Run

@[expose] public section

set_option maxRecDepth 16384

noncomputable section

namespace Cert.XkvDwRun

open Cert.XkvDwIdeal Cert.XkvDwIdeal.Gen Cert.Prod
open Idealize.ShloMosaic Idealize.ShloMosaic.TcCoe Idealize.SL.Sem
open Idealize.ShloMosaic.Pipeline (Dat)

/-- One step: the product of two tiles is added. -/
theorem pay_apply (acc : FVec Ideal S1024x1024 .f32) (a : FVec Ideal S256x1024 .bf16) (b : FVec Ideal S256x1024 .f32) (r : Fin 1024) (d : Fin 1024) :
    k0_pay2 acc a b (ix2 r d) = (acc (ix2 r d) + ∑ k : Fin 256, a (ix2 k r) * b (ix2 k d) : EReal) := by
  pointwise [k0_pay2]

section Body
variable (c : Dev nD) (i : grid0.Coords)
  (aa : Memref sig .tc .vmem S256x1024 .bf16) (ha : aa.IsWhole)
  (ab : Memref sig .tc .vmem S256x1024 .f32) (hb : ab.IsWhole)
  (ao : Memref sig .tc .vmem S1024x1024 .bf16) (ho : ao.IsWhole)
  (aacc : Memref sig .tc .vmem S1024x1024 .f32) (hs : aacc.IsWhole)
  (a : FVec Ideal S256x1024 .bf16) (b : FVec Ideal S256x1024 .f32) (acc : FVec Ideal S1024x1024 .f32)

theorem out_A (hc0 : cond0_0 i) (hc1 : cond0_1 i) :
    out0_A_2 (F := Ideal) c i aa ha ab hb ao ho aacc hs hc0 hc1 a b  = k0_pay3 (F := Ideal) (k0_pay2 (F := Ideal) (k0_pay1 (F := Ideal)) a b) := by
  unfold out0_A_2
  rw [View.read_writes_eq_canon _ _ _ (cover0_A_2 (F := Ideal) c i aa ha ab hb ao ho aacc hs hc0 hc1 a b )]
  unfold kernelRun0_A
  dsimp only
  sl_unfold_words
  rw [View.canon_unit_zero (S := S1024x1024) hz, readCov_cons_unit_zero (S := S1024x1024) _ hz, View.readCov_unit_zero (S := S1024x1024) _ hz]
  simp only [View.readAt_eq_ld, ha.read_unread, hb.read_unread,
    View.ld_unit_zero (S := S256x1024) hz, View.ld_unit_zero (S := S1024x1024) hz, shapeCast_self]

end Body

variable (m : (ℓ : Loc nD τ sig) → Buf (Elt Ideal) ℓ) (c : Dev nD)

/-- The arguments, and the two factors they make. -/
abbrev arg0 : FVec Ideal S256x2048 .bf16 := m ((c : Thread nD τ).loc main_arg0)
abbrev arg1 : FVec Ideal S256x1024 .f32 := m ((c : Thread nD τ).loc main_arg1)
def A (i : Fin 2048) (k : Fin 256) : EReal := arg0 m c (ix2 k i)
def B (k : Fin 256) (n : Fin 1024) : EReal := arg1 m c (ix2 k n)

theorem idx : ∀ t : Fin cfg0.N, t.val / 1 < 2 ∧ win0_0.index t = ![t.val % 1, t.val / 1]
    ∧ win0_1.index t = ![t.val % 1, t.val / 1 % 1] ∧ win0_2.index t = ![t.val / 1, t.val / 1 % 1] :=
  (by decide +kernel : ∀ t : Fin grid0.N, _)

/-- The rows, the columns and the contracted entries a step uses. -/
def ra (t : Fin cfg0.N) (r : Fin 1024) : Fin 2048 := ⟨1024 * (t.val / 1) + r.val, by have := (idx t).1; have := r.isLt; omega⟩
def cb (t : Fin cfg0.N) (d : Fin 1024) : Fin 1024 := ⟨1024 * (t.val / 1 % 1) + d.val, by have := d.isLt; omega⟩
def kk (t : Fin cfg0.N) (k : Fin 256) : Fin 256 := ⟨256 * (t.val % 1) + k.val, by have := k.isLt; omega⟩

theorem a_apply (t : Fin cfg0.N) (r : Fin 1024) (k : Fin 256) : (iblk m c 0 t : FVec Ideal S256x1024 .bf16) (ix2 k r) = A m c (ra t r) (kk t k) := by
  unfold A arg0 ra kk; rw [← V_main_arg0 m c]; blk_ext [iblk, idx t]

theorem b_apply (t : Fin cfg0.N) (k : Fin 256) (d : Fin 1024) : (iblk m c 1 t : FVec Ideal S256x1024 .f32) (ix2 k d) = B m c (kk t k) (cb t d) := by
  unfold B arg1 kk cb; rw [← V_main_arg1 m c]; blk_ext [iblk, idx t]

theorem pay_at (acc : FVec Ideal S1024x1024 .f32) (t : Fin cfg0.N) (r : Fin 1024) (d : Fin 1024) :
    k0_pay2 (F := Ideal) acc (iblk m c 0 t) (iblk m c 1 t) (ix2 r d) = (acc (ix2 r d) + ∑ k : Fin 256, A m c (ra t r) (kk t k) * B m c (kk t k) (cb t d) : EReal) :=
  (pay_apply acc _ _ r d).trans (congrArg _ (Finset.sum_congr rfl fun k _ => by rw [a_apply, b_apply]))

theorem last (t : Fin cfg0.N) : outsAt0 m c t = k0_pay3 (F := Ideal) (k0_pay2 (F := Ideal) (k0_pay1 (F := Ideal)) (iblk m c 0 t) (iblk m c 1 t)) := by
  unfold outsAt0; exact out_A ..

/-- What the call computes. -/
def res : FVec Ideal S2048x1024 .bf16 := fun i => (∑ k : Fin 256, A m c (i 0) k * B m c k (i 1) : EReal)

theorem total (t : Fin cfg0.N) (r : Fin 1024) (d : Fin 1024) :
    k0_pay2 (F := Ideal) (k0_pay1 (F := Ideal)) (iblk m c 0 t) (iblk m c 1 t) (ix2 r d) = (∑ k : Fin 256, A m c (ra t r) k * B m c k (cb t d) : EReal) :=
  product_at (nk := 1) rfl (A m c) (B m c) ra cb kk
    (fun s t h => funext fun r => Fin.ext (by unfold ra; dsimp only; omega)) (fun s t h => funext fun d => Fin.ext (by unfold cb; dsimp only; omega))
    (fun _ _ => rfl) (k0_pay1 (F := Ideal)) (fun x t => k0_pay2 (F := Ideal) x (iblk m c 0 t) (iblk m c 1 t)) (fun _ => by unfold k0_pay1; exact zero_word)
    (pay_at m c) (fun n h => k0_pay2 (F := Ideal) (k0_pay1 (F := Ideal)) (iblk m c 0 ⟨n, h⟩) (iblk m c 1 ⟨n, h⟩)) (fun _ _ => rfl) (fun t h => absurd (Nat.mod_one t.val) h) t (Nat.mod_one _) r d

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have e : (win0_2.blk t).view.emb (ix2 r d) = ix2 (ra t r) (cb t d) := by unfold ra cb; blk_ext [idx t]
  rw [e]
  rw [last m c t]
  refine Eq.trans (b := k0_pay2 (F := Ideal) (k0_pay1 (F := Ideal)) (iblk m c 0 t) (iblk m c 1 t) (ix2 r d)) rfl ?_
  rw [total m c t]
  rfl

theorem frame_p : Cert.quiescent_XkvDw := fun m ρ _ => Cert.XkvDw.Gen.frame m ρ
theorem frame_pi : Cert.quiescent_XkvDwIdeal := fun m ρ _ => Cert.XkvDwIdeal.Gen.frame m ρ
theorem frame_ri : Cert.quiescent_XkvDwRefIdeal := fun m ρ _ => (θ_run Cert.XkvDwRefIdeal.defs _ _).mono
  (fun r h => ⟨fun c => (h c).2, sem_eq_zero_of_no_sems (by decide) r.2⟩) (Cert.XkvDwRefIdeal.Value.run (F := Ideal) m ρ)

/-- The call and the reference end with the same array. -/
theorem algebraic : Cert.algebraic_XkvDwIdeal_XkvDwRefIdeal := by
  intro m ρ m' ρ' _ hag
  refine ⟨fun c => res m c, ?_, ?_⟩
  · exact (θ_run Cert.XkvDwIdeal.defs _ _).mono (fun r h c => ⟨(h c).1.trans (final m c), (h c).2⟩) (Cert.XkvDwIdeal.Value.run_blocks (F := Ideal) m ρ)
  · refine (θ_run Cert.XkvDwRefIdeal.defs _ _).mono (fun r h c => ⟨(h c).1.trans ?_, (h c).2⟩) (Cert.XkvDwRefIdeal.Value.run (F := Ideal) m' ρ')
    obtain ⟨h0, h1⟩ := hag c
    rw [h0, h1]
    funext i
    obtain ⟨r, d, rfl⟩ := pair (n := 2048) (m := 1024) i
    refine Eq.trans (b := (∑ k : Fin 256, arg1 m c (ix2 k d) * arg0 m c (ix2 k r) : EReal)) (by pointwise) ?_
    exact Finset.sum_congr rfl fun k _ => mul_comm _ _

end Cert.XkvDwRun

end
-- ==== Proof.Adam.Step.lean ====
/- One AdamW step of one weight entry: the gradient is the sum of what the eight devices sent, and the weight's change follows from the
   two moments it updates. -/
module

public import Idealize.ShloMosaic.Lib.Pointwise
public import Idealize.ShloMosaic.Lib.Pipeline.ValueKit

@[expose] public section

noncomputable section

namespace Cert.AdamStep

open Idealize.ShloMosaic

/-- The sum of the eight parts. -/
def grad (p : Fin 8 → EReal) : EReal := ∑ k, p k

theorem grad_eq (p : Fin 8 → EReal) : grad p = p 0 + p 1 + p 2 + p 3 + p 4 + p 5 + p 6 + p 7 := Fin.sum_univ_eight p

/-- The first and the second moment after the step. -/
def mom1 (g m : EReal) : EReal := Ideal.ofBits .f32 0x3F666666#32 * m + Ideal.ofBits .f32 0x3DCCCCCD#32 * g
def mom2 (g v : EReal) : EReal := Ideal.ofBits .f32 0x3F7FBE77#32 * v + Ideal.ofBits .f32 0x3A83126F#32 * (g * g)

/-- The change of the weight. -/
def change (g w m v : EReal) : EReal :=
  Ideal.ofBits .f32 0xBA83126F#32 * (Ideal.div (Ideal.div (mom1 g m) (Ideal.ofBits .f32 0x3F26BD02#32))
    (Ideal.sqrt (Ideal.div (mom2 g v) (Ideal.ofBits .f32 0x3C231ACC#32)) + Ideal.ofBits .f32 0x322BCC77#32)
    + Ideal.ofBits .f32 0x3C23D70A#32 * w)

theorem hz : (![0, 0] : Fin 2 → Nat) = fun _ => 0 := funext fun a => by fin_cases a <;> rfl

/-- An index of a matrix is a row and a column. -/
theorem pair {n m : ℕ} (y : (⟨2, ![n, m]⟩ : Shape).Idx) : ∃ (r : Fin n) (d : Fin m), y = ix2 r d :=
  ⟨y 0, y 1, by funext a; fin_cases a <;> rfl⟩

end Cert.AdamStep

end
-- ==== Proof.Adam.Xq.lean ====
/- The AdamW step of the query projection of the cross-attention: 256 by 512 entries in 1 by 1 tiles of 256 by 512. -/
module

public import proofs.«01_k».proof.Defs
public import proofs.«01_k».proof.Proof.Gen.AdamXq
public import proofs.«01_k».proof.Proof.Gen.AdamXq.Frame
public import proofs.«01_k».proof.Proof.Gen.AdamXqIdeal.Value
public import proofs.«01_k».proof.Proof.Gen.AdamXqRefIdeal.Run
public import proofs.«01_k».proof.Proof.Adam.Step
public import Idealize.ShloMosaic.Lib.StableHlo.Run

@[expose] public section

set_option maxRecDepth 16384

noncomputable section

namespace Cert.AdamXqRun

open Cert.AdamXqIdeal Cert.AdamXqIdeal.Gen Cert.AdamStep
open Idealize.ShloMosaic Idealize.ShloMosaic.TcCoe Idealize.SL.Sem
open Idealize.ShloMosaic.Pipeline (Dat)

section Body
variable (x0 : FVec Ideal S8x256x512 .bf16) (x1 x2 x3 : FVec Ideal S256x512 .f32) (r : Fin 256) (d : Fin 512)

theorem pay5_apply : k0_pay5 (F := Ideal) x0 x1 x2 x3 (ix2 r d) = (grad (fun k => x0 (ix3 k r d)) : EReal) := by
  rw [grad_eq]
  pointwise [k0_pay5, k0_pay4]

theorem out4 : out0_4 (F := Ideal) x0 x1 x2 x3 (ix2 r d) = (grad (fun k => x0 (ix3 k r d)) : EReal) := by
  unfold out0_4
  rw [View.canon_unit_zero (S := S256x512) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  rw [← pay5_apply x0 x1 x2 x3]
  unfold out0_5
  rw [View.canon_unit_zero (S := S256x512) hz]
  simp only [r0_8, View.ld_unit_zero (S := S256x512) hz]
  unfold change mom1 mom2
  pointwise [k0_pay3, k0_pay1, k0_pay2]

theorem out6 : out0_6 (F := Ideal) x0 x1 x2 x3 (ix2 r d) = (mom1 (grad fun k => x0 (ix3 k r d)) (x2 (ix2 r d)) : EReal) := by
  rw [← pay5_apply x0 x1 x2 x3]
  unfold out0_6
  rw [View.canon_unit_zero (S := S256x512) hz]
  simp only [r0_8, View.ld_unit_zero (S := S256x512) hz]
  unfold mom1
  pointwise [k0_pay1]

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S256x512) hz]
  simp only [r0_8, View.ld_unit_zero (S := S256x512) hz]
  unfold mom2
  pointwise [k0_pay2]

end Body

variable (m : (ℓ : Loc nD τ sig) → Buf (Elt Ideal) ℓ) (c : Dev nD)

/-- The arguments: the parts, the weight and its two moments. -/
abbrev arg0 : FVec Ideal S8x256x512 .bf16 := m ((c : Thread nD τ).loc main_arg0)
abbrev arg1 : FVec Ideal S256x512 .f32 := m ((c : Thread nD τ).loc main_arg1)
abbrev arg2 : FVec Ideal S256x512 .f32 := m ((c : Thread nD τ).loc main_arg2)
abbrev arg3 : FVec Ideal S256x512 .f32 := m ((c : Thread nD τ).loc main_arg3)
def G (i : Fin 256) (j : Fin 512) : EReal := grad fun k => arg0 m c (ix3 k i j)
def W (i : Fin 256) (j : Fin 512) : EReal := arg1 m c (ix2 i j)
def M (i : Fin 256) (j : Fin 512) : EReal := arg2 m c (ix2 i j)
def U (i : Fin 256) (j : Fin 512) : EReal := arg3 m c (ix2 i j)

theorem idx : ∀ t : Fin cfg0.N, t.val < 1 ∧ win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The rows and the columns of a tile. -/
def ra (t : Fin cfg0.N) (r : Fin 256) : Fin 256 := ⟨r.val, by have := (idx t).1; have := r.isLt; omega⟩
def cb (t : Fin cfg0.N) (d : Fin 512) : Fin 512 := ⟨d.val, by have := (idx t).1; have := d.isLt; omega⟩

theorem b0 (t : Fin cfg0.N) (k : Fin 8) (r : Fin 256) (d : Fin 512) :
    (iblk m c 0 t : FVec Ideal S8x256x512 .bf16) (ix3 k r d) = arg0 m c (ix3 k (ra t r) (cb t d)) := by
  unfold arg0 ra cb; rw [← V_main_arg0 m c]; blk_ext [iblk, idx t]
theorem b1 (t : Fin cfg0.N) (r : Fin 256) (d : Fin 512) : (iblk m c 1 t : FVec Ideal S256x512 .f32) (ix2 r d) = W m c (ra t r) (cb t d) := by
  unfold W arg1 ra cb; rw [← V_main_arg1 m c]; blk_ext [iblk, idx t]
theorem b2 (t : Fin cfg0.N) (r : Fin 256) (d : Fin 512) : (iblk m c 2 t : FVec Ideal S256x512 .f32) (ix2 r d) = M m c (ra t r) (cb t d) := by
  unfold M arg2 ra cb; rw [← V_main_arg2 m c]; blk_ext [iblk, idx t]
theorem b3 (t : Fin cfg0.N) (r : Fin 256) (d : Fin 512) : (iblk m c 3 t : FVec Ideal S256x512 .f32) (ix2 r d) = U m c (ra t r) (cb t d) := by
  unfold U arg3 ra cb; rw [← V_main_arg3 m c]; blk_ext [iblk, idx t]

/-- The four results. -/
def res4 : FVec Ideal S256x512 .f32 := fun i => (G m c (i 0) (i 1) : EReal)
def res5 : FVec Ideal S256x512 .f32 := fun i => (change (G m c (i 0) (i 1)) (W m c (i 0) (i 1)) (M m c (i 0) (i 1)) (U m c (i 0) (i 1)) : EReal)
def res6 : FVec Ideal S256x512 .f32 := fun i => (mom1 (G m c (i 0) (i 1)) (M m c (i 0) (i 1)) : EReal)
def res7 : FVec Ideal S256x512 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamXq := fun m ρ _ => Cert.AdamXq.Gen.frame m ρ
theorem frame_pi : Cert.quiescent_AdamXqIdeal := fun m ρ _ => Cert.AdamXqIdeal.Gen.frame m ρ
theorem frame_ri : Cert.quiescent_AdamXqRefIdeal := fun m ρ _ => (θ_run Cert.AdamXqRefIdeal.defs _ _).mono
  (fun r h => ⟨fun c => (h c).2.2.2.2, sem_eq_zero_of_no_sems (by decide) r.2⟩) (Cert.AdamXqRefIdeal.Value.run (F := Ideal) m ρ)

/-- The call and the reference end with the same four arrays. -/
theorem algebraic : Cert.algebraic_AdamXqIdeal_AdamXqRefIdeal := by
  intro m ρ m' ρ' _ hag
  refine ⟨fun c => res4 m c, fun c => res5 m c, fun c => res6 m c, fun c => res7 m c, ?_, ?_⟩
  · refine (θ_run Cert.AdamXqIdeal.defs _ _).mono (fun r h c => ?_) (Cert.AdamXqIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamXqRefIdeal.defs _ _).mono (fun r h c => ?_) (Cert.AdamXqRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 256) (m := 512) i
    · unfold res4 G grad
      pointwise
    · unfold res5 G W M U grad change mom1 mom2
      pointwise
    · unfold res6 G M grad mom1
      pointwise
    · unfold res7 G U grad mom2
      pointwise

end Cert.AdamXqRun

end
-- ==== Proof.Adam.Xkv.lean ====
/- The AdamW step of the key and value projection of the cross-attention: 256 by 1024 entries in 1 by 2 tiles of 256 by 512. -/
module

public import proofs.«01_k».proof.Defs
public import proofs.«01_k».proof.Proof.Gen.AdamXkv
public import proofs.«01_k».proof.Proof.Gen.AdamXkv.Frame
public import proofs.«01_k».proof.Proof.Gen.AdamXkvIdeal.Value
public import proofs.«01_k».proof.Proof.Gen.AdamXkvRefIdeal.Run
public import proofs.«01_k».proof.Proof.Adam.Step
public import Idealize.ShloMosaic.Lib.StableHlo.Run

@[expose] public section

set_option maxRecDepth 16384

noncomputable section

namespace Cert.AdamXkvRun

open Cert.AdamXkvIdeal Cert.AdamXkvIdeal.Gen Cert.AdamStep
open Idealize.ShloMosaic Idealize.ShloMosaic.TcCoe Idealize.SL.Sem
open Idealize.ShloMosaic.Pipeline (Dat)

section Body
variable (x0 : FVec Ideal S8x256x512 .bf16) (x1 x2 x3 : FVec Ideal S256x512 .f32) (r : Fin 256) (d : Fin 512)

theorem pay5_apply : k0_pay5 (F := Ideal) x0 x1 x2 x3 (ix2 r d) = (grad (fun k => x0 (ix3 k r d)) : EReal) := by
  rw [grad_eq]
  pointwise [k0_pay5, k0_pay4]

theorem out4 : out0_4 (F := Ideal) x0 x1 x2 x3 (ix2 r d) = (grad (fun k => x0 (ix3 k r d)) : EReal) := by
  unfold out0_4
  rw [View.canon_unit_zero (S := S256x512) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  rw [← pay5_apply x0 x1 x2 x3]
  unfold out0_5
  rw [View.canon_unit_zero (S := S256x512) hz]
  simp only [r0_8, View.ld_unit_zero (S := S256x512) hz]
  unfold change mom1 mom2
  pointwise [k0_pay3, k0_pay1, k0_pay2]

theorem out6 : out0_6 (F := Ideal) x0 x1 x2 x3 (ix2 r d) = (mom1 (grad fun k => x0 (ix3 k r d)) (x2 (ix2 r d)) : EReal) := by
  rw [← pay5_apply x0 x1 x2 x3]
  unfold out0_6
  rw [View.canon_unit_zero (S := S256x512) hz]
  simp only [r0_8, View.ld_unit_zero (S := S256x512) hz]
  unfold mom1
  pointwise [k0_pay1]

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S256x512) hz]
  simp only [r0_8, View.ld_unit_zero (S := S256x512) hz]
  unfold mom2
  pointwise [k0_pay2]

end Body

variable (m : (ℓ : Loc nD τ sig) → Buf (Elt Ideal) ℓ) (c : Dev nD)

/-- The arguments: the parts, the weight and its two moments. -/
abbrev arg0 : FVec Ideal S8x256x1024 .bf16 := m ((c : Thread nD τ).loc main_arg0)
abbrev arg1 : FVec Ideal S256x1024 .f32 := m ((c : Thread nD τ).loc main_arg1)
abbrev arg2 : FVec Ideal S256x1024 .f32 := m ((c : Thread nD τ).loc main_arg2)
abbrev arg3 : FVec Ideal S256x1024 .f32 := m ((c : Thread nD τ).loc main_arg3)
def G (i : Fin 256) (j : Fin 1024) : EReal := grad fun k => arg0 m c (ix3 k i j)
def W (i : Fin 256) (j : Fin 1024) : EReal := arg1 m c (ix2 i j)
def M (i : Fin 256) (j : Fin 1024) : EReal := arg2 m c (ix2 i j)
def U (i : Fin 256) (j : Fin 1024) : EReal := arg3 m c (ix2 i j)

theorem idx : ∀ t : Fin cfg0.N, t.val < 2 ∧ win0_0.index t = ![0, 0, t.val % 2] ∧ win0_1.index t = ![0, t.val % 2] ∧ win0_2.index t = ![0, t.val % 2] ∧ win0_3.index t = ![0, t.val % 2] ∧ win0_4.index t = ![0, t.val % 2] ∧ win0_5.index t = ![0, t.val % 2] ∧ win0_6.index t = ![0, t.val % 2] ∧ win0_7.index t = ![0, t.val % 2] :=
  (by decide +kernel : ∀ t : Fin grid0.N, _)

/-- The rows and the columns of a tile. -/
def ra (t : Fin cfg0.N) (r : Fin 256) : Fin 256 := ⟨r.val, by have := (idx t).1; have := r.isLt; omega⟩
def cb (t : Fin cfg0.N) (d : Fin 512) : Fin 1024 := ⟨512 * (t.val % 2) + d.val, by have := (idx t).1; have := d.isLt; omega⟩

theorem b0 (t : Fin cfg0.N) (k : Fin 8) (r : Fin 256) (d : Fin 512) :
    (iblk m c 0 t : FVec Ideal S8x256x512 .bf16) (ix3 k r d) = arg0 m c (ix3 k (ra t r) (cb t d)) := by
  unfold arg0 ra cb; rw [← V_main_arg0 m c]; blk_ext [iblk, idx t]
theorem b1 (t : Fin cfg0.N) (r : Fin 256) (d : Fin 512) : (iblk m c 1 t : FVec Ideal S256x512 .f32) (ix2 r d) = W m c (ra t r) (cb t d) := by
  unfold W arg1 ra cb; rw [← V_main_arg1 m c]; blk_ext [iblk, idx t]
theorem b2 (t : Fin cfg0.N) (r : Fin 256) (d : Fin 512) : (iblk m c 2 t : FVec Ideal S256x512 .f32) (ix2 r d) = M m c (ra t r) (cb t d) := by
  unfold M arg2 ra cb; rw [← V_main_arg2 m c]; blk_ext [iblk, idx t]
theorem b3 (t : Fin cfg0.N) (r : Fin 256) (d : Fin 512) : (iblk m c 3 t : FVec Ideal S256x512 .f32) (ix2 r d) = U m c (ra t r) (cb t d) := by
  unfold U arg3 ra cb; rw [← V_main_arg3 m c]; blk_ext [iblk, idx t]

/-- The four results. -/
def res4 : FVec Ideal S256x1024 .f32 := fun i => (G m c (i 0) (i 1) : EReal)
def res5 : FVec Ideal S256x1024 .f32 := fun i => (change (G m c (i 0) (i 1)) (W m c (i 0) (i 1)) (M m c (i 0) (i 1)) (U m c (i 0) (i 1)) : EReal)
def res6 : FVec Ideal S256x1024 .f32 := fun i => (mom1 (G m c (i 0) (i 1)) (M m c (i 0) (i 1)) : EReal)
def res7 : FVec Ideal S256x1024 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamXkv := fun m ρ _ => Cert.AdamXkv.Gen.frame m ρ
theorem frame_pi : Cert.quiescent_AdamXkvIdeal := fun m ρ _ => Cert.AdamXkvIdeal.Gen.frame m ρ
theorem frame_ri : Cert.quiescent_AdamXkvRefIdeal := fun m ρ _ => (θ_run Cert.AdamXkvRefIdeal.defs _ _).mono
  (fun r h => ⟨fun c => (h c).2.2.2.2, sem_eq_zero_of_no_sems (by decide) r.2⟩) (Cert.AdamXkvRefIdeal.Value.run (F := Ideal) m ρ)

/-- The call and the reference end with the same four arrays. -/
theorem algebraic : Cert.algebraic_AdamXkvIdeal_AdamXkvRefIdeal := by
  intro m ρ m' ρ' _ hag
  refine ⟨fun c => res4 m c, fun c => res5 m c, fun c => res6 m c, fun c => res7 m c, ?_, ?_⟩
  · refine (θ_run Cert.AdamXkvIdeal.defs _ _).mono (fun r h c => ?_) (Cert.AdamXkvIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamXkvRefIdeal.defs _ _).mono (fun r h c => ?_) (Cert.AdamXkvRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 256) (m := 1024) i
    · unfold res4 G grad
      pointwise
    · unfold res5 G W M U grad change mom1 mom2
      pointwise
    · unfold res6 G M grad mom1
      pointwise
    · unfold res7 G U grad mom2
      pointwise

end Cert.AdamXkvRun

end
-- ==== Proof.Adam.Xo.lean ====
/- The AdamW step of the output projection of the cross-attention: 256 by 512 entries in 1 by 1 tiles of 256 by 512. -/
module

public import proofs.«01_k».proof.Defs
public import proofs.«01_k».proof.Proof.Gen.AdamXo
public import proofs.«01_k».proof.Proof.Gen.AdamXo.Frame
public import proofs.«01_k».proof.Proof.Gen.AdamXoIdeal.Value
public import proofs.«01_k».proof.Proof.Gen.AdamXoRefIdeal.Run
public import proofs.«01_k».proof.Proof.Adam.Step
public import Idealize.ShloMosaic.Lib.StableHlo.Run

@[expose] public section

set_option maxRecDepth 16384

noncomputable section

namespace Cert.AdamXoRun

open Cert.AdamXoIdeal Cert.AdamXoIdeal.Gen Cert.AdamStep
open Idealize.ShloMosaic Idealize.ShloMosaic.TcCoe Idealize.SL.Sem
open Idealize.ShloMosaic.Pipeline (Dat)

section Body
variable (x0 : FVec Ideal S8x256x512 .bf16) (x1 x2 x3 : FVec Ideal S256x512 .f32) (r : Fin 256) (d : Fin 512)

theorem pay5_apply : k0_pay5 (F := Ideal) x0 x1 x2 x3 (ix2 r d) = (grad (fun k => x0 (ix3 k r d)) : EReal) := by
  rw [grad_eq]
  pointwise [k0_pay5, k0_pay4]

theorem out4 : out0_4 (F := Ideal) x0 x1 x2 x3 (ix2 r d) = (grad (fun k => x0 (ix3 k r d)) : EReal) := by
  unfold out0_4
  rw [View.canon_unit_zero (S := S256x512) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  rw [← pay5_apply x0 x1 x2 x3]
  unfold out0_5
  rw [View.canon_unit_zero (S := S256x512) hz]
  simp only [r0_8, View.ld_unit_zero (S := S256x512) hz]
  unfold change mom1 mom2
  pointwise [k0_pay3, k0_pay1, k0_pay2]

theorem out6 : out0_6 (F := Ideal) x0 x1 x2 x3 (ix2 r d) = (mom1 (grad fun k => x0 (ix3 k r d)) (x2 (ix2 r d)) : EReal) := by
  rw [← pay5_apply x0 x1 x2 x3]
  unfold out0_6
  rw [View.canon_unit_zero (S := S256x512) hz]
  simp only [r0_8, View.ld_unit_zero (S := S256x512) hz]
  unfold mom1
  pointwise [k0_pay1]

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S256x512) hz]
  simp only [r0_8, View.ld_unit_zero (S := S256x512) hz]
  unfold mom2
  pointwise [k0_pay2]

end Body

variable (m : (ℓ : Loc nD τ sig) → Buf (Elt Ideal) ℓ) (c : Dev nD)

/-- The arguments: the parts, the weight and its two moments. -/
abbrev arg0 : FVec Ideal S8x256x512 .bf16 := m ((c : Thread nD τ).loc main_arg0)
abbrev arg1 : FVec Ideal S512x256 .f32 := m ((c : Thread nD τ).loc main_arg1)
abbrev arg2 : FVec Ideal S512x256 .f32 := m ((c : Thread nD τ).loc main_arg2)
abbrev arg3 : FVec Ideal S512x256 .f32 := m ((c : Thread nD τ).loc main_arg3)
def G (i : Fin 256) (j : Fin 512) : EReal := grad fun k => arg0 m c (ix3 k i j)
def W (i : Fin 256) (j : Fin 512) : EReal := arg1 m c (ix2 j i)
def M (i : Fin 256) (j : Fin 512) : EReal := arg2 m c (ix2 j i)
def U (i : Fin 256) (j : Fin 512) : EReal := arg3 m c (ix2 j i)

/-- The host transposes the last three. -/
theorem V_W (i : Fin 256) (j : Fin 512) : (V m c main_v0 : FVec Ideal S256x512 .f32) (ix2 i j) = W m c i j := by
  have e : V m c main_v0 = transpose S256x512 [1, 0] (arg1 m c) transposes_S512x256_S256x512_1_0 := by
    show StableHlo.after hostOps0 _ _ = _
    unfold hostOps0
    after_results
  rw [e]
  unfold W
  pointwise
theorem V_M (i : Fin 256) (j : Fin 512) : (V m c main_v1 : FVec Ideal S256x512 .f32) (ix2 i j) = M m c i j := by
  have e : V m c main_v1 = transpose S256x512 [1, 0] (arg2 m c) transposes_S512x256_S256x512_1_0 := by
    show StableHlo.after hostOps0 _ _ = _
    unfold hostOps0
    after_results
  rw [e]
  unfold M
  pointwise
theorem V_U (i : Fin 256) (j : Fin 512) : (V m c main_v2 : FVec Ideal S256x512 .f32) (ix2 i j) = U m c i j := by
  have e : V m c main_v2 = transpose S256x512 [1, 0] (arg3 m c) transposes_S512x256_S256x512_1_0 := by
    show StableHlo.after hostOps0 _ _ = _
    unfold hostOps0
    after_results
  rw [e]
  unfold U
  pointwise

theorem idx : ∀ t : Fin cfg0.N, t.val < 1 ∧ win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The rows and the columns of a tile. -/
def ra (t : Fin cfg0.N) (r : Fin 256) : Fin 256 := ⟨r.val, by have := (idx t).1; have := r.isLt; omega⟩
def cb (t : Fin cfg0.N) (d : Fin 512) : Fin 512 := ⟨d.val, by have := (idx t).1; have := d.isLt; omega⟩

theorem b0 (t : Fin cfg0.N) (k : Fin 8) (r : Fin 256) (d : Fin 512) :
    (iblk m c 0 t : FVec Ideal S8x256x512 .bf16) (ix3 k r d) = arg0 m c (ix3 k (ra t r) (cb t d)) := by
  unfold arg0 ra cb; rw [← V_main_arg0 m c]; blk_ext [iblk, idx t]
theorem b1 (t : Fin cfg0.N) (r : Fin 256) (d : Fin 512) : (iblk m c 1 t : FVec Ideal S256x512 .f32) (ix2 r d) = W m c (ra t r) (cb t d) := by
  rw [← V_W]; unfold ra cb; blk_ext [iblk, idx t]
theorem b2 (t : Fin cfg0.N) (r : Fin 256) (d : Fin 512) : (iblk m c 2 t : FVec Ideal S256x512 .f32) (ix2 r d) = M m c (ra t r) (cb t d) := by
  rw [← V_M]; unfold ra cb; blk_ext [iblk, idx t]
theorem b3 (t : Fin cfg0.N) (r : Fin 256) (d : Fin 512) : (iblk m c 3 t : FVec Ideal S256x512 .f32) (ix2 r d) = U m c (ra t r) (cb t d) := by
  rw [← V_U]; unfold ra cb; blk_ext [iblk, idx t]

/-- The four results. -/
def res4 : FVec Ideal S256x512 .f32 := fun i => (G m c (i 0) (i 1) : EReal)
def res5 : FVec Ideal S256x512 .f32 := fun i => (change (G m c (i 0) (i 1)) (W m c (i 0) (i 1)) (M m c (i 0) (i 1)) (U m c (i 0) (i 1)) : EReal)
def res6 : FVec Ideal S256x512 .f32 := fun i => (mom1 (G m c (i 0) (i 1)) (M m c (i 0) (i 1)) : EReal)
def res7 : FVec Ideal S256x512 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamXo := fun m ρ _ => Cert.AdamXo.Gen.frame m ρ
theorem frame_pi : Cert.quiescent_AdamXoIdeal := fun m ρ _ => Cert.AdamXoIdeal.Gen.frame m ρ
theorem frame_ri : Cert.quiescent_AdamXoRefIdeal := fun m ρ _ => (θ_run Cert.AdamXoRefIdeal.defs _ _).mono
  (fun r h => ⟨fun c => (h c).2.2.2.2, sem_eq_zero_of_no_sems (by decide) r.2⟩) (Cert.AdamXoRefIdeal.Value.run (F := Ideal) m ρ)

/-- The call and the reference end with the same four arrays. -/
theorem algebraic : Cert.algebraic_AdamXoIdeal_AdamXoRefIdeal := by
  intro m ρ m' ρ' _ hag
  refine ⟨fun c => res4 m c, fun c => res5 m c, fun c => res6 m c, fun c => res7 m c, ?_, ?_⟩
  · refine (θ_run Cert.AdamXoIdeal.defs _ _).mono (fun r h c => ?_) (Cert.AdamXoIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamXoRefIdeal.defs _ _).mono (fun r h c => ?_) (Cert.AdamXoRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 256) (m := 512) i
    · unfold res4 G grad
      pointwise
    · unfold res5 G W M U grad change mom1 mom2
      pointwise
    · unfold res6 G M grad mom1
      pointwise
    · unfold res7 G U grad mom2
      pointwise

end Cert.AdamXoRun

end
-- ==== Proof.Adam.FfnIn.lean ====
/- The AdamW step of the input projection of the gated feed-forward: 1408 by 2048 entries in 11 by 4 tiles of 128 by 512. -/
module

public import proofs.«01_k».proof.Defs
public import proofs.«01_k».proof.Proof.Gen.AdamFfnIn
public import proofs.«01_k».proof.Proof.Gen.AdamFfnIn.Frame
public import proofs.«01_k».proof.Proof.Gen.AdamFfnInIdeal.Value
public import proofs.«01_k».proof.Proof.Gen.AdamFfnInRefIdeal.Run
public import proofs.«01_k».proof.Proof.Adam.Step
public import Idealize.ShloMosaic.Lib.StableHlo.Run

@[expose] public section

set_option maxRecDepth 16384

noncomputable section

namespace Cert.AdamFfnInRun

open Cert.AdamFfnInIdeal Cert.AdamFfnInIdeal.Gen Cert.AdamStep
open Idealize.ShloMosaic Idealize.ShloMosaic.TcCoe Idealize.SL.Sem
open Idealize.ShloMosaic.Pipeline (Dat)

section Body
variable (x0 : FVec Ideal S8x128x512 .bf16) (x1 x2 x3 : FVec Ideal S128x512 .f32) (r : Fin 128) (d : Fin 512)

theorem pay5_apply : k0_pay5 (F := Ideal) x0 x1 x2 x3 (ix2 r d) = (grad (fun k => x0 (ix3 k r d)) : EReal) := by
  rw [grad_eq]
  pointwise [k0_pay5, k0_pay4]

theorem out4 : out0_4 (F := Ideal) x0 x1 x2 x3 (ix2 r d) = (grad (fun k => x0 (ix3 k r d)) : EReal) := by
  unfold out0_4
  rw [View.canon_unit_zero (S := S128x512) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  rw [← pay5_apply x0 x1 x2 x3]
  unfold out0_5
  rw [View.canon_unit_zero (S := S128x512) hz]
  simp only [r0_8, View.ld_unit_zero (S := S128x512) hz]
  unfold change mom1 mom2
  pointwise [k0_pay3, k0_pay1, k0_pay2]

theorem out6 : out0_6 (F := Ideal) x0 x1 x2 x3 (ix2 r d) = (mom1 (grad fun k => x0 (ix3 k r d)) (x2 (ix2 r d)) : EReal) := by
  rw [← pay5_apply x0 x1 x2 x3]
  unfold out0_6
  rw [View.canon_unit_zero (S := S128x512) hz]
  simp only [r0_8, View.ld_unit_zero (S := S128x512) hz]
  unfold mom1
  pointwise [k0_pay1]

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S128x512) hz]
  simp only [r0_8, View.ld_unit_zero (S := S128x512) hz]
  unfold mom2
  pointwise [k0_pay2]

end Body

variable (m : (ℓ : Loc nD τ sig) → Buf (Elt Ideal) ℓ) (c : Dev nD)

/-- The arguments: the parts, the weight and its two moments. -/
abbrev arg0 : FVec Ideal S8x1408x2048 .bf16 := m ((c : Thread nD τ).loc main_arg0)
abbrev arg1 : FVec Ideal S2048x1408 .f32 := m ((c : Thread nD τ).loc main_arg1)
abbrev arg2 : FVec Ideal S2048x1408 .f32 := m ((c : Thread nD τ).loc main_arg2)
abbrev arg3 : FVec Ideal S2048x1408 .f32 := m ((c : Thread nD τ).loc main_arg3)
def G (i : Fin 1408) (j : Fin 2048) : EReal := grad fun k => arg0 m c (ix3 k i j)
def W (i : Fin 1408) (j : Fin 2048) : EReal := arg1 m c (ix2 j i)
def M (i : Fin 1408) (j : Fin 2048) : EReal := arg2 m c (ix2 j i)
def U (i : Fin 1408) (j : Fin 2048) : EReal := arg3 m c (ix2 j i)

/-- The host transposes the last three. -/
theorem V_W (i : Fin 1408) (j : Fin 2048) : (V m c main_v0 : FVec Ideal S1408x2048 .f32) (ix2 i j) = W m c i j := by
  have e : V m c main_v0 = transpose S1408x2048 [1, 0] (arg1 m c) transposes_S2048x1408_S1408x2048_1_0 := by
    show StableHlo.after hostOps0 _ _ = _
    unfold hostOps0
    after_results
  rw [e]
  unfold W
  pointwise
theorem V_M (i : Fin 1408) (j : Fin 2048) : (V m c main_v1 : FVec Ideal S1408x2048 .f32) (ix2 i j) = M m c i j := by
  have e : V m c main_v1 = transpose S1408x2048 [1, 0] (arg2 m c) transposes_S2048x1408_S1408x2048_1_0 := by
    show StableHlo.after hostOps0 _ _ = _
    unfold hostOps0
    after_results
  rw [e]
  unfold M
  pointwise
theorem V_U (i : Fin 1408) (j : Fin 2048) : (V m c main_v2 : FVec Ideal S1408x2048 .f32) (ix2 i j) = U m c i j := by
  have e : V m c main_v2 = transpose S1408x2048 [1, 0] (arg3 m c) transposes_S2048x1408_S1408x2048_1_0 := by
    show StableHlo.after hostOps0 _ _ = _
    unfold hostOps0
    after_results
  rw [e]
  unfold U
  pointwise

theorem idx : ∀ t : Fin cfg0.N, t.val < 44 ∧ win0_0.index t = ![0, t.val / 4, t.val % 4] ∧ win0_1.index t = ![t.val / 4, t.val % 4] ∧ win0_2.index t = ![t.val / 4, t.val % 4] ∧ win0_3.index t = ![t.val / 4, t.val % 4] ∧ win0_4.index t = ![t.val / 4, t.val % 4] ∧ win0_5.index t = ![t.val / 4, t.val % 4] ∧ win0_6.index t = ![t.val / 4, t.val % 4] ∧ win0_7.index t = ![t.val / 4, t.val % 4] :=
  (by decide +kernel : ∀ t : Fin grid0.N, _)

/-- The rows and the columns of a tile. -/
def ra (t : Fin cfg0.N) (r : Fin 128) : Fin 1408 := ⟨128 * (t.val / 4) + r.val, by have := (idx t).1; have := r.isLt; omega⟩
def cb (t : Fin cfg0.N) (d : Fin 512) : Fin 2048 := ⟨512 * (t.val % 4) + d.val, by have := (idx t).1; have := d.isLt; omega⟩

theorem b0 (t : Fin cfg0.N) (k : Fin 8) (r : Fin 128) (d : Fin 512) :
    (iblk m c 0 t : FVec Ideal S8x128x512 .bf16) (ix3 k r d) = arg0 m c (ix3 k (ra t r) (cb t d)) := by
  unfold arg0 ra cb; rw [← V_main_arg0 m c]; blk_ext [iblk, idx t]
theorem b1 (t : Fin cfg0.N) (r : Fin 128) (d : Fin 512) : (iblk m c 1 t : FVec Ideal S128x512 .f32) (ix2 r d) = W m c (ra t r) (cb t d) := by
  rw [← V_W]; unfold ra cb; blk_ext [iblk, idx t]
theorem b2 (t : Fin cfg0.N) (r : Fin 128) (d : Fin 512) : (iblk m c 2 t : FVec Ideal S128x512 .f32) (ix2 r d) = M m c (ra t r) (cb t d) := by
  rw [← V_M]; unfold ra cb; blk_ext [iblk, idx t]
theorem b3 (t : Fin cfg0.N) (r : Fin 128) (d : Fin 512) : (iblk m c 3 t : FVec Ideal S128x512 .f32) (ix2 r d) = U m c (ra t r) (cb t d) := by
  rw [← V_U]; unfold ra cb; blk_ext [iblk, idx t]

/-- The four results. -/
def res4 : FVec Ideal S1408x2048 .f32 := fun i => (G m c (i 0) (i 1) : EReal)
def res5 : FVec Ideal S1408x2048 .f32 := fun i => (change (G m c (i 0) (i 1)) (W m c (i 0) (i 1)) (M m c (i 0) (i 1)) (U m c (i 0) (i 1)) : EReal)
def res6 : FVec Ideal S1408x2048 .f32 := fun i => (mom1 (G m c (i 0) (i 1)) (M m c (i 0) (i 1)) : EReal)
def res7 : FVec Ideal S1408x2048 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamFfnIn := fun m ρ _ => Cert.AdamFfnIn.Gen.frame m ρ
theorem frame_pi : Cert.quiescent_AdamFfnInIdeal := fun m ρ _ => Cert.AdamFfnInIdeal.Gen.frame m ρ
theorem frame_ri : Cert.quiescent_AdamFfnInRefIdeal := fun m ρ _ => (θ_run Cert.AdamFfnInRefIdeal.defs _ _).mono
  (fun r h => ⟨fun c => (h c).2.2.2.2, sem_eq_zero_of_no_sems (by decide) r.2⟩) (Cert.AdamFfnInRefIdeal.Value.run (F := Ideal) m ρ)

/-- The call and the reference end with the same four arrays. -/
theorem algebraic : Cert.algebraic_AdamFfnInIdeal_AdamFfnInRefIdeal := by
  intro m ρ m' ρ' _ hag
  refine ⟨fun c => res4 m c, fun c => res5 m c, fun c => res6 m c, fun c => res7 m c, ?_, ?_⟩
  · refine (θ_run Cert.AdamFfnInIdeal.defs _ _).mono (fun r h c => ?_) (Cert.AdamFfnInIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamFfnInRefIdeal.defs _ _).mono (fun r h c => ?_) (Cert.AdamFfnInRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 1408) (m := 2048) i
    · unfold res4 G grad
      pointwise
    · unfold res5 G W M U grad change mom1 mom2
      pointwise
    · unfold res6 G M grad mom1
      pointwise
    · unfold res7 G U grad mom2
      pointwise

end Cert.AdamFfnInRun

end
-- ==== Proof.Adam.FfnConv.lean ====
/- The AdamW step of the taps of the feed-forward convolution: 3 by 704 entries in 1 by 1 tiles of 3 by 704. -/
module

public import proofs.«01_k».proof.Defs
public import proofs.«01_k».proof.Proof.Gen.AdamFfnConv
public import proofs.«01_k».proof.Proof.Gen.AdamFfnConv.Frame
public import proofs.«01_k».proof.Proof.Gen.AdamFfnConvIdeal.Value
public import proofs.«01_k».proof.Proof.Gen.AdamFfnConvRefIdeal.Run
public import proofs.«01_k».proof.Proof.Adam.Step
public import Idealize.ShloMosaic.Lib.StableHlo.Run

@[expose] public section

set_option maxRecDepth 16384

noncomputable section

namespace Cert.AdamFfnConvRun

open Cert.AdamFfnConvIdeal Cert.AdamFfnConvIdeal.Gen Cert.AdamStep
open Idealize.ShloMosaic Idealize.ShloMosaic.TcCoe Idealize.SL.Sem
open Idealize.ShloMosaic.Pipeline (Dat)

section Body
variable (x0 : FVec Ideal S8x3x704 .f32) (x1 x2 x3 : FVec Ideal S3x704 .f32) (r : Fin 3) (d : Fin 704)

theorem pay5_apply : k0_pay5 (F := Ideal) x0 x1 x2 x3 (ix2 r d) = (grad (fun k => x0 (ix3 k r d)) : EReal) := by
  rw [grad_eq]
  pointwise [k0_pay5, k0_pay3]

theorem pay6_apply : k0_pay6 (F := Ideal) x0 x1 x2 x3 (ix2 r d) = (mom1 (grad (fun k => x0 (ix3 k r d))) (x2 (ix2 r d)) : EReal) := by
  rw [grad_eq]
  unfold mom1
  pointwise [k0_pay6, k0_pay4, k0_pay3]

theorem out4 : out0_4 (F := Ideal) x0 x1 x2 x3 (ix2 r d) = (grad (fun k => x0 (ix3 k r d)) : EReal) := by
  unfold out0_4
  rw [View.canon_unit_zero (S := S3x704) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  unfold out0_5
  rw [View.canon_unit_zero (S := S3x704) hz]
  simp only [r0_8, View.ld_unit_zero (S := S3x704) hz]
  unfold change
  rw [← pay6_apply x0 x1 x2 x3, mom2, ← pay5_apply x0 x1 x2 x3]
  pointwise [k0_pay2, k0_pay1]

theorem out6 : out0_6 (F := Ideal) x0 x1 x2 x3 (ix2 r d) = (mom1 (grad fun k => x0 (ix3 k r d)) (x2 (ix2 r d)) : EReal) := by
  unfold out0_6
  rw [View.canon_unit_zero (S := S3x704) hz]
  exact pay6_apply ..

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S3x704) hz]
  simp only [r0_8, View.ld_unit_zero (S := S3x704) hz]
  unfold mom2
  pointwise [k0_pay1]

end Body

variable (m : (ℓ : Loc nD τ sig) → Buf (Elt Ideal) ℓ) (c : Dev nD)

/-- The arguments: the parts, the weight and its two moments. -/
abbrev arg0 : FVec Ideal S8x3x704 .f32 := m ((c : Thread nD τ).loc main_arg0)
abbrev arg1 : FVec Ideal S3x704 .f32 := m ((c : Thread nD τ).loc main_arg1)
abbrev arg2 : FVec Ideal S3x704 .f32 := m ((c : Thread nD τ).loc main_arg2)
abbrev arg3 : FVec Ideal S3x704 .f32 := m ((c : Thread nD τ).loc main_arg3)
def G (i : Fin 3) (j : Fin 704) : EReal := grad fun k => arg0 m c (ix3 k i j)
def W (i : Fin 3) (j : Fin 704) : EReal := arg1 m c (ix2 i j)
def M (i : Fin 3) (j : Fin 704) : EReal := arg2 m c (ix2 i j)
def U (i : Fin 3) (j : Fin 704) : EReal := arg3 m c (ix2 i j)

theorem idx : ∀ t : Fin cfg0.N, t.val < 1 ∧ win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The rows and the columns of a tile. -/
def ra (t : Fin cfg0.N) (r : Fin 3) : Fin 3 := ⟨r.val, by have := (idx t).1; have := r.isLt; omega⟩
def cb (t : Fin cfg0.N) (d : Fin 704) : Fin 704 := ⟨d.val, by have := (idx t).1; have := d.isLt; omega⟩

theorem b0 (t : Fin cfg0.N) (k : Fin 8) (r : Fin 3) (d : Fin 704) :
    (iblk m c 0 t : FVec Ideal S8x3x704 .f32) (ix3 k r d) = arg0 m c (ix3 k (ra t r) (cb t d)) := by
  unfold arg0 ra cb; rw [← V_main_arg0 m c]; blk_ext [iblk, idx t]
theorem b1 (t : Fin cfg0.N) (r : Fin 3) (d : Fin 704) : (iblk m c 1 t : FVec Ideal S3x704 .f32) (ix2 r d) = W m c (ra t r) (cb t d) := by
  unfold W arg1 ra cb; rw [← V_main_arg1 m c]; blk_ext [iblk, idx t]
theorem b2 (t : Fin cfg0.N) (r : Fin 3) (d : Fin 704) : (iblk m c 2 t : FVec Ideal S3x704 .f32) (ix2 r d) = M m c (ra t r) (cb t d) := by
  unfold M arg2 ra cb; rw [← V_main_arg2 m c]; blk_ext [iblk, idx t]
theorem b3 (t : Fin cfg0.N) (r : Fin 3) (d : Fin 704) : (iblk m c 3 t : FVec Ideal S3x704 .f32) (ix2 r d) = U m c (ra t r) (cb t d) := by
  unfold U arg3 ra cb; rw [← V_main_arg3 m c]; blk_ext [iblk, idx t]

/-- The four results. -/
def res4 : FVec Ideal S3x704 .f32 := fun i => (G m c (i 0) (i 1) : EReal)
def res5 : FVec Ideal S3x704 .f32 := fun i => (change (G m c (i 0) (i 1)) (W m c (i 0) (i 1)) (M m c (i 0) (i 1)) (U m c (i 0) (i 1)) : EReal)
def res6 : FVec Ideal S3x704 .f32 := fun i => (mom1 (G m c (i 0) (i 1)) (M m c (i 0) (i 1)) : EReal)
def res7 : FVec Ideal S3x704 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamFfnConv := fun m ρ _ => Cert.AdamFfnConv.Gen.frame m ρ
theorem frame_pi : Cert.quiescent_AdamFfnConvIdeal := fun m ρ _ => Cert.AdamFfnConvIdeal.Gen.frame m ρ
theorem frame_ri : Cert.quiescent_AdamFfnConvRefIdeal := fun m ρ _ => (θ_run Cert.AdamFfnConvRefIdeal.defs _ _).mono
  (fun r h => ⟨fun c => (h c).2.2.2.2, sem_eq_zero_of_no_sems (by decide) r.2⟩) (Cert.AdamFfnConvRefIdeal.Value.run (F := Ideal) m ρ)

/-- The call and the reference end with the same four arrays. -/
theorem algebraic : Cert.algebraic_AdamFfnConvIdeal_AdamFfnConvRefIdeal := by
  intro m ρ m' ρ' _ hag
  refine ⟨fun c => res4 m c, fun c => res5 m c, fun c => res6 m c, fun c => res7 m c, ?_, ?_⟩
  · refine (θ_run Cert.AdamFfnConvIdeal.defs _ _).mono (fun r h c => ?_) (Cert.AdamFfnConvIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamFfnConvRefIdeal.defs _ _).mono (fun r h c => ?_) (Cert.AdamFfnConvRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 3) (m := 704) i
    · unfold res4 G grad
      pointwise
    · unfold res5 G W M U grad change mom1 mom2
      pointwise
    · unfold res6 G M grad mom1
      pointwise
    · unfold res7 G U grad mom2
      pointwise

end Cert.AdamFfnConvRun

end
-- ==== Proof.Adam.FfnOut.lean ====
/- The AdamW step of the output projection of the gated feed-forward: 704 by 2048 entries in 11 by 4 tiles of 64 by 512. -/
module

public import proofs.«01_k».proof.Defs
public import proofs.«01_k».proof.Proof.Gen.AdamFfnOut
public import proofs.«01_k».proof.Proof.Gen.AdamFfnOut.Frame
public import proofs.«01_k».proof.Proof.Gen.AdamFfnOutIdeal.Value
public import proofs.«01_k».proof.Proof.Gen.AdamFfnOutRefIdeal.Run
public import proofs.«01_k».proof.Proof.Adam.Step
public import Idealize.ShloMosaic.Lib.StableHlo.Run

@[expose] public section

set_option maxRecDepth 16384

noncomputable section

namespace Cert.AdamFfnOutRun

open Cert.AdamFfnOutIdeal Cert.AdamFfnOutIdeal.Gen Cert.AdamStep
open Idealize.ShloMosaic Idealize.ShloMosaic.TcCoe Idealize.SL.Sem
open Idealize.ShloMosaic.Pipeline (Dat)

section Body
variable (x0 : FVec Ideal S8x64x512 .bf16) (x1 x2 x3 : FVec Ideal S64x512 .f32) (r : Fin 64) (d : Fin 512)

theorem pay5_apply : k0_pay5 (F := Ideal) x0 x1 x2 x3 (ix2 r d) = (grad (fun k => x0 (ix3 k r d)) : EReal) := by
  rw [grad_eq]
  pointwise [k0_pay5, k0_pay4]

theorem out4 : out0_4 (F := Ideal) x0 x1 x2 x3 (ix2 r d) = (grad (fun k => x0 (ix3 k r d)) : EReal) := by
  unfold out0_4
  rw [View.canon_unit_zero (S := S64x512) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  rw [← pay5_apply x0 x1 x2 x3]
  unfold out0_5
  rw [View.canon_unit_zero (S := S64x512) hz]
  simp only [r0_8, View.ld_unit_zero (S := S64x512) hz]
  unfold change mom1 mom2
  pointwise [k0_pay3, k0_pay1, k0_pay2]

theorem out6 : out0_6 (F := Ideal) x0 x1 x2 x3 (ix2 r d) = (mom1 (grad fun k => x0 (ix3 k r d)) (x2 (ix2 r d)) : EReal) := by
  rw [← pay5_apply x0 x1 x2 x3]
  unfold out0_6
  rw [View.canon_unit_zero (S := S64x512) hz]
  simp only [r0_8, View.ld_unit_zero (S := S64x512) hz]
  unfold mom1
  pointwise [k0_pay1]

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S64x512) hz]
  simp only [r0_8, View.ld_unit_zero (S := S64x512) hz]
  unfold mom2
  pointwise [k0_pay2]

end Body

variable (m : (ℓ : Loc nD τ sig) → Buf (Elt Ideal) ℓ) (c : Dev nD)

/-- The arguments: the parts, the weight and its two moments. -/
abbrev arg0 : FVec Ideal S8x704x2048 .bf16 := m ((c : Thread nD τ).loc main_arg0)
abbrev arg1 : FVec Ideal S704x2048 .f32 := m ((c : Thread nD τ).loc main_arg1)
abbrev arg2 : FVec Ideal S704x2048 .f32 := m ((c : Thread nD τ).loc main_arg2)
abbrev arg3 : FVec Ideal S704x2048 .f32 := m ((c : Thread nD τ).loc main_arg3)
def G (i : Fin 704) (j : Fin 2048) : EReal := grad fun k => arg0 m c (ix3 k i j)
def W (i : Fin 704) (j : Fin 2048) : EReal := arg1 m c (ix2 i j)
def M (i : Fin 704) (j : Fin 2048) : EReal := arg2 m c (ix2 i j)
def U (i : Fin 704) (j : Fin 2048) : EReal := arg3 m c (ix2 i j)

theorem idx : ∀ t : Fin cfg0.N, t.val < 44 ∧ win0_0.index t = ![0, t.val / 4, t.val % 4] ∧ win0_1.index t = ![t.val / 4, t.val % 4] ∧ win0_2.index t = ![t.val / 4, t.val % 4] ∧ win0_3.index t = ![t.val / 4, t.val % 4] ∧ win0_4.index t = ![t.val / 4, t.val % 4] ∧ win0_5.index t = ![t.val / 4, t.val % 4] ∧ win0_6.index t = ![t.val / 4, t.val % 4] ∧ win0_7.index t = ![t.val / 4, t.val % 4] :=
  (by decide +kernel : ∀ t : Fin grid0.N, _)

/-- The rows and the columns of a tile. -/
def ra (t : Fin cfg0.N) (r : Fin 64) : Fin 704 := ⟨64 * (t.val / 4) + r.val, by have := (idx t).1; have := r.isLt; omega⟩
def cb (t : Fin cfg0.N) (d : Fin 512) : Fin 2048 := ⟨512 * (t.val % 4) + d.val, by have := (idx t).1; have := d.isLt; omega⟩

theorem b0 (t : Fin cfg0.N) (k : Fin 8) (r : Fin 64) (d : Fin 512) :
    (iblk m c 0 t : FVec Ideal S8x64x512 .bf16) (ix3 k r d) = arg0 m c (ix3 k (ra t r) (cb t d)) := by
  unfold arg0 ra cb; rw [← V_main_arg0 m c]; blk_ext [iblk, idx t]
theorem b1 (t : Fin cfg0.N) (r : Fin 64) (d : Fin 512) : (iblk m c 1 t : FVec Ideal S64x512 .f32) (ix2 r d) = W m c (ra t r) (cb t d) := by
  unfold W arg1 ra cb; rw [← V_main_arg1 m c]; blk_ext [iblk, idx t]
theorem b2 (t : Fin cfg0.N) (r : Fin 64) (d : Fin 512) : (iblk m c 2 t : FVec Ideal S64x512 .f32) (ix2 r d) = M m c (ra t r) (cb t d) := by
  unfold M arg2 ra cb; rw [← V_main_arg2 m c]; blk_ext [iblk, idx t]
theorem b3 (t : Fin cfg0.N) (r : Fin 64) (d : Fin 512) : (iblk m c 3 t : FVec Ideal S64x512 .f32) (ix2 r d) = U m c (ra t r) (cb t d) := by
  unfold U arg3 ra cb; rw [← V_main_arg3 m c]; blk_ext [iblk, idx t]

/-- The four results. -/
def res4 : FVec Ideal S704x2048 .f32 := fun i => (G m c (i 0) (i 1) : EReal)
def res5 : FVec Ideal S704x2048 .f32 := fun i => (change (G m c (i 0) (i 1)) (W m c (i 0) (i 1)) (M m c (i 0) (i 1)) (U m c (i 0) (i 1)) : EReal)
def res6 : FVec Ideal S704x2048 .f32 := fun i => (mom1 (G m c (i 0) (i 1)) (M m c (i 0) (i 1)) : EReal)
def res7 : FVec Ideal S704x2048 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamFfnOut := fun m ρ _ => Cert.AdamFfnOut.Gen.frame m ρ
theorem frame_pi : Cert.quiescent_AdamFfnOutIdeal := fun m ρ _ => Cert.AdamFfnOutIdeal.Gen.frame m ρ
theorem frame_ri : Cert.quiescent_AdamFfnOutRefIdeal := fun m ρ _ => (θ_run Cert.AdamFfnOutRefIdeal.defs _ _).mono
  (fun r h => ⟨fun c => (h c).2.2.2.2, sem_eq_zero_of_no_sems (by decide) r.2⟩) (Cert.AdamFfnOutRefIdeal.Value.run (F := Ideal) m ρ)

/-- The call and the reference end with the same four arrays. -/
theorem algebraic : Cert.algebraic_AdamFfnOutIdeal_AdamFfnOutRefIdeal := by
  intro m ρ m' ρ' _ hag
  refine ⟨fun c => res4 m c, fun c => res5 m c, fun c => res6 m c, fun c => res7 m c, ?_, ?_⟩
  · refine (θ_run Cert.AdamFfnOutIdeal.defs _ _).mono (fun r h c => ?_) (Cert.AdamFfnOutIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamFfnOutRefIdeal.defs _ _).mono (fun r h c => ?_) (Cert.AdamFfnOutRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 704) (m := 2048) i
    · unfold res4 G grad
      pointwise
    · unfold res5 G W M U grad change mom1 mom2
      pointwise
    · unfold res6 G M grad mom1
      pointwise
    · unfold res7 G U grad mom2
      pointwise

end Cert.AdamFfnOutRun

end
-- ==== Proof.Adam.HybIn.lean ====
/- The AdamW step of the input projection of the hybrid mixer: 770 by 2048 entries in 1 by 8 tiles of 770 by 256. -/
module

public import proofs.«01_k».proof.Defs
public import proofs.«01_k».proof.Proof.Gen.AdamHybIn
public import proofs.«01_k».proof.Proof.Gen.AdamHybIn.Frame
public import proofs.«01_k».proof.Proof.Gen.AdamHybInIdeal.Value
public import proofs.«01_k».proof.Proof.Gen.AdamHybInRefIdeal.Run
public import proofs.«01_k».proof.Proof.Adam.Step
public import Idealize.ShloMosaic.Lib.StableHlo.Run

@[expose] public section

set_option maxRecDepth 16384

noncomputable section

namespace Cert.AdamHybInRun

open Cert.AdamHybInIdeal Cert.AdamHybInIdeal.Gen Cert.AdamStep
open Idealize.ShloMosaic Idealize.ShloMosaic.TcCoe Idealize.SL.Sem
open Idealize.ShloMosaic.Pipeline (Dat)

section Body
variable (x0 : FVec Ideal S8x770x256 .bf16) (x1 x2 x3 : FVec Ideal S770x256 .f32) (r : Fin 770) (d : Fin 256)

theorem pay5_apply : k0_pay5 (F := Ideal) x0 x1 x2 x3 (ix2 r d) = (grad (fun k => x0 (ix3 k r d)) : EReal) := by
  rw [grad_eq]
  pointwise [k0_pay5, k0_pay4]

theorem out4 : out0_4 (F := Ideal) x0 x1 x2 x3 (ix2 r d) = (grad (fun k => x0 (ix3 k r d)) : EReal) := by
  unfold out0_4
  rw [View.canon_unit_zero (S := S770x256) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  rw [← pay5_apply x0 x1 x2 x3]
  unfold out0_5
  rw [View.canon_unit_zero (S := S770x256) hz]
  simp only [r0_8, View.ld_unit_zero (S := S770x256) hz]
  unfold change mom1 mom2
  pointwise [k0_pay3, k0_pay1, k0_pay2]

theorem out6 : out0_6 (F := Ideal) x0 x1 x2 x3 (ix2 r d) = (mom1 (grad fun k => x0 (ix3 k r d)) (x2 (ix2 r d)) : EReal) := by
  rw [← pay5_apply x0 x1 x2 x3]
  unfold out0_6
  rw [View.canon_unit_zero (S := S770x256) hz]
  simp only [r0_8, View.ld_unit_zero (S := S770x256) hz]
  unfold mom1
  pointwise [k0_pay1]

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S770x256) hz]
  simp only [r0_8, View.ld_unit_zero (S := S770x256) hz]
  unfold mom2
  pointwise [k0_pay2]

end Body

variable (m : (ℓ : Loc nD τ sig) → Buf (Elt Ideal) ℓ) (c : Dev nD)

/-- The arguments: the parts, the weight and its two moments. -/
abbrev arg0 : FVec Ideal S8x770x2048 .bf16 := m ((c : Thread nD τ).loc main_arg0)
abbrev arg1 : FVec Ideal S2048x770 .f32 := m ((c : Thread nD τ).loc main_arg1)
abbrev arg2 : FVec Ideal S2048x770 .f32 := m ((c : Thread nD τ).loc main_arg2)
abbrev arg3 : FVec Ideal S2048x770 .f32 := m ((c : Thread nD τ).loc main_arg3)
def G (i : Fin 770) (j : Fin 2048) : EReal := grad fun k => arg0 m c (ix3 k i j)
def W (i : Fin 770) (j : Fin 2048) : EReal := arg1 m c (ix2 j i)
def M (i : Fin 770) (j : Fin 2048) : EReal := arg2 m c (ix2 j i)
def U (i : Fin 770) (j : Fin 2048) : EReal := arg3 m c (ix2 j i)

/-- The host transposes the last three. -/
theorem V_W (i : Fin 770) (j : Fin 2048) : (V m c main_v0 : FVec Ideal S770x2048 .f32) (ix2 i j) = W m c i j := by
  have e : V m c main_v0 = transpose S770x2048 [1, 0] (arg1 m c) transposes_S2048x770_S770x2048_1_0 := by
    show StableHlo.after hostOps0 _ _ = _
    unfold hostOps0
    after_results
  rw [e]
  unfold W
  pointwise
theorem V_M (i : Fin 770) (j : Fin 2048) : (V m c main_v1 : FVec Ideal S770x2048 .f32) (ix2 i j) = M m c i j := by
  have e : V m c main_v1 = transpose S770x2048 [1, 0] (arg2 m c) transposes_S2048x770_S770x2048_1_0 := by
    show StableHlo.after hostOps0 _ _ = _
    unfold hostOps0
    after_results
  rw [e]
  unfold M
  pointwise
theorem V_U (i : Fin 770) (j : Fin 2048) : (V m c main_v2 : FVec Ideal S770x2048 .f32) (ix2 i j) = U m c i j := by
  have e : V m c main_v2 = transpose S770x2048 [1, 0] (arg3 m c) transposes_S2048x770_S770x2048_1_0 := by
    show StableHlo.after hostOps0 _ _ = _
    unfold hostOps0
    after_results
  rw [e]
  unfold U
  pointwise

theorem idx : ∀ t : Fin cfg0.N, t.val < 8 ∧ win0_0.index t = ![0, 0, t.val % 8] ∧ win0_1.index t = ![0, t.val % 8] ∧ win0_2.index t = ![0, t.val % 8] ∧ win0_3.index t = ![0, t.val % 8] ∧ win0_4.index t = ![0, t.val % 8] ∧ win0_5.index t = ![0, t.val % 8] ∧ win0_6.index t = ![0, t.val % 8] ∧ win0_7.index t = ![0, t.val % 8] :=
  (by decide +kernel : ∀ t : Fin grid0.N, _)

/-- The rows and the columns of a tile. -/
def ra (t : Fin cfg0.N) (r : Fin 770) : Fin 770 := ⟨r.val, by have := (idx t).1; have := r.isLt; omega⟩
def cb (t : Fin cfg0.N) (d : Fin 256) : Fin 2048 := ⟨256 * (t.val % 8) + d.val, by have := (idx t).1; have := d.isLt; omega⟩

theorem b0 (t : Fin cfg0.N) (k : Fin 8) (r : Fin 770) (d : Fin 256) :
    (iblk m c 0 t : FVec Ideal S8x770x256 .bf16) (ix3 k r d) = arg0 m c (ix3 k (ra t r) (cb t d)) := by
  unfold arg0 ra cb; rw [← V_main_arg0 m c]; blk_ext [iblk, idx t]
theorem b1 (t : Fin cfg0.N) (r : Fin 770) (d : Fin 256) : (iblk m c 1 t : FVec Ideal S770x256 .f32) (ix2 r d) = W m c (ra t r) (cb t d) := by
  rw [← V_W]; unfold ra cb; blk_ext [iblk, idx t]
theorem b2 (t : Fin cfg0.N) (r : Fin 770) (d : Fin 256) : (iblk m c 2 t : FVec Ideal S770x256 .f32) (ix2 r d) = M m c (ra t r) (cb t d) := by
  rw [← V_M]; unfold ra cb; blk_ext [iblk, idx t]
theorem b3 (t : Fin cfg0.N) (r : Fin 770) (d : Fin 256) : (iblk m c 3 t : FVec Ideal S770x256 .f32) (ix2 r d) = U m c (ra t r) (cb t d) := by
  rw [← V_U]; unfold ra cb; blk_ext [iblk, idx t]

/-- The four results. -/
def res4 : FVec Ideal S770x2048 .f32 := fun i => (G m c (i 0) (i 1) : EReal)
def res5 : FVec Ideal S770x2048 .f32 := fun i => (change (G m c (i 0) (i 1)) (W m c (i 0) (i 1)) (M m c (i 0) (i 1)) (U m c (i 0) (i 1)) : EReal)
def res6 : FVec Ideal S770x2048 .f32 := fun i => (mom1 (G m c (i 0) (i 1)) (M m c (i 0) (i 1)) : EReal)
def res7 : FVec Ideal S770x2048 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamHybIn := fun m ρ _ => Cert.AdamHybIn.Gen.frame m ρ
theorem frame_pi : Cert.quiescent_AdamHybInIdeal := fun m ρ _ => Cert.AdamHybInIdeal.Gen.frame m ρ
theorem frame_ri : Cert.quiescent_AdamHybInRefIdeal := fun m ρ _ => (θ_run Cert.AdamHybInRefIdeal.defs _ _).mono
  (fun r h => ⟨fun c => (h c).2.2.2.2, sem_eq_zero_of_no_sems (by decide) r.2⟩) (Cert.AdamHybInRefIdeal.Value.run (F := Ideal) m ρ)

/-- The call and the reference end with the same four arrays. -/
theorem algebraic : Cert.algebraic_AdamHybInIdeal_AdamHybInRefIdeal := by
  intro m ρ m' ρ' _ hag
  refine ⟨fun c => res4 m c, fun c => res5 m c, fun c => res6 m c, fun c => res7 m c, ?_, ?_⟩
  · refine (θ_run Cert.AdamHybInIdeal.defs _ _).mono (fun r h c => ?_) (Cert.AdamHybInIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamHybInRefIdeal.defs _ _).mono (fun r h c => ?_) (Cert.AdamHybInRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 770) (m := 2048) i
    · unfold res4 G grad
      pointwise
    · unfold res5 G W M U grad change mom1 mom2
      pointwise
    · unfold res6 G M grad mom1
      pointwise
    · unfold res7 G U grad mom2
      pointwise

end Cert.AdamHybInRun

end
-- ==== Proof.Adam.MixOut.lean ====
/- The AdamW step of the output projections of the two mixers: 256 by 2048 entries in 1 by 4 tiles of 256 by 512. -/
module

public import proofs.«01_k».proof.Defs
public import proofs.«01_k».proof.Proof.Gen.AdamMixOut
public import proofs.«01_k».proof.Proof.Gen.AdamMixOut.Frame
public import proofs.«01_k».proof.Proof.Gen.AdamMixOutIdeal.Value
public import proofs.«01_k».proof.Proof.Gen.AdamMixOutRefIdeal.Run
public import proofs.«01_k».proof.Proof.Adam.Step
public import Idealize.ShloMosaic.Lib.StableHlo.Run

@[expose] public section

set_option maxRecDepth 16384

noncomputable section

namespace Cert.AdamMixOutRun

open Cert.AdamMixOutIdeal Cert.AdamMixOutIdeal.Gen Cert.AdamStep
open Idealize.ShloMosaic Idealize.ShloMosaic.TcCoe Idealize.SL.Sem
open Idealize.ShloMosaic.Pipeline (Dat)

section Body
variable (x0 : FVec Ideal S8x256x512 .bf16) (x1 x2 x3 : FVec Ideal S256x512 .f32) (r : Fin 256) (d : Fin 512)

theorem pay5_apply : k0_pay5 (F := Ideal) x0 x1 x2 x3 (ix2 r d) = (grad (fun k => x0 (ix3 k r d)) : EReal) := by
  rw [grad_eq]
  pointwise [k0_pay5, k0_pay4]

theorem out4 : out0_4 (F := Ideal) x0 x1 x2 x3 (ix2 r d) = (grad (fun k => x0 (ix3 k r d)) : EReal) := by
  unfold out0_4
  rw [View.canon_unit_zero (S := S256x512) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  rw [← pay5_apply x0 x1 x2 x3]
  unfold out0_5
  rw [View.canon_unit_zero (S := S256x512) hz]
  simp only [r0_8, View.ld_unit_zero (S := S256x512) hz]
  unfold change mom1 mom2
  pointwise [k0_pay3, k0_pay1, k0_pay2]

theorem out6 : out0_6 (F := Ideal) x0 x1 x2 x3 (ix2 r d) = (mom1 (grad fun k => x0 (ix3 k r d)) (x2 (ix2 r d)) : EReal) := by
  rw [← pay5_apply x0 x1 x2 x3]
  unfold out0_6
  rw [View.canon_unit_zero (S := S256x512) hz]
  simp only [r0_8, View.ld_unit_zero (S := S256x512) hz]
  unfold mom1
  pointwise [k0_pay1]

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S256x512) hz]
  simp only [r0_8, View.ld_unit_zero (S := S256x512) hz]
  unfold mom2
  pointwise [k0_pay2]

end Body

variable (m : (ℓ : Loc nD τ sig) → Buf (Elt Ideal) ℓ) (c : Dev nD)

/-- The arguments: the parts, the weight and its two moments. -/
abbrev arg0 : FVec Ideal S8x256x2048 .bf16 := m ((c : Thread nD τ).loc main_arg0)
abbrev arg1 : FVec Ideal S256x2048 .f32 := m ((c : Thread nD τ).loc main_arg1)
abbrev arg2 : FVec Ideal S256x2048 .f32 := m ((c : Thread nD τ).loc main_arg2)
abbrev arg3 : FVec Ideal S256x2048 .f32 := m ((c : Thread nD τ).loc main_arg3)
def G (i : Fin 256) (j : Fin 2048) : EReal := grad fun k => arg0 m c (ix3 k i j)
def W (i : Fin 256) (j : Fin 2048) : EReal := arg1 m c (ix2 i j)
def M (i : Fin 256) (j : Fin 2048) : EReal := arg2 m c (ix2 i j)
def U (i : Fin 256) (j : Fin 2048) : EReal := arg3 m c (ix2 i j)

theorem idx : ∀ t : Fin cfg0.N, t.val < 4 ∧ win0_0.index t = ![0, 0, t.val % 4] ∧ win0_1.index t = ![0, t.val % 4] ∧ win0_2.index t = ![0, t.val % 4] ∧ win0_3.index t = ![0, t.val % 4] ∧ win0_4.index t = ![0, t.val % 4] ∧ win0_5.index t = ![0, t.val % 4] ∧ win0_6.index t = ![0, t.val % 4] ∧ win0_7.index t = ![0, t.val % 4] :=
  (by decide +kernel : ∀ t : Fin grid0.N, _)

/-- The rows and the columns of a tile. -/
def ra (t : Fin cfg0.N) (r : Fin 256) : Fin 256 := ⟨r.val, by have := (idx t).1; have := r.isLt; omega⟩
def cb (t : Fin cfg0.N) (d : Fin 512) : Fin 2048 := ⟨512 * (t.val % 4) + d.val, by have := (idx t).1; have := d.isLt; omega⟩

theorem b0 (t : Fin cfg0.N) (k : Fin 8) (r : Fin 256) (d : Fin 512) :
    (iblk m c 0 t : FVec Ideal S8x256x512 .bf16) (ix3 k r d) = arg0 m c (ix3 k (ra t r) (cb t d)) := by
  unfold arg0 ra cb; rw [← V_main_arg0 m c]; blk_ext [iblk, idx t]
theorem b1 (t : Fin cfg0.N) (r : Fin 256) (d : Fin 512) : (iblk m c 1 t : FVec Ideal S256x512 .f32) (ix2 r d) = W m c (ra t r) (cb t d) := by
  unfold W arg1 ra cb; rw [← V_main_arg1 m c]; blk_ext [iblk, idx t]
theorem b2 (t : Fin cfg0.N) (r : Fin 256) (d : Fin 512) : (iblk m c 2 t : FVec Ideal S256x512 .f32) (ix2 r d) = M m c (ra t r) (cb t d) := by
  unfold M arg2 ra cb; rw [← V_main_arg2 m c]; blk_ext [iblk, idx t]
theorem b3 (t : Fin cfg0.N) (r : Fin 256) (d : Fin 512) : (iblk m c 3 t : FVec Ideal S256x512 .f32) (ix2 r d) = U m c (ra t r) (cb t d) := by
  unfold U arg3 ra cb; rw [← V_main_arg3 m c]; blk_ext [iblk, idx t]

/-- The four results. -/
def res4 : FVec Ideal S256x2048 .f32 := fun i => (G m c (i 0) (i 1) : EReal)
def res5 : FVec Ideal S256x2048 .f32 := fun i => (change (G m c (i 0) (i 1)) (W m c (i 0) (i 1)) (M m c (i 0) (i 1)) (U m c (i 0) (i 1)) : EReal)
def res6 : FVec Ideal S256x2048 .f32 := fun i => (mom1 (G m c (i 0) (i 1)) (M m c (i 0) (i 1)) : EReal)
def res7 : FVec Ideal S256x2048 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamMixOut := fun m ρ _ => Cert.AdamMixOut.Gen.frame m ρ
theorem frame_pi : Cert.quiescent_AdamMixOutIdeal := fun m ρ _ => Cert.AdamMixOutIdeal.Gen.frame m ρ
theorem frame_ri : Cert.quiescent_AdamMixOutRefIdeal := fun m ρ _ => (θ_run Cert.AdamMixOutRefIdeal.defs _ _).mono
  (fun r h => ⟨fun c => (h c).2.2.2.2, sem_eq_zero_of_no_sems (by decide) r.2⟩) (Cert.AdamMixOutRefIdeal.Value.run (F := Ideal) m ρ)

/-- The call and the reference end with the same four arrays. -/
theorem algebraic : Cert.algebraic_AdamMixOutIdeal_AdamMixOutRefIdeal := by
  intro m ρ m' ρ' _ hag
  refine ⟨fun c => res4 m c, fun c => res5 m c, fun c => res6 m c, fun c => res7 m c, ?_, ?_⟩
  · refine (θ_run Cert.AdamMixOutIdeal.defs _ _).mono (fun r h c => ?_) (Cert.AdamMixOutIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamMixOutRefIdeal.defs _ _).mono (fun r h c => ?_) (Cert.AdamMixOutRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 256) (m := 2048) i
    · unfold res4 G grad
      pointwise
    · unfold res5 G W M U grad change mom1 mom2
      pointwise
    · unfold res6 G M grad mom1
      pointwise
    · unfold res7 G U grad mom2
      pointwise

end Cert.AdamMixOutRun

end
-- ==== Proof.Adam.GdnConv.lean ====
/- The AdamW step of the taps of the delta-rule convolution: 4 by 384 entries in 1 by 3 tiles of 4 by 128. -/
module

public import proofs.«01_k».proof.Defs
public import proofs.«01_k».proof.Proof.Gen.AdamGdnConv
public import proofs.«01_k».proof.Proof.Gen.AdamGdnConv.Frame
public import proofs.«01_k».proof.Proof.Gen.AdamGdnConvIdeal.Value
public import proofs.«01_k».proof.Proof.Gen.AdamGdnConvRefIdeal.Run
public import proofs.«01_k».proof.Proof.Adam.Step
public import Idealize.ShloMosaic.Lib.StableHlo.Run

@[expose] public section

set_option maxRecDepth 16384

noncomputable section

namespace Cert.AdamGdnConvRun

open Cert.AdamGdnConvIdeal Cert.AdamGdnConvIdeal.Gen Cert.AdamStep
open Idealize.ShloMosaic Idealize.ShloMosaic.TcCoe Idealize.SL.Sem
open Idealize.ShloMosaic.Pipeline (Dat)

section Body
variable (x0 : FVec Ideal S8x4x128 .f32) (x1 x2 x3 : FVec Ideal S4x128 .f32) (r : Fin 4) (d : Fin 128)

theorem pay5_apply : k0_pay5 (F := Ideal) x0 x1 x2 x3 (ix2 r d) = (grad (fun k => x0 (ix3 k r d)) : EReal) := by
  rw [grad_eq]
  pointwise [k0_pay5, k0_pay3]

theorem pay6_apply : k0_pay6 (F := Ideal) x0 x1 x2 x3 (ix2 r d) = (mom1 (grad (fun k => x0 (ix3 k r d))) (x2 (ix2 r d)) : EReal) := by
  rw [grad_eq]
  unfold mom1
  pointwise [k0_pay6, k0_pay4, k0_pay3]

theorem out4 : out0_4 (F := Ideal) x0 x1 x2 x3 (ix2 r d) = (grad (fun k => x0 (ix3 k r d)) : EReal) := by
  unfold out0_4
  rw [View.canon_unit_zero (S := S4x128) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  unfold out0_5
  rw [View.canon_unit_zero (S := S4x128) hz]
  simp only [r0_8, View.ld_unit_zero (S := S4x128) hz]
  unfold change
  rw [← pay6_apply x0 x1 x2 x3, mom2, ← pay5_apply x0 x1 x2 x3]
  pointwise [k0_pay2, k0_pay1]

theorem out6 : out0_6 (F := Ideal) x0 x1 x2 x3 (ix2 r d) = (mom1 (grad fun k => x0 (ix3 k r d)) (x2 (ix2 r d)) : EReal) := by
  unfold out0_6
  rw [View.canon_unit_zero (S := S4x128) hz]
  exact pay6_apply ..

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S4x128) hz]
  simp only [r0_8, View.ld_unit_zero (S := S4x128) hz]
  unfold mom2
  pointwise [k0_pay1]

end Body

variable (m : (ℓ : Loc nD τ sig) → Buf (Elt Ideal) ℓ) (c : Dev nD)

/-- The arguments: the parts, the weight and its two moments. -/
abbrev arg0 : FVec Ideal S8x4x384 .f32 := m ((c : Thread nD τ).loc main_arg0)
abbrev arg1 : FVec Ideal S4x384 .f32 := m ((c : Thread nD τ).loc main_arg1)
abbrev arg2 : FVec Ideal S4x384 .f32 := m ((c : Thread nD τ).loc main_arg2)
abbrev arg3 : FVec Ideal S4x384 .f32 := m ((c : Thread nD τ).loc main_arg3)
def G (i : Fin 4) (j : Fin 384) : EReal := grad fun k => arg0 m c (ix3 k i j)
def W (i : Fin 4) (j : Fin 384) : EReal := arg1 m c (ix2 i j)
def M (i : Fin 4) (j : Fin 384) : EReal := arg2 m c (ix2 i j)
def U (i : Fin 4) (j : Fin 384) : EReal := arg3 m c (ix2 i j)

theorem idx : ∀ t : Fin cfg0.N, t.val < 3 ∧ win0_0.index t = ![0, 0, t.val % 3] ∧ win0_1.index t = ![0, t.val % 3] ∧ win0_2.index t = ![0, t.val % 3] ∧ win0_3.index t = ![0, t.val % 3] ∧ win0_4.index t = ![0, t.val % 3] ∧ win0_5.index t = ![0, t.val % 3] ∧ win0_6.index t = ![0, t.val % 3] ∧ win0_7.index t = ![0, t.val % 3] :=
  (by decide +kernel : ∀ t : Fin grid0.N, _)

/-- The rows and the columns of a tile. -/
def ra (t : Fin cfg0.N) (r : Fin 4) : Fin 4 := ⟨r.val, by have := (idx t).1; have := r.isLt; omega⟩
def cb (t : Fin cfg0.N) (d : Fin 128) : Fin 384 := ⟨128 * (t.val % 3) + d.val, by have := (idx t).1; have := d.isLt; omega⟩

theorem b0 (t : Fin cfg0.N) (k : Fin 8) (r : Fin 4) (d : Fin 128) :
    (iblk m c 0 t : FVec Ideal S8x4x128 .f32) (ix3 k r d) = arg0 m c (ix3 k (ra t r) (cb t d)) := by
  unfold arg0 ra cb; rw [← V_main_arg0 m c]; blk_ext [iblk, idx t]
theorem b1 (t : Fin cfg0.N) (r : Fin 4) (d : Fin 128) : (iblk m c 1 t : FVec Ideal S4x128 .f32) (ix2 r d) = W m c (ra t r) (cb t d) := by
  unfold W arg1 ra cb; rw [← V_main_arg1 m c]; blk_ext [iblk, idx t]
theorem b2 (t : Fin cfg0.N) (r : Fin 4) (d : Fin 128) : (iblk m c 2 t : FVec Ideal S4x128 .f32) (ix2 r d) = M m c (ra t r) (cb t d) := by
  unfold M arg2 ra cb; rw [← V_main_arg2 m c]; blk_ext [iblk, idx t]
theorem b3 (t : Fin cfg0.N) (r : Fin 4) (d : Fin 128) : (iblk m c 3 t : FVec Ideal S4x128 .f32) (ix2 r d) = U m c (ra t r) (cb t d) := by
  unfold U arg3 ra cb; rw [← V_main_arg3 m c]; blk_ext [iblk, idx t]

/-- The four results. -/
def res4 : FVec Ideal S4x384 .f32 := fun i => (G m c (i 0) (i 1) : EReal)
def res5 : FVec Ideal S4x384 .f32 := fun i => (change (G m c (i 0) (i 1)) (W m c (i 0) (i 1)) (M m c (i 0) (i 1)) (U m c (i 0) (i 1)) : EReal)
def res6 : FVec Ideal S4x384 .f32 := fun i => (mom1 (G m c (i 0) (i 1)) (M m c (i 0) (i 1)) : EReal)
def res7 : FVec Ideal S4x384 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamGdnConv := fun m ρ _ => Cert.AdamGdnConv.Gen.frame m ρ
theorem frame_pi : Cert.quiescent_AdamGdnConvIdeal := fun m ρ _ => Cert.AdamGdnConvIdeal.Gen.frame m ρ
theorem frame_ri : Cert.quiescent_AdamGdnConvRefIdeal := fun m ρ _ => (θ_run Cert.AdamGdnConvRefIdeal.defs _ _).mono
  (fun r h => ⟨fun c => (h c).2.2.2.2, sem_eq_zero_of_no_sems (by decide) r.2⟩) (Cert.AdamGdnConvRefIdeal.Value.run (F := Ideal) m ρ)

/-- The call and the reference end with the same four arrays. -/
theorem algebraic : Cert.algebraic_AdamGdnConvIdeal_AdamGdnConvRefIdeal := by
  intro m ρ m' ρ' _ hag
  refine ⟨fun c => res4 m c, fun c => res5 m c, fun c => res6 m c, fun c => res7 m c, ?_, ?_⟩
  · refine (θ_run Cert.AdamGdnConvIdeal.defs _ _).mono (fun r h c => ?_) (Cert.AdamGdnConvIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamGdnConvRefIdeal.defs _ _).mono (fun r h c => ?_) (Cert.AdamGdnConvRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 4) (m := 384) i
    · unfold res4 G grad
      pointwise
    · unfold res5 G W M U grad change mom1 mom2
      pointwise
    · unfold res6 G M grad mom1
      pointwise
    · unfold res7 G U grad mom2
      pointwise

end Cert.AdamGdnConvRun

end
-- ==== Proof.Adam.LruConv.lean ====
/- The AdamW step of the taps of the linear-recurrence convolution: 4 by 128 entries in 1 by 1 tiles of 4 by 128. -/
module

public import proofs.«01_k».proof.Defs
public import proofs.«01_k».proof.Proof.Gen.AdamLruConv
public import proofs.«01_k».proof.Proof.Gen.AdamLruConv.Frame
public import proofs.«01_k».proof.Proof.Gen.AdamLruConvIdeal.Value
public import proofs.«01_k».proof.Proof.Gen.AdamLruConvRefIdeal.Run
public import proofs.«01_k».proof.Proof.Adam.Step
public import Idealize.ShloMosaic.Lib.StableHlo.Run

@[expose] public section

set_option maxRecDepth 16384

noncomputable section

namespace Cert.AdamLruConvRun

open Cert.AdamLruConvIdeal Cert.AdamLruConvIdeal.Gen Cert.AdamStep
open Idealize.ShloMosaic Idealize.ShloMosaic.TcCoe Idealize.SL.Sem
open Idealize.ShloMosaic.Pipeline (Dat)

section Body
variable (x0 : FVec Ideal S8x4x128 .f32) (x1 x2 x3 : FVec Ideal S4x128 .f32) (r : Fin 4) (d : Fin 128)

theorem pay5_apply : k0_pay5 (F := Ideal) x0 x1 x2 x3 (ix2 r d) = (grad (fun k => x0 (ix3 k r d)) : EReal) := by
  rw [grad_eq]
  pointwise [k0_pay5, k0_pay3]

theorem pay6_apply : k0_pay6 (F := Ideal) x0 x1 x2 x3 (ix2 r d) = (mom1 (grad (fun k => x0 (ix3 k r d))) (x2 (ix2 r d)) : EReal) := by
  rw [grad_eq]
  unfold mom1
  pointwise [k0_pay6, k0_pay4, k0_pay3]

theorem out4 : out0_4 (F := Ideal) x0 x1 x2 x3 (ix2 r d) = (grad (fun k => x0 (ix3 k r d)) : EReal) := by
  unfold out0_4
  rw [View.canon_unit_zero (S := S4x128) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  unfold out0_5
  rw [View.canon_unit_zero (S := S4x128) hz]
  simp only [r0_8, View.ld_unit_zero (S := S4x128) hz]
  unfold change
  rw [← pay6_apply x0 x1 x2 x3, mom2, ← pay5_apply x0 x1 x2 x3]
  pointwise [k0_pay2, k0_pay1]

theorem out6 : out0_6 (F := Ideal) x0 x1 x2 x3 (ix2 r d) = (mom1 (grad fun k => x0 (ix3 k r d)) (x2 (ix2 r d)) : EReal) := by
  unfold out0_6
  rw [View.canon_unit_zero (S := S4x128) hz]
  exact pay6_apply ..

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S4x128) hz]
  simp only [r0_8, View.ld_unit_zero (S := S4x128) hz]
  unfold mom2
  pointwise [k0_pay1]

end Body

variable (m : (ℓ : Loc nD τ sig) → Buf (Elt Ideal) ℓ) (c : Dev nD)

/-- The arguments: the parts, the weight and its two moments. -/
abbrev arg0 : FVec Ideal S8x4x128 .f32 := m ((c : Thread nD τ).loc main_arg0)
abbrev arg1 : FVec Ideal S4x128 .f32 := m ((c : Thread nD τ).loc main_arg1)
abbrev arg2 : FVec Ideal S4x128 .f32 := m ((c : Thread nD τ).loc main_arg2)
abbrev arg3 : FVec Ideal S4x128 .f32 := m ((c : Thread nD τ).loc main_arg3)
def G (i : Fin 4) (j : Fin 128) : EReal := grad fun k => arg0 m c (ix3 k i j)
def W (i : Fin 4) (j : Fin 128) : EReal := arg1 m c (ix2 i j)
def M (i : Fin 4) (j : Fin 128) : EReal := arg2 m c (ix2 i j)
def U (i : Fin 4) (j : Fin 128) : EReal := arg3 m c (ix2 i j)

theorem idx : ∀ t : Fin cfg0.N, t.val < 1 ∧ win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The rows and the columns of a tile. -/
def ra (t : Fin cfg0.N) (r : Fin 4) : Fin 4 := ⟨r.val, by have := (idx t).1; have := r.isLt; omega⟩
def cb (t : Fin cfg0.N) (d : Fin 128) : Fin 128 := ⟨d.val, by have := (idx t).1; have := d.isLt; omega⟩

theorem b0 (t : Fin cfg0.N) (k : Fin 8) (r : Fin 4) (d : Fin 128) :
    (iblk m c 0 t : FVec Ideal S8x4x128 .f32) (ix3 k r d) = arg0 m c (ix3 k (ra t r) (cb t d)) := by
  unfold arg0 ra cb; rw [← V_main_arg0 m c]; blk_ext [iblk, idx t]
theorem b1 (t : Fin cfg0.N) (r : Fin 4) (d : Fin 128) : (iblk m c 1 t : FVec Ideal S4x128 .f32) (ix2 r d) = W m c (ra t r) (cb t d) := by
  unfold W arg1 ra cb; rw [← V_main_arg1 m c]; blk_ext [iblk, idx t]
theorem b2 (t : Fin cfg0.N) (r : Fin 4) (d : Fin 128) : (iblk m c 2 t : FVec Ideal S4x128 .f32) (ix2 r d) = M m c (ra t r) (cb t d) := by
  unfold M arg2 ra cb; rw [← V_main_arg2 m c]; blk_ext [iblk, idx t]
theorem b3 (t : Fin cfg0.N) (r : Fin 4) (d : Fin 128) : (iblk m c 3 t : FVec Ideal S4x128 .f32) (ix2 r d) = U m c (ra t r) (cb t d) := by
  unfold U arg3 ra cb; rw [← V_main_arg3 m c]; blk_ext [iblk, idx t]

/-- The four results. -/
def res4 : FVec Ideal S4x128 .f32 := fun i => (G m c (i 0) (i 1) : EReal)
def res5 : FVec Ideal S4x128 .f32 := fun i => (change (G m c (i 0) (i 1)) (W m c (i 0) (i 1)) (M m c (i 0) (i 1)) (U m c (i 0) (i 1)) : EReal)
def res6 : FVec Ideal S4x128 .f32 := fun i => (mom1 (G m c (i 0) (i 1)) (M m c (i 0) (i 1)) : EReal)
def res7 : FVec Ideal S4x128 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamLruConv := fun m ρ _ => Cert.AdamLruConv.Gen.frame m ρ
theorem frame_pi : Cert.quiescent_AdamLruConvIdeal := fun m ρ _ => Cert.AdamLruConvIdeal.Gen.frame m ρ
theorem frame_ri : Cert.quiescent_AdamLruConvRefIdeal := fun m ρ _ => (θ_run Cert.AdamLruConvRefIdeal.defs _ _).mono
  (fun r h => ⟨fun c => (h c).2.2.2.2, sem_eq_zero_of_no_sems (by decide) r.2⟩) (Cert.AdamLruConvRefIdeal.Value.run (F := Ideal) m ρ)

/-- The call and the reference end with the same four arrays. -/
theorem algebraic : Cert.algebraic_AdamLruConvIdeal_AdamLruConvRefIdeal := by
  intro m ρ m' ρ' _ hag
  refine ⟨fun c => res4 m c, fun c => res5 m c, fun c => res6 m c, fun c => res7 m c, ?_, ?_⟩
  · refine (θ_run Cert.AdamLruConvIdeal.defs _ _).mono (fun r h c => ?_) (Cert.AdamLruConvIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamLruConvRefIdeal.defs _ _).mono (fun r h c => ?_) (Cert.AdamLruConvRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 4) (m := 128) i
    · unfold res4 G grad
      pointwise
    · unfold res5 G W M U grad change mom1 mom2
      pointwise
    · unfold res6 G M grad mom1
      pointwise
    · unfold res7 G U grad mom2
      pointwise

end Cert.AdamLruConvRun

end
-- ==== Proof.Adam.SwaIn.lean ====
/- The AdamW step of the input projection of the windowed attention: 384 by 2048 entries in 3 by 4 tiles of 128 by 512. -/
module

public import proofs.«01_k».proof.Defs
public import proofs.«01_k».proof.Proof.Gen.AdamSwaIn
public import proofs.«01_k».proof.Proof.Gen.AdamSwaIn.Frame
public import proofs.«01_k».proof.Proof.Gen.AdamSwaInIdeal.Value
public import proofs.«01_k».proof.Proof.Gen.AdamSwaInRefIdeal.Run
public import proofs.«01_k».proof.Proof.Adam.Step
public import Idealize.ShloMosaic.Lib.StableHlo.Run

@[expose] public section

set_option maxRecDepth 16384

noncomputable section

namespace Cert.AdamSwaInRun

open Cert.AdamSwaInIdeal Cert.AdamSwaInIdeal.Gen Cert.AdamStep
open Idealize.ShloMosaic Idealize.ShloMosaic.TcCoe Idealize.SL.Sem
open Idealize.ShloMosaic.Pipeline (Dat)

section Body
variable (x0 : FVec Ideal S8x128x512 .bf16) (x1 x2 x3 : FVec Ideal S128x512 .f32) (r : Fin 128) (d : Fin 512)

theorem pay5_apply : k0_pay5 (F := Ideal) x0 x1 x2 x3 (ix2 r d) = (grad (fun k => x0 (ix3 k r d)) : EReal) := by
  rw [grad_eq]
  pointwise [k0_pay5, k0_pay4]

theorem out4 : out0_4 (F := Ideal) x0 x1 x2 x3 (ix2 r d) = (grad (fun k => x0 (ix3 k r d)) : EReal) := by
  unfold out0_4
  rw [View.canon_unit_zero (S := S128x512) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  rw [← pay5_apply x0 x1 x2 x3]
  unfold out0_5
  rw [View.canon_unit_zero (S := S128x512) hz]
  simp only [r0_8, View.ld_unit_zero (S := S128x512) hz]
  unfold change mom1 mom2
  pointwise [k0_pay3, k0_pay1, k0_pay2]

theorem out6 : out0_6 (F := Ideal) x0 x1 x2 x3 (ix2 r d) = (mom1 (grad fun k => x0 (ix3 k r d)) (x2 (ix2 r d)) : EReal) := by
  rw [← pay5_apply x0 x1 x2 x3]
  unfold out0_6
  rw [View.canon_unit_zero (S := S128x512) hz]
  simp only [r0_8, View.ld_unit_zero (S := S128x512) hz]
  unfold mom1
  pointwise [k0_pay1]

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S128x512) hz]
  simp only [r0_8, View.ld_unit_zero (S := S128x512) hz]
  unfold mom2
  pointwise [k0_pay2]

end Body

variable (m : (ℓ : Loc nD τ sig) → Buf (Elt Ideal) ℓ) (c : Dev nD)

/-- The arguments: the parts, the weight and its two moments. -/
abbrev arg0 : FVec Ideal S8x384x2048 .bf16 := m ((c : Thread nD τ).loc main_arg0)
abbrev arg1 : FVec Ideal S2048x384 .f32 := m ((c : Thread nD τ).loc main_arg1)
abbrev arg2 : FVec Ideal S2048x384 .f32 := m ((c : Thread nD τ).loc main_arg2)
abbrev arg3 : FVec Ideal S2048x384 .f32 := m ((c : Thread nD τ).loc main_arg3)
def G (i : Fin 384) (j : Fin 2048) : EReal := grad fun k => arg0 m c (ix3 k i j)
def W (i : Fin 384) (j : Fin 2048) : EReal := arg1 m c (ix2 j i)
def M (i : Fin 384) (j : Fin 2048) : EReal := arg2 m c (ix2 j i)
def U (i : Fin 384) (j : Fin 2048) : EReal := arg3 m c (ix2 j i)

/-- The host transposes the last three. -/
theorem V_W (i : Fin 384) (j : Fin 2048) : (V m c main_v0 : FVec Ideal S384x2048 .f32) (ix2 i j) = W m c i j := by
  have e : V m c main_v0 = transpose S384x2048 [1, 0] (arg1 m c) transposes_S2048x384_S384x2048_1_0 := by
    show StableHlo.after hostOps0 _ _ = _
    unfold hostOps0
    after_results
  rw [e]
  unfold W
  pointwise
theorem V_M (i : Fin 384) (j : Fin 2048) : (V m c main_v1 : FVec Ideal S384x2048 .f32) (ix2 i j) = M m c i j := by
  have e : V m c main_v1 = transpose S384x2048 [1, 0] (arg2 m c) transposes_S2048x384_S384x2048_1_0 := by
    show StableHlo.after hostOps0 _ _ = _
    unfold hostOps0
    after_results
  rw [e]
  unfold M
  pointwise
theorem V_U (i : Fin 384) (j : Fin 2048) : (V m c main_v2 : FVec Ideal S384x2048 .f32) (ix2 i j) = U m c i j := by
  have e : V m c main_v2 = transpose S384x2048 [1, 0] (arg3 m c) transposes_S2048x384_S384x2048_1_0 := by
    show StableHlo.after hostOps0 _ _ = _
    unfold hostOps0
    after_results
  rw [e]
  unfold U
  pointwise

theorem idx : ∀ t : Fin cfg0.N, t.val < 12 ∧ win0_0.index t = ![0, t.val / 4, t.val % 4] ∧ win0_1.index t = ![t.val / 4, t.val % 4] ∧ win0_2.index t = ![t.val / 4, t.val % 4] ∧ win0_3.index t = ![t.val / 4, t.val % 4] ∧ win0_4.index t = ![t.val / 4, t.val % 4] ∧ win0_5.index t = ![t.val / 4, t.val % 4] ∧ win0_6.index t = ![t.val / 4, t.val % 4] ∧ win0_7.index t = ![t.val / 4, t.val % 4] :=
  (by decide +kernel : ∀ t : Fin grid0.N, _)

/-- The rows and the columns of a tile. -/
def ra (t : Fin cfg0.N) (r : Fin 128) : Fin 384 := ⟨128 * (t.val / 4) + r.val, by have := (idx t).1; have := r.isLt; omega⟩
def cb (t : Fin cfg0.N) (d : Fin 512) : Fin 2048 := ⟨512 * (t.val % 4) + d.val, by have := (idx t).1; have := d.isLt; omega⟩

theorem b0 (t : Fin cfg0.N) (k : Fin 8) (r : Fin 128) (d : Fin 512) :
    (iblk m c 0 t : FVec Ideal S8x128x512 .bf16) (ix3 k r d) = arg0 m c (ix3 k (ra t r) (cb t d)) := by
  unfold arg0 ra cb; rw [← V_main_arg0 m c]; blk_ext [iblk, idx t]
theorem b1 (t : Fin cfg0.N) (r : Fin 128) (d : Fin 512) : (iblk m c 1 t : FVec Ideal S128x512 .f32) (ix2 r d) = W m c (ra t r) (cb t d) := by
  rw [← V_W]; unfold ra cb; blk_ext [iblk, idx t]
theorem b2 (t : Fin cfg0.N) (r : Fin 128) (d : Fin 512) : (iblk m c 2 t : FVec Ideal S128x512 .f32) (ix2 r d) = M m c (ra t r) (cb t d) := by
  rw [← V_M]; unfold ra cb; blk_ext [iblk, idx t]
theorem b3 (t : Fin cfg0.N) (r : Fin 128) (d : Fin 512) : (iblk m c 3 t : FVec Ideal S128x512 .f32) (ix2 r d) = U m c (ra t r) (cb t d) := by
  rw [← V_U]; unfold ra cb; blk_ext [iblk, idx t]

/-- The four results. -/
def res4 : FVec Ideal S384x2048 .f32 := fun i => (G m c (i 0) (i 1) : EReal)
def res5 : FVec Ideal S384x2048 .f32 := fun i => (change (G m c (i 0) (i 1)) (W m c (i 0) (i 1)) (M m c (i 0) (i 1)) (U m c (i 0) (i 1)) : EReal)
def res6 : FVec Ideal S384x2048 .f32 := fun i => (mom1 (G m c (i 0) (i 1)) (M m c (i 0) (i 1)) : EReal)
def res7 : FVec Ideal S384x2048 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamSwaIn := fun m ρ _ => Cert.AdamSwaIn.Gen.frame m ρ
theorem frame_pi : Cert.quiescent_AdamSwaInIdeal := fun m ρ _ => Cert.AdamSwaInIdeal.Gen.frame m ρ
theorem frame_ri : Cert.quiescent_AdamSwaInRefIdeal := fun m ρ _ => (θ_run Cert.AdamSwaInRefIdeal.defs _ _).mono
  (fun r h => ⟨fun c => (h c).2.2.2.2, sem_eq_zero_of_no_sems (by decide) r.2⟩) (Cert.AdamSwaInRefIdeal.Value.run (F := Ideal) m ρ)

/-- The call and the reference end with the same four arrays. -/
theorem algebraic : Cert.algebraic_AdamSwaInIdeal_AdamSwaInRefIdeal := by
  intro m ρ m' ρ' _ hag
  refine ⟨fun c => res4 m c, fun c => res5 m c, fun c => res6 m c, fun c => res7 m c, ?_, ?_⟩
  · refine (θ_run Cert.AdamSwaInIdeal.defs _ _).mono (fun r h c => ?_) (Cert.AdamSwaInIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamSwaInRefIdeal.defs _ _).mono (fun r h c => ?_) (Cert.AdamSwaInRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 384) (m := 2048) i
    · unfold res4 G grad
      pointwise
    · unfold res5 G W M U grad change mom1 mom2
      pointwise
    · unfold res6 G M grad mom1
      pointwise
    · unfold res7 G U grad mom2
      pointwise

end Cert.AdamSwaInRun

end
-- ==== Proof.Adam.Rep.lean ====
/- The AdamW step of the replicated weights, packed in one array: 576 by 1024 entries in 9 by 2 tiles of 64 by 512. -/
module

public import proofs.«01_k».proof.Defs
public import proofs.«01_k».proof.Proof.Gen.AdamRep
public import proofs.«01_k».proof.Proof.Gen.AdamRep.Frame
public import proofs.«01_k».proof.Proof.Gen.AdamRepIdeal.Value
public import proofs.«01_k».proof.Proof.Gen.AdamRepRefIdeal.Run
public import proofs.«01_k».proof.Proof.Adam.Step
public import Idealize.ShloMosaic.Lib.StableHlo.Run

@[expose] public section

set_option maxRecDepth 16384

noncomputable section

namespace Cert.AdamRepRun

open Cert.AdamRepIdeal Cert.AdamRepIdeal.Gen Cert.AdamStep
open Idealize.ShloMosaic Idealize.ShloMosaic.TcCoe Idealize.SL.Sem
open Idealize.ShloMosaic.Pipeline (Dat)

section Body
variable (x0 : FVec Ideal S8x64x512 .f32) (x1 x2 x3 : FVec Ideal S64x512 .f32) (r : Fin 64) (d : Fin 512)

theorem pay5_apply : k0_pay5 (F := Ideal) x0 x1 x2 x3 (ix2 r d) = (grad (fun k => x0 (ix3 k r d)) : EReal) := by
  rw [grad_eq]
  pointwise [k0_pay5, k0_pay3]

theorem pay6_apply : k0_pay6 (F := Ideal) x0 x1 x2 x3 (ix2 r d) = (mom1 (grad (fun k => x0 (ix3 k r d))) (x2 (ix2 r d)) : EReal) := by
  rw [grad_eq]
  unfold mom1
  pointwise [k0_pay6, k0_pay4, k0_pay3]

theorem out4 : out0_4 (F := Ideal) x0 x1 x2 x3 (ix2 r d) = (grad (fun k => x0 (ix3 k r d)) : EReal) := by
  unfold out0_4
  rw [View.canon_unit_zero (S := S64x512) hz]
  exact pay5_apply ..

theorem out5 : out0_5 (F := Ideal) x0 x1 x2 x3 (ix2 r d) = (change (grad fun k => x0 (ix3 k r d)) (x1 (ix2 r d)) (x2 (ix2 r d)) (x3 (ix2 r d)) : EReal) := by
  unfold out0_5
  rw [View.canon_unit_zero (S := S64x512) hz]
  simp only [r0_8, View.ld_unit_zero (S := S64x512) hz]
  unfold change
  rw [← pay6_apply x0 x1 x2 x3, mom2, ← pay5_apply x0 x1 x2 x3]
  pointwise [k0_pay2, k0_pay1]

theorem out6 : out0_6 (F := Ideal) x0 x1 x2 x3 (ix2 r d) = (mom1 (grad fun k => x0 (ix3 k r d)) (x2 (ix2 r d)) : EReal) := by
  unfold out0_6
  rw [View.canon_unit_zero (S := S64x512) hz]
  exact pay6_apply ..

theorem out7 : out0_7 (F := Ideal) x0 x1 x2 x3 (ix2 r d) = (mom2 (grad fun k => x0 (ix3 k r d)) (x3 (ix2 r d)) : EReal) := by
  rw [← pay5_apply x0 x1 x2 x3]
  unfold out0_7
  rw [View.canon_unit_zero (S := S64x512) hz]
  simp only [r0_8, View.ld_unit_zero (S := S64x512) hz]
  unfold mom2
  pointwise [k0_pay1]

end Body

variable (m : (ℓ : Loc nD τ sig) → Buf (Elt Ideal) ℓ) (c : Dev nD)

/-- The arguments: the parts, the weight and its two moments. -/
abbrev arg0 : FVec Ideal S8x576x1024 .f32 := m ((c : Thread nD τ).loc main_arg0)
abbrev arg1 : FVec Ideal S576x1024 .f32 := m ((c : Thread nD τ).loc main_arg1)
abbrev arg2 : FVec Ideal S576x1024 .f32 := m ((c : Thread nD τ).loc main_arg2)
abbrev arg3 : FVec Ideal S576x1024 .f32 := m ((c : Thread nD τ).loc main_arg3)
def G (i : Fin 576) (j : Fin 1024) : EReal := grad fun k => arg0 m c (ix3 k i j)
def W (i : Fin 576) (j : Fin 1024) : EReal := arg1 m c (ix2 i j)
def M (i : Fin 576) (j : Fin 1024) : EReal := arg2 m c (ix2 i j)
def U (i : Fin 576) (j : Fin 1024) : EReal := arg3 m c (ix2 i j)

theorem idx : ∀ t : Fin cfg0.N, t.val < 18 ∧ win0_0.index t = ![0, t.val / 2, t.val % 2] ∧ win0_1.index t = ![t.val / 2, t.val % 2] ∧ win0_2.index t = ![t.val / 2, t.val % 2] ∧ win0_3.index t = ![t.val / 2, t.val % 2] ∧ win0_4.index t = ![t.val / 2, t.val % 2] ∧ win0_5.index t = ![t.val / 2, t.val % 2] ∧ win0_6.index t = ![t.val / 2, t.val % 2] ∧ win0_7.index t = ![t.val / 2, t.val % 2] :=
  (by decide +kernel : ∀ t : Fin grid0.N, _)

/-- The rows and the columns of a tile. -/
def ra (t : Fin cfg0.N) (r : Fin 64) : Fin 576 := ⟨64 * (t.val / 2) + r.val, by have := (idx t).1; have := r.isLt; omega⟩
def cb (t : Fin cfg0.N) (d : Fin 512) : Fin 1024 := ⟨512 * (t.val % 2) + d.val, by have := (idx t).1; have := d.isLt; omega⟩

theorem b0 (t : Fin cfg0.N) (k : Fin 8) (r : Fin 64) (d : Fin 512) :
    (iblk m c 0 t : FVec Ideal S8x64x512 .f32) (ix3 k r d) = arg0 m c (ix3 k (ra t r) (cb t d)) := by
  unfold arg0 ra cb; rw [← V_main_arg0 m c]; blk_ext [iblk, idx t]
theorem b1 (t : Fin cfg0.N) (r : Fin 64) (d : Fin 512) : (iblk m c 1 t : FVec Ideal S64x512 .f32) (ix2 r d) = W m c (ra t r) (cb t d) := by
  unfold W arg1 ra cb; rw [← V_main_arg1 m c]; blk_ext [iblk, idx t]
theorem b2 (t : Fin cfg0.N) (r : Fin 64) (d : Fin 512) : (iblk m c 2 t : FVec Ideal S64x512 .f32) (ix2 r d) = M m c (ra t r) (cb t d) := by
  unfold M arg2 ra cb; rw [← V_main_arg2 m c]; blk_ext [iblk, idx t]
theorem b3 (t : Fin cfg0.N) (r : Fin 64) (d : Fin 512) : (iblk m c 3 t : FVec Ideal S64x512 .f32) (ix2 r d) = U m c (ra t r) (cb t d) := by
  unfold U arg3 ra cb; rw [← V_main_arg3 m c]; blk_ext [iblk, idx t]

/-- The four results. -/
def res4 : FVec Ideal S576x1024 .f32 := fun i => (G m c (i 0) (i 1) : EReal)
def res5 : FVec Ideal S576x1024 .f32 := fun i => (change (G m c (i 0) (i 1)) (W m c (i 0) (i 1)) (M m c (i 0) (i 1)) (U m c (i 0) (i 1)) : EReal)
def res6 : FVec Ideal S576x1024 .f32 := fun i => (mom1 (G m c (i 0) (i 1)) (M m c (i 0) (i 1)) : EReal)
def res7 : FVec Ideal S576x1024 .f32 := fun i => (mom2 (G m c (i 0) (i 1)) (U m c (i 0) (i 1)) : EReal)

theorem final4 : (dats m 0 c).arrAt 4 cfg0.N = res4 m c := by
  refine (dats m 0 c).arrAt_eq_of_covers 4 _ (by decide +kernel) fun t hf y => ?_
  blk_simp
  rw [after0_4]
  obtain ⟨r, d, rfl⟩ := pair y
  have e : (win0_4.blk t).view.emb (ix2 r d) = ix2 (ra t r) (cb t d) := by unfold ra cb; blk_ext [idx t]
  rw [e]
  simp only [out4, b0]
  rfl

theorem final5 : (dats m 0 c).arrAt 5 cfg0.N = res5 m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (ra t r) (cb t d) := by unfold ra cb; blk_ext [idx t]
  rw [e]
  simp only [out5, b0, b1, b2, b3]
  rfl

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (ra t r) (cb t d) := by unfold ra cb; blk_ext [idx t]
  rw [e]
  simp only [out6, b0, b2]
  rfl

theorem final7 : (dats m 0 c).arrAt 7 cfg0.N = res7 m c := by
  refine (dats m 0 c).arrAt_eq_of_covers 7 _ (by decide +kernel) fun t hf y => ?_
  blk_simp
  rw [after0_7]
  obtain ⟨r, d, rfl⟩ := pair y
  have e : (win0_7.blk t).view.emb (ix2 r d) = ix2 (ra t r) (cb t d) := by unfold ra cb; blk_ext [idx t]
  rw [e]
  simp only [out7, b0, b3]
  rfl

theorem frame_p : Cert.quiescent_AdamRep := fun m ρ _ => Cert.AdamRep.Gen.frame m ρ
theorem frame_pi : Cert.quiescent_AdamRepIdeal := fun m ρ _ => Cert.AdamRepIdeal.Gen.frame m ρ
theorem frame_ri : Cert.quiescent_AdamRepRefIdeal := fun m ρ _ => (θ_run Cert.AdamRepRefIdeal.defs _ _).mono
  (fun r h => ⟨fun c => (h c).2.2.2.2, sem_eq_zero_of_no_sems (by decide) r.2⟩) (Cert.AdamRepRefIdeal.Value.run (F := Ideal) m ρ)

/-- The call and the reference end with the same four arrays. -/
theorem algebraic : Cert.algebraic_AdamRepIdeal_AdamRepRefIdeal := by
  intro m ρ m' ρ' _ hag
  refine ⟨fun c => res4 m c, fun c => res5 m c, fun c => res6 m c, fun c => res7 m c, ?_, ?_⟩
  · refine (θ_run Cert.AdamRepIdeal.defs _ _).mono (fun r h c => ?_) (Cert.AdamRepIdeal.Value.run_blocks (F := Ideal) m ρ)
    obtain ⟨h0, h1, h2, h3, ha⟩ := h c
    exact ⟨h0.trans (final4 m c), h1.trans (final5 m c), h2.trans (final6 m c), h3.trans (final7 m c), ha⟩
  · refine (θ_run Cert.AdamRepRefIdeal.defs _ _).mono (fun r h c => ?_) (Cert.AdamRepRefIdeal.Value.run (F := Ideal) m' ρ')
    obtain ⟨h0, h1, h2, h3, ha⟩ := h c
    obtain ⟨a0, a1, a2, a3⟩ := hag c
    rw [a0] at h0
    rw [a0, a1, a2, a3] at h1
    rw [a0, a2] at h2
    rw [a0, a3] at h3
    refine ⟨h0.trans (funext fun i => ?_), h1.trans (funext fun i => ?_), h2.trans (funext fun i => ?_), h3.trans (funext fun i => ?_), ha⟩ <;>
      obtain ⟨r, d, rfl⟩ := pair (n := 576) (m := 1024) i
    · unfold res4 G grad
      pointwise
    · unfold res5 G W M U grad change mom1 mom2
      pointwise
    · unfold res6 G M grad mom1
      pointwise
    · unfold res7 G U grad mom2
      pointwise

end Cert.AdamRepRun

end
-- ==== Proof.Row.Norm.lean ====
/- The root-mean-square norm of a row of 2048 entries and its gradient, as automatic differentiation leaves it. -/
module

public import Idealize.ShloMosaic.Lib.Pointwise
public import Idealize.ShloMosaic.Lib.Pipeline.ValueKit
public import proofs.«01_k».proof.Proof.Prod.Tiled

@[expose] public section

noncomputable section

namespace Cert.RowNorm

open Idealize.ShloMosaic

/-- The mean square of a row plus epsilon. -/
def nv (x : Fin 2048 → EReal) : EReal := Ideal.div (∑ d, x d * x d) (Ideal.ofBits .f32 0x45000000#32) + Ideal.ofBits .f32 0x358637BD#32
/-- Its reciprocal square root. -/
def nr (x : Fin 2048 → EReal) : EReal := Ideal.rsqrt (nv x)
/-- The derivative of the reciprocal square root. -/
def nk (x : Fin 2048 → EReal) : EReal := Ideal.ofBits .f32 0xBF000000#32 * Ideal.div (nr x) (nv x)
/-- The normalised row. -/
def rn (x g : Fin 2048 → EReal) (d : Fin 2048) : EReal := x d * nr x * g d
/-- The coefficient of the row in the norm's gradient. -/
def rc (x g y : Fin 2048 → EReal) : EReal := Ideal.div ((∑ d, x d * (y d * g d)) * nk x) (Ideal.ofBits .f32 0x45000000#32)
/-- The norm's gradient in its row, for the cotangent `y`. -/
def rb (x g y : Fin 2048 → EReal) (d : Fin 2048) : EReal := y d * g d * nr x + x d * rc x g y + rc x g y * x d
/-- What a row gives to the gain's gradient. -/
def rg (x y : Fin 2048 → EReal) (d : Fin 2048) : EReal := x d * nr x * y d

/-- The rows of a matrix. -/
abbrev rows {n : ℕ} {φ : FTy} (v : FVec Ideal ⟨2, ![n, 2048]⟩ φ) : Fin n → Fin 2048 → EReal := fun r d => v (ix2 r d)

/-- An index of a matrix of one row. -/
theorem pair_one {n : ℕ} (y : (⟨2, ![1, n]⟩ : Shape).Idx) : ∃ d : Fin n, y = ix2 0 d :=
  ⟨y 1, by funext a; fin_cases a; exact Subsingleton.elim (α := Fin 1) _ _; rfl⟩

/-- An accumulator that is reset at the first of `n` tiles and to which every tile adds the sum of its rows: at the last of them
    it holds the sum of all rows. -/
theorem rows_at {N n l k : ℕ} [NeZero n] (hk : k = n * l) (hN : N = n) {ι : Type} (f : Fin k → ι → EReal) (ra : Fin N → Fin l → Fin k)
    (hra : ∀ t x, (ra t x).val = l * t.val + x.val)
    (acc : (s : ℕ) → s < N → ι → EReal)
    (first : ∀ t : Fin N, t.val % n = 0 → ∀ i, acc t.val t.isLt i = 0 + ∑ x, f (ra t x) i)
    (next : ∀ t : Fin N, ¬t.val % n = 0 → ∀ i, acc t.val t.isLt i = acc (t.val - 1) (Nat.lt_of_le_of_lt (Nat.sub_le _ _) t.isLt) i + ∑ x, f (ra t x) i)
    (t : Fin N) (h : t.val % n = n - 1) (i : ι) : acc t.val t.isLt i = ∑ x, f x i := by
  subst hN
  refine (Pipeline.eq_sum_fin_of_reset_step_apply_of_flush (M := EReal) acc N (fun _ => 0) (fun t i => ∑ x, f (ra t x) i)
    first next t h i).trans ((zero_add _).trans ?_)
  refine Cert.Prod.sum_tiles hk (fun x => f x i) _ fun j x hx => ?_
  have e : ∀ s : Fin N, s.val = N * (t.val / N) + j.val → f (ra s x) i = f ⟨l * j.val + x.val, hx⟩ i := fun s hs => by
    have hq : t.val / N = 0 := Nat.div_eq_of_lt t.isLt
    have : ra s x = ⟨l * j.val + x.val, hx⟩ := Fin.ext (by rw [hra, hs, hq, Nat.mul_zero, Nat.zero_add])
    rw [this]
  exact e _ rfl

end Cert.RowNorm

end
-- ==== Proof.Row.NormFwd.lean ====
/- The norm of 8192 rows in 16 tiles of 512 rows. -/
module

public import proofs.«01_k».proof.Defs
public import proofs.«01_k».proof.Proof.Gen.NormFwd
public import proofs.«01_k».proof.Proof.Gen.NormFwd.Frame
public import proofs.«01_k».proof.Proof.Gen.NormFwdIdeal.Value
public import proofs.«01_k».proof.Proof.Gen.NormFwdRefIdeal.Run
public import proofs.«01_k».proof.Proof.Row.Norm
public import Idealize.ShloMosaic.Lib.StableHlo.Run

@[expose] public section

set_option maxRecDepth 16384

noncomputable section

namespace Cert.NormFwdRun

open Cert.NormFwdIdeal Cert.NormFwdIdeal.Gen Cert.Prod Cert.RowNorm
open Idealize.ShloMosaic Idealize.ShloMosaic.TcCoe Idealize.SL.Sem
open Idealize.ShloMosaic.Pipeline (Dat)

theorem pay_apply (x : FVec Ideal S512x2048 .f32) (g : FVec Ideal S1x2048 .f32) (r : Fin 512) (d : Fin 2048) :
    k0_pay1 (F := Ideal) x g (ix2 r d) = (rn (rows x r) (rows g 0) d : EReal) := by
  unfold rn nr nv
  pointwise [k0_pay1]

theorem out_apply (x : FVec Ideal S512x2048 .f32) (g : FVec Ideal S1x2048 .f32) (r : Fin 512) (d : Fin 2048) :
    out0_2 (F := Ideal) x g (ix2 r d) = (rn (rows x r) (rows g 0) d : EReal) := by
  unfold out0_2
  rw [View.canon_unit_zero (S := S512x2048) hz]
  simp only [r0_0, r0_1, View.ld_unit_zero (S := S512x2048) hz, View.ld_unit_zero (S := S1x2048) hz]
  exact pay_apply ..

variable (m : (ℓ : Loc nD τ sig) → Buf (Elt Ideal) ℓ) (c : Dev nD)

/-- The arguments: the rows and the gain. -/
abbrev arg0 : FVec Ideal S8192x2048 .f32 := m ((c : Thread nD τ).loc main_arg0)
abbrev arg1 : FVec Ideal S1x2048 .f32 := m ((c : Thread nD τ).loc main_arg1)

theorem idx : ∀ t : Fin cfg0.N, t.val < 16 ∧ win0_0.index t = ![t.val, 0] ∧ win0_1.index t = ![0, 0] ∧ win0_2.index t = ![t.val, 0] :=
  (by decide +kernel : ∀ t : Fin grid0.N, _)

/-- The rows of a tile. -/
def ra (t : Fin cfg0.N) (r : Fin 512) : Fin 8192 := ⟨512 * t.val + r.val, by have := (idx t).1; have := r.isLt; omega⟩

theorem b0 (t : Fin cfg0.N) (r : Fin 512) : rows (φ := .f32) (iblk m c 0 t : FVec Ideal S512x2048 .f32) r = rows (arg0 m c) (ra t r) := by
  funext d; show (iblk m c 0 t : FVec Ideal S512x2048 .f32) (ix2 r d) = arg0 m c (ix2 _ d)
  unfold arg0 ra; rw [← V_main_arg0 m c]; blk_ext [iblk, idx t]
theorem b1 (t : Fin cfg0.N) : rows (φ := .f32) (iblk m c 1 t : FVec Ideal S1x2048 .f32) 0 = rows (arg1 m c) 0 := by
  funext d; show (iblk m c 1 t : FVec Ideal S1x2048 .f32) (ix2 0 d) = arg1 m c (ix2 0 d)
  unfold arg1; rw [← V_main_arg1 m c]; blk_ext [iblk, idx t]

/-- The normalised rows. -/
def res : FVec Ideal S8192x2048 .bf16 := fun i => (rn (rows (arg0 m c) (i 0)) (rows (arg1 m c) 0) (i 1) : EReal)

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have e : (win0_2.blk t).view.emb (ix2 r d) = ix2 (ra t r) d := by unfold ra; blk_ext [idx t]
  rw [e]
  refine (out_apply ..).trans ?_
  rw [b0, b1]
  rfl

theorem frame_p : Cert.quiescent_NormFwd := fun m ρ _ => Cert.NormFwd.Gen.frame m ρ
theorem frame_pi : Cert.quiescent_NormFwdIdeal := fun m ρ _ => Cert.NormFwdIdeal.Gen.frame m ρ
theorem frame_ri : Cert.quiescent_NormFwdRefIdeal := fun m ρ _ => (θ_run Cert.NormFwdRefIdeal.defs _ _).mono
  (fun r h => ⟨fun c => (h c).2, sem_eq_zero_of_no_sems (by decide) r.2⟩) (Cert.NormFwdRefIdeal.Value.run (F := Ideal) m ρ)

/-- The call and the reference end with the same array. -/
theorem algebraic : Cert.algebraic_NormFwdIdeal_NormFwdRefIdeal := by
  intro m ρ m' ρ' _ hag
  refine ⟨fun c => res m c, ?_, ?_⟩
  · exact (θ_run Cert.NormFwdIdeal.defs _ _).mono (fun r h c => ⟨(h c).1.trans (final m c), (h c).2⟩) (Cert.NormFwdIdeal.Value.run_blocks (F := Ideal) m ρ)
  · refine (θ_run Cert.NormFwdRefIdeal.defs _ _).mono (fun r h c => ⟨(h c).1.trans ?_, (h c).2⟩) (Cert.NormFwdRefIdeal.Value.run (F := Ideal) m' ρ')
    obtain ⟨h0, h1⟩ := hag c
    rw [h0, h1]
    funext i
    obtain ⟨r, d, rfl⟩ := pair (n := 8192) (m := 2048) i
    unfold res rn nr nv
    pointwise

end Cert.NormFwdRun

end
-- ==== Proof.Row.NormMemFwd.lean ====
/- The norm of the 256 memory rows in one tile. -/
module

public import proofs.«01_k».proof.Defs
public import proofs.«01_k».proof.Proof.Gen.NormMemFwd
public import proofs.«01_k».proof.Proof.Gen.NormMemFwd.Frame
public import proofs.«01_k».proof.Proof.Gen.NormMemFwdIdeal.Value
public import proofs.«01_k».proof.Proof.Gen.NormMemFwdRefIdeal.Run
public import proofs.«01_k».proof.Proof.Row.Norm
public import Idealize.ShloMosaic.Lib.StableHlo.Run

@[expose] public section

set_option maxRecDepth 16384

noncomputable section

namespace Cert.NormMemFwdRun

open Cert.NormMemFwdIdeal Cert.NormMemFwdIdeal.Gen Cert.Prod Cert.RowNorm
open Idealize.ShloMosaic Idealize.ShloMosaic.TcCoe Idealize.SL.Sem
open Idealize.ShloMosaic.Pipeline (Dat)

theorem pay_apply (x : FVec Ideal S256x2048 .f32) (g : FVec Ideal S1x2048 .f32) (r : Fin 256) (d : Fin 2048) :
    k0_pay1 (F := Ideal) x g (ix2 r d) = (rn (rows x r) (rows g 0) d : EReal) := by
  unfold rn nr nv
  pointwise [k0_pay1]

theorem out_apply (x : FVec Ideal S256x2048 .f32) (g : FVec Ideal S1x2048 .f32) (r : Fin 256) (d : Fin 2048) :
    out0_2 (F := Ideal) x g (ix2 r d) = (rn (rows x r) (rows g 0) d : EReal) := by
  unfold out0_2
  rw [View.canon_unit_zero (S := S256x2048) hz]
  simp only [r0_0, r0_1, View.ld_unit_zero (S := S256x2048) hz, View.ld_unit_zero (S := S1x2048) hz]
  exact pay_apply ..

variable (m : (ℓ : Loc nD τ sig) → Buf (Elt Ideal) ℓ) (c : Dev nD)

/-- The arguments: the rows and the gain. -/
abbrev arg0 : FVec Ideal S256x2048 .f32 := m ((c : Thread nD τ).loc main_arg0)
abbrev arg1 : FVec Ideal S1x2048 .f32 := m ((c : Thread nD τ).loc main_arg1)

theorem idx : ∀ t : Fin cfg0.N, t.val < 1 ∧ win0_0.index t = ![t.val, 0] ∧ win0_1.index t = ![0, 0] ∧ win0_2.index t = ![t.val, 0] :=
  (by decide +kernel : ∀ t : Fin grid0.N, _)

/-- The rows of a tile. -/
def ra (t : Fin cfg0.N) (r : Fin 256) : Fin 256 := ⟨256 * t.val + r.val, by have := (idx t).1; have := r.isLt; omega⟩

theorem b0 (t : Fin cfg0.N) (r : Fin 256) : rows (φ := .f32) (iblk m c 0 t : FVec Ideal S256x2048 .f32) r = rows (arg0 m c) (ra t r) := by
  funext d; show (iblk m c 0 t : FVec Ideal S256x2048 .f32) (ix2 r d) = arg0 m c (ix2 _ d)
  unfold arg0 ra; rw [← V_main_arg0 m c]; blk_ext [iblk, idx t]
theorem b1 (t : Fin cfg0.N) : rows (φ := .f32) (iblk m c 1 t : FVec Ideal S1x2048 .f32) 0 = rows (arg1 m c) 0 := by
  funext d; show (iblk m c 1 t : FVec Ideal S1x2048 .f32) (ix2 0 d) = arg1 m c (ix2 0 d)
  unfold arg1; rw [← V_main_arg1 m c]; blk_ext [iblk, idx t]

/-- The normalised rows. -/
def res : FVec Ideal S256x2048 .bf16 := fun i => (rn (rows (arg0 m c) (i 0)) (rows (arg1 m c) 0) (i 1) : EReal)

theorem final : (dats m 0 c).arrAt 2 cfg0.N = res m c := by
  refine (dats m 0 c).arrAt_eq_of_covers 2 _ (by decide +kernel) fun t hf y => ?_
  blk_simp
  rw [after0_2]
  obtain ⟨r, d, rfl⟩ := pair y
  have e : (win0_2.blk t).view.emb (ix2 r d) = ix2 (ra t r) d := by unfold ra; blk_ext [idx t]
  rw [e]
  refine (out_apply ..).trans ?_
  rw [b0, b1]
  rfl

theorem frame_p : Cert.quiescent_NormMemFwd := fun m ρ _ => Cert.NormMemFwd.Gen.frame m ρ
theorem frame_pi : Cert.quiescent_NormMemFwdIdeal := fun m ρ _ => Cert.NormMemFwdIdeal.Gen.frame m ρ
theorem frame_ri : Cert.quiescent_NormMemFwdRefIdeal := fun m ρ _ => (θ_run Cert.NormMemFwdRefIdeal.defs _ _).mono
  (fun r h => ⟨fun c => (h c).2, sem_eq_zero_of_no_sems (by decide) r.2⟩) (Cert.NormMemFwdRefIdeal.Value.run (F := Ideal) m ρ)

/-- The call and the reference end with the same array. -/
theorem algebraic : Cert.algebraic_NormMemFwdIdeal_NormMemFwdRefIdeal := by
  intro m ρ m' ρ' _ hag
  refine ⟨fun c => res m c, ?_, ?_⟩
  · exact (θ_run Cert.NormMemFwdIdeal.defs _ _).mono (fun r h c => ⟨(h c).1.trans (final m c), (h c).2⟩) (Cert.NormMemFwdIdeal.Value.run_blocks (F := Ideal) m ρ)
  · refine (θ_run Cert.NormMemFwdRefIdeal.defs _ _).mono (fun r h c => ⟨(h c).1.trans ?_, (h c).2⟩) (Cert.NormMemFwdRefIdeal.Value.run (F := Ideal) m' ρ')
    obtain ⟨h0, h1⟩ := hag c
    rw [h0, h1]
    funext i
    obtain ⟨r, d, rfl⟩ := pair (n := 256) (m := 2048) i
    unfold res rn nr nv
    pointwise

end Cert.NormMemFwdRun

end
-- ==== Proof.Row.NormBwd.lean ====
/- The gradient of the norm of 8192 rows, with the residual's cotangent added: 32 tiles of 256 rows, and the gain's gradient added up
   over the tiles. -/
module

public import proofs.«01_k».proof.Defs
public import proofs.«01_k».proof.Proof.Gen.NormBwd
public import proofs.«01_k».proof.Proof.Gen.NormBwd.Frame
public import proofs.«01_k».proof.Proof.Gen.NormBwdIdeal.Value
public import proofs.«01_k».proof.Proof.Gen.NormBwdRefIdeal.Run
public import proofs.«01_k».proof.Proof.Row.Norm
public import Idealize.ShloMosaic.Lib.StableHlo.Run

@[expose] public section

set_option maxRecDepth 16384

noncomputable section

namespace Cert.NormBwdRun

open Cert.NormBwdIdeal Cert.NormBwdIdeal.Gen Cert.Prod Cert.RowNorm
open Idealize.ShloMosaic Idealize.ShloMosaic.TcCoe Idealize.SL.Sem
open Idealize.ShloMosaic.Pipeline (Dat)

section Body
variable (x y z : FVec Ideal S256x2048 .f32) (g acc : FVec Ideal S1x2048 .f32) (r : Fin 256) (d : Fin 2048)

theorem pay3_apply (u : Fin 1) : k0_pay3 (F := Ideal) x (ix2 r u) = nv (rows x r) := by
  pointwise [k0_pay3]; rfl
theorem pay4_apply (u : Fin 1) : k0_pay4 (F := Ideal) x (ix2 r u) = nr (rows x r) := by
  pointwise [k0_pay4]; rw [pay3_apply]; rfl
theorem dx_apply : k0_pay2 (F := Ideal) (k0_pay6 (F := Ideal) x g y) z (ix2 r d) = (rb (rows x r) (rows g 0) (rows y r) d + z (ix2 r d) : EReal) := by
  pointwise [k0_pay2, k0_pay6]; simp only [pay3_apply, pay4_apply, Fin.sum_univ_one]; rfl
theorem dg_apply : k0_pay1 (F := Ideal) (k0_pay5 (F := Ideal) x y) acc (ix2 0 d) = (acc (ix2 0 d) + ∑ r : Fin 256, rg (rows x r) (rows y r) d : EReal) := by
  pointwise [k0_pay1, k0_pay5]; simp only [pay4_apply]; rfl

variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .f32) (h5 : a5.IsWhole) (a6 : Memref sig .tc .vmem S1x2048 .f32) (h6 : a6.IsWhole)

theorem out_A_4 (hc : cond0_0 i) : out0_A_4 (F := Ideal) c i a1 h1 a2 h2 a3 h3 a4 h4 a5 h5 a6 h6 hc x g y z
    = k0_pay2 (F := Ideal) (k0_pay6 (F := Ideal) x g y) z := by
  unfold out0_A_4
  rw [View.read_writes_eq_canon _ _ _ (cover0_A_4 (F := Ideal) c i a1 h1 a2 h2 a3 h3 a4 h4 a5 h5 a6 h6 hc x g y z)]
  unfold kernelRun0_A
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz, shapeCast_self]

theorem out_B_4 (hc : ¬cond0_0 i) : out0_B_4 (F := Ideal) c i a1 h1 a2 h2 a3 h3 a4 h4 a5 h5 a6 h6 hc x g y z acc
    = k0_pay2 (F := Ideal) (k0_pay6 (F := Ideal) x g y) z := by
  unfold out0_B_4
  rw [View.read_writes_eq_canon _ _ _ (cover0_B_4 (F := Ideal) c i a1 h1 a2 h2 a3 h3 a4 h4 a5 h5 a6 h6 hc x g y z acc)]
  unfold kernelRun0_B
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz, shapeCast_self]

theorem out_A_5 (hc : cond0_0 i) : out0_A_5 (F := Ideal) c i a1 h1 a2 h2 a3 h3 a4 h4 a5 h5 a6 h6 hc x g y z
    = k0_pay1 (F := Ideal) (k0_pay5 (F := Ideal) x y) (k0_pay7 (F := Ideal)) := by
  unfold out0_A_5
  rw [View.read_writes_eq_canon _ _ _ (cover0_A_5 (F := Ideal) c i a1 h1 a2 h2 a3 h3 a4 h4 a5 h5 a6 h6 hc x g y z)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread,
    View.ld_unit_zero (S := S256x2048) hz, View.ld_unit_zero (S := S1x2048) hz, shapeCast_self]

theorem out_B_5 (hc : ¬cond0_0 i) : out0_B_5 (F := Ideal) c i a1 h1 a2 h2 a3 h3 a4 h4 a5 h5 a6 h6 hc x g y z acc
    = k0_pay1 (F := Ideal) (k0_pay5 (F := Ideal) x y) acc := by
  unfold out0_B_5
  rw [View.read_writes_eq_canon _ _ _ (cover0_B_5 (F := Ideal) c i a1 h1 a2 h2 a3 h3 a4 h4 a5 h5 a6 h6 hc x g y z acc)]
  unfold kernelRun0_B
  dsimp only
  sl_unfold_words
  rw [View.canon_unit_zero (S := S1x2048) hz]
  simp only [View.readAt_eq_ld, h1.read_unread, h2.read_unread, h3.read_unread, h4.read_unread, h6.read_unread,
    View.ld_unit_zero (S := S256x2048) hz, View.ld_unit_zero (S := S1x2048) hz, shapeCast_self]

end Body

variable (m : (ℓ : Loc nD τ sig) → Buf (Elt Ideal) ℓ) (c : Dev nD)

/-- The arguments: the rows, the gain, the cotangent and the residual's cotangent. -/
abbrev arg0 : FVec Ideal S8192x2048 .f32 := m ((c : Thread nD τ).loc main_arg0)
abbrev arg1 : FVec Ideal S1x2048 .f32 := m ((c : Thread nD τ).loc main_arg1)
abbrev arg2 : FVec Ideal S8192x2048 .f32 := m ((c : Thread nD τ).loc main_arg2)
abbrev arg3 : FVec Ideal S8192x2048 .f32 := m ((c : Thread nD τ).loc main_arg3)

theorem idx : ∀ t : Fin cfg0.N, t.val < 32 ∧ win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The rows of a tile. -/
def ra (t : Fin cfg0.N) (r : Fin 256) : Fin 8192 := ⟨256 * t.val + r.val, by have := (idx t).1; have := r.isLt; omega⟩

theorem b0 (t : Fin cfg0.N) (r : Fin 256) : rows (φ := .f32) (iblk m c 0 t : FVec Ideal S256x2048 .f32) r = rows (arg0 m c) (ra t r) := by
  funext d; show (iblk m c 0 t : FVec Ideal S256x2048 .f32) (ix2 r d) = arg0 m c (ix2 _ d)
  unfold arg0 ra; rw [← V_main_arg0 m c]; blk_ext [iblk, idx t]
theorem b1 (t : Fin cfg0.N) : rows (φ := .f32) (iblk m c 1 t : FVec Ideal S1x2048 .f32) 0 = rows (arg1 m c) 0 := by
  funext d; show (iblk m c 1 t : FVec Ideal S1x2048 .f32) (ix2 0 d) = arg1 m c (ix2 0 d)
  unfold arg1; rw [← V_main_arg1 m c]; blk_ext [iblk, idx t]
theorem b2 (t : Fin cfg0.N) (r : Fin 256) : rows (φ := .f32) (iblk m c 2 t : FVec Ideal S256x2048 .f32) r = rows (arg2 m c) (ra t r) := by
  funext d; show (iblk m c 2 t : FVec Ideal S256x2048 .f32) (ix2 r d) = arg2 m c (ix2 _ d)
  unfold arg2 ra; rw [← V_main_arg2 m c]; blk_ext [iblk, idx t]
theorem b3 (t : Fin cfg0.N) (r : Fin 256) (d : Fin 2048) : (iblk m c 3 t : FVec Ideal S256x2048 .f32) (ix2 r d) = arg3 m c (ix2 (ra t r) d) := by
  unfold arg3 ra; rw [← V_main_arg3 m c]; blk_ext [iblk, idx t]

/-- What each tile leaves of the rows' gradient. -/
theorem at4 (t : Fin cfg0.N) : (outsAt0 m c t.val t.isLt).1
    = k0_pay2 (F := Ideal) (k0_pay6 (F := Ideal) (iblk m c 0 t) (iblk m c 1 t) (iblk m c 2 t)) (iblk m c 3 t) := by
  by_cases h : t.val % 32 = 0
  · rw [outsAt0_A m c t h]; dsimp only; rw [out_A_4]
  · rw [outsAt0_B m c t h]; dsimp only; rw [out_B_4]

/-- The gain's gradient over the tiles. -/
theorem first5 (t : Fin cfg0.N) (h : t.val % 32 = 0) (d : Fin 2048) : (outsAt0 m c t.val t.isLt).2 (ix2 0 d)
    = (0 + ∑ r, rg (rows (arg0 m c) (ra t r)) (rows (arg2 m c) (ra t r)) d : EReal) := by
  rw [outsAt0_A m c t h]; dsimp only; rw [out_A_5, dg_apply]
  simp only [b0, b2]
  congr 1
  exact zero_word
theorem next5 (t : Fin cfg0.N) (h : ¬t.val % 32 = 0) (d : Fin 2048) : (outsAt0 m c t.val t.isLt).2 (ix2 0 d)
    = ((outsAt0 m c (t.val - 1) (Nat.lt_of_le_of_lt (Nat.sub_le _ _) t.isLt)).2 (ix2 0 d)
      + ∑ r, rg (rows (arg0 m c) (ra t r)) (rows (arg2 m c) (ra t r)) d : EReal) := by
  rw [outsAt0_B m c t h]; dsimp only; rw [out_B_5, dg_apply]
  simp only [b0, b2]

/-- The two results. -/
def res4 : FVec Ideal S8192x2048 .f32 := fun i =>
  (rb (rows (arg0 m c) (i 0)) (rows (arg1 m c) 0) (rows (arg2 m c) (i 0)) (i 1) + arg3 m c (ix2 (i 0) (i 1)) : EReal)
def res5 : FVec Ideal S1x2048 .f32 := fun i => (∑ s, rg (rows (arg0 m c) s) (rows (arg2 m c) s) (i 1) : EReal)

theorem final4 : (dats m 0 c).arrAt 4 cfg0.N = res4 m c := by
  refine (dats m 0 c).arrAt_eq_of_covers 4 _ (by decide +kernel) fun t hf y => ?_
  blk_simp
  rw [after0_4, at4]
  obtain ⟨r, d, rfl⟩ := pair y
  have e : (win0_4.blk t).view.emb (ix2 r d) = ix2 (ra t r) d := by unfold ra; blk_ext [idx t]
  rw [e]
  refine (dx_apply ..).trans ?_
  simp only [b0, b1, b2, b3]
  rfl

theorem total5 (t : Fin cfg0.N) (h : t.val % 32 = 31) (d : Fin 2048) :
    (outsAt0 m c t.val t.isLt).2 (ix2 0 d) = (∑ s, rg (rows (arg0 m c) s) (rows (arg2 m c) s) d : EReal) := by
  have := rows_at (n := 32) (l := 256) (k := 8192) (by decide) N_0 (fun s d => rg (rows (arg0 m c) s) (rows (arg2 m c) s) d) ra (fun _ _ => rfl)
    (fun s h d => (outsAt0 m c s h).2 (ix2 0 d)) (first5 m c) (next5 m c) t h d
  exact this

theorem final5 : (dats m 0 c).arrAt 5 cfg0.N = res5 m c := by
  refine (dats m 0 c).arrAt_eq_of_covers 5 _ (by decide +kernel) fun t hf y => ?_
  blk_simp
  rw [after0_5]
  obtain ⟨d, rfl⟩ := pair_one y
  have e : (win0_5.blk t).view.emb (ix2 0 d) = ix2 0 d := by blk_ext [idx t]
  rw [e]
  exact total5 m c t ((flush0_5 t).mp hf) d

theorem frame_p : Cert.quiescent_NormBwd := fun m ρ _ => Cert.NormBwd.Gen.frame m ρ
theorem frame_pi : Cert.quiescent_NormBwdIdeal := fun m ρ _ => Cert.NormBwdIdeal.Gen.frame m ρ
theorem frame_ri : Cert.quiescent_NormBwdRefIdeal := fun m ρ _ => (θ_run Cert.NormBwdRefIdeal.defs _ _).mono
  (fun r h => ⟨fun c => (h c).2.2, sem_eq_zero_of_no_sems (by decide) r.2⟩) (Cert.NormBwdRefIdeal.Value.run (F := Ideal) m ρ)

/-- The call and the reference end with the same two arrays. -/
theorem algebraic : Cert.algebraic_NormBwdIdeal_NormBwdRefIdeal := by
  intro m ρ m' ρ' _ hag
  refine ⟨fun c => res4 m c, fun c => res5 m c, ?_, ?_⟩
  · refine (θ_run Cert.NormBwdIdeal.defs _ _).mono (fun r h c => ?_) (Cert.NormBwdIdeal.Value.run_blocks (F := Ideal) m ρ)
    obtain ⟨h0, h1, ha⟩ := h c
    exact ⟨h0.trans (final4 m c), h1.trans (final5 m c), ha⟩
  · refine (θ_run Cert.NormBwdRefIdeal.defs _ _).mono (fun r h c => ?_) (Cert.NormBwdRefIdeal.Value.run (F := Ideal) m' ρ')
    obtain ⟨h0, h1, ha⟩ := h c
    obtain ⟨a0, a1, a2, a3⟩ := hag c
    rw [a0, a1, a2, a3] at h0
    rw [a0, a2] at h1
    refine ⟨h0.trans (funext fun i => ?_), h1.trans (funext fun i => ?_), ha⟩
    · obtain ⟨r, d, rfl⟩ := pair (n := 8192) (m := 2048) i
      unfold res4 rb rc nk nr nv
      pointwise
      simp only [Fin.sum_univ_one]
    · obtain ⟨d, rfl⟩ := pair_one (n := 2048) i
      unfold res5 rg nr nv
      pointwise

end Cert.NormBwdRun

end
-- ==== Proof.Row.NormMemBwd.lean ====
/- The gradient of the memory norm's gain: one tile of 256 rows. -/
module

public import proofs.«01_k».proof.Defs
public import proofs.«01_k».proof.Proof.Gen.NormMemBwd
public import proofs.«01_k».proof.Proof.Gen.NormMemBwd.Frame
public import proofs.«01_k».proof.Proof.Gen.NormMemBwdIdeal.Value
public import proofs.«01_k».proof.Proof.Gen.NormMemBwdRefIdeal.Run
public import proofs.«01_k».proof.Proof.Row.Norm
public import Idealize.ShloMosaic.Lib.StableHlo.Run

@[expose] public section

set_option maxRecDepth 16384

noncomputable section

namespace Cert.NormMemBwdRun

open Cert.NormMemBwdIdeal Cert.NormMemBwdIdeal.Gen Cert.Prod Cert.RowNorm
open Idealize.ShloMosaic Idealize.ShloMosaic.TcCoe Idealize.SL.Sem
open Idealize.ShloMosaic.Pipeline (Dat)

theorem pay_apply (x y : FVec Ideal S256x2048 .f32) (d : Fin 2048) :
    k0_pay2 (F := Ideal) x y (k0_pay1 (F := Ideal)) (ix2 0 d) = (∑ r : Fin 256, rg (rows x r) (rows y r) d : EReal) := by
  refine Eq.trans (b := (0 + ∑ r : Fin 256, rg (rows x r) (rows y r) d : EReal)) ?_ (zero_add _)
  rw [← zero_word]
  unfold rg nr nv
  pointwise [k0_pay2, k0_pay1]

section Body
variable (x y : FVec Ideal S256x2048 .f32) (g : FVec Ideal S1x2048 .f32) (c : Dev nD) (i : grid0.Coords)
  (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S1x2048 .f32) (h4 : a4.IsWhole)

theorem out_A (hc : cond0_0 i) : out0_A_3 (F := Ideal) c i a1 h1 a2 h2 a3 h3 a4 h4 hc x g y = k0_pay2 (F := Ideal) x y (k0_pay1 (F := Ideal)) := by
  unfold out0_A_3
  rw [View.read_writes_eq_canon _ _ _ (cover0_A_3 (F := Ideal) c i a1 h1 a2 h2 a3 h3 a4 h4 hc x g y)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread,
    View.ld_unit_zero (S := S256x2048) hz, View.ld_unit_zero (S := S1x2048) hz, shapeCast_self]

end Body

variable (m : (ℓ : Loc nD τ sig) → Buf (Elt Ideal) ℓ) (c : Dev nD)

/-- The arguments that the gain's gradient depends on: the rows and the cotangent. -/
abbrev arg0 : FVec Ideal S256x2048 .f32 := m ((c : Thread nD τ).loc main_arg0)
abbrev arg2 : FVec Ideal S256x2048 .f32 := m ((c : Thread nD τ).loc main_arg2)

theorem idx : ∀ t : Fin cfg0.N, win0_0.index t = ![0, 0] ∧ win0_2.index t = ![0, 0] ∧ win0_3.index t = ![0, 0] :=
  (by decide +kernel : ∀ t : Fin grid0.N, _)

theorem b0 (t : Fin cfg0.N) (r : Fin 256) : rows (φ := .f32) (iblk m c 0 t : FVec Ideal S256x2048 .f32) r = rows (arg0 m c) r := by
  funext d; show (iblk m c 0 t : FVec Ideal S256x2048 .f32) (ix2 r d) = arg0 m c (ix2 r d)
  unfold arg0; rw [← V_main_arg0 m c]; blk_ext [iblk, idx t]
theorem b2 (t : Fin cfg0.N) (r : Fin 256) : rows (φ := .f32) (iblk m c 2 t : FVec Ideal S256x2048 .f32) r = rows (arg2 m c) r := by
  funext d; show (iblk m c 2 t : FVec Ideal S256x2048 .f32) (ix2 r d) = arg2 m c (ix2 r d)
  unfold arg2; rw [← V_main_arg2 m c]; blk_ext [iblk, idx t]

/-- The gain's gradient. -/
def res : FVec Ideal S1x2048 .f32 := fun i => (∑ s, rg (rows (arg0 m c) s) (rows (arg2 m c) s) (i 1) : EReal)

theorem final : (dats m 0 c).arrAt 3 cfg0.N = res m c := by
  refine (dats m 0 c).arrAt_eq_of_covers 3 _ (by decide +kernel) fun t hf y => ?_
  blk_simp
  rw [after0_3]
  unfold outsAt0
  rw [out_A]
  obtain ⟨d, rfl⟩ := pair_one y
  have e : (win0_3.blk t).view.emb (ix2 0 d) = ix2 0 d := by blk_ext [idx t]
  rw [e]
  refine (pay_apply ..).trans ?_
  simp only [b0, b2]
  rfl

theorem frame_p : Cert.quiescent_NormMemBwd := fun m ρ _ => Cert.NormMemBwd.Gen.frame m ρ
theorem frame_pi : Cert.quiescent_NormMemBwdIdeal := fun m ρ _ => Cert.NormMemBwdIdeal.Gen.frame m ρ
theorem frame_ri : Cert.quiescent_NormMemBwdRefIdeal := fun m ρ _ => (θ_run Cert.NormMemBwdRefIdeal.defs _ _).mono
  (fun r h => ⟨fun c => (h c).2, sem_eq_zero_of_no_sems (by decide) r.2⟩) (Cert.NormMemBwdRefIdeal.Value.run (F := Ideal) m ρ)

/-- The call and the reference end with the same array. -/
theorem algebraic : Cert.algebraic_NormMemBwdIdeal_NormMemBwdRefIdeal := by
  intro m ρ m' ρ' _ hag
  refine ⟨fun c => res m c, ?_, ?_⟩
  · exact (θ_run Cert.NormMemBwdIdeal.defs _ _).mono (fun r h c => ⟨(h c).1.trans (final m c), (h c).2⟩) (Cert.NormMemBwdIdeal.Value.run_blocks (F := Ideal) m ρ)
  · refine (θ_run Cert.NormMemBwdRefIdeal.defs _ _).mono (fun r h c => ⟨(h c).1.trans ?_, (h c).2⟩) (Cert.NormMemBwdRefIdeal.Value.run (F := Ideal) m' ρ')
    obtain ⟨h0, h1, h2⟩ := hag c
    rw [h0, h2]
    funext i
    obtain ⟨d, rfl⟩ := pair_one (n := 2048) i
    unfold res rg nr nv
    pointwise

end Cert.NormMemBwdRun

end
-- ==== Proof.Row.LossGrad.lean ====
/- The loss on one device and its gradient: 16 tiles of 512 rows, the loss added up over the tiles. -/
module

public import proofs.«01_k».proof.Defs
public import proofs.«01_k».proof.Proof.Gen.LossGrad
public import proofs.«01_k».proof.Proof.Gen.LossGrad.Frame
public import proofs.«01_k».proof.Proof.Gen.LossGradIdeal.Value
public import proofs.«01_k».proof.Proof.Gen.LossGradRefIdeal.Run
public import proofs.«01_k».proof.Proof.Row.Norm
public import Idealize.ShloMosaic.Lib.StableHlo.Run

@[expose] public section

set_option maxRecDepth 16384

noncomputable section

namespace Cert.LossGradRun

open Cert.LossGradIdeal Cert.LossGradIdeal.Gen Cert.Prod Cert.RowNorm
open Idealize.ShloMosaic Idealize.ShloMosaic.TcCoe Idealize.SL.Sem
open Idealize.ShloMosaic.Pipeline (Dat)

/-- The constants 1/2, 1, 2 and 2048. -/
theorem half_val : Ideal.ofBits .f32 0x3F000000#32 = ((1 / 2 : ℝ) : EReal) := by
  simp [Ideal.ofBits, Ideal.ieee]
  rw [← EReal.coe_mul]
  norm_num
theorem one_val : Ideal.ofBits .f32 0x3F800000#32 = ((1 : ℝ) : EReal) := by
  simp [Ideal.ofBits, Ideal.ieee]
  rw [← EReal.coe_mul]
  norm_num
theorem two_val : Ideal.ofBits .f32 0x40000000#32 = ((2 : ℝ) : EReal) := by
  simp [Ideal.ofBits, Ideal.ieee]
  rw [← EReal.coe_mul]
  norm_num
theorem width_val : Ideal.ofBits .f32 0x45000000#32 = ((2048 : ℝ) : EReal) := by
  simp [Ideal.ofBits, Ideal.ieee]
  rw [← EReal.coe_mul]
  norm_num

/-- Half of a sum is the sum of the halves. -/
theorem half_sum {ι : Type} (s : Finset ι) (f : ι → EReal) :
    Ideal.ofBits .f32 0x3F000000#32 * ∑ i ∈ s, f i = ∑ i ∈ s, Ideal.ofBits .f32 0x3F000000#32 * f i := by
  classical
  rw [half_val]
  induction s using Finset.induction_on with
  | empty => simp
  | insert a s ha ih =>
    rw [Finset.sum_insert ha, Finset.sum_insert ha, EReal.left_distrib_of_nonneg_of_ne_top (by norm_num) (EReal.coe_ne_top _), ih]

/-- The loss's derivative in an error: the reference multiplies by 1/2, the width's reciprocal and 2. -/
theorem slope (e : EReal) : Ideal.div (Ideal.ofBits .f32 0x3F000000#32 * Ideal.ofBits .f32 0x3F800000#32) (Ideal.ofBits .f32 0x45000000#32)
    * (Ideal.ofBits .f32 0x40000000#32 * e) = Ideal.div e (Ideal.ofBits .f32 0x45000000#32) := by
  rw [half_val, one_val, two_val, width_val, Ideal.div_coe (by norm_num), Ideal.div_coe (by norm_num), ← mul_assoc,
    ← EReal.coe_mul, ← EReal.coe_mul, ← EReal.coe_mul, mul_comm]
  norm_num

/-- The mean square of a row's error. -/
def ms (x y : Fin 2048 → EReal) : EReal := Ideal.div (∑ d, (x d - y d) * (x d - y d)) (Ideal.ofBits .f32 0x45000000#32)

section Body
variable (x y : FVec Ideal S512x2048 .f32) (acc : FVec Ideal S8x128 .f32)

theorem dy_apply (r : Fin 512) (d : Fin 2048) : k0_pay2 (F := Ideal) x y (ix2 r d)
    = (Ideal.div (x (ix2 r d) - y (ix2 r d)) (Ideal.ofBits .f32 0x45000000#32) : EReal) := by
  pointwise [k0_pay2, k0_pay1]
theorem loss_apply (p : Fin 8) (q : Fin 128) : k0_pay4 (F := Ideal) x y acc (ix2 p q)
    = (acc (ix2 p q) + ∑ r : Fin 512, Ideal.ofBits .f32 0x3F000000#32 * ms (rows x r) (rows y r) : EReal) := by
  rw [← half_sum]
  unfold ms
  pointwise [k0_pay4, k0_pay1]

variable (c : Dev nD) (i : grid0.Coords)
  (a1 : Memref sig .tc .vmem S512x2048 .f32) (h1 : a1.IsWhole) (a2 : Memref sig .tc .vmem S512x2048 .f32) (h2 : a2.IsWhole)
  (a3 : Memref sig .tc .vmem S512x2048 .f32) (h3 : a3.IsWhole) (a4 : Memref sig .tc .vmem S8x128 .f32) (h4 : a4.IsWhole)

theorem out_A_2 (hc : cond0_0 i) : out0_A_2 (F := Ideal) c i a1 h1 a2 h2 a3 h3 a4 h4 hc x y = k0_pay2 (F := Ideal) x y := by
  unfold out0_A_2
  rw [View.read_writes_eq_canon _ _ _ (cover0_A_2 (F := Ideal) c i a1 h1 a2 h2 a3 h3 a4 h4 hc x y)]
  unfold kernelRun0_A
  dsimp only
  sl_unfold_words
  rw [View.canon_unit_zero (S := S512x2048) hz]
  simp only [View.readAt_eq_ld, h1.read_unread, h2.read_unread, View.ld_unit_zero (S := S512x2048) hz, shapeCast_self]

theorem out_B_2 (hc : ¬cond0_0 i) : out0_B_2 (F := Ideal) c i a1 h1 a2 h2 a3 h3 a4 h4 hc x y acc = k0_pay2 (F := Ideal) x y := by
  unfold out0_B_2
  rw [View.read_writes_eq_canon _ _ _ (cover0_B_2 (F := Ideal) c i a1 h1 a2 h2 a3 h3 a4 h4 hc x y acc)]
  unfold kernelRun0_B
  dsimp only
  sl_unfold_words
  rw [View.canon_unit_zero (S := S512x2048) hz]
  simp only [View.readAt_eq_ld, h1.read_unread, h2.read_unread, View.ld_unit_zero (S := S512x2048) hz, shapeCast_self]

theorem out_A_3 (hc : cond0_0 i) : out0_A_3 (F := Ideal) c i a1 h1 a2 h2 a3 h3 a4 h4 hc x y = k0_pay4 (F := Ideal) x y (k0_pay3 (F := Ideal)) := by
  unfold out0_A_3
  rw [View.read_writes_eq_canon _ _ _ (cover0_A_3 (F := Ideal) c i a1 h1 a2 h2 a3 h3 a4 h4 hc x y)]
  unfold kernelRun0_A
  dsimp only
  sl_unfold_words
  rw [View.canon_cons_unit_zero (S := S8x128) hz, View.readCov_unit_zero (S := S8x128) _ hz]
  simp only [View.readAt_eq_ld, h1.read_unread, h2.read_unread, View.ld_unit_zero (S := S512x2048) hz, shapeCast_self]

theorem out_B_3 (hc : ¬cond0_0 i) : out0_B_3 (F := Ideal) c i a1 h1 a2 h2 a3 h3 a4 h4 hc x y acc = k0_pay4 (F := Ideal) x y acc := by
  unfold out0_B_3
  rw [View.read_writes_eq_canon _ _ _ (cover0_B_3 (F := Ideal) c i a1 h1 a2 h2 a3 h3 a4 h4 hc x y acc)]
  unfold kernelRun0_B
  dsimp only
  sl_unfold_words
  rw [View.canon_unit_zero (S := S8x128) hz]
  simp only [View.readAt_eq_ld, h1.read_unread, h2.read_unread, h4.read_unread, View.ld_unit_zero (S := S512x2048) hz,
    View.ld_unit_zero (S := S8x128) hz, shapeCast_self]

end Body

variable (m : (ℓ : Loc nD τ sig) → Buf (Elt Ideal) ℓ) (c : Dev nD)

/-- The arguments: the last layer's output and the target. -/
abbrev arg0 : FVec Ideal S8192x2048 .f32 := m ((c : Thread nD τ).loc main_arg0)
abbrev arg1 : FVec Ideal S8192x2048 .f32 := m ((c : Thread nD τ).loc main_arg1)

theorem idx : ∀ t : Fin cfg0.N, t.val < 16 ∧ win0_0.index t = ![t.val, 0] ∧ win0_1.index t = ![t.val, 0] ∧ win0_2.index t = ![t.val, 0]
    ∧ win0_3.index t = ![0, 0] :=
  (by decide +kernel : ∀ t : Fin grid0.N, _)

/-- The rows of a tile. -/
def ra (t : Fin cfg0.N) (r : Fin 512) : Fin 8192 := ⟨512 * t.val + r.val, by have := (idx t).1; have := r.isLt; omega⟩

theorem b0 (t : Fin cfg0.N) (r : Fin 512) (d : Fin 2048) : (iblk m c 0 t : FVec Ideal S512x2048 .f32) (ix2 r d) = arg0 m c (ix2 (ra t r) d) := by
  unfold arg0 ra; rw [← V_main_arg0 m c]; blk_ext [iblk, idx t]
theorem b1 (t : Fin cfg0.N) (r : Fin 512) (d : Fin 2048) : (iblk m c 1 t : FVec Ideal S512x2048 .f32) (ix2 r d) = arg1 m c (ix2 (ra t r) d) := by
  unfold arg1 ra; rw [← V_main_arg1 m c]; blk_ext [iblk, idx t]

theorem rows0 (t : Fin cfg0.N) (r : Fin 512) : rows (φ := .f32) (iblk m c 0 t : FVec Ideal S512x2048 .f32) r = rows (arg0 m c) (ra t r) :=
  funext fun d => b0 m c t r d
theorem rows1 (t : Fin cfg0.N) (r : Fin 512) : rows (φ := .f32) (iblk m c 1 t : FVec Ideal S512x2048 .f32) r = rows (arg1 m c) (ra t r) :=
  funext fun d => b1 m c t r d

theorem at2 (t : Fin cfg0.N) : (outsAt0 m c t.val t.isLt).1 = k0_pay2 (F := Ideal) (iblk m c 0 t) (iblk m c 1 t) := by
  by_cases h : t.val % 16 = 0
  · rw [outsAt0_A m c t h]; dsimp only; rw [out_A_2]
  · rw [outsAt0_B m c t h]; dsimp only; rw [out_B_2]

/-- Half of the mean square of a row's error. -/
def hm (s : Fin 8192) : EReal := Ideal.ofBits .f32 0x3F000000#32 * ms (rows (arg0 m c) s) (rows (arg1 m c) s)

theorem step3 (acc : FVec Ideal S8x128 .f32) (t : Fin cfg0.N) (p : Fin 8) (q : Fin 128) :
    k0_pay4 (F := Ideal) (iblk m c 0 t) (iblk m c 1 t) acc (ix2 p q) = (acc (ix2 p q) + ∑ r, hm m c (ra t r) : EReal) := by
  refine (loss_apply ..).trans ?_
  simp only [rows0, rows1]
  rfl

/-- The loss over the tiles. -/
theorem first3 (t : Fin cfg0.N) (h : t.val % 16 = 0) (i : Fin 8 × Fin 128) : (outsAt0 m c t.val t.isLt).2 (ix2 i.1 i.2)
    = (0 + ∑ r, hm m c (ra t r) : EReal) := by
  rw [outsAt0_A m c t h]; dsimp only; rw [out_A_3, step3]
  congr 1
  exact zero_word
theorem next3 (t : Fin cfg0.N) (h : ¬t.val % 16 = 0) (i : Fin 8 × Fin 128) : (outsAt0 m c t.val t.isLt).2 (ix2 i.1 i.2)
    = ((outsAt0 m c (t.val - 1) (Nat.lt_of_le_of_lt (Nat.sub_le _ _) t.isLt)).2 (ix2 i.1 i.2) + ∑ r, hm m c (ra t r) : EReal) := by
  rw [outsAt0_B m c t h]; dsimp only; rw [out_B_3, step3]
theorem total3 (t : Fin cfg0.N) (h : t.val % 16 = 15) (p : Fin 8) (q : Fin 128) :
    (outsAt0 m c t.val t.isLt).2 (ix2 p q) = (∑ s, hm m c s : EReal) := by
  have := rows_at (n := 16) (l := 512) (k := 8192) (by decide) N_0 (fun s (_ : Fin 8 × Fin 128) => hm m c s) ra (fun _ _ => rfl)
    (fun s h i => (outsAt0 m c s h).2 (ix2 i.1 i.2)) (first3 m c) (next3 m c) t h (p, q)
  exact this

/-- The two results: the gradient, and the loss in every entry of a small array. -/
def res2 : FVec Ideal S8192x2048 .f32 := fun i => (Ideal.div (arg0 m c i - arg1 m c i) (Ideal.ofBits .f32 0x45000000#32) : EReal)
def res3 : FVec Ideal S8x128 .f32 := fun _ => (∑ s, hm m c s : EReal)

theorem final2 : (dats m 0 c).arrAt 2 cfg0.N = res2 m c := by
  refine (dats m 0 c).arrAt_eq_of_covers 2 _ (by decide +kernel) fun t hf y => ?_
  blk_simp
  rw [after0_2, at2]
  obtain ⟨r, d, rfl⟩ := pair y
  have e : (win0_2.blk t).view.emb (ix2 r d) = ix2 (ra t r) d := by unfold ra; blk_ext [idx t]
  rw [e]
  refine (dy_apply ..).trans ?_
  rw [b0, b1]
  rfl

theorem final3 : (dats m 0 c).arrAt 3 cfg0.N = res3 m c := by
  refine (dats m 0 c).arrAt_eq_of_covers 3 _ (by decide +kernel) fun t hf y => ?_
  blk_simp
  rw [after0_3]
  obtain ⟨p, q, rfl⟩ := pair y
  exact total3 m c t ((flush0_3 t).mp hf) p q

theorem frame_p : Cert.quiescent_LossGrad := fun m ρ _ => Cert.LossGrad.Gen.frame m ρ
theorem frame_pi : Cert.quiescent_LossGradIdeal := fun m ρ _ => Cert.LossGradIdeal.Gen.frame m ρ
theorem frame_ri : Cert.quiescent_LossGradRefIdeal := fun m ρ _ => (θ_run Cert.LossGradRefIdeal.defs _ _).mono
  (fun r h => ⟨fun c => (h c).2.2, sem_eq_zero_of_no_sems (by decide) r.2⟩) (Cert.LossGradRefIdeal.Value.run (F := Ideal) m ρ)

/-- The call and the reference end with the same two arrays. -/
theorem algebraic : Cert.algebraic_LossGradIdeal_LossGradRefIdeal := by
  intro m ρ m' ρ' _ hag
  refine ⟨fun c => res2 m c, fun c => res3 m c, ?_, ?_⟩
  · refine (θ_run Cert.LossGradIdeal.defs _ _).mono (fun r h c => ?_) (Cert.LossGradIdeal.Value.run_blocks (F := Ideal) m ρ)
    obtain ⟨h0, h1, ha⟩ := h c
    exact ⟨h0.trans (final2 m c), h1.trans (final3 m c), ha⟩
  · refine (θ_run Cert.LossGradRefIdeal.defs _ _).mono (fun r h c => ?_) (Cert.LossGradRefIdeal.Value.run (F := Ideal) m' ρ')
    obtain ⟨h0, h1, ha⟩ := h c
    obtain ⟨a0, a1⟩ := hag c
    rw [a0, a1] at h0
    rw [a0, a1] at h1
    refine ⟨h0.trans (funext fun i => ?_), h1.trans (funext fun i => ?_), ha⟩
    · obtain ⟨r, d, rfl⟩ := pair (n := 8192) (m := 2048) i
      refine Eq.trans ?_ (slope (arg0 m c (ix2 r d) - arg1 m c (ix2 r d)))
      pointwise
    · obtain ⟨p, q, rfl⟩ := pair (n := 8) (m := 128) i
      refine Eq.trans ?_ (half_sum Finset.univ fun s => ms (rows (arg0 m c) s) (rows (arg1 m c) s))
      unfold ms
      pointwise

end Cert.LossGradRun

end
-- ==== Proof.Row.XattnFwd.lean ====
/- The forward cross-attention: 16 tiles of 512 query rows for each of four heads. The row functions are the ones of the
   gradient's program (Proof/Xattn). -/
module

public import proofs.«01_k».proof.Defs
public import proofs.«01_k».proof.Proof.Gen.XattnFwd
public import proofs.«01_k».proof.Proof.Gen.XattnFwd.Frame
public import proofs.«01_k».proof.Proof.Gen.XattnFwdIdeal.Value
public import proofs.«01_k».proof.Proof.Gen.XattnFwdRefIdeal.Run
public import proofs.«01_k».proof.Proof.Gen.XattnFwdRefIdeal.Read
public import proofs.«01_k».proof.Proof.Prod.Tiled
public import proofs.«01_k».proof.Proof.Xattn.Rows
public import proofs.«01_k».proof.Proof.Xattn.Host
public import Idealize.ShloMosaic.Lib.StableHlo.Run

@[expose] public section

set_option maxRecDepth 16384

noncomputable section

namespace Cert.XattnFwdRef

open Cert.XattnFwdRefIdeal Cert.XattnFwdRefIdeal.Gen Cert.XattnFwdRefIdeal.Read Cert.XattnSpec Cert.XattnRows Idealize.ShloMosaic

variable (q : FVec Ideal S8192x512 .f32) (kv : FVec Ideal S256x1024 .f32) (g k : FVec Ideal S1x128 .f32)

theorem bot_bits : Ideal.ofBits .f32 0xFF800000#32 = ⊥ := by simp [Ideal.ofBits, Ideal.ieee]

/-- The attention's result at a row of one head. -/
def out (h : Fin 4) (s : Fin 8192) (d : Fin 128) : EReal := ∑ m, P q kv g k h s m * VL kv h m d

theorem r2 (s : Fin 8192) (h : Fin 4) (d : Fin 128) : val_main_v2 (F := Ideal) q (ix3 s h d) = Q q h s d := by
  pointwise [val_main_v2]
  unfold Q; congr 1

theorem r16 (m : Fin 256) (h : Fin 4) (d : Fin 128) : val_main_v16 (F := Ideal) kv (ix3 m h d) = K kv h m d := by
  pointwise [val_main_v16, val_main_v0]
  unfold K; congr 1

theorem r30 (m : Fin 256) (h : Fin 4) (d : Fin 128) : val_main_v30 (F := Ideal) kv (ix3 m h d) = VL kv h m d := by
  pointwise [val_main_v30, val_main_v1]
  rfl

theorem r10 (s : Fin 8192) (h : Fin 4) (z : Fin 1) : val_main_v10 (F := Ideal) q (ix3 s h z) = nr (Q q h s) := by
  pointwise [val_main_v10, val_main_v9, val_main_v8, val_main_cst_1, val_main_v7, val_main_v6, val_main_cst_0, val_main_v5, val_main_v4, val_main_v3, val_main_cst]
  simp only [r2]
  rfl

theorem r15 (s : Fin 8192) (h : Fin 4) (d : Fin 128) : val_main_v15 (F := Ideal) q g (ix3 s h d) = qn q g h s d := by
  pointwise [val_main_v15, val_main_v14, val_main_v13, val_main_v12, val_main_v11]
  rw [r2, r10]
  rfl

theorem r24 (m : Fin 256) (h : Fin 4) (z : Fin 1) : val_main_v24 (F := Ideal) kv (ix3 m h z) = nr (K kv h m) := by
  pointwise [val_main_v24, val_main_v23, val_main_v22, val_main_cst_4, val_main_v21, val_main_v20, val_main_cst_3, val_main_v19, val_main_v18, val_main_v17, val_main_cst_2]
  simp only [r16]
  rfl

theorem r29 (m : Fin 256) (h : Fin 4) (d : Fin 128) : val_main_v29 (F := Ideal) kv k (ix3 m h d) = kn kv k h m d := by
  pointwise [val_main_v29, val_main_v28, val_main_v27, val_main_v26, val_main_v25]
  rw [r16, r24]
  rfl

theorem r33 (h : Fin 4) (s : Fin 8192) (m : Fin 256) : val_main_v33 (F := Ideal) q kv g k (ix3 h s m) = sc (qn q g h s) (kn kv k h) m := by
  pointwise [val_main_v33, val_main_v32, val_main_cst_5, val_main_v31]
  simp only [r15, r29]
  rfl

theorem r34 (h : Fin 4) (s : Fin 8192) : val_main_v34 (F := Ideal) q kv g k (ix2 h s) = mx (qn q g h s) (kn kv k h) := by
  have e : (fun m => val_main_v33 (F := Ideal) q kv g k (ix3 h s m)) = fun m => sc (qn q g h s) (kn kv k h) m := funext (r33 q kv g k h s)
  have c : val_main_cst_6 (F := Ideal) (Shape.Idx.first h_S_) = ⊥ := bot_bits
  unfold val_main_v34
  generalize val_main_v33 (F := Ideal) q kv g k = X at e ⊢
  refine (XattnHost.max2 _ _ _ _ h s).trans ?_
  rw [e, c]
  unfold mx
  rfl

theorem r35 (h : Fin 4) (s : Fin 8192) : val_main_v35 (F := Ideal) (ix2 h s) = ⊥ := by
  pointwise [val_main_v35, val_main_cst_7]
  exact bot_bits

theorem r36 (h : Fin 4) (s : Fin 8192) : val_main_v36 (F := Ideal) q kv g k (ix2 h s) = mx (qn q g h s) (kn kv k h) := by
  rw [val_main_v36_apply, r35, r34]
  generalize mx (qn q g h s) (kn kv k h) = y
  exact max_eq_right bot_le

theorem r40 (h : Fin 4) (s : Fin 8192) (m : Fin 256) : val_main_v40 (F := Ideal) q kv g k (ix3 h s m) = ex (qn q g h s) (kn kv k h) m := by
  pointwise [val_main_v40, val_main_v39, val_main_v38, val_main_v37]
  rw [r33, r36]
  rfl

theorem r42 (h : Fin 4) (s : Fin 8192) (z : Fin 1) : val_main_v42 (F := Ideal) q kv g k (ix3 h s z) = ls (qn q g h s) (kn kv k h) := by
  pointwise [val_main_v42, val_main_v41, val_main_cst_8]
  simp only [r40]
  rfl

theorem r44 (h : Fin 4) (s : Fin 8192) (m : Fin 256) : val_main_v44 (F := Ideal) q kv g k (ix3 h s m) = P q kv g k h s m := by
  pointwise [val_main_v44, val_main_v43]
  rw [r40, r42]
  rfl

theorem r45 (h : Fin 4) (d : Fin 128) (s : Fin 8192) : val_main_v45 (F := Ideal) q kv g k (ix3 h d s) = out q kv g k h s d := by
  pointwise [val_main_v45]
  simp only [r30, r44]
  exact Finset.sum_congr rfl fun _ _ => mul_comm (G := EReal) _ _

theorem r48 (s : Fin 8192) (j : Fin 512) : val_main_v48 (F := Ideal) q kv g k (ix2 s j) = out q kv g k (hd j) s (pl j) := by
  pointwise [val_main_v48, val_main_v47, val_main_v46]
  exact r45 ..

end Cert.XattnFwdRef

namespace Cert.XattnFwdRun

open Cert.XattnFwdIdeal Cert.XattnFwdIdeal.Gen Cert.Prod Cert.XattnSpec Cert.XattnRows Cert.XattnFwdRef
open Idealize.ShloMosaic Idealize.ShloMosaic.TcCoe Idealize.SL.Sem
open Idealize.ShloMosaic.Pipeline (Dat)

/-- The rows of a block. -/
abbrev rows {n w : ℕ} {φ : FTy} (v : FVec Ideal ⟨2, ![n, w]⟩ φ) : Fin n → Fin w → EReal := fun r d => v (ix2 r d)
/-- The normalised rows of a block. -/
abbrev rnRows {n : ℕ} (x : Fin n → Fin 128 → EReal) (g : Fin 128 → EReal) : Fin n → Fin 128 → EReal := fun r => rn (x r) g

section Blocks

variable (q : FVec Ideal S512x128 .f32) (k v : FVec Ideal S256x128 .f32) (g h : FVec Ideal S1x128 .f32)

theorem pay2_apply (r : Fin 512) (z : Fin 256) :
    k0_pay2 (F := Ideal) q k g h (ix2 r z) = (ex (rnRows (rows q) (rows g 0) r) (rnRows (rows k) (rows h 0)) z : EReal) := by
  pointwise [k0_pay2]; rw [bot_bits]; rfl

theorem pay1_apply (r : Fin 512) (d : Fin 128) :
    k0_pay1 (F := Ideal) v (k0_pay2 q k g h) (ix2 r d)
      = (∑ z, pr (rnRows (rows q) (rows g 0) r) (rnRows (rows k) (rows h 0)) z * rows v z d : EReal) := by
  pointwise [k0_pay1]
  simp only [pay2_apply]
  rfl

theorem out_apply (r : Fin 512) (d : Fin 128) : out0_5 (F := Ideal) q k v g h (ix2 r d)
    = (∑ z, pr (rnRows (rows q) (rows g 0) r) (rnRows (rows k) (rows h 0)) z * rows v z d : EReal) := by
  unfold out0_5
  rw [View.canon_unit_zero (S := S512x128) hz]
  simp only [r0_0, r0_1, r0_2, View.ld_unit_zero (S := S512x128) hz, View.ld_unit_zero (S := S256x128) hz, View.ld_unit_zero (S := S1x128) hz]
  exact pay1_apply ..

end Blocks

variable (m : (ℓ : Loc nD τ sig) → Buf (Elt Ideal) ℓ) (c : Dev nD)

/-- The arguments: the queries, the keys and values, and the two gains. -/
abbrev xq : FVec Ideal S8192x512 .f32 := m ((c : Thread nD τ).loc main_arg0)
abbrev xkv : FVec Ideal S256x1024 .f32 := m ((c : Thread nD τ).loc main_arg1)
abbrev xg : FVec Ideal S1x128 .f32 := m ((c : Thread nD τ).loc main_arg2)
abbrev xh : FVec Ideal S1x128 .f32 := m ((c : Thread nD τ).loc main_arg3)

theorem idx : ∀ t : Fin cfg0.N, t.val / 16 < 4 ∧ win0_0.index t = ![t.val % 16, t.val / 16]
    ∧ win0_1.index t = ![0, t.val / 16] ∧ win0_2.index t = ![0, 4 + t.val / 16] ∧ win0_3.index t = ![0, 0]
    ∧ win0_4.index t = ![0, 0] ∧ win0_5.index t = ![t.val % 16, t.val / 16] :=
  (by decide +kernel : ∀ t : Fin grid0.N, _)

/-- The head of a point. -/
abbrev ph (t : Fin cfg0.N) : Fin 4 := ⟨t.val / 16, (idx t).1⟩
/-- The tile of a point. -/
abbrev pb (t : Fin cfg0.N) : Fin 16 := ⟨t.val % 16, Nat.mod_lt _ (by decide)⟩

abbrev bq (t : Fin cfg0.N) : FVec Ideal S512x128 .f32 := iblk m c 0 t
abbrev bk (t : Fin cfg0.N) : FVec Ideal S256x128 .f32 := iblk m c 1 t
abbrev bv (t : Fin cfg0.N) : FVec Ideal S256x128 .f32 := iblk m c 2 t
abbrev bg (t : Fin cfg0.N) : FVec Ideal S1x128 .f32 := iblk m c 3 t
abbrev bh (t : Fin cfg0.N) : FVec Ideal S1x128 .f32 := iblk m c 4 t

theorem rows_bq (t : Fin cfg0.N) (r : Fin 512) : rows (bq m c t) r = Q (xq m c) (ph t) (row (pb t) r) := by
  funext d; unfold Q; show bq m c t (ix2 r d) = _; blk_ext [iblk, V, idx t]

theorem rows_bk (t : Fin cfg0.N) : rows (bk m c t) = K (xkv m c) (ph t) := by
  funext r d; unfold K; show bk m c t (ix2 r d) = _; blk_ext [iblk, V, idx t]

theorem rows_bv (t : Fin cfg0.N) : rows (bv m c t) = VL (xkv m c) (ph t) := by
  funext r d; unfold VL; show bv m c t (ix2 r d) = _; blk_ext [iblk, V, idx t]

theorem rows_bg (t : Fin cfg0.N) : rows (bg m c t) 0 = G (xg m c) := by
  funext d; unfold G; show bg m c t (ix2 0 d) = _; blk_ext [iblk, V, idx t]

theorem rows_bh (t : Fin cfg0.N) : rows (bh m c t) 0 = G (xh m c) := by
  funext d; unfold G; show bh m c t (ix2 0 d) = _; blk_ext [iblk, V, idx t]

theorem point_apply (t : Fin cfg0.N) (r : Fin 512) (d : Fin 128) :
    out0_5 (F := Ideal) (bq m c t) (bk m c t) (bv m c t) (bg m c t) (bh m c t) (ix2 r d)
      = (out (xq m c) (xkv m c) (xg m c) (xh m c) (ph t) (row (pb t) r) d : EReal) := by
  refine (out_apply ..).trans ?_
  simp only [rnRows]
  rw [rows_bq, rows_bk, rows_bv, rows_bg, rows_bh]; rfl

theorem hd_col (h : Fin 4) (d : Fin 128) : hd (col h d) = h := Fin.ext (by have := d.isLt; show (_ * 128 + _) / 128 = _; omega)
theorem pl_col (h : Fin 4) (d : Fin 128) : pl (col h d) = d := Fin.ext (by have := d.isLt; show (_ * 128 + _) % 128 = _; omega)

/-- The attention's result. -/
def res : FVec Ideal S8192x512 .bf16 := fun i => (out (xq m c) (xkv m c) (xg m c) (xh m c) (hd (i 1)) (i 0) (pl (i 1)) : EReal)

theorem final : (dats m 0 c).arrAt 5 cfg0.N = res m c := by
  refine (dats m 0 c).arrAt_eq_of_covers 5 _ (by decide +kernel) fun t hf y => ?_
  blk_simp
  rw [after0_5]
  obtain ⟨r, d, rfl⟩ := pair y
  refine (point_apply m c t r d).trans ?_
  have e : (win0_5.blk t).view.emb (ix2 r d) = ix2 (row (pb t) r) (col (ph t) d) := by blk_ext [idx t]
  rw [e]
  show _ = out _ _ _ _ (hd (col (ph t) d)) (row (pb t) r) (pl (col (ph t) d))
  rw [hd_col, pl_col]

theorem frame_p : Cert.quiescent_XattnFwd := fun m ρ _ => Cert.XattnFwd.Gen.frame m ρ
theorem frame_pi : Cert.quiescent_XattnFwdIdeal := fun m ρ _ => Cert.XattnFwdIdeal.Gen.frame m ρ
theorem frame_ri : Cert.quiescent_XattnFwdRefIdeal := fun m ρ _ => (θ_run Cert.XattnFwdRefIdeal.defs _ _).mono
  (fun r h => ⟨fun c => (h c).2, sem_eq_zero_of_no_sems (by decide) r.2⟩) (Cert.XattnFwdRefIdeal.Value.run (F := Ideal) m ρ)

/-- The call and the reference end with the same array. -/
theorem algebraic : Cert.algebraic_XattnFwdIdeal_XattnFwdRefIdeal := by
  intro m ρ m' ρ' _ hag
  refine ⟨fun c => res m c, ?_, ?_⟩
  · exact (θ_run Cert.XattnFwdIdeal.defs _ _).mono (fun r h c => ⟨(h c).1.trans (final m c), (h c).2⟩) (Cert.XattnFwdIdeal.Value.run_blocks (F := Ideal) m ρ)
  · refine (θ_run Cert.XattnFwdRefIdeal.defs _ _).mono (fun r h c => ⟨(h c).1.trans ?_, (h c).2⟩) (Cert.XattnFwdRefIdeal.Value.run (F := Ideal) m' ρ')
    obtain ⟨h0, h1, h2, h3⟩ := hag c
    rw [Cert.XattnFwdRefIdeal.Read.val_main_v48_eq, h0, h1, h2, h3]
    funext i
    obtain ⟨s, j, rfl⟩ := pair (n := 8192) (m := 512) i
    exact r48 ..

end Cert.XattnFwdRun

end
-- ==== Proof.Row.Ffn.lean ====
/- The gated feed-forward's elementwise part down one column: a causal convolution of width three, a bias, `silu`, and the
   product with the other half. A tile of 512 rows sees the rows before it through a block of eight rows, which counts as
   zero for the first tile. -/
module

public import Idealize.ShloMosaic.PureOps.Ideal
public import Idealize.ShloMosaic.Lib.Pointwise

@[expose] public section

noncomputable section

namespace Cert.FfnRow

open Idealize.ShloMosaic

/-- A column `k` rows later, zero before its start. -/
def sh (k : ℕ) (x : Fin 8192 → EReal) (s : Fin 8192) : EReal :=
  if s.val < k then 0 else x ⟨s.val - k, Nat.lt_of_le_of_lt (Nat.sub_le _ _) s.isLt⟩

/-- The convolution with its bias. -/
def pre (x : Fin 8192 → EReal) (w : Fin 3 → EReal) (b : EReal) (s : Fin 8192) : EReal :=
  x s * w 2 + sh 1 x s * w 1 + sh 2 x s * w 0 + b

/-- The convolution with its terms in the other order. -/
theorem turn (p q r a b c t : EReal) : p * a + q * b + r * c + t = c * r + b * q + a * p + t := by
  rw [mul_comm p, mul_comm q, mul_comm r]; ac_rfl

/-- `silu`. -/
def silu (p : EReal) : EReal := p * Ideal.logistic p

/-! ## One tile -/

/-- A tile's column `k` rows later; the rows before it come from the end of `y`. -/
def shb (k : ℕ) (x : Fin 512 → EReal) (y : Fin 8 → EReal) (r : Fin 512) : EReal :=
  if r.val < k then y ⟨(r.val + 8 - k) % 8, Nat.mod_lt _ (by decide)⟩ else x ⟨r.val - k, Nat.lt_of_le_of_lt (Nat.sub_le _ _) r.isLt⟩

/-- The convolution with its bias on a tile. -/
def preb (x : Fin 512 → EReal) (y : Fin 8 → EReal) (w : Fin 3 → EReal) (b : EReal) (r : Fin 512) : EReal :=
  x r * w 2 + shb 1 x y r * w 1 + shb 2 x y r * w 0 + b

/-- Whether a tile has rows before it, as the body computes it from the tile's number. -/
def live (n : ℕ) : EReal := (((Scalar.extui (Scalar.cmpi .sgt (BitVec.ofNat 32 n) 0#32) : BitVec 32).toInt : ℝ) : EReal)

theorem live_zero : live 0 = 0 := by
  have : (Scalar.extui (Scalar.cmpi .sgt (BitVec.ofNat 32 0) 0#32) : BitVec 32).toInt = 0 := by decide
  unfold live; rw [this]; simp

theorem live_one : ∀ n : Fin 16, n.val ≠ 0 → live n.val = 1 := by
  intro n hn
  have : ∀ n : Fin 16, n.val ≠ 0 → (Scalar.extui (Scalar.cmpi .sgt (BitVec.ofNat 32 n.val) 0#32) : BitVec 32).toInt = 1 := by decide
  unfold live; rw [this n hn]; simp

/-- A row of the taps, picked by a sum over all of them. -/
theorem tap0 (w : Fin 3 → EReal) : ∑ i : Fin 3, Scalar.select (IntOp.cmpi .eq (BitVec.ofNat 32 i.val) 0#32) (w i) (0 : EReal) = w 0 := by
  rw [Fin.sum_univ_three]; simp [Scalar.select, IntOp.cmpi]
theorem tap1 (w : Fin 3 → EReal) : ∑ i : Fin 3, Scalar.select (IntOp.cmpi .eq (BitVec.ofNat 32 i.val) 1#32) (w i) (0 : EReal) = w 1 := by
  rw [Fin.sum_univ_three]; simp [Scalar.select, IntOp.cmpi]
theorem tap2 (w : Fin 3 → EReal) : ∑ i : Fin 3, Scalar.select (IntOp.cmpi .eq (BitVec.ofNat 32 i.val) 2#32) (w i) (0 : EReal) = w 2 := by
  rw [Fin.sum_univ_three]; simp [Scalar.select, IntOp.cmpi]

theorem below : ∀ (k : Fin 3) (r : Fin 8), IntOp.cmpi .slt (BitVec.ofNat 32 r.val) (BitVec.ofNat 32 k.val) = if r.val < k.val then 1#1 else 0#1 := by
  decide

/-- The shifted tile as the body puts it together: the first eight rows by a choice, the rest by a rotation. -/
theorem shb_eq (k : ℕ) (hk : k < 3) (x : Fin 512 → EReal) (y : Fin 8 → EReal) (r : Fin 512) (p q : ℕ) (hp : p < 512) (hq : q < 512)
    (ep : 8 ≤ r.val → p = r.val - k) (eq : r.val < 8 → q = (r.val + 512 - k) % 512) :
    (if _h : r.val < 8 then Scalar.select (IntOp.cmpi .slt (BitVec.ofNat 32 r.val) (BitVec.ofNat 32 k))
        (y ⟨(r.val + 8 - k) % 8, Nat.mod_lt _ (by decide)⟩) (x ⟨q, hq⟩) else x ⟨p, hp⟩) = shb k x y r := by
  unfold shb
  by_cases h : r.val < 8
  · rw [dif_pos h, below ⟨k, hk⟩ ⟨r.val, h⟩]
    by_cases g : r.val < k
    · simp [g, Scalar.select]
    · have : q = r.val - k := by rw [eq h]; omega
      subst this
      simp [g, Scalar.select]
  · rw [dif_neg h, if_neg (by omega)]
    have := ep (by omega)
    subst this
    rfl

/-- Row `r` of tile `b`. -/
abbrev row (b : Fin 16) (r : Fin 512) : Fin 8192 := ⟨512 * b.val + r.val, by have := b.isLt; have := r.isLt; omega⟩
/-- Row `i` of the eight rows before tile `b`, of the first eight rows for the first tile. -/
abbrev tail (b : Fin 16) (i : Fin 8) : Fin 8192 := ⟨8 * (64 * b.val - 1) + i.val, by have := b.isLt; have := i.isLt; omega⟩

theorem shb_rows (k : ℕ) (hk : k < 3) (x : Fin 8192 → EReal) (b : Fin 16) (r : Fin 512) :
    shb k (fun r => x (row b r)) (fun i => x (tail b i) * live b.val) r = sh k x (row b r) := by
  unfold shb sh
  dsimp only
  by_cases g : r.val < k
  · rw [if_pos g]
    by_cases hb : b.val = 0
    · have h0 : live b.val = 0 := by rw [hb]; exact live_zero
      rw [h0, mul_zero, if_pos (by omega)]
    · rw [live_one b hb, mul_one, if_neg (by omega)]
      refine congrArg x (Fin.ext ?_); dsimp only; omega
  · rw [if_neg g, if_neg (by omega)]
    refine congrArg x (Fin.ext ?_); dsimp only; omega

theorem preb_rows (x : Fin 8192 → EReal) (w : Fin 3 → EReal) (b : EReal) (n : Fin 16) (r : Fin 512) :
    preb (fun r => x (row n r)) (fun i => x (tail n i) * live n.val) w b r = pre x w b (row n r) := by
  unfold preb pre
  rw [shb_rows 1 (by decide), shb_rows 2 (by decide)]

end Cert.FfnRow

end
-- ==== Proof.Row.FfnFwd.lean ====
/- The feed-forward's elementwise part, forward: 16 tiles of 512 rows for each of 11 groups of 512 columns. -/
module

public import proofs.«01_k».proof.Defs
public import proofs.«01_k».proof.Proof.Gen.FfnFwd
public import proofs.«01_k».proof.Proof.Gen.FfnFwd.Frame
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Prod.Tiled
public import proofs.«01_k».proof.Proof.Row.Ffn
public import Idealize.ShloMosaic.Lib.StableHlo.Run

@[expose] public section

set_option maxRecDepth 16384

noncomputable section

namespace Cert.FfnFwdRun

open Cert.FfnFwdIdeal Cert.FfnFwdIdeal.Gen Cert.Prod Cert.FfnRow
open Idealize.ShloMosaic Idealize.ShloMosaic.TcCoe Idealize.SL.Sem
open Idealize.ShloMosaic.Pipeline (Dat)

section Blocks

variable (i : grid0.Coords) (x u : FVec Ideal S512x512 .f32) (y : FVec Ideal S8x512 .f32) (w : FVec Ideal S3x512 .f32) (b : FVec Ideal S1x512 .f32)

/-- The rows before the tile. -/
theorem pay3_apply (r : Fin 8) (d : Fin 512) : k0_pay3 (F := Ideal) i y (ix2 r d) = (y (ix2 r d) * live (i 1).val : EReal) := by
  pointwise [k0_pay3]
  rfl

theorem pay5_apply (r d : Fin 512) : k0_pay5 (F := Ideal) x w (ix2 r d) = (x (ix2 r d) * w (ix2 2 d) : EReal) := by
  pointwise [k0_pay5, k0_pay4, k0_pay2]
  exact congrArg (x (ix2 r d) * · : EReal → EReal) (tap2 fun i => w (ix2 i d))

theorem pay6_apply (r d : Fin 512) :
    k0_pay6 (F := Ideal) i x y (ix2 r d) = (shb 1 (fun r => x (ix2 r d)) (fun z => y (ix2 z d) * live (i 1).val) r : EReal) := by
  pointwise [k0_pay6, k0_pay2]
  simp only [pay3_apply]
  exact shb_eq 1 (by decide) (fun r => x (ix2 r d)) (fun z => y (ix2 z d) * live (i 1).val) r _ _ (Nat.mod_lt _ (by decide)) (Nat.mod_lt _ (by decide)) (by intro h; have := r.isLt; show (8 + (r.val - 8) + 512 - 1) % 512 = r.val - 1; omega) (fun _ => rfl)

theorem pay1_apply (r d : Fin 512) :
    k0_pay1 (F := Ideal) u b (k0_pay2 x) (k0_pay3 i y) (k0_pay4 w) (k0_pay5 x w) (k0_pay6 i x y) (k0_pay7 w) (ix2 r d)
      = (silu (preb (fun r => x (ix2 r d)) (fun z => y (ix2 z d) * live (i 1).val) (fun z => w (ix2 z d)) (b (ix2 0 d)) r) * u (ix2 r d) : EReal) := by
  pointwise [k0_pay1, k0_pay7, k0_pay4, k0_pay2]
  simp only [pay3_apply, pay5_apply, pay6_apply]
  rw [tap0 fun i => w (ix2 i d), tap1 fun i => w (ix2 i d)]
  exact congrArg (fun z : EReal => silu (x (ix2 r d) * w (ix2 2 d) + shb 1 (fun r => x (ix2 r d)) (fun z => y (ix2 z d) * live (i 1).val) r * w (ix2 1 d)
      + z * w (ix2 0 d) + b (ix2 0 d)) * u (ix2 r d))
    (shb_eq 2 (by decide) (fun r => x (ix2 r d)) (fun z => y (ix2 z d) * live (i 1).val) r _ _ (Nat.mod_lt _ (by decide)) (Nat.mod_lt _ (by decide)) (by intro h; have := r.isLt; show (8 + (r.val - 8) + 512 - 2) % 512 = r.val - 2; omega) (fun _ => rfl))

theorem out_apply (r d : Fin 512) : out0_5 (F := Ideal) i x y u w b (ix2 r d)
    = (silu (preb (fun r => x (ix2 r d)) (fun z => y (ix2 z d) * live (i 1).val) (fun z => w (ix2 z d)) (b (ix2 0 d)) r) * u (ix2 r d) : EReal) := by
  unfold out0_5
  rw [View.canon_unit_zero (S := S512x512) hz]
  simp only [r0_0, r0_1, r0_2, r0_3, View.ld_unit_zero (S := S512x512) hz, View.ld_unit_zero (S := S8x512) hz, View.ld_unit_zero (S := S3x512) hz, View.ld_unit_zero (S := S1x512) hz]
  exact pay1_apply ..

end Blocks

variable (m : (ℓ : Loc nD τ sig) → Buf (Elt Ideal) ℓ) (c : Dev nD)

/-- The arguments: gate and up side by side, the taps, the bias. -/
abbrev gu : FVec Ideal S8192x11264 .f32 := m ((c : Thread nD τ).loc main_arg0)
abbrev cw : FVec Ideal S3x5632 .f32 := m ((c : Thread nD τ).loc main_arg1)
abbrev cb : FVec Ideal S1x5632 .f32 := m ((c : Thread nD τ).loc main_arg2)

theorem idx : ∀ t : Fin cfg0.N, t.val / 16 < 11 ∧ (grid0.coords t 1).val = t.val % 16 ∧ win0_0.index t = ![t.val % 16, t.val / 16]
    ∧ win0_1.index t = ![64 * (t.val % 16) - 1, t.val / 16] ∧ win0_2.index t = ![t.val % 16, 11 + t.val / 16]
    ∧ win0_3.index t = ![0, t.val / 16] ∧ win0_4.index t = ![0, t.val / 16] ∧ win0_5.index t = ![t.val % 16, t.val / 16] :=
  (by decide +kernel : ∀ t : Fin grid0.N, _)

/-- The tile of a point. -/
abbrev pb (t : Fin cfg0.N) : Fin 16 := ⟨t.val % 16, Nat.mod_lt _ (by decide)⟩
/-- A column of the point's group. -/
abbrev col (t : Fin cfg0.N) (d : Fin 512) : Fin 5632 := ⟨512 * (t.val / 16) + d.val, by have := (idx t).1; have := d.isLt; omega⟩
/-- A column of the gate, and of the up half. -/
abbrev gc (j : Fin 5632) : Fin 11264 := ⟨j.val, by have := j.isLt; omega⟩
abbrev uc (j : Fin 5632) : Fin 11264 := ⟨5632 + j.val, by have := j.isLt; omega⟩

theorem b0 (t : Fin cfg0.N) (r d : Fin 512) : (iblk m c 0 t : FVec Ideal S512x512 .f32) (ix2 r d) = gu m c (ix2 (row (pb t) r) (gc (col t d))) := by
  blk_ext [iblk, V, idx t]
theorem b1 (t : Fin cfg0.N) (r : Fin 8) (d : Fin 512) : (iblk m c 1 t : FVec Ideal S8x512 .f32) (ix2 r d) = gu m c (ix2 (tail (pb t) r) (gc (col t d))) := by
  blk_ext [iblk, V, idx t]
theorem b2 (t : Fin cfg0.N) (r d : Fin 512) : (iblk m c 2 t : FVec Ideal S512x512 .f32) (ix2 r d) = gu m c (ix2 (row (pb t) r) (uc (col t d))) := by
  blk_ext [iblk, V, idx t]
theorem b3 (t : Fin cfg0.N) (r : Fin 3) (d : Fin 512) : (iblk m c 3 t : FVec Ideal S3x512 .f32) (ix2 r d) = cw m c (ix2 r (col t d)) := by
  blk_ext [iblk, V, idx t]
theorem b4 (t : Fin cfg0.N) (d : Fin 512) : (iblk m c 4 t : FVec Ideal S1x512 .f32) (ix2 0 d) = cb m c (ix2 0 (col t d)) := by
  blk_ext [iblk, V, idx t]

/-- The result. -/
def res : FVec Ideal S8192x5632 .bf16 := fun i =>
  (silu (pre (fun s => gu m c (ix2 s (gc (i 1)))) (fun z => cw m c (ix2 z (i 1))) (cb m c (ix2 0 (i 1))) (i 0)) * gu m c (ix2 (i 0) (uc (i 1))) : EReal)

theorem point_apply (t : Fin cfg0.N) (r d : Fin 512) :
    out0_5 (F := Ideal) (grid0.coords t) (iblk m c 0 t) (iblk m c 1 t) (iblk m c 2 t) (iblk m c 3 t) (iblk m c 4 t) (ix2 r d)
      = res m c (ix2 (row (pb t) r) (col t d)) := by
  refine (out_apply ..).trans ?_
  rw [(idx t).2.1]
  simp only [b0, b1, b2, b3, b4]
  exact congrArg (fun z => silu z * _) (preb_rows (fun s => gu m c (ix2 s (gc (col t d)))) _ _ (pb t) r)

theorem final : (dats m 0 c).arrAt 5 cfg0.N = res m c := by
  refine (dats m 0 c).arrAt_eq_of_covers 5 _ (by decide +kernel) fun t hf y => ?_
  blk_simp
  rw [after0_5]
  obtain ⟨r, d, rfl⟩ := pair y
  have e : (win0_5.blk t).view.emb (ix2 r d) = ix2 (row (pb t) r) (col t d) := by blk_ext [idx t]
  rw [e]
  exact point_apply ..

/-! ## The reference -/

section Reference

open Cert.FfnFwdRefIdeal.Read Cert.FfnFwdRefIdeal Cert.FfnFwdRefIdeal.Gen

variable (x : FVec Ideal Cert.FfnFwdIdeal.S8192x11264 .f32) (w : FVec Ideal Cert.FfnFwdIdeal.S3x5632 .f32) (b : FVec Ideal Cert.FfnFwdIdeal.S1x5632 .f32)

theorem r14 (s : Fin 8192) (j : Fin 5632) : val_main_v14 (F := Ideal) x (ix2 s j) = (sh 1 (fun s => x (ix2 s (gc j))) s : EReal) := by
  unfold sh
  pointwise [val_main_v14, val_main_v12, val_main_v13, val_main_v2, val_main_v0, val_main_cst]
  by_cases h : s.val < 1 <;> simp [h]

theorem r6 (s : Fin 8192) (j : Fin 5632) : val_main_v6 (F := Ideal) x (ix2 s j) = (sh 2 (fun s => x (ix2 s (gc j))) s : EReal) := by
  unfold sh
  pointwise [val_main_v6, val_main_v5, val_main_v2, val_main_v0, val_main_cst]
  by_cases h : s.val < 2 <;> simp [h]

theorem r26 (s : Fin 8192) (j : Fin 5632) : val_main_v26 (F := Ideal) x w b (ix2 s j)
    = (pre (fun s => x (ix2 s (gc j))) (fun z => w (ix2 z j)) (b (ix2 0 j)) s : EReal) := by
  unfold pre
  rw [← r14, ← r6]
  pointwise [val_main_v26, val_main_v25, val_main_v24, val_main_v23, val_main_v22, val_main_v21, val_main_v20, val_main_v19, val_main_v18, val_main_v17, val_main_v16, val_main_v15, val_main_v11, val_main_v10, val_main_v9, val_main_v8, val_main_v7, val_main_v4, val_main_v3, val_main_v0]
  exact turn ..

theorem r29 (s : Fin 8192) (j : Fin 5632) : val_main_v29 (F := Ideal) x w b (ix2 s j)
    = (silu (pre (fun s => x (ix2 s (gc j))) (fun z => w (ix2 z j)) (b (ix2 0 j)) s) * x (ix2 s (uc j)) : EReal) := by
  rw [← r26]
  unfold silu Ideal.logistic
  pointwise [val_main_v29, val_main_v28, val_main_v27, val_main_call0_v5, val_main_call0_v4, val_main_call0_v3, val_main_call0_v2, val_main_call0_v1, val_main_call0_v0, val_main_v1, val_main_call0_cst, val_main_call0_cst_0]
  done

end Reference

theorem frame_p : Cert.quiescent_FfnFwd := fun m ρ _ => Cert.FfnFwd.Gen.frame m ρ
theorem frame_pi : Cert.quiescent_FfnFwdIdeal := fun m ρ _ => Cert.FfnFwdIdeal.Gen.frame m ρ
theorem frame_ri : Cert.quiescent_FfnFwdRefIdeal := fun m ρ _ => (θ_run Cert.FfnFwdRefIdeal.defs _ _).mono
  (fun r h => ⟨fun c => (h c).2, sem_eq_zero_of_no_sems (by decide) r.2⟩) (Cert.FfnFwdRefIdeal.Value.run (F := Ideal) m ρ)

/-- The call and the reference end with the same array. -/
theorem algebraic : Cert.algebraic_FfnFwdIdeal_FfnFwdRefIdeal := by
  intro m ρ m' ρ' _ hag
  refine ⟨fun c => res m c, ?_, ?_⟩
  · exact (θ_run Cert.FfnFwdIdeal.defs _ _).mono (fun r h c => ⟨(h c).1.trans (final m c), (h c).2⟩) (Cert.FfnFwdIdeal.Value.run_blocks (F := Ideal) m ρ)
  · refine (θ_run Cert.FfnFwdRefIdeal.defs _ _).mono (fun r h c => ⟨(h c).1.trans ?_, (h c).2⟩) (Cert.FfnFwdRefIdeal.Value.run (F := Ideal) m' ρ')
    obtain ⟨h0, h1, h2⟩ := hag c
    rw [Cert.FfnFwdRefIdeal.Read.val_main_v29_eq, h0, h1, h2]
    funext i
    obtain ⟨s, j, rfl⟩ := pair (n := 8192) (m := 5632) i
    exact r29 ..

end Cert.FfnFwdRun

end
-- ==== Proof.Row.FfnBody.lean ====
/- What one tile of the gradient of the feed-forward's elementwise part stores, in terms of its blocks. -/
module

public import proofs.«01_k».proof.Defs
public import proofs.«01_k».proof.Proof.Gen.FfnBwdIdeal.Value
public import proofs.«01_k».proof.Proof.Prod.Tiled
public import proofs.«01_k».proof.Proof.Row.Ffn

@[expose] public section

set_option maxRecDepth 16384

noncomputable section

namespace Cert.FfnBwdRun

open Cert.FfnBwdIdeal Cert.FfnBwdIdeal.Gen Cert.Prod Cert.FfnRow
open Idealize.ShloMosaic Idealize.ShloMosaic.TcCoe Idealize.SL.Sem

section Terms

variable (i : grid0.Coords) (x u a g : FVec Ideal S512x512 .f32) (y z : FVec Ideal S8x512 .f32) (w : FVec Ideal S3x512 .f32) (b : FVec Ideal S1x512 .f32)

/-- The numbers of the taps. -/
abbrev taps : IVec S3x512 32 := iota .tc S3x512 32 [0] iota_S3x512_d0_w32

/-- The cotangent of the convolution. -/
def tg : FVec Ideal S512x512 .f32 := k0_pay23 (F := Ideal) (k0_pay15 (F := Ideal) u b (k0_pay5 (F := Ideal) x) (k0_pay6 (F := Ideal) i y) (k0_pay7 (F := Ideal) w)
  (k0_pay8 (F := Ideal) x w) (k0_pay10 (F := Ideal) i x y) (k0_pay11 (F := Ideal) x) a)
/-- What is stored of the gate's gradient, given what the following tile left for this one. -/
def t6 : FVec Ideal S512x512 .bf16 := k0_pay33 (F := Ideal) (k0_pay18 (F := Ideal) (k0_pay7 (F := Ideal) w) taps) g
  (k0_pay27 (F := Ideal) g (k0_pay25 (F := Ideal) (k0_pay7 (F := Ideal) w))) (k0_pay31 (F := Ideal) (k0_pay21 (F := Ideal) (k0_pay7 (F := Ideal) w)) g) z
/-- What is left for the tile before. -/
def ts : FVec Ideal S8x512 .f32 := k0_pay34 (F := Ideal) (k0_pay4 (F := Ideal) i) (k0_pay28 (F := Ideal) g (k0_pay25 (F := Ideal) (k0_pay7 (F := Ideal) w)))
  (k0_pay32 (F := Ideal) (k0_pay21 (F := Ideal) (k0_pay7 (F := Ideal) w)) g)
/-- What is stored of the up half's gradient. -/
def t7 : FVec Ideal S512x512 .bf16 := k0_pay35 (F := Ideal) (k0_pay14 (F := Ideal) b (k0_pay5 (F := Ideal) x) (k0_pay6 (F := Ideal) i y) (k0_pay7 (F := Ideal) w)
  (k0_pay8 (F := Ideal) x w) (k0_pay10 (F := Ideal) i x y) (k0_pay11 (F := Ideal) x) a)
/-- The taps' gradient so far. -/
def t8 (e : FVec Ideal S3x512 .f32) : FVec Ideal S3x512 .f32 := k0_pay36 (F := Ideal) (k0_pay5 (F := Ideal) x) (k0_pay17 taps) (tg i x u a y w b)
  (k0_pay30 (F := Ideal) (k0_pay19 (F := Ideal) (k0_pay5 (F := Ideal) x) (k0_pay6 (F := Ideal) i y)) k0_pay20 k0_pay22 (tg i x u a y w b)
    (k0_pay24 (F := Ideal) (k0_pay5 (F := Ideal) x) (k0_pay6 (F := Ideal) i y) (k0_pay15 (F := Ideal) u b (k0_pay5 (F := Ideal) x) (k0_pay6 (F := Ideal) i y)
      (k0_pay7 (F := Ideal) w) (k0_pay8 (F := Ideal) x w) (k0_pay10 (F := Ideal) i x y) (k0_pay11 (F := Ideal) x) a))) e
/-- The bias's gradient so far. -/
def t9 (e : FVec Ideal S1x512 .f32) : FVec Ideal S1x512 .f32 := k0_pay37 (F := Ideal) (k0_pay16 (F := Ideal) u b (k0_pay5 (F := Ideal) x) (k0_pay6 (F := Ideal) i y)
  (k0_pay7 (F := Ideal) w) (k0_pay8 (F := Ideal) x w) (k0_pay10 (F := Ideal) i x y) (k0_pay11 (F := Ideal) x) a) e

end Terms

variable (c : Dev nD) (i : grid0.Coords)
  (a1 : Memref sig .tc .vmem S512x512 .f32) (h1 : a1.IsWhole) (a2 : Memref sig .tc .vmem S8x512 .f32) (h2 : a2.IsWhole)
  (a3 : Memref sig .tc .vmem S512x512 .f32) (h3 : a3.IsWhole) (a4 : Memref sig .tc .vmem S3x512 .f32) (h4 : a4.IsWhole)
  (a5 : Memref sig .tc .vmem S1x512 .f32) (h5 : a5.IsWhole) (a6 : Memref sig .tc .vmem S512x512 .f32) (h6 : a6.IsWhole)
  (a7 : Memref sig .tc .vmem S512x512 .bf16) (h7 : a7.IsWhole) (a8 : Memref sig .tc .vmem S512x512 .bf16) (h8 : a8.IsWhole)
  (a9 : Memref sig .tc .vmem S3x512 .f32) (h9 : a9.IsWhole) (a10 : Memref sig .tc .vmem S1x512 .f32) (h10 : a10.IsWhole)
  (a11 : Memref sig .tc .vmem S8x512 .f32) (h11 : a11.IsWhole)
  (x u a : FVec Ideal S512x512 .f32) (y z : FVec Ideal S8x512 .f32) (w e8 : FVec Ideal S3x512 .f32) (b e9 : FVec Ideal S1x512 .f32)

/-- The first tile of a group of columns: the accumulators start at zero, and no tile follows. -/
theorem out_A (hc : cond0_0 i) :
    out0_A_6 (F := Ideal) c i a1 h1 a2 h2 a3 h3 a4 h4 a5 h5 a6 h6 a7 h7 a8 h8 a9 h9 a10 h10 a11 h11 hc x y u w b a = t6 (tg i x u a y w b) (k0_pay1 (F := Ideal)) w
    ∧ out0_A_7 (F := Ideal) c i a1 h1 a2 h2 a3 h3 a4 h4 a5 h5 a6 h6 a7 h7 a8 h8 a9 h9 a10 h10 a11 h11 hc x y u w b a = t7 i x a y w b
    ∧ out0_A_8 (F := Ideal) c i a1 h1 a2 h2 a3 h3 a4 h4 a5 h5 a6 h6 a7 h7 a8 h8 a9 h9 a10 h10 a11 h11 hc x y u w b a = t8 i x u a y w b (k0_pay2 (F := Ideal))
    ∧ out0_A_9 (F := Ideal) c i a1 h1 a2 h2 a3 h3 a4 h4 a5 h5 a6 h6 a7 h7 a8 h8 a9 h9 a10 h10 a11 h11 hc x y u w b a = t9 i x u a y w b (k0_pay3 (F := Ideal))
    ∧ sout0_A_0 (F := Ideal) c i a1 h1 a2 h2 a3 h3 a4 h4 a5 h5 a6 h6 a7 h7 a8 h8 a9 h9 a10 h10 a11 h11 hc x y u w b a = ts i (tg i x u a y w b) w := by
  refine ⟨(View.read_writes_eq_canon _ _ _ (cover0_A_6 (F := Ideal) c i a1 h1 a2 h2 a3 h3 a4 h4 a5 h5 a6 h6 a7 h7 a8 h8 a9 h9 a10 h10 a11 h11 hc x y u w b a)).trans ?_,
    (View.read_writes_eq_canon _ _ _ (cover0_A_7 (F := Ideal) c i a1 h1 a2 h2 a3 h3 a4 h4 a5 h5 a6 h6 a7 h7 a8 h8 a9 h9 a10 h10 a11 h11 hc x y u w b a)).trans ?_,
    (View.read_writes_eq_canon _ _ _ (cover0_A_8 (F := Ideal) c i a1 h1 a2 h2 a3 h3 a4 h4 a5 h5 a6 h6 a7 h7 a8 h8 a9 h9 a10 h10 a11 h11 hc x y u w b a)).trans ?_,
    (View.read_writes_eq_canon _ _ _ (cover0_A_9 (F := Ideal) c i a1 h1 a2 h2 a3 h3 a4 h4 a5 h5 a6 h6 a7 h7 a8 h8 a9 h9 a10 h10 a11 h11 hc x y u w b a)).trans ?_,
    (View.read_writes_eq_canon _ _ _ (scover0_A_0 (F := Ideal) c i a1 h1 a2 h2 a3 h3 a4 h4 a5 h5 a6 h6 a7 h7 a8 h8 a9 h9 a10 h10 a11 h11 hc x y u w b a)).trans ?_⟩
  all_goals
    unfold kernelRun0_A
    dsimp only
    sl_unfold_words
  on_goal 1 => rw [View.canon_unit_zero (S := S512x512) hz, View.readCov_unit_zero (S := S8x512) _ hz]
  on_goal 2 => rw [View.canon_unit_zero (S := S512x512) hz]
  on_goal 3 => rw [View.canon_cons_unit_zero (S := S3x512) hz, View.readCov_unit_zero (S := S3x512) _ hz]
  on_goal 4 => rw [View.canon_cons_unit_zero (S := S1x512) hz, View.readCov_unit_zero (S := S1x512) _ hz]
  on_goal 5 => rw [View.canon_cons_unit_zero (S := S8x512) hz]
  all_goals
    simp only [View.readAt_eq_ld, h1.read_unread, h2.read_unread, h3.read_unread, h4.read_unread, h5.read_unread, h6.read_unread,
      View.ld_unit_zero (S := S512x512) hz, View.ld_unit_zero (S := S8x512) hz, View.ld_unit_zero (S := S3x512) hz, View.ld_unit_zero (S := S1x512) hz, shapeCast_self]
    rfl

/-- The other tiles. -/
theorem out_B (hc : ¬cond0_0 i) :
    out0_B_6 (F := Ideal) c i a1 h1 a2 h2 a3 h3 a4 h4 a5 h5 a6 h6 a7 h7 a8 h8 a9 h9 a10 h10 a11 h11 hc x y u w b a e8 e9 z = t6 (tg i x u a y w b) z w
    ∧ out0_B_7 (F := Ideal) c i a1 h1 a2 h2 a3 h3 a4 h4 a5 h5 a6 h6 a7 h7 a8 h8 a9 h9 a10 h10 a11 h11 hc x y u w b a e8 e9 z = t7 i x a y w b
    ∧ out0_B_8 (F := Ideal) c i a1 h1 a2 h2 a3 h3 a4 h4 a5 h5 a6 h6 a7 h7 a8 h8 a9 h9 a10 h10 a11 h11 hc x y u w b a e8 e9 z = t8 i x u a y w b e8
    ∧ out0_B_9 (F := Ideal) c i a1 h1 a2 h2 a3 h3 a4 h4 a5 h5 a6 h6 a7 h7 a8 h8 a9 h9 a10 h10 a11 h11 hc x y u w b a e8 e9 z = t9 i x u a y w b e9
    ∧ sout0_B_0 (F := Ideal) c i a1 h1 a2 h2 a3 h3 a4 h4 a5 h5 a6 h6 a7 h7 a8 h8 a9 h9 a10 h10 a11 h11 hc x y u w b a e8 e9 z = ts i (tg i x u a y w b) w := by
  refine ⟨(View.read_writes_eq_canon _ _ _ (cover0_B_6 (F := Ideal) c i a1 h1 a2 h2 a3 h3 a4 h4 a5 h5 a6 h6 a7 h7 a8 h8 a9 h9 a10 h10 a11 h11 hc x y u w b a e8 e9 z)).trans ?_,
    (View.read_writes_eq_canon _ _ _ (cover0_B_7 (F := Ideal) c i a1 h1 a2 h2 a3 h3 a4 h4 a5 h5 a6 h6 a7 h7 a8 h8 a9 h9 a10 h10 a11 h11 hc x y u w b a e8 e9 z)).trans ?_,
    (View.read_writes_eq_canon _ _ _ (cover0_B_8 (F := Ideal) c i a1 h1 a2 h2 a3 h3 a4 h4 a5 h5 a6 h6 a7 h7 a8 h8 a9 h9 a10 h10 a11 h11 hc x y u w b a e8 e9 z)).trans ?_,
    (View.read_writes_eq_canon _ _ _ (cover0_B_9 (F := Ideal) c i a1 h1 a2 h2 a3 h3 a4 h4 a5 h5 a6 h6 a7 h7 a8 h8 a9 h9 a10 h10 a11 h11 hc x y u w b a e8 e9 z)).trans ?_,
    (View.read_writes_eq_canon _ _ _ (scover0_B_0 (F := Ideal) c i a1 h1 a2 h2 a3 h3 a4 h4 a5 h5 a6 h6 a7 h7 a8 h8 a9 h9 a10 h10 a11 h11 hc x y u w b a e8 e9 z)).trans ?_⟩
  all_goals
    unfold kernelRun0_B
    dsimp only
    sl_unfold_words
  on_goal 1 => rw [View.canon_unit_zero (S := S512x512) hz]
  on_goal 2 => rw [View.canon_unit_zero (S := S512x512) hz]
  on_goal 3 => rw [View.canon_unit_zero (S := S3x512) hz]
  on_goal 4 => rw [View.canon_unit_zero (S := S1x512) hz]
  on_goal 5 => rw [View.canon_unit_zero (S := S8x512) hz]
  all_goals
    simp only [View.readAt_eq_ld, h1.read_unread, h2.read_unread, h3.read_unread, h4.read_unread, h5.read_unread, h6.read_unread, h9.read_unread, h10.read_unread, h11.read_unread,
      View.ld_unit_zero (S := S512x512) hz, View.ld_unit_zero (S := S8x512) hz, View.ld_unit_zero (S := S3x512) hz, View.ld_unit_zero (S := S1x512) hz, shapeCast_self]
    rfl

end Cert.FfnBwdRun

end
-- ==== Proof.Row.FfnGrad.lean ====
/- The gradient of the feed-forward's elementwise part on one column, on 8192 rows and on one tile of 512. -/
module

public import proofs.«01_k».proof.Proof.Row.Ffn
public import proofs.«01_k».proof.Proof.Row.Norm

@[expose] public section

noncomputable section

namespace Cert.FfnRow

open Idealize.ShloMosaic

/-- The cotangent of the convolution, from the convolution, the up half and the cotangent. -/
def gr (p u a : EReal) : EReal := a * u * Ideal.logistic p + p * (a * u) * (Ideal.logistic p * (1 - Ideal.logistic p))

/-- A column `k` rows earlier, with zeros after it. -/
def dn (k : ℕ) (f : Fin 8192 → EReal) (s : Fin 8192) : EReal := if h : s.val + k < 8192 then f ⟨s.val + k, h⟩ else 0

/-- The gate's gradient from the cotangent `g` of the convolution. -/
def dg (w : Fin 3 → EReal) (g : Fin 8192 → EReal) (s : Fin 8192) : EReal :=
  dn 2 (fun s => g s * w 0) s + dn 1 (fun s => g s * w 1) s + g s * w 2

/-! ## One tile -/

/-- A tile's column `k` rows earlier, with zeros after it. -/
def dnb (k : ℕ) (f : Fin 512 → EReal) (r : Fin 512) : EReal := if h : r.val + k < 512 then f ⟨r.val + k, h⟩ else 0
/-- What a tile gives to the last eight rows of the tile before. -/
def upb (k : ℕ) (f : Fin 512 → EReal) (i : Fin 8) : EReal :=
  if 8 ≤ i.val + k then f ⟨(i.val + k) % 8, Nat.lt_of_lt_of_le (Nat.mod_lt _ (by decide)) (by decide)⟩ else 0
/-- Eight rows at the end of a tile. -/
def low (z : Fin 8 → EReal) (r : Fin 512) : EReal := if h : r.val < 504 then 0 else z ⟨r.val - 504, by have := r.isLt; omega⟩

theorem above : ∀ (k : Fin 3) (r : Fin 512), IntOp.cmpi .slt (BitVec.ofNat 32 r.val) (BitVec.ofNat 32 (512 - k.val)) = if r.val + k.val < 512 then 1#1 else 0#1 := by
  decide +kernel
theorem since : ∀ (k : Fin 3) (i : Fin 8), IntOp.cmpi .sge (BitVec.ofNat 32 i.val) (BitVec.ofNat 32 (8 - k.val)) = if 8 ≤ i.val + k.val then 1#1 else 0#1 := by
  decide +kernel

/-- The two as the body puts them together, by a rotation and a choice. -/
theorem dnb_eq (k : ℕ) (hk : k < 3) (f : Fin 512 → EReal) (r : Fin 512) (p : ℕ) (hp : p < 512) (ep : p = (r.val + k) % 512) :
    Scalar.select (IntOp.cmpi .slt (BitVec.ofNat 32 r.val) (BitVec.ofNat 32 (512 - k))) (f ⟨p, hp⟩) 0 = dnb k f r := by
  unfold dnb
  rw [above ⟨k, hk⟩ r]
  by_cases h : r.val + k < 512
  · have : p = r.val + k := by omega
    subst this
    simp [h, Scalar.select]
  · simp [h, Scalar.select]
theorem upb_eq (k : ℕ) (hk : k < 3) (f : Fin 512 → EReal) (i : Fin 8) (p : ℕ) (hp : p < 512) (ep : p = (i.val + k) % 8) :
    Scalar.select (IntOp.cmpi .sge (BitVec.ofNat 32 i.val) (BitVec.ofNat 32 (8 - k))) (f ⟨p, hp⟩) 0 = upb k f i := by
  unfold upb
  rw [since ⟨k, hk⟩ i]
  subst ep
  by_cases h : 8 ≤ i.val + k <;> simp [h, Scalar.select]

/-- The sum over a tile of a product with the shifted tile, as the body's two pieces have it. -/
theorem shb_sum (k : ℕ) (hk : k < 3) (x : Fin 512 → EReal) (y : Fin 8 → EReal) (g : Fin 512 → EReal) :
    ∑ r : Fin 8, Scalar.select (IntOp.cmpi .slt (BitVec.ofNat 32 r.val) (BitVec.ofNat 32 k))
        (y ⟨(r.val + 8 - k) % 8, Nat.mod_lt _ (by decide)⟩) (x ⟨(r.val + 512 - k) % 512, Nat.mod_lt _ (by decide)⟩)
        * g ⟨r.val, Nat.lt_of_lt_of_le r.isLt (by decide)⟩
      + ∑ r : Fin 504, x ⟨(8 + r.val + 512 - k) % 512, Nat.mod_lt _ (by decide)⟩ * g ⟨8 + r.val, by have := r.isLt; omega⟩
      = ∑ r, g r * shb k x y r := by
  refine Eq.trans ?_ (Fin.sum_univ_add (a := 8) (b := 504) fun r => g r * shb k x y r).symm
  refine congrArg₂ (· + ·) (Finset.sum_congr rfl fun r _ => ?_) (Finset.sum_congr rfl fun r _ => ?_)
  · have hr := r.isLt
    have h := shb_eq k hk x y ⟨r.val, by omega⟩ 0 ((r.val + 512 - k) % 512) (by decide) (Nat.mod_lt _ (by decide))
      (fun h => absurd h (by dsimp only; omega)) (fun _ => rfl)
    rw [dif_pos hr] at h
    rw [mul_comm, h]
    rfl
  · have hr := r.isLt
    have h := shb_eq k hk x y ⟨8 + r.val, by omega⟩ ((8 + r.val + 512 - k) % 512) 0 (Nat.mod_lt _ (by decide)) (by decide)
      (fun _ => by dsimp only; omega) (fun h => absurd h (by dsimp only; omega))
    rw [dif_neg (by dsimp only; omega)] at h
    rw [mul_comm, h]
    rfl

/-- One of three rows, picked by the row's number. -/
theorem pick (k : Fin 3) (a b c : EReal) : Scalar.select (IntOp.cmpi .eq (BitVec.ofNat 32 k.val) 0#32) a 0
    + Scalar.select (IntOp.cmpi .eq (BitVec.ofNat 32 k.val) 1#32) b 0 + Scalar.select (IntOp.cmpi .eq (BitVec.ofNat 32 k.val) 2#32) c 0 = ![a, b, c] k := by
  fin_cases k <;> simp [Scalar.select, IntOp.cmpi]

/-- What the tile after `n` gives to tile `n`. -/
def next (w : Fin 3 → EReal) (g : Fin 8192 → EReal) (n : ℕ) (i : Fin 8) : EReal :=
  if h : n + 1 < 16 then upb 2 (fun r => g (row ⟨n + 1, h⟩ r) * w 0) i + upb 1 (fun r => g (row ⟨n + 1, h⟩ r) * w 1) i else 0

theorem dg_rows (w : Fin 3 → EReal) (g : Fin 8192 → EReal) (n : Fin 16) (r : Fin 512) :
    dnb 2 (fun r => g (row n r) * w 0) r + dnb 1 (fun r => g (row n r) * w 1) r + g (row n r) * w 2 + low (next w g n.val) r = dg w g (row n r) := by
  have hn := n.isLt
  have hr := r.isLt
  unfold dg dnb low next upb dn
  dsimp only
  by_cases h0 : r.val < 504
  · rw [dif_pos h0, dif_pos (by omega), dif_pos (by omega), dif_pos (by omega), dif_pos (by omega), add_zero]
    rfl
  · rw [dif_neg h0]
    by_cases hl : n.val + 1 < 16
    · rw [dif_pos hl, dif_pos (show 512 * n.val + r.val + 2 < 8192 by omega), dif_pos (show 512 * n.val + r.val + 1 < 8192 by omega)]
      obtain h | h | h : r.val < 510 ∨ r.val = 510 ∨ r.val = 511 := by omega
      · rw [dif_pos (by omega), dif_pos (by omega), if_neg (by omega), if_neg (by omega), add_zero, add_zero]
        rfl
      · rw [dif_neg (by omega), dif_pos (by omega), if_pos (by omega), if_neg (by omega), add_zero, zero_add]
        have e : row ⟨n.val + 1, hl⟩ ⟨(r.val - 504 + 2) % 8, Nat.lt_of_lt_of_le (Nat.mod_lt _ (by decide)) (by decide)⟩
            = ⟨512 * n.val + r.val + 2, by omega⟩ := Fin.ext (show 512 * (n.val + 1) + (r.val - 504 + 2) % 8 = 512 * n.val + r.val + 2 by omega)
        rw [e, add_comm, ← add_assoc]
        rfl
      · rw [dif_neg (by omega), dif_neg (by omega), if_pos (by omega), if_pos (by omega), add_zero, zero_add]
        have e (k : ℕ) (h1 : 1 ≤ k) (hk : k ≤ 2) : row ⟨n.val + 1, hl⟩ ⟨(r.val - 504 + k) % 8, Nat.lt_of_lt_of_le (Nat.mod_lt _ (by decide)) (by decide)⟩
            = ⟨512 * n.val + r.val + k, by omega⟩ := Fin.ext (show 512 * (n.val + 1) + (r.val - 504 + k) % 8 = 512 * n.val + r.val + k by omega)
        rw [e 2 (by decide) (by decide), e 1 (by decide) (by decide), add_comm]
    · rw [dif_neg hl, add_zero]
      have e (k : ℕ) (a : Fin 3) : (if h : r.val + k < 512 then g (row n ⟨r.val + k, h⟩) * w a else 0)
          = if h : (row n r).val + k < 8192 then g ⟨(row n r).val + k, h⟩ * w a else 0 := by
        have v : (row n r).val = 512 * n.val + r.val := rfl
        by_cases h : r.val + k < 512
        · rw [dif_pos h, dif_pos (by omega)]
          exact congrArg (fun s => g s * w a) (Fin.ext (Nat.add_assoc (512 * n.val) r.val k).symm)
        · rw [dif_neg h, dif_neg (by omega)]
      rw [e 2 0, e 1 1]

end Cert.FfnRow

end
-- ==== Proof.Row.FfnTile.lean ====
/- What one tile of the gradient of the feed-forward's elementwise part stores, element by element. -/
module

public import proofs.«01_k».proof.Proof.Row.FfnBody
public import proofs.«01_k».proof.Proof.Row.FfnGrad

@[expose] public section

set_option maxRecDepth 16384

noncomputable section

namespace Cert.FfnBwdRun

open Cert.FfnBwdIdeal Cert.FfnBwdIdeal.Gen Cert.Prod Cert.FfnRow
open Idealize.ShloMosaic Idealize.ShloMosaic.TcCoe Idealize.SL.Sem

variable (i : grid0.Coords) (x u a g : FVec Ideal S512x512 .f32) (y z : FVec Ideal S8x512 .f32) (w e : FVec Ideal S3x512 .f32) (b e' : FVec Ideal S1x512 .f32)

/-- The tile's number, counted from the last. -/
abbrev nt : ℕ := 15 - (i 1).val

theorem pay4_eq : k0_pay4 (F := Ideal) i = (live (nt i) : EReal) := by
  have h : ∀ n : Fin 16, Scalar.subi 15#32 (BitVec.ofNat 32 n.val) = BitVec.ofNat 32 (15 - n.val) := by decide
  unfold k0_pay4 live
  dsimp only
  rw [h (i 1)]
  rfl

theorem pay5_eq : k0_pay5 (F := Ideal) x = x := rfl
theorem pay7_eq : k0_pay7 (F := Ideal) w = w := rfl
/-- The rows before the tile. -/
theorem pay6_apply (r : Fin 8) (d : Fin 512) : k0_pay6 (F := Ideal) i y (ix2 r d) = (y (ix2 r d) * live (nt i) : EReal) := by
  pointwise [k0_pay6]
  rw [pay4_eq]

/-- A column, and the rows before it. -/
abbrev cl (d r : Fin 512) : EReal := x (ix2 r d)
abbrev bf (d : Fin 512) (z : Fin 8) : EReal := y (ix2 z d) * live (nt i)

theorem pay8_apply (r d : Fin 512) : k0_pay8 (F := Ideal) x w (ix2 r d) = (x (ix2 r d) * w (ix2 2 d) : EReal) := by
  pointwise [k0_pay8, k0_pay7, k0_pay5]
  exact congrArg (x (ix2 r d) * · : EReal → EReal) (tap2 fun i => w (ix2 i d))

/-- The convolution. -/
abbrev pr (r d : Fin 512) : EReal := preb (cl x d) (bf i y d) (fun z => w (ix2 z d)) (b (ix2 0 d)) r

theorem pay12_apply (r d : Fin 512) : k0_pay12 (F := Ideal) b (k0_pay5 x) (k0_pay6 i y) (k0_pay7 w) (k0_pay8 x w) (k0_pay10 i x y) (k0_pay11 x) (ix2 r d)
    = (pr i x y w b r d : EReal) := by
  pointwise [k0_pay12, k0_pay10, k0_pay11, k0_pay9, k0_pay7, k0_pay5]
  simp only [pay6_apply, pay8_apply]
  rw [tap0 fun i => w (ix2 i d), tap1 fun i => w (ix2 i d)]
  have h (k : ℕ) (hk : k < 3) (hp : (8 + (r.val - 8) + 512 - k) % 512 < 512) (hq : (r.val + 512 - k) % 512 < 512) :=
    shb_eq k hk (cl x d) (bf i y d) r _ _ hp hq (by intro h; have := r.isLt; omega) (fun _ => rfl)
  exact congrArg₂ (fun p q : EReal => x (ix2 r d) * w (ix2 2 d) + p * w (ix2 1 d) + q * w (ix2 0 d) + b (ix2 0 d))
    (h 1 (by decide) (Nat.mod_lt _ (by decide)) (Nat.mod_lt _ (by decide))) (h 2 (by decide) (Nat.mod_lt _ (by decide)) (Nat.mod_lt _ (by decide)))

theorem tg_apply (r d : Fin 512) : tg i x u a y w b (ix2 r d) = (gr (pr i x y w b r d) (u (ix2 r d)) (a (ix2 r d)) : EReal) := by
  unfold tg
  pointwise [k0_pay23, k0_pay15, k0_pay13]
  simp only [pay12_apply]
  rfl

theorem t7_apply (r d : Fin 512) : t7 i x a y w b (ix2 r d) = (silu (pr i x y w b r d) * a (ix2 r d) : EReal) := by
  unfold t7
  pointwise [k0_pay35, k0_pay14, k0_pay13]
  simp only [pay12_apply]
  rfl

theorem t6_apply (r d : Fin 512) : t6 g z w (ix2 r d)
    = (dnb 2 (fun r => g (ix2 r d) * w (ix2 0 d)) r + dnb 1 (fun r => g (ix2 r d) * w (ix2 1 d)) r + g (ix2 r d) * w (ix2 2 d) + low (fun k => z (ix2 k d)) r : EReal) := by
  unfold t6
  pointwise [k0_pay33, k0_pay18, k0_pay17, k0_pay27, k0_pay26, k0_pay25, k0_pay22, k0_pay31, k0_pay29, k0_pay21, k0_pay20, k0_pay7]
  rw [tap0 fun i => w (ix2 i d), tap1 fun i => w (ix2 i d), tap2 fun i => w (ix2 i d)]
  exact congrArg₂ (fun p q : EReal => p + q + g (ix2 r d) * w (ix2 2 d) + low (fun k => z (ix2 k d)) r)
    (dnb_eq 2 (by decide) (fun r => g (ix2 r d) * w (ix2 0 d)) r _ (Nat.mod_lt _ (by decide)) rfl)
    (dnb_eq 1 (by decide) (fun r => g (ix2 r d) * w (ix2 1 d)) r _ (Nat.mod_lt _ (by decide)) rfl)

theorem ts_apply (k : Fin 8) (d : Fin 512) : ts i g w (ix2 k d)
    = ((upb 2 (fun r => g (ix2 r d) * w (ix2 0 d)) k + upb 1 (fun r => g (ix2 r d) * w (ix2 1 d)) k) * live (nt i) : EReal) := by
  unfold ts
  pointwise [k0_pay34, k0_pay28, k0_pay26, k0_pay25, k0_pay22, k0_pay32, k0_pay29, k0_pay21, k0_pay20, k0_pay7]
  rw [pay4_eq, tap0 fun i => w (ix2 i d), tap1 fun i => w (ix2 i d)]
  exact congrArg₂ (fun p q : EReal => (p + q) * live (nt i))
    (upb_eq 2 (by decide) (fun r => g (ix2 r d) * w (ix2 0 d)) k _ (Nat.lt_of_lt_of_le (Nat.mod_lt _ (by decide)) (by decide)) rfl)
    (upb_eq 1 (by decide) (fun r => g (ix2 r d) * w (ix2 1 d)) k _ (Nat.lt_of_lt_of_le (Nat.mod_lt _ (by decide)) (by decide)) rfl)

theorem t9_apply (d : Fin 512) : t9 i x u a y w b e' (ix2 0 d) = (e' (ix2 0 d) + ∑ r, tg i x u a y w b (ix2 r d) : EReal) := by
  unfold t9
  pointwise [k0_pay37, k0_pay16]
  rfl

theorem t8_apply (k : Fin 3) (d : Fin 512) : t8 i x u a y w b e (ix2 k d)
    = (e (ix2 k d) + ∑ r, tg i x u a y w b (ix2 r d) * shb (2 - k.val) (cl x d) (bf i y d) r : EReal) := by
  unfold t8
  pointwise [k0_pay36, k0_pay17, k0_pay30, k0_pay19, k0_pay20, k0_pay22, k0_pay24, k0_pay5]
  simp only [Fin.sum_univ_one, pay6_apply]
  refine congrArg (e (ix2 k d) + · : EReal → EReal) ((pick k _ _ _).trans ?_)
  fin_cases k
  · exact shb_sum 2 (by decide) (cl x d) (bf i y d) fun r => tg i x u a y w b (ix2 r d)
  · exact shb_sum 1 (by decide) (cl x d) (bf i y d) fun r => tg i x u a y w b (ix2 r d)
  · refine (Finset.sum_congr rfl fun r _ => ?_ : ∑ r, (x (ix2 r d) * tg i x u a y w b (ix2 r d) : EReal)
      = ∑ r, (tg i x u a y w b (ix2 r d) * shb 0 (cl x d) (bf i y d) r : EReal))
    rw [mul_comm]
    simp [shb]

end Cert.FfnBwdRun

end
-- ==== Proof.Row.FfnBwd.lean ====
/- The gradient of the feed-forward's elementwise part: for each of 11 groups of 512 columns, 16 tiles of 512 rows from the last
   to the first; the gradients of the taps and of the bias are added up over a group's tiles. -/
module

public import proofs.«01_k».proof.Defs
public import proofs.«01_k».proof.Proof.Gen.FfnBwd
public import proofs.«01_k».proof.Proof.Gen.FfnBwd.Frame
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Proof.Row.FfnTile
public import Idealize.ShloMosaic.Lib.StableHlo.Run

@[expose] public section

set_option maxRecDepth 16384

noncomputable section

namespace Cert.FfnBwdRun

open Cert.FfnBwdIdeal Cert.FfnBwdIdeal.Gen Cert.Prod Cert.FfnRow
open Idealize.ShloMosaic Idealize.ShloMosaic.TcCoe Idealize.SL.Sem
open Idealize.ShloMosaic.Pipeline (Dat)

/-- A column of the gate, and of the up half. -/
abbrev gc (j : Fin 5632) : Fin 11264 := ⟨j.val, by have := j.isLt; omega⟩
abbrev uc (j : Fin 5632) : Fin 11264 := ⟨5632 + j.val, by have := j.isLt; omega⟩

section Columns

variable (x : FVec Ideal Cert.FfnBwdIdeal.S8192x11264 .f32) (w : FVec Ideal Cert.FfnBwdIdeal.S3x5632 .f32) (b : FVec Ideal Cert.FfnBwdIdeal.S1x5632 .f32)
  (a : FVec Ideal Cert.FfnBwdIdeal.S8192x5632 .f32) (j : Fin 5632)

/-- A column of the gate, of the taps, of the convolution, and the convolution's cotangent. -/
def cx (s : Fin 8192) : EReal := x (ix2 s (gc j))
def ct (z : Fin 3) : EReal := w (ix2 z j)
def cp (s : Fin 8192) : EReal := pre (cx x j) (ct w j) (b (ix2 0 j)) s
def cg (s : Fin 8192) : EReal := gr (cp x w b j s) (x (ix2 s (uc j))) (a (ix2 s j))

end Columns

variable (m : (ℓ : Loc nD τ sig) → Buf (Elt Ideal) ℓ) (c : Dev nD)

/-- The arguments: gate and up side by side, the taps, the bias, the cotangent. -/
abbrev gu : FVec Ideal S8192x11264 .f32 := m ((c : Thread nD τ).loc main_arg0)
abbrev cw : FVec Ideal S3x5632 .f32 := m ((c : Thread nD τ).loc main_arg1)
abbrev cb : FVec Ideal S1x5632 .f32 := m ((c : Thread nD τ).loc main_arg2)
abbrev da : FVec Ideal S8192x5632 .f32 := m ((c : Thread nD τ).loc main_arg3)

theorem idx : ∀ t : Fin cfg0.N, t.val / 16 < 11 ∧ (grid0.coords t 1).val = t.val % 16 ∧ win0_0.index t = ![15 - t.val % 16, t.val / 16]
    ∧ win0_1.index t = ![64 * (15 - t.val % 16) - 1, t.val / 16] ∧ win0_2.index t = ![15 - t.val % 16, 11 + t.val / 16]
    ∧ win0_3.index t = ![0, t.val / 16] ∧ win0_4.index t = ![0, t.val / 16] ∧ win0_5.index t = ![15 - t.val % 16, t.val / 16]
    ∧ win0_6.index t = ![15 - t.val % 16, t.val / 16] ∧ win0_7.index t = ![15 - t.val % 16, t.val / 16]
    ∧ win0_8.index t = ![0, t.val / 16] ∧ win0_9.index t = ![0, t.val / 16] :=
  (by decide +kernel : ∀ t : Fin grid0.N, _)

/-- The tile of a point. -/
abbrev pb (t : Fin cfg0.N) : Fin 16 := ⟨15 - t.val % 16, Nat.lt_of_le_of_lt (Nat.sub_le _ _) (by decide)⟩
/-- A column of the point's group. -/
abbrev col (t : Fin cfg0.N) (d : Fin 512) : Fin 5632 := ⟨512 * (t.val / 16) + d.val, by have := (idx t).1; have := d.isLt; omega⟩

theorem b0 (t : Fin cfg0.N) (r d : Fin 512) : (iblk m c 0 t : FVec Ideal S512x512 .f32) (ix2 r d) = gu m c (ix2 (row (pb t) r) (gc (col t d))) := by
  blk_ext [iblk, V, idx t]
theorem b1 (t : Fin cfg0.N) (r : Fin 8) (d : Fin 512) : (iblk m c 1 t : FVec Ideal S8x512 .f32) (ix2 r d) = gu m c (ix2 (tail (pb t) r) (gc (col t d))) := by
  blk_ext [iblk, V, idx t]
theorem b2 (t : Fin cfg0.N) (r d : Fin 512) : (iblk m c 2 t : FVec Ideal S512x512 .f32) (ix2 r d) = gu m c (ix2 (row (pb t) r) (uc (col t d))) := by
  blk_ext [iblk, V, idx t]
theorem b3 (t : Fin cfg0.N) (r : Fin 3) (d : Fin 512) : (iblk m c 3 t : FVec Ideal S3x512 .f32) (ix2 r d) = cw m c (ix2 r (col t d)) := by
  blk_ext [iblk, V, idx t]
theorem b4 (t : Fin cfg0.N) (d : Fin 512) : (iblk m c 4 t : FVec Ideal S1x512 .f32) (ix2 0 d) = cb m c (ix2 0 (col t d)) := by
  blk_ext [iblk, V, idx t]
theorem b5 (t : Fin cfg0.N) (r d : Fin 512) : (iblk m c 5 t : FVec Ideal S512x512 .f32) (ix2 r d) = da m c (ix2 (row (pb t) r) (col t d)) := by
  blk_ext [iblk, V, idx t]

theorem nt_eq (t : Fin cfg0.N) : nt (grid0.coords t) = (pb t).val := by
  show 15 - (grid0.coords t 1).val = _
  rw [(idx t).2.1]

/-! ## One point -/

/-- The convolution and its cotangent at a point. -/
theorem pr_at (t : Fin cfg0.N) (r d : Fin 512) : pr (grid0.coords t) (iblk m c 0 t) (iblk m c 1 t) (iblk m c 3 t) (iblk m c 4 t) r d
    = cp (gu m c) (cw m c) (cb m c) (col t d) (row (pb t) r) := by
  unfold pr cl bf
  simp only [nt_eq, b0, b1, b3, b4]
  exact preb_rows (cx (gu m c) (col t d)) (ct (cw m c) (col t d)) _ (pb t) r

/-- The cotangent's tile. -/
abbrev gt (t : Fin cfg0.N) : FVec Ideal S512x512 .f32 :=
  tg (grid0.coords t) (iblk m c 0 t) (iblk m c 2 t) (iblk m c 5 t) (iblk m c 1 t) (iblk m c 3 t) (iblk m c 4 t)

/-- The cotangent's columns. -/
abbrev G (j : Fin 5632) : Fin 8192 → EReal := cg (gu m c) (cw m c) (cb m c) (da m c) j

theorem gt_at (t : Fin cfg0.N) (r d : Fin 512) : gt m c t (ix2 r d) = G m c (col t d) (row (pb t) r) := by
  refine (tg_apply ..).trans ?_
  rw [pr_at, b2, b5]
  rfl

/-- What a point leaves for the next one. -/
theorem at_s (t : Fin cfg0.N) : (outsAt0 m c t.val t.isLt).2.2.2.2 = ts (grid0.coords t) (gt m c t) (iblk m c 3 t) := by
  by_cases h : t.val % 16 = 0
  · rw [outsAt0_A m c t h]; dsimp only; exact (out_A ..).2.2.2.2
  · rw [outsAt0_B m c t h]; dsimp only; exact (out_B ..).2.2.2.2

theorem at_7 (t : Fin cfg0.N) : (outsAt0 m c t.val t.isLt).2.1
    = t7 (grid0.coords t) (iblk m c 0 t) (iblk m c 5 t) (iblk m c 1 t) (iblk m c 3 t) (iblk m c 4 t) := by
  by_cases h : t.val % 16 = 0
  · rw [outsAt0_A m c t h]; dsimp only; exact (out_A ..).2.1
  · rw [outsAt0_B m c t h]; dsimp only; exact (out_B ..).2.1

/-- The point before, within a group. -/
abbrev bef (t : Fin cfg0.N) : Fin cfg0.N := ⟨t.val - 1, Nat.lt_of_le_of_lt (Nat.sub_le _ _) t.isLt⟩

theorem left_at (t : Fin cfg0.N) (h : ¬t.val % 16 = 0) (k : Fin 8) (d : Fin 512) : (outsAt0 m c (bef t).val (bef t).isLt).2.2.2.2 (ix2 k d)
    = next (ct (cw m c) (col t d)) (G m c (col t d)) (pb t).val k := by
  have hc : col (bef t) d = col t d := Fin.ext (show 512 * ((t.val - 1) / 16) + d.val = 512 * (t.val / 16) + d.val by omega)
  have hp : (pb (bef t)).val = (pb t).val + 1 := (show 15 - (t.val - 1) % 16 = 15 - t.val % 16 + 1 by omega)
  have hl : (pb t).val + 1 < 16 := (show 15 - t.val % 16 + 1 < 16 by omega)
  have hb : pb (bef t) = ⟨(pb t).val + 1, hl⟩ := Fin.ext hp
  rw [at_s]
  refine (ts_apply ..).trans ?_
  simp only [gt_at, b3, nt_eq]
  rw [live_one (pb (bef t)) (by omega), mul_one, hc, hb]
  unfold next
  rw [dif_pos hl]
  rfl

theorem at_6 (t : Fin cfg0.N) (r d : Fin 512) : (outsAt0 m c t.val t.isLt).1 (ix2 r d)
    = (dg (ct (cw m c) (col t d)) (G m c (col t d)) (row (pb t) r) : EReal) := by
  rw [← dg_rows]
  by_cases h : t.val % 16 = 0
  · rw [outsAt0_A m c t h]; dsimp only
    rw [(out_A ..).1]
    refine (t6_apply ..).trans ?_
    simp only [gt_at, b3]
    refine congrArg (_ + low · r : (Fin 8 → EReal) → EReal) (funext fun k => ?_)
    unfold next
    rw [dif_neg (show ¬(15 - t.val % 16 + 1 < 16) by omega)]
    exact zero_word
  · rw [outsAt0_B m c t h]; dsimp only
    rw [(out_B ..).1]
    refine (t6_apply ..).trans ?_
    simp only [gt_at, b3]
    exact congrArg (_ + low · r : (Fin 8 → EReal) → EReal) (funext fun k => left_at m c t h k d)

/-- The sums over a group's tiles, from the last tile to the first. -/
theorem rows_down {ι : Type} (f : Fin cfg0.N → Fin 8192 → ι → EReal) (hf : ∀ s t : Fin cfg0.N, s.val / 16 = t.val / 16 → f s = f t)
    (acc : (s : ℕ) → s < cfg0.N → ι → EReal)
    (first : ∀ t : Fin cfg0.N, t.val % 16 = 0 → ∀ i, acc t.val t.isLt i = 0 + ∑ r, f t (row (pb t) r) i)
    (step : ∀ t : Fin cfg0.N, ¬t.val % 16 = 0 → ∀ i, acc t.val t.isLt i = acc (t.val - 1) (Nat.lt_of_le_of_lt (Nat.sub_le _ _) t.isLt) i + ∑ r, f t (row (pb t) r) i)
    (t : Fin cfg0.N) (h : t.val % 16 = 15) (i : ι) : acc t.val t.isLt i = ∑ s, f t s i := by
  refine (Pipeline.eq_sum_fin_of_reset_step_apply_of_flush (M := EReal) acc 16 (fun _ => 0) (fun t i => ∑ r, f t (row (pb t) r) i)
    first step t h i).trans ((zero_add _).trans ?_)
  rw [← Equiv.sum_comp Fin.revPerm]
  refine sum_tiles (by decide) (fun s => f t s i) _ fun j r hx => ?_
  have hj := j.isLt
  have e : ∀ s : Fin cfg0.N, s.val = 16 * (t.val / 16) + (15 - j.val) → f s (row (pb s) r) i = f t ⟨512 * j.val + r.val, hx⟩ i := fun s hs => by
    have : row (pb s) r = ⟨512 * j.val + r.val, hx⟩ := Fin.ext (show 512 * (15 - s.val % 16) + r.val = 512 * j.val + r.val by omega)
    rw [this, hf s t (by omega)]
  refine e _ ?_
  show 16 * (t.val / 16) + (Fin.rev j).val = _
  rw [Fin.val_rev]
  omega

/-- The gradient of the taps and of the bias, row by row. -/
def tw (j : Fin 5632) (k : Fin 3) (s : Fin 8192) : EReal := G m c j s * sh (2 - k.val) (cx (gu m c) j) s

theorem t8_at (t : Fin cfg0.N) (e : FVec Ideal S3x512 .f32) (k : Fin 3) (d : Fin 512) :
    t8 (grid0.coords t) (iblk m c 0 t) (iblk m c 2 t) (iblk m c 5 t) (iblk m c 1 t) (iblk m c 3 t) (iblk m c 4 t) e (ix2 k d)
      = (e (ix2 k d) + ∑ r, tw m c (col t d) k (row (pb t) r) : EReal) := by
  refine (t8_apply ..).trans (congrArg (e (ix2 k d) + · : EReal → EReal) (Finset.sum_congr rfl fun r _ => ?_))
  refine congrArg₂ (fun p q : EReal => p * q) (gt_at m c t r d) ?_
  unfold cl bf
  simp only [nt_eq, b0, b1]
  exact shb_rows (2 - k.val) (by omega) (cx (gu m c) (col t d)) (pb t) r

theorem t9_at (t : Fin cfg0.N) (e : FVec Ideal S1x512 .f32) (d : Fin 512) :
    t9 (grid0.coords t) (iblk m c 0 t) (iblk m c 2 t) (iblk m c 5 t) (iblk m c 1 t) (iblk m c 3 t) (iblk m c 4 t) e (ix2 0 d)
      = (e (ix2 0 d) + ∑ r, G m c (col t d) (row (pb t) r) : EReal) :=
  (t9_apply ..).trans (congrArg (e (ix2 0 d) + · : EReal → EReal) (Finset.sum_congr rfl fun r _ => gt_at m c t r d))

theorem same_col {s t : Fin cfg0.N} (h : s.val / 16 = t.val / 16) (d : Fin 512) : col s d = col t d :=
  Fin.ext (show 512 * (s.val / 16) + d.val = 512 * (t.val / 16) + d.val by rw [h])

theorem total8 (t : Fin cfg0.N) (h : t.val % 16 = 15) (k : Fin 3) (d : Fin 512) :
    (outsAt0 m c t.val t.isLt).2.2.1 (ix2 k d) = (∑ s, tw m c (col t d) k s : EReal) := by
  refine rows_down (ι := Fin 3 × Fin 512) (fun t s i => tw m c (col t i.2) i.1 s) (fun s t h => by simp only [same_col h])
    (fun s h i => (outsAt0 m c s h).2.2.1 (ix2 i.1 i.2)) (fun t h i => ?_) (fun t h i => ?_) t h (k, d)
  · rw [outsAt0_A m c t h]; dsimp only
    rw [(out_A ..).2.2.1, t8_at]
    exact congrArg (· + _ : EReal → EReal) zero_word
  · rw [outsAt0_B m c t h]; dsimp only
    rw [(out_B ..).2.2.1, t8_at]

theorem total9 (t : Fin cfg0.N) (h : t.val % 16 = 15) (d : Fin 512) :
    (outsAt0 m c t.val t.isLt).2.2.2.1 (ix2 0 d) = (∑ s, G m c (col t d) s : EReal) := by
  refine rows_down (ι := Fin 512) (fun t s i => G m c (col t i) s) (fun s t h => by simp only [same_col h])
    (fun s h i => (outsAt0 m c s h).2.2.2.1 (ix2 0 i)) (fun t h i => ?_) (fun t h i => ?_) t h d
  · rw [outsAt0_A m c t h]; dsimp only
    rw [(out_A ..).2.2.2.1, t9_at]
    exact congrArg (· + _ : EReal → EReal) zero_word
  · rw [outsAt0_B m c t h]; dsimp only
    rw [(out_B ..).2.2.2.1, t9_at]

/-! ## The four results -/

def res6 : FVec Ideal S8192x5632 .bf16 := fun i => (dg (ct (cw m c) (i 1)) (G m c (i 1)) (i 0) : EReal)
def res7 : FVec Ideal S8192x5632 .bf16 := fun i => (silu (cp (gu m c) (cw m c) (cb m c) (i 1) (i 0)) * da m c (ix2 (i 0) (i 1)) : EReal)
def res8 : FVec Ideal S3x5632 .f32 := fun i => (∑ s, tw m c (i 1) (i 0) s : EReal)
def res9 : FVec Ideal S1x5632 .f32 := fun i => (∑ s, G m c (i 1) s : EReal)

theorem final6 : (dats m 0 c).arrAt 6 cfg0.N = res6 m c := by
  refine (dats m 0 c).arrAt_eq_of_covers 6 _ (by decide +kernel) fun t hf y => ?_
  blk_simp
  rw [after0_6]
  obtain ⟨r, d, rfl⟩ := pair y
  have e : (win0_6.blk t).view.emb (ix2 r d) = ix2 (row (pb t) r) (col t d) := by blk_ext [idx t]
  rw [e]
  exact at_6 m c t r d

theorem final7 : (dats m 0 c).arrAt 7 cfg0.N = res7 m c := by
  refine (dats m 0 c).arrAt_eq_of_covers 7 _ (by decide +kernel) fun t hf y => ?_
  blk_simp
  rw [after0_7, at_7]
  obtain ⟨r, d, rfl⟩ := pair y
  have e : (win0_7.blk t).view.emb (ix2 r d) = ix2 (row (pb t) r) (col t d) := by blk_ext [idx t]
  rw [e]
  refine (t7_apply ..).trans ?_
  rw [pr_at, b5]
  rfl

theorem final8 : (dats m 0 c).arrAt 8 cfg0.N = res8 m c := by
  refine (dats m 0 c).arrAt_eq_of_covers 8 _ (by decide +kernel) fun t hf y => ?_
  blk_simp
  rw [after0_8]
  obtain ⟨k, d, rfl⟩ := pair y
  have e : (win0_8.blk t).view.emb (ix2 k d) = ix2 k (col t d) := by blk_ext [idx t]
  rw [e]
  exact total8 m c t ((flush0_8 t).mp hf) k d

theorem final9 : (dats m 0 c).arrAt 9 cfg0.N = res9 m c := by
  refine (dats m 0 c).arrAt_eq_of_covers 9 _ (by decide +kernel) fun t hf y => ?_
  blk_simp
  rw [after0_9]
  obtain ⟨k, d, rfl⟩ := pair y
  obtain rfl : k = 0 := Fin.eq_zero k
  have e : (win0_9.blk t).view.emb (ix2 0 d) = ix2 0 (col t d) := by blk_ext [idx t]
  rw [e]
  exact total9 m c t ((flush0_9 t).mp hf) d

/-! ## The reference -/

section Reference

open Cert.FfnBwdRefIdeal.Read Cert.FfnBwdRefIdeal Cert.FfnBwdRefIdeal.Gen

variable (x : FVec Ideal Cert.FfnBwdIdeal.S8192x11264 .f32) (w : FVec Ideal Cert.FfnBwdIdeal.S3x5632 .f32) (b : FVec Ideal Cert.FfnBwdIdeal.S1x5632 .f32)
  (a : FVec Ideal Cert.FfnBwdIdeal.S8192x5632 .f32)

theorem r15 (s : Fin 8192) (j : Fin 5632) : val_main_v15 (F := Ideal) x (ix2 s j) = (sh 1 (cx x j) s : EReal) := by
  unfold sh cx
  pointwise [val_main_v15, val_main_v13, val_main_v14, val_main_v2, val_main_v0, val_main_cst]
  by_cases h : s.val < 1 <;> simp [h]

theorem r6 (s : Fin 8192) (j : Fin 5632) : val_main_v6 (F := Ideal) x (ix2 s j) = (sh 2 (cx x j) s : EReal) := by
  unfold sh cx
  pointwise [val_main_v6, val_main_v5, val_main_v2, val_main_v0, val_main_cst]
  by_cases h : s.val < 2 <;> simp [h]

theorem back (p q a c : EReal) : p * q + a + c = c + a + q * p := by
  rw [mul_comm p]; ac_rfl

theorem r28 (s : Fin 8192) (j : Fin 5632) : val_main_v28 (F := Ideal) x w b (ix2 s j) = (cp x w b j s : EReal) := by
  unfold cp pre
  rw [← r15, ← r6]
  pointwise [val_main_v28, val_main_v27, val_main_v26, val_main_v25, val_main_v24, val_main_v23, val_main_v22, val_main_v21, val_main_v20, val_main_v19, val_main_v18, val_main_v17, val_main_v12, val_main_v11, val_main_v10, val_main_v9, val_main_v8, val_main_v4, val_main_v3, val_main_v0]
  exact turn ..

theorem r29 (s : Fin 8192) (j : Fin 5632) : val_main_v29_2 (F := Ideal) x w b (ix2 s j) = (Ideal.logistic (cp x w b j s) : EReal) := by
  rw [← r28]
  unfold Ideal.logistic
  pointwise [val_main_v29_2, val_main_call0_v4, val_main_call0_v3, val_main_call0_v2, val_main_call0_v1, val_main_call0_v0, val_main_call0_cst, val_main_call0_cst_0]
  done

theorem r33 (s : Fin 8192) (j : Fin 5632) : val_main_v33 (F := Ideal) x w b a (ix2 s j) = (cg x w b a j s : EReal) := by
  unfold cg gr
  rw [← r29, ← r28]
  pointwise [val_main_v33, val_main_call1_v2, val_main_call1_v1, val_main_call1_v0, val_main_v32, val_main_v29_1, val_main_call0_v7, val_main_call0_v6, val_main_call0_cst_1, val_main_v1]
  done

theorem r71 (s : Fin 8192) (j : Fin 5632) : val_main_v71 (F := Ideal) x w b a (ix2 s j) = (silu (cp x w b j s) * a (ix2 s j) : EReal) := by
  unfold silu
  rw [← r29, ← r28]
  pointwise [val_main_v71, val_main_v31, val_main_v29_0]
  done

theorem r35 (j : Fin 5632) : val_main_v35 (F := Ideal) x w b a (ix2 0 j) = (∑ s, cg x w b a j s : EReal) := by
  simp only [← r33]
  pointwise [val_main_v35, val_main_v34, val_main_cst_2]
  done

theorem r70 (s : Fin 8192) (j : Fin 5632) : val_main_v70 (F := Ideal) x w b a (ix2 s j) = (dg (ct w j) (cg x w b a j) s : EReal) := by
  unfold dg dn ct
  simp only [← r33]
  pointwise [val_main_v70, val_main_v66, val_main_v65, val_main_v64, val_main_v58, val_main_v57, val_main_v53, val_main_v52, val_main_v51, val_main_v45, val_main_v44, val_main_v37, val_main_v36, val_main_v23, val_main_v22, val_main_v21, val_main_v17, val_main_v12, val_main_v11, val_main_v8, val_main_v4, val_main_v3, val_main_cst_8, val_main_cst_12]
  have e (k : ℕ) (q : Fin 3) : (if h : s.val < 8192 - k then (w (ix2 q j) * val_main_v33 (F := Ideal) x w b a (ix2 ⟨k + s.val, by omega⟩ j) : EReal) else 0)
      = if h : s.val + k < 8192 then (val_main_v33 (F := Ideal) x w b a (ix2 ⟨s.val + k, h⟩ j) * w (ix2 q j) : EReal) else 0 := by
    by_cases h : s.val + k < 8192
    · rw [dif_pos (by omega), dif_pos h, mul_comm]
      simp only [Nat.add_comm]
    · rw [dif_neg (by omega), dif_neg h]
  refine (congrArg₂ (fun p q : EReal => w (ix2 2 j) * val_main_v33 (F := Ideal) x w b a (ix2 s j) + p + q) (e 1 1) (e 2 0)).trans ?_
  exact back ..

theorem r69 (k : Fin 3) (j : Fin 5632) : val_main_v69 (F := Ideal) x w b a (ix2 k j) = (∑ s, cg x w b a j s * sh (2 - k.val) (cx x j) s : EReal) := by
  have h0 (s : Fin 8192) : val_main_v0 (F := Ideal) x (ix2 s j) = (sh 0 (cx x j) s : EReal) := by
    pointwise [val_main_v0]
    simp [sh, cx]
  simp only [← r33]
  pointwise [val_main_v69, val_main_v68, val_main_v67, val_main_v62, val_main_v61, val_main_v60, val_main_v59, val_main_v56, val_main_v55, val_main_v54, val_main_v49, val_main_v48, val_main_v47, val_main_v46, val_main_v43, val_main_v42, val_main_v41, val_main_v40, val_main_v39, val_main_v38, val_main_cst_3, val_main_cst_4, val_main_cst_5, val_main_cst_6, val_main_cst_7, val_main_cst_9, val_main_cst_10, val_main_cst_11, val_main_cst_13]
  simp only [Fin.sum_univ_one]
  obtain h | h | h : k.val = 0 ∨ k.val = 1 ∨ k.val = 2 := by omega
  · rw [dif_neg (by omega), dif_neg (by omega), dif_pos (by omega), zero_add, zero_add, h]
    exact Finset.sum_congr rfl fun s _ => congrArg (val_main_v33 (F := Ideal) x w b a (ix2 s j) * · : EReal → EReal) (r6 x s j)
  · rw [dif_neg (by omega), dif_pos (by omega), dif_neg (by omega), zero_add, add_zero, h]
    exact Finset.sum_congr rfl fun s _ => congrArg (val_main_v33 (F := Ideal) x w b a (ix2 s j) * · : EReal → EReal) (r15 x s j)
  · rw [dif_pos (by omega), dif_neg (by omega), dif_neg (by omega), add_zero, add_zero, h]
    exact Finset.sum_congr rfl fun s _ => congrArg (val_main_v33 (F := Ideal) x w b a (ix2 s j) * · : EReal → EReal) (h0 s)

end Reference

theorem frame_p : Cert.quiescent_FfnBwd := fun m ρ _ => Cert.FfnBwd.Gen.frame m ρ
theorem frame_pi : Cert.quiescent_FfnBwdIdeal := fun m ρ _ => Cert.FfnBwdIdeal.Gen.frame m ρ
theorem frame_ri : Cert.quiescent_FfnBwdRefIdeal := fun m ρ _ => (θ_run Cert.FfnBwdRefIdeal.defs _ _).mono
  (fun r h => ⟨fun c => (h c).2.2.2.2, sem_eq_zero_of_no_sems (by decide) r.2⟩) (Cert.FfnBwdRefIdeal.Value.run (F := Ideal) m ρ)

/-- The call and the reference end with the same four arrays. -/
theorem algebraic : Cert.algebraic_FfnBwdIdeal_FfnBwdRefIdeal := by
  intro m ρ m' ρ' _ hag
  refine ⟨fun c => res6 m c, fun c => res7 m c, fun c => res8 m c, fun c => res9 m c, ?_, ?_⟩
  · refine (θ_run Cert.FfnBwdIdeal.defs _ _).mono (fun r h c => ?_) (Cert.FfnBwdIdeal.Value.run_blocks (F := Ideal) m ρ)
    obtain ⟨h6, h7, h8, h9, ha⟩ := h c
    exact ⟨h6.trans (final6 m c), h7.trans (final7 m c), h8.trans (final8 m c), h9.trans (final9 m c), ha⟩
  · refine (θ_run Cert.FfnBwdRefIdeal.defs _ _).mono (fun r h c => ?_) (Cert.FfnBwdRefIdeal.Value.run (F := Ideal) m' ρ')
    obtain ⟨h6, h7, h8, h9, ha⟩ := h c
    obtain ⟨a0, a1, a2, a3⟩ := hag c
    rw [Cert.FfnBwdRefIdeal.Read.val_main_v70_eq, a0, a1, a2, a3] at h6
    rw [Cert.FfnBwdRefIdeal.Read.val_main_v71_eq, a0, a1, a2, a3] at h7
    rw [Cert.FfnBwdRefIdeal.Read.val_main_v69_eq, a0, a1, a2, a3] at h8
    rw [Cert.FfnBwdRefIdeal.Read.val_main_v35_eq, a0, a1, a2, a3] at h9
    refine ⟨h6.trans (funext fun i => ?_), h7.trans (funext fun i => ?_), h8.trans (funext fun i => ?_), h9.trans (funext fun i => ?_), ha⟩
    · obtain ⟨s, j, rfl⟩ := pair (n := 8192) (m := 5632) i
      exact r70 ..
    · obtain ⟨s, j, rfl⟩ := pair (n := 8192) (m := 5632) i
      exact r71 ..
    · obtain ⟨k, j, rfl⟩ := pair (n := 3) (m := 5632) i
      exact r69 ..
    · obtain ⟨k, j, rfl⟩ := pair (n := 1) (m := 5632) i
      obtain rfl : k = 0 := Fin.eq_zero k
      exact r35 ..

end Cert.FfnBwdRun

end
-- ==== Proof.Row.RopeTables.lean ====
/- The cosines and sines of the rotary embedding, 16 tiles of 512 positions. -/
module

public import proofs.«01_k».proof.Defs
public import proofs.«01_k».proof.Proof.Gen.RopeTables
public import proofs.«01_k».proof.Proof.Gen.RopeTables.Frame
public import proofs.«01_k».proof.Proof.Gen.RopeTablesIdeal.Value
public import proofs.«01_k».proof.Proof.Gen.RopeTablesRefIdeal.Run
public import proofs.«01_k».proof.Proof.Gen.RopeTablesRefIdeal.Read
public import proofs.«01_k».proof.Proof.Prod.Tiled
public import Idealize.ShloMosaic.Lib.StableHlo.Run

@[expose] public section

set_option maxRecDepth 16384

noncomputable section

namespace Cert.RopeTablesRun

open Cert.RopeTablesIdeal Cert.RopeTablesIdeal.Gen Cert.Prod
open Idealize.ShloMosaic Idealize.ShloMosaic.TcCoe Idealize.SL.Sem
open Idealize.ShloMosaic.Pipeline (Dat)

theorem cos_apply (x : FVec Ideal S512x1 .f32) (w : FVec Ideal S1x64 .f32) (r : Fin 512) (d : Fin 64) :
    out0_2 (F := Ideal) x w (ix2 r d) = (Ideal.cos (x (ix2 r 0) * w (ix2 0 d)) : EReal) := by
  unfold out0_2
  rw [View.canon_unit_zero (S := S512x64) hz]
  simp only [r0_0, r0_1, View.ld_unit_zero (S := S512x1) hz, View.ld_unit_zero (S := S1x64) hz]
  pointwise [k0_pay2, k0_pay1]

theorem sin_apply (x : FVec Ideal S512x1 .f32) (w : FVec Ideal S1x64 .f32) (r : Fin 512) (d : Fin 64) :
    out0_3 (F := Ideal) x w (ix2 r d) = (Ideal.sin (x (ix2 r 0) * w (ix2 0 d)) : EReal) := by
  unfold out0_3
  rw [View.canon_unit_zero (S := S512x64) hz]
  simp only [r0_0, r0_1, View.ld_unit_zero (S := S512x1) hz, View.ld_unit_zero (S := S1x64) hz]
  pointwise [k0_pay3, k0_pay1]

/-- The 32 frequencies: the call's host code and the reference make them by the same operations. -/
def freq : FVec Ideal S32 .f32 := Cert.RopeTablesRefIdeal.Read.val_main_v10 (F := Ideal)
/-- The frequency of a column: the two halves have the same ones. -/
def fr (d : Fin 64) : EReal := if h : d.val < 32 then freq (ix1 ⟨d.val, h⟩) else freq (ix1 ⟨d.val - 32, by omega⟩)

variable (m : (ℓ : Loc nD τ sig) → Buf (Elt Ideal) ℓ) (c : Dev nD)

/-- The argument: the positions. -/
abbrev arg0 : (⟨S8192, .i32⟩ : BufTy).Contents (Elt Ideal) := m ((c : Thread nD τ).loc main_arg0)

/-- The positions in f32. -/
def pos : FVec Ideal S8192 .f32 := Cert.RopeTablesRefIdeal.Read.val_main_v11 (F := Ideal) (arg0 m c)

/-- What the host hands to the call. -/
theorem V_pos (s : Fin 8192) : (V m c main_v1 : FVec Ideal S8192x1 .f32) (ix2 s 0) = pos m c (ix1 s) := by
  have e : V m c main_v1 = shapeCast S8192x1 (pos m c) shapeCasts_S8192_S8192x1 := by
    show StableHlo.after hostOps0 _ _ = _
    unfold hostOps0
    after_results
    rfl
  rw [e]
  pointwise
theorem V_freq (d : Fin 64) : (V m c main_v14 : FVec Ideal S1x64 .f32) (ix2 0 d) = fr d := by
  have e : V m c main_v14 = shapeCast S1x64 (concatenate S64 0 [⟨S32, freq⟩, ⟨S32, freq⟩] concatenates_S32_S32_S64_d0) shapeCasts_S64_S1x64 := by
    show StableHlo.after hostOps0 _ _ = _
    unfold hostOps0
    after_results
    rfl
  rw [e]
  unfold fr
  pointwise

theorem idx : ∀ t : Fin cfg0.N, t.val < 16 ∧ win0_0.index t = ![t.val, 0] ∧ win0_1.index t = ![0, 0] ∧ win0_2.index t = ![t.val, 0]
    ∧ win0_3.index t = ![t.val, 0] :=
  (by decide +kernel : ∀ t : Fin grid0.N, _)

/-- The rows of a tile. -/
def ra (t : Fin cfg0.N) (r : Fin 512) : Fin 8192 := ⟨512 * t.val + r.val, by have := (idx t).1; have := r.isLt; omega⟩

theorem b0 (t : Fin cfg0.N) (r : Fin 512) : (iblk m c 0 t : FVec Ideal S512x1 .f32) (ix2 r 0) = pos m c (ix1 (ra t r)) := by
  rw [← V_pos]; unfold ra; blk_ext [iblk, idx t]
theorem b1 (t : Fin cfg0.N) (d : Fin 64) : (iblk m c 1 t : FVec Ideal S1x64 .f32) (ix2 0 d) = fr d := by
  rw [← V_freq m c]; blk_ext [iblk, idx t]

/-- The angles, and the two tables. -/
def ang (s : Fin 8192) (d : Fin 64) : EReal := pos m c (ix1 s) * fr d
def tc : FVec Ideal S8192x64 .f32 := fun i => (Ideal.cos (ang m c (i 0) (i 1)) : EReal)
def ts : FVec Ideal S8192x64 .f32 := fun i => (Ideal.sin (ang m c (i 0) (i 1)) : EReal)

theorem final2 : (dats m 0 c).arrAt 2 cfg0.N = tc m c := by
  refine (dats m 0 c).arrAt_eq_of_covers 2 _ (by decide +kernel) fun t hf y => ?_
  blk_simp
  rw [after0_2]
  obtain ⟨r, d, rfl⟩ := pair y
  have e : (win0_2.blk t).view.emb (ix2 r d) = ix2 (ra t r) d := by unfold ra; blk_ext [idx t]
  rw [e]
  refine (cos_apply ..).trans ?_
  rw [b0, b1]
  rfl
theorem final3 : (dats m 0 c).arrAt 3 cfg0.N = ts m c := by
  refine (dats m 0 c).arrAt_eq_of_covers 3 _ (by decide +kernel) fun t hf y => ?_
  blk_simp
  rw [after0_3]
  obtain ⟨r, d, rfl⟩ := pair y
  have e : (win0_3.blk t).view.emb (ix2 r d) = ix2 (ra t r) d := by unfold ra; blk_ext [idx t]
  rw [e]
  refine (sin_apply ..).trans ?_
  rw [b0, b1]
  rfl

section Reference
open Cert.RopeTablesRefIdeal.Read

/-- The reference's angles, of one half of the columns. -/
theorem r16 (x : (⟨S8192, .i32⟩ : BufTy).Contents (Elt Ideal)) (s : Fin 8192) (j : Fin 32) :
    val_main_v16 (F := Ideal) x (ix2 s j) = (val_main_v11 (F := Ideal) x (ix1 s) * freq (ix1 j) : EReal) := by
  unfold freq
  pointwise [val_main_v16, val_main_v15, val_main_v14, val_main_v13, val_main_v12]

theorem r19 : val_main_v19 (F := Ideal) (arg0 m c) = tc m c := by
  funext i
  obtain ⟨s, d, rfl⟩ := pair (n := 8192) (m := 64) i
  refine Eq.trans (b := (if h : d.val < 32 then Ideal.cos (val_main_v16 (F := Ideal) (arg0 m c) (ix2 s ⟨d.val, h⟩))
    else Ideal.cos (val_main_v16 (F := Ideal) (arg0 m c) (ix2 s ⟨d.val - 32, by omega⟩)) : EReal)) (by pointwise [val_main_v19, val_main_v17]) ?_
  show _ = Ideal.cos (pos m c (ix1 s) * fr d)
  unfold fr
  split <;> rw [r16] <;> rfl
theorem r20 : val_main_v20 (F := Ideal) (arg0 m c) = ts m c := by
  funext i
  obtain ⟨s, d, rfl⟩ := pair (n := 8192) (m := 64) i
  refine Eq.trans (b := (if h : d.val < 32 then Ideal.sin (val_main_v16 (F := Ideal) (arg0 m c) (ix2 s ⟨d.val, h⟩))
    else Ideal.sin (val_main_v16 (F := Ideal) (arg0 m c) (ix2 s ⟨d.val - 32, by omega⟩)) : EReal)) (by pointwise [val_main_v20, val_main_v18]) ?_
  show _ = Ideal.sin (pos m c (ix1 s) * fr d)
  unfold fr
  split <;> rw [r16] <;> rfl

end Reference

theorem frame_p : Cert.quiescent_RopeTables := fun m ρ _ => Cert.RopeTables.Gen.frame m ρ
theorem frame_pi : Cert.quiescent_RopeTablesIdeal := fun m ρ _ => Cert.RopeTablesIdeal.Gen.frame m ρ
theorem frame_ri : Cert.quiescent_RopeTablesRefIdeal := fun m ρ _ => (θ_run Cert.RopeTablesRefIdeal.defs _ _).mono
  (fun r h => ⟨fun c => (h c).2.2, sem_eq_zero_of_no_sems (by decide) r.2⟩) (Cert.RopeTablesRefIdeal.Value.run (F := Ideal) m ρ)

/-- The call and the reference end with the same tables. -/
theorem algebraic : Cert.algebraic_RopeTablesIdeal_RopeTablesRefIdeal := by
  intro m ρ m' ρ' _ hag
  refine ⟨fun c => tc m c, fun c => ts m c, ?_, ?_⟩
  · exact (θ_run Cert.RopeTablesIdeal.defs _ _).mono (fun r h c => ⟨(h c).1.trans (final2 m c), (h c).2.1.trans (final3 m c), (h c).2.2⟩)
      (Cert.RopeTablesIdeal.Value.run_blocks (F := Ideal) m ρ)
  · refine (θ_run Cert.RopeTablesRefIdeal.defs _ _).mono (fun r h c => ⟨(h c).1.trans ?_, (h c).2.1.trans ?_, (h c).2.2⟩)
      (Cert.RopeTablesRefIdeal.Value.run (F := Ideal) m' ρ')
    · rw [Cert.RopeTablesRefIdeal.Read.val_main_v19_eq, hag c]
      exact r19 m c
    · rw [Cert.RopeTablesRefIdeal.Read.val_main_v20_eq, hag c]
      exact r20 m c

end Cert.RopeTablesRun

end
-- ==== Proof.lean ====
module

public import proofs.«01_k».proof.Defs
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnRefIdeal
public import proofs.«01_k».proof.Proof.Gen.XattnIdeal.Value
public import proofs.«01_k».proof.Proof.Gen.XattnRefIdeal.Run
public import proofs.«01_k».proof.Proof.Gen.XattnRefIdeal.Read
public import proofs.«01_k».proof.Proof.Gen.Pre_finite_xattn
public import proofs.«01_k».proof.Proof.Xattn.Claims
public import proofs.«01_k».proof.Proof.Prod.FfnIn
public import proofs.«01_k».proof.Proof.Prod.FfnOut
public import proofs.«01_k».proof.Proof.Prod.FfnOutDa
public import proofs.«01_k».proof.Proof.Prod.FfnOutDw
public import proofs.«01_k».proof.Proof.Prod.FfnInDhGate
public import proofs.«01_k».proof.Proof.Prod.FfnInDhUp
public import proofs.«01_k».proof.Proof.Prod.FfnInDw
public import proofs.«01_k».proof.Proof.Prod.HybIn
public import proofs.«01_k».proof.Proof.Prod.HybOut
public import proofs.«01_k».proof.Proof.Prod.MixOutDm
public import proofs.«01_k».proof.Proof.Prod.HybOutDw
public import proofs.«01_k».proof.Proof.Prod.HybInDh
public import proofs.«01_k».proof.Proof.Prod.HybInDw
public import proofs.«01_k».proof.Proof.Prod.SwaIn
public import proofs.«01_k».proof.Proof.Prod.SwaOut
public import proofs.«01_k».proof.Proof.Prod.SwaOutDw
public import proofs.«01_k».proof.Proof.Prod.SwaInDh
public import proofs.«01_k».proof.Proof.Prod.SwaInDw
public import proofs.«01_k».proof.Proof.Prod.XqIn
public import proofs.«01_k».proof.Proof.Prod.XoOut
public import proofs.«01_k».proof.Proof.Prod.XoDo
public import proofs.«01_k».proof.Proof.Prod.XoDw
public import proofs.«01_k».proof.Proof.Prod.XqDh
public import proofs.«01_k».proof.Proof.Prod.XqDw
public import proofs.«01_k».proof.Proof.Prod.XkvIn
public import proofs.«01_k».proof.Proof.Prod.XkvDh
public import proofs.«01_k».proof.Proof.Prod.XkvDw
public import proofs.«01_k».proof.Proof.Adam.Xq
public import proofs.«01_k».proof.Proof.Adam.Xkv
public import proofs.«01_k».proof.Proof.Adam.Xo
public import proofs.«01_k».proof.Proof.Adam.FfnIn
public import proofs.«01_k».proof.Proof.Adam.FfnConv
public import proofs.«01_k».proof.Proof.Adam.FfnOut
public import proofs.«01_k».proof.Proof.Adam.HybIn
public import proofs.«01_k».proof.Proof.Adam.MixOut
public import proofs.«01_k».proof.Proof.Adam.GdnConv
public import proofs.«01_k».proof.Proof.Adam.LruConv
public import proofs.«01_k».proof.Proof.Adam.SwaIn
public import proofs.«01_k».proof.Proof.Adam.Rep
public import proofs.«01_k».proof.Proof.Row.NormFwd
public import proofs.«01_k».proof.Proof.Row.NormMemFwd
public import proofs.«01_k».proof.Proof.Row.NormBwd
public import proofs.«01_k».proof.Proof.Row.NormMemBwd
public import proofs.«01_k».proof.Proof.Row.LossGrad
public import proofs.«01_k».proof.Proof.Row.XattnFwd
public import proofs.«01_k».proof.Proof.Row.FfnFwd
public import proofs.«01_k».proof.Proof.Row.FfnBwd
public import proofs.«01_k».proof.Proof.Row.RopeTables
public import Idealize.ShloMosaic.Adequacy
public import Idealize.ShloMosaic.Init

@[expose] public section

noncomputable section

namespace Cert.Proof

open Idealize.ShloMosaic Idealize.SL.Sem Cert.Xattn

theorem claim : Cert.Claim := ⟨
  Cert.Xattn.Gen.facts, Cert.XattnIdeal.Gen.facts, Cert.XattnRefIdeal.Gen.facts, Cert.FfnIn.Gen.facts, Cert.FfnInIdeal.Gen.facts,
  Cert.FfnInRefIdeal.Gen.facts, Cert.FfnOut.Gen.facts, Cert.FfnOutIdeal.Gen.facts, Cert.FfnOutRefIdeal.Gen.facts, Cert.FfnOutDa.Gen.facts,
  Cert.FfnOutDaIdeal.Gen.facts, Cert.FfnOutDaRefIdeal.Gen.facts, Cert.FfnOutDw.Gen.facts, Cert.FfnOutDwIdeal.Gen.facts,
  Cert.FfnOutDwRefIdeal.Gen.facts, Cert.FfnInDhGate.Gen.facts, Cert.FfnInDhGateIdeal.Gen.facts, Cert.FfnInDhGateRefIdeal.Gen.facts,
  Cert.FfnInDhUp.Gen.facts, Cert.FfnInDhUpIdeal.Gen.facts, Cert.FfnInDhUpRefIdeal.Gen.facts, Cert.FfnInDw.Gen.facts,
  Cert.FfnInDwIdeal.Gen.facts, Cert.FfnInDwRefIdeal.Gen.facts, Cert.HybIn.Gen.facts, Cert.HybInIdeal.Gen.facts,
  Cert.HybInRefIdeal.Gen.facts, Cert.HybOut.Gen.facts, Cert.HybOutIdeal.Gen.facts, Cert.HybOutRefIdeal.Gen.facts, Cert.MixOutDm.Gen.facts,
  Cert.MixOutDmIdeal.Gen.facts, Cert.MixOutDmRefIdeal.Gen.facts, Cert.HybOutDw.Gen.facts, Cert.HybOutDwIdeal.Gen.facts,
  Cert.HybOutDwRefIdeal.Gen.facts, Cert.HybInDh.Gen.facts, Cert.HybInDhIdeal.Gen.facts, Cert.HybInDhRefIdeal.Gen.facts,
  Cert.HybInDw.Gen.facts, Cert.HybInDwIdeal.Gen.facts, Cert.HybInDwRefIdeal.Gen.facts, Cert.SwaIn.Gen.facts, Cert.SwaInIdeal.Gen.facts,
  Cert.SwaInRefIdeal.Gen.facts, Cert.SwaOut.Gen.facts, Cert.SwaOutIdeal.Gen.facts, Cert.SwaOutRefIdeal.Gen.facts, Cert.SwaOutDw.Gen.facts,
  Cert.SwaOutDwIdeal.Gen.facts, Cert.SwaOutDwRefIdeal.Gen.facts, Cert.SwaInDh.Gen.facts, Cert.SwaInDhIdeal.Gen.facts,
  Cert.SwaInDhRefIdeal.Gen.facts, Cert.SwaInDw.Gen.facts, Cert.SwaInDwIdeal.Gen.facts, Cert.SwaInDwRefIdeal.Gen.facts, Cert.XqIn.Gen.facts,
  Cert.XqInIdeal.Gen.facts, Cert.XqInRefIdeal.Gen.facts, Cert.XoOut.Gen.facts, Cert.XoOutIdeal.Gen.facts, Cert.XoOutRefIdeal.Gen.facts,
  Cert.XoDo.Gen.facts, Cert.XoDoIdeal.Gen.facts, Cert.XoDoRefIdeal.Gen.facts, Cert.XoDw.Gen.facts, Cert.XoDwIdeal.Gen.facts,
  Cert.XoDwRefIdeal.Gen.facts, Cert.XqDh.Gen.facts, Cert.XqDhIdeal.Gen.facts, Cert.XqDhRefIdeal.Gen.facts, Cert.XqDw.Gen.facts,
  Cert.XqDwIdeal.Gen.facts, Cert.XqDwRefIdeal.Gen.facts, Cert.XkvIn.Gen.facts, Cert.XkvInIdeal.Gen.facts, Cert.XkvInRefIdeal.Gen.facts,
  Cert.XkvDh.Gen.facts, Cert.XkvDhIdeal.Gen.facts, Cert.XkvDhRefIdeal.Gen.facts, Cert.XkvDw.Gen.facts, Cert.XkvDwIdeal.Gen.facts,
  Cert.XkvDwRefIdeal.Gen.facts, Cert.AdamXq.Gen.facts, Cert.AdamXqIdeal.Gen.facts, Cert.AdamXqRefIdeal.Gen.facts, Cert.AdamXkv.Gen.facts,
  Cert.AdamXkvIdeal.Gen.facts, Cert.AdamXkvRefIdeal.Gen.facts, Cert.AdamXo.Gen.facts, Cert.AdamXoIdeal.Gen.facts,
  Cert.AdamXoRefIdeal.Gen.facts, Cert.AdamFfnIn.Gen.facts, Cert.AdamFfnInIdeal.Gen.facts, Cert.AdamFfnInRefIdeal.Gen.facts,
  Cert.AdamFfnConv.Gen.facts, Cert.AdamFfnConvIdeal.Gen.facts, Cert.AdamFfnConvRefIdeal.Gen.facts, Cert.AdamFfnOut.Gen.facts,
  Cert.AdamFfnOutIdeal.Gen.facts, Cert.AdamFfnOutRefIdeal.Gen.facts, Cert.AdamHybIn.Gen.facts, Cert.AdamHybInIdeal.Gen.facts,
  Cert.AdamHybInRefIdeal.Gen.facts, Cert.AdamMixOut.Gen.facts, Cert.AdamMixOutIdeal.Gen.facts, Cert.AdamMixOutRefIdeal.Gen.facts,
  Cert.AdamGdnConv.Gen.facts, Cert.AdamGdnConvIdeal.Gen.facts, Cert.AdamGdnConvRefIdeal.Gen.facts, Cert.AdamLruConv.Gen.facts,
  Cert.AdamLruConvIdeal.Gen.facts, Cert.AdamLruConvRefIdeal.Gen.facts, Cert.AdamSwaIn.Gen.facts, Cert.AdamSwaInIdeal.Gen.facts,
  Cert.AdamSwaInRefIdeal.Gen.facts, Cert.AdamRep.Gen.facts, Cert.AdamRepIdeal.Gen.facts, Cert.AdamRepRefIdeal.Gen.facts,
  Cert.NormFwd.Gen.facts, Cert.NormFwdIdeal.Gen.facts, Cert.NormFwdRefIdeal.Gen.facts, Cert.NormMemFwd.Gen.facts,
  Cert.NormMemFwdIdeal.Gen.facts, Cert.NormMemFwdRefIdeal.Gen.facts, Cert.NormBwd.Gen.facts, Cert.NormBwdIdeal.Gen.facts,
  Cert.NormBwdRefIdeal.Gen.facts, Cert.NormMemBwd.Gen.facts, Cert.NormMemBwdIdeal.Gen.facts, Cert.NormMemBwdRefIdeal.Gen.facts,
  Cert.LossGrad.Gen.facts, Cert.LossGradIdeal.Gen.facts, Cert.LossGradRefIdeal.Gen.facts, Cert.XattnFwd.Gen.facts,
  Cert.XattnFwdIdeal.Gen.facts, Cert.XattnFwdRefIdeal.Gen.facts, Cert.FfnFwd.Gen.facts, Cert.FfnFwdIdeal.Gen.facts,
  Cert.FfnFwdRefIdeal.Gen.facts, Cert.FfnBwd.Gen.facts, Cert.FfnBwdIdeal.Gen.facts, Cert.FfnBwdRefIdeal.Gen.facts,
  Cert.RopeTables.Gen.facts, Cert.RopeTablesIdeal.Gen.facts, Cert.RopeTablesRefIdeal.Gen.facts, Cert.Pre_finite_xattn.Gen.facts,
  XattnClaims.frame_p, XattnClaims.frame_pi, XattnClaims.frame_pi_pre, XattnClaims.frame_ri, XattnClaims.frame_ri_pre, FfnInRun.frame_p,
  FfnInRun.frame_pi, FfnInRun.frame_ri, FfnOutRun.frame_p, FfnOutRun.frame_pi, FfnOutRun.frame_ri, FfnOutDaRun.frame_p,
  FfnOutDaRun.frame_pi, FfnOutDaRun.frame_ri, FfnOutDwRun.frame_p, FfnOutDwRun.frame_pi, FfnOutDwRun.frame_ri, FfnInDhGateRun.frame_p,
  FfnInDhGateRun.frame_pi, FfnInDhGateRun.frame_ri, FfnInDhUpRun.frame_p, FfnInDhUpRun.frame_pi, FfnInDhUpRun.frame_ri, FfnInDwRun.frame_p,
  FfnInDwRun.frame_pi, FfnInDwRun.frame_ri, HybInRun.frame_p, HybInRun.frame_pi, HybInRun.frame_ri, HybOutRun.frame_p, HybOutRun.frame_pi,
  HybOutRun.frame_ri, MixOutDmRun.frame_p, MixOutDmRun.frame_pi, MixOutDmRun.frame_ri, HybOutDwRun.frame_p, HybOutDwRun.frame_pi,
  HybOutDwRun.frame_ri, HybInDhRun.frame_p, HybInDhRun.frame_pi, HybInDhRun.frame_ri, HybInDwRun.frame_p, HybInDwRun.frame_pi,
  HybInDwRun.frame_ri, SwaInRun.frame_p, SwaInRun.frame_pi, SwaInRun.frame_ri, SwaOutRun.frame_p, SwaOutRun.frame_pi, SwaOutRun.frame_ri,
  SwaOutDwRun.frame_p, SwaOutDwRun.frame_pi, SwaOutDwRun.frame_ri, SwaInDhRun.frame_p, SwaInDhRun.frame_pi, SwaInDhRun.frame_ri,
  SwaInDwRun.frame_p, SwaInDwRun.frame_pi, SwaInDwRun.frame_ri, XqInRun.frame_p, XqInRun.frame_pi, XqInRun.frame_ri, XoOutRun.frame_p,
  XoOutRun.frame_pi, XoOutRun.frame_ri, XoDoRun.frame_p, XoDoRun.frame_pi, XoDoRun.frame_ri, XoDwRun.frame_p, XoDwRun.frame_pi,
  XoDwRun.frame_ri, XqDhRun.frame_p, XqDhRun.frame_pi, XqDhRun.frame_ri, XqDwRun.frame_p, XqDwRun.frame_pi, XqDwRun.frame_ri,
  XkvInRun.frame_p, XkvInRun.frame_pi, XkvInRun.frame_ri, XkvDhRun.frame_p, XkvDhRun.frame_pi, XkvDhRun.frame_ri, XkvDwRun.frame_p,
  XkvDwRun.frame_pi, XkvDwRun.frame_ri, AdamXqRun.frame_p, AdamXqRun.frame_pi, AdamXqRun.frame_ri, AdamXkvRun.frame_p, AdamXkvRun.frame_pi,
  AdamXkvRun.frame_ri, AdamXoRun.frame_p, AdamXoRun.frame_pi, AdamXoRun.frame_ri, AdamFfnInRun.frame_p, AdamFfnInRun.frame_pi,
  AdamFfnInRun.frame_ri, AdamFfnConvRun.frame_p, AdamFfnConvRun.frame_pi, AdamFfnConvRun.frame_ri, AdamFfnOutRun.frame_p,
  AdamFfnOutRun.frame_pi, AdamFfnOutRun.frame_ri, AdamHybInRun.frame_p, AdamHybInRun.frame_pi, AdamHybInRun.frame_ri,
  AdamMixOutRun.frame_p, AdamMixOutRun.frame_pi, AdamMixOutRun.frame_ri, AdamGdnConvRun.frame_p, AdamGdnConvRun.frame_pi,
  AdamGdnConvRun.frame_ri, AdamLruConvRun.frame_p, AdamLruConvRun.frame_pi, AdamLruConvRun.frame_ri, AdamSwaInRun.frame_p,
  AdamSwaInRun.frame_pi, AdamSwaInRun.frame_ri, AdamRepRun.frame_p, AdamRepRun.frame_pi, AdamRepRun.frame_ri, NormFwdRun.frame_p,
  NormFwdRun.frame_pi, NormFwdRun.frame_ri, NormMemFwdRun.frame_p, NormMemFwdRun.frame_pi, NormMemFwdRun.frame_ri, NormBwdRun.frame_p,
  NormBwdRun.frame_pi, NormBwdRun.frame_ri, NormMemBwdRun.frame_p, NormMemBwdRun.frame_pi, NormMemBwdRun.frame_ri, LossGradRun.frame_p,
  LossGradRun.frame_pi, LossGradRun.frame_ri, XattnFwdRun.frame_p, XattnFwdRun.frame_pi, XattnFwdRun.frame_ri, FfnFwdRun.frame_p,
  FfnFwdRun.frame_pi, FfnFwdRun.frame_ri, FfnBwdRun.frame_p, FfnBwdRun.frame_pi, FfnBwdRun.frame_ri, RopeTablesRun.frame_p,
  RopeTablesRun.frame_pi, RopeTablesRun.frame_ri, trivial, XattnClaims.algebraic, trivial, FfnInRun.algebraic, trivial,
  FfnOutRun.algebraic, trivial, FfnOutDaRun.algebraic, trivial, FfnOutDwRun.algebraic, trivial, FfnInDhGateRun.algebraic, trivial,
  FfnInDhUpRun.algebraic, trivial, FfnInDwRun.algebraic, trivial, HybInRun.algebraic, trivial, HybOutRun.algebraic, trivial,
  MixOutDmRun.algebraic, trivial, HybOutDwRun.algebraic, trivial, HybInDhRun.algebraic, trivial, HybInDwRun.algebraic, trivial,
  SwaInRun.algebraic, trivial, SwaOutRun.algebraic, trivial, SwaOutDwRun.algebraic, trivial, SwaInDhRun.algebraic, trivial,
  SwaInDwRun.algebraic, trivial, XqInRun.algebraic, trivial, XoOutRun.algebraic, trivial, XoDoRun.algebraic, trivial, XoDwRun.algebraic,
  trivial, XqDhRun.algebraic, trivial, XqDwRun.algebraic, trivial, XkvInRun.algebraic, trivial, XkvDhRun.algebraic, trivial,
  XkvDwRun.algebraic, trivial, AdamXqRun.algebraic, trivial, AdamXkvRun.algebraic, trivial, AdamXoRun.algebraic, trivial,
  AdamFfnInRun.algebraic, trivial, AdamFfnConvRun.algebraic, trivial, AdamFfnOutRun.algebraic, trivial, AdamHybInRun.algebraic, trivial,
  AdamMixOutRun.algebraic, trivial, AdamGdnConvRun.algebraic, trivial, AdamLruConvRun.algebraic, trivial, AdamSwaInRun.algebraic, trivial,
  AdamRepRun.algebraic, trivial, NormFwdRun.algebraic, trivial, NormMemFwdRun.algebraic, trivial, NormBwdRun.algebraic, trivial,
  NormMemBwdRun.algebraic, trivial, LossGradRun.algebraic, trivial, XattnFwdRun.algebraic, trivial, FfnFwdRun.algebraic, trivial,
  FfnBwdRun.algebraic, trivial, RopeTablesRun.algebraic⟩

end Cert.Proof

end
